-- ==== Defs.lean ====
def Pre_Kernel [hPre_tiles_in_range : Cert.Pre_tiles_in_range.Facts] (m : (ℓ : Loc Cert.Kernel.nD Cert.Kernel.τ Cert.Kernel.sig) → Buf (Elt Bits) ℓ) : Prop :=
  ∀ c : Dev Cert.Kernel.nD,
    (Cert.Pre_tiles_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tiles_in_range : Cert.Pre_tiles_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_tiles_in_range : Cert.Pre_tiles_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tiles_in_range : Cert.Pre_tiles_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tiles_in_range : Cert.Pre_tiles_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_tiles_in_range : Cert.Pre_tiles_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "fake" .f32 0xF1C9F2CA#32 ⊥

def algebraic_KernelIdeal_ReferenceIdeal [hKernelIdeal : Cert.KernelIdeal.Facts] [hReferenceIdeal : Cert.ReferenceIdeal.Facts] [hPre_tiles_in_range : Cert.Pre_tiles_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_2)) (v2 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_2) = v1 c
          ∧ r.2.mem ((c.tc : Thread Cert.Kernel4Ideal.nD Cert.Kernel4Ideal.τ).loc Cert.Kernel4Ideal.main_v0_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tiles_in_range : Cert.Pre_tiles_in_range.Facts),
    quiescent_Kernel (hKernel := hKernel) (hPre_tiles_in_range := hPre_tiles_in_range)
    ∧ quiescent_KernelIdeal (hKernelIdeal := hKernelIdeal) (hPre_tiles_in_range := hPre_tiles_in_range)
    ∧ quiescent_ReferenceIdeal (hReferenceIdeal := hReferenceIdeal) (hPre_tiles_in_range := hPre_tiles_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tiles_in_range := hPre_tiles_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tiles_in_range.lean ====
abbrev S2x16896x2048 : Shape := ⟨3, ![2, 16896, 2048]⟩
abbrev S2x1024x16896 : Shape := ⟨3, ![2, 1024, 16896]⟩
abbrev S1056 : Shape := ⟨1, ![1056]⟩
abbrev S264 : Shape := ⟨1, ![264]⟩
abbrev S8x1x128 : Shape := ⟨3, ![8, 1, 128]⟩
abbrev S_ : Shape := ⟨0, ![]⟩

class Facts : Prop where
  bcast_S_S264 : S_.BroadcastsInDim S264 (![] : Fin 0 → Fin S264.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S264 32) (arg1 : IVec S_ 32) : IVec S264 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S264 32 := broadcastInDim S264 ![] bcast_S_S264 v2
  let v4 : IVec S264 32 := Host.remsi arg0 v3
  let c_1 : IVec S_ 32 := constantI S_ 32 0#32
  let v5 : IVec S264 32 := broadcastInDim S264 ![] bcast_S_S264 c_1
  let v6 : IVec S264 1 := cmpi .ne v4 v5
  let c_2 : IVec S_ 32 := constantI S_ 32 0#32
  let v7 : IVec S264 32 := broadcastInDim S264 ![] bcast_S_S264 c_2
  let v8 : IVec S264 1 := cmpi .slt v4 v7
  let c_3 : IVec S_ 32 := constantI S_ 32 0#32
  let v9 : IVec S_ 1 := cmpi .slt v2 c_3
  let v10 : IVec S264 1 := broadcastInDim S264 ![] bcast_S_S264 v9
  let v11 : IVec S264 1 := cmpi .ne v8 v10
  let v12 : IVec S264 1 := andi v11 v6
  let v13 : IVec S264 32 := broadcastInDim S264 ![] bcast_S_S264 v2
  let v14 : IVec S264 32 := addi v4 v13
  let v15 : IVec S264 32 := select v12 v14 v4
  v15

def fn {F : FTy → Type} [FloatOps F] (main_arg0 : FVec F S2x16896x2048 .bf16) (main_arg1 : FVec F S2x16896x2048 .bf16) (main_arg2 : FVec F S2x1024x16896 .bf16) (main_arg3 : FVec F S1056 .f32) (main_arg4 : IVec S264 32) (main_arg5 : FVec F S8x1x128 .f32) : IVec S264 1 :=
  let main_v0 : IVec S264 32 := iotaInDim S264 32 0
  let main_c : IVec S_ 32 := constantI S_ 32 33#32
  let main_v1 : IVec S264 32 := fn_remainder (F := F) main_v0 main_c
  let main_c_0 : IVec S_ 32 := constantI S_ 32 0#32
  let main_v2 : IVec S264 32 := broadcastInDim S264 ![] bcast_S_S264 main_c_0
  let main_v3 : IVec S264 1 := cmpi .sge main_arg4 main_v2
  let main_v4 : IVec S264 1 := cmpi .sle main_arg4 main_v1
  let main_v5 : IVec S264 1 := andi main_v3 main_v4
  main_v5
-- ==== Kernel.lean ====
abbrev S2x16896x2048 : Shape := ⟨3, ![2, 16896, 2048]⟩
abbrev S2x1024x16896 : Shape := ⟨3, ![2, 1024, 16896]⟩
abbrev S1056 : Shape := ⟨1, ![1056]⟩
abbrev S264 : Shape := ⟨1, ![264]⟩
abbrev S8x1x128 : Shape := ⟨3, ![8, 1, 128]⟩
abbrev S2x16896x1024 : Shape := ⟨3, ![2, 16896, 1024]⟩
abbrev S1x512x512 : Shape := ⟨3, ![1, 512, 512]⟩
abbrev S1x16896x512 : Shape := ⟨3, ![1, 16896, 512]⟩
abbrev S1x256x16896 : Shape := ⟨3, ![1, 256, 16896]⟩
abbrev S2x1x128 : Shape := ⟨3, ![2, 1, 128]⟩
abbrev S1x512x256 : Shape := ⟨3, ![1, 512, 256]⟩
abbrev S2x144x512 : Shape := ⟨3, ![2, 144, 512]⟩
abbrev S2x512x512 : Shape := ⟨3, ![2, 512, 512]⟩
abbrev S2x1x512 : Shape := ⟨3, ![2, 1, 512]⟩
abbrev S1 : Shape := ⟨1, ![1]⟩
abbrev S512x512 : Shape := ⟨2, ![512, 512]⟩
abbrev S16x512 : Shape := ⟨2, ![16, 512]⟩
abbrev S512x256 : Shape := ⟨2, ![512, 256]⟩
abbrev S512 : Shape := ⟨1, ![512]⟩
abbrev S1x512 : Shape := ⟨2, ![1, 512]⟩
abbrev S1x1x512 : Shape := ⟨3, ![1, 1, 512]⟩
abbrev S1x128x512 : Shape := ⟨3, ![1, 128, 512]⟩
abbrev S128x512 : Shape := ⟨2, ![128, 512]⟩
abbrev S144x512 : Shape := ⟨2, ![144, 512]⟩
abbrev S1x144x512 : Shape := ⟨3, ![1, 144, 512]⟩
abbrev S512x128 : Shape := ⟨2, ![512, 128]⟩
abbrev S1x1x128 : Shape := ⟨3, ![1, 1, 128]⟩
abbrev S1x128 : Shape := ⟨2, ![1, 128]⟩
abbrev S1x512x128 : Shape := ⟨3, ![1, 512, 128]⟩

abbrev nBuf : Space → Nat
  | .hbm => 7
  | .vmem => 16
  | .smem => 2
  | _ => 0

abbrev bufTy : (tb : Table) → Fin (tcTables nBuf tb) → BufTy
  | .hbm, ⟨0, _⟩ => ⟨S2x16896x2048, .bf16⟩
  | .hbm, ⟨1, _⟩ => ⟨S2x16896x2048, .bf16⟩
  | .hbm, ⟨2, _⟩ => ⟨S2x1024x16896, .bf16⟩
  | .hbm, ⟨3, _⟩ => ⟨S1056, .f32⟩
  | .hbm, ⟨4, _⟩ => ⟨S264, .i32⟩
  | .hbm, ⟨5, _⟩ => ⟨S8x1x128, .f32⟩
  | .hbm, ⟨6, _⟩ => ⟨S2x16896x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x16896x512, .bf16⟩
  | .local _ .vmem, ⟨5, _⟩ => ⟨S1x16896x512, .bf16⟩
  | .local _ .vmem, ⟨6, _⟩ => ⟨S1x256x16896, .bf16⟩
  | .local _ .vmem, ⟨7, _⟩ => ⟨S1x256x16896, .bf16⟩
  | .local _ .vmem, ⟨8, _⟩ => ⟨S2x1x128, .f32⟩
  | .local _ .vmem, ⟨9, _⟩ => ⟨S2x1x128, .f32⟩
  | .local _ .vmem, ⟨10, _⟩ => ⟨S1x512x256, .bf16⟩
  | .local _ .vmem, ⟨11, _⟩ => ⟨S1x512x256, .bf16⟩
  | .local _ .vmem, ⟨12, _⟩ => ⟨S2x144x512, .f32⟩
  | .local _ .vmem, ⟨13, _⟩ => ⟨S2x512x512, .f32⟩
  | .local _ .vmem, ⟨14, _⟩ => ⟨S2x512x512, .f32⟩
  | .local _ .vmem, ⟨15, _⟩ => ⟨S2x1x512, .f32⟩
  | .local _ .smem, ⟨0, _⟩ => ⟨S1056, .f32⟩
  | .local _ .smem, ⟨1, _⟩ => ⟨S264, .i32⟩
  | _, _ => ⟨S2x16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 33], ![false, false, false]⟩

def k0_off1 (i : grid0.Coords) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let arg2 : BitVec 32 := BitVec.ofNat 32 (i 2).val
  let c16_i32_3 : BitVec 32 := 16#32
  let v10 : BitVec 32 := Scalar.muli arg2 c16_i32_3
  let v11 : BitVec 32 := Scalar.addi v4 v10
  let v12 : Index := Scalar.indexCast v11
  ![v12.toNat]
def k0_off2 (i : grid0.Coords) : Fin 1 → Nat :=
  let arg0 : BitVec 32 := BitVec.ofNat 32 (i 0).val
  let c4_i32 : BitVec 32 := 4#32
  let v18 : BitVec 32 := Scalar.muli arg0 c4_i32
  let arg1 : BitVec 32 := BitVec.ofNat 32 (i 1).val
  let v19 : BitVec 32 := Scalar.addi v18 arg1
  let c33_i32_5 : BitVec 32 := 33#32
  let v20 : BitVec 32 := Scalar.muli v19 c33_i32_5
  let arg2 : BitVec 32 := BitVec.ofNat 32 (i 2).val
  let v21 : BitVec 32 := Scalar.addi v20 arg2
  let v22 : Index := Scalar.indexCast v21
  ![v22.toNat]
def k0_cond1 (i : grid0.Coords) : BitVec 1 :=
  let arg2 : BitVec 32 := BitVec.ofNat 32 (i 2).val
  let c0_i32_11 : BitVec 32 := 0#32
  let v35 : BitVec 1 := Scalar.cmpi .eq arg2 c0_i32_11
  let v36 : BitVec 32 := Scalar.extui v35
  let c0_i32_12 : BitVec 32 := 0#32
  let v37 : BitVec 1 := Scalar.cmpi .ne v36 c0_i32_12
  v37

def k0_mult1 (v23 : BitVec 32) : BitVec 32 :=
  let c512_i32 : BitVec 32 := 512#32
  let v166 : BitVec 32 := Scalar.muli v23 c512_i32
  v166

def k0_off3 (v23 : BitVec 32) : Fin 3 → Nat :=
  let c0_76 : Index := 0#32
  let c512_i32 : BitVec 32 := 512#32
  let v166 : BitVec 32 := Scalar.muli v23 c512_i32
  let v167 : BitVec 32 := v166
  let v168 : Index := Scalar.indexCast v167
  let c0_77 : Index := 0#32
  ![0, v168.toNat, 0]
def k0_off4 (v23 : BitVec 32) : Fin 3 → Nat :=
  let c0_86 : Index := 0#32
  let c512_i32 : BitVec 32 := 512#32
  let v166 : BitVec 32 := Scalar.muli v23 c512_i32
  let v167 : BitVec 32 := v166
  let v179 : Index := Scalar.indexCast v167
  let c256 : Index := 256#32
  ![0, v179.toNat, 256]
@[reducible] def k0_t1_loop (i : grid0.Coords) (v23 : BitVec 32) : Scf.Loop 32 :=
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_38 : BitVec 32 := 1#32
  ⟨c0_i32_36, v84, c1_i32_38⟩
def k0_mult2 (i : grid0.Coords) (v23 : BitVec 32) (k0_t1 : Fin (k0_t1_loop i v23).trips) : BitVec 32 :=
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_83 : BitVec 32 := 1#32
  let v174 : BitVec 32 := Scalar.addi v173 c1_i32_83
  let c512_i32 : BitVec 32 := 512#32
  let v175 : BitVec 32 := Scalar.muli v174 c512_i32
  v175
def k0_off5 (i : grid0.Coords) (v23 : BitVec 32) (k0_t1 : Fin (k0_t1_loop i v23).trips) (c1_i32_83 : BitVec 32) : Fin 3 → Nat :=
  let c0_84 : Index := 0#32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let v174 : BitVec 32 := Scalar.addi v173 c1_i32_83
  let c512_i32 : BitVec 32 := 512#32
  let v175 : BitVec 32 := Scalar.muli v174 c512_i32
  let v176 : BitVec 32 := v175
  let v177 : Index := Scalar.indexCast v176
  let c0_85 : Index := 0#32
  ![0, v177.toNat, 0]
def k0_off6 (i : grid0.Coords) (v23 : BitVec 32) (k0_t1 : Fin (k0_t1_loop i v23).trips) (c1_i32_83 : BitVec 32) : Fin 3 → Nat :=
  let c0_94 : Index := 0#32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let v174 : BitVec 32 := Scalar.addi v173 c1_i32_83
  let c512_i32 : BitVec 32 := 512#32
  let v175 : BitVec 32 := Scalar.muli v174 c512_i32
  let v176 : BitVec 32 := v175
  let v188 : Index := Scalar.indexCast v176
  let c256 : Index := 256#32
  ![0, v188.toNat, 256]
def k0_off7 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c16_i32_103 : BitVec 32 := 16#32
  let v199 : BitVec 32 := Scalar.muli v173 c16_i32_103
  let v200 : BitVec 32 := Scalar.addi v4 v199
  let v201 : Index := Scalar.indexCast v200
  ![v201.toNat]
def k0_mult3 (i : grid0.Coords) (v23 : BitVec 32) (k0_t1 : Fin (k0_t1_loop i v23).trips) : BitVec 32 :=
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c512_i32_105 : BitVec 32 := 512#32
  let v209 : BitVec 32 := Scalar.muli v173 c512_i32_105
  v209
def k0_off8 (i : grid0.Coords) (v23 : BitVec 32) (k0_t1 : Fin (k0_t1_loop i v23).trips) : Fin 3 → Nat :=
  let c0_106 : Index := 0#32
  let c0_107 : Index := 0#32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c512_i32_105 : BitVec 32 := 512#32
  let v209 : BitVec 32 := Scalar.muli v173 c512_i32_105
  let v210 : BitVec 32 := v209
  let v211 : Index := Scalar.indexCast v210
  ![0, 0, v211.toNat]
def k0_off9 (i : grid0.Coords) (v23 : BitVec 32) (k0_t1 : Fin (k0_t1_loop i v23).trips) : Fin 3 → Nat :=
  let c0_118 : Index := 0#32
  let c128 : Index := 128#32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c512_i32_105 : BitVec 32 := 512#32
  let v209 : BitVec 32 := Scalar.muli v173 c512_i32_105
  let v210 : BitVec 32 := v209
  let v237 : Index := Scalar.indexCast v210
  ![0, 128, v237.toNat]
def k0_mult4 (i : grid0.Coords) (v23 : BitVec 32) (k0_t1 : Fin (k0_t1_loop i v23).trips) : BitVec 32 :=
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c2_i32_129 : BitVec 32 := 2#32
  let v263 : BitVec 32 := Scalar.addi v173 c2_i32_129
  let c512_i32_130 : BitVec 32 := 512#32
  let v264 : BitVec 32 := Scalar.muli v263 c512_i32_130
  v264
def k0_off10 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_152 : BitVec 32 := 1#32
  let v289 : BitVec 32 := Scalar.addi v173 c1_i32_152
  let c16_i32_153 : BitVec 32 := 16#32
  let v290 : BitVec 32 := Scalar.muli v289 c16_i32_153
  let v291 : BitVec 32 := Scalar.addi v4 v290
  let v292 : Index := Scalar.indexCast v291
  ![v292.toNat]
def k0_mult5 (i : grid0.Coords) (v23 : BitVec 32) (k0_t1 : Fin (k0_t1_loop i v23).trips) : BitVec 32 :=
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_151 : BitVec 32 := 1#32
  let v288 : BitVec 32 := Scalar.addi v173 c1_i32_151
  let c512_i32_155 : BitVec 32 := 512#32
  let v300 : BitVec 32 := Scalar.muli v288 c512_i32_155
  v300
def k0_off11 (i : grid0.Coords) (v23 : BitVec 32) (k0_t1 : Fin (k0_t1_loop i v23).trips) : Fin 3 → Nat :=
  let c0_156 : Index := 0#32
  let c0_157 : Index := 0#32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_151 : BitVec 32 := 1#32
  let v288 : BitVec 32 := Scalar.addi v173 c1_i32_151
  let c512_i32_155 : BitVec 32 := 512#32
  let v300 : BitVec 32 := Scalar.muli v288 c512_i32_155
  let v301 : BitVec 32 := v300
  let v302 : Index := Scalar.indexCast v301
  ![0, 0, v302.toNat]
def k0_off12 (i : grid0.Coords) (v23 : BitVec 32) (k0_t1 : Fin (k0_t1_loop i v23).trips) : Fin 3 → Nat :=
  let c0_168 : Index := 0#32
  let c128_169 : Index := 128#32
  let c2_i32_82 : BitVec 32 := 2#32
  let c2_i32_81 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_151 : BitVec 32 := 1#32
  let v288 : BitVec 32 := Scalar.addi v173 c1_i32_151
  let c512_i32_155 : BitVec 32 := 512#32
  let v300 : BitVec 32 := Scalar.muli v288 c512_i32_155
  let v301 : BitVec 32 := v300
  let v328 : Index := Scalar.indexCast v301
  ![0, 128, v328.toNat]
def k0_mult6 (i : grid0.Coords) (v23 : BitVec 32) (k0_t1 : Fin (k0_t1_loop i v23).trips) : BitVec 32 :=
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_181 : BitVec 32 := 1#32
  let v356 : BitVec 32 := Scalar.addi v355 c1_i32_181
  let c512_i32_182 : BitVec 32 := 512#32
  let v357 : BitVec 32 := Scalar.muli v356 c512_i32_182
  v357
def k0_off13 (i : grid0.Coords) (v23 : BitVec 32) (k0_t1 : Fin (k0_t1_loop i v23).trips) (c1_i32_181 : BitVec 32) : Fin 3 → Nat :=
  let c0_183 : Index := 0#32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let v356 : BitVec 32 := Scalar.addi v355 c1_i32_181
  let c512_i32_182 : BitVec 32 := 512#32
  let v357 : BitVec 32 := Scalar.muli v356 c512_i32_182
  let v358 : BitVec 32 := v357
  let v359 : Index := Scalar.indexCast v358
  let c0_184 : Index := 0#32
  ![0, v359.toNat, 0]
def k0_off14 (i : grid0.Coords) (v23 : BitVec 32) (k0_t1 : Fin (k0_t1_loop i v23).trips) (c1_i32_181 : BitVec 32) : Fin 3 → Nat :=
  let c0_193 : Index := 0#32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let v356 : BitVec 32 := Scalar.addi v355 c1_i32_181
  let c512_i32_182 : BitVec 32 := 512#32
  let v357 : BitVec 32 := Scalar.muli v356 c512_i32_182
  let v358 : BitVec 32 := v357
  let v370 : Index := Scalar.indexCast v358
  let c256_194 : Index := 256#32
  ![0, v370.toNat, 256]
def k0_off15 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c16_i32_203 : BitVec 32 := 16#32
  let v381 : BitVec 32 := Scalar.muli v355 c16_i32_203
  let v382 : BitVec 32 := Scalar.addi v4 v381
  let v383 : Index := Scalar.indexCast v382
  ![v383.toNat]
def k0_mult7 (i : grid0.Coords) (v23 : BitVec 32) (k0_t1 : Fin (k0_t1_loop i v23).trips) : BitVec 32 :=
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c512_i32_205 : BitVec 32 := 512#32
  let v391 : BitVec 32 := Scalar.muli v355 c512_i32_205
  v391
def k0_off16 (i : grid0.Coords) (v23 : BitVec 32) (k0_t1 : Fin (k0_t1_loop i v23).trips) : Fin 3 → Nat :=
  let c0_206 : Index := 0#32
  let c0_207 : Index := 0#32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c512_i32_205 : BitVec 32 := 512#32
  let v391 : BitVec 32 := Scalar.muli v355 c512_i32_205
  let v392 : BitVec 32 := v391
  let v393 : Index := Scalar.indexCast v392
  ![0, 0, v393.toNat]
def k0_off17 (i : grid0.Coords) (v23 : BitVec 32) (k0_t1 : Fin (k0_t1_loop i v23).trips) : Fin 3 → Nat :=
  let c0_218 : Index := 0#32
  let c128_219 : Index := 128#32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c512_i32_205 : BitVec 32 := 512#32
  let v391 : BitVec 32 := Scalar.muli v355 c512_i32_205
  let v392 : BitVec 32 := v391
  let v419 : Index := Scalar.indexCast v392
  ![0, 128, v419.toNat]
def k0_mult8 (i : grid0.Coords) (v23 : BitVec 32) (k0_t1 : Fin (k0_t1_loop i v23).trips) : BitVec 32 :=
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c2_i32_230 : BitVec 32 := 2#32
  let v445 : BitVec 32 := Scalar.addi v355 c2_i32_230
  let c512_i32_231 : BitVec 32 := 512#32
  let v446 : BitVec 32 := Scalar.muli v445 c512_i32_231
  v446
def k0_off18 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_253 : BitVec 32 := 1#32
  let v471 : BitVec 32 := Scalar.addi v355 c1_i32_253
  let c16_i32_254 : BitVec 32 := 16#32
  let v472 : BitVec 32 := Scalar.muli v471 c16_i32_254
  let v473 : BitVec 32 := Scalar.addi v4 v472
  let v474 : Index := Scalar.indexCast v473
  ![v474.toNat]
def k0_mult9 (i : grid0.Coords) (v23 : BitVec 32) (k0_t1 : Fin (k0_t1_loop i v23).trips) : BitVec 32 :=
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_252 : BitVec 32 := 1#32
  let v470 : BitVec 32 := Scalar.addi v355 c1_i32_252
  let c512_i32_256 : BitVec 32 := 512#32
  let v482 : BitVec 32 := Scalar.muli v470 c512_i32_256
  v482
def k0_off19 (i : grid0.Coords) (v23 : BitVec 32) (k0_t1 : Fin (k0_t1_loop i v23).trips) : Fin 3 → Nat :=
  let c0_257 : Index := 0#32
  let c0_258 : Index := 0#32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_252 : BitVec 32 := 1#32
  let v470 : BitVec 32 := Scalar.addi v355 c1_i32_252
  let c512_i32_256 : BitVec 32 := 512#32
  let v482 : BitVec 32 := Scalar.muli v470 c512_i32_256
  let v483 : BitVec 32 := v482
  let v484 : Index := Scalar.indexCast v483
  ![0, 0, v484.toNat]
def k0_off20 (i : grid0.Coords) (v23 : BitVec 32) (k0_t1 : Fin (k0_t1_loop i v23).trips) : Fin 3 → Nat :=
  let c0_269 : Index := 0#32
  let c128_270 : Index := 128#32
  let c2_i32_180 : BitVec 32 := 2#32
  let c2_i32_79 : BitVec 32 := 2#32
  let c2_i32_78 : BitVec 32 := 2#32
  let c0_i32_36 : BitVec 32 := 0#32
  let c1_i32_38 : BitVec 32 := 1#32
  let arg15 : BitVec 32 := Scf.iv c0_i32_36 c1_i32_38 k0_t1
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_252 : BitVec 32 := 1#32
  let v470 : BitVec 32 := Scalar.addi v355 c1_i32_252
  let c512_i32_256 : BitVec 32 := 512#32
  let v482 : BitVec 32 := Scalar.muli v470 c512_i32_256
  let v483 : BitVec 32 := v482
  let v510 : Index := Scalar.indexCast v483
  ![0, 128, v510.toNat]
def k0_mult10 (i : grid0.Coords) (v23 : BitVec 32) (k0_t1 : Fin (k0_t1_loop i v23).trips) : BitVec 32 :=
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_285 : BitVec 32 := 1#32
  let v541 : BitVec 32 := Scalar.addi v540 c1_i32_285
  let c512_i32_286 : BitVec 32 := 512#32
  let v542 : BitVec 32 := Scalar.muli v541 c512_i32_286
  v542
def k0_off21 (i : grid0.Coords) (v23 : BitVec 32) (k0_t1 : Fin (k0_t1_loop i v23).trips) (c1_i32_285 : BitVec 32) : Fin 3 → Nat :=
  let c0_287 : Index := 0#32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let v541 : BitVec 32 := Scalar.addi v540 c1_i32_285
  let c512_i32_286 : BitVec 32 := 512#32
  let v542 : BitVec 32 := Scalar.muli v541 c512_i32_286
  let v543 : BitVec 32 := v542
  let v544 : Index := Scalar.indexCast v543
  let c0_288 : Index := 0#32
  ![0, v544.toNat, 0]
def k0_off22 (i : grid0.Coords) (v23 : BitVec 32) (k0_t1 : Fin (k0_t1_loop i v23).trips) (c1_i32_285 : BitVec 32) : Fin 3 → Nat :=
  let c0_297 : Index := 0#32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let v541 : BitVec 32 := Scalar.addi v540 c1_i32_285
  let c512_i32_286 : BitVec 32 := 512#32
  let v542 : BitVec 32 := Scalar.muli v541 c512_i32_286
  let v543 : BitVec 32 := v542
  let v555 : Index := Scalar.indexCast v543
  let c256_298 : Index := 256#32
  ![0, v555.toNat, 256]
def k0_off23 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c16_i32_307 : BitVec 32 := 16#32
  let v566 : BitVec 32 := Scalar.muli v540 c16_i32_307
  let v567 : BitVec 32 := Scalar.addi v4 v566
  let v568 : Index := Scalar.indexCast v567
  ![v568.toNat]
def k0_mult11 (i : grid0.Coords) (v23 : BitVec 32) (k0_t1 : Fin (k0_t1_loop i v23).trips) : BitVec 32 :=
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c512_i32_309 : BitVec 32 := 512#32
  let v576 : BitVec 32 := Scalar.muli v540 c512_i32_309
  v576
def k0_off24 (i : grid0.Coords) (v23 : BitVec 32) (k0_t1 : Fin (k0_t1_loop i v23).trips) : Fin 3 → Nat :=
  let c0_310 : Index := 0#32
  let c0_311 : Index := 0#32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c512_i32_309 : BitVec 32 := 512#32
  let v576 : BitVec 32 := Scalar.muli v540 c512_i32_309
  let v577 : BitVec 32 := v576
  let v578 : Index := Scalar.indexCast v577
  ![0, 0, v578.toNat]
def k0_off25 (i : grid0.Coords) (v23 : BitVec 32) (k0_t1 : Fin (k0_t1_loop i v23).trips) : Fin 3 → Nat :=
  let c0_322 : Index := 0#32
  let c128_323 : Index := 128#32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c512_i32_309 : BitVec 32 := 512#32
  let v576 : BitVec 32 := Scalar.muli v540 c512_i32_309
  let v577 : BitVec 32 := v576
  let v604 : Index := Scalar.indexCast v577
  ![0, 128, v604.toNat]
def k0_mult12 (i : grid0.Coords) (v23 : BitVec 32) (k0_t1 : Fin (k0_t1_loop i v23).trips) : BitVec 32 :=
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c2_i32_334 : BitVec 32 := 2#32
  let v630 : BitVec 32 := Scalar.addi v540 c2_i32_334
  let c512_i32_335 : BitVec 32 := 512#32
  let v631 : BitVec 32 := Scalar.muli v630 c512_i32_335
  v631
def k0_off26 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_357 : BitVec 32 := 1#32
  let v656 : BitVec 32 := Scalar.addi v540 c1_i32_357
  let c16_i32_358 : BitVec 32 := 16#32
  let v657 : BitVec 32 := Scalar.muli v656 c16_i32_358
  let v658 : BitVec 32 := Scalar.addi v4 v657
  let v659 : Index := Scalar.indexCast v658
  ![v659.toNat]
def k0_mult13 (i : grid0.Coords) (v23 : BitVec 32) (k0_t1 : Fin (k0_t1_loop i v23).trips) : BitVec 32 :=
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_356 : BitVec 32 := 1#32
  let v655 : BitVec 32 := Scalar.addi v540 c1_i32_356
  let c512_i32_360 : BitVec 32 := 512#32
  let v667 : BitVec 32 := Scalar.muli v655 c512_i32_360
  v667
def k0_off27 (i : grid0.Coords) (v23 : BitVec 32) (k0_t1 : Fin (k0_t1_loop i v23).trips) : Fin 3 → Nat :=
  let c0_361 : Index := 0#32
  let c0_362 : Index := 0#32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_356 : BitVec 32 := 1#32
  let v655 : BitVec 32 := Scalar.addi v540 c1_i32_356
  let c512_i32_360 : BitVec 32 := 512#32
  let v667 : BitVec 32 := Scalar.muli v655 c512_i32_360
  let v668 : BitVec 32 := v667
  let v669 : Index := Scalar.indexCast v668
  ![0, 0, v669.toNat]
def k0_off28 (i : grid0.Coords) (v23 : BitVec 32) (k0_t1 : Fin (k0_t1_loop i v23).trips) : Fin 3 → Nat :=
  let c0_373 : Index := 0#32
  let c128_374 : Index := 128#32
  let c2_i32_284 : BitVec 32 := 2#32
  let c2_i32_283 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_356 : BitVec 32 := 1#32
  let v655 : BitVec 32 := Scalar.addi v540 c1_i32_356
  let c512_i32_360 : BitVec 32 := 512#32
  let v667 : BitVec 32 := Scalar.muli v655 c512_i32_360
  let v668 : BitVec 32 := v667
  let v695 : Index := Scalar.indexCast v668
  ![0, 128, v695.toNat]
def k0_mult14 (i : grid0.Coords) (v23 : BitVec 32) (k0_t1 : Fin (k0_t1_loop i v23).trips) : BitVec 32 :=
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_386 : BitVec 32 := 1#32
  let v723 : BitVec 32 := Scalar.addi v722 c1_i32_386
  let c512_i32_387 : BitVec 32 := 512#32
  let v724 : BitVec 32 := Scalar.muli v723 c512_i32_387
  v724
def k0_off29 (i : grid0.Coords) (v23 : BitVec 32) (k0_t1 : Fin (k0_t1_loop i v23).trips) (c1_i32_386 : BitVec 32) : Fin 3 → Nat :=
  let c0_388 : Index := 0#32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let v723 : BitVec 32 := Scalar.addi v722 c1_i32_386
  let c512_i32_387 : BitVec 32 := 512#32
  let v724 : BitVec 32 := Scalar.muli v723 c512_i32_387
  let v725 : BitVec 32 := v724
  let v726 : Index := Scalar.indexCast v725
  let c0_389 : Index := 0#32
  ![0, v726.toNat, 0]
def k0_off30 (i : grid0.Coords) (v23 : BitVec 32) (k0_t1 : Fin (k0_t1_loop i v23).trips) (c1_i32_386 : BitVec 32) : Fin 3 → Nat :=
  let c0_398 : Index := 0#32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let v723 : BitVec 32 := Scalar.addi v722 c1_i32_386
  let c512_i32_387 : BitVec 32 := 512#32
  let v724 : BitVec 32 := Scalar.muli v723 c512_i32_387
  let v725 : BitVec 32 := v724
  let v737 : Index := Scalar.indexCast v725
  let c256_399 : Index := 256#32
  ![0, v737.toNat, 256]
def k0_off31 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c16_i32_408 : BitVec 32 := 16#32
  let v748 : BitVec 32 := Scalar.muli v722 c16_i32_408
  let v749 : BitVec 32 := Scalar.addi v4 v748
  let v750 : Index := Scalar.indexCast v749
  ![v750.toNat]
def k0_mult15 (i : grid0.Coords) (v23 : BitVec 32) (k0_t1 : Fin (k0_t1_loop i v23).trips) : BitVec 32 :=
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c512_i32_410 : BitVec 32 := 512#32
  let v758 : BitVec 32 := Scalar.muli v722 c512_i32_410
  v758
def k0_off32 (i : grid0.Coords) (v23 : BitVec 32) (k0_t1 : Fin (k0_t1_loop i v23).trips) : Fin 3 → Nat :=
  let c0_411 : Index := 0#32
  let c0_412 : Index := 0#32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c512_i32_410 : BitVec 32 := 512#32
  let v758 : BitVec 32 := Scalar.muli v722 c512_i32_410
  let v759 : BitVec 32 := v758
  let v760 : Index := Scalar.indexCast v759
  ![0, 0, v760.toNat]
def k0_off33 (i : grid0.Coords) (v23 : BitVec 32) (k0_t1 : Fin (k0_t1_loop i v23).trips) : Fin 3 → Nat :=
  let c0_423 : Index := 0#32
  let c128_424 : Index := 128#32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c512_i32_410 : BitVec 32 := 512#32
  let v758 : BitVec 32 := Scalar.muli v722 c512_i32_410
  let v759 : BitVec 32 := v758
  let v786 : Index := Scalar.indexCast v759
  ![0, 128, v786.toNat]
def k0_mult16 (i : grid0.Coords) (v23 : BitVec 32) (k0_t1 : Fin (k0_t1_loop i v23).trips) : BitVec 32 :=
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c2_i32_435 : BitVec 32 := 2#32
  let v812 : BitVec 32 := Scalar.addi v722 c2_i32_435
  let c512_i32_436 : BitVec 32 := 512#32
  let v813 : BitVec 32 := Scalar.muli v812 c512_i32_436
  v813
def k0_off34 (i : grid0.Coords) (v23 : BitVec 32) (k0_t1 : Fin (k0_t1_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_458 : BitVec 32 := 1#32
  let v838 : BitVec 32 := Scalar.addi v722 c1_i32_458
  let c16_i32_459 : BitVec 32 := 16#32
  let v839 : BitVec 32 := Scalar.muli v838 c16_i32_459
  let v840 : BitVec 32 := Scalar.addi v4 v839
  let v841 : Index := Scalar.indexCast v840
  ![v841.toNat]
def k0_mult17 (i : grid0.Coords) (v23 : BitVec 32) (k0_t1 : Fin (k0_t1_loop i v23).trips) : BitVec 32 :=
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_457 : BitVec 32 := 1#32
  let v837 : BitVec 32 := Scalar.addi v722 c1_i32_457
  let c512_i32_461 : BitVec 32 := 512#32
  let v849 : BitVec 32 := Scalar.muli v837 c512_i32_461
  v849
def k0_off35 (i : grid0.Coords) (v23 : BitVec 32) (k0_t1 : Fin (k0_t1_loop i v23).trips) : Fin 3 → Nat :=
  let c0_462 : Index := 0#32
  let c0_463 : Index := 0#32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_457 : BitVec 32 := 1#32
  let v837 : BitVec 32 := Scalar.addi v722 c1_i32_457
  let c512_i32_461 : BitVec 32 := 512#32
  let v849 : BitVec 32 := Scalar.muli v837 c512_i32_461
  let v850 : BitVec 32 := v849
  let v851 : Index := Scalar.indexCast v850
  ![0, 0, v851.toNat]
def k0_off36 (i : grid0.Coords) (v23 : BitVec 32) (k0_t1 : Fin (k0_t1_loop i v23).trips) : Fin 3 → Nat :=
  let c0_474 : Index := 0#32
  let c128_475 : Index := 128#32
  let c2_i32_385 : BitVec 32 := 2#32
  let c2_i32_281 : BitVec 32 := 2#32
  let c2_i32_76 : BitVec 32 := 2#32
  let c0_i32_36 : BitVec 32 := 0#32
  let c1_i32_38 : BitVec 32 := 1#32
  let arg15 : BitVec 32 := Scf.iv c0_i32_36 c1_i32_38 k0_t1
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_457 : BitVec 32 := 1#32
  let v837 : BitVec 32 := Scalar.addi v722 c1_i32_457
  let c512_i32_461 : BitVec 32 := 512#32
  let v849 : BitVec 32 := Scalar.muli v837 c512_i32_461
  let v850 : BitVec 32 := v849
  let v877 : Index := Scalar.indexCast v850
  ![0, 128, v877.toNat]
@[reducible] def k0_t2_loop (i : grid0.Coords) (v23 : BitVec 32) : Scf.Loop 32 :=
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let v81 : BitVec 32 := Scalar.addi c0_i32_36 v80
  let c1_i32_39 : BitVec 32 := 1#32
  ⟨v84, v81, c1_i32_39⟩
def k0_mult18 (i : grid0.Coords) (v23 : BitVec 32) (k0_t2 : Fin (k0_t2_loop i v23).trips) : BitVec 32 :=
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_83 : BitVec 32 := 1#32
  let v174 : BitVec 32 := Scalar.addi v173 c1_i32_83
  let c512_i32 : BitVec 32 := 512#32
  let v175 : BitVec 32 := Scalar.muli v174 c512_i32
  v175
def k0_off37 (i : grid0.Coords) (v23 : BitVec 32) (k0_t2 : Fin (k0_t2_loop i v23).trips) (c1_i32_83 : BitVec 32) : Fin 3 → Nat :=
  let c0_84 : Index := 0#32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let v174 : BitVec 32 := Scalar.addi v173 c1_i32_83
  let c512_i32 : BitVec 32 := 512#32
  let v175 : BitVec 32 := Scalar.muli v174 c512_i32
  let v176 : BitVec 32 := v175
  let v177 : Index := Scalar.indexCast v176
  let c0_85 : Index := 0#32
  ![0, v177.toNat, 0]
def k0_off38 (i : grid0.Coords) (v23 : BitVec 32) (k0_t2 : Fin (k0_t2_loop i v23).trips) (c1_i32_83 : BitVec 32) : Fin 3 → Nat :=
  let c0_94 : Index := 0#32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let v174 : BitVec 32 := Scalar.addi v173 c1_i32_83
  let c512_i32 : BitVec 32 := 512#32
  let v175 : BitVec 32 := Scalar.muli v174 c512_i32
  let v176 : BitVec 32 := v175
  let v188 : Index := Scalar.indexCast v176
  let c256 : Index := 256#32
  ![0, v188.toNat, 256]
def k0_off39 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c16_i32_103 : BitVec 32 := 16#32
  let v199 : BitVec 32 := Scalar.muli v173 c16_i32_103
  let v200 : BitVec 32 := Scalar.addi v4 v199
  let v201 : Index := Scalar.indexCast v200
  ![v201.toNat]
def k0_mult19 (i : grid0.Coords) (v23 : BitVec 32) (k0_t2 : Fin (k0_t2_loop i v23).trips) : BitVec 32 :=
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c512_i32_105 : BitVec 32 := 512#32
  let v209 : BitVec 32 := Scalar.muli v173 c512_i32_105
  v209
def k0_off40 (i : grid0.Coords) (v23 : BitVec 32) (k0_t2 : Fin (k0_t2_loop i v23).trips) : Fin 3 → Nat :=
  let c0_106 : Index := 0#32
  let c0_107 : Index := 0#32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c512_i32_105 : BitVec 32 := 512#32
  let v209 : BitVec 32 := Scalar.muli v173 c512_i32_105
  let v210 : BitVec 32 := v209
  let v211 : Index := Scalar.indexCast v210
  ![0, 0, v211.toNat]
def k0_off41 (i : grid0.Coords) (v23 : BitVec 32) (k0_t2 : Fin (k0_t2_loop i v23).trips) : Fin 3 → Nat :=
  let c0_118 : Index := 0#32
  let c128 : Index := 128#32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c512_i32_105 : BitVec 32 := 512#32
  let v209 : BitVec 32 := Scalar.muli v173 c512_i32_105
  let v210 : BitVec 32 := v209
  let v237 : Index := Scalar.indexCast v210
  ![0, 128, v237.toNat]
def k0_mult20 (i : grid0.Coords) (v23 : BitVec 32) (k0_t2 : Fin (k0_t2_loop i v23).trips) : BitVec 32 :=
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c2_i32_129 : BitVec 32 := 2#32
  let v263 : BitVec 32 := Scalar.addi v173 c2_i32_129
  let c512_i32_130 : BitVec 32 := 512#32
  let v264 : BitVec 32 := Scalar.muli v263 c512_i32_130
  v264
def k0_off42 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_152 : BitVec 32 := 1#32
  let v289 : BitVec 32 := Scalar.addi v173 c1_i32_152
  let c16_i32_153 : BitVec 32 := 16#32
  let v290 : BitVec 32 := Scalar.muli v289 c16_i32_153
  let v291 : BitVec 32 := Scalar.addi v4 v290
  let v292 : Index := Scalar.indexCast v291
  ![v292.toNat]
def k0_mult21 (i : grid0.Coords) (v23 : BitVec 32) (k0_t2 : Fin (k0_t2_loop i v23).trips) : BitVec 32 :=
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_151 : BitVec 32 := 1#32
  let v288 : BitVec 32 := Scalar.addi v173 c1_i32_151
  let c512_i32_155 : BitVec 32 := 512#32
  let v300 : BitVec 32 := Scalar.muli v288 c512_i32_155
  v300
def k0_off43 (i : grid0.Coords) (v23 : BitVec 32) (k0_t2 : Fin (k0_t2_loop i v23).trips) : Fin 3 → Nat :=
  let c0_156 : Index := 0#32
  let c0_157 : Index := 0#32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_151 : BitVec 32 := 1#32
  let v288 : BitVec 32 := Scalar.addi v173 c1_i32_151
  let c512_i32_155 : BitVec 32 := 512#32
  let v300 : BitVec 32 := Scalar.muli v288 c512_i32_155
  let v301 : BitVec 32 := v300
  let v302 : Index := Scalar.indexCast v301
  ![0, 0, v302.toNat]
def k0_off44 (i : grid0.Coords) (v23 : BitVec 32) (k0_t2 : Fin (k0_t2_loop i v23).trips) : Fin 3 → Nat :=
  let c0_168 : Index := 0#32
  let c128_169 : Index := 128#32
  let c2_i32_82 : BitVec 32 := 2#32
  let c2_i32_81 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v171 : BitVec 32 := Scalar.muli c2_i32_81 v168
  let v172 : BitVec 32 := Scalar.muli c2_i32_82 v171
  let v173 : BitVec 32 := Scalar.addi v23 v172
  let c1_i32_151 : BitVec 32 := 1#32
  let v288 : BitVec 32 := Scalar.addi v173 c1_i32_151
  let c512_i32_155 : BitVec 32 := 512#32
  let v300 : BitVec 32 := Scalar.muli v288 c512_i32_155
  let v301 : BitVec 32 := v300
  let v328 : Index := Scalar.indexCast v301
  ![0, 128, v328.toNat]
def k0_mult22 (i : grid0.Coords) (v23 : BitVec 32) (k0_t2 : Fin (k0_t2_loop i v23).trips) : BitVec 32 :=
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_181 : BitVec 32 := 1#32
  let v356 : BitVec 32 := Scalar.addi v355 c1_i32_181
  let c512_i32_182 : BitVec 32 := 512#32
  let v357 : BitVec 32 := Scalar.muli v356 c512_i32_182
  v357
def k0_off45 (i : grid0.Coords) (v23 : BitVec 32) (k0_t2 : Fin (k0_t2_loop i v23).trips) (c1_i32_181 : BitVec 32) : Fin 3 → Nat :=
  let c0_183 : Index := 0#32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let v356 : BitVec 32 := Scalar.addi v355 c1_i32_181
  let c512_i32_182 : BitVec 32 := 512#32
  let v357 : BitVec 32 := Scalar.muli v356 c512_i32_182
  let v358 : BitVec 32 := v357
  let v359 : Index := Scalar.indexCast v358
  let c0_184 : Index := 0#32
  ![0, v359.toNat, 0]
def k0_off46 (i : grid0.Coords) (v23 : BitVec 32) (k0_t2 : Fin (k0_t2_loop i v23).trips) (c1_i32_181 : BitVec 32) : Fin 3 → Nat :=
  let c0_193 : Index := 0#32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let v356 : BitVec 32 := Scalar.addi v355 c1_i32_181
  let c512_i32_182 : BitVec 32 := 512#32
  let v357 : BitVec 32 := Scalar.muli v356 c512_i32_182
  let v358 : BitVec 32 := v357
  let v370 : Index := Scalar.indexCast v358
  let c256_194 : Index := 256#32
  ![0, v370.toNat, 256]
def k0_off47 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c16_i32_203 : BitVec 32 := 16#32
  let v381 : BitVec 32 := Scalar.muli v355 c16_i32_203
  let v382 : BitVec 32 := Scalar.addi v4 v381
  let v383 : Index := Scalar.indexCast v382
  ![v383.toNat]
def k0_mult23 (i : grid0.Coords) (v23 : BitVec 32) (k0_t2 : Fin (k0_t2_loop i v23).trips) : BitVec 32 :=
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c512_i32_205 : BitVec 32 := 512#32
  let v391 : BitVec 32 := Scalar.muli v355 c512_i32_205
  v391
def k0_off48 (i : grid0.Coords) (v23 : BitVec 32) (k0_t2 : Fin (k0_t2_loop i v23).trips) : Fin 3 → Nat :=
  let c0_206 : Index := 0#32
  let c0_207 : Index := 0#32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c512_i32_205 : BitVec 32 := 512#32
  let v391 : BitVec 32 := Scalar.muli v355 c512_i32_205
  let v392 : BitVec 32 := v391
  let v393 : Index := Scalar.indexCast v392
  ![0, 0, v393.toNat]
def k0_off49 (i : grid0.Coords) (v23 : BitVec 32) (k0_t2 : Fin (k0_t2_loop i v23).trips) : Fin 3 → Nat :=
  let c0_218 : Index := 0#32
  let c128_219 : Index := 128#32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c512_i32_205 : BitVec 32 := 512#32
  let v391 : BitVec 32 := Scalar.muli v355 c512_i32_205
  let v392 : BitVec 32 := v391
  let v419 : Index := Scalar.indexCast v392
  ![0, 128, v419.toNat]
def k0_mult24 (i : grid0.Coords) (v23 : BitVec 32) (k0_t2 : Fin (k0_t2_loop i v23).trips) : BitVec 32 :=
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c2_i32_230 : BitVec 32 := 2#32
  let v445 : BitVec 32 := Scalar.addi v355 c2_i32_230
  let c512_i32_231 : BitVec 32 := 512#32
  let v446 : BitVec 32 := Scalar.muli v445 c512_i32_231
  v446
def k0_off50 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_253 : BitVec 32 := 1#32
  let v471 : BitVec 32 := Scalar.addi v355 c1_i32_253
  let c16_i32_254 : BitVec 32 := 16#32
  let v472 : BitVec 32 := Scalar.muli v471 c16_i32_254
  let v473 : BitVec 32 := Scalar.addi v4 v472
  let v474 : Index := Scalar.indexCast v473
  ![v474.toNat]
def k0_mult25 (i : grid0.Coords) (v23 : BitVec 32) (k0_t2 : Fin (k0_t2_loop i v23).trips) : BitVec 32 :=
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_252 : BitVec 32 := 1#32
  let v470 : BitVec 32 := Scalar.addi v355 c1_i32_252
  let c512_i32_256 : BitVec 32 := 512#32
  let v482 : BitVec 32 := Scalar.muli v470 c512_i32_256
  v482
def k0_off51 (i : grid0.Coords) (v23 : BitVec 32) (k0_t2 : Fin (k0_t2_loop i v23).trips) : Fin 3 → Nat :=
  let c0_257 : Index := 0#32
  let c0_258 : Index := 0#32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_252 : BitVec 32 := 1#32
  let v470 : BitVec 32 := Scalar.addi v355 c1_i32_252
  let c512_i32_256 : BitVec 32 := 512#32
  let v482 : BitVec 32 := Scalar.muli v470 c512_i32_256
  let v483 : BitVec 32 := v482
  let v484 : Index := Scalar.indexCast v483
  ![0, 0, v484.toNat]
def k0_off52 (i : grid0.Coords) (v23 : BitVec 32) (k0_t2 : Fin (k0_t2_loop i v23).trips) : Fin 3 → Nat :=
  let c0_269 : Index := 0#32
  let c128_270 : Index := 128#32
  let c2_i32_180 : BitVec 32 := 2#32
  let c2_i32_79 : BitVec 32 := 2#32
  let c2_i32_78 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v168 : BitVec 32 := Scalar.muli c2_i32_78 arg15
  let v169 : BitVec 32 := Scalar.muli c2_i32_79 v168
  let c1_i32_80 : BitVec 32 := 1#32
  let v170 : BitVec 32 := Scalar.addi v169 c1_i32_80
  let v354 : BitVec 32 := Scalar.muli c2_i32_180 v170
  let v355 : BitVec 32 := Scalar.addi v23 v354
  let c1_i32_252 : BitVec 32 := 1#32
  let v470 : BitVec 32 := Scalar.addi v355 c1_i32_252
  let c512_i32_256 : BitVec 32 := 512#32
  let v482 : BitVec 32 := Scalar.muli v470 c512_i32_256
  let v483 : BitVec 32 := v482
  let v510 : Index := Scalar.indexCast v483
  ![0, 128, v510.toNat]
def k0_mult26 (i : grid0.Coords) (v23 : BitVec 32) (k0_t2 : Fin (k0_t2_loop i v23).trips) : BitVec 32 :=
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_285 : BitVec 32 := 1#32
  let v541 : BitVec 32 := Scalar.addi v540 c1_i32_285
  let c512_i32_286 : BitVec 32 := 512#32
  let v542 : BitVec 32 := Scalar.muli v541 c512_i32_286
  v542
def k0_off53 (i : grid0.Coords) (v23 : BitVec 32) (k0_t2 : Fin (k0_t2_loop i v23).trips) (c1_i32_285 : BitVec 32) : Fin 3 → Nat :=
  let c0_287 : Index := 0#32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let v541 : BitVec 32 := Scalar.addi v540 c1_i32_285
  let c512_i32_286 : BitVec 32 := 512#32
  let v542 : BitVec 32 := Scalar.muli v541 c512_i32_286
  let v543 : BitVec 32 := v542
  let v544 : Index := Scalar.indexCast v543
  let c0_288 : Index := 0#32
  ![0, v544.toNat, 0]
def k0_off54 (i : grid0.Coords) (v23 : BitVec 32) (k0_t2 : Fin (k0_t2_loop i v23).trips) (c1_i32_285 : BitVec 32) : Fin 3 → Nat :=
  let c0_297 : Index := 0#32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let v541 : BitVec 32 := Scalar.addi v540 c1_i32_285
  let c512_i32_286 : BitVec 32 := 512#32
  let v542 : BitVec 32 := Scalar.muli v541 c512_i32_286
  let v543 : BitVec 32 := v542
  let v555 : Index := Scalar.indexCast v543
  let c256_298 : Index := 256#32
  ![0, v555.toNat, 256]
def k0_off55 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c16_i32_307 : BitVec 32 := 16#32
  let v566 : BitVec 32 := Scalar.muli v540 c16_i32_307
  let v567 : BitVec 32 := Scalar.addi v4 v566
  let v568 : Index := Scalar.indexCast v567
  ![v568.toNat]
def k0_mult27 (i : grid0.Coords) (v23 : BitVec 32) (k0_t2 : Fin (k0_t2_loop i v23).trips) : BitVec 32 :=
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c512_i32_309 : BitVec 32 := 512#32
  let v576 : BitVec 32 := Scalar.muli v540 c512_i32_309
  v576
def k0_off56 (i : grid0.Coords) (v23 : BitVec 32) (k0_t2 : Fin (k0_t2_loop i v23).trips) : Fin 3 → Nat :=
  let c0_310 : Index := 0#32
  let c0_311 : Index := 0#32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c512_i32_309 : BitVec 32 := 512#32
  let v576 : BitVec 32 := Scalar.muli v540 c512_i32_309
  let v577 : BitVec 32 := v576
  let v578 : Index := Scalar.indexCast v577
  ![0, 0, v578.toNat]
def k0_off57 (i : grid0.Coords) (v23 : BitVec 32) (k0_t2 : Fin (k0_t2_loop i v23).trips) : Fin 3 → Nat :=
  let c0_322 : Index := 0#32
  let c128_323 : Index := 128#32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c512_i32_309 : BitVec 32 := 512#32
  let v576 : BitVec 32 := Scalar.muli v540 c512_i32_309
  let v577 : BitVec 32 := v576
  let v604 : Index := Scalar.indexCast v577
  ![0, 128, v604.toNat]
def k0_mult28 (i : grid0.Coords) (v23 : BitVec 32) (k0_t2 : Fin (k0_t2_loop i v23).trips) : BitVec 32 :=
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c2_i32_334 : BitVec 32 := 2#32
  let v630 : BitVec 32 := Scalar.addi v540 c2_i32_334
  let c512_i32_335 : BitVec 32 := 512#32
  let v631 : BitVec 32 := Scalar.muli v630 c512_i32_335
  v631
def k0_off58 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_357 : BitVec 32 := 1#32
  let v656 : BitVec 32 := Scalar.addi v540 c1_i32_357
  let c16_i32_358 : BitVec 32 := 16#32
  let v657 : BitVec 32 := Scalar.muli v656 c16_i32_358
  let v658 : BitVec 32 := Scalar.addi v4 v657
  let v659 : Index := Scalar.indexCast v658
  ![v659.toNat]
def k0_mult29 (i : grid0.Coords) (v23 : BitVec 32) (k0_t2 : Fin (k0_t2_loop i v23).trips) : BitVec 32 :=
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_356 : BitVec 32 := 1#32
  let v655 : BitVec 32 := Scalar.addi v540 c1_i32_356
  let c512_i32_360 : BitVec 32 := 512#32
  let v667 : BitVec 32 := Scalar.muli v655 c512_i32_360
  v667
def k0_off59 (i : grid0.Coords) (v23 : BitVec 32) (k0_t2 : Fin (k0_t2_loop i v23).trips) : Fin 3 → Nat :=
  let c0_361 : Index := 0#32
  let c0_362 : Index := 0#32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_356 : BitVec 32 := 1#32
  let v655 : BitVec 32 := Scalar.addi v540 c1_i32_356
  let c512_i32_360 : BitVec 32 := 512#32
  let v667 : BitVec 32 := Scalar.muli v655 c512_i32_360
  let v668 : BitVec 32 := v667
  let v669 : Index := Scalar.indexCast v668
  ![0, 0, v669.toNat]
def k0_off60 (i : grid0.Coords) (v23 : BitVec 32) (k0_t2 : Fin (k0_t2_loop i v23).trips) : Fin 3 → Nat :=
  let c0_373 : Index := 0#32
  let c128_374 : Index := 128#32
  let c2_i32_284 : BitVec 32 := 2#32
  let c2_i32_283 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v538 : BitVec 32 := Scalar.muli c2_i32_283 v167
  let v539 : BitVec 32 := Scalar.muli c2_i32_284 v538
  let v540 : BitVec 32 := Scalar.addi v23 v539
  let c1_i32_356 : BitVec 32 := 1#32
  let v655 : BitVec 32 := Scalar.addi v540 c1_i32_356
  let c512_i32_360 : BitVec 32 := 512#32
  let v667 : BitVec 32 := Scalar.muli v655 c512_i32_360
  let v668 : BitVec 32 := v667
  let v695 : Index := Scalar.indexCast v668
  ![0, 128, v695.toNat]
def k0_mult30 (i : grid0.Coords) (v23 : BitVec 32) (k0_t2 : Fin (k0_t2_loop i v23).trips) : BitVec 32 :=
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_386 : BitVec 32 := 1#32
  let v723 : BitVec 32 := Scalar.addi v722 c1_i32_386
  let c512_i32_387 : BitVec 32 := 512#32
  let v724 : BitVec 32 := Scalar.muli v723 c512_i32_387
  v724
def k0_off61 (i : grid0.Coords) (v23 : BitVec 32) (k0_t2 : Fin (k0_t2_loop i v23).trips) (c1_i32_386 : BitVec 32) : Fin 3 → Nat :=
  let c0_388 : Index := 0#32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let v723 : BitVec 32 := Scalar.addi v722 c1_i32_386
  let c512_i32_387 : BitVec 32 := 512#32
  let v724 : BitVec 32 := Scalar.muli v723 c512_i32_387
  let v725 : BitVec 32 := v724
  let v726 : Index := Scalar.indexCast v725
  let c0_389 : Index := 0#32
  ![0, v726.toNat, 0]
def k0_off62 (i : grid0.Coords) (v23 : BitVec 32) (k0_t2 : Fin (k0_t2_loop i v23).trips) (c1_i32_386 : BitVec 32) : Fin 3 → Nat :=
  let c0_398 : Index := 0#32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let v723 : BitVec 32 := Scalar.addi v722 c1_i32_386
  let c512_i32_387 : BitVec 32 := 512#32
  let v724 : BitVec 32 := Scalar.muli v723 c512_i32_387
  let v725 : BitVec 32 := v724
  let v737 : Index := Scalar.indexCast v725
  let c256_399 : Index := 256#32
  ![0, v737.toNat, 256]
def k0_off63 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c16_i32_408 : BitVec 32 := 16#32
  let v748 : BitVec 32 := Scalar.muli v722 c16_i32_408
  let v749 : BitVec 32 := Scalar.addi v4 v748
  let v750 : Index := Scalar.indexCast v749
  ![v750.toNat]
def k0_mult31 (i : grid0.Coords) (v23 : BitVec 32) (k0_t2 : Fin (k0_t2_loop i v23).trips) : BitVec 32 :=
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c512_i32_410 : BitVec 32 := 512#32
  let v758 : BitVec 32 := Scalar.muli v722 c512_i32_410
  v758
def k0_off64 (i : grid0.Coords) (v23 : BitVec 32) (k0_t2 : Fin (k0_t2_loop i v23).trips) : Fin 3 → Nat :=
  let c0_411 : Index := 0#32
  let c0_412 : Index := 0#32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c512_i32_410 : BitVec 32 := 512#32
  let v758 : BitVec 32 := Scalar.muli v722 c512_i32_410
  let v759 : BitVec 32 := v758
  let v760 : Index := Scalar.indexCast v759
  ![0, 0, v760.toNat]
def k0_off65 (i : grid0.Coords) (v23 : BitVec 32) (k0_t2 : Fin (k0_t2_loop i v23).trips) : Fin 3 → Nat :=
  let c0_423 : Index := 0#32
  let c128_424 : Index := 128#32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c512_i32_410 : BitVec 32 := 512#32
  let v758 : BitVec 32 := Scalar.muli v722 c512_i32_410
  let v759 : BitVec 32 := v758
  let v786 : Index := Scalar.indexCast v759
  ![0, 128, v786.toNat]
def k0_mult32 (i : grid0.Coords) (v23 : BitVec 32) (k0_t2 : Fin (k0_t2_loop i v23).trips) : BitVec 32 :=
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c2_i32_435 : BitVec 32 := 2#32
  let v812 : BitVec 32 := Scalar.addi v722 c2_i32_435
  let c512_i32_436 : BitVec 32 := 512#32
  let v813 : BitVec 32 := Scalar.muli v812 c512_i32_436
  v813
def k0_off66 (i : grid0.Coords) (v23 : BitVec 32) (k0_t2 : Fin (k0_t2_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_458 : BitVec 32 := 1#32
  let v838 : BitVec 32 := Scalar.addi v722 c1_i32_458
  let c16_i32_459 : BitVec 32 := 16#32
  let v839 : BitVec 32 := Scalar.muli v838 c16_i32_459
  let v840 : BitVec 32 := Scalar.addi v4 v839
  let v841 : Index := Scalar.indexCast v840
  ![v841.toNat]
def k0_mult33 (i : grid0.Coords) (v23 : BitVec 32) (k0_t2 : Fin (k0_t2_loop i v23).trips) : BitVec 32 :=
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_457 : BitVec 32 := 1#32
  let v837 : BitVec 32 := Scalar.addi v722 c1_i32_457
  let c512_i32_461 : BitVec 32 := 512#32
  let v849 : BitVec 32 := Scalar.muli v837 c512_i32_461
  v849
def k0_off67 (i : grid0.Coords) (v23 : BitVec 32) (k0_t2 : Fin (k0_t2_loop i v23).trips) : Fin 3 → Nat :=
  let c0_462 : Index := 0#32
  let c0_463 : Index := 0#32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_457 : BitVec 32 := 1#32
  let v837 : BitVec 32 := Scalar.addi v722 c1_i32_457
  let c512_i32_461 : BitVec 32 := 512#32
  let v849 : BitVec 32 := Scalar.muli v837 c512_i32_461
  let v850 : BitVec 32 := v849
  let v851 : Index := Scalar.indexCast v850
  ![0, 0, v851.toNat]
def k0_off68 (i : grid0.Coords) (v23 : BitVec 32) (k0_t2 : Fin (k0_t2_loop i v23).trips) : Fin 3 → Nat :=
  let c0_474 : Index := 0#32
  let c128_475 : Index := 128#32
  let c2_i32_385 : BitVec 32 := 2#32
  let c2_i32_281 : BitVec 32 := 2#32
  let c2_i32_76 : BitVec 32 := 2#32
  let c0_i32_36 : BitVec 32 := 0#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c4_i32_29 : BitVec 32 := 4#32
  let c0_i32_32 : BitVec 32 := 0#32
  let v69 : BitVec 1 := Scalar.cmpi .sgt c4_i32_29 c0_i32_32
  let v70 : BitVec 32 := Scalar.extui v69
  let c0_i32_33 : BitVec 32 := 0#32
  let v71 : BitVec 1 := Scalar.cmpi .slt c4_i32_29 c0_i32_33
  let v72 : BitVec 32 := Scalar.extui v71
  let v73 : BitVec 32 := Scalar.subi v70 v72
  let v74 : BitVec 1 := Scalar.cmpi .ne v68 v73
  let v75 : BitVec 32 := Scalar.remsi v62 c4_i32_29
  let c0_i32_34 : BitVec 32 := 0#32
  let v76 : BitVec 1 := Scalar.cmpi .ne v75 c0_i32_34
  let v77 : BitVec 1 := Scalar.andi v74 v76
  let v63 : BitVec 32 := Scalar.divsi v62 c4_i32_29
  let c1_i32_35 : BitVec 32 := 1#32
  let v78 : BitVec 32 := Scalar.subi v63 c1_i32_35
  let v79 : BitVec 32 := Scalar.select v77 v78 v63
  let v80 : BitVec 32 := Scalar.subi v79 c0_i32_36
  let c1_i32_37 : BitVec 32 := 1#32
  let v82 : BitVec 32 := Scalar.divsi v80 c1_i32_37
  let v83 : BitVec 32 := Scalar.muli v82 c1_i32_37
  let v84 : BitVec 32 := Scalar.addi c0_i32_36 v83
  let c1_i32_39 : BitVec 32 := 1#32
  let arg15 : BitVec 32 := Scf.iv v84 c1_i32_39 k0_t2
  let v166 : BitVec 32 := Scalar.muli c2_i32_76 arg15
  let c1_i32_77 : BitVec 32 := 1#32
  let v167 : BitVec 32 := Scalar.addi v166 c1_i32_77
  let v536 : BitVec 32 := Scalar.muli c2_i32_281 v167
  let c1_i32_282 : BitVec 32 := 1#32
  let v537 : BitVec 32 := Scalar.addi v536 c1_i32_282
  let v721 : BitVec 32 := Scalar.muli c2_i32_385 v537
  let v722 : BitVec 32 := Scalar.addi v23 v721
  let c1_i32_457 : BitVec 32 := 1#32
  let v837 : BitVec 32 := Scalar.addi v722 c1_i32_457
  let c512_i32_461 : BitVec 32 := 512#32
  let v849 : BitVec 32 := Scalar.muli v837 c512_i32_461
  let v850 : BitVec 32 := v849
  let v877 : Index := Scalar.indexCast v850
  ![0, 128, v877.toNat]
@[reducible] def k0_t3_loop (i : grid0.Coords) (v23 : BitVec 32) : Scf.Loop 32 :=
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_56 : BitVec 32 := 1#32
  ⟨v104, v126, c1_i32_56⟩
def k0_mult34 (i : grid0.Coords) (v23 : BitVec 32) (k0_t3 : Fin (k0_t3_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c1_i32_80 : BitVec 32 := 1#32
  let v171 : BitVec 32 := Scalar.addi v170 c1_i32_80
  let c512_i32 : BitVec 32 := 512#32
  let v172 : BitVec 32 := Scalar.muli v171 c512_i32
  v172
def k0_off69 (i : grid0.Coords) (v23 : BitVec 32) (k0_t3 : Fin (k0_t3_loop i v23).trips) (c1_i32_80 : BitVec 32) : Fin 3 → Nat :=
  let c0_81 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let v171 : BitVec 32 := Scalar.addi v170 c1_i32_80
  let c512_i32 : BitVec 32 := 512#32
  let v172 : BitVec 32 := Scalar.muli v171 c512_i32
  let v173 : BitVec 32 := v172
  let v174 : Index := Scalar.indexCast v173
  let c0_82 : Index := 0#32
  ![0, v174.toNat, 0]
def k0_off70 (i : grid0.Coords) (v23 : BitVec 32) (k0_t3 : Fin (k0_t3_loop i v23).trips) (c1_i32_80 : BitVec 32) : Fin 3 → Nat :=
  let c0_91 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let v171 : BitVec 32 := Scalar.addi v170 c1_i32_80
  let c512_i32 : BitVec 32 := 512#32
  let v172 : BitVec 32 := Scalar.muli v171 c512_i32
  let v173 : BitVec 32 := v172
  let v185 : Index := Scalar.indexCast v173
  let c256 : Index := 256#32
  ![0, v185.toNat, 256]
def k0_off71 (i : grid0.Coords) (v23 : BitVec 32) (k0_t3 : Fin (k0_t3_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c16_i32_100 : BitVec 32 := 16#32
  let v196 : BitVec 32 := Scalar.muli v170 c16_i32_100
  let v197 : BitVec 32 := Scalar.addi v4 v196
  let v198 : Index := Scalar.indexCast v197
  ![v198.toNat]
def k0_mult35 (i : grid0.Coords) (v23 : BitVec 32) (k0_t3 : Fin (k0_t3_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c512_i32_102 : BitVec 32 := 512#32
  let v206 : BitVec 32 := Scalar.muli v170 c512_i32_102
  v206
def k0_off72 (i : grid0.Coords) (v23 : BitVec 32) (k0_t3 : Fin (k0_t3_loop i v23).trips) : Fin 3 → Nat :=
  let c0_103 : Index := 0#32
  let c0_104 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c512_i32_102 : BitVec 32 := 512#32
  let v206 : BitVec 32 := Scalar.muli v170 c512_i32_102
  let v207 : BitVec 32 := v206
  let v208 : Index := Scalar.indexCast v207
  ![0, 0, v208.toNat]
def k0_off73 (i : grid0.Coords) (v23 : BitVec 32) (k0_t3 : Fin (k0_t3_loop i v23).trips) : Fin 3 → Nat :=
  let c0_115 : Index := 0#32
  let c128 : Index := 128#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c512_i32_102 : BitVec 32 := 512#32
  let v206 : BitVec 32 := Scalar.muli v170 c512_i32_102
  let v207 : BitVec 32 := v206
  let v234 : Index := Scalar.indexCast v207
  ![0, 128, v234.toNat]
def k0_mult36 (i : grid0.Coords) (v23 : BitVec 32) (k0_t3 : Fin (k0_t3_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c2_i32_126 : BitVec 32 := 2#32
  let v260 : BitVec 32 := Scalar.addi v170 c2_i32_126
  let c512_i32_127 : BitVec 32 := 512#32
  let v261 : BitVec 32 := Scalar.muli v260 c512_i32_127
  v261
def k0_off74 (i : grid0.Coords) (v23 : BitVec 32) (k0_t3 : Fin (k0_t3_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c1_i32_149 : BitVec 32 := 1#32
  let v286 : BitVec 32 := Scalar.addi v170 c1_i32_149
  let c16_i32_150 : BitVec 32 := 16#32
  let v287 : BitVec 32 := Scalar.muli v286 c16_i32_150
  let v288 : BitVec 32 := Scalar.addi v4 v287
  let v289 : Index := Scalar.indexCast v288
  ![v289.toNat]
def k0_mult37 (i : grid0.Coords) (v23 : BitVec 32) (k0_t3 : Fin (k0_t3_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c1_i32_148 : BitVec 32 := 1#32
  let v285 : BitVec 32 := Scalar.addi v170 c1_i32_148
  let c512_i32_152 : BitVec 32 := 512#32
  let v297 : BitVec 32 := Scalar.muli v285 c512_i32_152
  v297
def k0_off75 (i : grid0.Coords) (v23 : BitVec 32) (k0_t3 : Fin (k0_t3_loop i v23).trips) : Fin 3 → Nat :=
  let c0_153 : Index := 0#32
  let c0_154 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c1_i32_148 : BitVec 32 := 1#32
  let v285 : BitVec 32 := Scalar.addi v170 c1_i32_148
  let c512_i32_152 : BitVec 32 := 512#32
  let v297 : BitVec 32 := Scalar.muli v285 c512_i32_152
  let v298 : BitVec 32 := v297
  let v299 : Index := Scalar.indexCast v298
  ![0, 0, v299.toNat]
def k0_off76 (i : grid0.Coords) (v23 : BitVec 32) (k0_t3 : Fin (k0_t3_loop i v23).trips) : Fin 3 → Nat :=
  let c0_165 : Index := 0#32
  let c128_166 : Index := 128#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v168 : BitVec 32 := Scalar.muli c2_i32_78 arg15
  let v169 : BitVec 32 := Scalar.muli c2_i32_79 v168
  let v170 : BitVec 32 := Scalar.addi v23 v169
  let c1_i32_148 : BitVec 32 := 1#32
  let v285 : BitVec 32 := Scalar.addi v170 c1_i32_148
  let c512_i32_152 : BitVec 32 := 512#32
  let v297 : BitVec 32 := Scalar.muli v285 c512_i32_152
  let v298 : BitVec 32 := v297
  let v325 : Index := Scalar.indexCast v298
  ![0, 128, v325.toNat]
def k0_mult38 (i : grid0.Coords) (v23 : BitVec 32) (k0_t3 : Fin (k0_t3_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_178 : BitVec 32 := 1#32
  let v353 : BitVec 32 := Scalar.addi v352 c1_i32_178
  let c512_i32_179 : BitVec 32 := 512#32
  let v354 : BitVec 32 := Scalar.muli v353 c512_i32_179
  v354
def k0_off77 (i : grid0.Coords) (v23 : BitVec 32) (k0_t3 : Fin (k0_t3_loop i v23).trips) (c1_i32_178 : BitVec 32) : Fin 3 → Nat :=
  let c0_180 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let v353 : BitVec 32 := Scalar.addi v352 c1_i32_178
  let c512_i32_179 : BitVec 32 := 512#32
  let v354 : BitVec 32 := Scalar.muli v353 c512_i32_179
  let v355 : BitVec 32 := v354
  let v356 : Index := Scalar.indexCast v355
  let c0_181 : Index := 0#32
  ![0, v356.toNat, 0]
def k0_off78 (i : grid0.Coords) (v23 : BitVec 32) (k0_t3 : Fin (k0_t3_loop i v23).trips) (c1_i32_178 : BitVec 32) : Fin 3 → Nat :=
  let c0_190 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let v353 : BitVec 32 := Scalar.addi v352 c1_i32_178
  let c512_i32_179 : BitVec 32 := 512#32
  let v354 : BitVec 32 := Scalar.muli v353 c512_i32_179
  let v355 : BitVec 32 := v354
  let v367 : Index := Scalar.indexCast v355
  let c256_191 : Index := 256#32
  ![0, v367.toNat, 256]
def k0_off79 (i : grid0.Coords) (v23 : BitVec 32) (k0_t3 : Fin (k0_t3_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c16_i32_200 : BitVec 32 := 16#32
  let v378 : BitVec 32 := Scalar.muli v352 c16_i32_200
  let v379 : BitVec 32 := Scalar.addi v4 v378
  let v380 : Index := Scalar.indexCast v379
  ![v380.toNat]
def k0_mult39 (i : grid0.Coords) (v23 : BitVec 32) (k0_t3 : Fin (k0_t3_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c512_i32_202 : BitVec 32 := 512#32
  let v388 : BitVec 32 := Scalar.muli v352 c512_i32_202
  v388
def k0_off80 (i : grid0.Coords) (v23 : BitVec 32) (k0_t3 : Fin (k0_t3_loop i v23).trips) : Fin 3 → Nat :=
  let c0_203 : Index := 0#32
  let c0_204 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c512_i32_202 : BitVec 32 := 512#32
  let v388 : BitVec 32 := Scalar.muli v352 c512_i32_202
  let v389 : BitVec 32 := v388
  let v390 : Index := Scalar.indexCast v389
  ![0, 0, v390.toNat]
def k0_off81 (i : grid0.Coords) (v23 : BitVec 32) (k0_t3 : Fin (k0_t3_loop i v23).trips) : Fin 3 → Nat :=
  let c0_215 : Index := 0#32
  let c128_216 : Index := 128#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c512_i32_202 : BitVec 32 := 512#32
  let v388 : BitVec 32 := Scalar.muli v352 c512_i32_202
  let v389 : BitVec 32 := v388
  let v416 : Index := Scalar.indexCast v389
  ![0, 128, v416.toNat]
def k0_mult40 (i : grid0.Coords) (v23 : BitVec 32) (k0_t3 : Fin (k0_t3_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c2_i32_227 : BitVec 32 := 2#32
  let v442 : BitVec 32 := Scalar.addi v352 c2_i32_227
  let c512_i32_228 : BitVec 32 := 512#32
  let v443 : BitVec 32 := Scalar.muli v442 c512_i32_228
  v443
def k0_off82 (i : grid0.Coords) (v23 : BitVec 32) (k0_t3 : Fin (k0_t3_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_250 : BitVec 32 := 1#32
  let v468 : BitVec 32 := Scalar.addi v352 c1_i32_250
  let c16_i32_251 : BitVec 32 := 16#32
  let v469 : BitVec 32 := Scalar.muli v468 c16_i32_251
  let v470 : BitVec 32 := Scalar.addi v4 v469
  let v471 : Index := Scalar.indexCast v470
  ![v471.toNat]
def k0_mult41 (i : grid0.Coords) (v23 : BitVec 32) (k0_t3 : Fin (k0_t3_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_249 : BitVec 32 := 1#32
  let v467 : BitVec 32 := Scalar.addi v352 c1_i32_249
  let c512_i32_253 : BitVec 32 := 512#32
  let v479 : BitVec 32 := Scalar.muli v467 c512_i32_253
  v479
def k0_off83 (i : grid0.Coords) (v23 : BitVec 32) (k0_t3 : Fin (k0_t3_loop i v23).trips) : Fin 3 → Nat :=
  let c0_254 : Index := 0#32
  let c0_255 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_249 : BitVec 32 := 1#32
  let v467 : BitVec 32 := Scalar.addi v352 c1_i32_249
  let c512_i32_253 : BitVec 32 := 512#32
  let v479 : BitVec 32 := Scalar.muli v467 c512_i32_253
  let v480 : BitVec 32 := v479
  let v481 : Index := Scalar.indexCast v480
  ![0, 0, v481.toNat]
def k0_off84 (i : grid0.Coords) (v23 : BitVec 32) (k0_t3 : Fin (k0_t3_loop i v23).trips) : Fin 3 → Nat :=
  let c0_266 : Index := 0#32
  let c128_267 : Index := 128#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c1_i32_56 : BitVec 32 := 1#32
  let arg15 : BitVec 32 := Scf.iv v104 c1_i32_56 k0_t3
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_249 : BitVec 32 := 1#32
  let v467 : BitVec 32 := Scalar.addi v352 c1_i32_249
  let c512_i32_253 : BitVec 32 := 512#32
  let v479 : BitVec 32 := Scalar.muli v467 c512_i32_253
  let v480 : BitVec 32 := v479
  let v507 : Index := Scalar.indexCast v480
  ![0, 128, v507.toNat]
@[reducible] def k0_t4_loop (i : grid0.Coords) (v23 : BitVec 32) : Scf.Loop 32 :=
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let v123 : BitVec 32 := Scalar.addi v104 v122
  let c1_i32_57 : BitVec 32 := 1#32
  ⟨v126, v123, c1_i32_57⟩
def k0_mult42 (i : grid0.Coords) (v23 : BitVec 32) (k0_t4 : Fin (k0_t4_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c1_i32_80 : BitVec 32 := 1#32
  let v171 : BitVec 32 := Scalar.addi v170 c1_i32_80
  let c512_i32 : BitVec 32 := 512#32
  let v172 : BitVec 32 := Scalar.muli v171 c512_i32
  v172
def k0_off85 (i : grid0.Coords) (v23 : BitVec 32) (k0_t4 : Fin (k0_t4_loop i v23).trips) (c1_i32_80 : BitVec 32) : Fin 3 → Nat :=
  let c0_81 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let v171 : BitVec 32 := Scalar.addi v170 c1_i32_80
  let c512_i32 : BitVec 32 := 512#32
  let v172 : BitVec 32 := Scalar.muli v171 c512_i32
  let v173 : BitVec 32 := v172
  let v174 : Index := Scalar.indexCast v173
  let c0_82 : Index := 0#32
  ![0, v174.toNat, 0]
def k0_off86 (i : grid0.Coords) (v23 : BitVec 32) (k0_t4 : Fin (k0_t4_loop i v23).trips) (c1_i32_80 : BitVec 32) : Fin 3 → Nat :=
  let c0_91 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let v171 : BitVec 32 := Scalar.addi v170 c1_i32_80
  let c512_i32 : BitVec 32 := 512#32
  let v172 : BitVec 32 := Scalar.muli v171 c512_i32
  let v173 : BitVec 32 := v172
  let v185 : Index := Scalar.indexCast v173
  let c256 : Index := 256#32
  ![0, v185.toNat, 256]
def k0_off87 (i : grid0.Coords) (v23 : BitVec 32) (k0_t4 : Fin (k0_t4_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c16_i32_100 : BitVec 32 := 16#32
  let v196 : BitVec 32 := Scalar.muli v170 c16_i32_100
  let v197 : BitVec 32 := Scalar.addi v4 v196
  let v198 : Index := Scalar.indexCast v197
  ![v198.toNat]
def k0_mult43 (i : grid0.Coords) (v23 : BitVec 32) (k0_t4 : Fin (k0_t4_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c512_i32_102 : BitVec 32 := 512#32
  let v206 : BitVec 32 := Scalar.muli v170 c512_i32_102
  v206
def k0_off88 (i : grid0.Coords) (v23 : BitVec 32) (k0_t4 : Fin (k0_t4_loop i v23).trips) : Fin 3 → Nat :=
  let c0_103 : Index := 0#32
  let c0_104 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c512_i32_102 : BitVec 32 := 512#32
  let v206 : BitVec 32 := Scalar.muli v170 c512_i32_102
  let v207 : BitVec 32 := v206
  let v208 : Index := Scalar.indexCast v207
  ![0, 0, v208.toNat]
def k0_off89 (i : grid0.Coords) (v23 : BitVec 32) (k0_t4 : Fin (k0_t4_loop i v23).trips) : Fin 3 → Nat :=
  let c0_115 : Index := 0#32
  let c128 : Index := 128#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c512_i32_102 : BitVec 32 := 512#32
  let v206 : BitVec 32 := Scalar.muli v170 c512_i32_102
  let v207 : BitVec 32 := v206
  let v234 : Index := Scalar.indexCast v207
  ![0, 128, v234.toNat]
def k0_mult44 (i : grid0.Coords) (v23 : BitVec 32) (k0_t4 : Fin (k0_t4_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c2_i32_126 : BitVec 32 := 2#32
  let v260 : BitVec 32 := Scalar.addi v170 c2_i32_126
  let c512_i32_127 : BitVec 32 := 512#32
  let v261 : BitVec 32 := Scalar.muli v260 c512_i32_127
  v261
def k0_off90 (i : grid0.Coords) (v23 : BitVec 32) (k0_t4 : Fin (k0_t4_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c1_i32_149 : BitVec 32 := 1#32
  let v286 : BitVec 32 := Scalar.addi v170 c1_i32_149
  let c16_i32_150 : BitVec 32 := 16#32
  let v287 : BitVec 32 := Scalar.muli v286 c16_i32_150
  let v288 : BitVec 32 := Scalar.addi v4 v287
  let v289 : Index := Scalar.indexCast v288
  ![v289.toNat]
def k0_mult45 (i : grid0.Coords) (v23 : BitVec 32) (k0_t4 : Fin (k0_t4_loop i v23).trips) : BitVec 32 :=
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c1_i32_148 : BitVec 32 := 1#32
  let v285 : BitVec 32 := Scalar.addi v170 c1_i32_148
  let c512_i32_152 : BitVec 32 := 512#32
  let v297 : BitVec 32 := Scalar.muli v285 c512_i32_152
  v297
def k0_off91 (i : grid0.Coords) (v23 : BitVec 32) (k0_t4 : Fin (k0_t4_loop i v23).trips) : Fin 3 → Nat :=
  let c0_153 : Index := 0#32
  let c0_154 : Index := 0#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c1_i32_148 : BitVec 32 := 1#32
  let v285 : BitVec 32 := Scalar.addi v170 c1_i32_148
  let c512_i32_152 : BitVec 32 := 512#32
  let v297 : BitVec 32 := Scalar.muli v285 c512_i32_152
  let v298 : BitVec 32 := v297
  let v299 : Index := Scalar.indexCast v298
  ![0, 0, v299.toNat]
def k0_off92 (i : grid0.Coords) (v23 : BitVec 32) (k0_t4 : Fin (k0_t4_loop i v23).trips) : Fin 3 → Nat :=
  let c0_165 : Index := 0#32
  let c128_166 : Index := 128#32
  let c2_i32_79 : BitVec 32 := 2#32
  let c2_i32_78 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v168 : BitVec 32 := Scalar.muli c2_i32_78 arg15
  let v169 : BitVec 32 := Scalar.muli c2_i32_79 v168
  let v170 : BitVec 32 := Scalar.addi v23 v169
  let c1_i32_148 : BitVec 32 := 1#32
  let v285 : BitVec 32 := Scalar.addi v170 c1_i32_148
  let c512_i32_152 : BitVec 32 := 512#32
  let v297 : BitVec 32 := Scalar.muli v285 c512_i32_152
  let v298 : BitVec 32 := v297
  let v325 : Index := Scalar.indexCast v298
  ![0, 128, v325.toNat]
def k0_mult46 (i : grid0.Coords) (v23 : BitVec 32) (k0_t4 : Fin (k0_t4_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_178 : BitVec 32 := 1#32
  let v353 : BitVec 32 := Scalar.addi v352 c1_i32_178
  let c512_i32_179 : BitVec 32 := 512#32
  let v354 : BitVec 32 := Scalar.muli v353 c512_i32_179
  v354
def k0_off93 (i : grid0.Coords) (v23 : BitVec 32) (k0_t4 : Fin (k0_t4_loop i v23).trips) (c1_i32_178 : BitVec 32) : Fin 3 → Nat :=
  let c0_180 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let v353 : BitVec 32 := Scalar.addi v352 c1_i32_178
  let c512_i32_179 : BitVec 32 := 512#32
  let v354 : BitVec 32 := Scalar.muli v353 c512_i32_179
  let v355 : BitVec 32 := v354
  let v356 : Index := Scalar.indexCast v355
  let c0_181 : Index := 0#32
  ![0, v356.toNat, 0]
def k0_off94 (i : grid0.Coords) (v23 : BitVec 32) (k0_t4 : Fin (k0_t4_loop i v23).trips) (c1_i32_178 : BitVec 32) : Fin 3 → Nat :=
  let c0_190 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let v353 : BitVec 32 := Scalar.addi v352 c1_i32_178
  let c512_i32_179 : BitVec 32 := 512#32
  let v354 : BitVec 32 := Scalar.muli v353 c512_i32_179
  let v355 : BitVec 32 := v354
  let v367 : Index := Scalar.indexCast v355
  let c256_191 : Index := 256#32
  ![0, v367.toNat, 256]
def k0_off95 (i : grid0.Coords) (v23 : BitVec 32) (k0_t4 : Fin (k0_t4_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c16_i32_200 : BitVec 32 := 16#32
  let v378 : BitVec 32 := Scalar.muli v352 c16_i32_200
  let v379 : BitVec 32 := Scalar.addi v4 v378
  let v380 : Index := Scalar.indexCast v379
  ![v380.toNat]
def k0_mult47 (i : grid0.Coords) (v23 : BitVec 32) (k0_t4 : Fin (k0_t4_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c512_i32_202 : BitVec 32 := 512#32
  let v388 : BitVec 32 := Scalar.muli v352 c512_i32_202
  v388
def k0_off96 (i : grid0.Coords) (v23 : BitVec 32) (k0_t4 : Fin (k0_t4_loop i v23).trips) : Fin 3 → Nat :=
  let c0_203 : Index := 0#32
  let c0_204 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c512_i32_202 : BitVec 32 := 512#32
  let v388 : BitVec 32 := Scalar.muli v352 c512_i32_202
  let v389 : BitVec 32 := v388
  let v390 : Index := Scalar.indexCast v389
  ![0, 0, v390.toNat]
def k0_off97 (i : grid0.Coords) (v23 : BitVec 32) (k0_t4 : Fin (k0_t4_loop i v23).trips) : Fin 3 → Nat :=
  let c0_215 : Index := 0#32
  let c128_216 : Index := 128#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c512_i32_202 : BitVec 32 := 512#32
  let v388 : BitVec 32 := Scalar.muli v352 c512_i32_202
  let v389 : BitVec 32 := v388
  let v416 : Index := Scalar.indexCast v389
  ![0, 128, v416.toNat]
def k0_mult48 (i : grid0.Coords) (v23 : BitVec 32) (k0_t4 : Fin (k0_t4_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c2_i32_227 : BitVec 32 := 2#32
  let v442 : BitVec 32 := Scalar.addi v352 c2_i32_227
  let c512_i32_228 : BitVec 32 := 512#32
  let v443 : BitVec 32 := Scalar.muli v442 c512_i32_228
  v443
def k0_off98 (i : grid0.Coords) (v23 : BitVec 32) (k0_t4 : Fin (k0_t4_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_250 : BitVec 32 := 1#32
  let v468 : BitVec 32 := Scalar.addi v352 c1_i32_250
  let c16_i32_251 : BitVec 32 := 16#32
  let v469 : BitVec 32 := Scalar.muli v468 c16_i32_251
  let v470 : BitVec 32 := Scalar.addi v4 v469
  let v471 : Index := Scalar.indexCast v470
  ![v471.toNat]
def k0_mult49 (i : grid0.Coords) (v23 : BitVec 32) (k0_t4 : Fin (k0_t4_loop i v23).trips) : BitVec 32 :=
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_249 : BitVec 32 := 1#32
  let v467 : BitVec 32 := Scalar.addi v352 c1_i32_249
  let c512_i32_253 : BitVec 32 := 512#32
  let v479 : BitVec 32 := Scalar.muli v467 c512_i32_253
  v479
def k0_off99 (i : grid0.Coords) (v23 : BitVec 32) (k0_t4 : Fin (k0_t4_loop i v23).trips) : Fin 3 → Nat :=
  let c0_254 : Index := 0#32
  let c0_255 : Index := 0#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_249 : BitVec 32 := 1#32
  let v467 : BitVec 32 := Scalar.addi v352 c1_i32_249
  let c512_i32_253 : BitVec 32 := 512#32
  let v479 : BitVec 32 := Scalar.muli v467 c512_i32_253
  let v480 : BitVec 32 := v479
  let v481 : Index := Scalar.indexCast v480
  ![0, 0, v481.toNat]
def k0_off100 (i : grid0.Coords) (v23 : BitVec 32) (k0_t4 : Fin (k0_t4_loop i v23).trips) : Fin 3 → Nat :=
  let c0_266 : Index := 0#32
  let c128_267 : Index := 128#32
  let c2_i32_177 : BitVec 32 := 2#32
  let c2_i32_76 : BitVec 32 := 2#32
  let c2_i32_47 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_41 : BitVec 32 := 0#32
  let v88 : BitVec 1 := Scalar.cmpi .sgt v62 c0_i32_41
  let v89 : BitVec 32 := Scalar.extui v88
  let c0_i32_42 : BitVec 32 := 0#32
  let v90 : BitVec 1 := Scalar.cmpi .slt v62 c0_i32_42
  let v91 : BitVec 32 := Scalar.extui v90
  let v92 : BitVec 32 := Scalar.subi v89 v91
  let c4_i32_40 : BitVec 32 := 4#32
  let c0_i32_43 : BitVec 32 := 0#32
  let v93 : BitVec 1 := Scalar.cmpi .sgt c4_i32_40 c0_i32_43
  let v94 : BitVec 32 := Scalar.extui v93
  let c0_i32_44 : BitVec 32 := 0#32
  let v95 : BitVec 1 := Scalar.cmpi .slt c4_i32_40 c0_i32_44
  let v96 : BitVec 32 := Scalar.extui v95
  let v97 : BitVec 32 := Scalar.subi v94 v96
  let v98 : BitVec 1 := Scalar.cmpi .ne v92 v97
  let v99 : BitVec 32 := Scalar.remsi v62 c4_i32_40
  let c0_i32_45 : BitVec 32 := 0#32
  let v100 : BitVec 1 := Scalar.cmpi .ne v99 c0_i32_45
  let v101 : BitVec 1 := Scalar.andi v98 v100
  let v87 : BitVec 32 := Scalar.divsi v62 c4_i32_40
  let c1_i32_46 : BitVec 32 := 1#32
  let v102 : BitVec 32 := Scalar.subi v87 c1_i32_46
  let v103 : BitVec 32 := Scalar.select v101 v102 v87
  let v104 : BitVec 32 := Scalar.muli c2_i32_47 v103
  let c0_i32_49 : BitVec 32 := 0#32
  let v106 : BitVec 1 := Scalar.cmpi .sgt v62 c0_i32_49
  let v107 : BitVec 32 := Scalar.extui v106
  let c0_i32_50 : BitVec 32 := 0#32
  let v108 : BitVec 1 := Scalar.cmpi .slt v62 c0_i32_50
  let v109 : BitVec 32 := Scalar.extui v108
  let v110 : BitVec 32 := Scalar.subi v107 v109
  let c2_i32_48 : BitVec 32 := 2#32
  let c0_i32_51 : BitVec 32 := 0#32
  let v111 : BitVec 1 := Scalar.cmpi .sgt c2_i32_48 c0_i32_51
  let v112 : BitVec 32 := Scalar.extui v111
  let c0_i32_52 : BitVec 32 := 0#32
  let v113 : BitVec 1 := Scalar.cmpi .slt c2_i32_48 c0_i32_52
  let v114 : BitVec 32 := Scalar.extui v113
  let v115 : BitVec 32 := Scalar.subi v112 v114
  let v116 : BitVec 1 := Scalar.cmpi .ne v110 v115
  let v117 : BitVec 32 := Scalar.remsi v62 c2_i32_48
  let c0_i32_53 : BitVec 32 := 0#32
  let v118 : BitVec 1 := Scalar.cmpi .ne v117 c0_i32_53
  let v119 : BitVec 1 := Scalar.andi v116 v118
  let v105 : BitVec 32 := Scalar.divsi v62 c2_i32_48
  let c1_i32_54 : BitVec 32 := 1#32
  let v120 : BitVec 32 := Scalar.subi v105 c1_i32_54
  let v121 : BitVec 32 := Scalar.select v119 v120 v105
  let v122 : BitVec 32 := Scalar.subi v121 v104
  let c1_i32_55 : BitVec 32 := 1#32
  let v124 : BitVec 32 := Scalar.divsi v122 c1_i32_55
  let v125 : BitVec 32 := Scalar.muli v124 c1_i32_55
  let v126 : BitVec 32 := Scalar.addi v104 v125
  let c1_i32_57 : BitVec 32 := 1#32
  let arg15 : BitVec 32 := Scf.iv v126 c1_i32_57 k0_t4
  let v166 : BitVec 32 := Scalar.muli c2_i32_76 arg15
  let c1_i32_77 : BitVec 32 := 1#32
  let v167 : BitVec 32 := Scalar.addi v166 c1_i32_77
  let v351 : BitVec 32 := Scalar.muli c2_i32_177 v167
  let v352 : BitVec 32 := Scalar.addi v23 v351
  let c1_i32_249 : BitVec 32 := 1#32
  let v467 : BitVec 32 := Scalar.addi v352 c1_i32_249
  let c512_i32_253 : BitVec 32 := 512#32
  let v479 : BitVec 32 := Scalar.muli v467 c512_i32_253
  let v480 : BitVec 32 := v479
  let v507 : Index := Scalar.indexCast v480
  ![0, 128, v507.toNat]
@[reducible] def k0_t5_loop (i : grid0.Coords) (v23 : BitVec 32) : Scf.Loop 32 :=
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_67 : BitVec 32 := 1#32
  ⟨v146, v151, c1_i32_67⟩
def k0_mult50 (i : grid0.Coords) (v23 : BitVec 32) (k0_t5 : Fin (k0_t5_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c1_i32_77 : BitVec 32 := 1#32
  let v168 : BitVec 32 := Scalar.addi v167 c1_i32_77
  let c512_i32 : BitVec 32 := 512#32
  let v169 : BitVec 32 := Scalar.muli v168 c512_i32
  v169
def k0_off101 (i : grid0.Coords) (v23 : BitVec 32) (k0_t5 : Fin (k0_t5_loop i v23).trips) (c1_i32_77 : BitVec 32) : Fin 3 → Nat :=
  let c0_78 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let v168 : BitVec 32 := Scalar.addi v167 c1_i32_77
  let c512_i32 : BitVec 32 := 512#32
  let v169 : BitVec 32 := Scalar.muli v168 c512_i32
  let v170 : BitVec 32 := v169
  let v171 : Index := Scalar.indexCast v170
  let c0_79 : Index := 0#32
  ![0, v171.toNat, 0]
def k0_off102 (i : grid0.Coords) (v23 : BitVec 32) (k0_t5 : Fin (k0_t5_loop i v23).trips) (c1_i32_77 : BitVec 32) : Fin 3 → Nat :=
  let c0_88 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let v168 : BitVec 32 := Scalar.addi v167 c1_i32_77
  let c512_i32 : BitVec 32 := 512#32
  let v169 : BitVec 32 := Scalar.muli v168 c512_i32
  let v170 : BitVec 32 := v169
  let v182 : Index := Scalar.indexCast v170
  let c256 : Index := 256#32
  ![0, v182.toNat, 256]
def k0_off103 (i : grid0.Coords) (v23 : BitVec 32) (k0_t5 : Fin (k0_t5_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c16_i32_97 : BitVec 32 := 16#32
  let v193 : BitVec 32 := Scalar.muli v167 c16_i32_97
  let v194 : BitVec 32 := Scalar.addi v4 v193
  let v195 : Index := Scalar.indexCast v194
  ![v195.toNat]
def k0_mult51 (i : grid0.Coords) (v23 : BitVec 32) (k0_t5 : Fin (k0_t5_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c512_i32_99 : BitVec 32 := 512#32
  let v203 : BitVec 32 := Scalar.muli v167 c512_i32_99
  v203
def k0_off104 (i : grid0.Coords) (v23 : BitVec 32) (k0_t5 : Fin (k0_t5_loop i v23).trips) : Fin 3 → Nat :=
  let c0_100 : Index := 0#32
  let c0_101 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c512_i32_99 : BitVec 32 := 512#32
  let v203 : BitVec 32 := Scalar.muli v167 c512_i32_99
  let v204 : BitVec 32 := v203
  let v205 : Index := Scalar.indexCast v204
  ![0, 0, v205.toNat]
def k0_off105 (i : grid0.Coords) (v23 : BitVec 32) (k0_t5 : Fin (k0_t5_loop i v23).trips) : Fin 3 → Nat :=
  let c0_112 : Index := 0#32
  let c128 : Index := 128#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c512_i32_99 : BitVec 32 := 512#32
  let v203 : BitVec 32 := Scalar.muli v167 c512_i32_99
  let v204 : BitVec 32 := v203
  let v231 : Index := Scalar.indexCast v204
  ![0, 128, v231.toNat]
def k0_mult52 (i : grid0.Coords) (v23 : BitVec 32) (k0_t5 : Fin (k0_t5_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c2_i32_123 : BitVec 32 := 2#32
  let v257 : BitVec 32 := Scalar.addi v167 c2_i32_123
  let c512_i32_124 : BitVec 32 := 512#32
  let v258 : BitVec 32 := Scalar.muli v257 c512_i32_124
  v258
def k0_off106 (i : grid0.Coords) (v23 : BitVec 32) (k0_t5 : Fin (k0_t5_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c1_i32_146 : BitVec 32 := 1#32
  let v283 : BitVec 32 := Scalar.addi v167 c1_i32_146
  let c16_i32_147 : BitVec 32 := 16#32
  let v284 : BitVec 32 := Scalar.muli v283 c16_i32_147
  let v285 : BitVec 32 := Scalar.addi v4 v284
  let v286 : Index := Scalar.indexCast v285
  ![v286.toNat]
def k0_mult53 (i : grid0.Coords) (v23 : BitVec 32) (k0_t5 : Fin (k0_t5_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c1_i32_145 : BitVec 32 := 1#32
  let v282 : BitVec 32 := Scalar.addi v167 c1_i32_145
  let c512_i32_149 : BitVec 32 := 512#32
  let v294 : BitVec 32 := Scalar.muli v282 c512_i32_149
  v294
def k0_off107 (i : grid0.Coords) (v23 : BitVec 32) (k0_t5 : Fin (k0_t5_loop i v23).trips) : Fin 3 → Nat :=
  let c0_150 : Index := 0#32
  let c0_151 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c1_i32_145 : BitVec 32 := 1#32
  let v282 : BitVec 32 := Scalar.addi v167 c1_i32_145
  let c512_i32_149 : BitVec 32 := 512#32
  let v294 : BitVec 32 := Scalar.muli v282 c512_i32_149
  let v295 : BitVec 32 := v294
  let v296 : Index := Scalar.indexCast v295
  ![0, 0, v296.toNat]
def k0_off108 (i : grid0.Coords) (v23 : BitVec 32) (k0_t5 : Fin (k0_t5_loop i v23).trips) : Fin 3 → Nat :=
  let c0_162 : Index := 0#32
  let c128_163 : Index := 128#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let c1_i32_67 : BitVec 32 := 1#32
  let arg15 : BitVec 32 := Scf.iv v146 c1_i32_67 k0_t5
  let v166 : BitVec 32 := Scalar.muli c2_i32_76 arg15
  let v167 : BitVec 32 := Scalar.addi v23 v166
  let c1_i32_145 : BitVec 32 := 1#32
  let v282 : BitVec 32 := Scalar.addi v167 c1_i32_145
  let c512_i32_149 : BitVec 32 := 512#32
  let v294 : BitVec 32 := Scalar.muli v282 c512_i32_149
  let v295 : BitVec 32 := v294
  let v322 : Index := Scalar.indexCast v295
  ![0, 128, v322.toNat]
@[reducible] def k0_t6_loop (i : grid0.Coords) (v23 : BitVec 32) : Scf.Loop 32 :=
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let v148 : BitVec 32 := Scalar.addi v146 v147
  let c1_i32_68 : BitVec 32 := 1#32
  ⟨v151, v148, c1_i32_68⟩
def k0_mult54 (i : grid0.Coords) (v23 : BitVec 32) (k0_t6 : Fin (k0_t6_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c1_i32_77 : BitVec 32 := 1#32
  let v168 : BitVec 32 := Scalar.addi v167 c1_i32_77
  let c512_i32 : BitVec 32 := 512#32
  let v169 : BitVec 32 := Scalar.muli v168 c512_i32
  v169
def k0_off109 (i : grid0.Coords) (v23 : BitVec 32) (k0_t6 : Fin (k0_t6_loop i v23).trips) (c1_i32_77 : BitVec 32) : Fin 3 → Nat :=
  let c0_78 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let v168 : BitVec 32 := Scalar.addi v167 c1_i32_77
  let c512_i32 : BitVec 32 := 512#32
  let v169 : BitVec 32 := Scalar.muli v168 c512_i32
  let v170 : BitVec 32 := v169
  let v171 : Index := Scalar.indexCast v170
  let c0_79 : Index := 0#32
  ![0, v171.toNat, 0]
def k0_off110 (i : grid0.Coords) (v23 : BitVec 32) (k0_t6 : Fin (k0_t6_loop i v23).trips) (c1_i32_77 : BitVec 32) : Fin 3 → Nat :=
  let c0_88 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let v168 : BitVec 32 := Scalar.addi v167 c1_i32_77
  let c512_i32 : BitVec 32 := 512#32
  let v169 : BitVec 32 := Scalar.muli v168 c512_i32
  let v170 : BitVec 32 := v169
  let v182 : Index := Scalar.indexCast v170
  let c256 : Index := 256#32
  ![0, v182.toNat, 256]
def k0_off111 (i : grid0.Coords) (v23 : BitVec 32) (k0_t6 : Fin (k0_t6_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c16_i32_97 : BitVec 32 := 16#32
  let v193 : BitVec 32 := Scalar.muli v167 c16_i32_97
  let v194 : BitVec 32 := Scalar.addi v4 v193
  let v195 : Index := Scalar.indexCast v194
  ![v195.toNat]
def k0_mult55 (i : grid0.Coords) (v23 : BitVec 32) (k0_t6 : Fin (k0_t6_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c512_i32_99 : BitVec 32 := 512#32
  let v203 : BitVec 32 := Scalar.muli v167 c512_i32_99
  v203
def k0_off112 (i : grid0.Coords) (v23 : BitVec 32) (k0_t6 : Fin (k0_t6_loop i v23).trips) : Fin 3 → Nat :=
  let c0_100 : Index := 0#32
  let c0_101 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c512_i32_99 : BitVec 32 := 512#32
  let v203 : BitVec 32 := Scalar.muli v167 c512_i32_99
  let v204 : BitVec 32 := v203
  let v205 : Index := Scalar.indexCast v204
  ![0, 0, v205.toNat]
def k0_off113 (i : grid0.Coords) (v23 : BitVec 32) (k0_t6 : Fin (k0_t6_loop i v23).trips) : Fin 3 → Nat :=
  let c0_112 : Index := 0#32
  let c128 : Index := 128#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c512_i32_99 : BitVec 32 := 512#32
  let v203 : BitVec 32 := Scalar.muli v167 c512_i32_99
  let v204 : BitVec 32 := v203
  let v231 : Index := Scalar.indexCast v204
  ![0, 128, v231.toNat]
def k0_mult56 (i : grid0.Coords) (v23 : BitVec 32) (k0_t6 : Fin (k0_t6_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c2_i32_123 : BitVec 32 := 2#32
  let v257 : BitVec 32 := Scalar.addi v167 c2_i32_123
  let c512_i32_124 : BitVec 32 := 512#32
  let v258 : BitVec 32 := Scalar.muli v257 c512_i32_124
  v258
def k0_off114 (i : grid0.Coords) (v23 : BitVec 32) (k0_t6 : Fin (k0_t6_loop i v23).trips) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c1_i32_146 : BitVec 32 := 1#32
  let v283 : BitVec 32 := Scalar.addi v167 c1_i32_146
  let c16_i32_147 : BitVec 32 := 16#32
  let v284 : BitVec 32 := Scalar.muli v283 c16_i32_147
  let v285 : BitVec 32 := Scalar.addi v4 v284
  let v286 : Index := Scalar.indexCast v285
  ![v286.toNat]
def k0_mult57 (i : grid0.Coords) (v23 : BitVec 32) (k0_t6 : Fin (k0_t6_loop i v23).trips) : BitVec 32 :=
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c1_i32_145 : BitVec 32 := 1#32
  let v282 : BitVec 32 := Scalar.addi v167 c1_i32_145
  let c512_i32_149 : BitVec 32 := 512#32
  let v294 : BitVec 32 := Scalar.muli v282 c512_i32_149
  v294
def k0_off115 (i : grid0.Coords) (v23 : BitVec 32) (k0_t6 : Fin (k0_t6_loop i v23).trips) : Fin 3 → Nat :=
  let c0_150 : Index := 0#32
  let c0_151 : Index := 0#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c1_i32_145 : BitVec 32 := 1#32
  let v282 : BitVec 32 := Scalar.addi v167 c1_i32_145
  let c512_i32_149 : BitVec 32 := 512#32
  let v294 : BitVec 32 := Scalar.muli v282 c512_i32_149
  let v295 : BitVec 32 := v294
  let v296 : Index := Scalar.indexCast v295
  ![0, 0, v296.toNat]
def k0_off116 (i : grid0.Coords) (v23 : BitVec 32) (k0_t6 : Fin (k0_t6_loop i v23).trips) : Fin 3 → Nat :=
  let c0_162 : Index := 0#32
  let c128_163 : Index := 128#32
  let c2_i32_76 : BitVec 32 := 2#32
  let c2_i32_65 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let c0_i32_59 : BitVec 32 := 0#32
  let v130 : BitVec 1 := Scalar.cmpi .sgt v62 c0_i32_59
  let v131 : BitVec 32 := Scalar.extui v130
  let c0_i32_60 : BitVec 32 := 0#32
  let v132 : BitVec 1 := Scalar.cmpi .slt v62 c0_i32_60
  let v133 : BitVec 32 := Scalar.extui v132
  let v134 : BitVec 32 := Scalar.subi v131 v133
  let c2_i32_58 : BitVec 32 := 2#32
  let c0_i32_61 : BitVec 32 := 0#32
  let v135 : BitVec 1 := Scalar.cmpi .sgt c2_i32_58 c0_i32_61
  let v136 : BitVec 32 := Scalar.extui v135
  let c0_i32_62 : BitVec 32 := 0#32
  let v137 : BitVec 1 := Scalar.cmpi .slt c2_i32_58 c0_i32_62
  let v138 : BitVec 32 := Scalar.extui v137
  let v139 : BitVec 32 := Scalar.subi v136 v138
  let v140 : BitVec 1 := Scalar.cmpi .ne v134 v139
  let v141 : BitVec 32 := Scalar.remsi v62 c2_i32_58
  let c0_i32_63 : BitVec 32 := 0#32
  let v142 : BitVec 1 := Scalar.cmpi .ne v141 c0_i32_63
  let v143 : BitVec 1 := Scalar.andi v140 v142
  let v129 : BitVec 32 := Scalar.divsi v62 c2_i32_58
  let c1_i32_64 : BitVec 32 := 1#32
  let v144 : BitVec 32 := Scalar.subi v129 c1_i32_64
  let v145 : BitVec 32 := Scalar.select v143 v144 v129
  let v146 : BitVec 32 := Scalar.muli c2_i32_65 v145
  let v147 : BitVec 32 := Scalar.subi v62 v146
  let c1_i32_66 : BitVec 32 := 1#32
  let v149 : BitVec 32 := Scalar.divsi v147 c1_i32_66
  let v150 : BitVec 32 := Scalar.muli v149 c1_i32_66
  let v151 : BitVec 32 := Scalar.addi v146 v150
  let c1_i32_68 : BitVec 32 := 1#32
  let arg15 : BitVec 32 := Scf.iv v151 c1_i32_68 k0_t6
  let v166 : BitVec 32 := Scalar.muli c2_i32_76 arg15
  let v167 : BitVec 32 := Scalar.addi v23 v166
  let c1_i32_145 : BitVec 32 := 1#32
  let v282 : BitVec 32 := Scalar.addi v167 c1_i32_145
  let c512_i32_149 : BitVec 32 := 512#32
  let v294 : BitVec 32 := Scalar.muli v282 c512_i32_149
  let v295 : BitVec 32 := v294
  let v322 : Index := Scalar.indexCast v295
  ![0, 128, v322.toNat]
def k0_mult58 (i : grid0.Coords) (v23 : BitVec 32) : BitVec 32 :=
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_76 : BitVec 32 := 1#32
  let v166 : BitVec 32 := Scalar.addi v155 c1_i32_76
  let c512_i32 : BitVec 32 := 512#32
  let v167 : BitVec 32 := Scalar.muli v166 c512_i32
  v167
def k0_cond2 (i : grid0.Coords) (v23 : BitVec 32) : BitVec 1 :=
  let arg2 : BitVec 32 := BitVec.ofNat 32 (i 2).val
  let v24 : BitVec 32 := Scalar.subi arg2 v23
  let c2_i32_70 : BitVec 32 := 2#32
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v156 : BitVec 32 := Scalar.muli c2_i32_70 v62
  let v157 : BitVec 32 := Scalar.subi v24 v156
  let c2_i32_71 : BitVec 32 := 2#32
  let v158 : BitVec 1 := Scalar.cmpi .eq v157 c2_i32_71
  let v159 : BitVec 32 := Scalar.extui v158
  let c0_i32_72 : BitVec 32 := 0#32
  let v160 : BitVec 1 := Scalar.cmpi .ne v159 c0_i32_72
  v160

def k0_off117 (i : grid0.Coords) (v23 : BitVec 32) : Fin 3 → Nat :=
  let c0_77 : Index := 0#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_76 : BitVec 32 := 1#32
  let v166 : BitVec 32 := Scalar.addi v155 c1_i32_76
  let c512_i32 : BitVec 32 := 512#32
  let v167 : BitVec 32 := Scalar.muli v166 c512_i32
  let v168 : BitVec 32 := v167
  let v169 : Index := Scalar.indexCast v168
  let c0_78 : Index := 0#32
  ![0, v169.toNat, 0]
def k0_off118 (i : grid0.Coords) (v23 : BitVec 32) : Fin 3 → Nat :=
  let c0_87 : Index := 0#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_76 : BitVec 32 := 1#32
  let v166 : BitVec 32 := Scalar.addi v155 c1_i32_76
  let c512_i32 : BitVec 32 := 512#32
  let v167 : BitVec 32 := Scalar.muli v166 c512_i32
  let v168 : BitVec 32 := v167
  let v180 : Index := Scalar.indexCast v168
  let c256 : Index := 256#32
  ![0, v180.toNat, 256]
def k0_off119 (i : grid0.Coords) (v23 : BitVec 32) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c16_i32_96 : BitVec 32 := 16#32
  let v191 : BitVec 32 := Scalar.muli v155 c16_i32_96
  let v192 : BitVec 32 := Scalar.addi v4 v191
  let v193 : Index := Scalar.indexCast v192
  ![v193.toNat]
def k0_mult59 (i : grid0.Coords) (v23 : BitVec 32) : BitVec 32 :=
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c512_i32_98 : BitVec 32 := 512#32
  let v201 : BitVec 32 := Scalar.muli v155 c512_i32_98
  v201
def k0_off120 (i : grid0.Coords) (v23 : BitVec 32) : Fin 3 → Nat :=
  let c0_99 : Index := 0#32
  let c0_100 : Index := 0#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c512_i32_98 : BitVec 32 := 512#32
  let v201 : BitVec 32 := Scalar.muli v155 c512_i32_98
  let v202 : BitVec 32 := v201
  let v203 : Index := Scalar.indexCast v202
  ![0, 0, v203.toNat]
def k0_off121 (i : grid0.Coords) (v23 : BitVec 32) : Fin 3 → Nat :=
  let c0_111 : Index := 0#32
  let c128 : Index := 128#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c512_i32_98 : BitVec 32 := 512#32
  let v201 : BitVec 32 := Scalar.muli v155 c512_i32_98
  let v202 : BitVec 32 := v201
  let v229 : Index := Scalar.indexCast v202
  ![0, 128, v229.toNat]
def k0_mult60 (i : grid0.Coords) : BitVec 32 :=
  let arg2 : BitVec 32 := BitVec.ofNat 32 (i 2).val
  let c512_i32_122 : BitVec 32 := 512#32
  let v255 : BitVec 32 := Scalar.muli arg2 c512_i32_122
  v255
def k0_off122 (i : grid0.Coords) : Fin 3 → Nat :=
  let c0_123 : Index := 0#32
  let arg2 : BitVec 32 := BitVec.ofNat 32 (i 2).val
  let c512_i32_122 : BitVec 32 := 512#32
  let v255 : BitVec 32 := Scalar.muli arg2 c512_i32_122
  let v256 : BitVec 32 := v255
  let v257 : Index := Scalar.indexCast v256
  let c0_124 : Index := 0#32
  ![0, v257.toNat, 0]
def k0_off123 (i : grid0.Coords) : Fin 3 → Nat :=
  let c0_134 : Index := 0#32
  let arg2 : BitVec 32 := BitVec.ofNat 32 (i 2).val
  let c512_i32_122 : BitVec 32 := 512#32
  let v255 : BitVec 32 := Scalar.muli arg2 c512_i32_122
  let v256 : BitVec 32 := v255
  let v271 : Index := Scalar.indexCast v256
  let c256_135 : Index := 256#32
  ![0, v271.toNat, 256]
def k0_off124 (i : grid0.Coords) (v23 : BitVec 32) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_146 : BitVec 32 := 1#32
  let v286 : BitVec 32 := Scalar.addi v155 c1_i32_146
  let c16_i32_147 : BitVec 32 := 16#32
  let v287 : BitVec 32 := Scalar.muli v286 c16_i32_147
  let v288 : BitVec 32 := Scalar.addi v4 v287
  let v289 : Index := Scalar.indexCast v288
  ![v289.toNat]
def k0_mult61 (i : grid0.Coords) (v23 : BitVec 32) : BitVec 32 :=
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_145 : BitVec 32 := 1#32
  let v285 : BitVec 32 := Scalar.addi v155 c1_i32_145
  let c512_i32_149 : BitVec 32 := 512#32
  let v297 : BitVec 32 := Scalar.muli v285 c512_i32_149
  v297
def k0_off125 (i : grid0.Coords) (v23 : BitVec 32) : Fin 3 → Nat :=
  let c0_150 : Index := 0#32
  let c0_151 : Index := 0#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_145 : BitVec 32 := 1#32
  let v285 : BitVec 32 := Scalar.addi v155 c1_i32_145
  let c512_i32_149 : BitVec 32 := 512#32
  let v297 : BitVec 32 := Scalar.muli v285 c512_i32_149
  let v298 : BitVec 32 := v297
  let v299 : Index := Scalar.indexCast v298
  ![0, 0, v299.toNat]
def k0_off126 (i : grid0.Coords) (v23 : BitVec 32) : Fin 3 → Nat :=
  let c0_162 : Index := 0#32
  let c128_163 : Index := 128#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_145 : BitVec 32 := 1#32
  let v285 : BitVec 32 := Scalar.addi v155 c1_i32_145
  let c512_i32_149 : BitVec 32 := 512#32
  let v297 : BitVec 32 := Scalar.muli v285 c512_i32_149
  let v298 : BitVec 32 := v297
  let v325 : Index := Scalar.indexCast v298
  ![0, 128, v325.toNat]
def k0_mult62 (i : grid0.Coords) : BitVec 32 :=
  let arg2 : BitVec 32 := BitVec.ofNat 32 (i 2).val
  let c512_i32_174 : BitVec 32 := 512#32
  let v351 : BitVec 32 := Scalar.muli arg2 c512_i32_174
  v351
def k0_off127 (i : grid0.Coords) : Fin 3 → Nat :=
  let c0_175 : Index := 0#32
  let c0_176 : Index := 0#32
  let arg2 : BitVec 32 := BitVec.ofNat 32 (i 2).val
  let c512_i32_174 : BitVec 32 := 512#32
  let v351 : BitVec 32 := Scalar.muli arg2 c512_i32_174
  let v352 : BitVec 32 := v351
  let v353 : Index := Scalar.indexCast v352
  ![0, 0, v353.toNat]
def k0_off128 (i : grid0.Coords) : Fin 3 → Nat :=
  let c0_189 : Index := 0#32
  let c128_190 : Index := 128#32
  let arg2 : BitVec 32 := BitVec.ofNat 32 (i 2).val
  let c512_i32_174 : BitVec 32 := 512#32
  let v351 : BitVec 32 := Scalar.muli arg2 c512_i32_174
  let v352 : BitVec 32 := v351
  let v379 : Index := Scalar.indexCast v352
  ![0, 128, v379.toNat]
def k0_off129 (i : grid0.Coords) : Fin 1 → Nat :=
  let arg0 : BitVec 32 := BitVec.ofNat 32 (i 0).val
  let c4_i32 : BitVec 32 := 4#32
  let v18 : BitVec 32 := Scalar.muli arg0 c4_i32
  let arg1 : BitVec 32 := BitVec.ofNat 32 (i 1).val
  let v19 : BitVec 32 := Scalar.addi v18 arg1
  let c33_i32_5 : BitVec 32 := 33#32
  let v20 : BitVec 32 := Scalar.muli v19 c33_i32_5
  let arg2 : BitVec 32 := BitVec.ofNat 32 (i 2).val
  let c1_i32_203 : BitVec 32 := 1#32
  let v405 : BitVec 32 := Scalar.addi arg2 c1_i32_203
  let c32_i32 : BitVec 32 := 32#32
  let v406 : BitVec 32 := Scalar.minsi v405 c32_i32
  let v407 : BitVec 32 := Scalar.addi v20 v406
  let v408 : Index := Scalar.indexCast v407
  ![v408.toNat]
def k0_mult63 (v409 : BitVec 32) : BitVec 32 :=
  let c512_i32_204 : BitVec 32 := 512#32
  let v410 : BitVec 32 := Scalar.muli v409 c512_i32_204
  v410

def k0_off130 (v409 : BitVec 32) : Fin 3 → Nat :=
  let c0_205 : Index := 0#32
  let c512_i32_204 : BitVec 32 := 512#32
  let v410 : BitVec 32 := Scalar.muli v409 c512_i32_204
  let v411 : BitVec 32 := v410
  let v412 : Index := Scalar.indexCast v411
  let c0_206 : Index := 0#32
  ![0, v412.toNat, 0]
def k0_off131 (v409 : BitVec 32) : Fin 3 → Nat :=
  let c0_215 : Index := 0#32
  let c512_i32_204 : BitVec 32 := 512#32
  let v410 : BitVec 32 := Scalar.muli v409 c512_i32_204
  let v411 : BitVec 32 := v410
  let v423 : Index := Scalar.indexCast v411
  let c256_216 : Index := 256#32
  ![0, v423.toNat, 256]

def k0_chk2 (i : grid0.Coords) (v23 : BitVec 32) (v409 : BitVec 32) : Prop :=
  (∀ (k0_h2 : k0_cond2 i v23 = 1#1), 512 ∣ (k0_mult63 v409).toNat) ∧
  (∀ (k0_h2 : k0_cond2 i v23 = 1#1), ∀ a, (k0_off130 v409) a + S1x512x256.size a ≤ S1x16896x512.size a) ∧
  (∀ (k0_h2 : k0_cond2 i v23 = 1#1), ∀ a, (k0_off131 v409) a + S1x512x256.size a ≤ S1x16896x512.size a)
theorem k0_mult63_dvd : ∀ (i : grid0.Coords) (v23 : BitVec 32) (v409 : BitVec 32) (k0_hw2 : k0_chk2 i v23 v409), ∀ (k0_h2 : k0_cond2 i v23 = 1#1), 512 ∣ (k0_mult63 v409).toNat := fun i v23 v409 k0_hw2 k0_h2 => k0_hw2.1 k0_h2
theorem k0_off130_inb : ∀ (i : grid0.Coords) (v23 : BitVec 32) (v409 : BitVec 32) (k0_hw2 : k0_chk2 i v23 v409), ∀ (k0_h2 : k0_cond2 i v23 = 1#1), ∀ a, (k0_off130 v409) a + S1x512x256.size a ≤ S1x16896x512.size a := fun i v23 v409 k0_hw2 k0_h2 => k0_hw2.2.1 k0_h2
theorem k0_off131_inb : ∀ (i : grid0.Coords) (v23 : BitVec 32) (v409 : BitVec 32) (k0_hw2 : k0_chk2 i v23 v409), ∀ (k0_h2 : k0_cond2 i v23 = 1#1), ∀ a, (k0_off131 v409) a + S1x512x256.size a ≤ S1x16896x512.size a := fun i v23 v409 k0_hw2 k0_h2 => k0_hw2.2.2 k0_h2

def k0_mult64 (i : grid0.Coords) : BitVec 32 :=
  let arg2 : BitVec 32 := BitVec.ofNat 32 (i 2).val
  let c512_i32 : BitVec 32 := 512#32
  let v166 : BitVec 32 := Scalar.muli arg2 c512_i32
  v166
def k0_off132 (i : grid0.Coords) : Fin 3 → Nat :=
  let c0_76 : Index := 0#32
  let arg2 : BitVec 32 := BitVec.ofNat 32 (i 2).val
  let c512_i32 : BitVec 32 := 512#32
  let v166 : BitVec 32 := Scalar.muli arg2 c512_i32
  let v167 : BitVec 32 := v166
  let v168 : Index := Scalar.indexCast v167
  let c0_77 : Index := 0#32
  ![0, v168.toNat, 0]
def k0_off133 (i : grid0.Coords) : Fin 3 → Nat :=
  let c0_87 : Index := 0#32
  let arg2 : BitVec 32 := BitVec.ofNat 32 (i 2).val
  let c512_i32 : BitVec 32 := 512#32
  let v166 : BitVec 32 := Scalar.muli arg2 c512_i32
  let v167 : BitVec 32 := v166
  let v182 : Index := Scalar.indexCast v167
  let c256 : Index := 256#32
  ![0, v182.toNat, 256]
def k0_off134 (i : grid0.Coords) (v23 : BitVec 32) (c0_i32 : BitVec 32) : Fin 1 → Nat :=
  let arg0 : BitVec 32 := BitVec.ofNat 32 (i 0).val
  let c33_i32 : BitVec 32 := 33#32
  let v0 : BitVec 32 := Scalar.muli arg0 c33_i32
  let c16_i32 : BitVec 32 := 16#32
  let v1 : BitVec 32 := Scalar.muli v0 c16_i32
  let arg1 : BitVec 32 := BitVec.ofNat 32 (i 1).val
  let c2_i32 : BitVec 32 := 2#32
  let v2 : BitVec 32 := Scalar.muli arg1 c2_i32
  let v3 : BitVec 32 := Scalar.addi v1 v2
  let v4 : BitVec 32 := Scalar.addi v3 c0_i32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_6 : BitVec 32 := 1#32
  let v25 : BitVec 32 := Scalar.subi v24 c1_i32_6
  let c0_i32_7 : BitVec 32 := 0#32
  let v26 : BitVec 32 := Scalar.maxsi v25 c0_i32_7
  let v27 : BitVec 32 := Scalar.addi v23 v26
  let v197 : BitVec 32 := Scalar.minsi v155 v27
  let c16_i32_97 : BitVec 32 := 16#32
  let v198 : BitVec 32 := Scalar.muli v197 c16_i32_97
  let v199 : BitVec 32 := Scalar.addi v4 v198
  let v200 : Index := Scalar.indexCast v199
  ![v200.toNat]
def k0_cond3 (i : grid0.Coords) (v23 : BitVec 32) : BitVec 1 :=
  let arg2 : BitVec 32 := BitVec.ofNat 32 (i 2).val
  let v24 : BitVec 32 := Scalar.subi arg2 v23
  let c2_i32_73 : BitVec 32 := 2#32
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v161 : BitVec 32 := Scalar.muli c2_i32_73 v62
  let v162 : BitVec 32 := Scalar.subi v24 v161
  let c2_i32_74 : BitVec 32 := 2#32
  let v163 : BitVec 1 := Scalar.cmpi .slt v162 c2_i32_74
  let v164 : BitVec 32 := Scalar.extui v163
  let c0_i32_75 : BitVec 32 := 0#32
  let v165 : BitVec 1 := Scalar.cmpi .ne v164 c0_i32_75
  v165

def k0_mult65 (i : grid0.Coords) (v23 : BitVec 32) : BitVec 32 :=
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_6 : BitVec 32 := 1#32
  let v25 : BitVec 32 := Scalar.subi v24 c1_i32_6
  let c0_i32_7 : BitVec 32 := 0#32
  let v26 : BitVec 32 := Scalar.maxsi v25 c0_i32_7
  let v27 : BitVec 32 := Scalar.addi v23 v26
  let v196 : BitVec 32 := Scalar.minsi v155 v27
  let c512_i32_101 : BitVec 32 := 512#32
  let v212 : BitVec 32 := Scalar.muli v196 c512_i32_101
  v212
def k0_off135 (i : grid0.Coords) (v23 : BitVec 32) : Fin 3 → Nat :=
  let c0_102 : Index := 0#32
  let c0_103 : Index := 0#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_6 : BitVec 32 := 1#32
  let v25 : BitVec 32 := Scalar.subi v24 c1_i32_6
  let c0_i32_7 : BitVec 32 := 0#32
  let v26 : BitVec 32 := Scalar.maxsi v25 c0_i32_7
  let v27 : BitVec 32 := Scalar.addi v23 v26
  let v196 : BitVec 32 := Scalar.minsi v155 v27
  let c512_i32_101 : BitVec 32 := 512#32
  let v212 : BitVec 32 := Scalar.muli v196 c512_i32_101
  let v213 : BitVec 32 := v212
  let v214 : Index := Scalar.indexCast v213
  ![0, 0, v214.toNat]
def k0_off136 (i : grid0.Coords) (v23 : BitVec 32) : Fin 3 → Nat :=
  let c0_114 : Index := 0#32
  let c128 : Index := 128#32
  let c2_i32_69 : BitVec 32 := 2#32
  let arg2 : BitVec 32 := BitVec.ofNat 32 (i 2).val
  let v24 : BitVec 32 := Scalar.subi arg2 v23
  let c1_i32_20 : BitVec 32 := 1#32
  let v44 : BitVec 32 := Scalar.subi v24 c1_i32_20
  let c0_i32_22 : BitVec 32 := 0#32
  let v46 : BitVec 1 := Scalar.cmpi .sgt v44 c0_i32_22
  let v47 : BitVec 32 := Scalar.extui v46
  let c0_i32_23 : BitVec 32 := 0#32
  let v48 : BitVec 1 := Scalar.cmpi .slt v44 c0_i32_23
  let v49 : BitVec 32 := Scalar.extui v48
  let v50 : BitVec 32 := Scalar.subi v47 v49
  let c2_i32_21 : BitVec 32 := 2#32
  let c0_i32_24 : BitVec 32 := 0#32
  let v51 : BitVec 1 := Scalar.cmpi .sgt c2_i32_21 c0_i32_24
  let v52 : BitVec 32 := Scalar.extui v51
  let c0_i32_25 : BitVec 32 := 0#32
  let v53 : BitVec 1 := Scalar.cmpi .slt c2_i32_21 c0_i32_25
  let v54 : BitVec 32 := Scalar.extui v53
  let v55 : BitVec 32 := Scalar.subi v52 v54
  let v56 : BitVec 1 := Scalar.cmpi .ne v50 v55
  let v57 : BitVec 32 := Scalar.remsi v44 c2_i32_21
  let c0_i32_26 : BitVec 32 := 0#32
  let v58 : BitVec 1 := Scalar.cmpi .ne v57 c0_i32_26
  let v59 : BitVec 1 := Scalar.andi v56 v58
  let v45 : BitVec 32 := Scalar.divsi v44 c2_i32_21
  let c1_i32_27 : BitVec 32 := 1#32
  let v60 : BitVec 32 := Scalar.subi v45 c1_i32_27
  let v61 : BitVec 32 := Scalar.select v59 v60 v45
  let c0_i32_28 : BitVec 32 := 0#32
  let v62 : BitVec 32 := Scalar.maxsi v61 c0_i32_28
  let v154 : BitVec 32 := Scalar.muli c2_i32_69 v62
  let v155 : BitVec 32 := Scalar.addi v23 v154
  let c1_i32_6 : BitVec 32 := 1#32
  let v25 : BitVec 32 := Scalar.subi v24 c1_i32_6
  let c0_i32_7 : BitVec 32 := 0#32
  let v26 : BitVec 32 := Scalar.maxsi v25 c0_i32_7
  let v27 : BitVec 32 := Scalar.addi v23 v26
  let v196 : BitVec 32 := Scalar.minsi v155 v27
  let c512_i32_101 : BitVec 32 := 512#32
  let v212 : BitVec 32 := Scalar.muli v196 c512_i32_101
  let v213 : BitVec 32 := v212
  let v240 : Index := Scalar.indexCast v213
  ![0, 128, v240.toNat]

def k0_chk1_0 (i : grid0.Coords) (v23 : BitVec 32) : Prop :=
  (∀ (k0_h1 : k0_cond1 i = 1#1), 512 ∣ (k0_mult1 v23).toNat) ∧
  (∀ (k0_h1 : k0_cond1 i = 1#1), ∀ a, (k0_off3 v23) a + S1x512x256.size a ≤ S1x16896x512.size a) ∧
  (∀ (k0_h1 : k0_cond1 i = 1#1), ∀ a, (k0_off4 v23) a + S1x512x256.size a ≤ S1x16896x512.size a) ∧
  ((k0_t1_loop i v23).OK) ∧
  (∀ k0_t1 : Fin (k0_t1_loop i v23).trips, 512 ∣ (k0_mult2 i v23 k0_t1).toNat) ∧
  (∀ k0_t1 : Fin (k0_t1_loop i v23).trips, ∀ (r : Fin 2), ∀ a, (k0_off5 i v23 k0_t1 (BitVec.ofNat 32 (1 + r.val))) a + S1x512x256.size a ≤ S1x16896x512.size a) ∧
  (∀ k0_t1 : Fin (k0_t1_loop i v23).trips, ∀ (r : Fin 2), ∀ a, (k0_off6 i v23 k0_t1 (BitVec.ofNat 32 (1 + r.val))) a + S1x512x256.size a ≤ S1x16896x512.size a) ∧
  (∀ k0_t1 : Fin (k0_t1_loop i v23).trips, ∀ (r : Fin 2), ∀ a, (k0_off7 i v23 k0_t1 (BitVec.ofNat 32 r.val)) a + S1.size a ≤ S1056.size a) ∧
  (∀ k0_t1 : Fin (k0_t1_loop i v23).trips, 512 ∣ (k0_mult3 i v23 k0_t1).toNat) ∧
  (∀ k0_t1 : Fin (k0_t1_loop i v23).trips, ∀ a, (k0_off8 i v23 k0_t1) a + S1x128x512.size a ≤ S1x256x16896.size a) ∧
  (∀ k0_t1 : Fin (k0_t1_loop i v23).trips, ∀ a, (k0_off9 i v23 k0_t1) a + S1x128x512.size a ≤ S1x256x16896.size a) ∧
  (∀ k0_t1 : Fin (k0_t1_loop i v23).trips, 512 ∣ (k0_mult4 i v23 k0_t1).toNat) ∧
  (∀ k0_t1 : Fin (k0_t1_loop i v23).trips, ∀ (r : Fin 2), ∀ a, (k0_off10 i v23 k0_t1 (BitVec.ofNat 32 r.val)) a + S1.size a ≤ S1056.size a) ∧
  (∀ k0_t1 : Fin (k0_t1_loop i v23).trips, 512 ∣ (k0_mult5 i v23 k0_t1).toNat) ∧
  (∀ k0_t1 : Fin (k0_t1_loop i v23).trips, ∀ a, (k0_off11 i v23 k0_t1) a + S1x128x512.size a ≤ S1x256x16896.size a) ∧
  (∀ k0_t1 : Fin (k0_t1_loop i v23).trips, ∀ a, (k0_off12 i v23 k0_t1) a + S1x128x512.size a ≤ S1x256x16896.size a) ∧
  (∀ k0_t1 : Fin (k0_t1_loop i v23).trips, 512 ∣ (k0_mult6 i v23 k0_t1).toNat) ∧
  (∀ k0_t1 : Fin (k0_t1_loop i v23).trips, ∀ (r : Fin 2), ∀ a, (k0_off13 i v23 k0_t1 (BitVec.ofNat 32 (1 + r.val))) a + S1x512x256.size a ≤ S1x16896x512.size a) ∧
  (∀ k0_t1 : Fin (k0_t1_loop i v23).trips, ∀ (r : Fin 2), ∀ a, (k0_off14 i v23 k0_t1 (BitVec.ofNat 32 (1 + r.val))) a + S1x512x256.size a ≤ S1x16896x512.size a) ∧
  (∀ k0_t1 : Fin (k0_t1_loop i v23).trips, ∀ (r : Fin 2), ∀ a, (k0_off15 i v23 k0_t1 (BitVec.ofNat 32 r.val)) a + S1.size a ≤ S1056.size a) ∧
  (∀ k0_t1 : Fin (k0_t1_loop i v23).trips, 512 ∣ (k0_mult7 i v23 k0_t1).toNat) ∧
  (∀ k0_t1 : Fin (k0_t1_loop i v23).trips, ∀ a, (k0_off16 i v23 k0_t1) a + S1x128x512.size a ≤ S1x256x16896.size a) ∧
  (∀ k0_t1 : Fin (k0_t1_loop i v23).trips, ∀ a, (k0_off17 i v23 k0_t1) a + S1x128x512.size a ≤ S1x256x16896.size a) ∧
  (∀ k0_t1 : Fin (k0_t1_loop i v23).trips, 512 ∣ (k0_mult8 i v23 k0_t1).toNat) ∧
  (∀ k0_t1 : Fin (k0_t1_loop i v23).trips, ∀ (r : Fin 2), ∀ a, (k0_off18 i v23 k0_t1 (BitVec.ofNat 32 r.val)) a + S1.size a ≤ S1056.size a) ∧
  (∀ k0_t1 : Fin (k0_t1_loop i v23).trips, 512 ∣ (k0_mult9 i v23 k0_t1).toNat) ∧
  (∀ k0_t1 : Fin (k0_t1_loop i v23).trips, ∀ a, (k0_off19 i v23 k0_t1) a + S1x128x512.size a ≤ S1x256x16896.size a) ∧
  (∀ k0_t1 : Fin (k0_t1_loop i v23).trips, ∀ a, (k0_off20 i v23 k0_t1) a + S1x128x512.size a ≤ S1x256x16896.size a) ∧
  (∀ k0_t1 : Fin (k0_t1_loop i v23).trips, 512 ∣ (k0_mult10 i v23 k0_t1).toNat) ∧
  (∀ k0_t1 : Fin (k0_t1_loop i v23).trips, ∀ (r : Fin 2), ∀ a, (k0_off21 i v23 k0_t1 (BitVec.ofNat 32 (1 + r.val))) a + S1x512x256.size a ≤ S1x16896x512.size a) ∧
  (∀ k0_t1 : Fin (k0_t1_loop i v23).trips, ∀ (r : Fin 2), ∀ a, (k0_off22 i v23 k0_t1 (BitVec.ofNat 32 (1 + r.val))) a + S1x512x256.size a ≤ S1x16896x512.size a) ∧
  (∀ k0_t1 : Fin (k0_t1_loop i v23).trips, ∀ (r : Fin 2), ∀ a, (k0_off23 i v23 k0_t1 (BitVec.ofNat 32 r.val)) a + S1.size a ≤ S1056.size a)
def k0_chk1_1 (i : grid0.Coords) (v23 : BitVec 32) : Prop :=
  (∀ k0_t1 : Fin (k0_t1_loop i v23).trips, 512 ∣ (k0_mult11 i v23 k0_t1).toNat) ∧
  (∀ k0_t1 : Fin (k0_t1_loop i v23).trips, ∀ a, (k0_off24 i v23 k0_t1) a + S1x128x512.size a ≤ S1x256x16896.size a) ∧
  (∀ k0_t1 : Fin (k0_t1_loop i v23).trips, ∀ a, (k0_off25 i v23 k0_t1) a + S1x128x512.size a ≤ S1x256x16896.size a) ∧
  (∀ k0_t1 : Fin (k0_t1_loop i v23).trips, 512 ∣ (k0_mult12 i v23 k0_t1).toNat) ∧
  (∀ k0_t1 : Fin (k0_t1_loop i v23).trips, ∀ (r : Fin 2), ∀ a, (k0_off26 i v23 k0_t1 (BitVec.ofNat 32 r.val)) a + S1.size a ≤ S1056.size a) ∧
  (∀ k0_t1 : Fin (k0_t1_loop i v23).trips, 512 ∣ (k0_mult13 i v23 k0_t1).toNat) ∧
  (∀ k0_t1 : Fin (k0_t1_loop i v23).trips, ∀ a, (k0_off27 i v23 k0_t1) a + S1x128x512.size a ≤ S1x256x16896.size a) ∧
  (∀ k0_t1 : Fin (k0_t1_loop i v23).trips, ∀ a, (k0_off28 i v23 k0_t1) a + S1x128x512.size a ≤ S1x256x16896.size a) ∧
  (∀ k0_t1 : Fin (k0_t1_loop i v23).trips, 512 ∣ (k0_mult14 i v23 k0_t1).toNat) ∧
  (∀ k0_t1 : Fin (k0_t1_loop i v23).trips, ∀ (r : Fin 2), ∀ a, (k0_off29 i v23 k0_t1 (BitVec.ofNat 32 (1 + r.val))) a + S1x512x256.size a ≤ S1x16896x512.size a) ∧
  (∀ k0_t1 : Fin (k0_t1_loop i v23).trips, ∀ (r : Fin 2), ∀ a, (k0_off30 i v23 k0_t1 (BitVec.ofNat 32 (1 + r.val))) a + S1x512x256.size a ≤ S1x16896x512.size a) ∧
  (∀ k0_t1 : Fin (k0_t1_loop i v23).trips, ∀ (r : Fin 2), ∀ a, (k0_off31 i v23 k0_t1 (BitVec.ofNat 32 r.val)) a + S1.size a ≤ S1056.size a) ∧
  (∀ k0_t1 : Fin (k0_t1_loop i v23).trips, 512 ∣ (k0_mult15 i v23 k0_t1).toNat) ∧
  (∀ k0_t1 : Fin (k0_t1_loop i v23).trips, ∀ a, (k0_off32 i v23 k0_t1) a + S1x128x512.size a ≤ S1x256x16896.size a) ∧
  (∀ k0_t1 : Fin (k0_t1_loop i v23).trips, ∀ a, (k0_off33 i v23 k0_t1) a + S1x128x512.size a ≤ S1x256x16896.size a) ∧
  (∀ k0_t1 : Fin (k0_t1_loop i v23).trips, 512 ∣ (k0_mult16 i v23 k0_t1).toNat) ∧
  (∀ k0_t1 : Fin (k0_t1_loop i v23).trips, ∀ (r : Fin 2), ∀ a, (k0_off34 i v23 k0_t1 (BitVec.ofNat 32 r.val)) a + S1.size a ≤ S1056.size a) ∧
  (∀ k0_t1 : Fin (k0_t1_loop i v23).trips, 512 ∣ (k0_mult17 i v23 k0_t1).toNat) ∧
  (∀ k0_t1 : Fin (k0_t1_loop i v23).trips, ∀ a, (k0_off35 i v23 k0_t1) a + S1x128x512.size a ≤ S1x256x16896.size a) ∧
  (∀ k0_t1 : Fin (k0_t1_loop i v23).trips, ∀ a, (k0_off36 i v23 k0_t1) a + S1x128x512.size a ≤ S1x256x16896.size a) ∧
  ((k0_t2_loop i v23).OK) ∧
  (∀ k0_t2 : Fin (k0_t2_loop i v23).trips, 512 ∣ (k0_mult18 i v23 k0_t2).toNat) ∧
  (∀ k0_t2 : Fin (k0_t2_loop i v23).trips, ∀ (r : Fin 2), ∀ a, (k0_off37 i v23 k0_t2 (BitVec.ofNat 32 (1 + r.val))) a + S1x512x256.size a ≤ S1x16896x512.size a) ∧
  (∀ k0_t2 : Fin (k0_t2_loop i v23).trips, ∀ (r : Fin 2), ∀ a, (k0_off38 i v23 k0_t2 (BitVec.ofNat 32 (1 + r.val))) a + S1x512x256.size a ≤ S1x16896x512.size a) ∧
  (∀ k0_t2 : Fin (k0_t2_loop i v23).trips, ∀ (r : Fin 2), ∀ a, (k0_off39 i v23 k0_t2 (BitVec.ofNat 32 r.val)) a + S1.size a ≤ S1056.size a) ∧
  (∀ k0_t2 : Fin (k0_t2_loop i v23).trips, 512 ∣ (k0_mult19 i v23 k0_t2).toNat) ∧
  (∀ k0_t2 : Fin (k0_t2_loop i v23).trips, ∀ a, (k0_off40 i v23 k0_t2) a + S1x128x512.size a ≤ S1x256x16896.size a) ∧
  (∀ k0_t2 : Fin (k0_t2_loop i v23).trips, ∀ a, (k0_off41 i v23 k0_t2) a + S1x128x512.size a ≤ S1x256x16896.size a) ∧
  (∀ k0_t2 : Fin (k0_t2_loop i v23).trips, 512 ∣ (k0_mult20 i v23 k0_t2).toNat) ∧
  (∀ k0_t2 : Fin (k0_t2_loop i v23).trips, ∀ (r : Fin 2), ∀ a, (k0_off42 i v23 k0_t2 (BitVec.ofNat 32 r.val)) a + S1.size a ≤ S1056.size a) ∧
  (∀ k0_t2 : Fin (k0_t2_loop i v23).trips, 512 ∣ (k0_mult21 i v23 k0_t2).toNat) ∧
  (∀ k0_t2 : Fin (k0_t2_loop i v23).trips, ∀ a, (k0_off43 i v23 k0_t2) a + S1x128x512.size a ≤ S1x256x16896.size a)
def k0_chk1_2 (i : grid0.Coords) (v23 : BitVec 32) : Prop :=
  (∀ k0_t2 : Fin (k0_t2_loop i v23).trips, ∀ a, (k0_off44 i v23 k0_t2) a + S1x128x512.size a ≤ S1x256x16896.size a) ∧
  (∀ k0_t2 : Fin (k0_t2_loop i v23).trips, 512 ∣ (k0_mult22 i v23 k0_t2).toNat) ∧
  (∀ k0_t2 : Fin (k0_t2_loop i v23).trips, ∀ (r : Fin 2), ∀ a, (k0_off45 i v23 k0_t2 (BitVec.ofNat 32 (1 + r.val))) a + S1x512x256.size a ≤ S1x16896x512.size a) ∧
  (∀ k0_t2 : Fin (k0_t2_loop i v23).trips, ∀ (r : Fin 2), ∀ a, (k0_off46 i v23 k0_t2 (BitVec.ofNat 32 (1 + r.val))) a + S1x512x256.size a ≤ S1x16896x512.size a) ∧
  (∀ k0_t2 : Fin (k0_t2_loop i v23).trips, ∀ (r : Fin 2), ∀ a, (k0_off47 i v23 k0_t2 (BitVec.ofNat 32 r.val)) a + S1.size a ≤ S1056.size a) ∧
  (∀ k0_t2 : Fin (k0_t2_loop i v23).trips, 512 ∣ (k0_mult23 i v23 k0_t2).toNat) ∧
  (∀ k0_t2 : Fin (k0_t2_loop i v23).trips, ∀ a, (k0_off48 i v23 k0_t2) a + S1x128x512.size a ≤ S1x256x16896.size a) ∧
  (∀ k0_t2 : Fin (k0_t2_loop i v23).trips, ∀ a, (k0_off49 i v23 k0_t2) a + S1x128x512.size a ≤ S1x256x16896.size a) ∧
  (∀ k0_t2 : Fin (k0_t2_loop i v23).trips, 512 ∣ (k0_mult24 i v23 k0_t2).toNat) ∧
  (∀ k0_t2 : Fin (k0_t2_loop i v23).trips, ∀ (r : Fin 2), ∀ a, (k0_off50 i v23 k0_t2 (BitVec.ofNat 32 r.val)) a + S1.size a ≤ S1056.size a) ∧
  (∀ k0_t2 : Fin (k0_t2_loop i v23).trips, 512 ∣ (k0_mult25 i v23 k0_t2).toNat) ∧
  (∀ k0_t2 : Fin (k0_t2_loop i v23).trips, ∀ a, (k0_off51 i v23 k0_t2) a + S1x128x512.size a ≤ S1x256x16896.size a) ∧
  (∀ k0_t2 : Fin (k0_t2_loop i v23).trips, ∀ a, (k0_off52 i v23 k0_t2) a + S1x128x512.size a ≤ S1x256x16896.size a) ∧
  (∀ k0_t2 : Fin (k0_t2_loop i v23).trips, 512 ∣ (k0_mult26 i v23 k0_t2).toNat) ∧
  (∀ k0_t2 : Fin (k0_t2_loop i v23).trips, ∀ (r : Fin 2), ∀ a, (k0_off53 i v23 k0_t2 (BitVec.ofNat 32 (1 + r.val))) a + S1x512x256.size a ≤ S1x16896x512.size a) ∧
  (∀ k0_t2 : Fin (k0_t2_loop i v23).trips, ∀ (r : Fin 2), ∀ a, (k0_off54 i v23 k0_t2 (BitVec.ofNat 32 (1 + r.val))) a + S1x512x256.size a ≤ S1x16896x512.size a) ∧
  (∀ k0_t2 : Fin (k0_t2_loop i v23).trips, ∀ (r : Fin 2), ∀ a, (k0_off55 i v23 k0_t2 (BitVec.ofNat 32 r.val)) a + S1.size a ≤ S1056.size a) ∧
  (∀ k0_t2 : Fin (k0_t2_loop i v23).trips, 512 ∣ (k0_mult27 i v23 k0_t2).toNat) ∧
  (∀ k0_t2 : Fin (k0_t2_loop i v23).trips, ∀ a, (k0_off56 i v23 k0_t2) a + S1x128x512.size a ≤ S1x256x16896.size a) ∧
  (∀ k0_t2 : Fin (k0_t2_loop i v23).trips, ∀ a, (k0_off57 i v23 k0_t2) a + S1x128x512.size a ≤ S1x256x16896.size a) ∧
  (∀ k0_t2 : Fin (k0_t2_loop i v23).trips, 512 ∣ (k0_mult28 i v23 k0_t2).toNat) ∧
  (∀ k0_t2 : Fin (k0_t2_loop i v23).trips, ∀ (r : Fin 2), ∀ a, (k0_off58 i v23 k0_t2 (BitVec.ofNat 32 r.val)) a + S1.size a ≤ S1056.size a) ∧
  (∀ k0_t2 : Fin (k0_t2_loop i v23).trips, 512 ∣ (k0_mult29 i v23 k0_t2).toNat) ∧
  (∀ k0_t2 : Fin (k0_t2_loop i v23).trips, ∀ a, (k0_off59 i v23 k0_t2) a + S1x128x512.size a ≤ S1x256x16896.size a) ∧
  (∀ k0_t2 : Fin (k0_t2_loop i v23).trips, ∀ a, (k0_off60 i v23 k0_t2) a + S1x128x512.size a ≤ S1x256x16896.size a) ∧
  (∀ k0_t2 : Fin (k0_t2_loop i v23).trips, 512 ∣ (k0_mult30 i v23 k0_t2).toNat) ∧
  (∀ k0_t2 : Fin (k0_t2_loop i v23).trips, ∀ (r : Fin 2), ∀ a, (k0_off61 i v23 k0_t2 (BitVec.ofNat 32 (1 + r.val))) a + S1x512x256.size a ≤ S1x16896x512.size a) ∧
  (∀ k0_t2 : Fin (k0_t2_loop i v23).trips, ∀ (r : Fin 2), ∀ a, (k0_off62 i v23 k0_t2 (BitVec.ofNat 32 (1 + r.val))) a + S1x512x256.size a ≤ S1x16896x512.size a) ∧
  (∀ k0_t2 : Fin (k0_t2_loop i v23).trips, ∀ (r : Fin 2), ∀ a, (k0_off63 i v23 k0_t2 (BitVec.ofNat 32 r.val)) a + S1.size a ≤ S1056.size a) ∧
  (∀ k0_t2 : Fin (k0_t2_loop i v23).trips, 512 ∣ (k0_mult31 i v23 k0_t2).toNat) ∧
  (∀ k0_t2 : Fin (k0_t2_loop i v23).trips, ∀ a, (k0_off64 i v23 k0_t2) a + S1x128x512.size a ≤ S1x256x16896.size a) ∧
  (∀ k0_t2 : Fin (k0_t2_loop i v23).trips, ∀ a, (k0_off65 i v23 k0_t2) a + S1x128x512.size a ≤ S1x256x16896.size a)
def k0_chk1_3 (i : grid0.Coords) (v23 : BitVec 32) : Prop :=
  (∀ k0_t2 : Fin (k0_t2_loop i v23).trips, 512 ∣ (k0_mult32 i v23 k0_t2).toNat) ∧
  (∀ k0_t2 : Fin (k0_t2_loop i v23).trips, ∀ (r : Fin 2), ∀ a, (k0_off66 i v23 k0_t2 (BitVec.ofNat 32 r.val)) a + S1.size a ≤ S1056.size a) ∧
  (∀ k0_t2 : Fin (k0_t2_loop i v23).trips, 512 ∣ (k0_mult33 i v23 k0_t2).toNat) ∧
  (∀ k0_t2 : Fin (k0_t2_loop i v23).trips, ∀ a, (k0_off67 i v23 k0_t2) a + S1x128x512.size a ≤ S1x256x16896.size a) ∧
  (∀ k0_t2 : Fin (k0_t2_loop i v23).trips, ∀ a, (k0_off68 i v23 k0_t2) a + S1x128x512.size a ≤ S1x256x16896.size a) ∧
  ((k0_t3_loop i v23).OK) ∧
  (∀ k0_t3 : Fin (k0_t3_loop i v23).trips, 512 ∣ (k0_mult34 i v23 k0_t3).toNat) ∧
  (∀ k0_t3 : Fin (k0_t3_loop i v23).trips, ∀ (r : Fin 2), ∀ a, (k0_off69 i v23 k0_t3 (BitVec.ofNat 32 (1 + r.val))) a + S1x512x256.size a ≤ S1x16896x512.size a) ∧
  (∀ k0_t3 : Fin (k0_t3_loop i v23).trips, ∀ (r : Fin 2), ∀ a, (k0_off70 i v23 k0_t3 (BitVec.ofNat 32 (1 + r.val))) a + S1x512x256.size a ≤ S1x16896x512.size a) ∧
  (∀ k0_t3 : Fin (k0_t3_loop i v23).trips, ∀ (r : Fin 2), ∀ a, (k0_off71 i v23 k0_t3 (BitVec.ofNat 32 r.val)) a + S1.size a ≤ S1056.size a) ∧
  (∀ k0_t3 : Fin (k0_t3_loop i v23).trips, 512 ∣ (k0_mult35 i v23 k0_t3).toNat) ∧
  (∀ k0_t3 : Fin (k0_t3_loop i v23).trips, ∀ a, (k0_off72 i v23 k0_t3) a + S1x128x512.size a ≤ S1x256x16896.size a) ∧
  (∀ k0_t3 : Fin (k0_t3_loop i v23).trips, ∀ a, (k0_off73 i v23 k0_t3) a + S1x128x512.size a ≤ S1x256x16896.size a) ∧
  (∀ k0_t3 : Fin (k0_t3_loop i v23).trips, 512 ∣ (k0_mult36 i v23 k0_t3).toNat) ∧
  (∀ k0_t3 : Fin (k0_t3_loop i v23).trips, ∀ (r : Fin 2), ∀ a, (k0_off74 i v23 k0_t3 (BitVec.ofNat 32 r.val)) a + S1.size a ≤ S1056.size a) ∧
  (∀ k0_t3 : Fin (k0_t3_loop i v23).trips, 512 ∣ (k0_mult37 i v23 k0_t3).toNat) ∧
  (∀ k0_t3 : Fin (k0_t3_loop i v23).trips, ∀ a, (k0_off75 i v23 k0_t3) a + S1x128x512.size a ≤ S1x256x16896.size a) ∧
  (∀ k0_t3 : Fin (k0_t3_loop i v23).trips, ∀ a, (k0_off76 i v23 k0_t3) a + S1x128x512.size a ≤ S1x256x16896.size a) ∧
  (∀ k0_t3 : Fin (k0_t3_loop i v23).trips, 512 ∣ (k0_mult38 i v23 k0_t3).toNat) ∧
  (∀ k0_t3 : Fin (k0_t3_loop i v23).trips, ∀ (r : Fin 2), ∀ a, (k0_off77 i v23 k0_t3 (BitVec.ofNat 32 (1 + r.val))) a + S1x512x256.size a ≤ S1x16896x512.size a) ∧
  (∀ k0_t3 : Fin (k0_t3_loop i v23).trips, ∀ (r : Fin 2), ∀ a, (k0_off78 i v23 k0_t3 (BitVec.ofNat 32 (1 + r.val))) a + S1x512x256.size a ≤ S1x16896x512.size a) ∧
  (∀ k0_t3 : Fin (k0_t3_loop i v23).trips, ∀ (r : Fin 2), ∀ a, (k0_off79 i v23 k0_t3 (BitVec.ofNat 32 r.val)) a + S1.size a ≤ S1056.size a) ∧
  (∀ k0_t3 : Fin (k0_t3_loop i v23).trips, 512 ∣ (k0_mult39 i v23 k0_t3).toNat) ∧
  (∀ k0_t3 : Fin (k0_t3_loop i v23).trips, ∀ a, (k0_off80 i v23 k0_t3) a + S1x128x512.size a ≤ S1x256x16896.size a) ∧
  (∀ k0_t3 : Fin (k0_t3_loop i v23).trips, ∀ a, (k0_off81 i v23 k0_t3) a + S1x128x512.size a ≤ S1x256x16896.size a) ∧
  (∀ k0_t3 : Fin (k0_t3_loop i v23).trips, 512 ∣ (k0_mult40 i v23 k0_t3).toNat) ∧
  (∀ k0_t3 : Fin (k0_t3_loop i v23).trips, ∀ (r : Fin 2), ∀ a, (k0_off82 i v23 k0_t3 (BitVec.ofNat 32 r.val)) a + S1.size a ≤ S1056.size a) ∧
  (∀ k0_t3 : Fin (k0_t3_loop i v23).trips, 512 ∣ (k0_mult41 i v23 k0_t3).toNat) ∧
  (∀ k0_t3 : Fin (k0_t3_loop i v23).trips, ∀ a, (k0_off83 i v23 k0_t3) a + S1x128x512.size a ≤ S1x256x16896.size a) ∧
  (∀ k0_t3 : Fin (k0_t3_loop i v23).trips, ∀ a, (k0_off84 i v23 k0_t3) a + S1x128x512.size a ≤ S1x256x16896.size a) ∧
  ((k0_t4_loop i v23).OK) ∧
  (∀ k0_t4 : Fin (k0_t4_loop i v23).trips, 512 ∣ (k0_mult42 i v23 k0_t4).toNat)
def k0_chk1_4 (i : grid0.Coords) (v23 : BitVec 32) : Prop :=
  (∀ k0_t4 : Fin (k0_t4_loop i v23).trips, ∀ (r : Fin 2), ∀ a, (k0_off85 i v23 k0_t4 (BitVec.ofNat 32 (1 + r.val))) a + S1x512x256.size a ≤ S1x16896x512.size a) ∧
  (∀ k0_t4 : Fin (k0_t4_loop i v23).trips, ∀ (r : Fin 2), ∀ a, (k0_off86 i v23 k0_t4 (BitVec.ofNat 32 (1 + r.val))) a + S1x512x256.size a ≤ S1x16896x512.size a) ∧
  (∀ k0_t4 : Fin (k0_t4_loop i v23).trips, ∀ (r : Fin 2), ∀ a, (k0_off87 i v23 k0_t4 (BitVec.ofNat 32 r.val)) a + S1.size a ≤ S1056.size a) ∧
  (∀ k0_t4 : Fin (k0_t4_loop i v23).trips, 512 ∣ (k0_mult43 i v23 k0_t4).toNat) ∧
  (∀ k0_t4 : Fin (k0_t4_loop i v23).trips, ∀ a, (k0_off88 i v23 k0_t4) a + S1x128x512.size a ≤ S1x256x16896.size a) ∧
  (∀ k0_t4 : Fin (k0_t4_loop i v23).trips, ∀ a, (k0_off89 i v23 k0_t4) a + S1x128x512.size a ≤ S1x256x16896.size a) ∧
  (∀ k0_t4 : Fin (k0_t4_loop i v23).trips, 512 ∣ (k0_mult44 i v23 k0_t4).toNat) ∧
  (∀ k0_t4 : Fin (k0_t4_loop i v23).trips, ∀ (r : Fin 2), ∀ a, (k0_off90 i v23 k0_t4 (BitVec.ofNat 32 r.val)) a + S1.size a ≤ S1056.size a) ∧
  (∀ k0_t4 : Fin (k0_t4_loop i v23).trips, 512 ∣ (k0_mult45 i v23 k0_t4).toNat) ∧
  (∀ k0_t4 : Fin (k0_t4_loop i v23).trips, ∀ a, (k0_off91 i v23 k0_t4) a + S1x128x512.size a ≤ S1x256x16896.size a) ∧
  (∀ k0_t4 : Fin (k0_t4_loop i v23).trips, ∀ a, (k0_off92 i v23 k0_t4) a + S1x128x512.size a ≤ S1x256x16896.size a) ∧
  (∀ k0_t4 : Fin (k0_t4_loop i v23).trips, 512 ∣ (k0_mult46 i v23 k0_t4).toNat) ∧
  (∀ k0_t4 : Fin (k0_t4_loop i v23).trips, ∀ (r : Fin 2), ∀ a, (k0_off93 i v23 k0_t4 (BitVec.ofNat 32 (1 + r.val))) a + S1x512x256.size a ≤ S1x16896x512.size a) ∧
  (∀ k0_t4 : Fin (k0_t4_loop i v23).trips, ∀ (r : Fin 2), ∀ a, (k0_off94 i v23 k0_t4 (BitVec.ofNat 32 (1 + r.val))) a + S1x512x256.size a ≤ S1x16896x512.size a) ∧
  (∀ k0_t4 : Fin (k0_t4_loop i v23).trips, ∀ (r : Fin 2), ∀ a, (k0_off95 i v23 k0_t4 (BitVec.ofNat 32 r.val)) a + S1.size a ≤ S1056.size a) ∧
  (∀ k0_t4 : Fin (k0_t4_loop i v23).trips, 512 ∣ (k0_mult47 i v23 k0_t4).toNat) ∧
  (∀ k0_t4 : Fin (k0_t4_loop i v23).trips, ∀ a, (k0_off96 i v23 k0_t4) a + S1x128x512.size a ≤ S1x256x16896.size a) ∧
  (∀ k0_t4 : Fin (k0_t4_loop i v23).trips, ∀ a, (k0_off97 i v23 k0_t4) a + S1x128x512.size a ≤ S1x256x16896.size a) ∧
  (∀ k0_t4 : Fin (k0_t4_loop i v23).trips, 512 ∣ (k0_mult48 i v23 k0_t4).toNat) ∧
  (∀ k0_t4 : Fin (k0_t4_loop i v23).trips, ∀ (r : Fin 2), ∀ a, (k0_off98 i v23 k0_t4 (BitVec.ofNat 32 r.val)) a + S1.size a ≤ S1056.size a) ∧
  (∀ k0_t4 : Fin (k0_t4_loop i v23).trips, 512 ∣ (k0_mult49 i v23 k0_t4).toNat) ∧
  (∀ k0_t4 : Fin (k0_t4_loop i v23).trips, ∀ a, (k0_off99 i v23 k0_t4) a + S1x128x512.size a ≤ S1x256x16896.size a) ∧
  (∀ k0_t4 : Fin (k0_t4_loop i v23).trips, ∀ a, (k0_off100 i v23 k0_t4) a + S1x128x512.size a ≤ S1x256x16896.size a) ∧
  ((k0_t5_loop i v23).OK) ∧
  (∀ k0_t5 : Fin (k0_t5_loop i v23).trips, 512 ∣ (k0_mult50 i v23 k0_t5).toNat) ∧
  (∀ k0_t5 : Fin (k0_t5_loop i v23).trips, ∀ (r : Fin 2), ∀ a, (k0_off101 i v23 k0_t5 (BitVec.ofNat 32 (1 + r.val))) a + S1x512x256.size a ≤ S1x16896x512.size a) ∧
  (∀ k0_t5 : Fin (k0_t5_loop i v23).trips, ∀ (r : Fin 2), ∀ a, (k0_off102 i v23 k0_t5 (BitVec.ofNat 32 (1 + r.val))) a + S1x512x256.size a ≤ S1x16896x512.size a) ∧
  (∀ k0_t5 : Fin (k0_t5_loop i v23).trips, ∀ (r : Fin 2), ∀ a, (k0_off103 i v23 k0_t5 (BitVec.ofNat 32 r.val)) a + S1.size a ≤ S1056.size a) ∧
  (∀ k0_t5 : Fin (k0_t5_loop i v23).trips, 512 ∣ (k0_mult51 i v23 k0_t5).toNat) ∧
  (∀ k0_t5 : Fin (k0_t5_loop i v23).trips, ∀ a, (k0_off104 i v23 k0_t5) a + S1x128x512.size a ≤ S1x256x16896.size a) ∧
  (∀ k0_t5 : Fin (k0_t5_loop i v23).trips, ∀ a, (k0_off105 i v23 k0_t5) a + S1x128x512.size a ≤ S1x256x16896.size a) ∧
  (∀ k0_t5 : Fin (k0_t5_loop i v23).trips, 512 ∣ (k0_mult52 i v23 k0_t5).toNat)
def k0_chk1_5 (i : grid0.Coords) (v23 : BitVec 32) : Prop :=
  (∀ k0_t5 : Fin (k0_t5_loop i v23).trips, ∀ (r : Fin 2), ∀ a, (k0_off106 i v23 k0_t5 (BitVec.ofNat 32 r.val)) a + S1.size a ≤ S1056.size a) ∧
  (∀ k0_t5 : Fin (k0_t5_loop i v23).trips, 512 ∣ (k0_mult53 i v23 k0_t5).toNat) ∧
  (∀ k0_t5 : Fin (k0_t5_loop i v23).trips, ∀ a, (k0_off107 i v23 k0_t5) a + S1x128x512.size a ≤ S1x256x16896.size a) ∧
  (∀ k0_t5 : Fin (k0_t5_loop i v23).trips, ∀ a, (k0_off108 i v23 k0_t5) a + S1x128x512.size a ≤ S1x256x16896.size a) ∧
  ((k0_t6_loop i v23).OK) ∧
  (∀ k0_t6 : Fin (k0_t6_loop i v23).trips, 512 ∣ (k0_mult54 i v23 k0_t6).toNat) ∧
  (∀ k0_t6 : Fin (k0_t6_loop i v23).trips, ∀ (r : Fin 2), ∀ a, (k0_off109 i v23 k0_t6 (BitVec.ofNat 32 (1 + r.val))) a + S1x512x256.size a ≤ S1x16896x512.size a) ∧
  (∀ k0_t6 : Fin (k0_t6_loop i v23).trips, ∀ (r : Fin 2), ∀ a, (k0_off110 i v23 k0_t6 (BitVec.ofNat 32 (1 + r.val))) a + S1x512x256.size a ≤ S1x16896x512.size a) ∧
  (∀ k0_t6 : Fin (k0_t6_loop i v23).trips, ∀ (r : Fin 2), ∀ a, (k0_off111 i v23 k0_t6 (BitVec.ofNat 32 r.val)) a + S1.size a ≤ S1056.size a) ∧
  (∀ k0_t6 : Fin (k0_t6_loop i v23).trips, 512 ∣ (k0_mult55 i v23 k0_t6).toNat) ∧
  (∀ k0_t6 : Fin (k0_t6_loop i v23).trips, ∀ a, (k0_off112 i v23 k0_t6) a + S1x128x512.size a ≤ S1x256x16896.size a) ∧
  (∀ k0_t6 : Fin (k0_t6_loop i v23).trips, ∀ a, (k0_off113 i v23 k0_t6) a + S1x128x512.size a ≤ S1x256x16896.size a) ∧
  (∀ k0_t6 : Fin (k0_t6_loop i v23).trips, 512 ∣ (k0_mult56 i v23 k0_t6).toNat) ∧
  (∀ k0_t6 : Fin (k0_t6_loop i v23).trips, ∀ (r : Fin 2), ∀ a, (k0_off114 i v23 k0_t6 (BitVec.ofNat 32 r.val)) a + S1.size a ≤ S1056.size a) ∧
  (∀ k0_t6 : Fin (k0_t6_loop i v23).trips, 512 ∣ (k0_mult57 i v23 k0_t6).toNat) ∧
  (∀ k0_t6 : Fin (k0_t6_loop i v23).trips, ∀ a, (k0_off115 i v23 k0_t6) a + S1x128x512.size a ≤ S1x256x16896.size a) ∧
  (∀ k0_t6 : Fin (k0_t6_loop i v23).trips, ∀ a, (k0_off116 i v23 k0_t6) a + S1x128x512.size a ≤ S1x256x16896.size a) ∧
  (∀ (k0_h2 : k0_cond2 i v23 = 1#1), 512 ∣ (k0_mult58 i v23).toNat) ∧
  (∀ (k0_h2 : k0_cond2 i v23 = 1#1), ∀ a, (k0_off117 i v23) a + S1x512x256.size a ≤ S1x16896x512.size a) ∧
  (∀ (k0_h2 : k0_cond2 i v23 = 1#1), ∀ a, (k0_off118 i v23) a + S1x512x256.size a ≤ S1x16896x512.size a) ∧
  (∀ (k0_h2 : k0_cond2 i v23 = 1#1), ∀ (r : Fin 2), ∀ a, (k0_off119 i v23 (BitVec.ofNat 32 r.val)) a + S1.size a ≤ S1056.size a) ∧
  (∀ (k0_h2 : k0_cond2 i v23 = 1#1), 512 ∣ (k0_mult59 i v23).toNat) ∧
  (∀ (k0_h2 : k0_cond2 i v23 = 1#1), ∀ a, (k0_off120 i v23) a + S1x128x512.size a ≤ S1x256x16896.size a) ∧
  (∀ (k0_h2 : k0_cond2 i v23 = 1#1), ∀ a, (k0_off121 i v23) a + S1x128x512.size a ≤ S1x256x16896.size a) ∧
  (∀ (k0_h2 : k0_cond2 i v23 = 1#1), ∀ (r : Fin 2), ∀ a, (k0_off124 i v23 (BitVec.ofNat 32 r.val)) a + S1.size a ≤ S1056.size a) ∧
  (∀ (k0_h2 : k0_cond2 i v23 = 1#1), 512 ∣ (k0_mult61 i v23).toNat) ∧
  (∀ (k0_h2 : k0_cond2 i v23 = 1#1), ∀ a, (k0_off125 i v23) a + S1x128x512.size a ≤ S1x256x16896.size a) ∧
  (∀ (k0_h2 : k0_cond2 i v23 = 1#1), ∀ a, (k0_off126 i v23) a + S1x128x512.size a ≤ S1x256x16896.size a) ∧
  (∀ (k0_h3 : k0_cond3 i v23 = 1#1), ∀ (r : Fin 2), ∀ a, (k0_off134 i v23 (BitVec.ofNat 32 r.val)) a + S1.size a ≤ S1056.size a) ∧
  (∀ (k0_h3 : k0_cond3 i v23 = 1#1), 512 ∣ (k0_mult65 i v23).toNat) ∧
  (∀ (k0_h3 : k0_cond3 i v23 = 1#1), ∀ a, (k0_off135 i v23) a + S1x128x512.size a ≤ S1x256x16896.size a) ∧
  (∀ (k0_h3 : k0_cond3 i v23 = 1#1), ∀ a, (k0_off136 i v23) a + S1x128x512.size a ≤ S1x256x16896.size a)
def k0_chk1 (i : grid0.Coords) (v23 : BitVec 32) : Prop :=
  k0_chk1_0 i v23 ∧
  k0_chk1_1 i v23 ∧
  k0_chk1_2 i v23 ∧
  k0_chk1_3 i v23 ∧
  k0_chk1_4 i v23 ∧
  k0_chk1_5 i v23
theorem k0_mult1_dvd : ∀ (i : grid0.Coords) (v23 : BitVec 32) (k0_hw1 : k0_chk1 i v23), ∀ (k0_h1 : k0_cond1 i = 1#1), 512 ∣ (k0_mult1 v23).toNat := fun i v23 k0_hw1 k0_h1 => k0_hw1.1.1 k0_h1
theorem k0_off3_inb : ∀ (i : grid0.Coords) (v23 : BitVec 32) (k0_hw1 : k0_chk1 i v23), ∀ (k0_h1 : k0_cond1 i = 1#1), ∀ a, (k0_off3 v23) a + S1x512x256.size a ≤ S1x16896x512.size a := fun i v23 k0_hw1 k0_h1 => k0_hw1.1.2.1 k0_h1
theorem k0_off4_inb : ∀ (i : grid0.Coords) (v23 : BitVec 32) (k0_hw1 : k0_chk1 i v23), ∀ (k0_h1 : k0_cond1 i = 1#1), ∀ a, (k0_off4 v23) a + S1x512x256.size a ≤ S1x16896x512.size a := fun i v23 k0_hw1 k0_h1 => k0_hw1.1.2.2.1 k0_h1
theorem k0_t1_ok : ∀ (i : grid0.Coords) (v23 : BitVec 32) (k0_hw1 : k0_chk1 i v23), (k0_t1_loop i v23).OK := fun i v23 k0_hw1 => k0_hw1.1.2.2.2.1
theorem k0_mult2_dvd : ∀ (i : grid0.Coords) (v23 : BitVec 32) (k0_hw1 : k0_chk1 i v23) (k0_t1 : Fin (k0_t1_loop i v23).trips), 512 ∣ (k0_mult2 i v23 k0_t1).toNat := fun i v23 k0_hw1 k0_t1 => k0_hw1.1.2.2.2.2.1 k0_t1
theorem k0_off5_inb : ∀ (i : grid0.Coords) (v23 : BitVec 32) (k0_hw1 : k0_chk1 i v23) (k0_t1 : Fin (k0_t1_loop i v23).trips), ∀ (r : Fin 2), ∀ a, (k0_off5 i v23 k0_t1 (BitVec.ofNat 32 (1 + r.val))) a + S1x512x256.size a ≤ S1x16896x512.size a := fun i v23 k0_hw1 k0_t1 r => k0_hw1.1.2.2.2.2.2.1 k0_t1 r
theorem k0_off6_inb : ∀ (i : grid0.Coords) (v23 : BitVec 32) (k0_hw1 : k0_chk1 i v23) (k0_t1 : Fin (k0_t1_loop i v23).trips), ∀ (r : Fin 2), ∀ a, (k0_off6 i v23 k0_t1 (BitVec.ofNat 32 (1 + r.val))) a + S1x512x256.size a ≤ S1x16896x512.size a := fun i v23 k0_hw1 k0_t1 r => k0_hw1.1.2.2.2.2.2.2.1 k0_t1 r
theorem k0_off7_inb : ∀ (i : grid0.Coords) (v23 : BitVec 32) (k0_hw1 : k0_chk1 i v23) (k0_t1 : Fin (k0_t1_loop i v23).trips), ∀ (r : Fin 2), ∀ a, (k0_off7 i v23 k0_t1 (BitVec.ofNat 32 r.val)) a + S1.size a ≤ S1056.size a := fun i v23 k0_hw1 k0_t1 r => k0_hw1.1.2.2.2.2.2.2.2.1 k0_t1 r
theorem k0_mult3_dvd : ∀ (i : grid0.Coords) (v23 : BitVec 32) (k0_hw1 : k0_chk1 i v23) (k0_t1 : Fin (k0_t1_loop i v23).trips), 512 ∣ (k0_mult3 i v23 k0_t1).toNat := fun i v23 k0_hw1 k0_t1 => k0_hw1.1.2.2.2.2.2.2.2.2.1 k0_t1
theorem k0_off8_inb : ∀ (i : grid0.Coords) (v23 : BitVec 32) (k0_hw1 : k0_chk1 i v23) (k0_t1 : Fin (k0_t1_loop i v23).trips), ∀ a, (k0_off8 i v23 k0_t1) a + S1x128x512.size a ≤ S1x256x16896.size a := fun i v23 k0_hw1 k0_t1 => k0_hw1.1.2.2.2.2.2.2.2.2.2.1 k0_t1
theorem k0_off9_inb : ∀ (i : grid0.Coords) (v23 : BitVec 32) (k0_hw1 : k0_chk1 i v23) (k0_t1 : Fin (k0_t1_loop i v23).trips), ∀ a, (k0_off9 i v23 k0_t1) a + S1x128x512.size a ≤ S1x256x16896.size a := fun i v23 k0_hw1 k0_t1 => k0_hw1.1.2.2.2.2.2.2.2.2.2.2.1 k0_t1
theorem k0_mult4_dvd : ∀ (i : grid0.Coords) (v23 : BitVec 32) (k0_hw1 : k0_chk1 i v23) (k0_t1 : Fin (k0_t1_loop i v23).trips), 512 ∣ (k0_mult4 i v23 k0_t1).toNat := fun i v23 k0_hw1 k0_t1 => k0_hw1.1.2.2.2.2.2.2.2.2.2.2.2.1 k0_t1
theorem k0_off10_inb : ∀ (i : grid0.Coords) (v23 : BitVec 32) (k0_hw1 : k0_chk1 i v23) (k0_t1 : Fin (k0_t1_loop i v23).trips), ∀ (r : Fin 2), ∀ a, (k0_off10 i v23 k0_t1 (BitVec.ofNat 32 r.val)) a + S1.size a ≤ S1056.size a := fun i v23 k0_hw1 k0_t1 r => k0_hw1.1.2.2.2.2.2.2.2.2.2.2.2.2.1 k0_t1 r
theorem k0_mult5_dvd : ∀ (i : grid0.Coords) (v23 : BitVec 32) (k0_hw1 : k0_chk1 i v23) (k0_t1 : Fin (k0_t1_loop i v23).trips), 512 ∣ (k0_mult5 i v23 k0_t1).toNat := fun i v23 k0_hw1 k0_t1 => k0_hw1.1.2.2.2.2.2.2.2.2.2.2.2.2.2.1 k0_t1
theorem k0_off11_inb : ∀ (i : grid0.Coords) (v23 : BitVec 32) (k0_hw1 : k0_chk1 i v23) (k0_t1 : Fin (k0_t1_loop i v23).trips), ∀ a, (k0_off11 i v23 k0_t1) a + S1x128x512.size a ≤ S1x256x16896.size a := fun i v23 k0_hw1 k0_t1 => k0_hw1.1.2.2.2.2.2.2.2.2.2.2.2.2.2.2.1 k0_t1
theorem k0_off12_inb : ∀ (i : grid0.Coords) (v23 : BitVec 32) (k0_hw1 : k0_chk1 i v23) (k0_t1 : Fin (k0_t1_loop i v23).trips), ∀ a, (k0_off12 i v23 k0_t1) a + S1x128x512.size a ≤ S1x256x16896.size a := fun i v23 k0_hw1 k0_t1 => k0_hw1.1.2.2.2.2.2.2.2.2.2.2.2.2.2.2.2.1 k0_t1
theorem k0_mult6_dvd : ∀ (i : grid0.Coords) (v23 : BitVec 32) (k0_hw1 : k0_chk1 i v23) (k0_t1 : Fin (k0_t1_loop i v23).trips), 512 ∣ (k0_mult6 i v23 k0_t1).toNat := fun i v23 k0_hw1 k0_t1 => k0_hw1.1.2.2.2.2.2.2.2.2.2.2.2.2.2.2.2.2.1 k0_t1
theorem k0_off13_inb : ∀ (i : grid0.Coords) (v23 : BitVec 32) (k0_hw1 : k0_chk1 i v23) (k0_t1 : Fin (k0_t1_loop i v23).trips), ∀ (r : Fin 2), ∀ a, (k0_off13 i v23 k0_t1 (BitVec.ofNat 32 (1 + r.val))) a + S1x512x256.size a ≤ S1x16896x512.size a := fun i v23 k0_hw1 k0_t1 r => k0_hw1.1.2.2.2.2.2.2.2.2.2.2.2.2.2.2.2.2.2.1 k0_t1 r
theorem k0_off14_inb : ∀ (i : grid0.Coords) (v23 : BitVec 32) (k0_hw1 : k0_chk1 i v23) (k0_t1 : Fin (k0_t1_loop i v23).trips), ∀ (r : Fin 2), ∀ a, (k0_off14 i v23 k0_t1 (BitVec.ofNat 32 (1 + r.val))) a + S1x512x256.size a ≤ S1x16896x512.size a := fun i v23 k0_hw1 k0_t1 r => k0_hw1.1.2.2.2.2.2.2.2.2.2.2.2.2.2.2.2.2.2.2.1 k0_t1 r
theorem k0_off15_inb : ∀ (i : grid0.Coords) (v23 : BitVec 32) (k0_hw1 : k0_chk1 i v23) (k0_t1 : Fin (k0_t1_loop i v23).trips), ∀ (r : Fin 2), ∀ a, (k0_off15 i v23 k0_t1 (BitVec.ofNat 32 r.val)) a + S1.size a ≤ S1056.size a := fun i v23 k0_hw1 k0_t1 r => k0_hw1.1.2.2.2.2.2.2.2.2.2.2.2.2.2.2.2.2.2.2.2.1 k0_t1 r
theorem k0_mult7_dvd : ∀ (i : grid0.Coords) (v23 : BitVec 32) (k0_hw1 : k0_chk1 i v23) (k0_t1 : Fin (k0_t1_loop i v23).trips), 512 ∣ (k0_mult7 i v23 k0_t1).toNat := fun i v23 k0_hw1 k0_t1 => k0_hw1.1.2.2.2.2.2.2.2.2.2.2.2.2.2.2.2.2.2.2.2.2.1 k0_t1
theorem k0_off16_inb : ∀ (i : grid0.Coords) (v23 : BitVec 32) (k0_hw1 : k0_chk1 i v23) (k0_t1 : Fin (k0_t1_loop i v23).trips), ∀ a, (k0_off16 i v23 k0_t1) a + S1x128x512.size a ≤ S1x256x16896.size a := fun i v23 k0_hw1 k0_t1 => k0_hw1.1.2.2.2.2.2.2.2.2.2.2.2.2.2.2.2.2.2.2.2.2.2.1 k0_t1
theorem k0_off17_inb : ∀ (i : grid0.Coords) (v23 : BitVec 32) (k0_hw1 : k0_chk1 i v23) (k0_t1 : Fin (k0_t1_loop i v23).trips), ∀ a, (k0_off17 i v23 k0_t1) a + S1x128x512.size a ≤ S1x256x16896.size a := fun i v23 k0_hw1 k0_t1 => k0_hw1.1.2.2.2.2.2.2.2.2.2.2.2.2.2.2.2.2.2.2.2.2.2.2.1 k0_t1
theorem k0_mult8_dvd : ∀ (i : grid0.Coords) (v23 : BitVec 32) (k0_hw1 : k0_chk1 i v23) (k0_t1 : Fin (k0_t1_loop i v23).trips), 512 ∣ (k0_mult8 i v23 k0_t1).toNat := fun i v23 k0_hw1 k0_t1 => k0_hw1.1.2.2.2.2.2.2.2.2.2.2.2.2.2.2.2.2.2.2.2.2.2.2.2.1 k0_t1
theorem k0_off18_inb : ∀ (i : grid0.Coords) (v23 : BitVec 32) (k0_hw1 : k0_chk1 i v23) (k0_t1 : Fin (k0_t1_loop i v23).trips), ∀ (r : Fin 2), ∀ a, (k0_off18 i v23 k0_t1 (BitVec.ofNat 32 r.val)) a + S1.size a ≤ S1056.size a := fun i v23 k0_hw1 k0_t1 r => k0_hw1.1.2.2.2.2.2.2.2.2.2.2.2.2.2.2.2.2.2.2.2.2.2.2.2.2.1 k0_t1 r
theorem k0_mult9_dvd : ∀ (i : grid0.Coords) (v23 : BitVec 32) (k0_hw1 : k0_chk1 i v23) (k0_t1 : Fin (k0_t1_loop i v23).trips), 512 ∣ (k0_mult9 i v23 k0_t1).toNat := fun i v23 k0_hw1 k0_t1 => k0_hw1.1.2.2.2.2.2.2.2.2.2.2.2.2.2.2.2.2.2.2.2.2.2.2.2.2.2.1 k0_t1
theorem k0_off19_inb : ∀ (i : grid0.Coords) (v23 : BitVec 32) (k0_hw1 : k0_chk1 i v23) (k0_t1 : Fin (k0_t1_loop i v23).trips), ∀ a, (k0_off19 i v23 k0_t1) a + S1x128x512.size a ≤ S1x256x16896.size a := fun i v23 k0_hw1 k0_t1 => k0_hw1.1.2.2.2.2.2.2.2.2.2.2.2.2.2.2.2.2.2.2.2.2.2.2.2.2.2.2.1 k0_t1
theorem k0_off20_inb : ∀ (i : grid0.Coords) (v23 : BitVec 32) (k0_hw1 : k0_chk1 i v23) (k0_t1 : Fin (k0_t1_loop i v23).trips), ∀ a, (k0_off20 i v23 k0_t1) a + S1x128x512.size a ≤ S1x256x16896.size a := fun i v23 k0_hw1 k0_t1 => k0_hw1.1.2.2.2.2.2.2.2.2.2.2.2.2.2.2.2.2.2.2.2.2.2.2.2.2.2.2.2.1 k0_t1
theorem k0_mult10_dvd : ∀ (i : grid0.Coords) (v23 : BitVec 32) (k0_hw1 : k0_chk1 i v23) (k0_t1 : Fin (k0_t1_loop i v23).trips), 512 ∣ (k0_mult10 i v23 k0_t1).toNat := fun i v23 k0_hw1 k0_t1 => k0_hw1.1.2.2.2.2.2.2.2.2.2.2.2.2.2.2.2.2.2.2.2.2.2.2.2.2.2.2.2.2.1 k0_t1
theorem k0_off21_inb : ∀ (i : grid0.Coords) (v23 : BitVec 32) (k0_hw1 : k0_chk1 i v23) (k0_t1 : Fin (k0_t1_loop i v23).trips), ∀ (r : Fin 2), ∀ a, (k0_off21 i v23 k0_t1 (BitVec.ofNat 32 (1 + r.val))) a + S1x512x256.size a ≤ S1x16896x512.size a := fun i v23 k0_hw1 k0_t1 r => k0_hw1.1.2.2.2.2.2.2.2.2.2.2.2.2.2.2.2.2.2.2.2.2.2.2.2.2.2.2.2.2.2.1 k0_t1 r
theorem k0_off22_inb : ∀ (i : grid0.Coords) (v23 : BitVec 32) (k0_hw1 : k0_chk1 i v23) (k0_t1 : Fin (k0_t1_loop i v23).trips), ∀ (r : Fin 2), ∀ a, (k0_off22 i v23 k0_t1 (BitVec.ofNat 32 (1 + r.val))) a + S1x512x256.size a ≤ S1x16896x512.size a := fun i v23 k0_hw1 k0_t1 r => k0_hw1.1.2.2.2.2.2.2.2.2.2.2.2.2.2.2.2.2.2.2.2.2.2.2.2.2.2.2.2.2.2.2.1 k0_t1 r
theorem k0_off23_inb : ∀ (i : grid0.Coords) (v23 : BitVec 32) (k0_hw1 : k0_chk1 i v23) (k0_t1 : Fin (k0_t1_loop i v23).trips), ∀ (r : Fin 2), ∀ a, (k0_off23 i v23 k0_t1 (BitVec.ofNat 32 r.val)) a + S1.size a ≤ S1056.size a := fun i v23 k0_hw1 k0_t1 r => k0_hw1.1.2.2.2.2.2.2.2.2.2.2.2.2.2.2.2.2.2.2.2.2.2.2.2.2.2.2.2.2.2.2.2 k0_t1 r
theorem k0_mult11_dvd : ∀ (i : grid0.Coords) (v23 : BitVec 32) (k0_hw1 : k0_chk1 i v23) (k0_t1 : Fin (k0_t1_loop i v23).trips), 512 ∣ (k0_mult11 i v23 k0_t1).toNat := fun i v23 k0_hw1 k0_t1 => k0_hw1.2.1.1 k0_t1
theorem k0_off24_inb : ∀ (i : grid0.Coords) (v23 : BitVec 32) (k0_hw1 : k0_chk1 i v23) (k0_t1 : Fin (k0_t1_loop i v23).trips), ∀ a, (k0_off24 i v23 k0_t1) a + S1x128x512.size a ≤ S1x256x16896.size a := fun i v23 k0_hw1 k0_t1 => k0_hw1.2.1.2.1 k0_t1
theorem k0_off25_inb : ∀ (i : grid0.Coords) (v23 : BitVec 32) (k0_hw1 : k0_chk1 i v23) (k0_t1 : Fin (k0_t1_loop i v23).trips), ∀ a, (k0_off25 i v23 k0_t1) a + S1x128x512.size a ≤ S1x256x16896.size a := fun i v23 k0_hw1 k0_t1 => k0_hw1.2.1.2.2.1 k0_t1
theorem k0_mult12_dvd : ∀ (i : grid0.Coords) (v23 : BitVec 32) (k0_hw1 : k0_chk1 i v23) (k0_t1 : Fin (k0_t1_loop i v23).trips), 512 ∣ (k0_mult12 i v23 k0_t1).toNat := fun i v23 k0_hw1 k0_t1 => k0_hw1.2.1.2.2.2.1 k0_t1
theorem k0_off26_inb : ∀ (i : grid0.Coords) (v23 : BitVec 32) (k0_hw1 : k0_chk1 i v23) (k0_t1 : Fin (k0_t1_loop i v23).trips), ∀ (r : Fin 2), ∀ a, (k0_off26 i v23 k0_t1 (BitVec.ofNat 32 r.val)) a + S1.size a ≤ S1056.size a := fun i v23 k0_hw1 k0_t1 r => k0_hw1.2.1.2.2.2.2.1 k0_t1 r
theorem k0_mult13_dvd : ∀ (i : grid0.Coords) (v23 : BitVec 32) (k0_hw1 : k0_chk1 i v23) (k0_t1 : Fin (k0_t1_loop i v23).trips), 512 ∣ (k0_mult13 i v23 k0_t1).toNat := fun i v23 k0_hw1 k0_t1 => k0_hw1.2.1.2.2.2.2.2.1 k0_t1
theorem k0_off27_inb : ∀ (i : grid0.Coords) (v23 : BitVec 32) (k0_hw1 : k0_chk1 i v23) (k0_t1 : Fin (k0_t1_loop i v23).trips), ∀ a, (k0_off27 i v23 k0_t1) a + S1x128x512.size a ≤ S1x256x16896.size a := fun i v23 k0_hw1 k0_t1 => k0_hw1.2.1.2.2.2.2.2.2.1 k0_t1
theorem k0_off28_inb : ∀ (i : grid0.Coords) (v23 : BitVec 32) (k0_hw1 : k0_chk1 i v23) (k0_t1 : Fin (k0_t1_loop i v23).trips), ∀ a, (k0_off28 i v23 k0_t1) a + S1x128x512.size a ≤ S1x256x16896.size a := fun i v23 k0_hw1 k0_t1 => k0_hw1.2.1.2.2.2.2.2.2.2.1 k0_t1
theorem k0_mult14_dvd : ∀ (i : grid0.Coords) (v23 : BitVec 32) (k0_hw1 : k0_chk1 i v23) (k0_t1 : Fin (k0_t1_loop i v23).trips), 512 ∣ (k0_mult14 i v23 k0_t1).toNat := fun i v23 k0_hw1 k0_t1 => k0_hw1.2.1.2.2.2.2.2.2.2.2.1 k0_t1
theorem k0_off29_inb : ∀ (i : grid0.Coords) (v23 : BitVec 32) (k0_hw1 : k0_chk1 i v23) (k0_t1 : Fin (k0_t1_loop i v23).trips), ∀ (r : Fin 2), ∀ a, (k0_off29 i v23 k0_t1 (BitVec.ofNat 32 (1 + r.val))) a + S1x512x256.size a ≤ S1x16896x512.size a := fun i v23 k0_hw1 k0_t1 r => k0_hw1.2.1.2.2.2.2.2.2.2.2.2.1 k0_t1 r
theorem k0_off30_inb : ∀ (i : grid0.Coords) (v23 : BitVec 32) (k0_hw1 : k0_chk1 i v23) (k0_t1 : Fin (k0_t1_loop i v23).trips), ∀ (r : Fin 2), ∀ a, (k0_off30 i v23 k0_t1 (BitVec.ofNat 32 (1 + r.val))) a + S1x512x256.size a ≤ S1x16896x512.size a := fun i v23 k0_hw1 k0_t1 r => k0_hw1.2.1.2.2.2.2.2.2.2.2.2.2.1 k0_t1 r
theorem k0_off31_inb : ∀ (i : grid0.Coords) (v23 : BitVec 32) (k0_hw1 : k0_chk1 i v23) (k0_t1 : Fin (k0_t1_loop i v23).trips), ∀ (r : Fin 2), ∀ a, (k0_off31 i v23 k0_t1 (BitVec.ofNat 32 r.val)) a + S1.size a ≤ S1056.size a := fun i v23 k0_hw1 k0_t1 r => k0_hw1.2.1.2.2.2.2.2.2.2.2.2.2.2.1 k0_t1 r
theorem k0_mult15_dvd : ∀ (i : grid0.Coords) (v23 : BitVec 32) (k0_hw1 : k0_chk1 i v23) (k0_t1 : Fin (k0_t1_loop i v23).trips), 512 ∣ (k0_mult15 i v23 k0_t1).toNat := fun i v23 k0_hw1 k0_t1 => k0_hw1.2.1.2.2.2.2.2.2.2.2.2.2.2.2.1 k0_t1
theorem k0_off32_inb : ∀ (i : grid0.Coords) (v23 : BitVec 32) (k0_hw1 : k0_chk1 i v23) (k0_t1 : Fin (k0_t1_loop i v23).trips), ∀ a, (k0_off32 i v23 k0_t1) a + S1x128x512.size a ≤ S1x256x16896.size a := fun i v23 k0_hw1 k0_t1 => k0_hw1.2.1.2.2.2.2.2.2.2.2.2.2.2.2.2.1 k0_t1
theorem k0_off33_inb : ∀ (i : grid0.Coords) (v23 : BitVec 32) (k0_hw1 : k0_chk1 i v23) (k0_t1 : Fin (k0_t1_loop i v23).trips), ∀ a, (k0_off33 i v23 k0_t1) a + S1x128x512.size a ≤ S1x256x16896.size a := fun i v23 k0_hw1 k0_t1 => k0_hw1.2.1.2.2.2.2.2.2.2.2.2.2.2.2.2.2.1 k0_t1
theorem k0_mult16_dvd : ∀ (i : grid0.Coords) (v23 : BitVec 32) (k0_hw1 : k0_chk1 i v23) (k0_t1 : Fin (k0_t1_loop i v23).trips), 512 ∣ (k0_mult16 i v23 k0_t1).toNat := fun i v23 k0_hw1 k0_t1 => k0_hw1.2.1.2.2.2.2.2.2.2.2.2.2.2.2.2.2.2.1 k0_t1
theorem k0_off34_inb : ∀ (i : grid0.Coords) (v23 : BitVec 32) (k0_hw1 : k0_chk1 i v23) (k0_t1 : Fin (k0_t1_loop i v23).trips), ∀ (r : Fin 2), ∀ a, (k0_off34 i v23 k0_t1 (BitVec.ofNat 32 r.val)) a + S1.size a ≤ S1056.size a := fun i v23 k0_hw1 k0_t1 r => k0_hw1.2.1.2.2.2.2.2.2.2.2.2.2.2.2.2.2.2.2.1 k0_t1 r
theorem k0_mult17_dvd : ∀ (i : grid0.Coords) (v23 : BitVec 32) (k0_hw1 : k0_chk1 i v23) (k0_t1 : Fin (k0_t1_loop i v23).trips), 512 ∣ (k0_mult17 i v23 k0_t1).toNat := fun i v23 k0_hw1 k0_t1 => k0_hw1.2.1.2.2.2.2.2.2.2.2.2.2.2.2.2.2.2.2.2.1 k0_t1
theorem k0_off35_inb : ∀ (i : grid0.Coords) (v23 : BitVec 32) (k0_hw1 : k0_chk1 i v23) (k0_t1 : Fin (k0_t1_loop i v23).trips), ∀ a, (k0_off35 i v23 k0_t1) a + S1x128x512.size a ≤ S1x256x16896.size a := fun i v23 k0_hw1 k0_t1 => k0_hw1.2.1.2.2.2.2.2.2.2.2.2.2.2.2.2.2.2.2.2.2.1 k0_t1
theorem k0_off36_inb : ∀ (i : grid0.Coords) (v23 : BitVec 32) (k0_hw1 : k0_chk1 i v23) (k0_t1 : Fin (k0_t1_loop i v23).trips), ∀ a, (k0_off36 i v23 k0_t1) a + S1x128x512.size a ≤ S1x256x16896.size a := fun i v23 k0_hw1 k0_t1 => k0_hw1.2.1.2.2.2.2.2.2.2.2.2.2.2.2.2.2.2.2.2.2.2.1 k0_t1
theorem k0_t2_ok : ∀ (i : grid0.Coords) (v23 : BitVec 32) (k0_hw1 : k0_chk1 i v23), (k0_t2_loop i v23).OK := fun i v23 k0_hw1 => k0_hw1.2.1.2.2.2.2.2.2.2.2.2.2.2.2.2.2.2.2.2.2.2.2.1
theorem k0_mult18_dvd : ∀ (i : grid0.Coords) (v23 : BitVec 32) (k0_hw1 : k0_chk1 i v23) (k0_t2 : Fin (k0_t2_loop i v23).trips), 512 ∣ (k0_mult18 i v23 k0_t2).toNat := fun i v23 k0_hw1 k0_t2 => k0_hw1.2.1.2.2.2.2.2.2.2.2.2.2.2.2.2.2.2.2.2.2.2.2.2.1 k0_t2
theorem k0_off37_inb : ∀ (i : grid0.Coords) (v23 : BitVec 32) (k0_hw1 : k0_chk1 i v23) (k0_t2 : Fin (k0_t2_loop i v23).trips), ∀ (r : Fin 2), ∀ a, (k0_off37 i v23 k0_t2 (BitVec.ofNat 32 (1 + r.val))) a + S1x512x256.size a ≤ S1x16896x512.size a := fun i v23 k0_hw1 k0_t2 r => k0_hw1.2.1.2.2.2.2.2.2.2.2.2.2.2.2.2.2.2.2.2.2.2.2.2.2.1 k0_t2 r
theorem k0_off38_inb : ∀ (i : grid0.Coords) (v23 : BitVec 32) (k0_hw1 : k0_chk1 i v23) (k0_t2 : Fin (k0_t2_loop i v23).trips), ∀ (r : Fin 2), ∀ a, (k0_off38 i v23 k0_t2 (BitVec.ofNat 32 (1 + r.val))) a + S1x512x256.size a ≤ S1x16896x512.size a := fun i v23 k0_hw1 k0_t2 r => k0_hw1.2.1.2.2.2.2.2.2.2.2.2.2.2.2.2.2.2.2.2.2.2.2.2.2.2.1 k0_t2 r
theorem k0_off39_inb : ∀ (i : grid0.Coords) (v23 : BitVec 32) (k0_hw1 : k0_chk1 i v23) (k0_t2 : Fin (k0_t2_loop i v23).trips), ∀ (r : Fin 2), ∀ a, (k0_off39 i v23 k0_t2 (BitVec.ofNat 32 r.val)) a + S1.size a ≤ S1056.size a := fun i v23 k0_hw1 k0_t2 r => k0_hw1.2.1.2.2.2.2.2.2.2.2.2.2.2.2.2.2.2.2.2.2.2.2.2.2.2.2.1 k0_t2 r
theorem k0_mult19_dvd : ∀ (i : grid0.Coords) (v23 : BitVec 32) (k0_hw1 : k0_chk1 i v23) (k0_t2 : Fin (k0_t2_loop i v23).trips), 512 ∣ (k0_mult19 i v23 k0_t2).toNat := fun i v23 k0_hw1 k0_t2 => k0_hw1.2.1.2.2.2.2.2.2.2.2.2.2.2.2.2.2.2.2.2.2.2.2.2.2.2.2.2.1 k0_t2
theorem k0_off40_inb : ∀ (i : grid0.Coords) (v23 : BitVec 32) (k0_hw1 : k0_chk1 i v23) (k0_t2 : Fin (k0_t2_loop i v23).trips), ∀ a, (k0_off40 i v23 k0_t2) a + S1x128x512.size a ≤ S1x256x16896.size a := fun i v23 k0_hw1 k0_t2 => k0_hw1.2.1.2.2.2.2.2.2.2.2.2.2.2.2.2.2.2.2.2.2.2.2.2.2.2.2.2.2.1 k0_t2
theorem k0_off41_inb : ∀ (i : grid0.Coords) (v23 : BitVec 32) (k0_hw1 : k0_chk1 i v23) (k0_t2 : Fin (k0_t2_loop i v23).trips), ∀ a, (k0_off41 i v23 k0_t2) a + S1x128x512.size a ≤ S1x256x16896.size a := fun i v23 k0_hw1 k0_t2 => k0_hw1.2.1.2.2.2.2.2.2.2.2.2.2.2.2.2.2.2.2.2.2.2.2.2.2.2.2.2.2.2.1 k0_t2
theorem k0_mult20_dvd : ∀ (i : grid0.Coords) (v23 : BitVec 32) (k0_hw1 : k0_chk1 i v23) (k0_t2 : Fin (k0_t2_loop i v23).trips), 512 ∣ (k0_mult20 i v23 k0_t2).toNat := fun i v23 k0_hw1 k0_t2 => k0_hw1.2.1.2.2.2.2.2.2.2.2.2.2.2.2.2.2.2.2.2.2.2.2.2.2.2.2.2.2.2.2.1 k0_t2
theorem k0_off42_inb : ∀ (i : grid0.Coords) (v23 : BitVec 32) (k0_hw1 : k0_chk1 i v23) (k0_t2 : Fin (k0_t2_loop i v23).trips), ∀ (r : Fin 2), ∀ a, (k0_off42 i v23 k0_t2 (BitVec.ofNat 32 r.val)) a + S1.size a ≤ S1056.size a := fun i v23 k0_hw1 k0_t2 r => k0_hw1.2.1.2.2.2.2.2.2.2.2.2.2.2.2.2.2.2.2.2.2.2.2.2.2.2.2.2.2.2.2.2.1 k0_t2 r
theorem k0_mult21_dvd : ∀ (i : grid0.Coords) (v23 : BitVec 32) (k0_hw1 : k0_chk1 i v23) (k0_t2 : Fin (k0_t2_loop i v23).trips), 512 ∣ (k0_mult21 i v23 k0_t2).toNat := fun i v23 k0_hw1 k0_t2 => k0_hw1.2.1.2.2.2.2.2.2.2.2.2.2.2.2.2.2.2.2.2.2.2.2.2.2.2.2.2.2.2.2.2.2.1 k0_t2
theorem k0_off43_inb : ∀ (i : grid0.Coords) (v23 : BitVec 32) (k0_hw1 : k0_chk1 i v23) (k0_t2 : Fin (k0_t2_loop i v23).trips), ∀ a, (k0_off43 i v23 k0_t2) a + S1x128x512.size a ≤ S1x256x16896.size a := fun i v23 k0_hw1 k0_t2 => k0_hw1.2.1.2.2.2.2.2.2.2.2.2.2.2.2.2.2.2.2.2.2.2.2.2.2.2.2.2.2.2.2.2.2.2 k0_t2
theorem k0_off44_inb : ∀ (i : grid0.Coords) (v23 : BitVec 32) (k0_hw1 : k0_chk1 i v23) (k0_t2 : Fin (k0_t2_loop i v23).trips), ∀ a, (k0_off44 i v23 k0_t2) a + S1x128x512.size a ≤ S1x256x16896.size a := fun i v23 k0_hw1 k0_t2 => k0_hw1.2.2.1.1 k0_t2
theorem k0_mult22_dvd : ∀ (i : grid0.Coords) (v23 : BitVec 32) (k0_hw1 : k0_chk1 i v23) (k0_t2 : Fin (k0_t2_loop i v23).trips), 512 ∣ (k0_mult22 i v23 k0_t2).toNat := fun i v23 k0_hw1 k0_t2 => k0_hw1.2.2.1.2.1 k0_t2
theorem k0_off45_inb : ∀ (i : grid0.Coords) (v23 : BitVec 32) (k0_hw1 : k0_chk1 i v23) (k0_t2 : Fin (k0_t2_loop i v23).trips), ∀ (r : Fin 2), ∀ a, (k0_off45 i v23 k0_t2 (BitVec.ofNat 32 (1 + r.val))) a + S1x512x256.size a ≤ S1x16896x512.size a := fun i v23 k0_hw1 k0_t2 r => k0_hw1.2.2.1.2.2.1 k0_t2 r
theorem k0_off46_inb : ∀ (i : grid0.Coords) (v23 : BitVec 32) (k0_hw1 : k0_chk1 i v23) (k0_t2 : Fin (k0_t2_loop i v23).trips), ∀ (r : Fin 2), ∀ a, (k0_off46 i v23 k0_t2 (BitVec.ofNat 32 (1 + r.val))) a + S1x512x256.size a ≤ S1x16896x512.size a := fun i v23 k0_hw1 k0_t2 r => k0_hw1.2.2.1.2.2.2.1 k0_t2 r
theorem k0_off47_inb : ∀ (i : grid0.Coords) (v23 : BitVec 32) (k0_hw1 : k0_chk1 i v23) (k0_t2 : Fin (k0_t2_loop i v23).trips), ∀ (r : Fin 2), ∀ a, (k0_off47 i v23 k0_t2 (BitVec.ofNat 32 r.val)) a + S1.size a ≤ S1056.size a := fun i v23 k0_hw1 k0_t2 r => k0_hw1.2.2.1.2.2.2.2.1 k0_t2 r
theorem k0_mult23_dvd : ∀ (i : grid0.Coords) (v23 : BitVec 32) (k0_hw1 : k0_chk1 i v23) (k0_t2 : Fin (k0_t2_loop i v23).trips), 512 ∣ (k0_mult23 i v23 k0_t2).toNat := fun i v23 k0_hw1 k0_t2 => k0_hw1.2.2.1.2.2.2.2.2.1 k0_t2
theorem k0_off48_inb : ∀ (i : grid0.Coords) (v23 : BitVec 32) (k0_hw1 : k0_chk1 i v23) (k0_t2 : Fin (k0_t2_loop i v23).trips), ∀ a, (k0_off48 i v23 k0_t2) a + S1x128x512.size a ≤ S1x256x16896.size a := fun i v23 k0_hw1 k0_t2 => k0_hw1.2.2.1.2.2.2.2.2.2.1 k0_t2
theorem k0_off49_inb : ∀ (i : grid0.Coords) (v23 : BitVec 32) (k0_hw1 : k0_chk1 i v23) (k0_t2 : Fin (k0_t2_loop i v23).trips), ∀ a, (k0_off49 i v23 k0_t2) a + S1x128x512.size a ≤ S1x256x16896.size a := fun i v23 k0_hw1 k0_t2 => k0_hw1.2.2.1.2.2.2.2.2.2.2.1 k0_t2
theorem k0_mult24_dvd : ∀ (i : grid0.Coords) (v23 : BitVec 32) (k0_hw1 : k0_chk1 i v23) (k0_t2 : Fin (k0_t2_loop i v23).trips), 512 ∣ (k0_mult24 i v23 k0_t2).toNat := fun i v23 k0_hw1 k0_t2 => k0_hw1.2.2.1.2.2.2.2.2.2.2.2.1 k0_t2
theorem k0_off50_inb : ∀ (i : grid0.Coords) (v23 : BitVec 32) (k0_hw1 : k0_chk1 i v23) (k0_t2 : Fin (k0_t2_loop i v23).trips), ∀ (r : Fin 2), ∀ a, (k0_off50 i v23 k0_t2 (BitVec.ofNat 32 r.val)) a + S1.size a ≤ S1056.size a := fun i v23 k0_hw1 k0_t2 r => k0_hw1.2.2.1.2.2.2.2.2.2.2.2.2.1 k0_t2 r
theorem k0_mult25_dvd : ∀ (i : grid0.Coords) (v23 : BitVec 32) (k0_hw1 : k0_chk1 i v23) (k0_t2 : Fin (k0_t2_loop i v23).trips), 512 ∣ (k0_mult25 i v23 k0_t2).toNat := fun i v23 k0_hw1 k0_t2 => k0_hw1.2.2.1.2.2.2.2.2.2.2.2.2.2.1 k0_t2
theorem k0_off51_inb : ∀ (i : grid0.Coords) (v23 : BitVec 32) (k0_hw1 : k0_chk1 i v23) (k0_t2 : Fin (k0_t2_loop i v23).trips), ∀ a, (k0_off51 i v23 k0_t2) a + S1x128x512.size a ≤ S1x256x16896.size a := fun i v23 k0_hw1 k0_t2 => k0_hw1.2.2.1.2.2.2.2.2.2.2.2.2.2.2.1 k0_t2
theorem k0_off52_inb : ∀ (i : grid0.Coords) (v23 : BitVec 32) (k0_hw1 : k0_chk1 i v23) (k0_t2 : Fin (k0_t2_loop i v23).trips), ∀ a, (k0_off52 i v23 k0_t2) a + S1x128x512.size a ≤ S1x256x16896.size a := fun i v23 k0_hw1 k0_t2 => k0_hw1.2.2.1.2.2.2.2.2.2.2.2.2.2.2.2.1 k0_t2
theorem k0_mult26_dvd : ∀ (i : grid0.Coords) (v23 : BitVec 32) (k0_hw1 : k0_chk1 i v23) (k0_t2 : Fin (k0_t2_loop i v23).trips), 512 ∣ (k0_mult26 i v23 k0_t2).toNat := fun i v23 k0_hw1 k0_t2 => k0_hw1.2.2.1.2.2.2.2.2.2.2.2.2.2.2.2.2.1 k0_t2
theorem k0_off53_inb : ∀ (i : grid0.Coords) (v23 : BitVec 32) (k0_hw1 : k0_chk1 i v23) (k0_t2 : Fin (k0_t2_loop i v23).trips), ∀ (r : Fin 2), ∀ a, (k0_off53 i v23 k0_t2 (BitVec.ofNat 32 (1 + r.val))) a + S1x512x256.size a ≤ S1x16896x512.size a := fun i v23 k0_hw1 k0_t2 r => k0_hw1.2.2.1.2.2.2.2.2.2.2.2.2.2.2.2.2.2.1 k0_t2 r
theorem k0_off54_inb : ∀ (i : grid0.Coords) (v23 : BitVec 32) (k0_hw1 : k0_chk1 i v23) (k0_t2 : Fin (k0_t2_loop i v23).trips), ∀ (r : Fin 2), ∀ a, (k0_off54 i v23 k0_t2 (BitVec.ofNat 32 (1 + r.val))) a + S1x512x256.size a ≤ S1x16896x512.size a := fun i v23 k0_hw1 k0_t2 r => k0_hw1.2.2.1.2.2.2.2.2.2.2.2.2.2.2.2.2.2.2.1 k0_t2 r
theorem k0_off55_inb : ∀ (i : grid0.Coords) (v23 : BitVec 32) (k0_hw1 : k0_chk1 i v23) (k0_t2 : Fin (k0_t2_loop i v23).trips), ∀ (r : Fin 2), ∀ a, (k0_off55 i v23 k0_t2 (BitVec.ofNat 32 r.val)) a + S1.size a ≤ S1056.size a := fun i v23 k0_hw1 k0_t2 r => k0_hw1.2.2.1.2.2.2.2.2.2.2.2.2.2.2.2.2.2.2.2.1 k0_t2 r
theorem k0_mult27_dvd : ∀ (i : grid0.Coords) (v23 : BitVec 32) (k0_hw1 : k0_chk1 i v23) (k0_t2 : Fin (k0_t2_loop i v23).trips), 512 ∣ (k0_mult27 i v23 k0_t2).toNat := fun i v23 k0_hw1 k0_t2 => k0_hw1.2.2.1.2.2.2.2.2.2.2.2.2.2.2.2.2.2.2.2.2.1 k0_t2
theorem k0_off56_inb : ∀ (i : grid0.Coords) (v23 : BitVec 32) (k0_hw1 : k0_chk1 i v23) (k0_t2 : Fin (k0_t2_loop i v23).trips), ∀ a, (k0_off56 i v23 k0_t2) a + S1x128x512.size a ≤ S1x256x16896.size a := fun i v23 k0_hw1 k0_t2 => k0_hw1.2.2.1.2.2.2.2.2.2.2.2.2.2.2.2.2.2.2.2.2.2.1 k0_t2
theorem k0_off57_inb : ∀ (i : grid0.Coords) (v23 : BitVec 32) (k0_hw1 : k0_chk1 i v23) (k0_t2 : Fin (k0_t2_loop i v23).trips), ∀ a, (k0_off57 i v23 k0_t2) a + S1x128x512.size a ≤ S1x256x16896.size a := fun i v23 k0_hw1 k0_t2 => k0_hw1.2.2.1.2.2.2.2.2.2.2.2.2.2.2.2.2.2.2.2.2.2.2.1 k0_t2
theorem k0_mult28_dvd : ∀ (i : grid0.Coords) (v23 : BitVec 32) (k0_hw1 : k0_chk1 i v23) (k0_t2 : Fin (k0_t2_loop i v23).trips), 512 ∣ (k0_mult28 i v23 k0_t2).toNat := fun i v23 k0_hw1 k0_t2 => k0_hw1.2.2.1.2.2.2.2.2.2.2.2.2.2.2.2.2.2.2.2.2.2.2.2.1 k0_t2
theorem k0_off58_inb : ∀ (i : grid0.Coords) (v23 : BitVec 32) (k0_hw1 : k0_chk1 i v23) (k0_t2 : Fin (k0_t2_loop i v23).trips), ∀ (r : Fin 2), ∀ a, (k0_off58 i v23 k0_t2 (BitVec.ofNat 32 r.val)) a + S1.size a ≤ S1056.size a := fun i v23 k0_hw1 k0_t2 r => k0_hw1.2.2.1.2.2.2.2.2.2.2.2.2.2.2.2.2.2.2.2.2.2.2.2.2.1 k0_t2 r
theorem k0_mult29_dvd : ∀ (i : grid0.Coords) (v23 : BitVec 32) (k0_hw1 : k0_chk1 i v23) (k0_t2 : Fin (k0_t2_loop i v23).trips), 512 ∣ (k0_mult29 i v23 k0_t2).toNat := fun i v23 k0_hw1 k0_t2 => k0_hw1.2.2.1.2.2.2.2.2.2.2.2.2.2.2.2.2.2.2.2.2.2.2.2.2.2.1 k0_t2
theorem k0_off59_inb : ∀ (i : grid0.Coords) (v23 : BitVec 32) (k0_hw1 : k0_chk1 i v23) (k0_t2 : Fin (k0_t2_loop i v23).trips), ∀ a, (k0_off59 i v23 k0_t2) a + S1x128x512.size a ≤ S1x256x16896.size a := fun i v23 k0_hw1 k0_t2 => k0_hw1.2.2.1.2.2.2.2.2.2.2.2.2.2.2.2.2.2.2.2.2.2.2.2.2.2.2.1 k0_t2
theorem k0_off60_inb : ∀ (i : grid0.Coords) (v23 : BitVec 32) (k0_hw1 : k0_chk1 i v23) (k0_t2 : Fin (k0_t2_loop i v23).trips), ∀ a, (k0_off60 i v23 k0_t2) a + S1x128x512.size a ≤ S1x256x16896.size a := fun i v23 k0_hw1 k0_t2 => k0_hw1.2.2.1.2.2.2.2.2.2.2.2.2.2.2.2.2.2.2.2.2.2.2.2.2.2.2.2.1 k0_t2
theorem k0_mult30_dvd : ∀ (i : grid0.Coords) (v23 : BitVec 32) (k0_hw1 : k0_chk1 i v23) (k0_t2 : Fin (k0_t2_loop i v23).trips), 512 ∣ (k0_mult30 i v23 k0_t2).toNat := fun i v23 k0_hw1 k0_t2 => k0_hw1.2.2.1.2.2.2.2.2.2.2.2.2.2.2.2.2.2.2.2.2.2.2.2.2.2.2.2.2.1 k0_t2
theorem k0_off61_inb : ∀ (i : grid0.Coords) (v23 : BitVec 32) (k0_hw1 : k0_chk1 i v23) (k0_t2 : Fin (k0_t2_loop i v23).trips), ∀ (r : Fin 2), ∀ a, (k0_off61 i v23 k0_t2 (BitVec.ofNat 32 (1 + r.val))) a + S1x512x256.size a ≤ S1x16896x512.size a := fun i v23 k0_hw1 k0_t2 r => k0_hw1.2.2.1.2.2.2.2.2.2.2.2.2.2.2.2.2.2.2.2.2.2.2.2.2.2.2.2.2.2.1 k0_t2 r
theorem k0_off62_inb : ∀ (i : grid0.Coords) (v23 : BitVec 32) (k0_hw1 : k0_chk1 i v23) (k0_t2 : Fin (k0_t2_loop i v23).trips), ∀ (r : Fin 2), ∀ a, (k0_off62 i v23 k0_t2 (BitVec.ofNat 32 (1 + r.val))) a + S1x512x256.size a ≤ S1x16896x512.size a := fun i v23 k0_hw1 k0_t2 r => k0_hw1.2.2.1.2.2.2.2.2.2.2.2.2.2.2.2.2.2.2.2.2.2.2.2.2.2.2.2.2.2.2.1 k0_t2 r
theorem k0_off63_inb : ∀ (i : grid0.Coords) (v23 : BitVec 32) (k0_hw1 : k0_chk1 i v23) (k0_t2 : Fin (k0_t2_loop i v23).trips), ∀ (r : Fin 2), ∀ a, (k0_off63 i v23 k0_t2 (BitVec.ofNat 32 r.val)) a + S1.size a ≤ S1056.size a := fun i v23 k0_hw1 k0_t2 r => k0_hw1.2.2.1.2.2.2.2.2.2.2.2.2.2.2.2.2.2.2.2.2.2.2.2.2.2.2.2.2.2.2.2.1 k0_t2 r
theorem k0_mult31_dvd : ∀ (i : grid0.Coords) (v23 : BitVec 32) (k0_hw1 : k0_chk1 i v23) (k0_t2 : Fin (k0_t2_loop i v23).trips), 512 ∣ (k0_mult31 i v23 k0_t2).toNat := fun i v23 k0_hw1 k0_t2 => k0_hw1.2.2.1.2.2.2.2.2.2.2.2.2.2.2.2.2.2.2.2.2.2.2.2.2.2.2.2.2.2.2.2.2.1 k0_t2
theorem k0_off64_inb : ∀ (i : grid0.Coords) (v23 : BitVec 32) (k0_hw1 : k0_chk1 i v23) (k0_t2 : Fin (k0_t2_loop i v23).trips), ∀ a, (k0_off64 i v23 k0_t2) a + S1x128x512.size a ≤ S1x256x16896.size a := fun i v23 k0_hw1 k0_t2 => k0_hw1.2.2.1.2.2.2.2.2.2.2.2.2.2.2.2.2.2.2.2.2.2.2.2.2.2.2.2.2.2.2.2.2.2.1 k0_t2
theorem k0_off65_inb : ∀ (i : grid0.Coords) (v23 : BitVec 32) (k0_hw1 : k0_chk1 i v23) (k0_t2 : Fin (k0_t2_loop i v23).trips), ∀ a, (k0_off65 i v23 k0_t2) a + S1x128x512.size a ≤ S1x256x16896.size a := fun i v23 k0_hw1 k0_t2 => k0_hw1.2.2.1.2.2.2.2.2.2.2.2.2.2.2.2.2.2.2.2.2.2.2.2.2.2.2.2.2.2.2.2.2.2.2 k0_t2
theorem k0_mult32_dvd : ∀ (i : grid0.Coords) (v23 : BitVec 32) (k0_hw1 : k0_chk1 i v23) (k0_t2 : Fin (k0_t2_loop i v23).trips), 512 ∣ (k0_mult32 i v23 k0_t2).toNat := fun i v23 k0_hw1 k0_t2 => k0_hw1.2.2.2.1.1 k0_t2
theorem k0_off66_inb : ∀ (i : grid0.Coords) (v23 : BitVec 32) (k0_hw1 : k0_chk1 i v23) (k0_t2 : Fin (k0_t2_loop i v23).trips), ∀ (r : Fin 2), ∀ a, (k0_off66 i v23 k0_t2 (BitVec.ofNat 32 r.val)) a + S1.size a ≤ S1056.size a := fun i v23 k0_hw1 k0_t2 r => k0_hw1.2.2.2.1.2.1 k0_t2 r
theorem k0_mult33_dvd : ∀ (i : grid0.Coords) (v23 : BitVec 32) (k0_hw1 : k0_chk1 i v23) (k0_t2 : Fin (k0_t2_loop i v23).trips), 512 ∣ (k0_mult33 i v23 k0_t2).toNat := fun i v23 k0_hw1 k0_t2 => k0_hw1.2.2.2.1.2.2.1 k0_t2
theorem k0_off67_inb : ∀ (i : grid0.Coords) (v23 : BitVec 32) (k0_hw1 : k0_chk1 i v23) (k0_t2 : Fin (k0_t2_loop i v23).trips), ∀ a, (k0_off67 i v23 k0_t2) a + S1x128x512.size a ≤ S1x256x16896.size a := fun i v23 k0_hw1 k0_t2 => k0_hw1.2.2.2.1.2.2.2.1 k0_t2
theorem k0_off68_inb : ∀ (i : grid0.Coords) (v23 : BitVec 32) (k0_hw1 : k0_chk1 i v23) (k0_t2 : Fin (k0_t2_loop i v23).trips), ∀ a, (k0_off68 i v23 k0_t2) a + S1x128x512.size a ≤ S1x256x16896.size a := fun i v23 k0_hw1 k0_t2 => k0_hw1.2.2.2.1.2.2.2.2.1 k0_t2
theorem k0_t3_ok : ∀ (i : grid0.Coords) (v23 : BitVec 32) (k0_hw1 : k0_chk1 i v23), (k0_t3_loop i v23).OK := fun i v23 k0_hw1 => k0_hw1.2.2.2.1.2.2.2.2.2.1
theorem k0_mult34_dvd : ∀ (i : grid0.Coords) (v23 : BitVec 32) (k0_hw1 : k0_chk1 i v23) (k0_t3 : Fin (k0_t3_loop i v23).trips), 512 ∣ (k0_mult34 i v23 k0_t3).toNat := fun i v23 k0_hw1 k0_t3 => k0_hw1.2.2.2.1.2.2.2.2.2.2.1 k0_t3
theorem k0_off69_inb : ∀ (i : grid0.Coords) (v23 : BitVec 32) (k0_hw1 : k0_chk1 i v23) (k0_t3 : Fin (k0_t3_loop i v23).trips), ∀ (r : Fin 2), ∀ a, (k0_off69 i v23 k0_t3 (BitVec.ofNat 32 (1 + r.val))) a + S1x512x256.size a ≤ S1x16896x512.size a := fun i v23 k0_hw1 k0_t3 r => k0_hw1.2.2.2.1.2.2.2.2.2.2.2.1 k0_t3 r
theorem k0_off70_inb : ∀ (i : grid0.Coords) (v23 : BitVec 32) (k0_hw1 : k0_chk1 i v23) (k0_t3 : Fin (k0_t3_loop i v23).trips), ∀ (r : Fin 2), ∀ a, (k0_off70 i v23 k0_t3 (BitVec.ofNat 32 (1 + r.val))) a + S1x512x256.size a ≤ S1x16896x512.size a := fun i v23 k0_hw1 k0_t3 r => k0_hw1.2.2.2.1.2.2.2.2.2.2.2.2.1 k0_t3 r
theorem k0_off71_inb : ∀ (i : grid0.Coords) (v23 : BitVec 32) (k0_hw1 : k0_chk1 i v23) (k0_t3 : Fin (k0_t3_loop i v23).trips), ∀ (r : Fin 2), ∀ a, (k0_off71 i v23 k0_t3 (BitVec.ofNat 32 r.val)) a + S1.size a ≤ S1056.size a := fun i v23 k0_hw1 k0_t3 r => k0_hw1.2.2.2.1.2.2.2.2.2.2.2.2.2.1 k0_t3 r
theorem k0_mult35_dvd : ∀ (i : grid0.Coords) (v23 : BitVec 32) (k0_hw1 : k0_chk1 i v23) (k0_t3 : Fin (k0_t3_loop i v23).trips), 512 ∣ (k0_mult35 i v23 k0_t3).toNat := fun i v23 k0_hw1 k0_t3 => k0_hw1.2.2.2.1.2.2.2.2.2.2.2.2.2.2.1 k0_t3
theorem k0_off72_inb : ∀ (i : grid0.Coords) (v23 : BitVec 32) (k0_hw1 : k0_chk1 i v23) (k0_t3 : Fin (k0_t3_loop i v23).trips), ∀ a, (k0_off72 i v23 k0_t3) a + S1x128x512.size a ≤ S1x256x16896.size a := fun i v23 k0_hw1 k0_t3 => k0_hw1.2.2.2.1.2.2.2.2.2.2.2.2.2.2.2.1 k0_t3
theorem k0_off73_inb : ∀ (i : grid0.Coords) (v23 : BitVec 32) (k0_hw1 : k0_chk1 i v23) (k0_t3 : Fin (k0_t3_loop i v23).trips), ∀ a, (k0_off73 i v23 k0_t3) a + S1x128x512.size a ≤ S1x256x16896.size a := fun i v23 k0_hw1 k0_t3 => k0_hw1.2.2.2.1.2.2.2.2.2.2.2.2.2.2.2.2.1 k0_t3
theorem k0_mult36_dvd : ∀ (i : grid0.Coords) (v23 : BitVec 32) (k0_hw1 : k0_chk1 i v23) (k0_t3 : Fin (k0_t3_loop i v23).trips), 512 ∣ (k0_mult36 i v23 k0_t3).toNat := fun i v23 k0_hw1 k0_t3 => k0_hw1.2.2.2.1.2.2.2.2.2.2.2.2.2.2.2.2.2.1 k0_t3
theorem k0_off74_inb : ∀ (i : grid0.Coords) (v23 : BitVec 32) (k0_hw1 : k0_chk1 i v23) (k0_t3 : Fin (k0_t3_loop i v23).trips), ∀ (r : Fin 2), ∀ a, (k0_off74 i v23 k0_t3 (BitVec.ofNat 32 r.val)) a + S1.size a ≤ S1056.size a := fun i v23 k0_hw1 k0_t3 r => k0_hw1.2.2.2.1.2.2.2.2.2.2.2.2.2.2.2.2.2.2.1 k0_t3 r
theorem k0_mult37_dvd : ∀ (i : grid0.Coords) (v23 : BitVec 32) (k0_hw1 : k0_chk1 i v23) (k0_t3 : Fin (k0_t3_loop i v23).trips), 512 ∣ (k0_mult37 i v23 k0_t3).toNat := fun i v23 k0_hw1 k0_t3 => k0_hw1.2.2.2.1.2.2.2.2.2.2.2.2.2.2.2.2.2.2.2.1 k0_t3
theorem k0_off75_inb : ∀ (i : grid0.Coords) (v23 : BitVec 32) (k0_hw1 : k0_chk1 i v23) (k0_t3 : Fin (k0_t3_loop i v23).trips), ∀ a, (k0_off75 i v23 k0_t3) a + S1x128x512.size a ≤ S1x256x16896.size a := fun i v23 k0_hw1 k0_t3 => k0_hw1.2.2.2.1.2.2.2.2.2.2.2.2.2.2.2.2.2.2.2.2.1 k0_t3
theorem k0_off76_inb : ∀ (i : grid0.Coords) (v23 : BitVec 32) (k0_hw1 : k0_chk1 i v23) (k0_t3 : Fin (k0_t3_loop i v23).trips), ∀ a, (k0_off76 i v23 k0_t3) a + S1x128x512.size a ≤ S1x256x16896.size a := fun i v23 k0_hw1 k0_t3 => k0_hw1.2.2.2.1.2.2.2.2.2.2.2.2.2.2.2.2.2.2.2.2.2.1 k0_t3
theorem k0_mult38_dvd : ∀ (i : grid0.Coords) (v23 : BitVec 32) (k0_hw1 : k0_chk1 i v23) (k0_t3 : Fin (k0_t3_loop i v23).trips), 512 ∣ (k0_mult38 i v23 k0_t3).toNat := fun i v23 k0_hw1 k0_t3 => k0_hw1.2.2.2.1.2.2.2.2.2.2.2.2.2.2.2.2.2.2.2.2.2.2.1 k0_t3
theorem k0_off77_inb : ∀ (i : grid0.Coords) (v23 : BitVec 32) (k0_hw1 : k0_chk1 i v23) (k0_t3 : Fin (k0_t3_loop i v23).trips), ∀ (r : Fin 2), ∀ a, (k0_off77 i v23 k0_t3 (BitVec.ofNat 32 (1 + r.val))) a + S1x512x256.size a ≤ S1x16896x512.size a := fun i v23 k0_hw1 k0_t3 r => k0_hw1.2.2.2.1.2.2.2.2.2.2.2.2.2.2.2.2.2.2.2.2.2.2.2.1 k0_t3 r
theorem k0_off78_inb : ∀ (i : grid0.Coords) (v23 : BitVec 32) (k0_hw1 : k0_chk1 i v23) (k0_t3 : Fin (k0_t3_loop i v23).trips), ∀ (r : Fin 2), ∀ a, (k0_off78 i v23 k0_t3 (BitVec.ofNat 32 (1 + r.val))) a + S1x512x256.size a ≤ S1x16896x512.size a := fun i v23 k0_hw1 k0_t3 r => k0_hw1.2.2.2.1.2.2.2.2.2.2.2.2.2.2.2.2.2.2.2.2.2.2.2.2.1 k0_t3 r
theorem k0_off79_inb : ∀ (i : grid0.Coords) (v23 : BitVec 32) (k0_hw1 : k0_chk1 i v23) (k0_t3 : Fin (k0_t3_loop i v23).trips), ∀ (r : Fin 2), ∀ a, (k0_off79 i v23 k0_t3 (BitVec.ofNat 32 r.val)) a + S1.size a ≤ S1056.size a := fun i v23 k0_hw1 k0_t3 r => k0_hw1.2.2.2.1.2.2.2.2.2.2.2.2.2.2.2.2.2.2.2.2.2.2.2.2.2.1 k0_t3 r
theorem k0_mult39_dvd : ∀ (i : grid0.Coords) (v23 : BitVec 32) (k0_hw1 : k0_chk1 i v23) (k0_t3 : Fin (k0_t3_loop i v23).trips), 512 ∣ (k0_mult39 i v23 k0_t3).toNat := fun i v23 k0_hw1 k0_t3 => k0_hw1.2.2.2.1.2.2.2.2.2.2.2.2.2.2.2.2.2.2.2.2.2.2.2.2.2.2.1 k0_t3
theorem k0_off80_inb : ∀ (i : grid0.Coords) (v23 : BitVec 32) (k0_hw1 : k0_chk1 i v23) (k0_t3 : Fin (k0_t3_loop i v23).trips), ∀ a, (k0_off80 i v23 k0_t3) a + S1x128x512.size a ≤ S1x256x16896.size a := fun i v23 k0_hw1 k0_t3 => k0_hw1.2.2.2.1.2.2.2.2.2.2.2.2.2.2.2.2.2.2.2.2.2.2.2.2.2.2.2.1 k0_t3
theorem k0_off81_inb : ∀ (i : grid0.Coords) (v23 : BitVec 32) (k0_hw1 : k0_chk1 i v23) (k0_t3 : Fin (k0_t3_loop i v23).trips), ∀ a, (k0_off81 i v23 k0_t3) a + S1x128x512.size a ≤ S1x256x16896.size a := fun i v23 k0_hw1 k0_t3 => k0_hw1.2.2.2.1.2.2.2.2.2.2.2.2.2.2.2.2.2.2.2.2.2.2.2.2.2.2.2.2.1 k0_t3
theorem k0_mult40_dvd : ∀ (i : grid0.Coords) (v23 : BitVec 32) (k0_hw1 : k0_chk1 i v23) (k0_t3 : Fin (k0_t3_loop i v23).trips), 512 ∣ (k0_mult40 i v23 k0_t3).toNat := fun i v23 k0_hw1 k0_t3 => k0_hw1.2.2.2.1.2.2.2.2.2.2.2.2.2.2.2.2.2.2.2.2.2.2.2.2.2.2.2.2.2.1 k0_t3
theorem k0_off82_inb : ∀ (i : grid0.Coords) (v23 : BitVec 32) (k0_hw1 : k0_chk1 i v23) (k0_t3 : Fin (k0_t3_loop i v23).trips), ∀ (r : Fin 2), ∀ a, (k0_off82 i v23 k0_t3 (BitVec.ofNat 32 r.val)) a + S1.size a ≤ S1056.size a := fun i v23 k0_hw1 k0_t3 r => k0_hw1.2.2.2.1.2.2.2.2.2.2.2.2.2.2.2.2.2.2.2.2.2.2.2.2.2.2.2.2.2.2.1 k0_t3 r
theorem k0_mult41_dvd : ∀ (i : grid0.Coords) (v23 : BitVec 32) (k0_hw1 : k0_chk1 i v23) (k0_t3 : Fin (k0_t3_loop i v23).trips), 512 ∣ (k0_mult41 i v23 k0_t3).toNat := fun i v23 k0_hw1 k0_t3 => k0_hw1.2.2.2.1.2.2.2.2.2.2.2.2.2.2.2.2.2.2.2.2.2.2.2.2.2.2.2.2.2.2.2.1 k0_t3
theorem k0_off83_inb : ∀ (i : grid0.Coords) (v23 : BitVec 32) (k0_hw1 : k0_chk1 i v23) (k0_t3 : Fin (k0_t3_loop i v23).trips), ∀ a, (k0_off83 i v23 k0_t3) a + S1x128x512.size a ≤ S1x256x16896.size a := fun i v23 k0_hw1 k0_t3 => k0_hw1.2.2.2.1.2.2.2.2.2.2.2.2.2.2.2.2.2.2.2.2.2.2.2.2.2.2.2.2.2.2.2.2.1 k0_t3
theorem k0_off84_inb : ∀ (i : grid0.Coords) (v23 : BitVec 32) (k0_hw1 : k0_chk1 i v23) (k0_t3 : Fin (k0_t3_loop i v23).trips), ∀ a, (k0_off84 i v23 k0_t3) a + S1x128x512.size a ≤ S1x256x16896.size a := fun i v23 k0_hw1 k0_t3 => k0_hw1.2.2.2.1.2.2.2.2.2.2.2.2.2.2.2.2.2.2.2.2.2.2.2.2.2.2.2.2.2.2.2.2.2.1 k0_t3
theorem k0_t4_ok : ∀ (i : grid0.Coords) (v23 : BitVec 32) (k0_hw1 : k0_chk1 i v23), (k0_t4_loop i v23).OK := fun i v23 k0_hw1 => k0_hw1.2.2.2.1.2.2.2.2.2.2.2.2.2.2.2.2.2.2.2.2.2.2.2.2.2.2.2.2.2.2.2.2.2.2.1
theorem k0_mult42_dvd : ∀ (i : grid0.Coords) (v23 : BitVec 32) (k0_hw1 : k0_chk1 i v23) (k0_t4 : Fin (k0_t4_loop i v23).trips), 512 ∣ (k0_mult42 i v23 k0_t4).toNat := fun i v23 k0_hw1 k0_t4 => k0_hw1.2.2.2.1.2.2.2.2.2.2.2.2.2.2.2.2.2.2.2.2.2.2.2.2.2.2.2.2.2.2.2.2.2.2.2 k0_t4
theorem k0_off85_inb : ∀ (i : grid0.Coords) (v23 : BitVec 32) (k0_hw1 : k0_chk1 i v23) (k0_t4 : Fin (k0_t4_loop i v23).trips), ∀ (r : Fin 2), ∀ a, (k0_off85 i v23 k0_t4 (BitVec.ofNat 32 (1 + r.val))) a + S1x512x256.size a ≤ S1x16896x512.size a := fun i v23 k0_hw1 k0_t4 r => k0_hw1.2.2.2.2.1.1 k0_t4 r
theorem k0_off86_inb : ∀ (i : grid0.Coords) (v23 : BitVec 32) (k0_hw1 : k0_chk1 i v23) (k0_t4 : Fin (k0_t4_loop i v23).trips), ∀ (r : Fin 2), ∀ a, (k0_off86 i v23 k0_t4 (BitVec.ofNat 32 (1 + r.val))) a + S1x512x256.size a ≤ S1x16896x512.size a := fun i v23 k0_hw1 k0_t4 r => k0_hw1.2.2.2.2.1.2.1 k0_t4 r
theorem k0_off87_inb : ∀ (i : grid0.Coords) (v23 : BitVec 32) (k0_hw1 : k0_chk1 i v23) (k0_t4 : Fin (k0_t4_loop i v23).trips), ∀ (r : Fin 2), ∀ a, (k0_off87 i v23 k0_t4 (BitVec.ofNat 32 r.val)) a + S1.size a ≤ S1056.size a := fun i v23 k0_hw1 k0_t4 r => k0_hw1.2.2.2.2.1.2.2.1 k0_t4 r
theorem k0_mult43_dvd : ∀ (i : grid0.Coords) (v23 : BitVec 32) (k0_hw1 : k0_chk1 i v23) (k0_t4 : Fin (k0_t4_loop i v23).trips), 512 ∣ (k0_mult43 i v23 k0_t4).toNat := fun i v23 k0_hw1 k0_t4 => k0_hw1.2.2.2.2.1.2.2.2.1 k0_t4
theorem k0_off88_inb : ∀ (i : grid0.Coords) (v23 : BitVec 32) (k0_hw1 : k0_chk1 i v23) (k0_t4 : Fin (k0_t4_loop i v23).trips), ∀ a, (k0_off88 i v23 k0_t4) a + S1x128x512.size a ≤ S1x256x16896.size a := fun i v23 k0_hw1 k0_t4 => k0_hw1.2.2.2.2.1.2.2.2.2.1 k0_t4
theorem k0_off89_inb : ∀ (i : grid0.Coords) (v23 : BitVec 32) (k0_hw1 : k0_chk1 i v23) (k0_t4 : Fin (k0_t4_loop i v23).trips), ∀ a, (k0_off89 i v23 k0_t4) a + S1x128x512.size a ≤ S1x256x16896.size a := fun i v23 k0_hw1 k0_t4 => k0_hw1.2.2.2.2.1.2.2.2.2.2.1 k0_t4
theorem k0_mult44_dvd : ∀ (i : grid0.Coords) (v23 : BitVec 32) (k0_hw1 : k0_chk1 i v23) (k0_t4 : Fin (k0_t4_loop i v23).trips), 512 ∣ (k0_mult44 i v23 k0_t4).toNat := fun i v23 k0_hw1 k0_t4 => k0_hw1.2.2.2.2.1.2.2.2.2.2.2.1 k0_t4
theorem k0_off90_inb : ∀ (i : grid0.Coords) (v23 : BitVec 32) (k0_hw1 : k0_chk1 i v23) (k0_t4 : Fin (k0_t4_loop i v23).trips), ∀ (r : Fin 2), ∀ a, (k0_off90 i v23 k0_t4 (BitVec.ofNat 32 r.val)) a + S1.size a ≤ S1056.size a := fun i v23 k0_hw1 k0_t4 r => k0_hw1.2.2.2.2.1.2.2.2.2.2.2.2.1 k0_t4 r
theorem k0_mult45_dvd : ∀ (i : grid0.Coords) (v23 : BitVec 32) (k0_hw1 : k0_chk1 i v23) (k0_t4 : Fin (k0_t4_loop i v23).trips), 512 ∣ (k0_mult45 i v23 k0_t4).toNat := fun i v23 k0_hw1 k0_t4 => k0_hw1.2.2.2.2.1.2.2.2.2.2.2.2.2.1 k0_t4
theorem k0_off91_inb : ∀ (i : grid0.Coords) (v23 : BitVec 32) (k0_hw1 : k0_chk1 i v23) (k0_t4 : Fin (k0_t4_loop i v23).trips), ∀ a, (k0_off91 i v23 k0_t4) a + S1x128x512.size a ≤ S1x256x16896.size a := fun i v23 k0_hw1 k0_t4 => k0_hw1.2.2.2.2.1.2.2.2.2.2.2.2.2.2.1 k0_t4
theorem k0_off92_inb : ∀ (i : grid0.Coords) (v23 : BitVec 32) (k0_hw1 : k0_chk1 i v23) (k0_t4 : Fin (k0_t4_loop i v23).trips), ∀ a, (k0_off92 i v23 k0_t4) a + S1x128x512.size a ≤ S1x256x16896.size a := fun i v23 k0_hw1 k0_t4 => k0_hw1.2.2.2.2.1.2.2.2.2.2.2.2.2.2.2.1 k0_t4
theorem k0_mult46_dvd : ∀ (i : grid0.Coords) (v23 : BitVec 32) (k0_hw1 : k0_chk1 i v23) (k0_t4 : Fin (k0_t4_loop i v23).trips), 512 ∣ (k0_mult46 i v23 k0_t4).toNat := fun i v23 k0_hw1 k0_t4 => k0_hw1.2.2.2.2.1.2.2.2.2.2.2.2.2.2.2.2.1 k0_t4
theorem k0_off93_inb : ∀ (i : grid0.Coords) (v23 : BitVec 32) (k0_hw1 : k0_chk1 i v23) (k0_t4 : Fin (k0_t4_loop i v23).trips), ∀ (r : Fin 2), ∀ a, (k0_off93 i v23 k0_t4 (BitVec.ofNat 32 (1 + r.val))) a + S1x512x256.size a ≤ S1x16896x512.size a := fun i v23 k0_hw1 k0_t4 r => k0_hw1.2.2.2.2.1.2.2.2.2.2.2.2.2.2.2.2.2.1 k0_t4 r
theorem k0_off94_inb : ∀ (i : grid0.Coords) (v23 : BitVec 32) (k0_hw1 : k0_chk1 i v23) (k0_t4 : Fin (k0_t4_loop i v23).trips), ∀ (r : Fin 2), ∀ a, (k0_off94 i v23 k0_t4 (BitVec.ofNat 32 (1 + r.val))) a + S1x512x256.size a ≤ S1x16896x512.size a := fun i v23 k0_hw1 k0_t4 r => k0_hw1.2.2.2.2.1.2.2.2.2.2.2.2.2.2.2.2.2.2.1 k0_t4 r
theorem k0_off95_inb : ∀ (i : grid0.Coords) (v23 : BitVec 32) (k0_hw1 : k0_chk1 i v23) (k0_t4 : Fin (k0_t4_loop i v23).trips), ∀ (r : Fin 2), ∀ a, (k0_off95 i v23 k0_t4 (BitVec.ofNat 32 r.val)) a + S1.size a ≤ S1056.size a := fun i v23 k0_hw1 k0_t4 r => k0_hw1.2.2.2.2.1.2.2.2.2.2.2.2.2.2.2.2.2.2.2.1 k0_t4 r
theorem k0_mult47_dvd : ∀ (i : grid0.Coords) (v23 : BitVec 32) (k0_hw1 : k0_chk1 i v23) (k0_t4 : Fin (k0_t4_loop i v23).trips), 512 ∣ (k0_mult47 i v23 k0_t4).toNat := fun i v23 k0_hw1 k0_t4 => k0_hw1.2.2.2.2.1.2.2.2.2.2.2.2.2.2.2.2.2.2.2.2.1 k0_t4
theorem k0_off96_inb : ∀ (i : grid0.Coords) (v23 : BitVec 32) (k0_hw1 : k0_chk1 i v23) (k0_t4 : Fin (k0_t4_loop i v23).trips), ∀ a, (k0_off96 i v23 k0_t4) a + S1x128x512.size a ≤ S1x256x16896.size a := fun i v23 k0_hw1 k0_t4 => k0_hw1.2.2.2.2.1.2.2.2.2.2.2.2.2.2.2.2.2.2.2.2.2.1 k0_t4
theorem k0_off97_inb : ∀ (i : grid0.Coords) (v23 : BitVec 32) (k0_hw1 : k0_chk1 i v23) (k0_t4 : Fin (k0_t4_loop i v23).trips), ∀ a, (k0_off97 i v23 k0_t4) a + S1x128x512.size a ≤ S1x256x16896.size a := fun i v23 k0_hw1 k0_t4 => k0_hw1.2.2.2.2.1.2.2.2.2.2.2.2.2.2.2.2.2.2.2.2.2.2.1 k0_t4
theorem k0_mult48_dvd : ∀ (i : grid0.Coords) (v23 : BitVec 32) (k0_hw1 : k0_chk1 i v23) (k0_t4 : Fin (k0_t4_loop i v23).trips), 512 ∣ (k0_mult48 i v23 k0_t4).toNat := fun i v23 k0_hw1 k0_t4 => k0_hw1.2.2.2.2.1.2.2.2.2.2.2.2.2.2.2.2.2.2.2.2.2.2.2.1 k0_t4
theorem k0_off98_inb : ∀ (i : grid0.Coords) (v23 : BitVec 32) (k0_hw1 : k0_chk1 i v23) (k0_t4 : Fin (k0_t4_loop i v23).trips), ∀ (r : Fin 2), ∀ a, (k0_off98 i v23 k0_t4 (BitVec.ofNat 32 r.val)) a + S1.size a ≤ S1056.size a := fun i v23 k0_hw1 k0_t4 r => k0_hw1.2.2.2.2.1.2.2.2.2.2.2.2.2.2.2.2.2.2.2.2.2.2.2.2.1 k0_t4 r
theorem k0_mult49_dvd : ∀ (i : grid0.Coords) (v23 : BitVec 32) (k0_hw1 : k0_chk1 i v23) (k0_t4 : Fin (k0_t4_loop i v23).trips), 512 ∣ (k0_mult49 i v23 k0_t4).toNat := fun i v23 k0_hw1 k0_t4 => k0_hw1.2.2.2.2.1.2.2.2.2.2.2.2.2.2.2.2.2.2.2.2.2.2.2.2.2.1 k0_t4
theorem k0_off99_inb : ∀ (i : grid0.Coords) (v23 : BitVec 32) (k0_hw1 : k0_chk1 i v23) (k0_t4 : Fin (k0_t4_loop i v23).trips), ∀ a, (k0_off99 i v23 k0_t4) a + S1x128x512.size a ≤ S1x256x16896.size a := fun i v23 k0_hw1 k0_t4 => k0_hw1.2.2.2.2.1.2.2.2.2.2.2.2.2.2.2.2.2.2.2.2.2.2.2.2.2.2.1 k0_t4
theorem k0_off100_inb : ∀ (i : grid0.Coords) (v23 : BitVec 32) (k0_hw1 : k0_chk1 i v23) (k0_t4 : Fin (k0_t4_loop i v23).trips), ∀ a, (k0_off100 i v23 k0_t4) a + S1x128x512.size a ≤ S1x256x16896.size a := fun i v23 k0_hw1 k0_t4 => k0_hw1.2.2.2.2.1.2.2.2.2.2.2.2.2.2.2.2.2.2.2.2.2.2.2.2.2.2.2.1 k0_t4
theorem k0_t5_ok : ∀ (i : grid0.Coords) (v23 : BitVec 32) (k0_hw1 : k0_chk1 i v23), (k0_t5_loop i v23).OK := fun i v23 k0_hw1 => k0_hw1.2.2.2.2.1.2.2.2.2.2.2.2.2.2.2.2.2.2.2.2.2.2.2.2.2.2.2.2.1
theorem k0_mult50_dvd : ∀ (i : grid0.Coords) (v23 : BitVec 32) (k0_hw1 : k0_chk1 i v23) (k0_t5 : Fin (k0_t5_loop i v23).trips), 512 ∣ (k0_mult50 i v23 k0_t5).toNat := fun i v23 k0_hw1 k0_t5 => k0_hw1.2.2.2.2.1.2.2.2.2.2.2.2.2.2.2.2.2.2.2.2.2.2.2.2.2.2.2.2.2.1 k0_t5
theorem k0_off101_inb : ∀ (i : grid0.Coords) (v23 : BitVec 32) (k0_hw1 : k0_chk1 i v23) (k0_t5 : Fin (k0_t5_loop i v23).trips), ∀ (r : Fin 2), ∀ a, (k0_off101 i v23 k0_t5 (BitVec.ofNat 32 (1 + r.val))) a + S1x512x256.size a ≤ S1x16896x512.size a := fun i v23 k0_hw1 k0_t5 r => k0_hw1.2.2.2.2.1.2.2.2.2.2.2.2.2.2.2.2.2.2.2.2.2.2.2.2.2.2.2.2.2.2.1 k0_t5 r
theorem k0_off102_inb : ∀ (i : grid0.Coords) (v23 : BitVec 32) (k0_hw1 : k0_chk1 i v23) (k0_t5 : Fin (k0_t5_loop i v23).trips), ∀ (r : Fin 2), ∀ a, (k0_off102 i v23 k0_t5 (BitVec.ofNat 32 (1 + r.val))) a + S1x512x256.size a ≤ S1x16896x512.size a := fun i v23 k0_hw1 k0_t5 r => k0_hw1.2.2.2.2.1.2.2.2.2.2.2.2.2.2.2.2.2.2.2.2.2.2.2.2.2.2.2.2.2.2.2.1 k0_t5 r
theorem k0_off103_inb : ∀ (i : grid0.Coords) (v23 : BitVec 32) (k0_hw1 : k0_chk1 i v23) (k0_t5 : Fin (k0_t5_loop i v23).trips), ∀ (r : Fin 2), ∀ a, (k0_off103 i v23 k0_t5 (BitVec.ofNat 32 r.val)) a + S1.size a ≤ S1056.size a := fun i v23 k0_hw1 k0_t5 r => k0_hw1.2.2.2.2.1.2.2.2.2.2.2.2.2.2.2.2.2.2.2.2.2.2.2.2.2.2.2.2.2.2.2.2.1 k0_t5 r
theorem k0_mult51_dvd : ∀ (i : grid0.Coords) (v23 : BitVec 32) (k0_hw1 : k0_chk1 i v23) (k0_t5 : Fin (k0_t5_loop i v23).trips), 512 ∣ (k0_mult51 i v23 k0_t5).toNat := fun i v23 k0_hw1 k0_t5 => k0_hw1.2.2.2.2.1.2.2.2.2.2.2.2.2.2.2.2.2.2.2.2.2.2.2.2.2.2.2.2.2.2.2.2.2.1 k0_t5
theorem k0_off104_inb : ∀ (i : grid0.Coords) (v23 : BitVec 32) (k0_hw1 : k0_chk1 i v23) (k0_t5 : Fin (k0_t5_loop i v23).trips), ∀ a, (k0_off104 i v23 k0_t5) a + S1x128x512.size a ≤ S1x256x16896.size a := fun i v23 k0_hw1 k0_t5 => k0_hw1.2.2.2.2.1.2.2.2.2.2.2.2.2.2.2.2.2.2.2.2.2.2.2.2.2.2.2.2.2.2.2.2.2.2.1 k0_t5
theorem k0_off105_inb : ∀ (i : grid0.Coords) (v23 : BitVec 32) (k0_hw1 : k0_chk1 i v23) (k0_t5 : Fin (k0_t5_loop i v23).trips), ∀ a, (k0_off105 i v23 k0_t5) a + S1x128x512.size a ≤ S1x256x16896.size a := fun i v23 k0_hw1 k0_t5 => k0_hw1.2.2.2.2.1.2.2.2.2.2.2.2.2.2.2.2.2.2.2.2.2.2.2.2.2.2.2.2.2.2.2.2.2.2.2.1 k0_t5
theorem k0_mult52_dvd : ∀ (i : grid0.Coords) (v23 : BitVec 32) (k0_hw1 : k0_chk1 i v23) (k0_t5 : Fin (k0_t5_loop i v23).trips), 512 ∣ (k0_mult52 i v23 k0_t5).toNat := fun i v23 k0_hw1 k0_t5 => k0_hw1.2.2.2.2.1.2.2.2.2.2.2.2.2.2.2.2.2.2.2.2.2.2.2.2.2.2.2.2.2.2.2.2.2.2.2.2 k0_t5
theorem k0_off106_inb : ∀ (i : grid0.Coords) (v23 : BitVec 32) (k0_hw1 : k0_chk1 i v23) (k0_t5 : Fin (k0_t5_loop i v23).trips), ∀ (r : Fin 2), ∀ a, (k0_off106 i v23 k0_t5 (BitVec.ofNat 32 r.val)) a + S1.size a ≤ S1056.size a := fun i v23 k0_hw1 k0_t5 r => k0_hw1.2.2.2.2.2.1 k0_t5 r
theorem k0_mult53_dvd : ∀ (i : grid0.Coords) (v23 : BitVec 32) (k0_hw1 : k0_chk1 i v23) (k0_t5 : Fin (k0_t5_loop i v23).trips), 512 ∣ (k0_mult53 i v23 k0_t5).toNat := fun i v23 k0_hw1 k0_t5 => k0_hw1.2.2.2.2.2.2.1 k0_t5
theorem k0_off107_inb : ∀ (i : grid0.Coords) (v23 : BitVec 32) (k0_hw1 : k0_chk1 i v23) (k0_t5 : Fin (k0_t5_loop i v23).trips), ∀ a, (k0_off107 i v23 k0_t5) a + S1x128x512.size a ≤ S1x256x16896.size a := fun i v23 k0_hw1 k0_t5 => k0_hw1.2.2.2.2.2.2.2.1 k0_t5
theorem k0_off108_inb : ∀ (i : grid0.Coords) (v23 : BitVec 32) (k0_hw1 : k0_chk1 i v23) (k0_t5 : Fin (k0_t5_loop i v23).trips), ∀ a, (k0_off108 i v23 k0_t5) a + S1x128x512.size a ≤ S1x256x16896.size a := fun i v23 k0_hw1 k0_t5 => k0_hw1.2.2.2.2.2.2.2.2.1 k0_t5
theorem k0_t6_ok : ∀ (i : grid0.Coords) (v23 : BitVec 32) (k0_hw1 : k0_chk1 i v23), (k0_t6_loop i v23).OK := fun i v23 k0_hw1 => k0_hw1.2.2.2.2.2.2.2.2.2.1
theorem k0_mult54_dvd : ∀ (i : grid0.Coords) (v23 : BitVec 32) (k0_hw1 : k0_chk1 i v23) (k0_t6 : Fin (k0_t6_loop i v23).trips), 512 ∣ (k0_mult54 i v23 k0_t6).toNat := fun i v23 k0_hw1 k0_t6 => k0_hw1.2.2.2.2.2.2.2.2.2.2.1 k0_t6
theorem k0_off109_inb : ∀ (i : grid0.Coords) (v23 : BitVec 32) (k0_hw1 : k0_chk1 i v23) (k0_t6 : Fin (k0_t6_loop i v23).trips), ∀ (r : Fin 2), ∀ a, (k0_off109 i v23 k0_t6 (BitVec.ofNat 32 (1 + r.val))) a + S1x512x256.size a ≤ S1x16896x512.size a := fun i v23 k0_hw1 k0_t6 r => k0_hw1.2.2.2.2.2.2.2.2.2.2.2.1 k0_t6 r
theorem k0_off110_inb : ∀ (i : grid0.Coords) (v23 : BitVec 32) (k0_hw1 : k0_chk1 i v23) (k0_t6 : Fin (k0_t6_loop i v23).trips), ∀ (r : Fin 2), ∀ a, (k0_off110 i v23 k0_t6 (BitVec.ofNat 32 (1 + r.val))) a + S1x512x256.size a ≤ S1x16896x512.size a := fun i v23 k0_hw1 k0_t6 r => k0_hw1.2.2.2.2.2.2.2.2.2.2.2.2.1 k0_t6 r
theorem k0_off111_inb : ∀ (i : grid0.Coords) (v23 : BitVec 32) (k0_hw1 : k0_chk1 i v23) (k0_t6 : Fin (k0_t6_loop i v23).trips), ∀ (r : Fin 2), ∀ a, (k0_off111 i v23 k0_t6 (BitVec.ofNat 32 r.val)) a + S1.size a ≤ S1056.size a := fun i v23 k0_hw1 k0_t6 r => k0_hw1.2.2.2.2.2.2.2.2.2.2.2.2.2.1 k0_t6 r
theorem k0_mult55_dvd : ∀ (i : grid0.Coords) (v23 : BitVec 32) (k0_hw1 : k0_chk1 i v23) (k0_t6 : Fin (k0_t6_loop i v23).trips), 512 ∣ (k0_mult55 i v23 k0_t6).toNat := fun i v23 k0_hw1 k0_t6 => k0_hw1.2.2.2.2.2.2.2.2.2.2.2.2.2.2.1 k0_t6
theorem k0_off112_inb : ∀ (i : grid0.Coords) (v23 : BitVec 32) (k0_hw1 : k0_chk1 i v23) (k0_t6 : Fin (k0_t6_loop i v23).trips), ∀ a, (k0_off112 i v23 k0_t6) a + S1x128x512.size a ≤ S1x256x16896.size a := fun i v23 k0_hw1 k0_t6 => k0_hw1.2.2.2.2.2.2.2.2.2.2.2.2.2.2.2.1 k0_t6
theorem k0_off113_inb : ∀ (i : grid0.Coords) (v23 : BitVec 32) (k0_hw1 : k0_chk1 i v23) (k0_t6 : Fin (k0_t6_loop i v23).trips), ∀ a, (k0_off113 i v23 k0_t6) a + S1x128x512.size a ≤ S1x256x16896.size a := fun i v23 k0_hw1 k0_t6 => k0_hw1.2.2.2.2.2.2.2.2.2.2.2.2.2.2.2.2.1 k0_t6
theorem k0_mult56_dvd : ∀ (i : grid0.Coords) (v23 : BitVec 32) (k0_hw1 : k0_chk1 i v23) (k0_t6 : Fin (k0_t6_loop i v23).trips), 512 ∣ (k0_mult56 i v23 k0_t6).toNat := fun i v23 k0_hw1 k0_t6 => k0_hw1.2.2.2.2.2.2.2.2.2.2.2.2.2.2.2.2.2.1 k0_t6
theorem k0_off114_inb : ∀ (i : grid0.Coords) (v23 : BitVec 32) (k0_hw1 : k0_chk1 i v23) (k0_t6 : Fin (k0_t6_loop i v23).trips), ∀ (r : Fin 2), ∀ a, (k0_off114 i v23 k0_t6 (BitVec.ofNat 32 r.val)) a + S1.size a ≤ S1056.size a := fun i v23 k0_hw1 k0_t6 r => k0_hw1.2.2.2.2.2.2.2.2.2.2.2.2.2.2.2.2.2.2.1 k0_t6 r
theorem k0_mult57_dvd : ∀ (i : grid0.Coords) (v23 : BitVec 32) (k0_hw1 : k0_chk1 i v23) (k0_t6 : Fin (k0_t6_loop i v23).trips), 512 ∣ (k0_mult57 i v23 k0_t6).toNat := fun i v23 k0_hw1 k0_t6 => k0_hw1.2.2.2.2.2.2.2.2.2.2.2.2.2.2.2.2.2.2.2.1 k0_t6
theorem k0_off115_inb : ∀ (i : grid0.Coords) (v23 : BitVec 32) (k0_hw1 : k0_chk1 i v23) (k0_t6 : Fin (k0_t6_loop i v23).trips), ∀ a, (k0_off115 i v23 k0_t6) a + S1x128x512.size a ≤ S1x256x16896.size a := fun i v23 k0_hw1 k0_t6 => k0_hw1.2.2.2.2.2.2.2.2.2.2.2.2.2.2.2.2.2.2.2.2.1 k0_t6
theorem k0_off116_inb : ∀ (i : grid0.Coords) (v23 : BitVec 32) (k0_hw1 : k0_chk1 i v23) (k0_t6 : Fin (k0_t6_loop i v23).trips), ∀ a, (k0_off116 i v23 k0_t6) a + S1x128x512.size a ≤ S1x256x16896.size a := fun i v23 k0_hw1 k0_t6 => k0_hw1.2.2.2.2.2.2.2.2.2.2.2.2.2.2.2.2.2.2.2.2.2.1 k0_t6
theorem k0_mult58_dvd : ∀ (i : grid0.Coords) (v23 : BitVec 32) (k0_hw1 : k0_chk1 i v23), ∀ (k0_h2 : k0_cond2 i v23 = 1#1), 512 ∣ (k0_mult58 i v23).toNat := fun i v23 k0_hw1 k0_h2 => k0_hw1.2.2.2.2.2.2.2.2.2.2.2.2.2.2.2.2.2.2.2.2.2.2.1 k0_h2
theorem k0_off117_inb : ∀ (i : grid0.Coords) (v23 : BitVec 32) (k0_hw1 : k0_chk1 i v23), ∀ (k0_h2 : k0_cond2 i v23 = 1#1), ∀ a, (k0_off117 i v23) a + S1x512x256.size a ≤ S1x16896x512.size a := fun i v23 k0_hw1 k0_h2 => k0_hw1.2.2.2.2.2.2.2.2.2.2.2.2.2.2.2.2.2.2.2.2.2.2.2.1 k0_h2
theorem k0_off118_inb : ∀ (i : grid0.Coords) (v23 : BitVec 32) (k0_hw1 : k0_chk1 i v23), ∀ (k0_h2 : k0_cond2 i v23 = 1#1), ∀ a, (k0_off118 i v23) a + S1x512x256.size a ≤ S1x16896x512.size a := fun i v23 k0_hw1 k0_h2 => k0_hw1.2.2.2.2.2.2.2.2.2.2.2.2.2.2.2.2.2.2.2.2.2.2.2.2.1 k0_h2
theorem k0_off119_inb : ∀ (i : grid0.Coords) (v23 : BitVec 32) (k0_hw1 : k0_chk1 i v23), ∀ (k0_h2 : k0_cond2 i v23 = 1#1), ∀ (r : Fin 2), ∀ a, (k0_off119 i v23 (BitVec.ofNat 32 r.val)) a + S1.size a ≤ S1056.size a := fun i v23 k0_hw1 k0_h2 r => k0_hw1.2.2.2.2.2.2.2.2.2.2.2.2.2.2.2.2.2.2.2.2.2.2.2.2.2.1 k0_h2 r
theorem k0_mult59_dvd : ∀ (i : grid0.Coords) (v23 : BitVec 32) (k0_hw1 : k0_chk1 i v23), ∀ (k0_h2 : k0_cond2 i v23 = 1#1), 512 ∣ (k0_mult59 i v23).toNat := fun i v23 k0_hw1 k0_h2 => k0_hw1.2.2.2.2.2.2.2.2.2.2.2.2.2.2.2.2.2.2.2.2.2.2.2.2.2.2.1 k0_h2
theorem k0_off120_inb : ∀ (i : grid0.Coords) (v23 : BitVec 32) (k0_hw1 : k0_chk1 i v23), ∀ (k0_h2 : k0_cond2 i v23 = 1#1), ∀ a, (k0_off120 i v23) a + S1x128x512.size a ≤ S1x256x16896.size a := fun i v23 k0_hw1 k0_h2 => k0_hw1.2.2.2.2.2.2.2.2.2.2.2.2.2.2.2.2.2.2.2.2.2.2.2.2.2.2.2.1 k0_h2
theorem k0_off121_inb : ∀ (i : grid0.Coords) (v23 : BitVec 32) (k0_hw1 : k0_chk1 i v23), ∀ (k0_h2 : k0_cond2 i v23 = 1#1), ∀ a, (k0_off121 i v23) a + S1x128x512.size a ≤ S1x256x16896.size a := fun i v23 k0_hw1 k0_h2 => k0_hw1.2.2.2.2.2.2.2.2.2.2.2.2.2.2.2.2.2.2.2.2.2.2.2.2.2.2.2.2.1 k0_h2
theorem k0_off124_inb : ∀ (i : grid0.Coords) (v23 : BitVec 32) (k0_hw1 : k0_chk1 i v23), ∀ (k0_h2 : k0_cond2 i v23 = 1#1), ∀ (r : Fin 2), ∀ a, (k0_off124 i v23 (BitVec.ofNat 32 r.val)) a + S1.size a ≤ S1056.size a := fun i v23 k0_hw1 k0_h2 r => k0_hw1.2.2.2.2.2.2.2.2.2.2.2.2.2.2.2.2.2.2.2.2.2.2.2.2.2.2.2.2.2.1 k0_h2 r
theorem k0_mult61_dvd : ∀ (i : grid0.Coords) (v23 : BitVec 32) (k0_hw1 : k0_chk1 i v23), ∀ (k0_h2 : k0_cond2 i v23 = 1#1), 512 ∣ (k0_mult61 i v23).toNat := fun i v23 k0_hw1 k0_h2 => k0_hw1.2.2.2.2.2.2.2.2.2.2.2.2.2.2.2.2.2.2.2.2.2.2.2.2.2.2.2.2.2.2.1 k0_h2
theorem k0_off125_inb : ∀ (i : grid0.Coords) (v23 : BitVec 32) (k0_hw1 : k0_chk1 i v23), ∀ (k0_h2 : k0_cond2 i v23 = 1#1), ∀ a, (k0_off125 i v23) a + S1x128x512.size a ≤ S1x256x16896.size a := fun i v23 k0_hw1 k0_h2 => k0_hw1.2.2.2.2.2.2.2.2.2.2.2.2.2.2.2.2.2.2.2.2.2.2.2.2.2.2.2.2.2.2.2.1 k0_h2
theorem k0_off126_inb : ∀ (i : grid0.Coords) (v23 : BitVec 32) (k0_hw1 : k0_chk1 i v23), ∀ (k0_h2 : k0_cond2 i v23 = 1#1), ∀ a, (k0_off126 i v23) a + S1x128x512.size a ≤ S1x256x16896.size a := fun i v23 k0_hw1 k0_h2 => k0_hw1.2.2.2.2.2.2.2.2.2.2.2.2.2.2.2.2.2.2.2.2.2.2.2.2.2.2.2.2.2.2.2.2.1 k0_h2
theorem k0_off134_inb : ∀ (i : grid0.Coords) (v23 : BitVec 32) (k0_hw1 : k0_chk1 i v23), ∀ (k0_h3 : k0_cond3 i v23 = 1#1), ∀ (r : Fin 2), ∀ a, (k0_off134 i v23 (BitVec.ofNat 32 r.val)) a + S1.size a ≤ S1056.size a := fun i v23 k0_hw1 k0_h3 r => k0_hw1.2.2.2.2.2.2.2.2.2.2.2.2.2.2.2.2.2.2.2.2.2.2.2.2.2.2.2.2.2.2.2.2.2.1 k0_h3 r
theorem k0_mult65_dvd : ∀ (i : grid0.Coords) (v23 : BitVec 32) (k0_hw1 : k0_chk1 i v23), ∀ (k0_h3 : k0_cond3 i v23 = 1#1), 512 ∣ (k0_mult65 i v23).toNat := fun i v23 k0_hw1 k0_h3 => k0_hw1.2.2.2.2.2.2.2.2.2.2.2.2.2.2.2.2.2.2.2.2.2.2.2.2.2.2.2.2.2.2.2.2.2.2.1 k0_h3
theorem k0_off135_inb : ∀ (i : grid0.Coords) (v23 : BitVec 32) (k0_hw1 : k0_chk1 i v23), ∀ (k0_h3 : k0_cond3 i v23 = 1#1), ∀ a, (k0_off135 i v23) a + S1x128x512.size a ≤ S1x256x16896.size a := fun i v23 k0_hw1 k0_h3 => k0_hw1.2.2.2.2.2.2.2.2.2.2.2.2.2.2.2.2.2.2.2.2.2.2.2.2.2.2.2.2.2.2.2.2.2.2.2.1 k0_h3
theorem k0_off136_inb : ∀ (i : grid0.Coords) (v23 : BitVec 32) (k0_hw1 : k0_chk1 i v23), ∀ (k0_h3 : k0_cond3 i v23 = 1#1), ∀ a, (k0_off136 i v23) a + S1x128x512.size a ≤ S1x256x16896.size a := fun i v23 k0_hw1 k0_h3 => k0_hw1.2.2.2.2.2.2.2.2.2.2.2.2.2.2.2.2.2.2.2.2.2.2.2.2.2.2.2.2.2.2.2.2.2.2.2.2 k0_h3

def k0_mult66 (i : grid0.Coords) : BitVec 32 :=
  let arg2 : BitVec 32 := BitVec.ofNat 32 (i 2).val
  let c512_i32_125 : BitVec 32 := 512#32
  let v266 : BitVec 32 := Scalar.muli arg2 c512_i32_125
  v266
def k0_off137 (i : grid0.Coords) : Fin 3 → Nat :=
  let c0_126 : Index := 0#32
  let c0_127 : Index := 0#32
  let arg2 : BitVec 32 := BitVec.ofNat 32 (i 2).val
  let c512_i32_125 : BitVec 32 := 512#32
  let v266 : BitVec 32 := Scalar.muli arg2 c512_i32_125
  let v267 : BitVec 32 := v266
  let v268 : Index := Scalar.indexCast v267
  ![0, 0, v268.toNat]
def k0_off138 (i : grid0.Coords) : Fin 3 → Nat :=
  let c0_140 : Index := 0#32
  let c128_141 : Index := 128#32
  let arg2 : BitVec 32 := BitVec.ofNat 32 (i 2).val
  let c512_i32_125 : BitVec 32 := 512#32
  let v266 : BitVec 32 := Scalar.muli arg2 c512_i32_125
  let v267 : BitVec 32 := v266
  let v294 : Index := Scalar.indexCast v267
  ![0, 128, v294.toNat]
def k0_off139 (i : grid0.Coords) : Fin 1 → Nat :=
  let arg0 : BitVec 32 := BitVec.ofNat 32 (i 0).val
  let c4_i32 : BitVec 32 := 4#32
  let v18 : BitVec 32 := Scalar.muli arg0 c4_i32
  let arg1 : BitVec 32 := BitVec.ofNat 32 (i 1).val
  let v19 : BitVec 32 := Scalar.addi v18 arg1
  let c33_i32_5 : BitVec 32 := 33#32
  let v20 : BitVec 32 := Scalar.muli v19 c33_i32_5
  let arg2 : BitVec 32 := BitVec.ofNat 32 (i 2).val
  let c1_i32_154 : BitVec 32 := 1#32
  let v320 : BitVec 32 := Scalar.addi arg2 c1_i32_154
  let c32_i32 : BitVec 32 := 32#32
  let v321 : BitVec 32 := Scalar.minsi v320 c32_i32
  let v322 : BitVec 32 := Scalar.addi v20 v321
  let v323 : Index := Scalar.indexCast v322
  ![v323.toNat]
def k0_mult67 (v324 : BitVec 32) : BitVec 32 :=
  let c512_i32_155 : BitVec 32 := 512#32
  let v325 : BitVec 32 := Scalar.muli v324 c512_i32_155
  v325

def k0_off140 (v324 : BitVec 32) : Fin 3 → Nat :=
  let c0_156 : Index := 0#32
  let c512_i32_155 : BitVec 32 := 512#32
  let v325 : BitVec 32 := Scalar.muli v324 c512_i32_155
  let v326 : BitVec 32 := v325
  let v327 : Index := Scalar.indexCast v326
  let c0_157 : Index := 0#32
  ![0, v327.toNat, 0]
def k0_off141 (v324 : BitVec 32) : Fin 3 → Nat :=
  let c0_166 : Index := 0#32
  let c512_i32_155 : BitVec 32 := 512#32
  let v325 : BitVec 32 := Scalar.muli v324 c512_i32_155
  let v326 : BitVec 32 := v325
  let v338 : Index := Scalar.indexCast v326
  let c256_167 : Index := 256#32
  ![0, v338.toNat, 256]

def k0_chk3 (i : grid0.Coords) (v23 : BitVec 32) (v324 : BitVec 32) : Prop :=
  (∀ (k0_h3 : k0_cond3 i v23 = 1#1), 512 ∣ (k0_mult67 v324).toNat) ∧
  (∀ (k0_h3 : k0_cond3 i v23 = 1#1), ∀ a, (k0_off140 v324) a + S1x512x256.size a ≤ S1x16896x512.size a) ∧
  (∀ (k0_h3 : k0_cond3 i v23 = 1#1), ∀ a, (k0_off141 v324) a + S1x512x256.size a ≤ S1x16896x512.size a)
theorem k0_mult67_dvd : ∀ (i : grid0.Coords) (v23 : BitVec 32) (v324 : BitVec 32) (k0_hw3 : k0_chk3 i v23 v324), ∀ (k0_h3 : k0_cond3 i v23 = 1#1), 512 ∣ (k0_mult67 v324).toNat := fun i v23 v324 k0_hw3 k0_h3 => k0_hw3.1 k0_h3
theorem k0_off140_inb : ∀ (i : grid0.Coords) (v23 : BitVec 32) (v324 : BitVec 32) (k0_hw3 : k0_chk3 i v23 v324), ∀ (k0_h3 : k0_cond3 i v23 = 1#1), ∀ a, (k0_off140 v324) a + S1x512x256.size a ≤ S1x16896x512.size a := fun i v23 v324 k0_hw3 k0_h3 => k0_hw3.2.1 k0_h3
theorem k0_off141_inb : ∀ (i : grid0.Coords) (v23 : BitVec 32) (v324 : BitVec 32) (k0_hw3 : k0_chk3 i v23 v324), ∀ (k0_h3 : k0_cond3 i v23 = 1#1), ∀ a, (k0_off141 v324) a + S1x512x256.size a ≤ S1x16896x512.size a := fun i v23 v324 k0_hw3 k0_h3 => k0_hw3.2.2 k0_h3

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.minsi v0 c32_i32
  let c0_i32 : BitVec 32 := 0#32
  ![arg0.toNat, v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1056 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S264 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16896x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x16896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "fake" => some ⊥
  | "mask" => some ⊥
  | _ => none
-- ==== ReferenceIdeal.lean ====
abbrev S2x16896x2048 : Shape := ⟨3, ![2, 16896, 2048]⟩
abbrev S2x1024x16896 : Shape := ⟨3, ![2, 1024, 16896]⟩
abbrev S1056 : Shape := ⟨1, ![1056]⟩
abbrev S264 : Shape := ⟨1, ![264]⟩
abbrev S8x1x128 : Shape := ⟨3, ![8, 1, 128]⟩
abbrev S2x16896x8x256 : Shape := ⟨4, ![2, 16896, 8, 256]⟩
abbrev S2x8x128x16896 : Shape := ⟨4, ![2, 8, 128, 16896]⟩
abbrev S2x33x16 : Shape := ⟨3, ![2, 33, 16]⟩
abbrev S2x33x8 : Shape := ⟨3, ![2, 33, 8]⟩
abbrev S2x33x512x8 : Shape := ⟨4, ![2, 33, 512, 8]⟩
abbrev S2x16896x8 : Shape := ⟨3, ![2, 16896, 8]⟩
abbrev S2x8x16896 : Shape := ⟨3, ![2, 8, 16896]⟩
abbrev S2x4x33 : Shape := ⟨3, ![2, 4, 33]⟩
abbrev S2x4x33x512 : Shape := ⟨4, ![2, 4, 33, 512]⟩
abbrev S2x4x16896 : Shape := ⟨3, ![2, 4, 16896]⟩
abbrev S_ : Shape := ⟨0, ![]⟩
abbrev S2x4x2x16896 : Shape := ⟨4, ![2, 4, 2, 16896]⟩
abbrev S2x8x16896x16896 : Shape := ⟨4, ![2, 8, 16896, 16896]⟩
abbrev S16896 : Shape := ⟨1, ![16896]⟩
abbrev S33 : Shape := ⟨1, ![33]⟩
abbrev S33x512 : Shape := ⟨2, ![33, 512]⟩
abbrev S16896x1 : Shape := ⟨2, ![16896, 1]⟩
abbrev S1x16896 : Shape := ⟨2, ![1, 16896]⟩
abbrev S16896x16896 : Shape := ⟨2, ![16896, 16896]⟩
abbrev S1x1x16896x16896 : Shape := ⟨4, ![1, 1, 16896, 16896]⟩
abbrev S2x8x16896x1 : Shape := ⟨4, ![2, 8, 16896, 1]⟩
abbrev S2x8x1x16896 : Shape := ⟨4, ![2, 8, 1, 16896]⟩
abbrev S1x1x1x16896 : Shape := ⟨4, ![1, 1, 1, 16896]⟩
abbrev S2x8x16896x128 : Shape := ⟨4, ![2, 8, 16896, 128]⟩
abbrev S1x8x1x128 : Shape := ⟨4, ![1, 8, 1, 128]⟩
abbrev S2x16896x8x128 : Shape := ⟨4, ![2, 16896, 8, 128]⟩
abbrev S2x16896x1024 : Shape := ⟨3, ![2, 16896, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x16896x2048, .bf16⟩
  | .hbm, ⟨1, _⟩ => ⟨S2x16896x2048, .bf16⟩
  | .hbm, ⟨2, _⟩ => ⟨S2x1024x16896, .bf16⟩
  | .hbm, ⟨3, _⟩ => ⟨S1056, .f32⟩
  | .hbm, ⟨4, _⟩ => ⟨S264, .i32⟩
  | .hbm, ⟨5, _⟩ => ⟨S8x1x128, .f32⟩
  | .hbm, ⟨6, _⟩ => ⟨S2x16896x2048, .f32⟩
  | .hbm, ⟨7, _⟩ => ⟨S2x16896x8x256, .f32⟩
  | .hbm, ⟨8, _⟩ => ⟨S2x16896x2048, .f32⟩
  | .hbm, ⟨9, _⟩ => ⟨S2x16896x8x256, .f32⟩
  | .hbm, ⟨10, _⟩ => ⟨S2x1024x16896, .f32⟩
  | .hbm, ⟨11, _⟩ => ⟨S2x8x128x16896, .f32⟩
  | .hbm, ⟨12, _⟩ => ⟨S2x33x16, .f32⟩
  | .hbm, ⟨13, _⟩ => ⟨S2x33x8, .f32⟩
  | .hbm, ⟨14, _⟩ => ⟨S2x33x512x8, .f32⟩
  | .hbm, ⟨15, _⟩ => ⟨S2x16896x8, .f32⟩
  | .hbm, ⟨16, _⟩ => ⟨S2x8x16896, .f32⟩
  | .hbm, ⟨17, _⟩ => ⟨S2x4x33, .i32⟩
  | .hbm, ⟨18, _⟩ => ⟨S2x4x33x512, .i32⟩
  | .hbm, ⟨19, _⟩ => ⟨S2x4x16896, .i32⟩
  | .hbm, ⟨20, _⟩ => ⟨S_, .i32⟩
  | .hbm, ⟨21, _⟩ => ⟨S2x4x16896, .i32⟩
  | .hbm, ⟨22, _⟩ => ⟨S2x4x16896, .i32⟩
  | .hbm, ⟨23, _⟩ => ⟨S2x4x2x16896, .i32⟩
  | .hbm, ⟨24, _⟩ => ⟨S2x8x16896, .i32⟩
  | .hbm, ⟨25, _⟩ => ⟨S2x8x16896x16896, .f32⟩
  | .hbm, ⟨26, _⟩ => ⟨S16896, .i32⟩
  | .hbm, ⟨27, _⟩ => ⟨S33, .i32⟩
  | .hbm, ⟨28, _⟩ => ⟨S33x512, .i32⟩
  | .hbm, ⟨29, _⟩ => ⟨S16896, .i32⟩
  | .hbm, ⟨30, _⟩ => ⟨S16896x1, .i32⟩
  | .hbm, ⟨31, _⟩ => ⟨S1x16896, .i32⟩
  | .hbm, ⟨32, _⟩ => ⟨S16896x16896, .i32⟩
  | .hbm, ⟨33, _⟩ => ⟨S16896x16896, .i32⟩
  | .hbm, ⟨34, _⟩ => ⟨S16896x16896, .i1⟩
  | .hbm, ⟨35, _⟩ => ⟨S1x1x16896x16896, .i1⟩
  | .hbm, ⟨36, _⟩ => ⟨S2x8x16896x1, .f32⟩
  | .hbm, ⟨37, _⟩ => ⟨S2x8x1x16896, .f32⟩
  | .hbm, ⟨38, _⟩ => ⟨S2x8x16896x16896, .f32⟩
  | .hbm, ⟨39, _⟩ => ⟨S2x8x16896x16896, .f32⟩
  | .hbm, ⟨40, _⟩ => ⟨S2x8x16896x16896, .f32⟩
  | .hbm, ⟨41, _⟩ => ⟨S_, .f32⟩
  | .hbm, ⟨42, _⟩ => ⟨S_, .f32⟩
  | .hbm, ⟨43, _⟩ => ⟨S2x8x16896x16896, .i1⟩
  | .hbm, ⟨44, _⟩ => ⟨S2x8x16896x16896, .f32⟩
  | .hbm, ⟨45, _⟩ => ⟨S2x8x16896x16896, .f32⟩
  | .hbm, ⟨46, _⟩ => ⟨S2x8x16896x16896, .f32⟩
  | .hbm, ⟨47, _⟩ => ⟨S1x16896, .i32⟩
  | .hbm, ⟨48, _⟩ => ⟨S16896x1, .i32⟩
  | .hbm, ⟨49, _⟩ => ⟨S16896x16896, .i32⟩
  | .hbm, ⟨50, _⟩ => ⟨S16896x16896, .i32⟩
  | .hbm, ⟨51, _⟩ => ⟨S16896x16896, .i1⟩
  | .hbm, ⟨52, _⟩ => ⟨S1x1x16896x16896, .i1⟩
  | .hbm, ⟨53, _⟩ => ⟨S1x1x1x16896, .i32⟩
  | .hbm, ⟨54, _⟩ => ⟨S2x8x16896x1, .i32⟩
  | .hbm, ⟨55, _⟩ => ⟨S2x8x16896x16896, .i32⟩
  | .hbm, ⟨56, _⟩ => ⟨S2x8x16896x16896, .i32⟩
  | .hbm, ⟨57, _⟩ => ⟨S2x8x16896x16896, .i1⟩
  | .hbm, ⟨58, _⟩ => ⟨S2x8x16896x16896, .i1⟩
  | .hbm, ⟨59, _⟩ => ⟨S2x8x16896x16896, .i1⟩
  | .hbm, ⟨60, _⟩ => ⟨S_, .f32⟩
  | .hbm, ⟨61, _⟩ => ⟨S_, .f32⟩
  | .hbm, ⟨62, _⟩ => ⟨S2x8x16896x16896, .f32⟩
  | .hbm, ⟨63, _⟩ => ⟨S2x8x16896x16896, .f32⟩
  | .hbm, ⟨64, _⟩ => ⟨S_, .f32⟩
  | .hbm, ⟨65, _⟩ => ⟨S2x8x16896, .f32⟩
  | .hbm, ⟨66, _⟩ => ⟨S2x8x16896x1, .f32⟩
  | .hbm, ⟨67, _⟩ => ⟨S2x8x16896x16896, .f32⟩
  | .hbm, ⟨68, _⟩ => ⟨S2x8x16896x16896, .f32⟩
  | .hbm, ⟨69, _⟩ => ⟨S_, .f32⟩
  | .hbm, ⟨70, _⟩ => ⟨S_, .f32⟩
  | .hbm, ⟨71, _⟩ => ⟨S2x8x16896x16896, .f32⟩
  | .hbm, ⟨72, _⟩ => ⟨S2x8x16896x16896, .f32⟩
  | .hbm, ⟨73, _⟩ => ⟨S2x8x16896x16896, .f32⟩
  | .hbm, ⟨74, _⟩ => ⟨S_, .f32⟩
  | .hbm, ⟨75, _⟩ => ⟨S2x8x16896, .f32⟩
  | .hbm, ⟨76, _⟩ => ⟨S2x8x16896x1, .f32⟩
  | .hbm, ⟨77, _⟩ => ⟨S2x8x16896x16896, .f32⟩
  | .hbm, ⟨78, _⟩ => ⟨S2x8x16896x16896, .f32⟩
  | .hbm, ⟨79, _⟩ => ⟨S2x8x16896x128, .f32⟩
  | .hbm, ⟨80, _⟩ => ⟨S2x8x16896x128, .f32⟩
  | .hbm, ⟨81, _⟩ => ⟨S_, .f32⟩
  | .hbm, ⟨82, _⟩ => ⟨S2x8x16896, .f32⟩
  | .hbm, ⟨83, _⟩ => ⟨S2x8x16896x1, .f32⟩
  | .hbm, ⟨84, _⟩ => ⟨S_, .f32⟩
  | .hbm, ⟨85, _⟩ => ⟨S2x8x16896x1, .f32⟩
  | .hbm, ⟨86, _⟩ => ⟨S2x8x16896x1, .f32⟩
  | .hbm, ⟨87, _⟩ => ⟨S_, .f32⟩
  | .hbm, ⟨88, _⟩ => ⟨S2x8x16896x1, .f32⟩
  | .hbm, ⟨89, _⟩ => ⟨S2x8x16896x1, .f32⟩
  | .hbm, ⟨90, _⟩ => ⟨S2x8x16896x1, .f32⟩
  | .hbm, ⟨91, _⟩ => ⟨S2x8x16896x128, .f32⟩
  | .hbm, ⟨92, _⟩ => ⟨S2x8x16896x128, .f32⟩
  | .hbm, ⟨93, _⟩ => ⟨S1x8x1x128, .f32⟩
  | .hbm, ⟨94, _⟩ => ⟨S2x8x16896x128, .f32⟩
  | .hbm, ⟨95, _⟩ => ⟨S2x8x16896x128, .f32⟩
  | .hbm, ⟨96, _⟩ => ⟨S2x16896x8x128, .f32⟩
  | .hbm, ⟨97, _⟩ => ⟨S2x16896x1024, .f32⟩
  | .hbm, ⟨98, _⟩ => ⟨S2x16896x1024, .bf16⟩
  | _, _ => ⟨S2x16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_call1_v0 : Ref sig .tc := ⟨.hbm, 61, rfl⟩
abbrev main_call1_v1 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== Kernel2.lean ====
abbrev S33792x2048 : Shape := ⟨2, ![33792, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S32768x2048 : Shape := ⟨2, ![32768, 2048]⟩
abbrev S1024x2048 : Shape := ⟨2, ![1024, 2048]⟩
abbrev S2x2048x512 : Shape := ⟨3, ![2, 2048, 512]⟩
abbrev S2x512x2048 : Shape := ⟨3, ![2, 512, 2048]⟩
abbrev S3x2 : Shape := ⟨2, ![3, 2]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S1x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S2x2048x512, .bf16⟩
  | .local _ .vmem, ⟨8, _⟩ => ⟨S2x2048x512, .bf16⟩
  | .local _ .vmem, ⟨9, _⟩ => ⟨S2x512x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_21 : BitVec 32 := 0#32
  c0_i32_21
@[reducible] def k0_t1_loop : Scf.Loop 32 :=
  let c0_i32_10 : BitVec 32 := 0#32
  let c11_i32 : BitVec 32 := 11#32
  let v22 : BitVec 32 := Scalar.addi c0_i32_10 c11_i32
  let c1_i32 : BitVec 32 := 1#32
  ⟨c0_i32_10, v22, c1_i32⟩
def k0_mult2 (k0_t1 : Fin k0_t1_loop.trips) : BitVec 32 :=
  let c0_i32_10 : BitVec 32 := 0#32
  let c1_i32 : BitVec 32 := 1#32
  let arg13 : BitVec 32 := Scf.iv c0_i32_10 c1_i32 k0_t1
  let c512_i32 : BitVec 32 := 512#32
  let v51 : BitVec 32 := Scalar.muli arg13 c512_i32
  v51
def k0_off1 (i : grid0.Coords) (k0_t1 : Fin k0_t1_loop.trips) : Fin 2 → Nat :=
  let c0_i32_28 : BitVec 32 := 0#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  ![0, v50.toNat]
def k0_off2 (i : grid0.Coords) (k0_t1 : Fin k0_t1_loop.trips) : Fin 3 → Nat :=
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let c0_i32_29 : BitVec 32 := 0#32
  let c0_i32_30 : BitVec 32 := 0#32
  ![v50.toNat, 0, 0]
def k0_off3 (k0_t1 : Fin k0_t1_loop.trips) : Fin 3 → Nat :=
  let c1_i32_27 : BitVec 32 := 1#32
  let c0_i32_31 : BitVec 32 := 0#32
  let c0_i32_10 : BitVec 32 := 0#32
  let c1_i32 : BitVec 32 := 1#32
  let arg13 : BitVec 32 := Scf.iv c0_i32_10 c1_i32 k0_t1
  let c512_i32 : BitVec 32 := 512#32
  let v51 : BitVec 32 := Scalar.muli arg13 c512_i32
  let v52 : BitVec 32 := v51
  ![1, 0, v52.toNat]
def k0_off4 (i : grid0.Coords) (k0_t1 : Fin k0_t1_loop.trips) : Fin 2 → Nat :=
  let c1_i32_33 : BitVec 32 := 1#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  ![1, v50.toNat]
def k0_off5 (i : grid0.Coords) (k0_t1 : Fin k0_t1_loop.trips) : Fin 2 → Nat :=
  let c2_i32_38 : BitVec 32 := 2#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  ![2, v50.toNat]
def k0_off6 (i : grid0.Coords) (k0_t1 : Fin k0_t1_loop.trips) : Fin 3 → Nat :=
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let c0_i32_39 : BitVec 32 := 0#32
  let c0_i32_40 : BitVec 32 := 0#32
  ![v50.toNat, 0, 0]
def k0_off7 (k0_t1 : Fin k0_t1_loop.trips) : Fin 3 → Nat :=
  let c1_i32_37 : BitVec 32 := 1#32
  let c0_i32_10 : BitVec 32 := 0#32
  let c1_i32 : BitVec 32 := 1#32
  let arg13 : BitVec 32 := Scf.iv c0_i32_10 c1_i32 k0_t1
  let c512_i32 : BitVec 32 := 512#32
  let v51 : BitVec 32 := Scalar.muli arg13 c512_i32
  let v52 : BitVec 32 := v51
  let c0_i32_41 : BitVec 32 := 0#32
  ![1, v52.toNat, 0]
def k0_cond2 (i : grid0.Coords) (k0_t1 : Fin k0_t1_loop.trips) : BitVec 1 :=
  let c0_i32_10 : BitVec 32 := 0#32
  let c1_i32 : BitVec 32 := 1#32
  let arg13 : BitVec 32 := Scf.iv c0_i32_10 c1_i32 k0_t1
  let c1_i32_42 : BitVec 32 := 1#32
  let v71 : BitVec 32 := Scalar.addi arg13 c1_i32_42
  let c11_i32_43 : BitVec 32 := 11#32
  let v72 : BitVec 1 := Scalar.cmpi .slt v71 c11_i32_43
  let arg0 : BitVec 32 := BitVec.ofNat 32 (i 0).val
  let c1_i32_44 : BitVec 32 := 1#32
  let v73 : BitVec 32 := Scalar.addi arg0 c1_i32_44
  let c32_i32 : BitVec 32 := 32#32
  let v74 : BitVec 1 := Scalar.cmpi .slt v73 c32_i32
  let v75 : BitVec 1 := Scalar.ori v72 v74
  let v76 : BitVec 32 := Scalar.extui v75
  let c0_i32_45 : BitVec 32 := 0#32
  let v77 : BitVec 1 := Scalar.cmpi .ne v76 c0_i32_45
  v77

def k0_mult3 (k0_t1 : Fin k0_t1_loop.trips) : BitVec 32 :=
  let c0_i32_10 : BitVec 32 := 0#32
  let c1_i32 : BitVec 32 := 1#32
  let arg13 : BitVec 32 := Scf.iv c0_i32_10 c1_i32 k0_t1
  let c1_i32_61 : BitVec 32 := 1#32
  let v99 : BitVec 32 := Scalar.addi arg13 c1_i32_61
  let c11_i32_62 : BitVec 32 := 11#32
  let v100 : BitVec 1 := Scalar.cmpi .slt v99 c11_i32_62
  let c1_i32_63 : BitVec 32 := 1#32
  let v101 : BitVec 32 := Scalar.addi arg13 c1_i32_63
  let c0_i32_64 : BitVec 32 := 0#32
  let v102 : BitVec 32 := Scalar.select v100 v101 c0_i32_64
  let c512_i32_66 : BitVec 32 := 512#32
  let v104 : BitVec 32 := Scalar.muli v102 c512_i32_66
  v104
def k0_off8 (i : grid0.Coords) (k0_t1 : Fin k0_t1_loop.trips) : Fin 2 → Nat :=
  let c0_i32_68 : BitVec 32 := 0#32
  let c1_i32_65 : BitVec 32 := 1#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v103 : BitVec 32 := Scalar.subi c1_i32_65 v50
  ![0, v103.toNat]
def k0_off9 (i : grid0.Coords) (k0_t1 : Fin k0_t1_loop.trips) : Fin 3 → Nat :=
  let c1_i32_65 : BitVec 32 := 1#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v103 : BitVec 32 := Scalar.subi c1_i32_65 v50
  let c0_i32_69 : BitVec 32 := 0#32
  let c0_i32_70 : BitVec 32 := 0#32
  ![v103.toNat, 0, 0]
def k0_off10 (k0_t1 : Fin k0_t1_loop.trips) : Fin 3 → Nat :=
  let c1_i32_67 : BitVec 32 := 1#32
  let c0_i32_71 : BitVec 32 := 0#32
  let c0_i32_10 : BitVec 32 := 0#32
  let c1_i32 : BitVec 32 := 1#32
  let arg13 : BitVec 32 := Scf.iv c0_i32_10 c1_i32 k0_t1
  let c1_i32_61 : BitVec 32 := 1#32
  let v99 : BitVec 32 := Scalar.addi arg13 c1_i32_61
  let c11_i32_62 : BitVec 32 := 11#32
  let v100 : BitVec 1 := Scalar.cmpi .slt v99 c11_i32_62
  let c1_i32_63 : BitVec 32 := 1#32
  let v101 : BitVec 32 := Scalar.addi arg13 c1_i32_63
  let c0_i32_64 : BitVec 32 := 0#32
  let v102 : BitVec 32 := Scalar.select v100 v101 c0_i32_64
  let c512_i32_66 : BitVec 32 := 512#32
  let v104 : BitVec 32 := Scalar.muli v102 c512_i32_66
  let v105 : BitVec 32 := v104
  ![1, 0, v105.toNat]
def k0_off11 (i : grid0.Coords) (k0_t1 : Fin k0_t1_loop.trips) : Fin 2 → Nat :=
  let c1_i32_73 : BitVec 32 := 1#32
  let c1_i32_65 : BitVec 32 := 1#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v103 : BitVec 32 := Scalar.subi c1_i32_65 v50
  ![1, v103.toNat]
def k0_off12 (i : grid0.Coords) (k0_t1 : Fin k0_t1_loop.trips) : Fin 2 → Nat :=
  let c2_i32_78 : BitVec 32 := 2#32
  let c1_i32_65 : BitVec 32 := 1#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v103 : BitVec 32 := Scalar.subi c1_i32_65 v50
  ![2, v103.toNat]
def k0_off13 (i : grid0.Coords) (k0_t1 : Fin k0_t1_loop.trips) : Fin 3 → Nat :=
  let c1_i32_65 : BitVec 32 := 1#32
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v103 : BitVec 32 := Scalar.subi c1_i32_65 v50
  let c0_i32_79 : BitVec 32 := 0#32
  let c0_i32_80 : BitVec 32 := 0#32
  ![v103.toNat, 0, 0]
def k0_off14 (k0_t1 : Fin k0_t1_loop.trips) : Fin 3 → Nat :=
  let c1_i32_77 : BitVec 32 := 1#32
  let c0_i32_10 : BitVec 32 := 0#32
  let c1_i32 : BitVec 32 := 1#32
  let arg13 : BitVec 32 := Scf.iv c0_i32_10 c1_i32 k0_t1
  let c1_i32_61 : BitVec 32 := 1#32
  let v99 : BitVec 32 := Scalar.addi arg13 c1_i32_61
  let c11_i32_62 : BitVec 32 := 11#32
  let v100 : BitVec 1 := Scalar.cmpi .slt v99 c11_i32_62
  let c1_i32_63 : BitVec 32 := 1#32
  let v101 : BitVec 32 := Scalar.addi arg13 c1_i32_63
  let c0_i32_64 : BitVec 32 := 0#32
  let v102 : BitVec 32 := Scalar.select v100 v101 c0_i32_64
  let c512_i32_66 : BitVec 32 := 512#32
  let v104 : BitVec 32 := Scalar.muli v102 c512_i32_66
  let v105 : BitVec 32 := v104
  let c0_i32_81 : BitVec 32 := 0#32
  ![1, v105.toNat, 0]
def k0_off15 (i : grid0.Coords) (k0_t1 : Fin k0_t1_loop.trips) : Fin 3 → Nat :=
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v79 : Index := Scalar.indexCast v50
  let c0_48 : Index := 0#32
  let c0_49 : Index := 0#32
  ![v79.toNat, 0, 0]
def k0_off16 (i : grid0.Coords) (k0_t1 : Fin k0_t1_loop.trips) : Fin 3 → Nat :=
  let arg0 : BitVec 32 := BitVec.ofNat 32 (i 0).val
  let c11_i32_21 : BitVec 32 := 11#32
  let v39 : BitVec 32 := Scalar.muli arg0 c11_i32_21
  let c0_i32_10 : BitVec 32 := 0#32
  let c1_i32 : BitVec 32 := 1#32
  let arg13 : BitVec 32 := Scf.iv c0_i32_10 c1_i32 k0_t1
  let v40 : BitVec 32 := Scalar.addi v39 arg13
  let c2_i32 : BitVec 32 := 2#32
  let c0_i32_22 : BitVec 32 := 0#32
  let v41 : BitVec 1 := Scalar.cmpi .eq c2_i32 c0_i32_22
  let c1_i32_23 : BitVec 32 := 1#32
  let v42 : BitVec 32 := Scalar.select v41 c1_i32_23 c2_i32
  let v43 : BitVec 32 := Scalar.remsi v40 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let v93 : Index := Scalar.indexCast v50
  let c0_56 : Index := 0#32
  let c0_57 : Index := 0#32
  ![v93.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S33792x2048 : Shape := ⟨2, ![33792, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 60
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S1x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S1x2048x5632, .bf16⟩
  | .hbm, ⟨23, _⟩ => ⟨S2048x5632, .bf16⟩
  | .hbm, ⟨24, _⟩ => ⟨S2048x5632, .f32⟩
  | .hbm, ⟨25, _⟩ => ⟨S32768x5632, .f32⟩
  | .hbm, ⟨26, _⟩ => ⟨S1x2048x5632, .bf16⟩
  | .hbm, ⟨27, _⟩ => ⟨S2048x5632, .bf16⟩
  | .hbm, ⟨28, _⟩ => ⟨S2048x5632, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S_, .f32⟩
  | .hbm, ⟨36, _⟩ => ⟨S32768x5632, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S1x5632x2048, .bf16⟩
  | .hbm, ⟨41, _⟩ => ⟨S5632x2048, .bf16⟩
  | .hbm, ⟨42, _⟩ => ⟨S5632x2048, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x2048, .f32⟩
  | .hbm, ⟨57, _⟩ => ⟨S32768x2048, .f32⟩
  | .hbm, ⟨58, _⟩ => ⟨S32768x2048, .f32⟩
  | .hbm, ⟨59, _⟩ => ⟨S32768x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel3.lean ====
abbrev S33792x2048 : Shape := ⟨2, ![33792, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1024x2048 : Shape := ⟨2, ![1024, 2048]⟩
abbrev S2x2048x512 : Shape := ⟨3, ![2, 2048, 512]⟩
abbrev S2x512x2048 : Shape := ⟨3, ![2, 512, 2048]⟩
abbrev S3x2 : Shape := ⟨2, ![3, 2]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S1x2048, .f32⟩
  | .hbm, ⟨6, _⟩ => ⟨S33792x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S2x2048x512, .bf16⟩
  | .local _ .vmem, ⟨8, _⟩ => ⟨S2x2048x512, .bf16⟩
  | .local _ .vmem, ⟨9, _⟩ => ⟨S2x512x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_12 : BitVec 32 := 0#32
  c0_i32_12
@[reducible] def k0_t1_loop : Scf.Loop 32 :=
  let c0_i32_10 : BitVec 32 := 0#32
  let c11_i32 : BitVec 32 := 11#32
  let v22 : BitVec 32 := Scalar.addi c0_i32_10 c11_i32
  let c1_i32 : BitVec 32 := 1#32
  ⟨c0_i32_10, v22, c1_i32⟩
def k0_mult2 (k0_t1 : Fin k0_t1_loop.trips) : BitVec 32 :=
  let c0_i32_10 : BitVec 32 := 0#32
  let c1_i32 : BitVec 32 := 1#32
  let arg13 : BitVec 32 := Scf.iv c0_i32_10 c1_i32 k0_t1
  let c512_i32 : BitVec 32 := 512#32
  let v35 : BitVec 32 := Scalar.muli arg13 c512_i32
  v35
def k0_off1 (i : grid0.Coords) (k0_t1 : Fin k0_t1_loop.trips) : Fin 2 → Nat :=
  let c0_i32_19 : BitVec 32 := 0#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  ![0, v34.toNat]
def k0_off2 (i : grid0.Coords) (k0_t1 : Fin k0_t1_loop.trips) : Fin 3 → Nat :=
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_20 : BitVec 32 := 0#32
  let c0_i32_21 : BitVec 32 := 0#32
  ![v34.toNat, 0, 0]
def k0_off3 (k0_t1 : Fin k0_t1_loop.trips) : Fin 3 → Nat :=
  let c0_i32_18 : BitVec 32 := 0#32
  let c0_i32_22 : BitVec 32 := 0#32
  let c0_i32_10 : BitVec 32 := 0#32
  let c1_i32 : BitVec 32 := 1#32
  let arg13 : BitVec 32 := Scf.iv c0_i32_10 c1_i32 k0_t1
  let c512_i32 : BitVec 32 := 512#32
  let v35 : BitVec 32 := Scalar.muli arg13 c512_i32
  let v36 : BitVec 32 := v35
  ![0, 0, v36.toNat]
def k0_off4 (i : grid0.Coords) (k0_t1 : Fin k0_t1_loop.trips) : Fin 2 → Nat :=
  let c1_i32_24 : BitVec 32 := 1#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  ![1, v34.toNat]
def k0_off5 (i : grid0.Coords) (k0_t1 : Fin k0_t1_loop.trips) : Fin 2 → Nat :=
  let c2_i32_29 : BitVec 32 := 2#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  ![2, v34.toNat]
def k0_off6 (i : grid0.Coords) (k0_t1 : Fin k0_t1_loop.trips) : Fin 3 → Nat :=
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_30 : BitVec 32 := 0#32
  let c0_i32_31 : BitVec 32 := 0#32
  ![v34.toNat, 0, 0]
def k0_off7 (k0_t1 : Fin k0_t1_loop.trips) : Fin 3 → Nat :=
  let c0_i32_28 : BitVec 32 := 0#32
  let c0_i32_10 : BitVec 32 := 0#32
  let c1_i32 : BitVec 32 := 1#32
  let arg13 : BitVec 32 := Scf.iv c0_i32_10 c1_i32 k0_t1
  let c512_i32 : BitVec 32 := 512#32
  let v35 : BitVec 32 := Scalar.muli arg13 c512_i32
  let v36 : BitVec 32 := v35
  let c0_i32_32 : BitVec 32 := 0#32
  ![0, v36.toNat, 0]
def k0_cond2 (i : grid0.Coords) (k0_t1 : Fin k0_t1_loop.trips) : BitVec 1 :=
  let c0_i32_10 : BitVec 32 := 0#32
  let c1_i32 : BitVec 32 := 1#32
  let arg13 : BitVec 32 := Scf.iv c0_i32_10 c1_i32 k0_t1
  let c1_i32_33 : BitVec 32 := 1#32
  let v55 : BitVec 32 := Scalar.addi arg13 c1_i32_33
  let c11_i32_34 : BitVec 32 := 11#32
  let v56 : BitVec 1 := Scalar.cmpi .slt v55 c11_i32_34
  let arg0 : BitVec 32 := BitVec.ofNat 32 (i 0).val
  let c1_i32_35 : BitVec 32 := 1#32
  let v57 : BitVec 32 := Scalar.addi arg0 c1_i32_35
  let c33_i32 : BitVec 32 := 33#32
  let v58 : BitVec 1 := Scalar.cmpi .slt v57 c33_i32
  let v59 : BitVec 1 := Scalar.ori v56 v58
  let v60 : BitVec 32 := Scalar.extui v59
  let c0_i32_36 : BitVec 32 := 0#32
  let v61 : BitVec 1 := Scalar.cmpi .ne v60 c0_i32_36
  v61

def k0_mult3 (k0_t1 : Fin k0_t1_loop.trips) : BitVec 32 :=
  let c0_i32_10 : BitVec 32 := 0#32
  let c1_i32 : BitVec 32 := 1#32
  let arg13 : BitVec 32 := Scf.iv c0_i32_10 c1_i32 k0_t1
  let c1_i32_52 : BitVec 32 := 1#32
  let v83 : BitVec 32 := Scalar.addi arg13 c1_i32_52
  let c11_i32_53 : BitVec 32 := 11#32
  let v84 : BitVec 1 := Scalar.cmpi .slt v83 c11_i32_53
  let c1_i32_54 : BitVec 32 := 1#32
  let v85 : BitVec 32 := Scalar.addi arg13 c1_i32_54
  let c0_i32_55 : BitVec 32 := 0#32
  let v86 : BitVec 32 := Scalar.select v84 v85 c0_i32_55
  let c512_i32_57 : BitVec 32 := 512#32
  let v88 : BitVec 32 := Scalar.muli v86 c512_i32_57
  v88
def k0_off8 (i : grid0.Coords) (k0_t1 : Fin k0_t1_loop.trips) : Fin 2 → Nat :=
  let c0_i32_59 : BitVec 32 := 0#32
  let c1_i32_56 : BitVec 32 := 1#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v87 : BitVec 32 := Scalar.subi c1_i32_56 v34
  ![0, v87.toNat]
def k0_off9 (i : grid0.Coords) (k0_t1 : Fin k0_t1_loop.trips) : Fin 3 → Nat :=
  let c1_i32_56 : BitVec 32 := 1#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v87 : BitVec 32 := Scalar.subi c1_i32_56 v34
  let c0_i32_60 : BitVec 32 := 0#32
  let c0_i32_61 : BitVec 32 := 0#32
  ![v87.toNat, 0, 0]
def k0_off10 (k0_t1 : Fin k0_t1_loop.trips) : Fin 3 → Nat :=
  let c0_i32_58 : BitVec 32 := 0#32
  let c0_i32_62 : BitVec 32 := 0#32
  let c0_i32_10 : BitVec 32 := 0#32
  let c1_i32 : BitVec 32 := 1#32
  let arg13 : BitVec 32 := Scf.iv c0_i32_10 c1_i32 k0_t1
  let c1_i32_52 : BitVec 32 := 1#32
  let v83 : BitVec 32 := Scalar.addi arg13 c1_i32_52
  let c11_i32_53 : BitVec 32 := 11#32
  let v84 : BitVec 1 := Scalar.cmpi .slt v83 c11_i32_53
  let c1_i32_54 : BitVec 32 := 1#32
  let v85 : BitVec 32 := Scalar.addi arg13 c1_i32_54
  let c0_i32_55 : BitVec 32 := 0#32
  let v86 : BitVec 32 := Scalar.select v84 v85 c0_i32_55
  let c512_i32_57 : BitVec 32 := 512#32
  let v88 : BitVec 32 := Scalar.muli v86 c512_i32_57
  let v89 : BitVec 32 := v88
  ![0, 0, v89.toNat]
def k0_off11 (i : grid0.Coords) (k0_t1 : Fin k0_t1_loop.trips) : Fin 2 → Nat :=
  let c1_i32_64 : BitVec 32 := 1#32
  let c1_i32_56 : BitVec 32 := 1#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v87 : BitVec 32 := Scalar.subi c1_i32_56 v34
  ![1, v87.toNat]
def k0_off12 (i : grid0.Coords) (k0_t1 : Fin k0_t1_loop.trips) : Fin 2 → Nat :=
  let c2_i32_69 : BitVec 32 := 2#32
  let c1_i32_56 : BitVec 32 := 1#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v87 : BitVec 32 := Scalar.subi c1_i32_56 v34
  ![2, v87.toNat]
def k0_off13 (i : grid0.Coords) (k0_t1 : Fin k0_t1_loop.trips) : Fin 3 → Nat :=
  let c1_i32_56 : BitVec 32 := 1#32
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v87 : BitVec 32 := Scalar.subi c1_i32_56 v34
  let c0_i32_70 : BitVec 32 := 0#32
  let c0_i32_71 : BitVec 32 := 0#32
  ![v87.toNat, 0, 0]
def k0_off14 (k0_t1 : Fin k0_t1_loop.trips) : Fin 3 → Nat :=
  let c0_i32_68 : BitVec 32 := 0#32
  let c0_i32_10 : BitVec 32 := 0#32
  let c1_i32 : BitVec 32 := 1#32
  let arg13 : BitVec 32 := Scf.iv c0_i32_10 c1_i32 k0_t1
  let c1_i32_52 : BitVec 32 := 1#32
  let v83 : BitVec 32 := Scalar.addi arg13 c1_i32_52
  let c11_i32_53 : BitVec 32 := 11#32
  let v84 : BitVec 1 := Scalar.cmpi .slt v83 c11_i32_53
  let c1_i32_54 : BitVec 32 := 1#32
  let v85 : BitVec 32 := Scalar.addi arg13 c1_i32_54
  let c0_i32_55 : BitVec 32 := 0#32
  let v86 : BitVec 32 := Scalar.select v84 v85 c0_i32_55
  let c512_i32_57 : BitVec 32 := 512#32
  let v88 : BitVec 32 := Scalar.muli v86 c512_i32_57
  let v89 : BitVec 32 := v88
  let c0_i32_72 : BitVec 32 := 0#32
  ![0, v89.toNat, 0]
def k0_off15 (i : grid0.Coords) (k0_t1 : Fin k0_t1_loop.trips) : Fin 3 → Nat :=
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v63 : Index := Scalar.indexCast v34
  let c0_39 : Index := 0#32
  let c0_40 : Index := 0#32
  ![v63.toNat, 0, 0]
def k0_off16 (i : grid0.Coords) (k0_t1 : Fin k0_t1_loop.trips) : Fin 3 → Nat :=
  let arg0 : BitVec 32 := BitVec.ofNat 32 (i 0).val
  let c11_i32_12 : BitVec 32 := 11#32
  let v23 : BitVec 32 := Scalar.muli arg0 c11_i32_12
  let c0_i32_10 : BitVec 32 := 0#32
  let c1_i32 : BitVec 32 := 1#32
  let arg13 : BitVec 32 := Scf.iv c0_i32_10 c1_i32 k0_t1
  let v24 : BitVec 32 := Scalar.addi v23 arg13
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v77 : Index := Scalar.indexCast v34
  let c0_47 : Index := 0#32
  let c0_48 : Index := 0#32
  ![v77.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S33792x2048 : Shape := ⟨2, ![33792, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S33792 : Shape := ⟨1, ![33792]⟩
abbrev S33792x1 : Shape := ⟨2, ![33792, 1]⟩
abbrev S1x2048x5632 : Shape := ⟨3, ![1, 2048, 5632]⟩
abbrev S2048x5632 : Shape := ⟨2, ![2048, 5632]⟩
abbrev S33792x5632 : Shape := ⟨2, ![33792, 5632]⟩
abbrev S1x5632x2048 : Shape := ⟨3, ![1, 5632, 2048]⟩
abbrev S5632x2048 : Shape := ⟨2, ![5632, 2048]⟩

abbrev nBuf : Space → Nat
  | .hbm => 44
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S1x2048, .f32⟩
  | .hbm, ⟨6, _⟩ => ⟨S33792x2048, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x2048, .f32⟩
  | .hbm, ⟨18, _⟩ => ⟨S33792x2048, .f32⟩
  | .hbm, ⟨19, _⟩ => ⟨S33792x2048, .f32⟩
  | .hbm, ⟨20, _⟩ => ⟨S33792x2048, .f32⟩
  | .hbm, ⟨21, _⟩ => ⟨S1x2048x5632, .bf16⟩
  | .hbm, ⟨22, _⟩ => ⟨S2048x5632, .bf16⟩
  | .hbm, ⟨23, _⟩ => ⟨S2048x5632, .f32⟩
  | .hbm, ⟨24, _⟩ => ⟨S33792x5632, .f32⟩
  | .hbm, ⟨25, _⟩ => ⟨S1x2048x5632, .bf16⟩
  | .hbm, ⟨26, _⟩ => ⟨S2048x5632, .bf16⟩
  | .hbm, ⟨27, _⟩ => ⟨S2048x5632, .f32⟩
  | .hbm, ⟨28, _⟩ => ⟨S33792x5632, .f32⟩
  | .hbm, ⟨29, _⟩ => ⟨S33792x5632, .f32⟩
  | .hbm, ⟨30, _⟩ => ⟨S33792x5632, .f32⟩
  | .hbm, ⟨31, _⟩ => ⟨S_, .f32⟩
  | .hbm, ⟨32, _⟩ => ⟨S33792x5632, .f32⟩
  | .hbm, ⟨33, _⟩ => ⟨S33792x5632, .f32⟩
  | .hbm, ⟨34, _⟩ => ⟨S_, .f32⟩
  | .hbm, ⟨35, _⟩ => ⟨S33792x5632, .f32⟩
  | .hbm, ⟨36, _⟩ => ⟨S33792x5632, .f32⟩
  | .hbm, ⟨37, _⟩ => ⟨S33792x5632, .f32⟩
  | .hbm, ⟨38, _⟩ => ⟨S33792x5632, .f32⟩
  | .hbm, ⟨39, _⟩ => ⟨S1x5632x2048, .bf16⟩
  | .hbm, ⟨40, _⟩ => ⟨S5632x2048, .bf16⟩
  | .hbm, ⟨41, _⟩ => ⟨S5632x2048, .f32⟩
  | .hbm, ⟨42, _⟩ => ⟨S33792x2048, .f32⟩
  | .hbm, ⟨43, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel4.lean ====
abbrev S32768x2048 : Shape := ⟨2, ![32768, 2048]⟩
abbrev S1024x2048 : Shape := ⟨2, ![1024, 2048]⟩
abbrev S1x2048 : Shape := ⟨2, ![1, 2048]⟩
abbrev S2x2048x6152 : Shape := ⟨3, ![2, 2048, 6152]⟩
abbrev S16x2048 : Shape := ⟨2, ![16, 2048]⟩
abbrev S16x1 : Shape := ⟨2, ![16, 1]⟩
abbrev S2x16896x2048 : Shape := ⟨3, ![2, 16896, 2048]⟩
abbrev S2x1024x16896 : Shape := ⟨3, ![2, 1024, 16896]⟩
abbrev S2x33x4x16x128 : Shape := ⟨5, ![2, 33, 4, 16, 128]⟩
abbrev S33792x2048 : Shape := ⟨2, ![33792, 2048]⟩
abbrev S512x2048 : Shape := ⟨2, ![512, 2048]⟩
abbrev S1x2048x2048 : Shape := ⟨3, ![1, 2048, 2048]⟩
abbrev S1x2048x1024 : Shape := ⟨3, ![1, 2048, 1024]⟩
abbrev S1x512x2048 : Shape := ⟨3, ![1, 512, 2048]⟩
abbrev S1x1024x512 : Shape := ⟨3, ![1, 1024, 512]⟩
abbrev S1x1x4x16x128 : Shape := ⟨5, ![1, 1, 4, 16, 128]⟩
abbrev S16x128 : Shape := ⟨2, ![16, 128]⟩
abbrev S1040x2048 : Shape := ⟨2, ![1040, 2048]⟩
abbrev S512 : Shape := ⟨1, ![512]⟩
abbrev S512x1 : Shape := ⟨2, ![512, 1]⟩
abbrev S2048x1024 : Shape := ⟨2, ![2048, 1024]⟩
abbrev S1040x512 : Shape := ⟨2, ![1040, 512]⟩
abbrev S1024x512 : Shape := ⟨2, ![1024, 512]⟩
abbrev S16x512 : Shape := ⟨2, ![16, 512]⟩
abbrev S4x16x128 : Shape := ⟨3, ![4, 16, 128]⟩
abbrev S1x1x1x16x128 : Shape := ⟨5, ![1, 1, 1, 16, 128]⟩
abbrev S16 : Shape := ⟨1, ![16]⟩
abbrev S112x512 : Shape := ⟨2, ![112, 512]⟩
abbrev S128x512 : Shape := ⟨2, ![128, 512]⟩
abbrev S512x128 : Shape := ⟨2, ![512, 128]⟩
abbrev S512x1024 : Shape := ⟨2, ![512, 1024]⟩
abbrev S1x512x128 : Shape := ⟨3, ![1, 512, 128]⟩
abbrev S1 : Shape := ⟨1, ![1]⟩
abbrev S1x1 : Shape := ⟨2, ![1, 1]⟩
abbrev S1x128 : Shape := ⟨2, ![1, 128]⟩
abbrev S1x1x1x1x128 : Shape := ⟨5, ![1, 1, 1, 1, 128]⟩

abbrev nBuf : Space → Nat
  | .hbm => 11
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S1024x2048, .f32⟩
  | .hbm, ⟨2, _⟩ => ⟨S1x2048, .f32⟩
  | .hbm, ⟨3, _⟩ => ⟨S2x2048x6152, .bf16⟩
  | .hbm, ⟨4, _⟩ => ⟨S16x2048, .bf16⟩
  | .hbm, ⟨5, _⟩ => ⟨S16x1, .f32⟩
  | .hbm, ⟨6, _⟩ => ⟨S2x16896x2048, .bf16⟩
  | .hbm, ⟨7, _⟩ => ⟨S2x16896x2048, .bf16⟩
  | .hbm, ⟨8, _⟩ => ⟨S2x1024x16896, .bf16⟩
  | .hbm, ⟨9, _⟩ => ⟨S2x33x4x16x128, .f32⟩
  | .hbm, ⟨10, _⟩ => ⟨S33792x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x2048x2048, .bf16⟩
  | .local _ .vmem, ⟨5, _⟩ => ⟨S1x2048x1024, .bf16⟩
  | .local _ .vmem, ⟨6, _⟩ => ⟨S16x2048, .bf16⟩
  | .local _ .vmem, ⟨7, _⟩ => ⟨S16x1, .f32⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1x4x16x128, .f32⟩
  | .local _ .vmem, ⟨15, _⟩ => ⟨S1x1x4x16x128, .f32⟩
  | .local _ .vmem, ⟨16, _⟩ => ⟨S512x2048, .bf16⟩
  | .local _ .vmem, ⟨17, _⟩ => ⟨S512x2048, .bf16⟩
  | .local _ .vmem, ⟨18, _⟩ => ⟨S16x128, .f32⟩
  | .local _ .vmem, ⟨19, _⟩ => ⟨S1040x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c32_i32 : BitVec 32 := 32#32
  let v2 : BitVec 32 := Scalar.muli arg0 c32_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  ![v5.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S32768x2048 : Shape := ⟨2, ![32768, 2048]⟩
abbrev S1024x2048 : Shape := ⟨2, ![1024, 2048]⟩
abbrev S1x2048 : Shape := ⟨2, ![1, 2048]⟩
abbrev S2x2048x6152 : Shape := ⟨3, ![2, 2048, 6152]⟩
abbrev S16x2048 : Shape := ⟨2, ![16, 2048]⟩
abbrev S16x1 : Shape := ⟨2, ![16, 1]⟩
abbrev S33792x2048 : Shape := ⟨2, ![33792, 2048]⟩
abbrev S_ : Shape := ⟨0, ![]⟩
abbrev S33792 : Shape := ⟨1, ![33792]⟩
abbrev S33792x1 : Shape := ⟨2, ![33792, 1]⟩
abbrev S2x512x2048 : Shape := ⟨3, ![2, 512, 2048]⟩
abbrev S2x16384x2048 : Shape := ⟨3, ![2, 16384, 2048]⟩
abbrev S2x16896x2048 : Shape := ⟨3, ![2, 16896, 2048]⟩
abbrev S1x2048x6152 : Shape := ⟨3, ![1, 2048, 6152]⟩
abbrev S2048x6152 : Shape := ⟨2, ![2048, 6152]⟩
abbrev S2048x1024 : Shape := ⟨2, ![2048, 1024]⟩
abbrev S2x16896x1024 : Shape := ⟨3, ![2, 16896, 1024]⟩
abbrev S128 : Shape := ⟨1, ![128]⟩
abbrev S2x16896x8x128 : Shape := ⟨4, ![2, 16896, 8, 128]⟩
abbrev S2x16896x8x256 : Shape := ⟨4, ![2, 16896, 8, 256]⟩
abbrev S2x1024x16896 : Shape := ⟨3, ![2, 1024, 16896]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1024x2048, .f32⟩
  | .hbm, ⟨2, _⟩ => ⟨S1x2048, .f32⟩
  | .hbm, ⟨3, _⟩ => ⟨S2x2048x6152, .bf16⟩
  | .hbm, ⟨4, _⟩ => ⟨S16x2048, .bf16⟩
  | .hbm, ⟨5, _⟩ => ⟨S16x1, .f32⟩
  | .hbm, ⟨6, _⟩ => ⟨S33792x2048, .f32⟩
  | .hbm, ⟨7, _⟩ => ⟨S33792x2048, .f32⟩
  | .hbm, ⟨8, _⟩ => ⟨S_, .f32⟩
  | .hbm, ⟨9, _⟩ => ⟨S33792, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S_, .f32⟩
  | .hbm, ⟨15, _⟩ => ⟨S33792x1, .f32⟩
  | .hbm, ⟨16, _⟩ => ⟨S33792x1, .f32⟩
  | .hbm, ⟨17, _⟩ => ⟨S33792x1, .f32⟩
  | .hbm, ⟨18, _⟩ => ⟨S33792x2048, .f32⟩
  | .hbm, ⟨19, _⟩ => ⟨S33792x2048, .f32⟩
  | .hbm, ⟨20, _⟩ => ⟨S33792x2048, .f32⟩
  | .hbm, ⟨21, _⟩ => ⟨S33792x2048, .f32⟩
  | .hbm, ⟨22, _⟩ => ⟨S1024x2048, .f32⟩
  | .hbm, ⟨23, _⟩ => ⟨S2x512x2048, .f32⟩
  | .hbm, ⟨24, _⟩ => ⟨S32768x2048, .f32⟩
  | .hbm, ⟨25, _⟩ => ⟨S2x16384x2048, .f32⟩
  | .hbm, ⟨26, _⟩ => ⟨S2x16896x2048, .f32⟩
  | .hbm, ⟨27, _⟩ => ⟨S1x2048x6152, .bf16⟩
  | .hbm, ⟨28, _⟩ => ⟨S2048x6152, .bf16⟩
  | .hbm, ⟨29, _⟩ => ⟨S2048x6152, .f32⟩
  | .hbm, ⟨30, _⟩ => ⟨S2048x1024, .f32⟩
  | .hbm, ⟨31, _⟩ => ⟨S2x16896x1024, .f32⟩
  | .hbm, ⟨32, _⟩ => ⟨S_, .f32⟩
  | .hbm, ⟨33, _⟩ => ⟨S2x16896x1024, .f32⟩
  | .hbm, ⟨34, _⟩ => ⟨S2x16896x1024, .f32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S128, .f32⟩
  | .hbm, ⟨40, _⟩ => ⟨S2x16896x8x128, .f32⟩
  | .hbm, ⟨41, _⟩ => ⟨S2x16896x8x128, .f32⟩
  | .hbm, ⟨42, _⟩ => ⟨S2x16896x8x256, .f32⟩
  | .hbm, ⟨43, _⟩ => ⟨S2x16896x2048, .f32⟩
  | .hbm, ⟨44, _⟩ => ⟨S2048x1024, .f32⟩
  | .hbm, ⟨45, _⟩ => ⟨S2x16896x1024, .f32⟩
  | .hbm, ⟨46, _⟩ => ⟨S2x16896x2048, .bf16⟩
  | .hbm, ⟨47, _⟩ => ⟨S2x1024x16896, .f32⟩
  | .hbm, ⟨48, _⟩ => ⟨S2x1024x16896, .bf16⟩
  | .hbm, ⟨49, _⟩ => ⟨S33792x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Kit.lean ====
module

public import proofs.«01_k».proof.Proof.Gen.KernelIdeal.Skeleton
public import Idealize.ShloMosaic.Lib.Tactic
public import Idealize.ShloMosaic.Lib.VecWindow
public import Idealize.ShloMosaic.Lib.Pipeline.Kit

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

/-- The product of a tile of keys with a tile of queries: entry `(r, l)` is key `r` against
    query `l`. -/
def scores (k q : Vec F S1x512x256 .bf16) : FVec F S512x512 .f32 :=
  matmul dot_S512x256_S512x256_S512x512_1_1_0_0_n_n none
    (shapeCast S512x256 k shapeCasts_S1x512x256_S512x256)
    (shapeCast S512x256 q shapeCasts_S1x512x256_S512x256)
    (constant S512x512 .f32 0x00000000#32)

/-- The greatest score of each query over the keys of one tile. -/
def colMax (s : FVec F S512x512 .f32) : FVec F S1x512 .f32 :=
  shapeCast S1x512 (multiReduction .maximumf [0] S512 s 0xFF800000#32 reduces_S512x512_S512 (.inl rfl) rfl)
    shapeCasts_S512_S1x512

/-- One head's scores of one key tile, written into a slot of the score buffer; the answer is the
    greatest score of each query. -/
def scoreHead (K : Memref sig .tc .vmem S1x16896x512 .bf16) (Q : Memref sig .tc .vmem S1x512x512 .bf16)
    (S : Memref sig .tc .vmem S2x512x512 .f32)
    (ko : Fin 3 → Nat) (hk : ∀ a, ko a + S1x512x256.size a ≤ S1x16896x512.size a)
    (qo : Fin 3 → Nat) (hq : ∀ a, qo a + S1x512x256.size a ≤ S1x512x512.size a)
    (so : Fin 3 → Nat) (hs : ∀ a, so a + S1x512x512.size a ≤ S2x512x512.size a) :
    Prog (TpuEff nD τ sig (Elt F) Λ₀ .tc) (FVec F S1x512 .f32) := do
  let k : Vec F S1x512x256 .bf16 ← Prog.lift (.load K (Rect.unit (s := S1x16896x512) ko S1x512x256.size hk).toLoadRect (View.loadsAt_vmem h_S1x512x256))
  let q : Vec F S1x512x256 .bf16 ← Prog.lift (.load Q (Rect.unit (s := S1x512x512) qo S1x512x256.size hq).toLoadRect (View.loadsAt_vmem h_S1x512x256))
  let _old : Vec F S1x512x512 .f32 ← Prog.lift (.load S (Rect.unit (s := S2x512x512) so S1x512x512.size hs).toLoadRect (View.loadsAt_vmem h_S1x512x512))
  Prog.lift (.store S (Rect.unit (s := S2x512x512) so S1x512x512.size hs) (shapeCast S1x512x512 (scores k q) shapeCasts_S512x512_S1x512x512) Finset.univ (View.stores_vmem_bits_univ h_S1x512x512 rfl) (.inl rfl))
  pure (colMax (scores k q))

/-- The new greatest score: that before against the tile's, moved by the tile's offset. -/
def newMax (m mx : FVec F S1x512 .f32) (δ : F .f32) : FVec F S1x512 .f32 :=
  maximumf m (addf mx (broadcast S1x512 δ))

/-- A tile's weights: two to the score less the greatest so far. -/
def weights (s : Vec F S1x512x512 .f32) (m' : FVec F S1x512 .f32) : FVec F S512x512 .bf16 :=
  truncf .bf16 (exp2 (subf (shapeCast S512x512 s shapeCasts_S1x512x512_S512x512)
    (broadcastTo S512x512 m' broadcasts_S1x512_S512x512))) bitsLt_bf16_f32

/-- The accumulator after a tile: that before, scaled, and the weighted values (below them, from the
    rows of ones, the sum of the weights). -/
def newAcc (ones : FVec F S16x512 .bf16) (v : Vec F S1x128x512 .bf16) (p : FVec F S512x512 .bf16)
    (α : FVec F S1x512 .f32) (acc : Vec F S1x144x512 .f32) : FVec F S144x512 .f32 :=
  addf (mulf (broadcastTo S144x512 α broadcasts_S1x512_S144x512)
      (shapeCast S144x512 acc shapeCasts_S1x144x512_S144x512))
    (matmul dot_S144x512_S512x512_S144x512_1_0_0_1_n_n none
      (concatenate S144x512 0 [⟨S128x512, shapeCast S128x512 v shapeCasts_S1x128x512_S128x512⟩, ⟨S16x512, ones⟩] concatenates_S128x512_S16x512_S144x512_d0)
      p (constant S144x512 .f32 0x00000000#32))

/-- One head's pass over a key tile whose scores are in a slot of the score buffer. -/
def accHead (V : Memref sig .tc .vmem S1x256x16896 .bf16) (S : Memref sig .tc .vmem S2x512x512 .f32)
    (A : Memref sig .tc .vmem S2x144x512 .f32)
    (vo : Fin 3 → Nat) (hv : ∀ a, vo a + S1x128x512.size a ≤ S1x256x16896.size a)
    (so : Fin 3 → Nat) (hs : ∀ a, so a + S1x512x512.size a ≤ S2x512x512.size a)
    (ao : Fin 3 → Nat) (ha : ∀ a, ao a + S1x144x512.size a ≤ S2x144x512.size a)
    (ones : FVec F S16x512 .bf16) (m mx : FVec F S1x512 .f32) (δ : F .f32) :
    Prog (TpuEff nD τ sig (Elt F) Λ₀ .tc) (FVec F S1x512 .f32) := do
  let v : Vec F S1x128x512 .bf16 ← Prog.lift (.load V (Rect.unit (s := S1x256x16896) vo S1x128x512.size hv).toLoadRect (View.loadsAt_vmem h_S1x128x512))
  let s : Vec F S1x512x512 .f32 ← Prog.lift (.load S (Rect.unit (s := S2x512x512) so S1x512x512.size hs).toLoadRect (View.loadsAt_vmem h_S1x512x512))
  let acc : Vec F S1x144x512 .f32 ← Prog.lift (.load A (Rect.unit (s := S2x144x512) ao S1x144x512.size ha).toLoadRect (View.loadsAt_vmem h_S1x144x512))
  let _old : Vec F S1x144x512 .f32 ← Prog.lift (.load A (Rect.unit (s := S2x144x512) ao S1x144x512.size ha).toLoadRect (View.loadsAt_vmem h_S1x144x512))
  Prog.lift (.store A (Rect.unit (s := S2x144x512) ao S1x144x512.size ha)
    (shapeCast S1x144x512 (newAcc ones v (weights s (subf (newMax m mx δ) (broadcast S1x512 δ))) (exp2 (subf m (newMax m mx δ))) acc) shapeCasts_S144x512_S1x144x512)
    Finset.univ (View.stores_vmem_bits_univ h_S1x144x512 rfl) (.inl rfl))
  pure (newMax m mx δ)

/-- The places one pass over a tile reads: the next tile's keys, this tile's offsets and values, for
    each of the two heads. -/
structure Offs where
  k0 : Fin 3 → Nat
  hk0 : ∀ a, k0 a + S1x512x256.size a ≤ S1x16896x512.size a
  k1 : Fin 3 → Nat
  hk1 : ∀ a, k1 a + S1x512x256.size a ≤ S1x16896x512.size a
  c0 : Fin 1 → Nat
  hc0 : ∀ a, c0 a + S1.size a ≤ S1056.size a
  c1 : Fin 1 → Nat
  hc1 : ∀ a, c1 a + S1.size a ≤ S1056.size a
  v0 : Fin 3 → Nat
  hv0 : ∀ a, v0 a + S1x128x512.size a ≤ S1x256x16896.size a
  v1 : Fin 3 → Nat
  hv1 : ∀ a, v1 a + S1x128x512.size a ≤ S1x256x16896.size a

local notation "𝕄G" => MT nD τ sig Unit (Elt F) ℕ (UR sig nD τ) ℕ

/-- The scores' triple. -/
theorem scoreHead_spec (c : Dev nD) (𝒱 : Variants) (bd : Option 𝒱.V) (E : Set ℕ)
    (K : Memref sig .tc .vmem S1x16896x512 .bf16) (Q : Memref sig .tc .vmem S1x512x512 .bf16)
    (S : Memref sig .tc .vmem S2x512x512 .f32)
    (ko : Fin 3 → Nat) (hk : ∀ a, ko a + S1x512x256.size a ≤ S1x16896x512.size a)
    (qo : Fin 3 → Nat) (hq : ∀ a, qo a + S1x512x256.size a ≤ S1x512x512.size a)
    (so : Fin 3 → Nat) (hs : ∀ a, so a + S1x512x512.size a ≤ S2x512x512.size a)
    (XK : Vec F S1x16896x512 .bf16) (XQ : Vec F S1x512x512 .bf16) (XS : Vec F S2x512x512 .f32) :
    (iprop(ownsTc c K fullShare XK ∗ ownsTc c Q fullShare XQ ∗ ownsTc c S fullShare XS) : sProp 𝕄G)
      ⊢ wp frame (wpE (defs₀ (F := F)) 𝒱 (c : Thread nD τ) bd) E (scoreHead (F := F) K Q S ko hk qo hq so hs) (fun y => iprop(
          ⌜y = colMax (scores (window XK ko S1x512x256.size hk) (window XQ qo S1x512x256.size hq))⌝
          ∗ ownsTc c K fullShare XK ∗ ownsTc c Q fullShare XQ
          ∗ ownsTc c S fullShare (put XS so S1x512x512.size (shapeCast S1x512x512 (scores (window XK ko S1x512x256.size hk) (window XQ qo S1x512x256.size hq)) shapeCasts_S512x512_S1x512x512)))) := by
  unfold ownsTc owns
  iintro ⟨⟨%fk, %hfk, HK⟩, ⟨%fq, %hfq, HQ⟩, ⟨%fs, %hfs, HS⟩⟩
  subst hfk hfq hfs
  unfold scoreHead
  sl_exec
  sl_step
  isplitr
  · ipureintro; rfl
  isplitl [HK]
  · iexists fk; isplitr; ipureintro; rfl; iexact HK
  isplitl [HQ]
  · iexists fq; isplitr; ipureintro; rfl; iexact HQ
  · iexists _
    isplitr [HS]
    · ipureintro
      exact View.read_writes_cons_put _ fs hs _ [] rfl
    · iexact HS

/-- The pass's triple. -/
theorem accHead_spec (c : Dev nD) (𝒱 : Variants) (bd : Option 𝒱.V) (E : Set ℕ)
    (V : Memref sig .tc .vmem S1x256x16896 .bf16) (S : Memref sig .tc .vmem S2x512x512 .f32)
    (A : Memref sig .tc .vmem S2x144x512 .f32)
    (vo : Fin 3 → Nat) (hv : ∀ a, vo a + S1x128x512.size a ≤ S1x256x16896.size a)
    (so : Fin 3 → Nat) (hs : ∀ a, so a + S1x512x512.size a ≤ S2x512x512.size a)
    (ao : Fin 3 → Nat) (ha : ∀ a, ao a + S1x144x512.size a ≤ S2x144x512.size a)
    (ones : FVec F S16x512 .bf16) (m mx : FVec F S1x512 .f32) (δ : F .f32)
    (XV : Vec F S1x256x16896 .bf16) (XS : Vec F S2x512x512 .f32) (XA : Vec F S2x144x512 .f32) :
    (iprop(ownsTc c V fullShare XV ∗ ownsTc c S fullShare XS ∗ ownsTc c A fullShare XA) : sProp 𝕄G)
      ⊢ wp frame (wpE (defs₀ (F := F)) 𝒱 (c : Thread nD τ) bd) E (accHead (F := F) V S A vo hv so hs ao ha ones m mx δ) (fun y => iprop(
          ⌜y = newMax m mx δ⌝
          ∗ ownsTc c V fullShare XV ∗ ownsTc c S fullShare XS
          ∗ ownsTc c A fullShare (put XA ao S1x144x512.size
            (shapeCast S1x144x512 (newAcc ones (window XV vo S1x128x512.size hv)
              (weights (window XS so S1x512x512.size hs) (subf (newMax m mx δ) (broadcast S1x512 δ)))
              (exp2 (subf m (newMax m mx δ))) (window XA ao S1x144x512.size ha)) shapeCasts_S144x512_S1x144x512)))) := by
  unfold ownsTc owns
  iintro ⟨⟨%fv, %hfv, HV⟩, ⟨%fs, %hfs, HS⟩, ⟨%fa, %hfa, HA⟩⟩
  subst hfv hfs hfa
  unfold accHead
  sl_exec
  sl_step
  isplitr
  · ipureintro; rfl
  isplitl [HV]
  · iexists fv; isplitr; ipureintro; rfl; iexact HV
  isplitl [HS]
  · iexists fs; isplitr; ipureintro; rfl; iexact HS
  · iexists _
    isplitr [HA]
    · ipureintro
      exact View.read_writes_cons_put _ fa ha _ [] rfl
    · iexact HA

/-- A word read from scalar memory. -/
theorem smem_spec (c : Dev nD) (𝒱 : Variants) (bd : Option 𝒱.V) (E : Set ℕ) {s : Shape} {e : EltTy}
    (C : Memref sig .tc .smem s e) (co sz : Fin s.rank → Nat) (hc : ∀ a, co a + sz a ≤ s.size a)
    (hn : (Rect.unit co sz hc).shape.numel = 1) (hp : e.packing = 1) (XC : Vec F s e) :
    (iprop(ownsTc c C fullShare XC) : sProp 𝕄G)
      ⊢ wp frame (wpE (defs₀ (F := F)) 𝒱 (c : Thread nD τ) bd) E
          (smemLoad C (Rect.unit co sz hc) hn hp : Prog (TpuEff nD τ sig (Elt F) Λ₀ .tc) (Elt F e)) (fun y => iprop(
          ⌜y = window XC co sz hc (Shape.Idx.first (by rw [show Shape.numel _ = 1 from hn]; exact Nat.one_pos))⌝ ∗ ownsTc c C fullShare XC)) := by
  unfold ownsTc owns
  iintro ⟨%fc, %hfc, HC⟩
  subst hfc
  sl_exec
  sl_step
  isplitr
  · ipureintro; rfl
  · iexists fc; isplitr; ipureintro; rfl; iexact HC

/-- A program's triple at the head of another. -/
theorem bind_spec {α β : Type} (c : Dev nD) (𝒱 : Variants) (bd : Option 𝒱.V) (E : Set ℕ)
    {p : Prog (TpuEff nD τ sig (Elt F) Λ₀ .tc) α} {k : α → Prog (TpuEff nD τ sig (Elt F) Λ₀ .tc) β}
    {P : sProp 𝕄G} {R : α → sProp 𝕄G} {Q : β → sProp 𝕄G}
    (h : P ⊢ wp frame (wpE (defs₀ (F := F)) 𝒱 (c : Thread nD τ) bd) E p R) :
    P ⊢ iprop((∀ y, R y -∗ wp frame (wpE (defs₀ (F := F)) 𝒱 (c : Thread nD τ) bd) E (k y) Q)
      -∗ wp frame (wpE (defs₀ (F := F)) 𝒱 (c : Thread nD τ) bd) E (p >>= k) Q) := by
  rw [wp_bind]
  exact h.trans (wp_wand _ _ _)

end Cert.KernelIdeal
-- ==== Proof.Steps.lean ====
module

public import proofs.«01_k».proof.Proof.Kit

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## What the buffers hold, as values -/

/-- A buffer of two slots, one for each head, by the slots' contents. -/
def slots (c : Dev nD) {s : Shape} {e : EltTy} (M : Memref sig .tc .vmem s e) (o0 o1 sz : Fin s.rank → Nat)
    (h0 : ∀ a, o0 a + sz a ≤ s.size a) (h1 : ∀ a, o1 a + sz a ≤ s.size a)
    (w0 w1 : ((a : Fin s.rank) → Fin (sz a)) → Elt F e) : sProp 𝕄G :=
  iprop(∃ X : Vec F s e, ⌜window X o0 sz h0 = w0 ∧ window X o1 sz h1 = w1⌝ ∗ ownsTc c M fullShare X)

/-- The score buffer, by its two heads' scores. -/
def heldS (c : Dev nD) (S : Memref sig .tc .vmem S2x512x512 .f32) (s0 s1 : FVec F S512x512 .f32) : sProp 𝕄G :=
  slots c S ![0, 0, 0] ![1, 0, 0] S1x512x512.size inb_S2x512x512_S1x512x512_0_0_0 inb_S2x512x512_S1x512x512_1_0_0
    (shapeCast S1x512x512 s0 shapeCasts_S512x512_S1x512x512) (shapeCast S1x512x512 s1 shapeCasts_S512x512_S1x512x512)

/-- The accumulator, by its two heads' slots. -/
def heldA (c : Dev nD) (A : Memref sig .tc .vmem S2x144x512 .f32) (a0 a1 : Vec F S1x144x512 .f32) : sProp 𝕄G :=
  slots c A ![0, 0, 0] ![1, 0, 0] S1x144x512.size inb_S2x144x512_S1x144x512_0_0_0 inb_S2x144x512_S1x144x512_1_0_0 a0 a1

/-- A buffer with some contents. -/
def someS (c : Dev nD) {s : Shape} {e : EltTy} (S : Memref sig .tc .vmem s e) : sProp 𝕄G :=
  iprop(∃ X : Vec F s e, ownsTc c S fullShare X)

/-- One head's running state: the greatest moved score so far, and the accumulator's slot. -/
structure HSt (F : FTy → Type) where
  m : FVec F S1x512 .f32
  a : Vec F S1x144x512 .f32

/-- The state after a tile of scores `s` against values `v`, moved by the offset `δ`. -/
def HSt.step (ones : FVec F S16x512 .bf16) (v : Vec F S1x128x512 .bf16) (s : FVec F S512x512 .f32) (δ : F .f32) (st : HSt F) : HSt F where
  m := newMax st.m (colMax s) δ
  a := shapeCast S1x144x512 (newAcc ones v
    (weights (shapeCast S1x512x512 s shapeCasts_S512x512_S1x512x512) (subf (newMax st.m (colMax s) δ) (broadcast S1x512 δ)))
    (exp2 (subf st.m (newMax st.m (colMax s) δ))) st.a) shapeCasts_S144x512_S1x144x512

/-! ## Windows -/

theorem window_congr {s : Shape} {α : Type} (X : s.Idx → α) (o o' sz : Fin s.rank → Nat) (h : ∀ a, o a + sz a ≤ s.size a)
    (h' : ∀ a, o' a + sz a ≤ s.size a) (e : o = o') : window X o sz h = window X o' sz h' := by
  subst e; rfl

/-- The first head's queries, as the program reads them. -/
abbrev q0 (XQ : Vec F S1x512x512 .bf16) : Vec F S1x512x256 .bf16 := window XQ ![0, 0, 0] S1x512x256.size inb_S1x512x512_S1x512x256_0_0_0

/-- The second head's queries, as the program reads them. -/
abbrev q1 (XQ : Vec F S1x512x512 .bf16) : Vec F S1x512x256 .bf16 := window XQ ![0, 0, 256] S1x512x256.size inb_S1x512x512_S1x512x256_0_0_256

/-- A head's queries. -/
def qry (XQ : Vec F S1x512x512 .bf16) (h : Fin 2) : Vec F S1x512x256 .bf16 :=
  window XQ ![0, 0, 256 * h.val] S1x512x256.size (by
    have := h.isLt
    intro a; fin_cases a <;> simp [Shape.size] <;> omega)

theorem qry_zero (XQ : Vec F S1x512x512 .bf16) : qry XQ 0 = q0 XQ :=
  window_congr _ _ _ _ _ _ (by simp)

theorem qry_one (XQ : Vec F S1x512x512 .bf16) : qry XQ 1 = q1 XQ :=
  window_congr _ _ _ _ _ _ (by simp)

/-! ## The steps' triples on those values -/

section
variable (c : Dev nD) (𝒱 : Variants) (bd : Option 𝒱.V) (E : Set ℕ)

/-- Both heads' scores. -/
def scorePair (K : Memref sig .tc .vmem S1x16896x512 .bf16) (Q : Memref sig .tc .vmem S1x512x512 .bf16)
    (S : Memref sig .tc .vmem S2x512x512 .f32)
    (k0 : Fin 3 → Nat) (hk0 : ∀ a, k0 a + S1x512x256.size a ≤ S1x16896x512.size a)
    (k1 : Fin 3 → Nat) (hk1 : ∀ a, k1 a + S1x512x256.size a ≤ S1x16896x512.size a) :
    Prog (TpuEff nD τ sig (Elt F) Λ₀ .tc) (FVec F S1x512 .f32 × FVec F S1x512 .f32) := do
  let b0 ← scoreHead K Q S k0 hk0 ![0, 0, 0] inb_S1x512x512_S1x512x256_0_0_0 ![0, 0, 0] inb_S2x512x512_S1x512x512_0_0_0
  let b1 ← scoreHead K Q S k1 hk1 ![0, 0, 256] inb_S1x512x512_S1x512x256_0_0_256 ![1, 0, 0] inb_S2x512x512_S1x512x512_1_0_0
  pure (b0, b1)

theorem scorePair_spec (K : Memref sig .tc .vmem S1x16896x512 .bf16) (Q : Memref sig .tc .vmem S1x512x512 .bf16)
    (S : Memref sig .tc .vmem S2x512x512 .f32)
    (k0 : Fin 3 → Nat) (hk0 : ∀ a, k0 a + S1x512x256.size a ≤ S1x16896x512.size a)
    (k1 : Fin 3 → Nat) (hk1 : ∀ a, k1 a + S1x512x256.size a ≤ S1x16896x512.size a)
    (XK : Vec F S1x16896x512 .bf16) (XQ : Vec F S1x512x512 .bf16) (k0' k1' : Vec F S1x512x256 .bf16)
    (e0 : window XK k0 S1x512x256.size hk0 = k0') (e1 : window XK k1 S1x512x256.size hk1 = k1') :
    (iprop(ownsTc c K fullShare XK ∗ ownsTc c Q fullShare XQ ∗ someS c S) : sProp 𝕄G)
      ⊢ wp frame (wpE (defs₀ (F := F)) 𝒱 (c : Thread nD τ) bd) E (scorePair (F := F) K Q S k0 hk0 k1 hk1) (fun y => iprop(
          ⌜y = (colMax (scores k0' (qry XQ 0)), colMax (scores k1' (qry XQ 1)))⌝
          ∗ ownsTc c K fullShare XK ∗ ownsTc c Q fullShare XQ ∗ heldS c S (scores k0' (qry XQ 0)) (scores k1' (qry XQ 1)))) := by
  subst e0 e1
  rw [qry_zero, qry_one]
  unfold someS scorePair heldS slots
  iintro ⟨HK, HQ, %XS, HS⟩
  iapply (bind_spec c 𝒱 bd E (scoreHead_spec c 𝒱 bd E K Q S k0 hk0 _ inb_S1x512x512_S1x512x256_0_0_0 ![0, 0, 0] inb_S2x512x512_S1x512x512_0_0_0 XK XQ XS)) $$ [HK HQ HS]
  · isplitl [HK]; iexact HK; isplitl [HQ]; iexact HQ; iexact HS
  iintro %b0 ⟨%h0, HK, HQ, HS⟩
  subst h0
  iapply (bind_spec c 𝒱 bd E (scoreHead_spec c 𝒱 bd E K Q S k1 hk1 _ inb_S1x512x512_S1x512x256_0_0_256 ![1, 0, 0] inb_S2x512x512_S1x512x512_1_0_0 XK XQ _)) $$ [HK HQ HS]
  · isplitl [HK]; iexact HK; isplitl [HQ]; iexact HQ; iexact HS
  iintro %b1 ⟨%h1, HK, HQ, HS⟩
  subst h1
  sl_step
  isplitr
  · ipureintro; rfl
  isplitl [HK]; iexact HK
  isplitl [HQ]; iexact HQ
  iexists _
  isplitr [HS]
  rotate_left
  · iexact HS
  · ipureintro
    refine ⟨?_, ?_⟩
    · rw [VecWindow.window_put_of_disjoint _ _ _ _ _ _ _ 0 (.inl (by decide))]
      exact VecWindow.window_put_same _ _ _ _ _
    · exact VecWindow.window_put_same _ _ _ _ _

/-- Both heads' passes over the tile whose scores `S` holds. -/
def accPair (V : Memref sig .tc .vmem S1x256x16896 .bf16) (S : Memref sig .tc .vmem S2x512x512 .f32)
    (A : Memref sig .tc .vmem S2x144x512 .f32)
    (v0 : Fin 3 → Nat) (hv0 : ∀ a, v0 a + S1x128x512.size a ≤ S1x256x16896.size a)
    (v1 : Fin 3 → Nat) (hv1 : ∀ a, v1 a + S1x128x512.size a ≤ S1x256x16896.size a)
    (ones : FVec F S16x512 .bf16) (m0 mx0 : FVec F S1x512 .f32) (δ0 : F .f32) (m1 mx1 : FVec F S1x512 .f32) (δ1 : F .f32) :
    Prog (TpuEff nD τ sig (Elt F) Λ₀ .tc) (FVec F S1x512 .f32 × FVec F S1x512 .f32) := do
  let b0 ← accHead V S A v0 hv0 ![0, 0, 0] inb_S2x512x512_S1x512x512_0_0_0 ![0, 0, 0] inb_S2x144x512_S1x144x512_0_0_0 ones m0 mx0 δ0
  let b1 ← accHead V S A v1 hv1 ![1, 0, 0] inb_S2x512x512_S1x512x512_1_0_0 ![1, 0, 0] inb_S2x144x512_S1x144x512_1_0_0 ones m1 mx1 δ1
  pure (b0, b1)

theorem accPair_spec (V : Memref sig .tc .vmem S1x256x16896 .bf16) (S : Memref sig .tc .vmem S2x512x512 .f32)
    (A : Memref sig .tc .vmem S2x144x512 .f32)
    (v0 : Fin 3 → Nat) (hv0 : ∀ a, v0 a + S1x128x512.size a ≤ S1x256x16896.size a)
    (v1 : Fin 3 → Nat) (hv1 : ∀ a, v1 a + S1x128x512.size a ≤ S1x256x16896.size a)
    (ones : FVec F S16x512 .bf16) (m0 mx0 : FVec F S1x512 .f32) (δ0 : F .f32) (m1 mx1 : FVec F S1x512 .f32) (δ1 : F .f32)
    (XV : Vec F S1x256x16896 .bf16) (st0 st1 : HSt F) (s0 s1 : FVec F S512x512 .f32) (v0' v1' : Vec F S1x128x512 .bf16)
    (e0 : window XV v0 S1x128x512.size hv0 = v0') (e1 : window XV v1 S1x128x512.size hv1 = v1')
    (em0 : m0 = st0.m) (em1 : m1 = st1.m) (ex0 : mx0 = colMax s0) (ex1 : mx1 = colMax s1) :
    (iprop(ownsTc c V fullShare XV ∗ heldS c S s0 s1 ∗ heldA c A st0.a st1.a) : sProp 𝕄G)
      ⊢ wp frame (wpE (defs₀ (F := F)) 𝒱 (c : Thread nD τ) bd) E (accPair (F := F) V S A v0 hv0 v1 hv1 ones m0 mx0 δ0 m1 mx1 δ1) (fun y => iprop(
          ⌜y = ((st0.step ones v0' s0 δ0).m, (st1.step ones v1' s1 δ1).m)⌝
          ∗ ownsTc c V fullShare XV ∗ heldS c S s0 s1 ∗ heldA c A (st0.step ones v0' s0 δ0).a (st1.step ones v1' s1 δ1).a)) := by
  subst e0 e1 em0 em1 ex0 ex1
  unfold accPair heldS heldA slots
  iintro ⟨HV, ⟨%XS, %hS, HS⟩, ⟨%XA, %hA, HA⟩⟩
  obtain ⟨hs0, hs1⟩ := hS
  obtain ⟨ha0, ha1⟩ := hA
  iapply (bind_spec c 𝒱 bd E (accHead_spec c 𝒱 bd E V S A v0 hv0 _ inb_S2x512x512_S1x512x512_0_0_0 _ inb_S2x144x512_S1x144x512_0_0_0 ones _ _ δ0 XV XS XA)) $$ [HV HS HA]
  · isplitl [HV]; iexact HV; isplitl [HS]; iexact HS; iexact HA
  iintro %b0 ⟨%h0, HV, HS, HA⟩
  subst h0
  iapply (bind_spec c 𝒱 bd E (accHead_spec c 𝒱 bd E V S A v1 hv1 _ inb_S2x512x512_S1x512x512_1_0_0 _ inb_S2x144x512_S1x144x512_1_0_0 ones _ _ δ1 XV XS _)) $$ [HV HS HA]
  · isplitl [HV]; iexact HV; isplitl [HS]; iexact HS; iexact HA
  iintro %b1 ⟨%h1, HV, HS, HA⟩
  subst h1
  sl_step
  isplitr
  · ipureintro; rfl
  isplitl [HV]; iexact HV
  isplitl [HS]
  · iexists XS
    isplitr [HS]
    rotate_left
    · iexact HS
    · ipureintro; exact ⟨hs0, hs1⟩
  iexists _
  isplitr [HA]
  rotate_left
  · iexact HA
  · ipureintro
    rw [VecWindow.window_put_of_disjoint XA _ _ _ _ inb_S2x144x512_S1x144x512_1_0_0 _ 0 (.inr (by decide))]
    refine ⟨?_, ?_⟩
    · rw [VecWindow.window_put_of_disjoint _ _ _ _ _ _ _ 0 (.inl (by decide))]
      refine (VecWindow.window_put_same _ _ _ _ _).trans ?_
      rw [hs0, ha0]; rfl
    · refine (VecWindow.window_put_same _ _ _ _ _).trans ?_
      rw [hs1, ha1]; rfl

end

/-- One step over a tile: the next tile's scores into `Sd`, then the tile's pass over those in `Ss`. -/
def tileStep (C : Memref sig .tc .smem S1056 .f32) (Q : Memref sig .tc .vmem S1x512x512 .bf16)
    (K : Memref sig .tc .vmem S1x16896x512 .bf16) (V : Memref sig .tc .vmem S1x256x16896 .bf16)
    (A : Memref sig .tc .vmem S2x144x512 .f32) (Ss Sd : Memref sig .tc .vmem S2x512x512 .f32)
    (o : Offs) (cq0 cq1 : F .f32) (ones : FVec F S16x512 .bf16)
    (x : FVec F S1x512 .f32 × FVec F S1x512 .f32 × FVec F S1x512 .f32 × FVec F S1x512 .f32) :
    Prog (TpuEff nD τ sig (Elt F) Λ₀ .tc) (FVec F S1x512 .f32 × FVec F S1x512 .f32 × FVec F S1x512 .f32 × FVec F S1x512 .f32) := do
  let b ← scorePair K Q Sd o.k0 o.hk0 o.k1 o.hk1
  let c0 : Elt F .f32 ← smemLoad C (Rect.unit (s := S1056) o.c0 S1.size o.hc0) numel1_S1 rfl
  let c1 : Elt F .f32 ← smemLoad C (Rect.unit (s := S1056) o.c1 S1.size o.hc1) numel1_S1 rfl
  let m ← accPair V Ss A o.v0 o.hv0 o.v1 o.hv1 ones x.1 x.2.2.1 (Scalar.subf cq0 c0) x.2.1 x.2.2.2 (Scalar.subf cq1 c1)
  pure (m.1, m.2, b.1, b.2)

/-! ## Tiles of the arrays -/

/-- A head's keys of tile `j`. -/
def keyAt (XK : Vec F S1x16896x512 .bf16) (h : Fin 2) (j : Nat) : Vec F S1x512x256 .bf16 :=
  window XK ![0, 512 * min j 32, 256 * h.val] S1x512x256.size (by
    have := h.isLt
    intro a; fin_cases a <;> simp [Shape.size] <;> omega)

/-- A head's values of tile `j`. -/
def valAt (XV : Vec F S1x256x16896 .bf16) (h : Fin 2) (j : Nat) : Vec F S1x128x512 .bf16 :=
  window XV ![0, 128 * h.val, 512 * min j 32] S1x128x512.size (by
    have := h.isLt
    intro a; fin_cases a <;> simp [Shape.size] <;> omega)

/-- The place of a head's offset of tile `j`. -/
def cIdx (i : grid0.Coords) (h j : Nat) : Nat := (i 0).val * 528 + (i 1).val * 2 + h + 16 * j

theorem cIdx_lt (i : grid0.Coords) (h : Fin 2) (j : Nat) : cIdx i h (min j 32) + 1 ≤ 1056 := by
  have h0 : (i 0).val < 2 := (i 0).isLt
  have h1 : (i 1).val < 4 := (i 1).isLt
  have := h.isLt
  unfold cIdx; omega

/-- A head's offset of tile `j`. -/
def cAt (XC : Vec F S1056 .f32) (i : grid0.Coords) (h : Fin 2) (j : Nat) : F .f32 :=
  window XC ![cIdx i h (min j 32)] S1.size (by
    intro a; fin_cases a; exact cIdx_lt i h j)
    (Shape.Idx.first (Nat.lt_of_lt_of_eq Nat.one_pos (Eq.symm (show Shape.numel _ = 1 from numel1_S1))))

/-- A head's scores of tile `j`. -/
def scAt (XK : Vec F S1x16896x512 .bf16) (XQ : Vec F S1x512x512 .bf16) (h : Fin 2) (j : Nat) : FVec F S512x512 .f32 :=
  scores (keyAt XK h j) (qry XQ h)

/-- The rows of ones below the values. -/
def onesRows : FVec F S16x512 .bf16 := broadcast S16x512 (Scalar.ofBits .bf16 0x3F80#16)

/-- A head's state before any tile: the named mask, and nothing accumulated. -/
def HSt.init : HSt F where
  m := broadcast S1x512 (Named.named κ "mask" 0xF149F2CA#32)
  a := fun _ => Scalar.ofBits .f32 0x00000000#32

/-- A head's state after `n` tiles from `f`. -/
def hst (XC : Vec F S1056 .f32) (XQ : Vec F S1x512x512 .bf16) (XK : Vec F S1x16896x512 .bf16) (XV : Vec F S1x256x16896 .bf16)
    (i : grid0.Coords) (f : Nat) (h : Fin 2) : Nat → HSt F
  | 0 => HSt.init
  | n + 1 => (hst XC XQ XK XV i f h n).step onesRows (valAt XV h (f + n)) (scAt XK XQ h (f + n))
      (Scalar.subf (cAt XC i h (i 2).val) (cAt XC i h (f + n)))

theorem hst_succ (XC : Vec F S1056 .f32) (XQ : Vec F S1x512x512 .bf16) (XK : Vec F S1x16896x512 .bf16) (XV : Vec F S1x256x16896 .bf16)
    (i : grid0.Coords) (f : Nat) (h : Fin 2) (n : Nat) :
    hst XC XQ XK XV i f h (n + 1) = (hst XC XQ XK XV i f h n).step onesRows (valAt XV h (f + n)) (scAt XK XQ h (f + n))
      (Scalar.subf (cAt XC i h (i 2).val) (cAt XC i h (f + n))) := by rw [hst]

/-- The places of a step over tile `j` that scores tile `j'`. -/
structure Offs.At (o : Offs) (i : grid0.Coords) (j j' : Nat) : Prop where
  k0 : o.k0 = ![0, 512 * j', 0]
  k1 : o.k1 = ![0, 512 * j', 256]
  c0 : o.c0 = ![cIdx i 0 j]
  c1 : o.c1 = ![cIdx i 1 j]
  v0 : o.v0 = ![0, 0, 512 * j]
  v1 : o.v1 = ![0, 128, 512 * j]

section
variable (c : Dev nD) (𝒱 : Variants) (bd : Option 𝒱.V) (E : Set ℕ)
  (C : Memref sig .tc .smem S1056 .f32) (Q : Memref sig .tc .vmem S1x512x512 .bf16)
  (K : Memref sig .tc .vmem S1x16896x512 .bf16) (V : Memref sig .tc .vmem S1x256x16896 .bf16)
  (A : Memref sig .tc .vmem S2x144x512 .f32)
  (XC : Vec F S1056 .f32) (XQ : Vec F S1x512x512 .bf16) (XK : Vec F S1x16896x512 .bf16) (XV : Vec F S1x256x16896 .bf16)
  (i : grid0.Coords) (f : Nat)

/-- The arrays a step reads. -/
def inputs : sProp 𝕄G :=
  iprop(ownsTc c C fullShare XC ∗ ownsTc c Q fullShare XQ ∗ ownsTc c K fullShare XK ∗ ownsTc c V fullShare XV)

/-- What holds after `n` tiles: the states of the heads, and the next tile's scores in `Ss`. -/
def inv (Ss Sd : Memref sig .tc .vmem S2x512x512 .f32) (n : Nat)
    (x : FVec F S1x512 .f32 × FVec F S1x512 .f32 × FVec F S1x512 .f32 × FVec F S1x512 .f32) : sProp 𝕄G :=
  iprop(⌜x = ((hst XC XQ XK XV i f 0 n).m, (hst XC XQ XK XV i f 1 n).m, colMax (scAt XK XQ 0 (f + n)), colMax (scAt XK XQ 1 (f + n)))⌝
    ∗ inputs c C Q K V XC XQ XK XV
    ∗ heldA c A (hst XC XQ XK XV i f 0 n).a (hst XC XQ XK XV i f 1 n).a
    ∗ heldS c Ss (scAt XK XQ 0 (f + n)) (scAt XK XQ 1 (f + n)) ∗ someS c Sd)

theorem heldS_some (S : Memref sig .tc .vmem S2x512x512 .f32) (s0 s1 : FVec F S512x512 .f32) :
    (heldS c S s0 s1 : sProp 𝕄G) ⊢ someS c S := by
  unfold heldS slots someS
  iintro ⟨%X, %_h, H⟩
  iexists X; iexact H

theorem tileStep_inv (Ss Sd : Memref sig .tc .vmem S2x512x512 .f32) (o : Offs) (n : Nat)
    (ho : o.At i (f + n) (f + n + 1)) (hlt : f + n + 1 < 33)
    (x : FVec F S1x512 .f32 × FVec F S1x512 .f32 × FVec F S1x512 .f32 × FVec F S1x512 .f32) :
    inv c C Q K V A XC XQ XK XV i f Ss Sd n x
      ⊢ wp frame (wpE (defs₀ (F := F)) 𝒱 (c : Thread nD τ) bd) E
          (tileStep C Q K V A Ss Sd o (cAt XC i 0 (i 2).val) (cAt XC i 1 (i 2).val) onesRows x)
          (inv c C Q K V A XC XQ XK XV i f Sd Ss (n + 1)) := by
  unfold inv inputs tileStep
  iintro ⟨%hx, ⟨HC, HQ, HK, HV⟩, HA, HS, HD⟩
  subst hx
  have ek : ∀ (h : Fin 2) (k : Fin 3 → Nat) (hk : ∀ a, k a + S1x512x256.size a ≤ S1x16896x512.size a),
      k = ![0, 512 * (f + n + 1), 256 * h.val] → window XK k S1x512x256.size hk = keyAt XK h (f + n + 1) := by
    intro h k hk e
    refine window_congr _ _ _ _ _ _ ?_
    rw [e, Nat.min_eq_left (by omega)]
  have ev : ∀ (h : Fin 2) (k : Fin 3 → Nat) (hk : ∀ a, k a + S1x128x512.size a ≤ S1x256x16896.size a),
      k = ![0, 128 * h.val, 512 * (f + n)] → window XV k S1x128x512.size hk = valAt XV h (f + n) := by
    intro h k hk e
    refine window_congr _ _ _ _ _ _ ?_
    rw [e, Nat.min_eq_left (by omega)]
  have ec : ∀ (h : Fin 2) (k : Fin 1 → Nat) (hk : ∀ a, k a + S1.size a ≤ S1056.size a) (hp),
      k = ![cIdx i h.val (f + n)] → window XC k S1.size hk (Shape.Idx.first hp) = cAt XC i h (f + n) := by
    intro h k hk hp e
    have e' : k = ![cIdx i h.val (min (f + n) 32)] := by rw [e, Nat.min_eq_left (by omega)]
    subst e'
    rfl
  iapply (bind_spec c 𝒱 bd E (scorePair_spec c 𝒱 bd E K Q Sd o.k0 o.hk0 o.k1 o.hk1 XK XQ _ _ (ek 0 _ _ ho.k0) (ek 1 _ _ ho.k1))) $$ [HK HQ HD]
  · isplitl [HK]; iexact HK; isplitl [HQ]; iexact HQ; iexact HD
  iintro %b ⟨%hb, HK, HQ, HD⟩
  subst hb
  iapply (bind_spec c 𝒱 bd E (smem_spec c 𝒱 bd E C o.c0 S1.size o.hc0 numel1_S1 rfl XC)) $$ [HC]
  · iexact HC
  iintro %c0 ⟨%h0, HC⟩
  rw [ec 0 _ _ _ ho.c0] at h0
  subst h0
  iapply (bind_spec c 𝒱 bd E (smem_spec c 𝒱 bd E C o.c1 S1.size o.hc1 numel1_S1 rfl XC)) $$ [HC]
  · iexact HC
  iintro %c1 ⟨%h1, HC⟩
  rw [ec 1 _ _ _ ho.c1] at h1
  subst h1
  iapply (bind_spec c 𝒱 bd E (accPair_spec c 𝒱 bd E V Ss A o.v0 o.hv0 o.v1 o.hv1 onesRows _ _ _ _ _ _ XV
    (hst XC XQ XK XV i f 0 n) (hst XC XQ XK XV i f 1 n) (scAt XK XQ 0 (f + n)) (scAt XK XQ 1 (f + n)) _ _
    (ev 0 _ _ ho.v0) (ev 1 _ _ ho.v1) rfl rfl rfl rfl)) $$ [HV HS HA]
  · isplitl [HV]; iexact HV; isplitl [HS]; iexact HS; iexact HA
  iintro %m ⟨%hm, HV, HS, HA⟩
  subst hm
  sl_step
  rw [hst_succ, hst_succ, ← Nat.add_assoc]
  isplitr
  · ipureintro; dsimp only; rfl
  isplitl [HC HQ HK HV]
  · isplitl [HC]; iexact HC; isplitl [HQ]; iexact HQ; isplitl [HK]; iexact HK; iexact HV
  isplitl [HA]; iexact HA
  isplitl [HD]; iexact HD
  iapply (heldS_some c Ss) $$ HS

end

end Cert.KernelIdeal
-- ==== Proof.Trips.lean ====
module

public import proofs.«01_k».proof.Proof.Steps

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

/-! ## The loops' trips, as steps over tiles -/

/-- The places the steps of a trip of loop 1 read. -/
def t1Offs (i : grid0.Coords) (v23 : BitVec 32) (hw : k0_chk1 i v23) (t : Fin (k0_t1_loop i v23).trips) : Fin 8 → Offs := ![
  ⟨k0_off5 i v23 t 1#32, k0_off5_inb i v23 hw t 0, k0_off6 i v23 t 1#32, k0_off6_inb i v23 hw t 0,
    k0_off7 i v23 t 0#32, k0_off7_inb i v23 hw t 0, k0_off7 i v23 t 1#32, k0_off7_inb i v23 hw t 1,
    k0_off8 i v23 t, k0_off8_inb i v23 hw t, k0_off9 i v23 t, k0_off9_inb i v23 hw t⟩,
  ⟨k0_off5 i v23 t 2#32, k0_off5_inb i v23 hw t 1, k0_off6 i v23 t 2#32, k0_off6_inb i v23 hw t 1,
    k0_off10 i v23 t 0#32, k0_off10_inb i v23 hw t 0, k0_off10 i v23 t 1#32, k0_off10_inb i v23 hw t 1,
    k0_off11 i v23 t, k0_off11_inb i v23 hw t, k0_off12 i v23 t, k0_off12_inb i v23 hw t⟩,
  ⟨k0_off13 i v23 t 1#32, k0_off13_inb i v23 hw t 0, k0_off14 i v23 t 1#32, k0_off14_inb i v23 hw t 0,
    k0_off15 i v23 t 0#32, k0_off15_inb i v23 hw t 0, k0_off15 i v23 t 1#32, k0_off15_inb i v23 hw t 1,
    k0_off16 i v23 t, k0_off16_inb i v23 hw t, k0_off17 i v23 t, k0_off17_inb i v23 hw t⟩,
  ⟨k0_off13 i v23 t 2#32, k0_off13_inb i v23 hw t 1, k0_off14 i v23 t 2#32, k0_off14_inb i v23 hw t 1,
    k0_off18 i v23 t 0#32, k0_off18_inb i v23 hw t 0, k0_off18 i v23 t 1#32, k0_off18_inb i v23 hw t 1,
    k0_off19 i v23 t, k0_off19_inb i v23 hw t, k0_off20 i v23 t, k0_off20_inb i v23 hw t⟩,
  ⟨k0_off21 i v23 t 1#32, k0_off21_inb i v23 hw t 0, k0_off22 i v23 t 1#32, k0_off22_inb i v23 hw t 0,
    k0_off23 i v23 t 0#32, k0_off23_inb i v23 hw t 0, k0_off23 i v23 t 1#32, k0_off23_inb i v23 hw t 1,
    k0_off24 i v23 t, k0_off24_inb i v23 hw t, k0_off25 i v23 t, k0_off25_inb i v23 hw t⟩,
  ⟨k0_off21 i v23 t 2#32, k0_off21_inb i v23 hw t 1, k0_off22 i v23 t 2#32, k0_off22_inb i v23 hw t 1,
    k0_off26 i v23 t 0#32, k0_off26_inb i v23 hw t 0, k0_off26 i v23 t 1#32, k0_off26_inb i v23 hw t 1,
    k0_off27 i v23 t, k0_off27_inb i v23 hw t, k0_off28 i v23 t, k0_off28_inb i v23 hw t⟩,
  ⟨k0_off29 i v23 t 1#32, k0_off29_inb i v23 hw t 0, k0_off30 i v23 t 1#32, k0_off30_inb i v23 hw t 0,
    k0_off31 i v23 t 0#32, k0_off31_inb i v23 hw t 0, k0_off31 i v23 t 1#32, k0_off31_inb i v23 hw t 1,
    k0_off32 i v23 t, k0_off32_inb i v23 hw t, k0_off33 i v23 t, k0_off33_inb i v23 hw t⟩,
  ⟨k0_off29 i v23 t 2#32, k0_off29_inb i v23 hw t 1, k0_off30 i v23 t 2#32, k0_off30_inb i v23 hw t 1,
    k0_off34 i v23 t 0#32, k0_off34_inb i v23 hw t 0, k0_off34 i v23 t 1#32, k0_off34_inb i v23 hw t 1,
    k0_off35 i v23 t, k0_off35_inb i v23 hw t, k0_off36 i v23 t, k0_off36_inb i v23 hw t⟩]

/-- The places the steps of a trip of loop 3 read. -/
def t3Offs (i : grid0.Coords) (v23 : BitVec 32) (hw : k0_chk1 i v23) (t : Fin (k0_t3_loop i v23).trips) : Fin 4 → Offs := ![
  ⟨k0_off69 i v23 t 1#32, k0_off69_inb i v23 hw t 0, k0_off70 i v23 t 1#32, k0_off70_inb i v23 hw t 0,
    k0_off71 i v23 t 0#32, k0_off71_inb i v23 hw t 0, k0_off71 i v23 t 1#32, k0_off71_inb i v23 hw t 1,
    k0_off72 i v23 t, k0_off72_inb i v23 hw t, k0_off73 i v23 t, k0_off73_inb i v23 hw t⟩,
  ⟨k0_off69 i v23 t 2#32, k0_off69_inb i v23 hw t 1, k0_off70 i v23 t 2#32, k0_off70_inb i v23 hw t 1,
    k0_off74 i v23 t 0#32, k0_off74_inb i v23 hw t 0, k0_off74 i v23 t 1#32, k0_off74_inb i v23 hw t 1,
    k0_off75 i v23 t, k0_off75_inb i v23 hw t, k0_off76 i v23 t, k0_off76_inb i v23 hw t⟩,
  ⟨k0_off77 i v23 t 1#32, k0_off77_inb i v23 hw t 0, k0_off78 i v23 t 1#32, k0_off78_inb i v23 hw t 0,
    k0_off79 i v23 t 0#32, k0_off79_inb i v23 hw t 0, k0_off79 i v23 t 1#32, k0_off79_inb i v23 hw t 1,
    k0_off80 i v23 t, k0_off80_inb i v23 hw t, k0_off81 i v23 t, k0_off81_inb i v23 hw t⟩,
  ⟨k0_off77 i v23 t 2#32, k0_off77_inb i v23 hw t 1, k0_off78 i v23 t 2#32, k0_off78_inb i v23 hw t 1,
    k0_off82 i v23 t 0#32, k0_off82_inb i v23 hw t 0, k0_off82 i v23 t 1#32, k0_off82_inb i v23 hw t 1,
    k0_off83 i v23 t, k0_off83_inb i v23 hw t, k0_off84 i v23 t, k0_off84_inb i v23 hw t⟩]

/-- The places the steps of a trip of loop 5 read. -/
def t5Offs (i : grid0.Coords) (v23 : BitVec 32) (hw : k0_chk1 i v23) (t : Fin (k0_t5_loop i v23).trips) : Fin 2 → Offs := ![
  ⟨k0_off101 i v23 t 1#32, k0_off101_inb i v23 hw t 0, k0_off102 i v23 t 1#32, k0_off102_inb i v23 hw t 0,
    k0_off103 i v23 t 0#32, k0_off103_inb i v23 hw t 0, k0_off103 i v23 t 1#32, k0_off103_inb i v23 hw t 1,
    k0_off104 i v23 t, k0_off104_inb i v23 hw t, k0_off105 i v23 t, k0_off105_inb i v23 hw t⟩,
  ⟨k0_off101 i v23 t 2#32, k0_off101_inb i v23 hw t 1, k0_off102 i v23 t 2#32, k0_off102_inb i v23 hw t 1,
    k0_off106 i v23 t 0#32, k0_off106_inb i v23 hw t 0, k0_off106 i v23 t 1#32, k0_off106_inb i v23 hw t 1,
    k0_off107 i v23 t, k0_off107_inb i v23 hw t, k0_off108 i v23 t, k0_off108_inb i v23 hw t⟩]

/-- Steps over consecutive tiles, the two score buffers taking turns. -/
def turns (C : Memref sig .tc .smem S1056 .f32) (Q : Memref sig .tc .vmem S1x512x512 .bf16)
    (K : Memref sig .tc .vmem S1x16896x512 .bf16) (V : Memref sig .tc .vmem S1x256x16896 .bf16)
    (A : Memref sig .tc .vmem S2x144x512 .f32) (cq0 cq1 : F .f32) (ones : FVec F S16x512 .bf16) :
    (Ss Sd : Memref sig .tc .vmem S2x512x512 .f32) → List Offs →
    (x : FVec F S1x512 .f32 × FVec F S1x512 .f32 × FVec F S1x512 .f32 × FVec F S1x512 .f32) →
    Prog (TpuEff nD τ sig (Elt F) Λ₀ .tc) (FVec F S1x512 .f32 × FVec F S1x512 .f32 × FVec F S1x512 .f32 × FVec F S1x512 .f32)
  | _, _, [], x => pure x
  | Ss, Sd, o :: os, x => tileStep C Q K V A Ss Sd o cq0 cq1 ones x >>= turns C Q K V A cq0 cq1 ones Sd Ss os

section
variable (i : grid0.Coords) (arg3 : Memref sig .tc .smem S1056 .f32) (harg3 : arg3.IsWhole) (arg4 : Memref sig .tc .smem S264 .i32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x16896x512 .bf16) (harg7 : arg7.IsWhole) (arg8 : Memref sig .tc .vmem S1x256x16896 .bf16) (harg8 : arg8.IsWhole) (arg9 : Memref sig .tc .vmem S2x1x128 .f32) (harg9 : arg9.IsWhole) (arg10 : Memref sig .tc .vmem S1x512x256 .bf16) (harg10 : arg10.IsWhole) (arg11 : Memref sig .tc .vmem S2x144x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole)

set_option maxHeartbeats 4000000 in
theorem t1_eq (v4 : BitVec 32) (v9 : BitVec 32) (v13 : Elt F .f32) (v17 : Elt F .f32) (v23 : Elt F .i32) (hw : k0_chk1 i v23) (v30 : FVec F S16x512 .bf16) (v39 : FVec F S1x512 .f32) (v41 : FVec F S1x512 .f32) (v42 : FVec F S1x512 .f32) (v43 : FVec F S1x512 .f32) (v62 : BitVec 32) (c4_i32_29 : BitVec 32) (v63 : BitVec 32) (v68 : BitVec 32) (v70 : BitVec 32) (c0_i32_33 : BitVec 32)
    (t : Fin (k0_t1_loop i v23).trips) (x) :
    Gen.k0_t1_body (F := F) i arg3 harg3 arg4 harg4 arg5 harg5 arg6 harg6 arg7 harg7 arg8 harg8 arg9 harg9 arg10 harg10 arg11 harg11 arg12 harg12 arg13 harg13 arg14 harg14 v4 v9 v13 v17 v23 hw v30 v39 v41 v42 v43 v62 c4_i32_29 v63 v68 v70 c0_i32_33 t x
      = turns arg3 arg5 arg7 arg8 arg11 v13 v17 v30 arg12 arg13 (List.ofFn (t1Offs i v23 hw t)) x := by
  obtain ⟨m0, m1, a0, a1⟩ := x
  unfold Gen.k0_t1_body k0_part21 k0_part2 k0_part3 k0_part4 k0_part5 k0_part6 k0_part7 k0_part8 k0_part9 k0_part10 k0_part11 k0_part12 k0_part13 k0_part14 k0_part15 k0_part16 k0_part17 k0_part18 k0_part19 k0_part20
  simp (maxSteps := 4000000) only [List.ofFn_succ, List.ofFn_zero, turns, tileStep, scorePair, accPair, scoreHead, accHead, bind_assoc, pure_bind, bind_pure]
  rfl

set_option maxHeartbeats 4000000 in
theorem t3_eq (v4 : BitVec 32) (v9 : BitVec 32) (v13 : Elt F .f32) (v17 : Elt F .f32) (v23 : Elt F .i32) (hw : k0_chk1 i v23) (v30 : FVec F S16x512 .bf16) (v62 : BitVec 32) (v86_0 : FVec F S1x512 .f32) (v86_1 : FVec F S1x512 .f32) (v86_2 : FVec F S1x512 .f32) (v86_3 : FVec F S1x512 .f32) (v104 : BitVec 32) (c2_i32_48 : BitVec 32) (v105 : BitVec 32) (v110 : BitVec 32) (v112 : BitVec 32)
    (t : Fin (k0_t3_loop i v23).trips) (x) :
    Gen.k0_t3_body (F := F) i arg3 harg3 arg4 harg4 arg5 harg5 arg6 harg6 arg7 harg7 arg8 harg8 arg9 harg9 arg10 harg10 arg11 harg11 arg12 harg12 arg13 harg13 arg14 harg14 v4 v9 v13 v17 v23 hw v30 v62 v86_0 v86_1 v86_2 v86_3 v104 c2_i32_48 v105 v110 v112 t x
      = turns arg3 arg5 arg7 arg8 arg11 v13 v17 v30 arg12 arg13 (List.ofFn (t3Offs i v23 hw t)) x := by
  obtain ⟨m0, m1, a0, a1⟩ := x
  unfold Gen.k0_t3_body k0_part42 k0_part43 k0_part44 k0_part45 k0_part46 k0_part47 k0_part48 k0_part49 k0_part50
  simp (maxSteps := 4000000) only [List.ofFn_succ, List.ofFn_zero, turns, tileStep, scorePair, accPair, scoreHead, accHead, bind_assoc, pure_bind, bind_pure]
  rfl

set_option maxHeartbeats 4000000 in
theorem t5_eq (v4 : BitVec 32) (v9 : BitVec 32) (v13 : Elt F .f32) (v17 : Elt F .f32) (v23 : Elt F .i32) (hw : k0_chk1 i v23) (v30 : FVec F S16x512 .bf16) (v62 : BitVec 32) (v86_0 : FVec F S1x512 .f32) (v86_1 : FVec F S1x512 .f32) (v86_2 : FVec F S1x512 .f32) (v86_3 : FVec F S1x512 .f32) (v104 : BitVec 32) (c2_i32_48 : BitVec 32) (v105 : BitVec 32) (v110 : BitVec 32) (v112 : BitVec 32) (v146 : BitVec 32)
    (t : Fin (k0_t5_loop i v23).trips) (x) :
    Gen.k0_t5_body (F := F) i arg3 harg3 arg4 harg4 arg5 harg5 arg6 harg6 arg7 harg7 arg8 harg8 arg9 harg9 arg10 harg10 arg11 harg11 arg12 harg12 arg13 harg13 arg14 harg14 v4 v9 v13 v17 v23 hw v30 v62 v86_0 v86_1 v86_2 v86_3 v104 c2_i32_48 v105 v110 v112 v146 t x
      = turns arg3 arg5 arg7 arg8 arg11 v13 v17 v30 arg12 arg13 (List.ofFn (t5Offs i v23 hw t)) x := by
  obtain ⟨m0, m1, a0, a1⟩ := x
  unfold Gen.k0_t5_body k0_part60 k0_part61 k0_part62 k0_part63
  simp (maxSteps := 4000000) only [List.ofFn_succ, List.ofFn_zero, turns, tileStep, scorePair, accPair, scoreHead, accHead, bind_assoc, pure_bind, bind_pure]
  rfl

end

end Cert.KernelIdeal
-- ==== Proof.Words.lean ====
module

public import proofs.«01_k».proof.Proof.Trips

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

/-! ## The words the kernel counts with -/

/-- A grid point of the first batch and heads. -/
def rowPoint (p : Fin 33) : grid0.Coords := fun a => match a with
  | ⟨0, _⟩ => (⟨0, by decide⟩ : Fin 2)
  | ⟨1, _⟩ => (⟨0, by decide⟩ : Fin 4)
  | ⟨2, _⟩ => p
  | ⟨_ + 3, h⟩ => absurd (show _ + 3 < 3 from h) (by omega)

/-- What the loops run through, for a row `p` and a first tile `f`: loops 2, 4 and 6 make no trip. -/
def LoopsOk (p f : Nat) (i : grid0.Coords) (v : BitVec 32) : Prop :=
  (k0_t1_loop i v).trips = (p - f - 1) / 2 / 4
  ∧ (k0_t2_loop i v).trips = 0
  ∧ (k0_t3_loop i v).lb.toNat = 2 * ((p - f - 1) / 2 / 4)
  ∧ (k0_t3_loop i v).trips = (p - f - 1) / 2 / 2 - 2 * ((p - f - 1) / 2 / 4)
  ∧ (k0_t4_loop i v).trips = 0
  ∧ (k0_t5_loop i v).lb.toNat = 2 * ((p - f - 1) / 2 / 2)
  ∧ (k0_t5_loop i v).trips = (p - f - 1) / 2 - 2 * ((p - f - 1) / 2 / 2)
  ∧ (k0_t6_loop i v).trips = 0
  ∧ (k0_t1_loop i v).OK ∧ (k0_t2_loop i v).OK ∧ (k0_t3_loop i v).OK
  ∧ (k0_t4_loop i v).OK ∧ (k0_t5_loop i v).OK ∧ (k0_t6_loop i v).OK

instance (p f : Nat) (i : grid0.Coords) (v : BitVec 32) : Decidable (LoopsOk p f i v) :=
  inferInstanceAs (Decidable (_ ∧ _))

theorem loopsOk_all : ∀ p : Fin 33, ∀ f : Fin 33, f.val ≤ p.val → LoopsOk p.val f.val (rowPoint p) (BitVec.ofNat 32 f.val) := by
  decide +kernel

theorem addi_nat {x y : BitVec 32} {a b : Nat} (hx : x.toNat = a) (hy : y.toNat = b) (h : a + b < 4294967296) :
    (Scalar.addi x y).toNat = a + b := by
  show (x + y).toNat = _
  rw [BitVec.toNat_add, hx, hy]; exact Nat.mod_eq_of_lt h

theorem muli_nat {x y : BitVec 32} {a b : Nat} (hx : x.toNat = a) (hy : y.toNat = b) (h : a * b < 4294967296) :
    (Scalar.muli x y).toNat = a * b := by
  show (x * y).toNat = _
  rw [BitVec.toNat_mul, hx, hy]; exact Nat.mod_eq_of_lt h

theorem iv_nat {lb : BitVec 32} {l t : Nat} (hl : lb.toNat = l) (h : l + t < 4294967296) :
    (Scf.iv lb 1#32 t).toNat = l + t := by
  unfold Scf.iv
  rw [BitVec.toNat_add, BitVec.toNat_mul, BitVec.toNat_ofNat, hl]
  simp only [BitVec.toNat_ofNat]
  omega

/-- The word of a tile's place along the keys. -/
theorem tile_nat {w : BitVec 32} {j : Nat} (h : w.toNat = j) (hj : j < 33) : (Scalar.muli w 512#32).toNat = 512 * j := by
  rw [muli_nat h (b := 512) rfl (by omega), Nat.mul_comm]

/-- The word of a tile's offset. -/
def cWord (i : grid0.Coords) (h w : BitVec 32) : BitVec 32 :=
  Scalar.addi (Scalar.addi (Scalar.addi (Scalar.muli (Scalar.muli (BitVec.ofNat 32 (i 0).val) 33#32) 16#32) (Scalar.muli (BitVec.ofNat 32 (i 1).val) 2#32)) h) (Scalar.muli w 16#32)

theorem cWord_nat (i : grid0.Coords) {h w : BitVec 32} {k j : Nat} (hh : h.toNat = k) (hk : k < 2) (hw : w.toNat = j) (hj : j < 33) :
    (cWord i h w).toNat = cIdx i k j := by
  have h0 : (i 0).val < 2 := (i 0).isLt
  have h1 : (i 1).val < 4 := (i 1).isLt
  have e0 : (BitVec.ofNat 32 (i 0).val).toNat = (i 0).val := by rw [BitVec.toNat_ofNat]; exact Nat.mod_eq_of_lt (by omega)
  have e1 : (BitVec.ofNat 32 (i 1).val).toNat = (i 1).val := by rw [BitVec.toNat_ofNat]; exact Nat.mod_eq_of_lt (by omega)
  unfold cWord cIdx
  rw [addi_nat (addi_nat (addi_nat (muli_nat (muli_nat e0 (b := 33) rfl (by omega)) (b := 16) rfl (by omega)) (muli_nat e1 (b := 2) rfl (by omega)) (by omega)) hh (by omega)) (muli_nat hw (b := 16) rfl (by omega)) (by omega)]
  omega

/-- A step's places, from the words of its tiles. -/
theorem Offs.at_of (o : Offs) (i : grid0.Coords) {j j' : Nat} (w w' : BitVec 32) (h : w.toNat = j) (h' : w'.toNat = j') (hj : j < 33) (hj' : j' < 33)
    (e0 : o.k0 = ![0, (Scalar.muli w' 512#32).toNat, 0]) (e1 : o.k1 = ![0, (Scalar.muli w' 512#32).toNat, 256])
    (e2 : o.c0 = ![(cWord i 0#32 w).toNat]) (e3 : o.c1 = ![(cWord i 1#32 w).toNat])
    (e4 : o.v0 = ![0, 0, (Scalar.muli w 512#32).toNat]) (e5 : o.v1 = ![0, 128, (Scalar.muli w 512#32).toNat]) : o.At i j j' where
  k0 := by rw [e0, tile_nat h' hj']
  k1 := by rw [e1, tile_nat h' hj']
  c0 := by rw [e2, cWord_nat i (k := 0) rfl (by decide) h hj]
  c1 := by rw [e3, cWord_nat i (k := 1) rfl (by decide) h hj]
  v0 := by rw [e4, tile_nat h hj]
  v1 := by rw [e5, tile_nat h hj]

/-- The word of the first of a pair of tiles. -/
def pairWord (v x : BitVec 32) : BitVec 32 := Scalar.addi v (Scalar.muli 2#32 x)

theorem pairWord_nat {v x : BitVec 32} {f q : Nat} (hv : v.toNat = f) (hx : x.toNat = q) (hb : f + 2 * q < 33) : (pairWord v x).toNat = f + 2 * q :=
  addi_nat hv (muli_nat (a := 2) rfl hx (by omega)) (by omega)

theorem pairWord_succ {v x : BitVec 32} {f q r : Nat} (hv : v.toNat = f) (hx : x.toNat = q) (hr : f + 2 * q + r < 33) :
    (Scalar.addi (pairWord v x) (BitVec.ofNat 32 r)).toNat = f + 2 * q + r :=
  addi_nat (pairWord_nat hv hx (by omega)) (by rw [BitVec.toNat_ofNat]; exact Nat.mod_eq_of_lt (by omega)) (by omega)

section
variable {i : grid0.Coords} {v : BitVec 32} {p f : Nat} (hw : k0_chk1 i v)

/-- The trips of loop 1 cover eight tiles each. -/
theorem t1_at (hv : v.toNat = f) (hp : p < 33) (hl : LoopsOk p f i v) (t : Fin (k0_t1_loop i v).trips) (k : Fin 8) :
    (t1Offs i v hw t k).At i (f + 8 * t.val + k.val) (f + 8 * t.val + k.val + 1) ∧ f + 8 * t.val + k.val + 1 ≤ p := by
  have ht : t.val < (p - f - 1) / 2 / 4 := lt_of_lt_of_eq t.isLt hl.1
  have hiv : (Scf.iv 0#32 1#32 t.val).toNat = t.val := (iv_nat (l := 0) rfl (by omega)).trans (by omega)
  have x0 := muli_nat (a := 2) (x := 2#32) rfl (muli_nat (a := 2) (x := 2#32) rfl hiv (by omega)) (by omega)
  have x1 := addi_nat x0 (y := 1#32) (b := 1) rfl (by omega)
  have y := addi_nat (muli_nat (a := 2) (x := 2#32) rfl hiv (by omega)) (y := 1#32) (b := 1) rfl (by omega)
  have x2 := muli_nat (a := 2) (x := 2#32) rfl y (by omega)
  have x3 := addi_nat x2 (y := 1#32) (b := 1) rfl (by omega)
  have hk := k.isLt
  refine ⟨?_, by omega⟩
  fin_cases k
  · exact Offs.at_of _ i _ _ ((pairWord_nat hv x0 (by omega)).trans (by dsimp only; omega)) ((pairWord_succ (r := 1) hv x0 (by omega)).trans (by dsimp only; omega)) (by dsimp only; omega) (by dsimp only; omega) rfl rfl rfl rfl rfl rfl
  · exact Offs.at_of _ i _ _ ((pairWord_succ (r := 1) hv x0 (by omega)).trans (by dsimp only; omega)) ((pairWord_succ (r := 2) hv x0 (by omega)).trans (by dsimp only; omega)) (by dsimp only; omega) (by dsimp only; omega) rfl rfl rfl rfl rfl rfl
  · exact Offs.at_of _ i _ _ ((pairWord_nat hv x1 (by omega)).trans (by dsimp only; omega)) ((pairWord_succ (r := 1) hv x1 (by omega)).trans (by dsimp only; omega)) (by dsimp only; omega) (by dsimp only; omega) rfl rfl rfl rfl rfl rfl
  · exact Offs.at_of _ i _ _ ((pairWord_succ (r := 1) hv x1 (by omega)).trans (by dsimp only; omega)) ((pairWord_succ (r := 2) hv x1 (by omega)).trans (by dsimp only; omega)) (by dsimp only; omega) (by dsimp only; omega) rfl rfl rfl rfl rfl rfl
  · exact Offs.at_of _ i _ _ ((pairWord_nat hv x2 (by omega)).trans (by dsimp only; omega)) ((pairWord_succ (r := 1) hv x2 (by omega)).trans (by dsimp only; omega)) (by dsimp only; omega) (by dsimp only; omega) rfl rfl rfl rfl rfl rfl
  · exact Offs.at_of _ i _ _ ((pairWord_succ (r := 1) hv x2 (by omega)).trans (by dsimp only; omega)) ((pairWord_succ (r := 2) hv x2 (by omega)).trans (by dsimp only; omega)) (by dsimp only; omega) (by dsimp only; omega) rfl rfl rfl rfl rfl rfl
  · exact Offs.at_of _ i _ _ ((pairWord_nat hv x3 (by omega)).trans (by dsimp only; omega)) ((pairWord_succ (r := 1) hv x3 (by omega)).trans (by dsimp only; omega)) (by dsimp only; omega) (by dsimp only; omega) rfl rfl rfl rfl rfl rfl
  · exact Offs.at_of _ i _ _ ((pairWord_succ (r := 1) hv x3 (by omega)).trans (by dsimp only; omega)) ((pairWord_succ (r := 2) hv x3 (by omega)).trans (by dsimp only; omega)) (by dsimp only; omega) (by dsimp only; omega) rfl rfl rfl rfl rfl rfl

/-- The trips of loop 3 cover four tiles each. -/
theorem t3_at (hv : v.toNat = f) (hp : p < 33) (hl : LoopsOk p f i v) (t : Fin (k0_t3_loop i v).trips) (k : Fin 4) :
    (t3Offs i v hw t k).At i (f + 4 * ((k0_t3_loop i v).lb.toNat + t.val) + k.val) (f + 4 * ((k0_t3_loop i v).lb.toNat + t.val) + k.val + 1)
      ∧ f + 4 * ((k0_t3_loop i v).lb.toNat + t.val) + k.val + 1 ≤ p := by
  have ht : t.val < (p - f - 1) / 2 / 2 - 2 * ((p - f - 1) / 2 / 4) := lt_of_lt_of_eq t.isLt hl.2.2.2.1
  have hlb := hl.2.2.1
  have hiv := iv_nat (t := t.val) (lb := (k0_t3_loop i v).lb) rfl (by omega)
  generalize (k0_t3_loop i v).lb.toNat = l at hlb hiv ⊢
  have x0 := muli_nat (a := 2) (x := 2#32) rfl hiv (by omega)
  have x1 := addi_nat x0 (y := 1#32) (b := 1) rfl (by omega)
  have hk := k.isLt
  refine ⟨?_, by omega⟩
  fin_cases k
  · exact Offs.at_of _ i _ _ ((pairWord_nat hv x0 (by omega)).trans (by dsimp only; omega)) ((pairWord_succ (r := 1) hv x0 (by omega)).trans (by dsimp only; omega)) (by dsimp only; omega) (by dsimp only; omega) rfl rfl rfl rfl rfl rfl
  · exact Offs.at_of _ i _ _ ((pairWord_succ (r := 1) hv x0 (by omega)).trans (by dsimp only; omega)) ((pairWord_succ (r := 2) hv x0 (by omega)).trans (by dsimp only; omega)) (by dsimp only; omega) (by dsimp only; omega) rfl rfl rfl rfl rfl rfl
  · exact Offs.at_of _ i _ _ ((pairWord_nat hv x1 (by omega)).trans (by dsimp only; omega)) ((pairWord_succ (r := 1) hv x1 (by omega)).trans (by dsimp only; omega)) (by dsimp only; omega) (by dsimp only; omega) rfl rfl rfl rfl rfl rfl
  · exact Offs.at_of _ i _ _ ((pairWord_succ (r := 1) hv x1 (by omega)).trans (by dsimp only; omega)) ((pairWord_succ (r := 2) hv x1 (by omega)).trans (by dsimp only; omega)) (by dsimp only; omega) (by dsimp only; omega) rfl rfl rfl rfl rfl rfl

/-- The trips of loop 5 cover two tiles each. -/
theorem t5_at (hv : v.toNat = f) (hp : p < 33) (hl : LoopsOk p f i v) (t : Fin (k0_t5_loop i v).trips) (k : Fin 2) :
    (t5Offs i v hw t k).At i (f + 2 * ((k0_t5_loop i v).lb.toNat + t.val) + k.val) (f + 2 * ((k0_t5_loop i v).lb.toNat + t.val) + k.val + 1)
      ∧ f + 2 * ((k0_t5_loop i v).lb.toNat + t.val) + k.val + 1 ≤ p := by
  have ht : t.val < (p - f - 1) / 2 - 2 * ((p - f - 1) / 2 / 2) := lt_of_lt_of_eq t.isLt hl.2.2.2.2.2.2.1
  have hlb := hl.2.2.2.2.2.1
  have hiv := iv_nat (t := t.val) (lb := (k0_t5_loop i v).lb) rfl (by omega)
  generalize (k0_t5_loop i v).lb.toNat = l at hlb hiv ⊢
  have hk := k.isLt
  refine ⟨?_, by omega⟩
  fin_cases k
  · exact Offs.at_of _ i _ _ ((pairWord_nat hv hiv (by omega)).trans (by dsimp only <;> omega)) ((pairWord_succ (r := 1) hv hiv (by omega)).trans (by dsimp only <;> omega)) (by dsimp only <;> omega) (by dsimp only <;> omega) rfl rfl rfl rfl rfl rfl
  · exact Offs.at_of _ i _ _ ((pairWord_succ (r := 1) hv hiv (by omega)).trans (by dsimp only <;> omega)) ((pairWord_succ (r := 2) hv hiv (by omega)).trans (by dsimp only <;> omega)) (by dsimp only <;> omega) (by dsimp only <;> omega) rfl rfl rfl rfl rfl rfl

end

end Cert.KernelIdeal
-- ==== Proof.Checks.lean ====
module

public import proofs.«01_k».proof.Proof.Words

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

/-! ## The words of the last tiles, and the checks the kernel makes -/

/-- Division rounding down, as the kernel computes it. -/
def floorDiv (x k : BitVec 32) : BitVec 32 :=
  Scalar.select (Scalar.andi (Scalar.cmpi .ne (Scalar.subi (Scalar.extui (Scalar.cmpi .sgt x 0#32) : BitVec 32) (Scalar.extui (Scalar.cmpi .slt x 0#32))) (Scalar.subi (Scalar.extui (Scalar.cmpi .sgt k 0#32)) (Scalar.extui (Scalar.cmpi .slt k 0#32)))) (Scalar.cmpi .ne (Scalar.remsi x k) 0#32)) (Scalar.subi (Scalar.divsi x k) 1#32) (Scalar.divsi x k)

/-- How many pairs of tiles the loops take. -/
def pairsWord (i : grid0.Coords) (v : BitVec 32) : BitVec 32 :=
  Scalar.maxsi (floorDiv (Scalar.subi (Scalar.subi (BitVec.ofNat 32 (i 2).val) v) 1#32) 2#32) 0#32

/-- The first tile left after the pairs. -/
def leftWord (i : grid0.Coords) (v : BitVec 32) : BitVec 32 := pairWord v (pairsWord i v)

/-- The last tile before the diagonal, the first where there is none. -/
def lastWord (i : grid0.Coords) (v : BitVec 32) : BitVec 32 :=
  Scalar.addi v (Scalar.maxsi (Scalar.subi (Scalar.subi (BitVec.ofNat 32 (i 2).val) v) 1#32) 0#32)

/-- The next row, the last where there is none. -/
def nextWord (i : grid0.Coords) : BitVec 32 := Scalar.minsi (Scalar.addi (BitVec.ofNat 32 (i 2).val) 1#32) 32#32

/-- What the kernel finds after its loops. -/
def TailOk (p f : Nat) (i : grid0.Coords) (v : BitVec 32) : Prop :=
  (pairsWord i v).toNat = (p - f - 1) / 2
  ∧ (Scalar.minsi (leftWord i v) (lastWord i v)).toNat = f + 2 * ((p - f - 1) / 2)
  ∧ (k0_cond1 i = 1#1 ↔ p = 0)
  ∧ (k0_cond2 i v = 1#1 ↔ p - f - 2 * ((p - f - 1) / 2) = 2)
  ∧ (k0_cond3 i v = 1#1 ↔ p - f - 2 * ((p - f - 1) / 2) < 2)
  ∧ (nextWord i).toNat = min (p + 1) 32
  ∧ (Scalar.cmpi .slt (leftWord i v) (BitVec.ofNat 32 (i 2).val) = 1#1 ↔ f < p)

instance (p f : Nat) (i : grid0.Coords) (v : BitVec 32) : Decidable (TailOk p f i v) :=
  inferInstanceAs (Decidable (_ ∧ _))

theorem tailOk_all : ∀ p : Fin 33, ∀ f : Fin 33, f.val ≤ p.val → TailOk p.val f.val (rowPoint p) (BitVec.ofNat 32 f.val) := by
  decide +kernel

theorem word_eq {v : BitVec 32} {f : Nat} (hv : v.toNat = f) : v = BitVec.ofNat 32 f := by
  apply BitVec.eq_of_toNat_eq; rw [BitVec.toNat_ofNat, hv, Nat.mod_eq_of_lt]; rw [← hv]; exact v.isLt

theorem loopsOk (i : grid0.Coords) {v : BitVec 32} {f : Nat} (hv : v.toNat = f) (hf : f ≤ (i 2).val) : LoopsOk (i 2).val f i v := by
  have hp : (i 2).val < 33 := (i 2).isLt
  have h := loopsOk_all (i 2) ⟨f, by omega⟩ hf
  rw [word_eq hv]; exact h

theorem tailOk (i : grid0.Coords) {v : BitVec 32} {f : Nat} (hv : v.toNat = f) (hf : f ≤ (i 2).val) : TailOk (i 2).val f i v := by
  have hp : (i 2).val < 33 := (i 2).isLt
  have h := tailOk_all (i 2) ⟨f, by omega⟩ hf
  rw [word_eq hv]; exact h

theorem dvd_512 (w : BitVec 32) : 512 ∣ (Scalar.muli w 512#32).toNat := by
  show 512 ∣ (w * 512#32).toNat
  rw [BitVec.toNat_mul]
  simp only [BitVec.toNat_ofNat]
  omega

/-- A key tile lies in the keys. -/
theorem key_ok (w : BitVec 32) {j : Nat} (h : w.toNat = j) (hj : j < 33) (col : Nat) (hc : col ≤ 256) :
    ∀ a, (![0, (Scalar.muli w 512#32).toNat, col] : Fin 3 → Nat) a + S1x512x256.size a ≤ S1x16896x512.size a := by
  rw [tile_nat h hj]
  intro a
  fin_cases a
  · show 0 + 1 ≤ 1; omega
  · show 512 * j + 512 ≤ 16896; omega
  · show col + 256 ≤ 512; omega

/-- A value tile lies in the values. -/
theorem val_ok (w : BitVec 32) {j : Nat} (h : w.toNat = j) (hj : j < 33) (row : Nat) (hr : row ≤ 128) :
    ∀ a, (![0, row, (Scalar.muli w 512#32).toNat] : Fin 3 → Nat) a + S1x128x512.size a ≤ S1x256x16896.size a := by
  rw [tile_nat h hj]
  intro a
  fin_cases a
  · show 0 + 1 ≤ 1; omega
  · show row + 128 ≤ 256; omega
  · show 512 * j + 512 ≤ 16896; omega

/-- A tile's offset lies in their list. -/
theorem c_ok (i : grid0.Coords) (w : BitVec 32) {j : Nat} (h : w.toNat = j) (hj : j < 33) (r : Fin 2) :
    ∀ a, (![(cWord i (BitVec.ofNat 32 r.val) w).toNat] : Fin 1 → Nat) a + S1.size a ≤ S1056.size a := by
  have hr := r.isLt
  have h0 : (i 0).val < 2 := (i 0).isLt
  have h1 : (i 1).val < 4 := (i 1).isLt
  rw [cWord_nat i (k := r.val) (by rw [BitVec.toNat_ofNat]; exact Nat.mod_eq_of_lt (by omega)) hr h hj]
  intro a
  fin_cases a
  show cIdx i r.val j + 1 ≤ 1056
  unfold cIdx; omega

/-- What a pair of steps asks of its places. -/
structure PairOk (i : grid0.Coords) (v x : BitVec 32) : Prop where
  k (r : Fin 2) (col : Nat) (hc : col ≤ 256) : ∀ a, (![0, (Scalar.muli (Scalar.addi (pairWord v x) (BitVec.ofNat 32 (1 + r.val))) 512#32).toNat, col] : Fin 3 → Nat) a + S1x512x256.size a ≤ S1x16896x512.size a
  c0 (r : Fin 2) : ∀ a, (![(cWord i (BitVec.ofNat 32 r.val) (pairWord v x)).toNat] : Fin 1 → Nat) a + S1.size a ≤ S1056.size a
  v0 (row : Nat) (hr : row ≤ 128) : ∀ a, (![0, row, (Scalar.muli (pairWord v x) 512#32).toNat] : Fin 3 → Nat) a + S1x128x512.size a ≤ S1x256x16896.size a
  c1 (r : Fin 2) : ∀ a, (![(cWord i (BitVec.ofNat 32 r.val) (Scalar.addi (pairWord v x) 1#32)).toNat] : Fin 1 → Nat) a + S1.size a ≤ S1056.size a
  v1 (row : Nat) (hr : row ≤ 128) : ∀ a, (![0, row, (Scalar.muli (Scalar.addi (pairWord v x) 1#32) 512#32).toNat] : Fin 3 → Nat) a + S1x128x512.size a ≤ S1x256x16896.size a

theorem pairOk (i : grid0.Coords) {v x : BitVec 32} {f q : Nat} (hv : v.toNat = f) (hx : x.toNat = q) (hb : f + 2 * q + 2 < 33) : PairOk i v x where
  k r col hc := by
    have hr := r.isLt
    exact key_ok _ (pairWord_succ (r := 1 + r.val) hv hx (by omega)) (by omega) col hc
  c0 r := c_ok i _ (pairWord_nat hv hx (by omega)) (by omega) r
  v0 row hr := val_ok _ (pairWord_nat hv hx (by omega)) (by omega) row hr
  c1 r := c_ok i _ (pairWord_succ (r := 1) hv hx (by omega)) (by omega) r
  v1 row hr := val_ok _ (pairWord_succ (r := 1) hv hx (by omega)) (by omega) row hr

theorem no_trip {n : Nat} (h : n = 0) {P : Fin n → Prop} (t : Fin n) : P t := absurd t.isLt (by omega)

/-- The kernel's checks hold wherever the first tile is none later than the row's. -/
theorem chk1_ok (i : grid0.Coords) {v : BitVec 32} {f : Nat} (hv : v.toNat = f) (hf : f ≤ (i 2).val) : k0_chk1 i v := by
  have hp : (i 2).val < 33 := (i 2).isLt
  have hl := loopsOk i hv hf
  have ht := tailOk i hv hf
  have z2 := hl.2.1
  have z4 := hl.2.2.2.2.1
  have z6 := hl.2.2.2.2.2.2.2.1
  obtain ⟨ok1, ok2, ok3, ok4, ok5, ok6⟩ := hl.2.2.2.2.2.2.2.2
  have iv1 (t : Fin (k0_t1_loop i v).trips) : t.val < ((i 2).val - f - 1) / 2 / 4 ∧ (Scf.iv 0#32 1#32 t.val).toNat = t.val :=
    have h := lt_of_lt_of_eq t.isLt hl.1
    ⟨h, (iv_nat (l := 0) rfl (by omega)).trans (by omega)⟩
  have iv3 (t : Fin (k0_t3_loop i v).trips) : t.val < ((i 2).val - f - 1) / 2 / 2 - 2 * (((i 2).val - f - 1) / 2 / 4) ∧ (Scf.iv (k0_t3_loop i v).lb 1#32 t.val).toNat = 2 * (((i 2).val - f - 1) / 2 / 4) + t.val :=
    have h := lt_of_lt_of_eq t.isLt hl.2.2.2.1
    ⟨h, iv_nat hl.2.2.1 (by omega)⟩
  have iv5 (t : Fin (k0_t5_loop i v).trips) : t.val < ((i 2).val - f - 1) / 2 - 2 * (((i 2).val - f - 1) / 2 / 2) ∧ (Scf.iv (k0_t5_loop i v).lb 1#32 t.val).toNat = 2 * (((i 2).val - f - 1) / 2 / 2) + t.val :=
    have h := lt_of_lt_of_eq t.isLt hl.2.2.2.2.2.2.1
    ⟨h, iv_nat hl.2.2.2.2.2.1 (by omega)⟩
  have p10 (t : Fin (k0_t1_loop i v).trips) : PairOk i v (Scalar.muli 2#32 (Scalar.muli 2#32 (Scf.iv 0#32 1#32 t.val))) := by
    obtain ⟨h, e⟩ := iv1 t
    exact pairOk i hv (muli_nat (a := 2) rfl (muli_nat (a := 2) rfl e (by omega)) (by omega)) (by omega)
  have p11 (t : Fin (k0_t1_loop i v).trips) : PairOk i v (Scalar.addi (Scalar.muli 2#32 (Scalar.muli 2#32 (Scf.iv 0#32 1#32 t.val))) 1#32) := by
    obtain ⟨h, e⟩ := iv1 t
    exact pairOk i hv (addi_nat (muli_nat (a := 2) rfl (muli_nat (a := 2) rfl e (by omega)) (by omega)) (b := 1) rfl (by omega)) (by omega)
  have p12 (t : Fin (k0_t1_loop i v).trips) : PairOk i v (Scalar.muli 2#32 (Scalar.addi (Scalar.muli 2#32 (Scf.iv 0#32 1#32 t.val)) 1#32)) := by
    obtain ⟨h, e⟩ := iv1 t
    exact pairOk i hv (muli_nat (a := 2) rfl (addi_nat (muli_nat (a := 2) rfl e (by omega)) (b := 1) rfl (by omega)) (by omega)) (by omega)
  have p13 (t : Fin (k0_t1_loop i v).trips) : PairOk i v (Scalar.addi (Scalar.muli 2#32 (Scalar.addi (Scalar.muli 2#32 (Scf.iv 0#32 1#32 t.val)) 1#32)) 1#32) := by
    obtain ⟨h, e⟩ := iv1 t
    exact pairOk i hv (addi_nat (muli_nat (a := 2) rfl (addi_nat (muli_nat (a := 2) rfl e (by omega)) (b := 1) rfl (by omega)) (by omega)) (b := 1) rfl (by omega)) (by omega)
  have p30 (t : Fin (k0_t3_loop i v).trips) : PairOk i v (Scalar.muli 2#32 (Scf.iv (k0_t3_loop i v).lb 1#32 t.val)) := by
    obtain ⟨h, e⟩ := iv3 t
    exact pairOk i hv (muli_nat (a := 2) rfl e (by omega)) (by omega)
  have p31 (t : Fin (k0_t3_loop i v).trips) : PairOk i v (Scalar.addi (Scalar.muli 2#32 (Scf.iv (k0_t3_loop i v).lb 1#32 t.val)) 1#32) := by
    obtain ⟨h, e⟩ := iv3 t
    exact pairOk i hv (addi_nat (muli_nat (a := 2) rfl e (by omega)) (b := 1) rfl (by omega)) (by omega)
  have p50 (t : Fin (k0_t5_loop i v).trips) : PairOk i v (Scf.iv (k0_t5_loop i v).lb 1#32 t.val) := by
    obtain ⟨h, e⟩ := iv5 t
    exact pairOk i hv e (by omega)
  have left := pairWord_nat hv ht.1 (by omega)
  have left1 (h : k0_cond2 i v = 1#1) : (Scalar.addi (leftWord i v) 1#32).toNat = f + 2 * (((i 2).val - f - 1) / 2) + 1 ∧ f + 2 * (((i 2).val - f - 1) / 2) + 1 < 33 := by
    have := ht.2.2.2.1.1 h
    exact ⟨pairWord_succ (r := 1) hv ht.1 (by omega), by omega⟩
  have low := ht.2.1
  refine ⟨⟨fun _ => dvd_512 _,
    fun h => key_ok v hv (by omega) 0 (by omega),
    fun h => key_ok v hv (by omega) 256 (by omega),
    ok1,
    fun _ => dvd_512 _,
    fun t r => (p10 t).k r 0 (by omega),
    fun t r => (p10 t).k r 256 (by omega),
    fun t r => (p10 t).c0 r,
    fun _ => dvd_512 _,
    fun t => (p10 t).v0 0 (by omega),
    fun t => (p10 t).v0 128 (by omega),
    fun _ => dvd_512 _,
    fun t r => (p10 t).c1 r,
    fun _ => dvd_512 _,
    fun t => (p10 t).v1 0 (by omega),
    fun t => (p10 t).v1 128 (by omega),
    fun _ => dvd_512 _,
    fun t r => (p11 t).k r 0 (by omega),
    fun t r => (p11 t).k r 256 (by omega),
    fun t r => (p11 t).c0 r,
    fun _ => dvd_512 _,
    fun t => (p11 t).v0 0 (by omega),
    fun t => (p11 t).v0 128 (by omega),
    fun _ => dvd_512 _,
    fun t r => (p11 t).c1 r,
    fun _ => dvd_512 _,
    fun t => (p11 t).v1 0 (by omega),
    fun t => (p11 t).v1 128 (by omega),
    fun _ => dvd_512 _,
    fun t r => (p12 t).k r 0 (by omega),
    fun t r => (p12 t).k r 256 (by omega),
    fun t r => (p12 t).c0 r⟩, ⟨fun _ => dvd_512 _,
    fun t => (p12 t).v0 0 (by omega),
    fun t => (p12 t).v0 128 (by omega),
    fun _ => dvd_512 _,
    fun t r => (p12 t).c1 r,
    fun _ => dvd_512 _,
    fun t => (p12 t).v1 0 (by omega),
    fun t => (p12 t).v1 128 (by omega),
    fun _ => dvd_512 _,
    fun t r => (p13 t).k r 0 (by omega),
    fun t r => (p13 t).k r 256 (by omega),
    fun t r => (p13 t).c0 r,
    fun _ => dvd_512 _,
    fun t => (p13 t).v0 0 (by omega),
    fun t => (p13 t).v0 128 (by omega),
    fun _ => dvd_512 _,
    fun t r => (p13 t).c1 r,
    fun _ => dvd_512 _,
    fun t => (p13 t).v1 0 (by omega),
    fun t => (p13 t).v1 128 (by omega),
    ok2,
    no_trip z2,
    no_trip z2,
    no_trip z2,
    no_trip z2,
    no_trip z2,
    no_trip z2,
    no_trip z2,
    no_trip z2,
    no_trip z2,
    no_trip z2,
    no_trip z2⟩, ⟨no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2,
    no_trip z2⟩, ⟨no_trip z2,
    no_trip z2,
    no_trip z2,
    no_trip z2,
    no_trip z2,
    ok3,
    fun _ => dvd_512 _,
    fun t r => (p30 t).k r 0 (by omega),
    fun t r => (p30 t).k r 256 (by omega),
    fun t r => (p30 t).c0 r,
    fun _ => dvd_512 _,
    fun t => (p30 t).v0 0 (by omega),
    fun t => (p30 t).v0 128 (by omega),
    fun _ => dvd_512 _,
    fun t r => (p30 t).c1 r,
    fun _ => dvd_512 _,
    fun t => (p30 t).v1 0 (by omega),
    fun t => (p30 t).v1 128 (by omega),
    fun _ => dvd_512 _,
    fun t r => (p31 t).k r 0 (by omega),
    fun t r => (p31 t).k r 256 (by omega),
    fun t r => (p31 t).c0 r,
    fun _ => dvd_512 _,
    fun t => (p31 t).v0 0 (by omega),
    fun t => (p31 t).v0 128 (by omega),
    fun _ => dvd_512 _,
    fun t r => (p31 t).c1 r,
    fun _ => dvd_512 _,
    fun t => (p31 t).v1 0 (by omega),
    fun t => (p31 t).v1 128 (by omega),
    ok4,
    no_trip z4⟩, ⟨no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    no_trip z4,
    ok5,
    fun _ => dvd_512 _,
    fun t r => (p50 t).k r 0 (by omega),
    fun t r => (p50 t).k r 256 (by omega),
    fun t r => (p50 t).c0 r,
    fun _ => dvd_512 _,
    fun t => (p50 t).v0 0 (by omega),
    fun t => (p50 t).v0 128 (by omega),
    fun _ => dvd_512 _⟩, ⟨fun t r => (p50 t).c1 r,
    fun _ => dvd_512 _,
    fun t => (p50 t).v1 0 (by omega),
    fun t => (p50 t).v1 128 (by omega),
    ok6,
    no_trip z6,
    no_trip z6,
    no_trip z6,
    no_trip z6,
    no_trip z6,
    no_trip z6,
    no_trip z6,
    no_trip z6,
    no_trip z6,
    no_trip z6,
    no_trip z6,
    no_trip z6,
    fun _ => dvd_512 _,
    fun h => key_ok _ (left1 h).1 (left1 h).2 0 (by omega),
    fun h => key_ok _ (left1 h).1 (left1 h).2 256 (by omega),
    fun h r => c_ok i _ left (by omega) r,
    fun _ => dvd_512 _,
    fun h => val_ok _ left (by omega) 0 (by omega),
    fun h => val_ok _ left (by omega) 128 (by omega),
    fun h r => c_ok i _ (left1 h).1 (left1 h).2 r,
    fun _ => dvd_512 _,
    fun h => val_ok _ (left1 h).1 (left1 h).2 0 (by omega),
    fun h => val_ok _ (left1 h).1 (left1 h).2 128 (by omega),
    fun h r => c_ok i _ low (by omega) r,
    fun _ => dvd_512 _,
    fun h => val_ok _ low (by omega) 0 (by omega),
    fun h => val_ok _ low (by omega) 128 (by omega)⟩⟩

end Cert.KernelIdeal
-- ==== Proof.Loops.lean ====
module

public import proofs.«01_k».proof.Proof.Checks

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ
/-! ## The loops -/

section
variable (c : Dev nD) (𝒱 : Variants) (bd : Option 𝒱.V) (E : Set ℕ)
  (C : Memref sig .tc .smem S1056 .f32) (Q : Memref sig .tc .vmem S1x512x512 .bf16)
  (K : Memref sig .tc .vmem S1x16896x512 .bf16) (V : Memref sig .tc .vmem S1x256x16896 .bf16)
  (A : Memref sig .tc .vmem S2x144x512 .f32)
  (XC : Vec F S1056 .f32) (XQ : Vec F S1x512x512 .bf16) (XK : Vec F S1x16896x512 .bf16) (XV : Vec F S1x256x16896 .bf16)
  (i : grid0.Coords) (f : Nat)

/-- An even number of steps, the two score buffers taking turns. -/
theorem turns_inv (m : Nat) (Ss Sd : Memref sig .tc .vmem S2x512x512 .f32) : ∀ (n : Nat) (os : List Offs) (_hl : os.length = 2 * m)
    (_h : ∀ (k : Nat) (hk : k < os.length), (os[k]).At i (f + n + k) (f + n + k + 1) ∧ f + n + k + 1 < 33)
    (x : FVec F S1x512 .f32 × FVec F S1x512 .f32 × FVec F S1x512 .f32 × FVec F S1x512 .f32),
    inv c C Q K V A XC XQ XK XV i f Ss Sd n x
      ⊢ wp frame (wpE (defs₀ (F := F)) 𝒱 (c : Thread nD τ) bd) E (turns C Q K V A (cAt XC i 0 (i 2).val) (cAt XC i 1 (i 2).val) onesRows Ss Sd os x)
          (inv c C Q K V A XC XQ XK XV i f Ss Sd (n + 2 * m)) := by
  induction m with
  | zero =>
    intro n os hl h x
    obtain rfl : os = [] := List.length_eq_zero_iff.mp hl
    rw [turns]
    iintro H
    sl_step
    iexact H
  | succ m ih =>
    intro n os hl h x
    obtain _ | ⟨o, _ | ⟨o', os⟩⟩ := os
    · simp at hl
    · simp at hl; omega
    have h0 := h 0 (by simp)
    have h1 := h 1 (by simp)
    have hr : ∀ (k : Nat) (hk : k < os.length), (os[k]).At i (f + (n + 2) + k) (f + (n + 2) + k + 1) ∧ f + (n + 2) + k + 1 < 33 := by
      intro k hk
      have h2 := h (k + 2) (by simp; omega)
      simp only [List.getElem_cons_succ] at h2
      have e : f + n + (k + 2) = f + (n + 2) + k := by omega
      rw [e] at h2; exact h2
    have hlen : os.length = 2 * m := by simp at hl; omega
    have i2 := ih (n + 2) os hlen hr
    rw [turns]
    iintro H
    iapply (bind_spec c 𝒱 bd E (tileStep_inv c 𝒱 bd E C Q K V A XC XQ XK XV i f Ss Sd o n h0.1 h0.2 x)) $$ H
    iintro %y H
    rw [turns]
    iapply (bind_spec c 𝒱 bd E (tileStep_inv c 𝒱 bd E C Q K V A XC XQ XK XV i f Sd Ss o' (n + 1) h1.1 h1.2 y)) $$ H
    iintro %z H
    have e : n + 2 * (m + 1) = n + 2 + 2 * m := by omega
    rw [e]
    iapply (i2 z) $$ H

variable (arg3 : Memref sig .tc .smem S1056 .f32) (harg3 : arg3.IsWhole) (arg4 : Memref sig .tc .smem S264 .i32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x16896x512 .bf16) (harg7 : arg7.IsWhole) (arg8 : Memref sig .tc .vmem S1x256x16896 .bf16) (harg8 : arg8.IsWhole) (arg9 : Memref sig .tc .vmem S2x1x128 .f32) (harg9 : arg9.IsWhole) (arg10 : Memref sig .tc .vmem S1x512x256 .bf16) (harg10 : arg10.IsWhole) (arg11 : Memref sig .tc .vmem S2x144x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole)

/-- One trip of loop 1. -/
theorem t1_inv (v4 : BitVec 32) (v9 : BitVec 32) (v23 : Elt F .i32) (hw : k0_chk1 i v23) (v39 : FVec F S1x512 .f32) (v41 : FVec F S1x512 .f32) (v42 : FVec F S1x512 .f32) (v43 : FVec F S1x512 .f32) (v62 : BitVec 32) (c4_i32_29 : BitVec 32) (v63 : BitVec 32) (v68 : BitVec 32) (v70 : BitVec 32) (c0_i32_33 : BitVec 32)
    (hv : BitVec.toNat v23 = f) (hf : f ≤ (i 2).val) (t : Fin (k0_t1_loop i v23).trips) (x : FVec F S1x512 .f32 × FVec F S1x512 .f32 × FVec F S1x512 .f32 × FVec F S1x512 .f32) :
    inv c arg3 arg5 arg7 arg8 arg11 XC XQ XK XV i f arg12 arg13 (8 * t.val) x
      ⊢ wp frame (wpE (defs₀ (F := F)) 𝒱 (c : Thread nD τ) bd) E (Gen.k0_t1_body (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v39 v41 v42 v43 v62 c4_i32_29 v63 v68 v70 c0_i32_33 t x)
          (inv c arg3 arg5 arg7 arg8 arg11 XC XQ XK XV i f arg12 arg13 (8 * (t.val + 1))) := by
  rw [t1_eq, show 8 * (t.val + 1) = 8 * t.val + 8 by omega]
  have hp : (i 2).val < 33 := (i 2).isLt
  refine turns_inv c 𝒱 bd E arg3 arg5 arg7 arg8 arg11 XC XQ XK XV i f 4 arg12 arg13 (8 * t.val) _ (by simp) ?_ x
  intro k hk
  have hk' : k < 8 := by simpa using hk
  have h := t1_at hw hv hp (loopsOk i hv hf) t ⟨k, hk'⟩
  rw [List.getElem_ofFn]
  exact ⟨h.1, lt_of_le_of_lt h.2 hp⟩

/-- One trip of loop 3. -/
theorem t3_inv (v4 : BitVec 32) (v9 : BitVec 32) (v23 : Elt F .i32) (hw : k0_chk1 i v23) (v62 : BitVec 32) (v86_0 : FVec F S1x512 .f32) (v86_1 : FVec F S1x512 .f32) (v86_2 : FVec F S1x512 .f32) (v86_3 : FVec F S1x512 .f32) (v104 : BitVec 32) (c2_i32_48 : BitVec 32) (v105 : BitVec 32) (v110 : BitVec 32) (v112 : BitVec 32)
    (hv : BitVec.toNat v23 = f) (hf : f ≤ (i 2).val) (t : Fin (k0_t3_loop i v23).trips) (x : FVec F S1x512 .f32 × FVec F S1x512 .f32 × FVec F S1x512 .f32 × FVec F S1x512 .f32) :
    inv c arg3 arg5 arg7 arg8 arg11 XC XQ XK XV i f arg12 arg13 (4 * ((k0_t3_loop i v23).lb.toNat + t.val)) x
      ⊢ wp frame (wpE (defs₀ (F := F)) 𝒱 (c : Thread nD τ) bd) E (Gen.k0_t3_body (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v62 v86_0 v86_1 v86_2 v86_3 v104 c2_i32_48 v105 v110 v112 t x)
          (inv c arg3 arg5 arg7 arg8 arg11 XC XQ XK XV i f arg12 arg13 (4 * ((k0_t3_loop i v23).lb.toNat + (t.val + 1)))) := by
  rw [t3_eq, show 4 * ((k0_t3_loop i v23).lb.toNat + (t.val + 1)) = 4 * ((k0_t3_loop i v23).lb.toNat + t.val) + 4 by omega]
  have hp : (i 2).val < 33 := (i 2).isLt
  refine turns_inv c 𝒱 bd E arg3 arg5 arg7 arg8 arg11 XC XQ XK XV i f 2 arg12 arg13 (4 * ((k0_t3_loop i v23).lb.toNat + t.val)) _ (by simp) ?_ x
  intro k hk
  have hk' : k < 4 := by simpa using hk
  have h := t3_at hw hv hp (loopsOk i hv hf) t ⟨k, hk'⟩
  rw [List.getElem_ofFn]
  exact ⟨h.1, lt_of_le_of_lt h.2 hp⟩

/-- One trip of loop 5. -/
theorem t5_inv (v4 : BitVec 32) (v9 : BitVec 32) (v23 : Elt F .i32) (hw : k0_chk1 i v23) (v62 : BitVec 32) (v86_0 : FVec F S1x512 .f32) (v86_1 : FVec F S1x512 .f32) (v86_2 : FVec F S1x512 .f32) (v86_3 : FVec F S1x512 .f32) (v104 : BitVec 32) (c2_i32_48 : BitVec 32) (v105 : BitVec 32) (v110 : BitVec 32) (v112 : BitVec 32) (v146 : BitVec 32)
    (hv : BitVec.toNat v23 = f) (hf : f ≤ (i 2).val) (t : Fin (k0_t5_loop i v23).trips) (x : FVec F S1x512 .f32 × FVec F S1x512 .f32 × FVec F S1x512 .f32 × FVec F S1x512 .f32) :
    inv c arg3 arg5 arg7 arg8 arg11 XC XQ XK XV i f arg12 arg13 (2 * ((k0_t5_loop i v23).lb.toNat + t.val)) x
      ⊢ wp frame (wpE (defs₀ (F := F)) 𝒱 (c : Thread nD τ) bd) E (Gen.k0_t5_body (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v62 v86_0 v86_1 v86_2 v86_3 v104 c2_i32_48 v105 v110 v112 v146 t x)
          (inv c arg3 arg5 arg7 arg8 arg11 XC XQ XK XV i f arg12 arg13 (2 * ((k0_t5_loop i v23).lb.toNat + (t.val + 1)))) := by
  rw [t5_eq, show 2 * ((k0_t5_loop i v23).lb.toNat + (t.val + 1)) = 2 * ((k0_t5_loop i v23).lb.toNat + t.val) + 2 by omega]
  have hp : (i 2).val < 33 := (i 2).isLt
  refine turns_inv c 𝒱 bd E arg3 arg5 arg7 arg8 arg11 XC XQ XK XV i f 1 arg12 arg13 (2 * ((k0_t5_loop i v23).lb.toNat + t.val)) _ (by simp) ?_ x
  intro k hk
  have hk' : k < 2 := by simpa using hk
  have h := t5_at hw hv hp (loopsOk i hv hf) t ⟨k, hk'⟩
  rw [List.getElem_ofFn]
  exact ⟨h.1, lt_of_le_of_lt h.2 hp⟩

/-- The first two loops. -/
theorem part84_inv (v4 : BitVec 32) (v9 : BitVec 32) (v23 : Elt F .i32) (hw : k0_chk1 i v23) (v39 : FVec F S1x512 .f32) (v41 : FVec F S1x512 .f32) (v42 : FVec F S1x512 .f32) (v43 : FVec F S1x512 .f32) (v62 : BitVec 32) (c4_i32_29 : BitVec 32) (v63 : BitVec 32) (v68 : BitVec 32) (v70 : BitVec 32) (c0_i32_33 : BitVec 32)
    (hv : BitVec.toNat v23 = f) (hf : f ≤ (i 2).val) :
    inv c arg3 arg5 arg7 arg8 arg11 XC XQ XK XV i f arg12 arg13 0 (v42, v43, v39, v41)
      ⊢ wp frame (wpE (defs₀ (F := F)) 𝒱 (c : Thread nD τ) bd) E (k0_part84 (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v39 v41 v42 v43 v62 c4_i32_29 v63 v68 v70 c0_i32_33)
          (fun y => inv c arg3 arg5 arg7 arg8 arg11 XC XQ XK XV i f arg12 arg13 (8 * (((i 2).val - f - 1) / 2 / 4)) (y.1, y.2.1, y.2.2.1, y.2.2.2.1)) := by
  rw [Gen.k0_part84_eq_skeleton]; unfold Gen.k0_part84_skel
  have hl := loopsOk i hv hf
  iintro H
  iapply (Scf.wp_for_bind frame (wpE (defs₀ (F := F)) 𝒱 (c : Thread nD τ) bd) E (k0_t1_loop i v23).lb (k0_t1_loop i v23).ub (k0_t1_loop i v23).st _ _
    (Gen.k0_t1_body (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v39 v41 v42 v43 v62 c4_i32_29 v63 v68 v70 c0_i32_33)
    (fun k x => inv c arg3 arg5 arg7 arg8 arg11 XC XQ XK XV i f arg12 arg13 (8 * k) x) (t1_inv c 𝒱 bd E XC XQ XK XV i f arg3 harg3 arg4 harg4 arg5 harg5 arg6 harg6 arg7 harg7 arg8 harg8 arg9 harg9 arg10 harg10 arg11 harg11 arg12 harg12 arg13 harg13 arg14 harg14 v4 v9 v23 hw v39 v41 v42 v43 v62 c4_i32_29 v63 v68 v70 c0_i32_33 hv hf)) $$ H
  iintro %a H
  iapply (Scf.wp_for_bind frame (wpE (defs₀ (F := F)) 𝒱 (c : Thread nD τ) bd) E (k0_t2_loop i v23).lb (k0_t2_loop i v23).ub (k0_t2_loop i v23).st _ _
    _ (fun _ x => inv c arg3 arg5 arg7 arg8 arg11 XC XQ XK XV i f arg12 arg13 (8 * (k0_t1_loop i v23).trips) x) (fun t _ => (Nat.not_lt_zero _ (lt_of_lt_of_eq t.isLt hl.2.1)).elim)) $$ H
  iintro %b H
  obtain ⟨b0, b1, b2, b3⟩ := b
  dsimp only
  sl_step
  rw [show (k0_t1_loop i v23).trips = _ from hl.1]
  iexact H

/-- The other four. -/
theorem part85_inv (v4 : BitVec 32) (v9 : BitVec 32) (v23 : Elt F .i32) (hw : k0_chk1 i v23) (v62 : BitVec 32) (v86_0 : FVec F S1x512 .f32) (v86_1 : FVec F S1x512 .f32) (v86_2 : FVec F S1x512 .f32) (v86_3 : FVec F S1x512 .f32) (v104 : BitVec 32) (c2_i32_48 : BitVec 32) (v105 : BitVec 32) (v110 : BitVec 32) (v112 : BitVec 32)
    (hv : BitVec.toNat v23 = f) (hf : f ≤ (i 2).val) :
    inv c arg3 arg5 arg7 arg8 arg11 XC XQ XK XV i f arg12 arg13 (8 * (((i 2).val - f - 1) / 2 / 4)) (v86_0, v86_1, v86_2, v86_3)
      ⊢ wp frame (wpE (defs₀ (F := F)) 𝒱 (c : Thread nD τ) bd) E (k0_part85 (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v62 v86_0 v86_1 v86_2 v86_3 v104 c2_i32_48 v105 v110 v112)
          (fun y => iprop(⌜y.2.2.2.2 = Scalar.muli 2#32 v62⌝ ∗ inv c arg3 arg5 arg7 arg8 arg11 XC XQ XK XV i f arg12 arg13 (2 * (((i 2).val - f - 1) / 2)) (y.1, y.2.1, y.2.2.1, y.2.2.2.1))) := by
  rw [Gen.k0_part85_eq_skeleton]; unfold Gen.k0_part85_skel
  have hl := loopsOk i hv hf
  iintro H
  iapply (Scf.wp_for_bind frame (wpE (defs₀ (F := F)) 𝒱 (c : Thread nD τ) bd) E (k0_t3_loop i v23).lb (k0_t3_loop i v23).ub (k0_t3_loop i v23).st _ _
    (Gen.k0_t3_body (F := F) i arg3 harg3 arg4 harg4 arg5 harg5 arg6 harg6 arg7 harg7 arg8 harg8 arg9 harg9 arg10 harg10 arg11 harg11 arg12 harg12 arg13 harg13 arg14 harg14 v4 v9 (cAt XC i 0 (i 2).val) (cAt XC i 1 (i 2).val) v23 hw onesRows v62 v86_0 v86_1 v86_2 v86_3 v104 c2_i32_48 v105 v110 v112)
    (fun k x => inv c arg3 arg5 arg7 arg8 arg11 XC XQ XK XV i f arg12 arg13 (4 * ((k0_t3_loop i v23).lb.toNat + k)) x) (t3_inv c 𝒱 bd E XC XQ XK XV i f arg3 harg3 arg4 harg4 arg5 harg5 arg6 harg6 arg7 harg7 arg8 harg8 arg9 harg9 arg10 harg10 arg11 harg11 arg12 harg12 arg13 harg13 arg14 harg14 v4 v9 v23 hw v62 v86_0 v86_1 v86_2 v86_3 v104 c2_i32_48 v105 v110 v112 hv hf)) $$ [H]
  · have e : 4 * ((k0_t3_loop i v23).lb.toNat + 0) = 8 * (((i 2).val - f - 1) / 2 / 4) := by
      have := hl.2.2.1; omega
    rw [e]; iexact H
  iintro %a H
  iapply (Scf.wp_for_bind frame (wpE (defs₀ (F := F)) 𝒱 (c : Thread nD τ) bd) E (k0_t4_loop i v23).lb (k0_t4_loop i v23).ub (k0_t4_loop i v23).st _ _
    _ (fun _ x => inv c arg3 arg5 arg7 arg8 arg11 XC XQ XK XV i f arg12 arg13 (4 * ((k0_t3_loop i v23).lb.toNat + (k0_t3_loop i v23).trips)) x) (fun t _ => (Nat.not_lt_zero _ (lt_of_lt_of_eq t.isLt hl.2.2.2.2.1)).elim)) $$ H
  iintro %b H
  iapply (Scf.wp_for_bind frame (wpE (defs₀ (F := F)) 𝒱 (c : Thread nD τ) bd) E (k0_t5_loop i v23).lb (k0_t5_loop i v23).ub (k0_t5_loop i v23).st _ _
    _
    (fun k x => inv c arg3 arg5 arg7 arg8 arg11 XC XQ XK XV i f arg12 arg13 (2 * ((k0_t5_loop i v23).lb.toNat + k)) x) (t5_inv c 𝒱 bd E XC XQ XK XV i f arg3 harg3 arg4 harg4 arg5 harg5 arg6 harg6 arg7 harg7 arg8 harg8 arg9 harg9 arg10 harg10 arg11 harg11 arg12 harg12 arg13 harg13 arg14 harg14 v4 v9 v23 hw v62 v86_0 v86_1 v86_2 v86_3 v104 c2_i32_48 v105 v110 v112 _ hv hf)) $$ [H]
  · have e : 2 * ((k0_t5_loop i v23).lb.toNat + 0) = 4 * ((k0_t3_loop i v23).lb.toNat + (k0_t3_loop i v23).trips) := by
      have h1 := hl.2.2.1
      have h2 := hl.2.2.2.1
      have h3 := hl.2.2.2.2.2.1
      omega
    rw [e]; iexact H
  iintro %a' H
  iapply (Scf.wp_for_bind frame (wpE (defs₀ (F := F)) 𝒱 (c : Thread nD τ) bd) E (k0_t6_loop i v23).lb (k0_t6_loop i v23).ub (k0_t6_loop i v23).st _ _
    _ (fun _ x => inv c arg3 arg5 arg7 arg8 arg11 XC XQ XK XV i f arg12 arg13 (2 * ((k0_t5_loop i v23).lb.toNat + (k0_t5_loop i v23).trips)) x) (fun t _ => (Nat.not_lt_zero _ (lt_of_lt_of_eq t.isLt hl.2.2.2.2.2.2.2.1)).elim)) $$ H
  iintro %b' H
  obtain ⟨b0, b1, b2, b3⟩ := b'
  dsimp only
  sl_step
  isplitr
  · ipureintro; rfl
  have e : 2 * ((k0_t5_loop i v23).lb.toNat + (k0_t5_loop i v23).trips) = 2 * (((i 2).val - f - 1) / 2) := by
    have h3 := hl.2.2.2.2.2.1
    have h4 := hl.2.2.2.2.2.2.1
    omega
  rw [e]
  iexact H

end

end Cert.KernelIdeal
-- ==== Proof.Ends.lean ====
module

public import proofs.«01_k».proof.Proof.Loops
public import Idealize.ShloMosaic.Lib.Pipeline.Value

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## The diagonal tile, the kept maxima and the end of a row -/

/-- A window of a window. -/
theorem window_window {r : Nat} {α : Type} {s0 : Fin r → Nat} (X : ((a : Fin r) → Fin (s0 a)) → α) (o sz o' sz' o2 : Fin r → Nat)
    (h : ∀ a, o a + sz a ≤ s0 a) (h' : ∀ a, o' a + sz' a ≤ sz a) (h2 : ∀ a, o2 a + sz' a ≤ s0 a) (e : ∀ a, o2 a = o a + o' a) :
    window (s := ⟨r, sz⟩) (window (s := ⟨r, s0⟩) X o sz h) o' sz' h' = window (s := ⟨r, s0⟩) X o2 sz' h2 := by
  funext y
  unfold window
  refine congrArg X ?_
  funext a
  apply Fin.ext
  show o a + 1 * (o' a + 1 * (y a).val) = o2 a + 1 * (y a).val
  rw [e a]; omega

/-- A diagonal tile's scores: a key later than the query scores the named mask. -/
def causal (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32))

/-- One head's scores of the diagonal tile. -/
def maskedHead (K : Memref sig .tc .vmem S1x16896x512 .bf16) (Q : Memref sig .tc .vmem S1x512x512 .bf16)
    (S : Memref sig .tc .vmem S2x512x512 .f32)
    (ko : Fin 3 → Nat) (hk : ∀ a, ko a + S1x512x256.size a ≤ S1x16896x512.size a)
    (qo : Fin 3 → Nat) (hq : ∀ a, qo a + S1x512x256.size a ≤ S1x512x512.size a)
    (so : Fin 3 → Nat) (hs : ∀ a, so a + S1x512x512.size a ≤ S2x512x512.size a) :
    Prog (TpuEff nD τ sig (Elt F) Λ₀ .tc) (FVec F S1x512 .f32) := do
  let k : Vec F S1x512x256 .bf16 ← Prog.lift (.load K (Rect.unit (s := S1x16896x512) ko S1x512x256.size hk).toLoadRect (View.loadsAt_vmem h_S1x512x256))
  let q : Vec F S1x512x256 .bf16 ← Prog.lift (.load Q (Rect.unit (s := S1x512x512) qo S1x512x256.size hq).toLoadRect (View.loadsAt_vmem h_S1x512x256))
  let _old : Vec F S1x512x512 .f32 ← Prog.lift (.load S (Rect.unit (s := S2x512x512) so S1x512x512.size hs).toLoadRect (View.loadsAt_vmem h_S1x512x512))
  Prog.lift (.store S (Rect.unit (s := S2x512x512) so S1x512x512.size hs) (shapeCast S1x512x512 (causal (scores k q)) shapeCasts_S512x512_S1x512x512) Finset.univ (View.stores_vmem_bits_univ h_S1x512x512 rfl) (.inl rfl))
  pure (colMax (causal (scores k q)))

/-- The two heads' greatest scores of the tile last scored, kept for the next row. -/
def heldM (c : Dev nD) (M : Memref sig .tc .vmem S2x1x512 .f32) (m0 m1 : FVec F S1x512 .f32) : sProp 𝕄G :=
  slots c M ![0, 0, 0] ![1, 0, 0] S1x1x512.size inb_S2x1x512_S1x1x512_0_0_0 inb_S2x1x512_S1x1x512_1_0_0
    (shapeCast S1x1x512 m0 shapeCasts_S1x512_S1x1x512) (shapeCast S1x1x512 m1 shapeCasts_S1x512_S1x1x512)

/-- The two heads' greatest scores, kept. -/
def storeMaxes (M : Memref sig .tc .vmem S2x1x512 .f32) (b : FVec F S1x512 .f32 × FVec F S1x512 .f32) :
    Prog (TpuEff nD τ sig (Elt F) Λ₀ .tc) PUnit := do
  let _o0 : Vec F S1x1x512 .f32 ← Prog.lift (.load M (Rect.unit (s := S2x1x512) ![0, 0, 0] S1x1x512.size inb_S2x1x512_S1x1x512_0_0_0).toLoadRect (View.loadsAt_vmem h_S1x1x512))
  Prog.lift (.store M (Rect.unit (s := S2x1x512) ![0, 0, 0] S1x1x512.size inb_S2x1x512_S1x1x512_0_0_0) (shapeCast S1x1x512 b.1 shapeCasts_S1x512_S1x1x512) Finset.univ (View.stores_vmem_bits_univ h_S1x1x512 rfl) (.inl rfl))
  let _o1 : Vec F S1x1x512 .f32 ← Prog.lift (.load M (Rect.unit (s := S2x1x512) ![1, 0, 0] S1x1x512.size inb_S2x1x512_S1x1x512_1_0_0).toLoadRect (View.loadsAt_vmem h_S1x1x512))
  Prog.lift (.store M (Rect.unit (s := S2x1x512) ![1, 0, 0] S1x1x512.size inb_S2x1x512_S1x1x512_1_0_0) (shapeCast S1x1x512 b.2 shapeCasts_S1x512_S1x1x512) Finset.univ (View.stores_vmem_bits_univ h_S1x1x512 rfl) (.inl rfl))

/-- The two heads' kept greatest scores, read. -/
def loadMaxes (M : Memref sig .tc .vmem S2x1x512 .f32) :
    Prog (TpuEff nD τ sig (Elt F) Λ₀ .tc) (FVec F S1x512 .f32 × FVec F S1x512 .f32) := do
  let o0 : Vec F S1x1x512 .f32 ← Prog.lift (.load M (Rect.unit (s := S2x1x512) ![0, 0, 0] S1x1x512.size inb_S2x1x512_S1x1x512_0_0_0).toLoadRect (View.loadsAt_vmem h_S1x1x512))
  let o1 : Vec F S1x1x512 .f32 ← Prog.lift (.load M (Rect.unit (s := S2x1x512) ![1, 0, 0] S1x1x512.size inb_S2x1x512_S1x1x512_1_0_0).toLoadRect (View.loadsAt_vmem h_S1x1x512))
  pure (shapeCast S1x512 o0 shapeCasts_S1x1x512_S1x512, shapeCast S1x512 o1 shapeCasts_S1x1x512_S1x512)

/-- A head's attention from its accumulator's rows and sums: divided, normed, and scaled by the gain. -/
def outRows (n : Vec F S1x128x512 .f32) (l : Vec F S1x1x512 .f32) (g : Vec F S1x1x128 .f32) : FVec F S1x512x128 .bf16 :=
  have v : FVec F S128x512 .f32 := divf (shapeCast S128x512 n shapeCasts_S1x128x512_S128x512)
    (broadcastTo S128x512 (shapeCast S1x512 l shapeCasts_S1x1x512_S1x512) broadcasts_S1x512_S128x512)
  shapeCast S1x512x128 (truncf .bf16 (mulf
    (transpose S512x128 [1, 0] (mulf v (broadcastTo S128x512
      (rsqrt (addf (divf (shapeCast S1x512 (multiReduction .add [0] S512 (mulf v v) 0x00000000#32 reduces_S128x512_S512 (.inl rfl) rfl) shapeCasts_S512_S1x512)
        (broadcast S1x512 (Scalar.ofBits .f32 0x43000000#32))) (broadcast S1x512 (Scalar.ofBits .f32 0x358637BD#32))))
      broadcasts_S1x512_S128x512)) transposes_S128x512_p1_0_S512x128)
    (broadcastTo S512x128 (shapeCast S1x128 g shapeCasts_S1x1x128_S1x128) broadcasts_S1x128_S512x128)) bitsLt_bf16_f32)
    shapeCasts_S512x128_S1x512x128

/-- One head's end of a row. -/
def finHead (A : Memref sig .tc .vmem S2x144x512 .f32) (G : Memref sig .tc .vmem S2x1x128 .f32) (O : Memref sig .tc .vmem S1x512x256 .bf16)
    (no : Fin 3 → Nat) (hn : ∀ a, no a + S1x128x512.size a ≤ S2x144x512.size a)
    (lo : Fin 3 → Nat) (hl : ∀ a, lo a + S1x1x512.size a ≤ S2x144x512.size a)
    (go : Fin 3 → Nat) (hg : ∀ a, go a + S1x1x128.size a ≤ S2x1x128.size a)
    (oo : Fin 3 → Nat) (ho : ∀ a, oo a + S1x512x128.size a ≤ S1x512x256.size a)
    (hst : (O.access (Rect.unit (s := S1x512x256) oo S1x512x128.size ho)).Stores Finset.univ) :
    Prog (TpuEff nD τ sig (Elt F) Λ₀ .tc) PUnit := do
  let n : Vec F S1x128x512 .f32 ← Prog.lift (.load A (Rect.unit (s := S2x144x512) no S1x128x512.size hn).toLoadRect (View.loadsAt_vmem h_S1x128x512))
  let l : Vec F S1x1x512 .f32 ← Prog.lift (.load A (Rect.unit (s := S2x144x512) lo S1x1x512.size hl).toLoadRect (View.loadsAt_vmem h_S1x1x512))
  let g : Vec F S1x1x128 .f32 ← Prog.lift (.load G (Rect.unit (s := S2x1x128) go S1x1x128.size hg).toLoadRect (View.loadsAt_vmem h_S1x1x128))
  let _old : Vec F S1x512x128 .bf16 ← Prog.lift (.load O (Rect.unit (s := S1x512x256) oo S1x512x128.size ho).toLoadRect (View.loadsAt_vmem h_S1x512x128))
  Prog.lift (.store O (Rect.unit (s := S1x512x256) oo S1x512x128.size ho) (outRows n l g) Finset.univ hst (.inl rfl))

section
variable (c : Dev nD) (𝒱 : Variants) (bd : Option 𝒱.V) (E : Set ℕ)

theorem maskedHead_spec (K : Memref sig .tc .vmem S1x16896x512 .bf16) (Q : Memref sig .tc .vmem S1x512x512 .bf16)
    (S : Memref sig .tc .vmem S2x512x512 .f32)
    (ko : Fin 3 → Nat) (hk : ∀ a, ko a + S1x512x256.size a ≤ S1x16896x512.size a)
    (qo : Fin 3 → Nat) (hq : ∀ a, qo a + S1x512x256.size a ≤ S1x512x512.size a)
    (so : Fin 3 → Nat) (hs : ∀ a, so a + S1x512x512.size a ≤ S2x512x512.size a)
    (XK : Vec F S1x16896x512 .bf16) (XQ : Vec F S1x512x512 .bf16) (XS : Vec F S2x512x512 .f32) :
    (iprop(ownsTc c K fullShare XK ∗ ownsTc c Q fullShare XQ ∗ ownsTc c S fullShare XS) : sProp 𝕄G)
      ⊢ wp frame (wpE (defs₀ (F := F)) 𝒱 (c : Thread nD τ) bd) E (maskedHead (F := F) K Q S ko hk qo hq so hs) (fun y => iprop(
          ⌜y = colMax (causal (scores (window XK ko S1x512x256.size hk) (window XQ qo S1x512x256.size hq)))⌝
          ∗ ownsTc c K fullShare XK ∗ ownsTc c Q fullShare XQ
          ∗ ownsTc c S fullShare (put XS so S1x512x512.size (shapeCast S1x512x512 (causal (scores (window XK ko S1x512x256.size hk) (window XQ qo S1x512x256.size hq))) shapeCasts_S512x512_S1x512x512)))) := by
  unfold ownsTc owns
  iintro ⟨⟨%fk, %hfk, HK⟩, ⟨%fq, %hfq, HQ⟩, ⟨%fs, %hfs, HS⟩⟩
  subst hfk hfq hfs
  unfold maskedHead
  sl_exec
  sl_step
  isplitr
  · ipureintro; rfl
  isplitl [HK]
  · iexists fk; isplitr; ipureintro; rfl; iexact HK
  isplitl [HQ]
  · iexists fq; isplitr; ipureintro; rfl; iexact HQ
  · iexists _
    isplitr [HS]
    · ipureintro
      exact View.read_writes_cons_put _ fs hs _ [] rfl
    · iexact HS

/-- Both heads' scores of the diagonal tile. -/
def maskedPair (K : Memref sig .tc .vmem S1x16896x512 .bf16) (Q : Memref sig .tc .vmem S1x512x512 .bf16)
    (S : Memref sig .tc .vmem S2x512x512 .f32)
    (k0 : Fin 3 → Nat) (hk0 : ∀ a, k0 a + S1x512x256.size a ≤ S1x16896x512.size a)
    (k1 : Fin 3 → Nat) (hk1 : ∀ a, k1 a + S1x512x256.size a ≤ S1x16896x512.size a) :
    Prog (TpuEff nD τ sig (Elt F) Λ₀ .tc) (FVec F S1x512 .f32 × FVec F S1x512 .f32) := do
  let b0 ← maskedHead K Q S k0 hk0 ![0, 0, 0] inb_S1x512x512_S1x512x256_0_0_0 ![0, 0, 0] inb_S2x512x512_S1x512x512_0_0_0
  let b1 ← maskedHead K Q S k1 hk1 ![0, 0, 256] inb_S1x512x512_S1x512x256_0_0_256 ![1, 0, 0] inb_S2x512x512_S1x512x512_1_0_0
  pure (b0, b1)

theorem maskedPair_spec (K : Memref sig .tc .vmem S1x16896x512 .bf16) (Q : Memref sig .tc .vmem S1x512x512 .bf16)
    (S : Memref sig .tc .vmem S2x512x512 .f32)
    (k0 : Fin 3 → Nat) (hk0 : ∀ a, k0 a + S1x512x256.size a ≤ S1x16896x512.size a)
    (k1 : Fin 3 → Nat) (hk1 : ∀ a, k1 a + S1x512x256.size a ≤ S1x16896x512.size a)
    (XK : Vec F S1x16896x512 .bf16) (XQ : Vec F S1x512x512 .bf16) (k0' k1' : Vec F S1x512x256 .bf16)
    (e0 : window XK k0 S1x512x256.size hk0 = k0') (e1 : window XK k1 S1x512x256.size hk1 = k1') :
    (iprop(ownsTc c K fullShare XK ∗ ownsTc c Q fullShare XQ ∗ someS c S) : sProp 𝕄G)
      ⊢ wp frame (wpE (defs₀ (F := F)) 𝒱 (c : Thread nD τ) bd) E (maskedPair (F := F) K Q S k0 hk0 k1 hk1) (fun y => iprop(
          ⌜y = (colMax (causal (scores k0' (qry XQ 0))), colMax (causal (scores k1' (qry XQ 1))))⌝
          ∗ ownsTc c K fullShare XK ∗ ownsTc c Q fullShare XQ ∗ heldS c S (causal (scores k0' (qry XQ 0))) (causal (scores k1' (qry XQ 1))))) := by
  subst e0 e1
  rw [qry_zero, qry_one]
  unfold someS maskedPair heldS slots
  iintro ⟨HK, HQ, %XS, HS⟩
  iapply (bind_spec c 𝒱 bd E (maskedHead_spec c 𝒱 bd E K Q S k0 hk0 _ inb_S1x512x512_S1x512x256_0_0_0 ![0, 0, 0] inb_S2x512x512_S1x512x512_0_0_0 XK XQ XS)) $$ [HK HQ HS]
  · isplitl [HK]; iexact HK; isplitl [HQ]; iexact HQ; iexact HS
  iintro %b0 ⟨%h0, HK, HQ, HS⟩
  subst h0
  iapply (bind_spec c 𝒱 bd E (maskedHead_spec c 𝒱 bd E K Q S k1 hk1 _ inb_S1x512x512_S1x512x256_0_0_256 ![1, 0, 0] inb_S2x512x512_S1x512x512_1_0_0 XK XQ _)) $$ [HK HQ HS]
  · isplitl [HK]; iexact HK; isplitl [HQ]; iexact HQ; iexact HS
  iintro %b1 ⟨%h1, HK, HQ, HS⟩
  subst h1
  sl_step
  isplitr
  · ipureintro; rfl
  isplitl [HK]; iexact HK
  isplitl [HQ]; iexact HQ
  iexists _
  isplitr [HS]
  rotate_left
  · iexact HS
  · ipureintro
    refine ⟨?_, ?_⟩
    · rw [VecWindow.window_put_of_disjoint _ _ _ _ _ _ _ 0 (.inl (by decide))]
      exact VecWindow.window_put_same _ _ _ _ _
    · exact VecWindow.window_put_same _ _ _ _ _

theorem storeMaxes_spec (M : Memref sig .tc .vmem S2x1x512 .f32) (b : FVec F S1x512 .f32 × FVec F S1x512 .f32) :
    (someS c M : sProp 𝕄G) ⊢ wp frame (wpE (defs₀ (F := F)) 𝒱 (c : Thread nD τ) bd) E (storeMaxes (F := F) M b) (fun _ => heldM c M b.1 b.2) := by
  unfold someS ownsTc owns
  iintro ⟨%X, %fm, %hfm, HM⟩
  subst hfm
  unfold storeMaxes
  sl_exec
  sl_step
  unfold heldM slots
  iexists (put (put (M.view.read (Elt F) fm) ![0, 0, 0] S1x1x512.size (shapeCast S1x1x512 b.1 shapeCasts_S1x512_S1x1x512)) ![1, 0, 0] S1x1x512.size (shapeCast S1x1x512 b.2 shapeCasts_S1x512_S1x1x512))
  isplitr
  · ipureintro
    refine ⟨?_, ?_⟩
    · rw [VecWindow.window_put_of_disjoint _ _ _ _ _ _ _ 0 (.inl (by decide))]
      exact VecWindow.window_put_same _ _ _ _ _
    · exact VecWindow.window_put_same _ _ _ _ _
  · unfold ownsTc owns
    iexists _
    isplitr [HM]
    rotate_left
    · iexact HM
    · ipureintro
      rw [View.read_writes_cons_put _ fm inb_S2x1x512_S1x1x512_1_0_0 _ _ rfl, View.read_writes_cons_put _ fm inb_S2x1x512_S1x1x512_0_0_0 _ _ rfl]
      rfl

theorem loadMaxes_spec (M : Memref sig .tc .vmem S2x1x512 .f32) (m0 m1 : FVec F S1x512 .f32) :
    (heldM c M m0 m1 : sProp 𝕄G) ⊢ wp frame (wpE (defs₀ (F := F)) 𝒱 (c : Thread nD τ) bd) E (loadMaxes (F := F) M) (fun y => iprop(⌜y = (m0, m1)⌝ ∗ heldM c M m0 m1)) := by
  unfold heldM slots ownsTc owns
  iintro ⟨%X, %hX, %fm, %hfm, HM⟩
  subst hfm
  unfold loadMaxes
  sl_exec
  sl_step
  isplitr
  · ipureintro
    have e : ∀ w : FVec F S1x512 .f32, shapeCast S1x512 (shapeCast S1x1x512 w shapeCasts_S1x512_S1x1x512) shapeCasts_S1x1x512_S1x512 = w := by
      intro w; exact shapeCast_shapeCast w _ _
    refine Prod.ext ?_ ?_
    · refine Eq.trans ?_ (e m0)
      exact congrArg (fun z : Vec F S1x1x512 .f32 => shapeCast S1x512 z shapeCasts_S1x1x512_S1x512) hX.1
    · refine Eq.trans ?_ (e m1)
      exact congrArg (fun z : Vec F S1x1x512 .f32 => shapeCast S1x512 z shapeCasts_S1x1x512_S1x512) hX.2
  · iexists _
    isplitr
    · ipureintro; exact hX
    · iexists fm
      isplitr
      · ipureintro; rfl
      · iexact HM

theorem finHead_spec (A : Memref sig .tc .vmem S2x144x512 .f32) (G : Memref sig .tc .vmem S2x1x128 .f32) (O : Memref sig .tc .vmem S1x512x256 .bf16)
    (no : Fin 3 → Nat) (hn : ∀ a, no a + S1x128x512.size a ≤ S2x144x512.size a)
    (lo : Fin 3 → Nat) (hl : ∀ a, lo a + S1x1x512.size a ≤ S2x144x512.size a)
    (go : Fin 3 → Nat) (hg : ∀ a, go a + S1x1x128.size a ≤ S2x1x128.size a)
    (oo : Fin 3 → Nat) (ho : ∀ a, oo a + S1x512x128.size a ≤ S1x512x256.size a)
    (hst : (O.access (Rect.unit (s := S1x512x256) oo S1x512x128.size ho)).Stores Finset.univ)
    (XA : Vec F S2x144x512 .f32) (XG : Vec F S2x1x128 .f32) (XO : Vec F S1x512x256 .bf16) :
    (iprop(ownsTc c A fullShare XA ∗ ownsTc c G fullShare XG ∗ ownsTc c O fullShare XO) : sProp 𝕄G)
      ⊢ wp frame (wpE (defs₀ (F := F)) 𝒱 (c : Thread nD τ) bd) E (finHead (F := F) A G O no hn lo hl go hg oo ho hst) (fun _ => iprop(
          ownsTc c A fullShare XA ∗ ownsTc c G fullShare XG
          ∗ ownsTc c O fullShare (put XO oo S1x512x128.size (outRows (window XA no S1x128x512.size hn) (window XA lo S1x1x512.size hl) (window XG go S1x1x128.size hg))))) := by
  unfold ownsTc owns
  iintro ⟨⟨%fa, %hfa, HA⟩, ⟨%fg, %hfg, HG⟩, ⟨%fo, %hfo, HO⟩⟩
  subst hfa hfg hfo
  unfold finHead
  sl_exec
  sl_step
  isplitl [HA]
  · iexists fa; isplitr; ipureintro; rfl; iexact HA
  isplitl [HG]
  · iexists fg; isplitr; ipureintro; rfl; iexact HG
  · iexists _
    isplitr [HO]
    · ipureintro
      exact View.read_writes_cons_put _ fo ho _ [] rfl
    · iexact HO

end

end Cert.KernelIdeal
-- ==== Proof.Finish.lean ====
module

public import proofs.«01_k».proof.Proof.Ends

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## The end of a row: the next row's first scores, and the block of the result -/

/-- The accumulated values of a head's slot. -/
def accRows (a : Vec F S1x144x512 .f32) : Vec F S1x128x512 .f32 :=
  window a ![0, 0, 0] S1x128x512.size (by intro a; fin_cases a <;> decide)

/-- The accumulated weights of a head's slot. -/
def accSum (a : Vec F S1x144x512 .f32) : Vec F S1x1x512 .f32 :=
  window a ![0, 128, 0] S1x1x512.size (by intro a; fin_cases a <;> decide)

/-- The result's block, from the heads' accumulators. -/
def outBlock (XG : Vec F S2x1x128 .f32) (a0 a1 : Vec F S1x144x512 .f32) : Vec F S1x512x256 .bf16 :=
  put (put (fun _ => Scalar.ofBits .bf16 0#16) ![0, 0, 0] S1x512x128.size
      (outRows (accRows a0) (accSum a0) (window XG ![0, 0, 0] S1x1x128.size inb_S2x1x128_S1x1x128_0_0_0)))
    ![0, 0, 128] S1x512x128.size
      (outRows (accRows a1) (accSum a1) (window XG ![1, 0, 0] S1x1x128.size inb_S2x1x128_S1x1x128_1_0_0))

/-- The two halves cover the block, so nothing of its old contents is left. -/
theorem put_halves {α : Type} (X Y : S1x512x256.Idx → α) (w0 w1 : S1x512x128.Idx → α) :
    put (put X ![0, 0, 0] S1x512x128.size w0) ![0, 0, 128] S1x512x128.size w1
      = put (put Y ![0, 0, 0] S1x512x128.size w0) ![0, 0, 128] S1x512x128.size w1 := by
  funext y
  unfold put
  by_cases h : ∀ a, (![0, 0, 128] : Fin 3 → Nat) a ≤ y a ∧ y a < (![0, 0, 128] : Fin 3 → Nat) a + S1x512x128.size a
  · rw [dif_pos h, dif_pos h]
  · rw [dif_neg h, dif_neg h]
    have h' : ∀ a, (![0, 0, 0] : Fin 3 → Nat) a ≤ y a ∧ y a < (![0, 0, 0] : Fin 3 → Nat) a + S1x512x128.size a := by
      have b0 : (y 0).val < 1 := (y 0).isLt
      have b1 : (y 1).val < 512 := (y 1).isLt
      have b2 : (y 2).val < 256 := (y 2).isLt
      have hn : (y 2).val < 128 := by
        by_contra hc
        apply h
        intro a
        fin_cases a
        · show 0 ≤ (y 0).val ∧ (y 0).val < 0 + 1; omega
        · show 0 ≤ (y 1).val ∧ (y 1).val < 0 + 512; omega
        · show 128 ≤ (y 2).val ∧ (y 2).val < 128 + 128; omega
      intro a
      fin_cases a
      · show 0 ≤ (y 0).val ∧ (y 0).val < 0 + 1; omega
      · show 0 ≤ (y 1).val ∧ (y 1).val < 0 + 512; omega
      · show 0 ≤ (y 2).val ∧ (y 2).val < 0 + 128; omega
    rw [dif_pos h', dif_pos h']

/-- The end of a row. -/
def ending (F4 : Memref sig .tc .smem S264 .i32) (K : Memref sig .tc .vmem S1x16896x512 .bf16) (Q : Memref sig .tc .vmem S1x512x512 .bf16)
    (S : Memref sig .tc .vmem S2x512x512 .f32) (M : Memref sig .tc .vmem S2x1x512 .f32) (A : Memref sig .tc .vmem S2x144x512 .f32)
    (G : Memref sig .tc .vmem S2x1x128 .f32) (O : Memref sig .tc .vmem S1x512x256 .bf16)
    (o : Fin 1 → Nat) (ho : ∀ a, o a + S1.size a ≤ S264.size a) (P : BitVec 32 → Prop) (d : ∀ w, Decidable (P w))
    (k0 k1 : BitVec 32 → Fin 3 → Nat) (hk0 : ∀ w, P w → ∀ a, k0 w a + S1x512x256.size a ≤ S1x16896x512.size a)
    (hk1 : ∀ w, P w → ∀ a, k1 w a + S1x512x256.size a ≤ S1x16896x512.size a)
    (h0 : (O.access (Rect.unit (s := S1x512x256) ![0, 0, 0] S1x512x128.size inb_S1x512x256_S1x512x128_0_0_0)).Stores Finset.univ)
    (h1 : (O.access (Rect.unit (s := S1x512x256) ![0, 0, 128] S1x512x128.size inb_S1x512x256_S1x512x128_0_0_128)).Stores Finset.univ) :
    Prog (TpuEff nD τ sig (Elt F) Λ₀ .tc) PUnit := do
  let w : Elt F .i32 ← smemLoad F4 (Rect.unit (s := S264) o S1.size ho) numel1_S1 rfl
  let h ← Prog.lift (TpuEff.assume (P w) (d w))
  let b ← scorePair K Q S (k0 w) (hk0 w h.down) (k1 w) (hk1 w h.down)
  storeMaxes M b
  finHead A G O ![0, 0, 0] inb_S2x144x512_S1x128x512_0_0_0 ![0, 128, 0] inb_S2x144x512_S1x1x512_0_128_0 ![0, 0, 0] inb_S2x1x128_S1x1x128_0_0_0
    ![0, 0, 0] inb_S1x512x256_S1x512x128_0_0_0 h0
  finHead A G O ![1, 0, 0] inb_S2x144x512_S1x128x512_1_0_0 ![1, 128, 0] inb_S2x144x512_S1x1x512_1_128_0 ![1, 0, 0] inb_S2x1x128_S1x1x128_1_0_0
    ![0, 0, 128] inb_S1x512x256_S1x512x128_0_0_128 h1

/-- A key tile, read by the word of its place. -/
theorem key_window (XK : Vec F S1x16896x512 .bf16) (h : Fin 2) {j : Nat} (hj : j < 33) (k : Fin 3 → Nat)
    (hk : ∀ a, k a + S1x512x256.size a ≤ S1x16896x512.size a) {w : BitVec 32} (hw : w.toNat = j)
    (e : k = ![0, (Scalar.muli w 512#32).toNat, 256 * h.val]) : window XK k S1x512x256.size hk = keyAt XK h j := by
  refine window_congr _ _ _ _ _ _ ?_
  rw [e, tile_nat hw hj, Nat.min_eq_left (by omega)]

/-- A value tile, read by the word of its place. -/
theorem val_window (XV : Vec F S1x256x16896 .bf16) (h : Fin 2) {j : Nat} (hj : j < 33) (k : Fin 3 → Nat)
    (hk : ∀ a, k a + S1x128x512.size a ≤ S1x256x16896.size a) {w : BitVec 32} (hw : w.toNat = j)
    (e : k = ![0, 128 * h.val, (Scalar.muli w 512#32).toNat]) : window XV k S1x128x512.size hk = valAt XV h j := by
  refine window_congr _ _ _ _ _ _ ?_
  rw [e, tile_nat hw hj, Nat.min_eq_left (by omega)]

/-- An offset, read by the word of its place. -/
theorem c_window (XC : Vec F S1056 .f32) (i : grid0.Coords) (h : Fin 2) {j : Nat} (hj : j < 33) (k : Fin 1 → Nat)
    (hk : ∀ a, k a + S1.size a ≤ S1056.size a) (hp) {w : BitVec 32} (hw : w.toNat = j)
    (e : k = ![(cWord i (BitVec.ofNat 32 h.val) w).toNat]) : window XC k S1.size hk (Shape.Idx.first hp) = cAt XC i h j := by
  have hl := h.isLt
  have e' : k = ![cIdx i h.val (min j 32)] := by
    rw [e, Nat.min_eq_left (by omega), cWord_nat i (k := h.val) (by rw [BitVec.toNat_ofNat]; exact Nat.mod_eq_of_lt (by omega)) hl hw hj]
  subst e'
  rfl

section
variable (c : Dev nD) (𝒱 : Variants) (bd : Option 𝒱.V) (E : Set ℕ)

/-- A check that holds is passed. -/
theorem assume_bind {β : Type} {P : Prop} (d : Decidable P) (h : P) (k : PLift P → Prog (TpuEff nD τ sig (Elt F) Λ₀ .tc) β) (Q : β → sProp 𝕄G) :
    wp frame (wpE (defs₀ (F := F)) 𝒱 (c : Thread nD τ) bd) E (k ⟨h⟩) Q ⊢ wp frame (wpE (defs₀ (F := F)) 𝒱 (c : Thread nD τ) bd) E (Prog.lift (TpuEff.assume P d) >>= k) Q :=
  (wp_assume_of (k := k) (d := d) (Q := Q) 𝒱 (c : Thread nD τ) bd E h) ▸ BIBase.Entails.rfl

theorem wand_spec {α : Type} {p : Prog (TpuEff nD τ sig (Elt F) Λ₀ .tc) α} {P : sProp 𝕄G} {R Q : α → sProp 𝕄G}
    (h : P ⊢ wp frame (wpE (defs₀ (F := F)) 𝒱 (c : Thread nD τ) bd) E p R) : P ⊢ iprop((∀ y, R y -∗ Q y) -∗ wp frame (wpE (defs₀ (F := F)) 𝒱 (c : Thread nD τ) bd) E p Q) :=
  h.trans (wp_wand _ _ _)

theorem ending_spec (F4 : Memref sig .tc .smem S264 .i32) (K : Memref sig .tc .vmem S1x16896x512 .bf16) (Q : Memref sig .tc .vmem S1x512x512 .bf16)
    (S : Memref sig .tc .vmem S2x512x512 .f32) (M : Memref sig .tc .vmem S2x1x512 .f32) (A : Memref sig .tc .vmem S2x144x512 .f32)
    (G : Memref sig .tc .vmem S2x1x128 .f32) (O : Memref sig .tc .vmem S1x512x256 .bf16)
    (o : Fin 1 → Nat) (ho : ∀ a, o a + S1.size a ≤ S264.size a) (P : BitVec 32 → Prop) (d : ∀ w, Decidable (P w))
    (k0 k1 : BitVec 32 → Fin 3 → Nat) (hk0 : ∀ w, P w → ∀ a, k0 w a + S1x512x256.size a ≤ S1x16896x512.size a)
    (hk1 : ∀ w, P w → ∀ a, k1 w a + S1x512x256.size a ≤ S1x16896x512.size a) (h0) (h1)
    (XF : Vec F S264 .i32) (XK : Vec F S1x16896x512 .bf16) (XQ : Vec F S1x512x512 .bf16) (XG : Vec F S2x1x128 .f32)
    (a0 a1 : Vec F S1x144x512 .f32) (w : BitVec 32) {f' : Nat} (hw : ∀ hp, window XF o S1.size ho (Shape.Idx.first hp) = w)
    (hf : w.toNat = f') (hl : f' < 33) (hP : P w)
    (e0 : k0 w = ![0, (Scalar.muli w 512#32).toNat, 0]) (e1 : k1 w = ![0, (Scalar.muli w 512#32).toNat, 256]) :
    (iprop(ownsTc c F4 fullShare XF ∗ ownsTc c K fullShare XK ∗ ownsTc c Q fullShare XQ ∗ someS c S ∗ someS c M ∗ heldA c A a0 a1
        ∗ ownsTc c G fullShare XG ∗ someS c O) : sProp 𝕄G)
      ⊢ wp frame (wpE (defs₀ (F := F)) 𝒱 (c : Thread nD τ) bd) E (ending (F := F) F4 K Q S M A G O o ho P d k0 k1 hk0 hk1 h0 h1) (fun _ => iprop(
          ownsTc c F4 fullShare XF ∗ ownsTc c K fullShare XK ∗ ownsTc c Q fullShare XQ
          ∗ heldS c S (scAt XK XQ 0 f') (scAt XK XQ 1 f') ∗ heldM c M (colMax (scAt XK XQ 0 f')) (colMax (scAt XK XQ 1 f'))
          ∗ heldA c A a0 a1 ∗ ownsTc c G fullShare XG ∗ ownsTc c O fullShare (outBlock XG a0 a1))) := by
  unfold ending
  iintro ⟨HF, HK, HQ, HS, HM, HA, HG, HO⟩
  iapply (bind_spec c 𝒱 bd E (smem_spec c 𝒱 bd E F4 o S1.size ho numel1_S1 rfl XF)) $$ [HF]
  · iexact HF
  iintro %w' ⟨%hw', HF⟩
  rw [hw] at hw'
  subst hw'
  iapply (assume_bind c 𝒱 bd E (d w') hP _ _)
  iapply (bind_spec c 𝒱 bd E (scorePair_spec c 𝒱 bd E K Q S (k0 w') (hk0 w' hP) (k1 w') (hk1 w' hP) XK XQ _ _
    (key_window XK 0 hl _ _ hf e0) (key_window XK 1 hl _ _ hf e1))) $$ [HK HQ HS]
  · isplitl [HK]; iexact HK; isplitl [HQ]; iexact HQ; iexact HS
  iintro %b ⟨%hb, HK, HQ, HS⟩
  have hb0 : b.1 = colMax (scAt XK XQ 0 f') := by rw [hb]; dsimp only; unfold scAt; rfl
  have hb1 : b.2 = colMax (scAt XK XQ 1 f') := by rw [hb]; dsimp only; unfold scAt; rfl
  rw [← hb0, ← hb1]
  iapply (bind_spec c 𝒱 bd E (storeMaxes_spec c 𝒱 bd E M _)) $$ [HM]
  · iexact HM
  iintro %u HM
  unfold heldA slots
  icases HA with ⟨%XA, %hA, HA⟩
  unfold someS
  icases HO with ⟨%XO, HO⟩
  iapply (bind_spec c 𝒱 bd E (finHead_spec c 𝒱 bd E A G O _ inb_S2x144x512_S1x128x512_0_0_0 _ inb_S2x144x512_S1x1x512_0_128_0 _ inb_S2x1x128_S1x1x128_0_0_0
    _ inb_S1x512x256_S1x512x128_0_0_0 h0 XA XG XO)) $$ [HA HG HO]
  · isplitl [HA]; iexact HA; isplitl [HG]; iexact HG; iexact HO
  iintro %u' ⟨HA, HG, HO⟩
  iapply (wand_spec c 𝒱 bd E (finHead_spec c 𝒱 bd E A G O _ inb_S2x144x512_S1x128x512_1_0_0 _ inb_S2x144x512_S1x1x512_1_128_0 _ inb_S2x1x128_S1x1x128_1_0_0
      _ inb_S1x512x256_S1x512x128_0_0_128 h1 XA XG _)) $$ [HA HG HO]
  · isplitl [HA]; iexact HA; isplitl [HG]; iexact HG; iexact HO
  iintro %u'' ⟨HA, HG, HO⟩
  isplitl [HF]; iexact HF
  isplitl [HK]; iexact HK
  isplitl [HQ]; iexact HQ
  isplitl [HS]; iexact HS
  isplitl [HM]; iexact HM
  have er : ∀ (h : Nat) (hn) (hs) , window XA ![h, 0, 0] S1x128x512.size hn = accRows (window XA ![h, 0, 0] S1x144x512.size hs) := by
    intro h hn hs
    exact (window_window XA ![h, 0, 0] S1x144x512.size ![0, 0, 0] S1x128x512.size ![h, 0, 0] hs _ hn (by intro a; fin_cases a <;> rfl)).symm
  have es : ∀ (h : Nat) (hn) (hs) , window XA ![h, 128, 0] S1x1x512.size hn = accSum (window XA ![h, 0, 0] S1x144x512.size hs) := by
    intro h hn hs
    exact (window_window XA ![h, 0, 0] S1x144x512.size ![0, 128, 0] S1x1x512.size ![h, 128, 0] hs _ hn (by intro a; fin_cases a <;> rfl)).symm
  isplitl [HA]
  · iexists XA
    isplitr
    · ipureintro; exact hA
    · iexact HA
  isplitl [HG]; iexact HG
  obtain ⟨hA0, hA1⟩ := hA
  have e : put (put XO ![0, 0, 0] S1x512x128.size (outRows (window XA ![0, 0, 0] S1x128x512.size inb_S2x144x512_S1x128x512_0_0_0) (window XA ![0, 128, 0] S1x1x512.size inb_S2x144x512_S1x1x512_0_128_0) (window XG ![0, 0, 0] S1x1x128.size inb_S2x1x128_S1x1x128_0_0_0)))
      ![0, 0, 128] S1x512x128.size (outRows (window XA ![1, 0, 0] S1x128x512.size inb_S2x144x512_S1x128x512_1_0_0) (window XA ![1, 128, 0] S1x1x512.size inb_S2x144x512_S1x1x512_1_128_0) (window XG ![1, 0, 0] S1x1x128.size inb_S2x1x128_S1x1x128_1_0_0))
      = outBlock XG a0 a1 := by
    subst hA0 hA1
    rw [put_halves _ (fun _ => Scalar.ofBits .bf16 0#16), er 0, es 0, er 1, es 1]
    rfl
  rw [← e]
  iexact HO

end

end Cert.KernelIdeal
-- ==== Proof.Rows.lean ====
module

public import proofs.«01_k».proof.Proof.Finish

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## The last tiles of a row -/

section
variable (i : grid0.Coords) (v : BitVec 32) (hw : k0_chk1 i v)
  (arg3 : Memref sig .tc .smem S1056 .f32) (arg4 : Memref sig .tc .smem S264 .i32) (arg5 arg6 : Memref sig .tc .vmem S1x512x512 .bf16) (arg7 : Memref sig .tc .vmem S1x16896x512 .bf16) (arg8 : Memref sig .tc .vmem S1x256x16896 .bf16) (arg9 : Memref sig .tc .vmem S2x1x128 .f32) (arg10 : Memref sig .tc .vmem S1x512x256 .bf16) (arg11 : Memref sig .tc .vmem S2x144x512 .f32) (arg12 arg13 : Memref sig .tc .vmem S2x512x512 .f32) (arg14 : Memref sig .tc .vmem S2x1x512 .f32)
  (h0 : (arg10.access (Rect.unit (s := S1x512x256) ![0, 0, 0] S1x512x128.size inb_S1x512x256_S1x512x128_0_0_0)).Stores Finset.univ)
  (h1 : (arg10.access (Rect.unit (s := S1x512x256) ![0, 0, 128] S1x512x128.size inb_S1x512x256_S1x512x128_0_0_128)).Stores Finset.univ)

/-- The places of the step over the first of two tiles left. -/
abbrev leftOffs (h2 : k0_cond2 i v = 1#1) : Offs :=
  ⟨k0_off117 i v, k0_off117_inb i v hw h2, k0_off118 i v, k0_off118_inb i v hw h2,
    k0_off119 i v 0#32, k0_off119_inb i v hw h2 0, k0_off119 i v 1#32, k0_off119_inb i v hw h2 1,
    k0_off120 i v, k0_off120_inb i v hw h2, k0_off121 i v, k0_off121_inb i v hw h2⟩

/-- Two tiles left, and the diagonal. -/
def twoLeft (h2 : k0_cond2 i v = 1#1) (cq0 cq1 : F .f32) (ones : FVec F S16x512 .bf16)
    (x : FVec F S1x512 .f32 × FVec F S1x512 .f32 × FVec F S1x512 .f32 × FVec F S1x512 .f32) :
    Prog (TpuEff nD τ sig (Elt F) Λ₀ .tc) PUnit := do
  let y ← tileStep arg3 arg5 arg7 arg8 arg11 arg12 arg13 (leftOffs i v hw h2) cq0 cq1 ones x
  let d ← maskedPair arg7 arg5 arg12 (k0_off122 i) (k0_off122_inb i) (k0_off123 i) (k0_off123_inb i)
  let c0 : Elt F .f32 ← smemLoad arg3 (Rect.unit (s := S1056) (k0_off124 i v 0#32) S1.size (k0_off124_inb i v hw h2 0)) numel1_S1 rfl
  let c1 : Elt F .f32 ← smemLoad arg3 (Rect.unit (s := S1056) (k0_off124 i v 1#32) S1.size (k0_off124_inb i v hw h2 1)) numel1_S1 rfl
  let m ← accPair arg8 arg13 arg11 (k0_off125 i v) (k0_off125_inb i v hw h2) (k0_off126 i v) (k0_off126_inb i v hw h2) ones
    y.1 y.2.2.1 (Scalar.subf cq0 c0) y.2.1 y.2.2.2 (Scalar.subf cq1 c1)
  let _m ← accPair arg8 arg12 arg11 (k0_off127 i) (k0_off127_inb i) (k0_off128 i) (k0_off128_inb i) ones
    m.1 d.1 (Scalar.ofBits .f32 0x00000000#32) m.2 d.2 (Scalar.ofBits .f32 0x00000000#32)
  ending arg4 arg7 arg6 arg12 arg14 arg11 arg9 arg10 (k0_off129 i) (k0_off129_inb i) (k0_chk2 i v) (k0_chk2.dec i v) k0_off130 k0_off131
    (fun w h => k0_off130_inb i v w h h2) (fun w h => k0_off131_inb i v w h h2) h0 h1

/-- One tile left or none, and the diagonal. -/
def oneLeft (h3 : k0_cond3 i v = 1#1) (cq0 cq1 : F .f32) (ones : FVec F S16x512 .bf16)
    (x : FVec F S1x512 .f32 × FVec F S1x512 .f32 × FVec F S1x512 .f32 × FVec F S1x512 .f32) :
    Prog (TpuEff nD τ sig (Elt F) Λ₀ .tc) PUnit := do
  let d ← maskedPair arg7 arg5 arg13 (k0_off132 i) (k0_off132_inb i) (k0_off133 i) (k0_off133_inb i)
  let c0 : Elt F .f32 ← smemLoad arg3 (Rect.unit (s := S1056) (k0_off134 i v 0#32) S1.size (k0_off134_inb i v hw h3 0)) numel1_S1 rfl
  let c1 : Elt F .f32 ← smemLoad arg3 (Rect.unit (s := S1056) (k0_off134 i v 1#32) S1.size (k0_off134_inb i v hw h3 1)) numel1_S1 rfl
  let m ← accPair arg8 arg12 arg11 (k0_off135 i v) (k0_off135_inb i v hw h3) (k0_off136 i v) (k0_off136_inb i v hw h3) ones
    x.1 x.2.2.1 (Scalar.select (Scalar.cmpi .slt (leftWord i v) (BitVec.ofNat 32 (i 2).val)) (Scalar.subf cq0 c0) (Named.named κ "fake" 0xF1C9F2CA#32))
    x.2.1 x.2.2.2 (Scalar.select (Scalar.cmpi .slt (leftWord i v) (BitVec.ofNat 32 (i 2).val)) (Scalar.subf cq1 c1) (Named.named κ "fake" 0xF1C9F2CA#32))
  let _m ← accPair arg8 arg13 arg11 (k0_off137 i) (k0_off137_inb i) (k0_off138 i) (k0_off138_inb i) ones
    m.1 d.1 (Scalar.ofBits .f32 0x00000000#32) m.2 d.2 (Scalar.ofBits .f32 0x00000000#32)
  ending arg4 arg7 arg6 arg12 arg14 arg11 arg9 arg10 (k0_off139 i) (k0_off139_inb i) (k0_chk3 i v) (k0_chk3.dec i v) k0_off140 k0_off141
    (fun w h => k0_off140_inb i v w h h3) (fun w h => k0_off141_inb i v w h h3) h0 h1

end

/-- The word of a row's first tile. -/
def firstAt (XF : Vec F S264 .i32) (i : grid0.Coords) (q : Nat) : BitVec 32 :=
  window XF ![((i 0).val * 4 + (i 1).val) * 33 + min q 32] S1.size (by
    have h0 : (i 0).val < 2 := (i 0).isLt
    have h1 : (i 1).val < 4 := (i 1).isLt
    intro a; fin_cases a
    show ((i 0).val * 4 + (i 1).val) * 33 + min q 32 + 1 ≤ 264
    omega)
    (Shape.Idx.first (Nat.lt_of_lt_of_eq Nat.one_pos (Eq.symm (show Shape.numel _ = 1 from numel1_S1))))

section
variable (XC : Vec F S1056 .f32) (XQ : Vec F S1x512x512 .bf16) (XK : Vec F S1x16896x512 .bf16) (XV : Vec F S1x256x16896 .bf16)
  (i : grid0.Coords) (f : Nat)

/-- A head's state before the diagonal: where no tile comes before it, the tile itself moved by the named far offset. -/
def beforeDiag (h : Fin 2) : HSt F :=
  if f < (i 2).val then hst XC XQ XK XV i f h ((i 2).val - f)
  else HSt.init.step onesRows (valAt XV h f) (scAt XK XQ h f) (Named.named κ "fake" 0xF1C9F2CA#32)

/-- A head's state after the row. -/
def afterDiag (h : Fin 2) : HSt F :=
  (beforeDiag XC XQ XK XV i f h).step onesRows (valAt XV h (i 2).val) (causal (scAt XK XQ h (i 2).val)) (Scalar.ofBits .f32 0x00000000#32)

end

section
variable (c : Dev nD)
  (arg3 : Memref sig .tc .smem S1056 .f32) (arg4 : Memref sig .tc .smem S264 .i32) (arg5 arg6 : Memref sig .tc .vmem S1x512x512 .bf16) (arg7 : Memref sig .tc .vmem S1x16896x512 .bf16) (arg8 : Memref sig .tc .vmem S1x256x16896 .bf16) (arg9 : Memref sig .tc .vmem S2x1x128 .f32) (arg10 : Memref sig .tc .vmem S1x512x256 .bf16) (arg11 : Memref sig .tc .vmem S2x144x512 .f32) (arg12 arg13 : Memref sig .tc .vmem S2x512x512 .f32) (arg14 : Memref sig .tc .vmem S2x1x512 .f32)
  (XC : Vec F S1056 .f32) (XF : Vec F S264 .i32) (XQ XN : Vec F S1x512x512 .bf16) (XK : Vec F S1x16896x512 .bf16) (XV : Vec F S1x256x16896 .bf16)
  (XG : Vec F S2x1x128 .f32)

/-- What the last tiles keep beside the tiles' own: the first tiles, the next row's queries, and the gain. -/
def others : sProp 𝕄G := iprop(ownsTc c arg4 fullShare XF ∗ ownsTc c arg6 fullShare XN ∗ ownsTc c arg9 fullShare XG)

/-- The scores and maxima a row starts from: those of its first tile. -/
def carried (XQ' : Vec F S1x512x512 .bf16) (f : Nat) : sProp 𝕄G :=
  iprop(heldS c arg12 (scAt XK XQ' 0 f) (scAt XK XQ' 1 f) ∗ heldM c arg14 (colMax (scAt XK XQ' 0 f)) (colMax (scAt XK XQ' 1 f)))

/-- What holds after a row. -/
def rowDone (i : grid0.Coords) (f f' : Nat) : sProp 𝕄G :=
  iprop(inputs c arg3 arg5 arg7 arg8 XC XQ XK XV ∗ others c arg4 arg6 arg9 XF XN XG ∗ carried c arg12 arg14 XK XN f'
    ∗ someS c arg11 ∗ someS c arg13
    ∗ ownsTc c arg10 fullShare (outBlock XG (afterDiag XC XQ XK XV i f 0).a (afterDiag XC XQ XK XV i f 1).a))

end

end Cert.KernelIdeal
-- ==== Proof.Tails.lean ====
module

public import proofs.«01_k».proof.Proof.Rows

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## The last tiles' triples -/

/-- The word of the next row's first tile, as the kernel reads it. -/
theorem first_window (XF : Vec F S264 .i32) (i : grid0.Coords) (q : Nat) (o : Fin 1 → Nat) (ho : ∀ a, o a + S1.size a ≤ S264.size a) (hp)
    (w : BitVec 32) (hw : w.toNat = min q 32)
    (e : o = ![(Scalar.addi (Scalar.muli (Scalar.addi (Scalar.muli (BitVec.ofNat 32 (i 0).val) 4#32) (BitVec.ofNat 32 (i 1).val)) 33#32) w).toNat]) :
    window XF o S1.size ho (Shape.Idx.first hp) = firstAt XF i q := by
  have h0 : (i 0).val < 2 := (i 0).isLt
  have h1 : (i 1).val < 4 := (i 1).isLt
  have e0 : (BitVec.ofNat 32 (i 0).val).toNat = (i 0).val := by rw [BitVec.toNat_ofNat]; exact Nat.mod_eq_of_lt (by omega)
  have e1 : (BitVec.ofNat 32 (i 1).val).toNat = (i 1).val := by rw [BitVec.toNat_ofNat]; exact Nat.mod_eq_of_lt (by omega)
  have e' : o = ![((i 0).val * 4 + (i 1).val) * 33 + min q 32] := by
    rw [e, addi_nat (muli_nat (addi_nat (muli_nat e0 (b := 4) rfl (by omega)) e1 (by omega)) (b := 33) rfl (by omega)) hw (by omega)]
  subst e'
  rfl

theorem select_true {α : Type} {p : BitVec 1} (h : p = 1#1) (a b : α) : Scalar.select p a b = a := by
  subst h; rfl

theorem select_false {α : Type} {p : BitVec 1} (h : p ≠ 1#1) (a b : α) : Scalar.select p a b = b := by
  have : p = 0#1 := by
    have := p.isLt
    apply BitVec.eq_of_toNat_eq
    have h1 : p.toNat ≠ 1 := fun e => h (BitVec.eq_of_toNat_eq e)
    show p.toNat = 0
    omega
  subst this; rfl

section
variable (c : Dev nD) (𝒱 : Variants) (bd : Option 𝒱.V) (E : Set ℕ)
  (i : grid0.Coords) (v : BitVec 32) (hw : k0_chk1 i v)
  (arg3 : Memref sig .tc .smem S1056 .f32) (arg4 : Memref sig .tc .smem S264 .i32) (arg5 arg6 : Memref sig .tc .vmem S1x512x512 .bf16) (arg7 : Memref sig .tc .vmem S1x16896x512 .bf16) (arg8 : Memref sig .tc .vmem S1x256x16896 .bf16) (arg9 : Memref sig .tc .vmem S2x1x128 .f32) (arg10 : Memref sig .tc .vmem S1x512x256 .bf16) (arg11 : Memref sig .tc .vmem S2x144x512 .f32) (arg12 arg13 : Memref sig .tc .vmem S2x512x512 .f32) (arg14 : Memref sig .tc .vmem S2x1x512 .f32)
  (h0 : (arg10.access (Rect.unit (s := S1x512x256) ![0, 0, 0] S1x512x128.size inb_S1x512x256_S1x512x128_0_0_0)).Stores Finset.univ)
  (h1 : (arg10.access (Rect.unit (s := S1x512x256) ![0, 0, 128] S1x512x128.size inb_S1x512x256_S1x512x128_0_0_128)).Stores Finset.univ)
  (XC : Vec F S1056 .f32) (XF : Vec F S264 .i32) (XQ XN : Vec F S1x512x512 .bf16) (XK : Vec F S1x16896x512 .bf16) (XV : Vec F S1x256x16896 .bf16)
  (XG : Vec F S2x1x128 .f32)

theorem heldA_some (a0 a1 : Vec F S1x144x512 .f32) : (heldA c arg11 a0 a1 : sProp 𝕄G) ⊢ someS c arg11 := by
  unfold heldA slots someS
  iintro ⟨%X, %_h, H⟩
  iexists X; iexact H

theorem twoLeft_spec (h2 : k0_cond2 i v = 1#1) {f f' : Nat} (hv : v.toNat = f) (hf : f ≤ (i 2).val)
    (hf' : (firstAt XF i ((i 2).val + 1)).toNat = f') (hl : f' < 33)
    (x : FVec F S1x512 .f32 × FVec F S1x512 .f32 × FVec F S1x512 .f32 × FVec F S1x512 .f32) :
    (iprop(inv c arg3 arg5 arg7 arg8 arg11 XC XQ XK XV i f arg12 arg13 (2 * (((i 2).val - f - 1) / 2)) x
        ∗ others c arg4 arg6 arg9 XF XN XG ∗ someS c arg14 ∗ someS c arg10) : sProp 𝕄G)
      ⊢ wp frame (wpE (defs₀ (F := F)) 𝒱 (c : Thread nD τ) bd) E (twoLeft i v hw arg3 arg4 arg5 arg6 arg7 arg8 arg9 arg10 arg11 arg12 arg13 arg14 h0 h1 h2 (cAt XC i 0 (i 2).val) (cAt XC i 1 (i 2).val) onesRows x) (fun _ =>
          rowDone c arg3 arg4 arg5 arg6 arg7 arg8 arg9 arg10 arg11 arg12 arg13 arg14 XC XF XQ XN XK XV XG i f f') := by
  obtain ⟨tp, tm, tc1, tc2, tc3, tn, ts⟩ := tailOk i hv hf
  have hp : (i 2).val < 33 := (i 2).isLt
  have hN := tc2.1 h2
  generalize hn : 2 * (((i 2).val - f - 1) / 2) = n2 at *
  have ep : f + n2 + 2 = (i 2).val := by omega
  have hip : (BitVec.ofNat 32 (i 2).val).toNat = (i 2).val := by rw [BitVec.toNat_ofNat]; exact Nat.mod_eq_of_lt (by omega)
  have hL : (leftWord i v).toNat = f + n2 := by
    have := pairWord_nat hv tp (by omega); rw [hn] at this; exact this
  have hL1 : (Scalar.addi (leftWord i v) 1#32).toNat = f + n2 + 1 := addi_nat hL rfl (by omega)
  have hst_e : ∀ h, beforeDiag XC XQ XK XV i f h = hst XC XQ XK XV i f h (n2 + 1 + 1) := by
    intro h
    unfold beforeDiag
    rw [if_pos (by omega)]
    congr 1; omega
  unfold twoLeft
  iintro ⟨HI, HO, HM, HR⟩
  iapply (bind_spec c 𝒱 bd E (tileStep_inv c 𝒱 bd E arg3 arg5 arg7 arg8 arg11 XC XQ XK XV i f arg12 arg13 (leftOffs i v hw h2) n2
    (Offs.at_of _ i (leftWord i v) (Scalar.addi (leftWord i v) 1#32) hL hL1 (by omega) (by omega) rfl rfl rfl rfl rfl rfl) (by omega) x)) $$ [HI]
  · iexact HI
  iintro %y HI
  unfold inv inputs others
  icases HI with ⟨%hy, ⟨HC, HQ, HK, HV⟩, HA, HS, HD⟩
  icases HO with ⟨HF, HN, HG⟩
  subst hy
  iapply (bind_spec c 𝒱 bd E (maskedPair_spec c 𝒱 bd E arg7 arg5 arg12 (k0_off122 i) (k0_off122_inb i) (k0_off123 i) (k0_off123_inb i) XK XQ _ _
    (key_window XK 0 hp _ _ hip rfl) (key_window XK 1 hp _ _ hip rfl))) $$ [HK HQ HD]
  · isplitl [HK]; iexact HK; isplitl [HQ]; iexact HQ; iexact HD
  iintro %d ⟨%hd, HK, HQ, HD⟩
  iapply (bind_spec c 𝒱 bd E (smem_spec c 𝒱 bd E arg3 _ S1.size (k0_off124_inb i v hw h2 0) numel1_S1 rfl XC)) $$ [HC]
  · iexact HC
  iintro %c0 ⟨%hc0, HC⟩
  replace hc0 := hc0.trans (c_window XC i 0 (j := f + n2 + 1) (by omega) _ _ _ hL1 rfl)
  subst hc0
  iapply (bind_spec c 𝒱 bd E (smem_spec c 𝒱 bd E arg3 _ S1.size (k0_off124_inb i v hw h2 1) numel1_S1 rfl XC)) $$ [HC]
  · iexact HC
  iintro %c1 ⟨%hc1, HC⟩
  replace hc1 := hc1.trans (c_window XC i 1 (j := f + n2 + 1) (by omega) _ _ _ hL1 rfl)
  subst hc1
  iapply (bind_spec c 𝒱 bd E (accPair_spec c 𝒱 bd E arg8 arg13 arg11 (k0_off125 i v) (k0_off125_inb i v hw h2) (k0_off126 i v) (k0_off126_inb i v hw h2)
    onesRows _ _ _ _ _ _ XV (hst XC XQ XK XV i f 0 (n2 + 1)) (hst XC XQ XK XV i f 1 (n2 + 1)) (scAt XK XQ 0 (f + (n2 + 1))) (scAt XK XQ 1 (f + (n2 + 1))) _ _
    (val_window XV 0 (j := f + n2 + 1) (by omega) _ _ hL1 rfl) (val_window XV 1 (j := f + n2 + 1) (by omega) _ _ hL1 rfl) rfl rfl rfl rfl)) $$ [HV HS HA]
  · isplitl [HV]; iexact HV; isplitl [HS]; iexact HS; iexact HA
  iintro %m ⟨%hm, HV, HS, HA⟩
  rw [Nat.add_assoc f n2 1, ← hst_succ, ← hst_succ, ← hst_e, ← hst_e] at hm
  rw [Nat.add_assoc f n2 1, ← hst_succ, ← hst_succ, ← hst_e, ← hst_e]
  subst hm
  have hd0 : d.1 = colMax (causal (scAt XK XQ 0 (i 2).val)) := by rw [hd]; dsimp only; unfold scAt; rfl
  have hd1 : d.2 = colMax (causal (scAt XK XQ 1 (i 2).val)) := by rw [hd]; dsimp only; unfold scAt; rfl
  iapply (bind_spec c 𝒱 bd E (accPair_spec c 𝒱 bd E arg8 arg12 arg11 (k0_off127 i) (k0_off127_inb i) (k0_off128 i) (k0_off128_inb i)
    onesRows _ _ _ _ _ _ XV (beforeDiag XC XQ XK XV i f 0) (beforeDiag XC XQ XK XV i f 1) (causal (scAt XK XQ 0 (i 2).val)) (causal (scAt XK XQ 1 (i 2).val)) _ _
    (val_window XV 0 hp _ _ hip rfl) (val_window XV 1 hp _ _ hip rfl) rfl rfl hd0 hd1)) $$ [HV HD HA]
  · isplitl [HV]; iexact HV; isplitl [HD]; iexact HD; iexact HA
  iintro %m' ⟨%_hm', HV, HD, HA⟩
  iapply (wand_spec c 𝒱 bd E (ending_spec c 𝒱 bd E arg4 arg7 arg6 arg12 arg14 arg11 arg9 arg10 (k0_off129 i) (k0_off129_inb i) (k0_chk2 i v) (k0_chk2.dec i v)
    k0_off130 k0_off131 (fun w h => k0_off130_inb i v w h h2) (fun w h => k0_off131_inb i v w h h2) h0 h1 XF XK XN XG _ _
    (firstAt XF i ((i 2).val + 1)) (fun hp => first_window XF i ((i 2).val + 1) _ _ hp (nextWord i) tn rfl) hf' hl
    ⟨fun _ => dvd_512 _, fun _ => key_ok _ hf' hl 0 (by decide), fun _ => key_ok _ hf' hl 256 (by decide)⟩ rfl rfl)) $$ [HF HK HN HD HM HA HG HR]
  · isplitl [HF]; iexact HF
    isplitl [HK]; iexact HK
    isplitl [HN]; iexact HN
    isplitl [HD]; iapply (heldS_some c arg12) $$ HD
    isplitl [HM]; iexact HM
    isplitl [HA]; iexact HA
    isplitl [HG]; iexact HG
    iexact HR
  iintro %u ⟨HF, HK, HN, HD, HM, HA, HG, HR⟩
  unfold rowDone inputs others carried
  isplitl [HC HQ HK HV]
  · isplitl [HC]; iexact HC; isplitl [HQ]; iexact HQ; isplitl [HK]; iexact HK; iexact HV
  isplitl [HF HN HG]
  · isplitl [HF]; iexact HF; isplitl [HN]; iexact HN; iexact HG
  isplitl [HD HM]
  · isplitl [HD]; iexact HD; iexact HM
  isplitl [HA]; iapply (heldA_some c arg11) $$ HA
  isplitl [HS]; iapply (heldS_some c arg13) $$ HS
  iexact HR

theorem oneLeft_spec (h3 : k0_cond3 i v = 1#1) {f f' : Nat} (hv : v.toNat = f) (hf : f ≤ (i 2).val)
    (hf' : (firstAt XF i ((i 2).val + 1)).toNat = f') (hl : f' < 33)
    (x : FVec F S1x512 .f32 × FVec F S1x512 .f32 × FVec F S1x512 .f32 × FVec F S1x512 .f32) :
    (iprop(inv c arg3 arg5 arg7 arg8 arg11 XC XQ XK XV i f arg12 arg13 (2 * (((i 2).val - f - 1) / 2)) x
        ∗ others c arg4 arg6 arg9 XF XN XG ∗ someS c arg14 ∗ someS c arg10) : sProp 𝕄G)
      ⊢ wp frame (wpE (defs₀ (F := F)) 𝒱 (c : Thread nD τ) bd) E (oneLeft i v hw arg3 arg4 arg5 arg6 arg7 arg8 arg9 arg10 arg11 arg12 arg13 arg14 h0 h1 h3 (cAt XC i 0 (i 2).val) (cAt XC i 1 (i 2).val) onesRows x) (fun _ =>
          rowDone c arg3 arg4 arg5 arg6 arg7 arg8 arg9 arg10 arg11 arg12 arg13 arg14 XC XF XQ XN XK XV XG i f f') := by
  obtain ⟨tp, tm, tc1, tc2, tc3, tn, ts⟩ := tailOk i hv hf
  have hp : (i 2).val < 33 := (i 2).isLt
  have hN := tc3.1 h3
  generalize hn : 2 * (((i 2).val - f - 1) / 2) = n2 at *
  have hip : (BitVec.ofNat 32 (i 2).val).toNat = (i 2).val := by rw [BitVec.toNat_ofNat]; exact Nat.mod_eq_of_lt (by omega)
  have hj : f + n2 < 33 := by omega
  have hst_e : ∀ h, (hst XC XQ XK XV i f h n2).step onesRows (valAt XV h (f + n2)) (scAt XK XQ h (f + n2))
      (Scalar.select (Scalar.cmpi .slt (leftWord i v) (BitVec.ofNat 32 (i 2).val)) (Scalar.subf (cAt XC i h (i 2).val) (cAt XC i h (f + n2))) (Named.named κ "fake" 0xF1C9F2CA#32))
      = beforeDiag XC XQ XK XV i f h := by
    intro h
    unfold beforeDiag
    by_cases hlt : f < (i 2).val
    · rw [if_pos hlt, select_true (ts.2 hlt), ← hst_succ]
      congr 1; omega
    · rw [if_neg hlt, select_false (fun e => hlt (ts.1 e))]
      have : n2 = 0 := by omega
      subst this
      rfl
  unfold oneLeft
  unfold inv inputs others
  iintro ⟨⟨%hx, ⟨HC, HQ, HK, HV⟩, HA, HS, HD⟩, ⟨HF, HN, HG⟩, HM, HR⟩
  subst hx
  iapply (bind_spec c 𝒱 bd E (maskedPair_spec c 𝒱 bd E arg7 arg5 arg13 (k0_off132 i) (k0_off132_inb i) (k0_off133 i) (k0_off133_inb i) XK XQ _ _
    (key_window XK 0 hp _ _ hip rfl) (key_window XK 1 hp _ _ hip rfl))) $$ [HK HQ HD]
  · isplitl [HK]; iexact HK; isplitl [HQ]; iexact HQ; iexact HD
  iintro %d ⟨%hd, HK, HQ, HD⟩
  iapply (bind_spec c 𝒱 bd E (smem_spec c 𝒱 bd E arg3 _ S1.size (k0_off134_inb i v hw h3 0) numel1_S1 rfl XC)) $$ [HC]
  · iexact HC
  iintro %c0 ⟨%hc0, HC⟩
  replace hc0 := hc0.trans (c_window XC i 0 (j := f + n2) hj _ _ _ tm rfl)
  subst hc0
  iapply (bind_spec c 𝒱 bd E (smem_spec c 𝒱 bd E arg3 _ S1.size (k0_off134_inb i v hw h3 1) numel1_S1 rfl XC)) $$ [HC]
  · iexact HC
  iintro %c1 ⟨%hc1, HC⟩
  replace hc1 := hc1.trans (c_window XC i 1 (j := f + n2) hj _ _ _ tm rfl)
  subst hc1
  iapply (bind_spec c 𝒱 bd E (accPair_spec c 𝒱 bd E arg8 arg12 arg11 (k0_off135 i v) (k0_off135_inb i v hw h3) (k0_off136 i v) (k0_off136_inb i v hw h3)
    onesRows _ _ _ _ _ _ XV (hst XC XQ XK XV i f 0 n2) (hst XC XQ XK XV i f 1 n2) (scAt XK XQ 0 (f + n2)) (scAt XK XQ 1 (f + n2)) _ _
    (val_window XV 0 (j := f + n2) hj _ _ tm rfl) (val_window XV 1 (j := f + n2) hj _ _ tm rfl) rfl rfl rfl rfl)) $$ [HV HS HA]
  · isplitl [HV]; iexact HV; isplitl [HS]; iexact HS; iexact HA
  iintro %m ⟨%hm, HV, HS, HA⟩
  rw [hst_e, hst_e] at hm
  rw [hst_e, hst_e]
  subst hm
  have hd0 : d.1 = colMax (causal (scAt XK XQ 0 (i 2).val)) := by rw [hd]; dsimp only; unfold scAt; rfl
  have hd1 : d.2 = colMax (causal (scAt XK XQ 1 (i 2).val)) := by rw [hd]; dsimp only; unfold scAt; rfl
  iapply (bind_spec c 𝒱 bd E (accPair_spec c 𝒱 bd E arg8 arg13 arg11 (k0_off137 i) (k0_off137_inb i) (k0_off138 i) (k0_off138_inb i)
    onesRows _ _ _ _ _ _ XV (beforeDiag XC XQ XK XV i f 0) (beforeDiag XC XQ XK XV i f 1) (causal (scAt XK XQ 0 (i 2).val)) (causal (scAt XK XQ 1 (i 2).val)) _ _
    (val_window XV 0 hp _ _ hip rfl) (val_window XV 1 hp _ _ hip rfl) rfl rfl hd0 hd1)) $$ [HV HD HA]
  · isplitl [HV]; iexact HV; isplitl [HD]; iexact HD; iexact HA
  iintro %m' ⟨%_hm', HV, HD, HA⟩
  iapply (wand_spec c 𝒱 bd E (ending_spec c 𝒱 bd E arg4 arg7 arg6 arg12 arg14 arg11 arg9 arg10 (k0_off139 i) (k0_off139_inb i) (k0_chk3 i v) (k0_chk3.dec i v)
    k0_off140 k0_off141 (fun w h => k0_off140_inb i v w h h3) (fun w h => k0_off141_inb i v w h h3) h0 h1 XF XK XN XG _ _
    (firstAt XF i ((i 2).val + 1)) (fun hp => first_window XF i ((i 2).val + 1) _ _ hp (nextWord i) tn rfl) hf' hl
    ⟨fun _ => dvd_512 _, fun _ => key_ok _ hf' hl 0 (by decide), fun _ => key_ok _ hf' hl 256 (by decide)⟩ rfl rfl)) $$ [HF HK HN HS HM HA HG HR]
  · isplitl [HF]; iexact HF
    isplitl [HK]; iexact HK
    isplitl [HN]; iexact HN
    isplitl [HS]; iapply (heldS_some c arg12) $$ HS
    isplitl [HM]; iexact HM
    isplitl [HA]; iexact HA
    isplitl [HG]; iexact HG
    iexact HR
  iintro %u ⟨HF, HK, HN, HS, HM, HA, HG, HR⟩
  unfold rowDone inputs others carried
  isplitl [HC HQ HK HV]
  · isplitl [HC]; iexact HC; isplitl [HQ]; iexact HQ; isplitl [HK]; iexact HK; iexact HV
  isplitl [HF HN HG]
  · isplitl [HF]; iexact HF; isplitl [HN]; iexact HN; iexact HG
  isplitl [HS HM]
  · isplitl [HS]; iexact HS; iexact HM
  isplitl [HA]; iapply (heldA_some c arg11) $$ HA
  isplitl [HD]; iapply (heldS_some c arg13) $$ HD
  iexact HR

end

end Cert.KernelIdeal
-- ==== Proof.Parts.lean ====
module

public import proofs.«01_k».proof.Proof.Rows

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

/-! ## The kernel's program on the rows' steps -/

section
variable (i : grid0.Coords) (arg3 : Memref sig .tc .smem S1056 .f32) (harg3 : arg3.IsWhole) (arg4 : Memref sig .tc .smem S264 .i32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x16896x512 .bf16) (harg7 : arg7.IsWhole) (arg8 : Memref sig .tc .vmem S1x256x16896 .bf16) (harg8 : arg8.IsWhole) (arg9 : Memref sig .tc .vmem S2x1x128 .f32) (harg9 : arg9.IsWhole) (arg10 : Memref sig .tc .vmem S1x512x256 .bf16) (harg10 : arg10.IsWhole) (arg11 : Memref sig .tc .vmem S2x144x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole)

/-- What the kernel does after its loops. -/
def lastTiles (cq0 cq1 : F .f32) (v : BitVec 32) (hw : k0_chk1 i v) (ones : FVec F S16x512 .bf16)
    (x : FVec F S1x512 .f32 × FVec F S1x512 .f32 × FVec F S1x512 .f32 × FVec F S1x512 .f32) : Prog (TpuEff nD τ sig (Elt F) Λ₀ .tc) PUnit := do
  if h2 : k0_cond2 i v = 1#1 then
    twoLeft i v hw arg3 arg4 arg5 arg6 arg7 arg8 arg9 arg10 arg11 arg12 arg13 arg14 (View.stores_vmem h_S1x512x128 (harg10.storeExact_slice rfl _ packedbf16_S1x512x256_S1x512x128_0_0_0) (fun _ => rfl))
      (View.stores_vmem h_S1x512x128 (harg10.storeExact_slice rfl _ packedbf16_S1x512x256_S1x512x128_0_0_128) (fun _ => rfl)) h2 cq0 cq1 ones x
  else pure ⟨⟩
  if h3 : k0_cond3 i v = 1#1 then
    oneLeft i v hw arg3 arg4 arg5 arg6 arg7 arg8 arg9 arg10 arg11 arg12 arg13 arg14 (View.stores_vmem h_S1x512x128 (harg10.storeExact_slice rfl _ packedbf16_S1x512x256_S1x512x128_0_0_0) (fun _ => rfl))
      (View.stores_vmem h_S1x512x128 (harg10.storeExact_slice rfl _ packedbf16_S1x512x256_S1x512x128_0_0_128) (fun _ => rfl)) h3 cq0 cq1 ones x
  else pure ⟨⟩

set_option maxHeartbeats 4000000 in
/-- The kernel is its first statements, its loops, and its last tiles, on the values the former return. -/
theorem flash_split : ∃ T : (arg2 : BitVec 32) → (v4 : BitVec 32) → (v9 : BitVec 32) → (v13 : Elt F .f32) → (v17 : Elt F .f32) → (v20 : BitVec 32) → (v23 : Elt F .i32) → (k0_hw1 : k0_chk1 i v23) → (v24 : BitVec 32) → (v27 : BitVec 32) → (v28 : IVec S512x512 32) → (v29 : IVec S512x512 32) → (v30 : FVec F S16x512 .bf16) → (v62 : BitVec 32) → (v153_0 : FVec F S1x512 .f32) → (v153_1 : FVec F S1x512 .f32) → (v153_2 : FVec F S1x512 .f32) → (v153_3 : FVec F S1x512 .f32) → (v154 : BitVec 32) → Prog (TpuEff nD τ sig (Elt F) Λ₀ .tc) PUnit,
    (∀ (v13 v17 : F .f32) (v23 : BitVec 32) (hw : k0_chk1 i v23) (v4 v9 v20 v24 v27 v62 : BitVec 32) (x0 x1 x2 x3 : FVec F S1x512 .f32) (_hx : ¬ (k0_cond2 i v23 = 1#1 ∧ k0_cond3 i v23 = 1#1)),
      T (BitVec.ofNat 32 (i 2).val) v4 v9 v13 v17 v20 v23 hw v24 v27
        (iota .tc S512x512 32 [0] iota_S512x512_d0_w32) (iota .tc S512x512 32 [1] iota_S512x512_d1_w32) onesRows v62 x0 x1 x2 x3 (Scalar.muli 2#32 (pairsWord i v23))
      = lastTiles i arg3 arg4 arg5 arg6 arg7 arg8 arg9 arg10 harg10 arg11 arg12 arg13 arg14 v13 v17 v23 hw onesRows (x0, x1, x2, x3))
    ∧ cc0_flash (F := F) i arg3 harg3 arg4 harg4 arg5 harg5 arg6 harg6 arg7 harg7 arg8 harg8 arg9 harg9 arg10 harg10 arg11 harg11 arg12 harg12 arg13 harg13 arg14 harg14 = (do
      let ⟨arg2, v4, v9, v13, v17, v20, v23, k0_hw1, v24, v27, v28, v29, v30, c0_i32_11⟩ : Σ' (arg2 : BitVec 32) (v4 : BitVec 32) (v9 : BitVec 32) (v13 : Elt F .f32) (v17 : Elt F .f32) (v20 : BitVec 32) (v23 : Elt F .i32) (k0_hw1 : k0_chk1 i v23) (v24 : BitVec 32) (v27 : BitVec 32) (v28 : IVec S512x512 32) (v29 : IVec S512x512 32) (v30 : FVec F S16x512 .bf16), BitVec 32 ← k0_part82 i arg3 harg3 arg4 harg4 arg5 harg5 arg6 harg6 arg7 harg7 arg8 harg8 arg9 harg9 arg10 harg10 arg11 harg11 arg12 harg12 arg13 harg13 arg14 harg14
      let ⟨v39, v41, v42, v43, v62, c4_i32_29, v63, v68, v70, c0_i32_33⟩ : Σ' (v39 : FVec F S1x512 .f32) (v41 : FVec F S1x512 .f32) (v42 : FVec F S1x512 .f32) (v43 : FVec F S1x512 .f32) (v62 : BitVec 32) (c4_i32_29 : BitVec 32) (v63 : BitVec 32) (v68 : BitVec 32) (v70 : BitVec 32), BitVec 32 ← k0_part83 i arg3 harg3 arg4 harg4 arg5 harg5 arg6 harg6 arg7 harg7 arg8 harg8 arg9 harg9 arg10 harg10 arg11 harg11 arg12 harg12 arg13 harg13 arg14 harg14 arg2 v23 k0_hw1 v24 c0_i32_11
      let ⟨v86_0, v86_1, v86_2, v86_3, v104, c2_i32_48, v105, v110, v112⟩ : Σ' (v86_0 : FVec F S1x512 .f32) (v86_1 : FVec F S1x512 .f32) (v86_2 : FVec F S1x512 .f32) (v86_3 : FVec F S1x512 .f32) (v104 : BitVec 32) (c2_i32_48 : BitVec 32) (v105 : BitVec 32) (v110 : BitVec 32), BitVec 32 ← k0_part84 i arg3 harg3 arg4 harg4 arg5 harg5 arg6 harg6 arg7 harg7 arg8 harg8 arg9 harg9 arg10 harg10 arg11 harg11 arg12 harg12 arg13 harg13 arg14 harg14 v4 v9 v13 v17 v23 k0_hw1 v30 v39 v41 v42 v43 v62 c4_i32_29 v63 v68 v70 c0_i32_33
      let ⟨v153_0, v153_1, v153_2, v153_3, v154⟩ : Σ' (v153_0 : FVec F S1x512 .f32) (v153_1 : FVec F S1x512 .f32) (v153_2 : FVec F S1x512 .f32) (v153_3 : FVec F S1x512 .f32), BitVec 32 ← k0_part85 i arg3 harg3 arg4 harg4 arg5 harg5 arg6 harg6 arg7 harg7 arg8 harg8 arg9 harg9 arg10 harg10 arg11 harg11 arg12 harg12 arg13 harg13 arg14 harg14 v4 v9 v13 v17 v23 k0_hw1 v30 v62 v86_0 v86_1 v86_2 v86_3 v104 c2_i32_48 v105 v110 v112
      T arg2 v4 v9 v13 v17 v20 v23 k0_hw1 v24 v27 v28 v29 v30 v62 v153_0 v153_1 v153_2 v153_3 v154) := by
  refine ⟨?T, ?_, ?_⟩
  rotate_left 2
  · unfold cc0_flash
    refine congrArg (k0_part82 i arg3 harg3 arg4 harg4 arg5 harg5 arg6 harg6 arg7 harg7 arg8 harg8 arg9 harg9 arg10 harg10 arg11 harg11 arg12 harg12 arg13 harg13 arg14 harg14 >>= ·) (funext fun y => ?_)
    obtain ⟨arg2, v4, v9, v13, v17, v20, v23, k0_hw1, v24, v27, v28, v29, v30, c0_i32_11⟩ := y
    dsimp only
    refine congrArg (_ >>= ·) (funext fun y => ?_)
    obtain ⟨v39, v41, v42, v43, v62, c4_i32_29, v63, v68, v70, c0_i32_33⟩ := y
    dsimp only
    refine congrArg (_ >>= ·) (funext fun y => ?_)
    obtain ⟨v86_0, v86_1, v86_2, v86_3, v104, c2_i32_48, v105, v110, v112⟩ := y
    dsimp only
    refine congrArg (_ >>= ·) (funext fun y => ?_)
    obtain ⟨v153_0, v153_1, v153_2, v153_3, v154⟩ := y
    dsimp only
    exact rfl
  intro v13 v17 v23 hw v4 v9 v20 v24 v27 v62 x0 x1 x2 x3 hx
  unfold lastTiles
  by_cases h2 : k0_cond2 i v23 = 1#1 <;> by_cases h3 : k0_cond3 i v23 = 1#1
  · exact absurd ⟨h2, h3⟩ hx
  · simp only [dif_pos h2, dif_neg h3]
    unfold twoLeft k0_part68 k0_part69 k0_part70 k0_part71 k0_part72 k0_part73 k0_part74 k0_part75
    simp (maxSteps := 4000000) only [tileStep, scorePair, maskedPair, maskedHead, accPair, scoreHead, accHead, ending, storeMaxes, finHead, bind_assoc, pure_bind, bind_pure]
    rfl
  · simp only [dif_neg h2, dif_pos h3]
    unfold oneLeft k0_part76 k0_part77 k0_part78 k0_part79 k0_part80 k0_part81
    simp (maxSteps := 4000000) only [tileStep, scorePair, maskedPair, maskedHead, accPair, scoreHead, accHead, ending, storeMaxes, finHead, bind_assoc, pure_bind, bind_pure]
    rfl
  · simp only [dif_neg h2, dif_neg h3, bind_assoc, pure_bind, bind_pure]

/-- The accumulator cleared. -/
def clearA : Prog (TpuEff nD τ sig (Elt F) Λ₀ .tc) PUnit := do
  let _old : Vec F S2x144x512 .f32 ← Prog.lift (.load arg11 (Rect.unit (s := S2x144x512) ![0, 0, 0] S2x144x512.size inb_S2x144x512_S2x144x512_0_0_0).toLoadRect (View.loadsAt_vmem h_S2x144x512))
  Prog.lift (.store arg11 (Rect.unit (s := S2x144x512) ![0, 0, 0] S2x144x512.size inb_S2x144x512_S2x144x512_0_0_0) (shapeCast S2x144x512 (broadcast S2x144x512 (Scalar.ofBits .f32 0x00000000#32)) shapeCasts_S2x144x512_S2x144x512) Finset.univ (View.stores_vmem_bits_univ h_S2x144x512 rfl) (.inl rfl))

set_option maxHeartbeats 1000000 in
/-- The kernel's first statements. -/
theorem part82_eq : ∃ (v4 v9 v20 : BitVec 32) (v27 : BitVec 32 → BitVec 32), k0_part82 (F := F) i arg3 harg3 arg4 harg4 arg5 harg5 arg6 harg6 arg7 harg7 arg8 harg8 arg9 harg9 arg10 harg10 arg11 harg11 arg12 harg12 arg13 harg13 arg14 harg14 = (do
    let c0 : Elt F .f32 ← smemLoad arg3 (Rect.unit (s := S1056) (k0_off1 i 0#32) S1.size (k0_off1_inb i 0)) numel1_S1 rfl
    let c1 : Elt F .f32 ← smemLoad arg3 (Rect.unit (s := S1056) (k0_off1 i 1#32) S1.size (k0_off1_inb i 1)) numel1_S1 rfl
    let w : Elt F .i32 ← smemLoad arg4 (Rect.unit (s := S264) (k0_off2 i) S1.size (k0_off2_inb i)) numel1_S1 rfl
    let h ← Prog.lift (TpuEff.assume (k0_chk1 i w) (k0_chk1.dec i w))
    clearA arg11
    pure ⟨BitVec.ofNat 32 (i 2).val, v4, v9, c0, c1, v20, w, h.down, Scalar.subi (BitVec.ofNat 32 (i 2).val) w, v27 w,
      iota .tc S512x512 32 [0] iota_S512x512_d0_w32, iota .tc S512x512 32 [1] iota_S512x512_d1_w32, onesRows, 0#32⟩) := by
  refine ⟨Scalar.addi (Scalar.addi (Scalar.muli (Scalar.muli (BitVec.ofNat 32 (i 0).val) 33#32) 16#32) (Scalar.muli (BitVec.ofNat 32 (i 1).val) 2#32)) 0#32,
    Scalar.addi (Scalar.addi (Scalar.muli (Scalar.muli (BitVec.ofNat 32 (i 0).val) 33#32) 16#32) (Scalar.muli (BitVec.ofNat 32 (i 1).val) 2#32)) 1#32,
    Scalar.muli (Scalar.addi (Scalar.muli (BitVec.ofNat 32 (i 0).val) 4#32) (BitVec.ofNat 32 (i 1).val)) 33#32, lastWord i, ?_⟩
  unfold k0_part82 clearA
  simp (maxSteps := 4000000) only [bind_assoc, pure_bind, bind_pure]
  rfl

/-- The first tile's scores and maxima, where no row before has left them. -/
def firstScores (w : BitVec 32) (hw : k0_chk1 i w) : Prog (TpuEff nD τ sig (Elt F) Λ₀ .tc) PUnit :=
  if h1 : k0_cond1 i = 1#1 then do
    let b ← scorePair arg7 arg5 arg12 (k0_off3 w) (k0_off3_inb i w hw h1) (k0_off4 w) (k0_off4_inb i w hw h1)
    storeMaxes arg14 b
  else pure ⟨⟩

set_option maxHeartbeats 1000000 in
/-- The statements up to the loops. -/
theorem part83_eq (v23 : BitVec 32) (hw : k0_chk1 i v23) : ∃ a b d e g : BitVec 32,
    k0_part83 (F := F) i arg3 harg3 arg4 harg4 arg5 harg5 arg6 harg6 arg7 harg7 arg8 harg8 arg9 harg9 arg10 harg10 arg11 harg11 arg12 harg12 arg13 harg13 arg14 harg14 (BitVec.ofNat 32 (i 2).val) v23 hw (Scalar.subi (BitVec.ofNat 32 (i 2).val) v23) 0#32 = (do
    let _u : PUnit ← firstScores i arg5 arg7 arg12 arg14 v23 hw
    let m ← loadMaxes arg14
    pure ⟨m.1, m.2, (HSt.init (F := F)).m, (HSt.init (F := F)).m, pairsWord i v23, a, b, d, e, g⟩) := by
  refine ⟨4#32, Scalar.divsi (pairsWord i v23) 4#32,
    Scalar.subi (Scalar.extui (Scalar.cmpi .sgt (pairsWord i v23) 0#32)) (Scalar.extui (Scalar.cmpi .slt (pairsWord i v23) 0#32)),
    Scalar.extui (Scalar.cmpi .sgt 4#32 0#32), 0#32, ?_⟩
  unfold k0_part83 loadMaxes firstScores
  by_cases h1 : k0_cond1 i = 1#1
  · simp only [dif_pos h1]
    unfold k0_part1
    simp (maxSteps := 4000000) only [scorePair, scoreHead, storeMaxes, bind_assoc, pure_bind, bind_pure]
    rfl
  · simp (maxSteps := 4000000) only [dif_neg h1, bind_assoc, pure_bind, bind_pure]
    rfl

end

end Cert.KernelIdeal
-- ==== Proof.Flash.lean ====
module

public import proofs.«01_k».proof.Proof.Tails
public import proofs.«01_k».proof.Proof.Parts

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## The kernel's triple -/

section
variable (i : grid0.Coords) (arg3 : Memref sig .tc .smem S1056 .f32) (harg3 : arg3.IsWhole) (arg4 : Memref sig .tc .smem S264 .i32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x16896x512 .bf16) (harg7 : arg7.IsWhole) (arg8 : Memref sig .tc .vmem S1x256x16896 .bf16) (harg8 : arg8.IsWhole) (arg9 : Memref sig .tc .vmem S2x1x128 .f32) (harg9 : arg9.IsWhole) (arg10 : Memref sig .tc .vmem S1x512x256 .bf16) (harg10 : arg10.IsWhole) (arg11 : Memref sig .tc .vmem S2x144x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole)
  (c : Dev nD) (𝒱 : Variants) (bd : Option 𝒱.V) (E : Set ℕ)
  (XC : Vec F S1056 .f32) (XF : Vec F S264 .i32) (XQ XN : Vec F S1x512x512 .bf16) (XK : Vec F S1x16896x512 .bf16) (XV : Vec F S1x256x16896 .bf16)
  (XG : Vec F S2x1x128 .f32)

theorem clearA_spec : (someS c arg11 : sProp 𝕄G) ⊢ wp frame (wpE (defs₀ (F := F)) 𝒱 (c : Thread nD τ) bd) E (clearA (F := F) arg11) (fun _ => heldA c arg11 HSt.init.a HSt.init.a) := by
  unfold someS ownsTc owns
  iintro ⟨%X, %f, %hf, H⟩
  unfold clearA
  sl_exec
  sl_step
  unfold heldA slots ownsTc owns
  iexists (fun _ => Scalar.ofBits .f32 0x00000000#32)
  isplitr
  · ipureintro; exact ⟨rfl, rfl⟩
  · iexists _
    isplitr [H]
    rotate_left
    · iexact H
    · ipureintro
      refine (View.read_writes_full _ f _ _ _).trans ?_
      funext y; rfl

/-- What a row starts from: nothing of a block's first row, and the scores left by the row before of another. -/
def rowBegin (f : Nat) : sProp 𝕄G :=
  if (i 2).val = 0 then iprop(someS c arg12 ∗ someS c arg14) else carried c arg12 arg14 XK XQ f

theorem firstScores_spec (f : Nat) (h : f ≤ (i 2).val) (w : BitVec 32) (hw : k0_chk1 i w) (hv : w.toNat = f) :
    (iprop(rowBegin i arg12 arg14 c XQ XK f ∗ ownsTc c arg7 fullShare XK ∗ ownsTc c arg5 fullShare XQ) : sProp 𝕄G)
      ⊢ wp frame (wpE (defs₀ (F := F)) 𝒱 (c : Thread nD τ) bd) E (firstScores (F := F) i arg5 arg7 arg12 arg14 w hw) (fun _ =>
          iprop(carried c arg12 arg14 XK XQ f ∗ ownsTc c arg7 fullShare XK ∗ ownsTc c arg5 fullShare XQ)) := by
  obtain ⟨tp, tm, tc1, tc2, tc3, tn, ts⟩ := tailOk i hv h
  have hp : (i 2).val < 33 := (i 2).isLt
  have hl : f < 33 := by omega
  unfold firstScores
  by_cases h1 : k0_cond1 i = 1#1
  · rw [dif_pos h1]
    unfold rowBegin
    rw [if_pos (tc1.1 h1)]
    iintro ⟨⟨HS, HM⟩, HK, HQ⟩
    iapply (bind_spec c 𝒱 bd E (scorePair_spec c 𝒱 bd E arg7 arg5 arg12 (k0_off3 w) (k0_off3_inb i w hw h1) (k0_off4 w) (k0_off4_inb i w hw h1) XK XQ _ _
      (key_window XK 0 hl _ _ hv rfl) (key_window XK 1 hl _ _ hv rfl))) $$ [HK HQ HS]
    · isplitl [HK]; iexact HK; isplitl [HQ]; iexact HQ; iexact HS
    iintro %b ⟨%hb, HK, HQ, HS⟩
    have hb0 : b.1 = colMax (scAt XK XQ 0 f) := by rw [hb]; dsimp only; unfold scAt; rfl
    have hb1 : b.2 = colMax (scAt XK XQ 1 f) := by rw [hb]; dsimp only; unfold scAt; rfl
    unfold carried
    rw [← hb0, ← hb1]
    iapply (wand_spec c 𝒱 bd E (storeMaxes_spec c 𝒱 bd E arg14 b)) $$ [HM]
    · iexact HM
    iintro %u HM
    isplitl [HS HM]
    · isplitl [HS]; iexact HS; iexact HM
    isplitl [HK]; iexact HK
    iexact HQ
  · rw [dif_neg h1]
    unfold rowBegin
    rw [if_neg (fun e => h1 (tc1.2 e))]
    iintro ⟨HB, HK, HQ⟩
    sl_step
    isplitl [HB]; iexact HB
    isplitl [HK]; iexact HK
    iexact HQ

theorem lastTiles_spec (v : BitVec 32) (hw : k0_chk1 i v) {f f' : Nat} (hv : v.toNat = f) (hf : f ≤ (i 2).val)
    (hf' : (firstAt XF i ((i 2).val + 1)).toNat = f') (hl : f' < 33)
    (x : FVec F S1x512 .f32 × FVec F S1x512 .f32 × FVec F S1x512 .f32 × FVec F S1x512 .f32) :
    (iprop(inv c arg3 arg5 arg7 arg8 arg11 XC XQ XK XV i f arg12 arg13 (2 * (((i 2).val - f - 1) / 2)) x
        ∗ others c arg4 arg6 arg9 XF XN XG ∗ someS c arg14 ∗ someS c arg10) : sProp 𝕄G)
      ⊢ wp frame (wpE (defs₀ (F := F)) 𝒱 (c : Thread nD τ) bd) E (lastTiles i arg3 arg4 arg5 arg6 arg7 arg8 arg9 arg10 harg10 arg11 arg12 arg13 arg14 (cAt XC i 0 (i 2).val) (cAt XC i 1 (i 2).val) v hw onesRows x) (fun _ =>
          rowDone c arg3 arg4 arg5 arg6 arg7 arg8 arg9 arg10 arg11 arg12 arg13 arg14 XC XF XQ XN XK XV XG i f f') := by
  obtain ⟨tp, tm, tc1, tc2, tc3, tn, ts⟩ := tailOk i hv hf
  unfold lastTiles
  by_cases h2 : k0_cond2 i v = 1#1
  · have h3 : ¬ k0_cond3 i v = 1#1 := fun h3 => by have := tc2.1 h2; have := tc3.1 h3; omega
    rw [dif_pos h2, dif_neg h3]
    iintro H
    iapply (bind_spec c 𝒱 bd E (twoLeft_spec c 𝒱 bd E i v hw arg3 arg4 arg5 arg6 arg7 arg8 arg9 arg10 arg11 arg12 arg13 arg14 _ _ XC XF XQ XN XK XV XG h2 hv hf hf' hl x)) $$ [H]
    · iexact H
    iintro %u H
    sl_step
    iexact H
  · have h3 : k0_cond3 i v = 1#1 := tc3.2 (by
      have : ¬ (i 2).val - f - 2 * (((i 2).val - f - 1) / 2) = 2 := fun e => h2 (tc2.2 e)
      omega)
    rw [dif_neg h2, dif_pos h3]
    exact oneLeft_spec c 𝒱 bd E i v hw arg3 arg4 arg5 arg6 arg7 arg8 arg9 arg10 arg11 arg12 arg13 arg14 _ _ XC XF XQ XN XK XV XG h3 hv hf hf' hl x

theorem heldM_some (m0 m1 : FVec F S1x512 .f32) : (heldM c arg14 m0 m1 : sProp 𝕄G) ⊢ someS c arg14 := by
  unfold heldM slots someS
  iintro ⟨%X, %_h, H⟩
  iexists X; iexact H

theorem flash_spec {f f' : Nat} (hv : (firstAt XF i (i 2).val).toNat = f) (hf : f ≤ (i 2).val)
    (hf' : (firstAt XF i ((i 2).val + 1)).toNat = f') (hl : f' < 33) :
    (iprop(inputs c arg3 arg5 arg7 arg8 XC XQ XK XV ∗ others c arg4 arg6 arg9 XF XN XG ∗ rowBegin i arg12 arg14 c XQ XK f
        ∗ someS c arg11 ∗ someS c arg13 ∗ someS c arg10) : sProp 𝕄G)
      ⊢ wp frame (wpE (defs₀ (F := F)) 𝒱 (c : Thread nD τ) bd) E (cc0_flash (F := F) i arg3 harg3 arg4 harg4 arg5 harg5 arg6 harg6 arg7 harg7 arg8 harg8 arg9 harg9 arg10 harg10 arg11 harg11 arg12 harg12 arg13 harg13 arg14 harg14) (fun _ => rowDone c arg3 arg4 arg5 arg6 arg7 arg8 arg9 arg10 arg11 arg12 arg13 arg14 XC XF XQ XN XK XV XG i f f') := by
  obtain ⟨T, hT, e⟩ := flash_split (F := F) i arg3 harg3 arg4 harg4 arg5 harg5 arg6 harg6 arg7 harg7 arg8 harg8 arg9 harg9 arg10 harg10 arg11 harg11 arg12 harg12 arg13 harg13 arg14 harg14
  obtain ⟨v4, v9, v20, v27, e82⟩ := part82_eq (F := F) i arg3 harg3 arg4 harg4 arg5 harg5 arg6 harg6 arg7 harg7 arg8 harg8 arg9 harg9 arg10 harg10 arg11 harg11 arg12 harg12 arg13 harg13 arg14 harg14
  obtain ⟨tp, tm, tc1, tc2, tc3, tn, ts⟩ := tailOk i hv hf
  have hp : (i 2).val < 33 := (i 2).isLt
  have hip : (BitVec.ofNat 32 (i 2).val).toNat = (i 2).val := by rw [BitVec.toNat_ofNat]; exact Nat.mod_eq_of_lt (by omega)
  rw [e, e82]
  simp only [bind_assoc, pure_bind]
  unfold inputs others
  iintro ⟨⟨HC, HQ, HK, HV⟩, ⟨HF, HN, HG⟩, HB, HA, HD, HR⟩
  iapply (bind_spec c 𝒱 bd E (smem_spec c 𝒱 bd E arg3 _ S1.size (k0_off1_inb i 0) numel1_S1 rfl XC)) $$ [HC]
  · iexact HC
  iintro %c0 ⟨%hc0, HC⟩
  replace hc0 := hc0.trans (c_window XC i 0 hp _ _ _ hip rfl)
  subst hc0
  iapply (bind_spec c 𝒱 bd E (smem_spec c 𝒱 bd E arg3 _ S1.size (k0_off1_inb i 1) numel1_S1 rfl XC)) $$ [HC]
  · iexact HC
  iintro %c1 ⟨%hc1, HC⟩
  replace hc1 := hc1.trans (c_window XC i 1 hp _ _ _ hip rfl)
  subst hc1
  iapply (bind_spec c 𝒱 bd E (smem_spec c 𝒱 bd E arg4 _ S1.size (k0_off2_inb i) numel1_S1 rfl XF)) $$ [HF]
  · iexact HF
  iintro %w ⟨%hwd, HF⟩
  replace hwd := hwd.trans (first_window XF i (i 2).val _ _ _ (BitVec.ofNat 32 (i 2).val) (by rw [hip]; omega) rfl)
  rw [← hwd] at hv
  clear hwd
  have hw : k0_chk1 i w := chk1_ok i hv hf
  iapply (assume_bind c 𝒱 bd E (k0_chk1.dec i w) hw _ _)
  iapply (bind_spec c 𝒱 bd E (clearA_spec arg11 c 𝒱 bd E)) $$ [HA]
  · iexact HA
  iintro %u HA
  obtain ⟨a, b, d, e', g, e83⟩ := part83_eq (F := F) i arg3 harg3 arg4 harg4 arg5 harg5 arg6 harg6 arg7 harg7 arg8 harg8 arg9 harg9 arg10 harg10 arg11 harg11 arg12 harg12 arg13 harg13 arg14 harg14 w hw
  dsimp only
  rw [e83]
  simp only [bind_assoc, pure_bind]
  iapply (bind_spec c 𝒱 bd E (firstScores_spec i arg5 arg7 arg12 arg14 c 𝒱 bd E XQ XK f hf w hw hv)) $$ [HB HK HQ]
  · isplitl [HB]; iexact HB; isplitl [HK]; iexact HK; iexact HQ
  iintro %u1 ⟨HB, HK, HQ⟩
  unfold carried
  icases HB with ⟨HS, HM⟩
  iapply (bind_spec c 𝒱 bd E (loadMaxes_spec c 𝒱 bd E arg14 _ _)) $$ [HM]
  · iexact HM
  iintro %m ⟨%hm, HM⟩
  dsimp only
  iapply (bind_spec c 𝒱 bd E (part84_inv c 𝒱 bd E XC XQ XK XV i f arg3 harg3 arg4 harg4 arg5 harg5 arg6 harg6 arg7 harg7 arg8 harg8 arg9 harg9 arg10 harg10 arg11 harg11 arg12 harg12 arg13 harg13 arg14 harg14 v4 v9 w hw m.1 m.2 _ _ _ _ _ _ _ _ hv hf)) $$ [HC HQ HK HV HA HS HD]
  · unfold inv inputs
    have z : ∀ h, hst XC XQ XK XV i f h 0 = HSt.init := fun h => by rw [hst]
    have hm0 : m.1 = colMax (scAt XK XQ 0 f) := by rw [hm]
    have hm1 : m.2 = colMax (scAt XK XQ 1 f) := by rw [hm]
    rw [z 0, z 1, Nat.add_zero, hm0, hm1]
    isplitr
    · ipureintro; rfl
    isplitl [HC HQ HK HV]
    · isplitl [HC]; iexact HC; isplitl [HQ]; iexact HQ; isplitl [HK]; iexact HK; iexact HV
    isplitl [HA]; iexact HA
    isplitl [HS]; iexact HS
    iexact HD
  iintro %y HI
  obtain ⟨y0, y1, y2, y3, y4, y5, y6, y7, y8⟩ := y
  dsimp only
  iapply (bind_spec c 𝒱 bd E (part85_inv c 𝒱 bd E XC XQ XK XV i f arg3 harg3 arg4 harg4 arg5 harg5 arg6 harg6 arg7 harg7 arg8 harg8 arg9 harg9 arg10 harg10 arg11 harg11 arg12 harg12 arg13 harg13 arg14 harg14 v4 v9 w hw _ y0 y1 y2 y3 _ _ _ _ _ hv hf)) $$ [HI]
  · iexact HI
  iintro %z ⟨%hz, HI⟩
  obtain ⟨z0, z1, z2, z3, z4⟩ := z
  dsimp only at hz
  subst hz
  dsimp only
  rw [hT (cAt XC i 0 (i 2).val) (cAt XC i 1 (i 2).val) w hw _ _ _ _ _ _ z0 z1 z2 z3 (fun h => by
    obtain ⟨_, _, _, q2, q3, _, _⟩ := tailOk i hv hf
    have := q2.1 h.1; have := q3.1 h.2; omega)]
  iapply (wand_spec c 𝒱 bd E (lastTiles_spec i arg3 arg4 arg5 arg6 arg7 arg8 arg9 arg10 harg10 arg11 arg12 arg13 arg14 c 𝒱 bd E XC XF XQ XN XK XV XG w hw hv hf hf' hl _)) $$ [HI HF HN HG HM HR]
  · isplitl [HI]; iexact HI
    isplitl [HF HN HG]
    · unfold others
      isplitl [HF]; iexact HF; isplitl [HN]; iexact HN; iexact HG
    isplitl [HM]; iapply (heldM_some arg14 c) $$ HM
    iexact HR
  iintro %u2 H
  iexact H

end

end Cert.KernelIdeal
-- ==== Proof.Blocks.lean ====
module

public import proofs.«01_k».proof.Proof.Flash
public import proofs.«01_k».proof.Proof.Gen.KernelIdeal.Points
public import proofs.«01_k».proof.Proof.Gen.KernelIdeal.Frame
public import Idealize.ShloMosaic.Lib.Pipeline.Value

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

/-! ## The grid's points -/

theorem points (t : Fin grid0.N) : t.val < 264 := lt_of_lt_of_eq t.isLt Gen.N_0

theorem coord0 (t : Fin grid0.N) : (grid0.coords t 0).val = t.val / 132 := by
  have h := Pipeline.Grid.coords_val t 0 (S := 132) (B := 2) (by decide) (by decide)
  have := points t
  omega

theorem coord1 (t : Fin grid0.N) : (grid0.coords t 1).val = t.val / 33 % 4 :=
  Pipeline.Grid.coords_val t 1 (S := 33) (B := 4) (by decide) (by decide)

theorem coord2 (t : Fin grid0.N) : (grid0.coords t 2).val = t.val % 33 := by
  have h := Pipeline.Grid.coords_val t 2 (S := 1) (B := 33) (by decide) (by decide)
  omega

/-- Where the next point is the next row of the same batch and heads. -/
theorem next_coords {t t' : Fin grid0.N} (h : t'.val = t.val + 1) (h2 : (grid0.coords t' 2).val ≠ 0) :
    (grid0.coords t' 0).val = (grid0.coords t 0).val ∧ (grid0.coords t' 1).val = (grid0.coords t 1).val
      ∧ (grid0.coords t' 2).val = (grid0.coords t 2).val + 1 := by
  rw [coord2] at h2
  simp only [coord0, coord1, coord2]
  omega

/-! ## The blocks a point reads -/

variable (m : (ℓ : Loc nD τ sig) → Buf (Elt F) ℓ)

theorem ofNat_toNat {n : Nat} (h : n < 264) : (BitVec.ofNat 32 n).toNat = n := by
  rw [BitVec.toNat_ofNat]; exact Nat.mod_eq_of_lt (by omega)

theorem min_word (n : Nat) (h : n < 33) : (Scalar.minsi (Scalar.addi (BitVec.ofNat 32 n) 1#32) 32#32).toNat = min (n + 1) 32 := by
  have all : ∀ k : Fin 33, (Scalar.minsi (Scalar.addi (BitVec.ofNat 32 k.val) 1#32) 32#32).toNat = min (k.val + 1) 32 := by decide +kernel
  exact all ⟨n, h⟩

/-- The tables of numbers and of first tiles are the whole arrays at every point. -/
theorem iblk0 (c : Dev nD) (t : Fin cfg0.N) : Gen.iblk m c 0 t = (m ((c : Thread nD τ).loc main_arg3) : Vec F S1056 .f32) := by
  funext x
  show Gen.V m c main_arg3 ((win0_0.rect t).emb x) = Gen.V m c main_arg3 x
  congr 1
  funext a
  apply Fin.ext
  exact Pipeline.Window.rect_emb_val_of_index_zero win0_0 t a (by fin_cases a; rfl) x

theorem iblk1 (c : Dev nD) (t : Fin cfg0.N) : Gen.iblk m c 1 t = (m ((c : Thread nD τ).loc main_arg4) : Vec F S264 .i32) := by
  funext x
  show Gen.V m c main_arg4 ((win0_1.rect t).emb x) = Gen.V m c main_arg4 x
  congr 1
  funext a
  apply Fin.ext
  exact Pipeline.Window.rect_emb_val_of_index_zero win0_1 t a (by fin_cases a; rfl) x

/-- The queries of the next row are, a point later, the row's own. -/
theorem iblk_next (c : Dev nD) {t t' : Fin cfg0.N} (h : t'.val = t.val + 1) (h2 : (grid0.coords t' 2).val ≠ 0) :
    (Gen.iblk m c 2 t' : Vec F S1x512x512 .bf16) = Gen.iblk m c 3 t := by
  obtain ⟨e0, e1, e2⟩ := next_coords h h2
  have hl : (grid0.coords t' 2).val < 33 := (grid0.coords t' 2).isLt
  funext x
  show Gen.V m c main_arg0 ((win0_2.rect t').emb x) = Gen.V m c main_arg0 ((win0_3.rect t).emb x)
  congr 1
  funext a
  apply Fin.ext
  rw [Pipeline.Window.rect_emb_val win0_2 t' x a, Pipeline.Window.rect_emb_val win0_3 t x a]
  have hi : win0_2.index t' a = win0_3.index t a := by
    fin_cases a
    · show (BitVec.ofNat 32 (grid0.coords t' 0).val).toNat = (BitVec.ofNat 32 (grid0.coords t 0).val).toNat
      rw [e0]
    · show (BitVec.ofNat 32 (grid0.coords t' 2).val).toNat = (Scalar.minsi (Scalar.addi (BitVec.ofNat 32 (grid0.coords t 2).val) 1#32) 32#32).toNat
      rw [min_word _ (by omega), ofNat_toNat (by omega)]
      omega
    · show (BitVec.ofNat 32 (grid0.coords t' 1).val).toNat = (BitVec.ofNat 32 (grid0.coords t 1).val).toNat
      rw [e1]
  rw [hi]

/-- The keys stay from row to row. -/
theorem iblk_keys (c : Dev nD) {t t' : Fin cfg0.N} (h : t'.val = t.val + 1) (h2 : (grid0.coords t' 2).val ≠ 0) :
    (Gen.iblk m c 4 t' : Vec F S1x16896x512 .bf16) = Gen.iblk m c 4 t := by
  obtain ⟨e0, e1, -⟩ := next_coords h h2
  funext x
  show Gen.V m c main_arg1 ((win0_4.rect t').emb x) = Gen.V m c main_arg1 ((win0_4.rect t).emb x)
  congr 1
  funext a
  apply Fin.ext
  rw [Pipeline.Window.rect_emb_val win0_4 t' x a, Pipeline.Window.rect_emb_val win0_4 t x a]
  have hi : win0_4.index t' a = win0_4.index t a := by
    fin_cases a
    · show (BitVec.ofNat 32 (grid0.coords t' 0).val).toNat = (BitVec.ofNat 32 (grid0.coords t 0).val).toNat
      rw [e0]
    · rfl
    · show (BitVec.ofNat 32 (grid0.coords t' 1).val).toNat = (BitVec.ofNat 32 (grid0.coords t 1).val).toNat
      rw [e1]
  rw [hi]

/-! ## The first tiles -/

/-- The first tile of a point's row. -/
def firstOf (c : Dev nD) (t : Fin cfg0.N) : Nat :=
  (firstAt (m ((c : Thread nD τ).loc main_arg4) : Vec F S264 .i32) (grid0.coords t) (grid0.coords t 2).val).toNat

/-- The first tile of the row after a point's. -/
def nextFirst (c : Dev nD) (t : Fin cfg0.N) : Nat :=
  (firstAt (m ((c : Thread nD τ).loc main_arg4) : Vec F S264 .i32) (grid0.coords t) ((grid0.coords t 2).val + 1)).toNat

/-- Every row's first tile is one of those up to the row. -/
def FirstOk : Prop := ∀ (c : Dev nD) (x : S264.Idx),
  ((m ((c : Thread nD τ).loc main_arg4) : Vec F S264 .i32) x : BitVec 32).toNat ≤ (x 0).val % 33

theorem firstAt_le (hm : FirstOk m) (c : Dev nD) (i : grid0.Coords) (q : Nat) :
    (firstAt (m ((c : Thread nD τ).loc main_arg4) : Vec F S264 .i32) i q).toNat ≤ min q 32 := by
  unfold firstAt window
  refine le_trans (hm c _) (le_of_eq ?_)
  rw [Rect.emb_apply]
  show (((i 0).val * 4 + (i 1).val) * 33 + min q 32 + 1 * 0) % 33 = min q 32
  omega

theorem firstOf_le (hm : FirstOk m) (c : Dev nD) (t : Fin cfg0.N) : firstOf m c t ≤ (grid0.coords t 2).val :=
  le_trans (firstAt_le m hm c _ _) (min_le_left _ _)

theorem nextFirst_lt (hm : FirstOk m) (c : Dev nD) (t : Fin cfg0.N) : nextFirst m c t < 33 :=
  lt_of_le_of_lt (le_trans (firstAt_le m hm c _ _) (min_le_right _ _)) (by decide)

theorem firstOf_next (c : Dev nD) {t t' : Fin cfg0.N} (h : t'.val = t.val + 1) (h2 : (grid0.coords t' 2).val ≠ 0) :
    firstOf m c t' = nextFirst m c t := by
  obtain ⟨e0, e1, e2⟩ := next_coords h h2
  unfold firstOf nextFirst firstAt window
  refine congrArg BitVec.toNat (congrArg (m ((c : Thread nD τ).loc main_arg4)) ?_)
  funext a
  apply Fin.ext
  rw [Rect.emb_apply, Rect.emb_apply]
  fin_cases a
  show ((grid0.coords t' 0).val * 4 + (grid0.coords t' 1).val) * 33 + min (grid0.coords t' 2).val 32 + 1 * 0
    = ((grid0.coords t 0).val * 4 + (grid0.coords t 1).val) * 33 + min ((grid0.coords t 2).val + 1) 32 + 1 * 0
  rw [e0, e1, e2]

end Cert.KernelIdeal

end
-- ==== Proof.Frame.lean ====
module

public import proofs.«01_k».proof.Proof.Blocks

@[expose] public section

set_option synthInstance.maxSize 4096
set_option maxRecDepth 100000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F] [Named F]

local notation "𝕄G" => MT nD τ sig Unit (Elt F) ℕ (UR sig nD τ) ℕ

open Idealize.ShloMosaic.Pipeline (Dat BodyObligation cellOf)

variable (m : (ℓ : Loc nD τ sig) → Buf (Elt F) ℓ)

/-- No labels are called. -/
abbrev 𝒱₀ : Variants := Variants.none

/-! ## What the launch keeps from point to point -/

abbrev accM : Memref sig .tc .vmem S2x144x512 .f32 := Memref.whole cc0_scratch0
abbrev saM : Memref sig .tc .vmem S2x512x512 .f32 := Memref.whole cc0_scratch1
abbrev sbM : Memref sig .tc .vmem S2x512x512 .f32 := Memref.whole cc0_scratch2
abbrev maxM : Memref sig .tc .vmem S2x1x512 .f32 := Memref.whole cc0_scratch3

/-- The block of the result a point writes. -/
def outAt (c : Dev nD) (t : Fin cfg0.N) : Vec F S1x512x256 .bf16 :=
  outBlock (Gen.iblk m c 6 t)
    (afterDiag (Gen.iblk m c 0 t) (Gen.iblk m c 2 t) (Gen.iblk m c 4 t) (Gen.iblk m c 5 t) (grid0.coords t) (firstOf m c t) 0).a
    (afterDiag (Gen.iblk m c 0 t) (Gen.iblk m c 2 t) (Gen.iblk m c 4 t) (Gen.iblk m c 5 t) (grid0.coords t) (firstOf m c t) 1).a

/-- The first scores and their maxima before point `n`: its row's own, where a point comes and its row is not a batch's and heads' first. -/
def kept (c : Dev nD) (n : Nat) : sProp 𝕄G :=
  if h : n < cfg0.N then rowBegin (grid0.coords ⟨n, h⟩) saM maxM c (Gen.iblk m c 2 ⟨n, h⟩) (Gen.iblk m c 4 ⟨n, h⟩) (firstOf m c ⟨n, h⟩)
  else iprop(someS c saM ∗ someS c maxM)

/-- The scratch buffers and the register before point `n`. -/
def phi (c : Dev nD) (n : Nat) : sProp 𝕄G :=
  iprop(someS c accM ∗ someS c sbM ∗ kept m c n ∗ ∃ r, prngReg c r)

/-- A block's contents after each point: an input's as it was fetched, the output's the row's result. -/
def aft (c : Dev nD) : (w : Fin cfg0.W) → Fin cfg0.N → (cfg0.win w).block.Idx → Elt F (cfg0.win w).elt
  | 0 => fun t => Gen.iblk m c 0 t
  | 1 => fun t => Gen.iblk m c 1 t
  | 2 => fun t => Gen.iblk m c 2 t
  | 3 => fun t => Gen.iblk m c 3 t
  | 4 => fun t => Gen.iblk m c 4 t
  | 5 => fun t => Gen.iblk m c 5 t
  | 6 => fun t => Gen.iblk m c 6 t
  | 7 => fun t => outAt m c t
  | ⟨_ + 8, h⟩ => absurd h (Nat.not_lt.2 (Nat.le_add_left _ _))

/-- The launch's proof data. -/
def dats : (p : Fin 1) → (c : Dev nD) → Dat τ (Elt F) Unit ℕ (UR sig nD τ) ℕ (cfgs p) c
  | 0 => fun c =>
    { A := fun w => Gen.V m c (Pipeline.arrRef spec0 w)
      after := aft m c
      Φ := fun t => phi m c t.val
      q := Pipeline.shareOf spec0
      owed := fun _ => 0 }
  | ⟨_ + 1, h⟩ => absurd h (Nat.not_lt.2 (Nat.le_add_left _ _))

theorem some_of_carried (c : Dev nD) (XK : Vec F S1x16896x512 .bf16) (XQ : Vec F S1x512x512 .bf16) (f : Nat) :
    (carried c saM maxM XK XQ f : sProp 𝕄G) ⊢ iprop(someS c saM ∗ someS c maxM) := by
  unfold carried
  iintro ⟨HS, HM⟩
  isplitl [HS]
  · iapply (heldS_some c saM) $$ HS
  · iapply (heldM_some maxM c) $$ HM

/-- What a row leaves is what the next point starts from. -/
theorem kept_next (c : Dev nD) (t : Fin cfg0.N) :
    (carried c saM maxM (Gen.iblk m c 4 t) (Gen.iblk m c 3 t) (nextFirst m c t) : sProp 𝕄G) ⊢ kept m c (t.val + 1) := by
  unfold kept
  by_cases h : t.val + 1 < cfg0.N
  · rw [dif_pos h]
    unfold rowBegin
    by_cases h2 : (grid0.coords (⟨t.val + 1, h⟩ : Fin cfg0.N) 2).val = 0
    · rw [if_pos h2]; exact some_of_carried c _ _ _
    · rw [if_neg h2, iblk_next m c (t := t) rfl h2, iblk_keys m c (t := t) rfl h2, firstOf_next m c (t := t) rfl h2]
  · rw [dif_neg h]; exact some_of_carried c _ _ _

/-! ## The buffers at the launch -/

theorem some_whole (c : Dev nD) (b : Ref sig .tc) :
    (iprop(∃ X, ownsTc c (Memref.whole b) fullShare X) : sProp 𝕄G)
      = iprop(∃ f : Buf (Elt F) ((c : Thread nD τ).loc b), ((c : Thread nD τ).loc b) ↦{fullShare} f) := by
  unfold ownsTc
  simp only [owns_whole]

theorem kept_zero (c : Dev nD) : (kept m c 0 : sProp 𝕄G) = iprop(someS c saM ∗ someS c maxM) := by
  have h : 0 < cfg0.N := lt_of_lt_of_eq (by decide : 0 < 264) Gen.N_0.symm
  unfold kept
  rw [dif_pos h]
  unfold rowBegin
  rw [if_pos ((coord2 _).trans (Nat.zero_mod 33))]

theorem kept_last (c : Dev nD) : (kept m c cfg0.N : sProp 𝕄G) = iprop(someS c saM ∗ someS c maxM) := by
  unfold kept
  rw [dif_neg (lt_irrefl _)]

theorem held_scratch (c : Dev nD) :
    (Pipeline.ΦA (U := UR sig nD τ) (Val := Elt F) spec0 c : sProp 𝕄G)
      = iprop((someS c accM ∗ someS c saM ∗ someS c sbM ∗ someS c maxM) ∗ ∃ r, prngReg c r) := by
  unfold Pipeline.ΦA someS
  rw [Gen.scopedRest0_eq, ← some_whole, ← some_whole, ← some_whole, ← some_whole]
  rfl

theorem phi_zero (c : Dev nD) : (Pipeline.ΦA (U := UR sig nD τ) (Val := Elt F) spec0 c : sProp 𝕄G) ⊢ phi m c 0 := by
  rw [held_scratch]
  unfold phi
  rw [kept_zero]
  iintro ⟨⟨HA, HS, HD, HM⟩, HR⟩
  isplitl [HA]; iexact HA
  isplitl [HD]; iexact HD
  isplitl [HS HM]
  · isplitl [HS]; iexact HS; iexact HM
  iexact HR

theorem phi_last (c : Dev nD) : (phi m c cfg0.N : sProp 𝕄G) ⊢ Pipeline.ΦA (U := UR sig nD τ) (Val := Elt F) spec0 c := by
  rw [held_scratch]
  unfold phi
  rw [kept_last]
  iintro ⟨HA, HD, ⟨HS, HM⟩, HR⟩
  isplitr [HR]
  · isplitl [HA]; iexact HA
    isplitl [HS]; iexact HS
    isplitl [HD]; iexact HD
    iexact HM
  iexact HR

/-! ## One point -/

theorem before_in (c : Dev nD) (t : Fin cfg0.N) :
    (∀ d, (dats m 0 c).before 0 t d = Gen.iblk m c 0 t) ∧ (∀ d, (dats m 0 c).before 1 t d = Gen.iblk m c 1 t)
      ∧ (∀ d, (dats m 0 c).before 2 t d = Gen.iblk m c 2 t) ∧ (∀ d, (dats m 0 c).before 3 t d = Gen.iblk m c 3 t)
      ∧ (∀ d, (dats m 0 c).before 4 t d = Gen.iblk m c 4 t) ∧ (∀ d, (dats m 0 c).before 5 t d = Gen.iblk m c 5 t)
      ∧ (∀ d, (dats m 0 c).before 6 t d = Gen.iblk m c 6 t) :=
  ⟨Gen.before0_0_of m (dats m 0 c) rfl (fun _ => rfl) t, Gen.before0_1_of m (dats m 0 c) rfl (fun _ => rfl) t,
    Gen.before0_2_of m (dats m 0 c) rfl (fun _ => rfl) t, Gen.before0_3_of m (dats m 0 c) rfl (fun _ => rfl) t,
    Gen.before0_4_of m (dats m 0 c) rfl (fun _ => rfl) t, Gen.before0_5_of m (dats m 0 c) rfl (fun _ => rfl) t,
    Gen.before0_6_of m (dats m 0 c) rfl (fun _ => rfl) t⟩

/-- What the body is called with at a point. -/
def bodyPre (c : Dev nD) (t : Fin cfg0.N) : sProp 𝕄G :=
  iprop(phi m c t.val ∗ (dats m 0 c).owesAt () t.castSucc
    ∗ (∃ d, ownsTc c (Gen.st0_0 t) fullShare ((dats m 0 c).before 0 t d))
    ∗ (∃ d, ownsTc c (Gen.st0_1 t) fullShare ((dats m 0 c).before 1 t d))
    ∗ (∃ d, ownsTc c (Gen.st0_2 t) fullShare ((dats m 0 c).before 2 t d))
    ∗ (∃ d, ownsTc c (Gen.st0_3 t) fullShare ((dats m 0 c).before 3 t d))
    ∗ (∃ d, ownsTc c (Gen.st0_4 t) fullShare ((dats m 0 c).before 4 t d))
    ∗ (∃ d, ownsTc c (Gen.st0_5 t) fullShare ((dats m 0 c).before 5 t d))
    ∗ (∃ d, ownsTc c (Gen.st0_6 t) fullShare ((dats m 0 c).before 6 t d))
    ∗ (∃ d, ownsTc c (Gen.st0_7 t) fullShare ((dats m 0 c).before 7 t d)))

/-- What it gives back. -/
def bodyPost (c : Dev nD) (t : Fin cfg0.N) : sProp 𝕄G :=
  iprop(phi m c (t.val + 1) ∗ (dats m 0 c).owesAt () t.succ
    ∗ ownsTc c (Gen.st0_0 t) fullShare (Gen.iblk m c 0 t) ∗ ownsTc c (Gen.st0_1 t) fullShare (Gen.iblk m c 1 t)
    ∗ ownsTc c (Gen.st0_2 t) fullShare (Gen.iblk m c 2 t) ∗ ownsTc c (Gen.st0_3 t) fullShare (Gen.iblk m c 3 t)
    ∗ ownsTc c (Gen.st0_4 t) fullShare (Gen.iblk m c 4 t) ∗ ownsTc c (Gen.st0_5 t) fullShare (Gen.iblk m c 5 t)
    ∗ ownsTc c (Gen.st0_6 t) fullShare (Gen.iblk m c 6 t) ∗ ownsTc c (Gen.st0_7 t) fullShare (outAt m c t))

theorem kept_at (c : Dev nD) (t : Fin cfg0.N) :
    (kept m c t.val : sProp 𝕄G) = rowBegin (grid0.coords t) saM maxM c (Gen.iblk m c 2 t) (Gen.iblk m c 4 t) (firstOf m c t) := by
  unfold kept
  rw [dif_pos t.isLt]

theorem sound_body (hm : FirstOk m) (c : Dev nD) (t : Fin cfg0.N) :
    (bodyPre m c t : sProp 𝕄G) ⊢ wp frame (wpE (defs₀ (F := F)) 𝒱₀ (c : Thread nD τ) none) Set.univ (Gen.bodyAt0 t) (fun _ => bodyPost m c t) := by
  obtain ⟨b0, b1, b2, b3, b4, b5, b6⟩ := before_in m c t
  unfold bodyPre phi
  simp only [b0, b1, b2, b3, b4, b5, b6]
  rw [kept_at]
  iintro ⟨⟨HA, HD, HB, HR⟩, HO, ⟨%_d0, H0⟩, ⟨%_d1, H1⟩, ⟨%_d2, H2⟩, ⟨%_d3, H3⟩, ⟨%_d4, H4⟩, ⟨%_d5, H5⟩, ⟨%_d6, H6⟩, ⟨%d7, H7⟩⟩
  iapply (wand_spec c 𝒱₀ none Set.univ (flash_spec (grid0.coords t) (Gen.st0_0 t) (hstage0_0 ((cfg0.slots t 0).cast nbuf0_0))
    (Gen.st0_1 t) (hstage0_1 ((cfg0.slots t 1).cast nbuf0_1)) (Gen.st0_2 t) (hstage0_2 ((cfg0.slots t 2).cast nbuf0_2))
    (Gen.st0_3 t) (hstage0_3 ((cfg0.slots t 3).cast nbuf0_3)) (Gen.st0_4 t) (hstage0_4 ((cfg0.slots t 4).cast nbuf0_4))
    (Gen.st0_5 t) (hstage0_5 ((cfg0.slots t 5).cast nbuf0_5)) (Gen.st0_6 t) (hstage0_6 ((cfg0.slots t 6).cast nbuf0_6))
    (Gen.st0_7 t) (hstage0_7 ((cfg0.slots t 7).cast nbuf0_7)) accM (Memref.isWhole_whole _) saM (Memref.isWhole_whole _)
    sbM (Memref.isWhole_whole _) maxM (Memref.isWhole_whole _) c 𝒱₀ none Set.univ
    (Gen.iblk m c 0 t) (m ((c : Thread nD τ).loc main_arg4)) (Gen.iblk m c 2 t) (Gen.iblk m c 3 t) (Gen.iblk m c 4 t) (Gen.iblk m c 5 t) (Gen.iblk m c 6 t)
    (f := firstOf m c t) (f' := nextFirst m c t) rfl (firstOf_le m hm c t) rfl (nextFirst_lt m hm c t))) $$ [HA HD HB H0 H1 H2 H3 H4 H5 H6 H7]
  · unfold inputs others
    rw [iblk1]
    isplitl [H0 H2 H4 H5]
    · isplitl [H0]; iexact H0; isplitl [H2]; iexact H2; isplitl [H4]; iexact H4; iexact H5
    isplitl [H1 H3 H6]
    · isplitl [H1]; iexact H1; isplitl [H3]; iexact H3; iexact H6
    isplitl [HB]; iexact HB
    isplitl [HA]; iexact HA
    isplitl [HD]; iexact HD
    unfold someS
    iexists _; iexact H7
  iintro %u H
  unfold rowDone inputs others bodyPost phi
  rw [iblk1]
  icases H with ⟨⟨H0, H2, H4, H5⟩, ⟨H1, H3, H6⟩, HC, HA, HD, H7⟩
  isplitl [HA HD HC HR]
  · isplitl [HA]; iexact HA
    isplitl [HD]; iexact HD
    isplitl [HC]
    · iapply (kept_next m c t) $$ HC
    iexact HR
  isplitl [HO]; iexact HO
  isplitl [H0]; iexact H0
  isplitl [H1]; iexact H1
  isplitl [H2]; iexact H2
  isplitl [H3]; iexact H3
  isplitl [H4]; iexact H4
  isplitl [H5]; iexact H5
  isplitl [H6]; iexact H6
  iexact H7

theorem body_obligation (hm : FirstOk m) (c : Dev nD) : BodyObligation (dats m 0 c) (defs₀ (F := F)) 𝒱₀ () Set.univ := fun t => by
  rw [Gen.bigSep_W0, Gen.bigSep_W0]
  exact sound_body m hm c t

/-! ## The launch -/

/-- Every run ends, every semaphore at rest, with every array as the points' blocks make it. -/
theorem launch_run (hm : FirstOk m) (ρ : Dev nD → PrngReg) :
    θ_run defs (onTc (τ := τ) (main (F := F))) (s₀ m ρ)
      (fun r => Pipeline.FramePost cfgs (dats m) 0 (Gen.V m) r ∧ r.2.sem = (fun _ => 0)) :=
  Pipeline.θ_run_frame_track_shared cfgs (dats m) 0 Gen.launch₀0 defs₀ 𝒱₀ m ρ main
    (fun c => (body_obligation m hm c).loose) (fun _ _ _ => rfl) (fun _ _ => rfl) (Gen.V m) (Gen.hmain m 𝒱₀) (fun _ _ => rfl)
    (fun c => phi_zero m c) (fun c => phi_last m c) _ (fun _ h => h)

end Cert.KernelIdeal

end
-- ==== Proof.Range.lean ====
/- Every row's first key tile is at most its own tile: what the condition on the table says of each word. -/
module

public import proofs.«01_k».proof.Proof.Frame
public import proofs.«01_k».proof.Defs

@[expose] public section

set_option maxRecDepth 100000

noncomputable section

namespace Cert.Pre_tiles_in_range

open Idealize.ShloMosaic

theorem witness : Facts where
  bcast_S_S264 := by decide

variable [Facts]
variable {F : FTy → Type} [FloatOps F]

/-- The remainder as it is printed, of one word. -/
def remWord (w : BitVec 32) : BitVec 32 :=
  Scalar.select (IntOp.andi (IntOp.cmpi .ne (IntOp.cmpi .slt (IntOp.remsi .host w 33#32) 0#32) (IntOp.cmpi .slt 33#32 0#32))
      (IntOp.cmpi .ne (IntOp.remsi .host w 33#32) 0#32))
    (IntOp.addi (IntOp.remsi .host w 33#32) 33#32) (IntOp.remsi .host w 33#32)

set_option maxHeartbeats 2000000 in
theorem remWord_eq : ∀ n : Fin 264, remWord (BitVec.ofNat 32 n.val) = BitVec.ofNat 32 (n.val % 33) := by
  decide

/-- The tile of a row is its number modulo the tiles of a head. -/
theorem remainder_apply (x : S264.Idx) :
    fn_remainder (F := F) (iotaInDim S264 32 0) (constantI S_ 32 33#32) x = BitVec.ofNat 32 ((x 0).val % 33) := by
  have hs : Scalar.select (IntOp.cmpi .eq (33#32) 0#32) (1#32) 33#32 = 33#32 := by decide
  simp only [fn_remainder, fn_where, select, addi, andi, cmpi, Host.remsi, iotaInDim, constantI, broadcastInDim, id, hs]
  exact remWord_eq (x 0)

theorem le_of_pre {q k : FVec F S2x16896x2048 .bf16} {v : FVec F S2x1024x16896 .bf16} {c : FVec F S1056 .f32} {a : IVec S264 32}
    {g : FVec F S8x1x128 .f32} (h : fn (F := F) q k v c a g = fun _ => 1#1) (x : S264.Idx) : (a x).toNat ≤ (x 0).val % 33 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h x
  simp only [fn, andi, cmpi, remainder_apply, broadcastInDim, constantI, IntOp.cmpi, andi_ofBool, ofBool_eq_one, Bool.and_eq_true,
    BitVec.sle, decide_eq_true_eq] at e
  obtain ⟨h0, h1⟩ := e
  have hx : (x 0).val % 33 < 33 := Nat.mod_lt _ (by decide)
  generalize (x 0).val % 33 = r at h1 hx ⊢
  have hz : (0 : Int) ≤ (a x).toInt := by simpa using h0
  have hr : (BitVec.ofNat 32 r).toInt = r := by
    rw [BitVec.toInt_eq_toNat_cond, BitVec.toNat_ofNat, Nat.mod_eq_of_lt (show r < 2 ^ 32 by omega), if_pos (by omega)]
  rw [hr] at h1
  rw [BitVec.toInt_eq_toNat_cond] at hz h1
  have hy := (a x).isLt
  split_ifs at hz h1 with hc <;> omega

end Cert.Pre_tiles_in_range
end
-- ==== Proof.Quiet.lean ====
/- The kernel ends with its arguments unchanged and every semaphore at rest, for the floats of the machine and for the
   extended reals: one launch theorem, read at both. -/
module

public import proofs.«01_k».proof.Proof.Range
public import proofs.«01_k».proof.Proof.Gen.Kernel
public import proofs.«01_k».proof.Proof.Gen.ReferenceIdeal.Run
public import Idealize.ShloMosaic.Lib.Quiescent

@[expose] public section

set_option maxRecDepth 100000

noncomputable section

namespace Cert.KernelIdeal

open Idealize.ShloMosaic Idealize.ShloMosaic.TcCoe Idealize.SL.Sem

section
variable {F : FTy → Type} [FloatOps F] [Named F]
variable (m : (ℓ : Loc nD τ sig) → Buf (Elt F) ℓ)

/-- The arguments end as they began. -/
def Unchanged (r : MemSt nD τ sig (Elt F)) (c : Dev nD) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)

/-- What the launch leaves in the result: the points' blocks, written back one after another. -/
def result (c : Dev nD) : Buf (Elt F) ((c.tc : Thread nD τ).loc main_v0) := (dats m 0 c).arrAt 7 cfg0.N

theorem run_result (hm : FirstOk m) (ρ : Dev nD → PrngReg) :
    θ_run defs (onTc (τ := τ) (main (F := F))) ⟨m, fun _ => 0, ρ⟩
      (fun r => (∀ c : Dev nD, r.2.mem ((c.tc : Thread nD τ).loc main_v0) = result m c ∧ Unchanged m r.2 c)
        ∧ r.2.sem = fun _ => 0) :=
  (θ_run defs _ _).mono (fun _ h => ⟨fun c => ⟨(h.1 c).1 7,
      ((h.1 c).1 3).trans (((dats m 0 c).arrAt_in 3 rfl _).trans (Gen.V_main_arg0 m c)),
      ((h.1 c).1 4).trans (((dats m 0 c).arrAt_in 4 rfl _).trans (Gen.V_main_arg1 m c)),
      ((h.1 c).1 5).trans (((dats m 0 c).arrAt_in 5 rfl _).trans (Gen.V_main_arg2 m c)),
      ((h.1 c).1 0).trans (((dats m 0 c).arrAt_in 0 rfl _).trans (Gen.V_main_arg3 m c)),
      ((h.1 c).1 1).trans (((dats m 0 c).arrAt_in 1 rfl _).trans (Gen.V_main_arg4 m c)),
      ((h.1 c).1 6).trans (((dats m 0 c).arrAt_in 6 rfl _).trans (Gen.V_main_arg5 m c))⟩, h.2⟩) (launch_run m hm ρ)

end

/-- Each name read as the number it stands in place of. -/
@[reducible] def plainNames {F : FTy → Type} [FloatOps F] : Named F := ⟨fun _ _ {_} bits => Scalar.ofBits _ bits⟩

end Cert.KernelIdeal

namespace Cert.Proof

open Idealize.ShloMosaic Idealize.ShloMosaic.TcCoe Idealize.SL.Sem

theorem firstOk [Cert.Pre_tiles_in_range.Facts] {m : (ℓ : Loc Cert.KernelIdeal.nD Cert.KernelIdeal.τ Cert.KernelIdeal.sig) → Buf (Elt Ideal) ℓ}
    (h : Cert.Pre_KernelIdeal m) : Cert.KernelIdeal.FirstOk m := fun c x => Cert.Pre_tiles_in_range.le_of_pre (h c) x

theorem quiescent_KernelIdeal [Cert.Pre_tiles_in_range.Facts] : Cert.quiescent_KernelIdeal := fun m ρ hm =>
  (θ_run Cert.KernelIdeal.defs _ _).mono (fun _ h => ⟨fun c => (h.1 c).2, h.2⟩)
    (Cert.KernelIdeal.run_result m (firstOk hm) ρ)

section
open Cert.KernelIdeal

/-- The same at the machine's floats, each name read as its number. -/
theorem run_machine [Cert.Pre_tiles_in_range.Facts] (m : (ℓ : Loc nD τ sig) → Buf (Elt Bits) ℓ) (ρ : Dev nD → PrngReg)
    (hm : ∀ c : Dev nD, ∀ x : S264.Idx, ((m ((c.tc : Thread nD τ).loc main_arg4) : Vec Bits S264 .i32) x : BitVec 32).toNat ≤ (x 0).val % 33) :
    letI : Named Bits := plainNames
    θ_run (defs (F := Bits)) (onTc (τ := τ) (main (F := Bits))) ⟨m, fun _ => 0, ρ⟩
      (fun r => (∀ c : Dev nD, Unchanged m r.2 c) ∧ r.2.sem = fun _ => 0) :=
  letI : Named Bits := plainNames
  (θ_run defs _ _).mono (fun _ (h : (∀ c : Dev nD, _ ∧ Unchanged m _ c) ∧ _) => ⟨fun c => (h.1 c).2, h.2⟩) (run_result (F := Bits) m hm ρ)

end

section
variable {F : FTy → Type} [FloatOps F]

set_option maxHeartbeats 4000000 in
/-- The machine's body is the same body with each name read as its number. -/
theorem flash_eq : @Cert.Kernel.cc0_flash F _ _ = @Cert.KernelIdeal.cc0_flash F _ Cert.KernelIdeal.plainNames _ := rfl

theorem bodies_eq : @Cert.Kernel.defs₀ F _ _ = @Cert.KernelIdeal.defs₀ F _ Cert.KernelIdeal.plainNames _ := by
  unfold Cert.Kernel.defs₀ Cert.KernelIdeal.defs₀
  rw [flash_eq]
  refine congrArg _ (funext fun l => funext fun x => ?_)
  match l, x with
  | 0, (t, s) => rfl
  | ⟨n + 1, h⟩, _ => exact absurd h (Nat.not_lt.2 (Nat.le_add_left _ _))

theorem defs_eq : @Cert.Kernel.defs F _ _ = @Cert.KernelIdeal.defs F _ Cert.KernelIdeal.plainNames _ := by
  unfold Cert.Kernel.defs Cert.KernelIdeal.defs
  rw [bodies_eq]
  rfl

end

theorem quiescent_Kernel [Cert.Pre_tiles_in_range.Facts] : Cert.quiescent_Kernel := fun m ρ hm => by
  rw [defs_eq]
  exact run_machine m ρ (fun c x => Cert.Pre_tiles_in_range.le_of_pre (hm c) x)

theorem quiescent_ReferenceIdeal [Cert.Pre_tiles_in_range.Facts] : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ rfl,
    IdealRules.named_const.statement Cert.KernelIdeal.κ "fake" .f32 0xF1C9F2CA#32 ⊥ rfl⟩

end Cert.Proof
end
-- ==== Proof.Running.lean ====
/- A softmax-weighted sum taken tile by tile: the greatest exponent so far and the sums rescaled to it, over the extended
   reals, with no assumption that anything is finite. -/
module

public import Idealize.ShloMosaic.PureOps.Ideal
public import Idealize.ShloMosaic.Lib.IdealHost
public import Idealize.ShloMosaic.Lib.ValueIdx
public import Mathlib.Data.EReal.Inv

@[expose] public section

noncomputable section

namespace Cert.Running

open Idealize.ShloMosaic
open scoped BigOperators

theorem exp2_bot : Ideal.exp2 ⊥ = 0 := rfl

theorem exp2_coe (r : ℝ) : Ideal.exp2 (r : EReal) = ((Real.rpow 2 r : ℝ) : EReal) := rfl

theorem exp2_nonneg (x : EReal) : 0 ≤ Ideal.exp2 x := by
  induction x with
  | bot => exact le_refl _
  | top => exact le_top
  | coe r => rw [exp2_coe]; exact EReal.coe_nonneg.2 (Real.rpow_nonneg (by norm_num) r)

/-- Whatever is taken from the bottom or whatever the top takes is the bottom. -/
theorem sub_top (x : EReal) : x - ⊤ = ⊥ := by rw [sub_eq_add_neg, EReal.neg_top, EReal.add_bot]

theorem bot_sub (x : EReal) : (⊥ : EReal) - x = ⊥ := by rw [sub_eq_add_neg, EReal.bot_add]

/-- An exponent's offset taken off the greatest, or added to the score: the same weight, the greatest being real. -/
theorem weight_eq (s δ : EReal) (r : ℝ) (h : s + δ ≤ r) : Ideal.exp2 (s - ((r : EReal) - δ)) = Ideal.exp2 (s + δ - r) := by
  induction s with
  | bot => rw [bot_sub, EReal.bot_add, bot_sub]
  | top =>
    induction δ with
    | bot => rw [EReal.add_bot, bot_sub, sub_eq_add_neg (r : EReal), EReal.neg_bot, EReal.coe_add_top, sub_top]
    | top => exact absurd h (by simp)
    | coe d => exact absurd h (by simp)
  | coe s =>
    induction δ with
    | bot => rw [EReal.add_bot, bot_sub, sub_eq_add_neg (r : EReal), EReal.neg_bot, EReal.coe_add_top, sub_top]
    | top => exact absurd h (by simp)
    | coe d =>
      norm_cast
      rw [show s - (r - d) = s + d - r by ring]

/-- A weight rescaled from one greatest exponent to the next. -/
theorem rescale (v x : EReal) (m r : ℝ) (h : x ≤ m) :
    Ideal.exp2 ((m : EReal) - r) * (v * Ideal.exp2 (x - m)) = v * Ideal.exp2 (x - r) := by
  induction x with
  | bot => rw [bot_sub, bot_sub, exp2_bot, mul_zero, mul_zero]
  | top => exact absurd h (by simp)
  | coe x =>
    rw [mul_left_comm]
    congr 1
    rw [← EReal.coe_sub, ← EReal.coe_sub, ← EReal.coe_sub, exp2_coe, exp2_coe, exp2_coe, ← EReal.coe_mul]
    congr 1
    show (2 : ℝ) ^ (m - r) * 2 ^ (x - m) = 2 ^ (x - r)
    rw [← Real.rpow_add (by norm_num)]
    congr 1; ring

/-- A factor that is neither negative nor infinite goes into a sum. -/
theorem mul_sum {ι : Type} (S : Finset ι) (a : EReal) (h0 : 0 ≤ a) (ht : a ≠ ⊤) (f : ι → EReal) : a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 ht, ih]

/-- The greatest, moved. -/
theorem sup_add {ι : Type} (S : Finset ι) (s : ι → EReal) (δ : EReal) : S.sup s + δ = S.sup (fun j => s j + δ) :=
  Finset.comp_sup_eq_sup_comp_of_is_total (fun y => y + δ) (fun _ _ h => add_le_add_left h δ) (EReal.bot_add δ)

variable (x v : ℕ → Fin 512 → EReal)

/-- The greatest exponent of the tiles from `f` to before `e`. -/
def top (f e : ℕ) : EReal := (Finset.Ico f e).sup fun T => Finset.univ.sup (x T)

/-- The weighted sum of the tiles from `f` to before `e`, its weights less the exponent `m`. -/
def total (f e : ℕ) (m : EReal) : EReal := ∑ T ∈ Finset.Ico f e, ∑ j, v T j * Ideal.exp2 (x T j - m)

/-- What a running pair of greatest and sum knows after `n` tiles: the sum only where the greatest is real. -/
def Part (f n : ℕ) (m a : EReal) : Prop := m = top x f (f + n) ∧ ∀ r : ℝ, m = r → a = total x v f (f + n) m

theorem le_top_of (f e T : ℕ) (h : T ∈ Finset.Ico f e) (j : Fin 512) : x T j ≤ top x f e :=
  (Finset.le_sup (f := x T) (Finset.mem_univ j)).trans (Finset.le_sup (f := fun T => Finset.univ.sup (x T)) h)

theorem top_succ (f n : ℕ) : top x f (f + n + 1) = max (top x f (f + n)) (Finset.univ.sup (x (f + n))) := by
  unfold top
  rw [← Finset.insert_Ico_right_eq_Ico_add_one (Nat.le_add_right f n), Finset.sup_insert, sup_comm]

theorem total_succ (f n : ℕ) (m : EReal) :
    total x v f (f + n + 1) m = total x v f (f + n) m + ∑ j, v (f + n) j * Ideal.exp2 (x (f + n) j - m) := by
  unfold total
  rw [Finset.sum_Ico_succ_top (Nat.le_add_right f n)]

/-- No tile yet. -/
theorem part_zero (f : ℕ) (m a : EReal) (h : m = ⊥) : Part x v f 0 m a := by
  subst h
  refine ⟨?_, fun r hr => absurd hr (EReal.bot_ne_coe r)⟩
  simp [top]

/-- The sum before a tile, rescaled. -/
theorem total_rescale (f n : ℕ) (m a : EReal) (r : ℝ) (h : Part x v f n m a) (hr : m ≤ r) :
    Ideal.exp2 (m - r) * a = total x v f (f + n) r := by
  obtain ⟨hm, ha⟩ := h
  induction m with
  | bot =>
    rw [bot_sub, exp2_bot, zero_mul]
    refine (Finset.sum_eq_zero fun T hT => Finset.sum_eq_zero fun j _ => ?_).symm
    have := le_top_of x f (f + n) T hT j
    rw [← hm, le_bot_iff] at this
    rw [this, bot_sub, exp2_bot, mul_zero]
  | top => exact absurd hr (by simp)
  | coe m =>
    have hp : Ideal.exp2 ((m : EReal) - r) ≠ ⊤ := by rw [← EReal.coe_sub, exp2_coe]; exact EReal.coe_ne_top _
    rw [ha m rfl]
    unfold total
    rw [mul_sum _ _ (exp2_nonneg _) hp]
    refine Finset.sum_congr rfl fun T hT => ?_
    rw [mul_sum _ _ (exp2_nonneg _) hp]
    exact Finset.sum_congr rfl fun j _ => rescale _ _ _ _ ((le_top_of x f (f + n) T hT j).trans (le_of_eq hm.symm))

/-- One tile more. -/
theorem part_succ {f n : ℕ} {m a m' a' δ : EReal} {s : Fin 512 → EReal} (h : Part x v f n m a) (hx : ∀ j, x (f + n) j = s j + δ)
    (hm : m' = max m (Finset.univ.sup s + δ))
    (ha : a' = Ideal.exp2 (m - m') * a + ∑ j, v (f + n) j * Ideal.exp2 (s j - (m' - δ))) : Part x v f (n + 1) m' a' := by
  have e : m' = top x f (f + n + 1) := by
    rw [hm, top_succ, h.1, sup_add]
    congr 1
    exact Finset.sup_congr rfl fun j _ => (hx j).symm
  refine ⟨e, fun r hr => ?_⟩
  have hle : m ≤ m' := hm ▸ le_max_left _ _
  rw [ha, hr]
  rw [hr] at hle e
  rw [show f + (n + 1) = f + n + 1 from rfl, total_succ, total_rescale x v f n m a r h hle]
  congr 1
  refine Finset.sum_congr rfl fun j _ => ?_
  rw [hx j, weight_eq _ _ _ (by
    rw [← hx j, e]
    exact le_top_of x f (f + n + 1) (f + n) (Finset.mem_Ico.2 ⟨Nat.le_add_right f n, Nat.lt_succ_self _⟩) j)]

/-- The last tile, whose scores are not moved: the sum is the whole one whatever the greatest. -/
theorem part_last {f n : ℕ} {m a m' a' : EReal} (h : Part x v f n m a)
    (hm : m' = max m (Finset.univ.sup (x (f + n)) + 0))
    (ha : a' = Ideal.exp2 (m - m') * a + ∑ j, v (f + n) j * Ideal.exp2 (x (f + n) j - (m' - 0))) :
    m' = top x f (f + n + 1) ∧ a' = total x v f (f + n + 1) m' := by
  have h' := part_succ x v h (s := x (f + n)) (δ := 0) (fun j => (add_zero _).symm) hm ha
  refine ⟨h'.1, ?_⟩
  have hle : m ≤ m' := hm ▸ le_max_left _ _
  have ht := h'.1
  rw [sub_zero] at ha
  induction m' with
  | coe r => exact h'.2 r rfl
  | top =>
    rw [ha, sub_top, exp2_bot, zero_mul, zero_add]
    unfold total
    simp only [sub_top, exp2_bot, mul_zero, Finset.sum_const_zero]
  | bot =>
    rw [le_bot_iff] at hle
    have hb : ∀ T ∈ Finset.Ico f (f + n + 1), ∀ j, x T j = ⊥ := fun T hT j =>
      le_bot_iff.1 ((le_top_of x f (f + n + 1) T hT j).trans (le_of_eq ht.symm))
    rw [ha, hle, bot_sub, exp2_bot, zero_mul, zero_add, total_succ]
    unfold total
    refine (zero_add _).symm.trans (congrArg (· + _) (Finset.sum_eq_zero fun T hT => Finset.sum_eq_zero fun j _ => ?_).symm)
    rw [hb T (Finset.mem_Ico.2 ⟨(Finset.mem_Ico.1 hT).1, (Finset.mem_Ico.1 hT).2.trans (Nat.lt_succ_self _)⟩) j, bot_sub, exp2_bot, mul_zero]

/-! ## The whole row -/

/-- Tiles that hold nothing but the bottom count for nothing. -/
theorem top_whole {f e N : ℕ} (he : e ≤ N) (h : ∀ T, T < N → T ∉ Finset.Ico f e → ∀ j, x T j = ⊥) : top x f e = top x 0 N := by
  unfold top
  refine le_antisymm (Finset.sup_mono fun T hT => ?_) (Finset.sup_le fun T hT => ?_)
  · rw [Finset.mem_Ico] at hT ⊢; omega
  · by_cases hT' : T ∈ Finset.Ico f e
    · exact Finset.le_sup (f := fun T => Finset.univ.sup (x T)) hT'
    · refine Finset.sup_le fun j _ => ?_
      rw [h T (Finset.mem_Ico.1 hT).2 hT' j]; exact bot_le

theorem total_whole {f e N : ℕ} (he : e ≤ N) (h : ∀ T, T < N → T ∉ Finset.Ico f e → ∀ j, x T j = ⊥) (m : EReal) :
    total x v f e m = total x v 0 N m := by
  unfold total
  refine Finset.sum_subset (fun T hT => ?_) (fun T hT hT' => Finset.sum_eq_zero fun j _ => ?_)
  · rw [Finset.mem_Ico] at hT ⊢; omega
  · rw [h T (Finset.mem_Ico.1 hT).2 hT' j, bot_sub, exp2_bot, mul_zero]

/-- Keys by tile and place. -/
def spot (T : ℕ) (j : Fin 512) : Fin 16896 := ⟨512 * min T 32 + j.val, by have := j.isLt; omega⟩

theorem sum_tiles (g : Fin 16896 → EReal) : ∑ k, g k = ∑ T ∈ Finset.Ico 0 33, ∑ j, g (spot T j) := by
  rw [← Finset.range_eq_Ico, Finset.sum_range, ← Fintype.sum_prod_type']
  refine (Fintype.sum_equiv (finProdFinEquiv (m := 33) (n := 512)) _ _ fun y => congrArg g (Fin.ext ?_)).symm
  have := y.1.isLt
  simp only [spot, finProdFinEquiv_apply_val]
  omega

theorem sup_tiles (g : Fin 16896 → EReal) :
    Finset.univ.sup g = (Finset.Ico 0 33).sup fun T => Finset.univ.sup fun j => g (spot T j) := by
  refine le_antisymm (Finset.sup_le fun k _ => ?_) (Finset.sup_le fun T _ => Finset.sup_le fun j _ => Finset.le_sup (Finset.mem_univ _))
  have hk := k.isLt
  have e : k = spot (k.val / 512) ⟨k.val % 512, Nat.mod_lt _ (by norm_num)⟩ := by
    apply Fin.ext; simp only [spot]; omega
  refine le_trans ?_ (Finset.le_sup (b := k.val / 512) (f := fun T => Finset.univ.sup fun j => g (spot T j)) (Finset.mem_Ico.2 ⟨Nat.zero_le _, by omega⟩))
  refine le_trans (le_of_eq (congrArg g e)) ?_
  exact Finset.le_sup (f := fun j => g (spot (k.val / 512) j)) (Finset.mem_univ _)

end Cert.Running
end
-- ==== Proof.StepAt.lean ====
module

public import proofs.«01_k».proof.Proof.Rows
public import proofs.«01_k».proof.Proof.Running
public import Idealize.ShloMosaic.Lib.Pointwise
public import Idealize.ShloMosaic.Lib.WordCmp

@[expose] public section

set_option synthInstance.maxSize 4096
set_option maxRecDepth 100000

noncomputable section

namespace Cert.KernelIdeal

open Idealize.ShloMosaic Idealize.ShloMosaic.TcCoe
open VecWindow (window put)
open Facts₀ Facts

/-! # A tile's step, entry by entry, over the extended reals -/

theorem lowest : Ideal.ofBits .f32 0xFF800000#32 = ⊥ := by simp [Ideal.ofBits, Ideal.ieee]

/-- The greatest moved score of a query after a tile. -/
theorem step_m (ones : FVec Ideal S16x512 .bf16) (v : Vec Ideal S1x128x512 .bf16) (s : FVec Ideal S512x512 .f32) (δ : EReal)
    (st : HSt Ideal) (q : Fin 512) :
    (st.step ones v s δ).m (ix2 0 q) = max (st.m (ix2 0 q)) (Finset.univ.sup (fun k : Fin 512 => s (ix2 k q)) + δ) := by
  unfold HSt.step newMax colMax
  pointwise
  rw [lowest]
  rfl

/-- The values, with ones below them. -/
def withOnes (v : Vec Ideal S1x128x512 .bf16) (r : Fin 144) (k : Fin 512) : EReal :=
  if h : r.val < 128 then v (ix3 0 ⟨r.val, h⟩ k) else 1

/-- An entry of the accumulator after a tile. -/
theorem step_a (v : Vec Ideal S1x128x512 .bf16) (s : FVec Ideal S512x512 .f32) (δ : EReal)
    (st : HSt Ideal) (r : Fin 144) (q : Fin 512) :
    (st.step onesRows v s δ).a (ix3 0 r q) = Ideal.exp2 (st.m (ix2 0 q) - (st.step onesRows v s δ).m (ix2 0 q)) * st.a (ix3 0 r q)
      + ∑ k : Fin 512, withOnes v r k * Ideal.exp2 (s (ix2 k q) - ((st.step onesRows v s δ).m (ix2 0 q) - δ)) := by
  unfold HSt.step newAcc weights onesRows withOnes
  pointwise
  rfl

theorem init_m (q : Fin 512) : (HSt.init (F := Ideal)).m (ix2 0 q) = ⊥ :=
  IdealRules.named_const.ideal_named_scalar κ "mask" (φ := .f32) 0xF149F2CA#32 ⊥ rfl

theorem fake_eq : (Named.named κ "fake" (φ := .f32) 0xF1C9F2CA#32 : Ideal .f32) = ⊥ :=
  IdealRules.named_const.ideal_named_scalar κ "fake" (φ := .f32) 0xF1C9F2CA#32 ⊥ rfl

theorem causal_apply (s : FVec Ideal S512x512 .f32) (k q : Fin 512) :
    causal s (ix2 k q) = if k.val ≤ q.val then s (ix2 k q) else ⊥ := by
  unfold causal
  pointwise
  rw [IdealRules.named_const.ideal_named_scalar κ "mask" (φ := .f32) 0xF149F2CA#32 ⊥ rfl]
  rw [WordCmp.cmpi_sle_ofNat (w := 32) (by have := k.isLt; omega) (by have := q.isLt; omega), WordCmp.select_decide]

section
variable (XC : Vec Ideal S1056 .f32) (XQ : Vec Ideal S1x512x512 .bf16) (XK : Vec Ideal S1x16896x512 .bf16) (XV : Vec Ideal S1x256x16896 .bf16)
  (i : grid0.Coords) (f : Nat) (h : Fin 2)

/-- A query's exponents at a row of tiles, tile by tile: the scores, moved, of the keys it may see. -/
def tileX (q : Fin 512) (T : ℕ) (j : Fin 512) : EReal :=
  if T < f then ⊥
  else if T < (i 2).val then scAt XK XQ h T (ix2 j q) + (cAt XC i h (i 2).val - cAt XC i h T)
  else if T = (i 2).val then (if j.val ≤ q.val then scAt XK XQ h T (ix2 j q) else ⊥)
  else ⊥

/-- A row of the values, tile by tile. -/
def tileV (r : Fin 144) (T : ℕ) (j : Fin 512) : EReal := withOnes (valAt XV h T) r j

theorem hst_part (q : Fin 512) (r : Fin 144) (n : ℕ) (hn : f + n ≤ (i 2).val) :
    Running.Part (tileX XC XQ XK i f h q) (tileV XV h r) f n ((hst XC XQ XK XV i f h n).m (ix2 0 q)) ((hst XC XQ XK XV i f h n).a (ix3 0 r q)) := by
  induction n with
  | zero => exact Running.part_zero _ _ _ _ _ (init_m q)
  | succ n ih =>
    rw [hst_succ]
    refine Running.part_succ _ _ (ih (by omega)) (fun j => ?_) (step_m _ _ _ _ _ q) (step_a _ _ _ _ r q)
    unfold tileX
    rw [if_neg (by omega), if_pos (by omega)]
    rfl

theorem before_part (hf : f ≤ (i 2).val) (q : Fin 512) (r : Fin 144) :
    Running.Part (tileX XC XQ XK i f h q) (tileV XV h r) f ((i 2).val - f) ((beforeDiag XC XQ XK XV i f h).m (ix2 0 q))
      ((beforeDiag XC XQ XK XV i f h).a (ix3 0 r q)) := by
  unfold beforeDiag
  split
  · exact hst_part XC XQ XK XV i f h q r _ (by omega)
  · rw [show (i 2).val - f = 0 by omega]
    refine Running.part_zero _ _ _ _ _ ?_
    rw [step_m, init_m, fake_eq, EReal.add_bot, max_self]

theorem after_eq (hf : f ≤ (i 2).val) (q : Fin 512) (r : Fin 144) :
    (afterDiag XC XQ XK XV i f h).a (ix3 0 r q)
      = Running.total (tileX XC XQ XK i f h q) (tileV XV h r) 0 33 (Running.top (tileX XC XQ XK i f h q) 0 33) := by
  have hi : (i 2).val < 33 := (i 2).isLt
  have he : afterDiag XC XQ XK XV i f h = (beforeDiag XC XQ XK XV i f h).step onesRows (valAt XV h (i 2).val) (causal (scAt XK XQ h (i 2).val)) (0 : EReal) :=
    congrArg (fun z : EReal => (beforeDiag XC XQ XK XV i f h).step onesRows (valAt XV h (i 2).val) (causal (scAt XK XQ h (i 2).val)) z) Ideal.ofBits_zero_f32
  have hs : f + ((i 2).val - f) = (i 2).val := by omega
  have hx : ∀ j, causal (scAt XK XQ h (i 2).val) (ix2 j q) = tileX XC XQ XK i f h q (f + ((i 2).val - f)) j := fun j => by
    rw [causal_apply, hs]
    unfold tileX
    rw [if_neg (show ¬ (i 2).val < f by omega), if_neg (lt_irrefl _), if_pos rfl]
  have hm := step_m onesRows (valAt XV h (i 2).val) (causal (scAt XK XQ h (i 2).val)) 0 (beforeDiag XC XQ XK XV i f h) q
  have ha := step_a (valAt XV h (i 2).val) (causal (scAt XK XQ h (i 2).val)) 0 (beforeDiag XC XQ XK XV i f h) r q
  simp only [hx] at hm ha
  have hl := Running.part_last _ _ (before_part XC XQ XK XV i f h hf q r) hm (ha.trans (by unfold tileV; rw [hs]))
  have ho : ∀ T, T < 33 → T ∉ Finset.Ico f (f + ((i 2).val - f) + 1) → ∀ j, tileX XC XQ XK i f h q T j = ⊥ := fun T _ hT j => by
    rw [Finset.mem_Ico] at hT
    unfold tileX
    by_cases h0 : T < f
    · rw [if_pos h0]
    · rw [if_neg h0, if_neg (by omega), if_neg (by omega)]
  rw [← Running.top_whole _ (by omega) ho, ← Running.total_whole _ _ (by omega) ho, ← hl.1]
  rw [he]
  exact hl.2

end

end Cert.KernelIdeal
-- ==== Proof.Attn.lean ====
/- One query of one head, over the extended reals: the weighted sums divided after they are summed, or each weight divided
   before, and then normed, are the same entries. -/
module

public import proofs.«01_k».proof.Proof.Running

@[expose] public section

noncomputable section

namespace Cert.Attn

open Idealize.ShloMosaic Cert.Running

/-! ## Constants -/

theorem two_eq : Ideal.ofBits .f32 0x40000000#32 = ((2 : ℝ) : EReal) := by
  simp [Ideal.ofBits, Ideal.ieee]
  rw [← EReal.coe_mul]
  norm_num

theorem width_eq : Ideal.ofBits .f32 0x43000000#32 = ((128 : ℝ) : EReal) := by
  simp [Ideal.ofBits, Ideal.ieee]
  rw [← EReal.coe_mul]
  norm_num

theorem eps_ne_bot : Ideal.ofBits .f32 0x358637BD#32 ≠ ⊥ := by
  simp [Ideal.ofBits, Ideal.ieee]
  rw [← EReal.coe_mul]
  exact EReal.coe_ne_bot _

/-- A power of two, by the exponential. -/
theorem exp_log_two (x : EReal) : Ideal.exp (x * Ideal.log (Ideal.ofBits .f32 0x40000000#32)) = Ideal.exp2 x := by
  have hl : Ideal.log (Ideal.ofBits .f32 0x40000000#32) = ((Real.log 2 : ℝ) : EReal) := by
    rw [two_eq]
    show (if (2 : ℝ) ≤ 0 then (⊥ : EReal) else ((Real.log 2 : ℝ) : EReal)) = _
    rw [if_neg (by norm_num)]
  have hp : (0 : ℝ) < Real.log 2 := Real.log_pos (by norm_num)
  rw [hl]
  induction x with
  | bot => rw [EReal.bot_mul_coe_of_pos hp]; rfl
  | top => rw [EReal.top_mul_coe_of_pos hp]; rfl
  | coe r =>
    rw [← EReal.coe_mul, exp2_coe]
    show ((Real.exp (r * Real.log 2) : ℝ) : EReal) = _
    congr 1
    rw [Real.rpow_eq_pow, Real.rpow_def_of_pos (by norm_num), mul_comm]

/-! ## The norm -/

/-- An entry over the root of the entries' mean square. -/
def normAt (o : Fin 128 → EReal) (d : Fin 128) : EReal :=
  o d * Ideal.rsqrt (Ideal.div (∑ x, o x * o x) (Ideal.ofBits .f32 0x43000000#32) + Ideal.ofBits .f32 0x358637BD#32)

theorem mul_self_nonneg' (x : EReal) : 0 ≤ x * x := by
  rcases le_total 0 x with h | h
  · exact EReal.mul_nonneg h h
  · rw [← neg_mul_neg]; exact EReal.mul_nonneg (EReal.neg_nonneg.2 h) (EReal.neg_nonneg.2 h)

/-- Where one entry's square is the top, every normed entry is zero. -/
theorem normAt_of_top (o : Fin 128 → EReal) (e d : Fin 128) (h : o e * o e = ⊤) : normAt o d = 0 := by
  have hs : ∑ x, o x * o x = ⊤ :=
    top_le_iff.1 (h ▸ Finset.single_le_sum (f := fun x => o x * o x) (fun x _ => mul_self_nonneg' (o x)) (Finset.mem_univ e))
  unfold normAt
  rw [hs, width_eq]
  have hd : Ideal.div ⊤ ((128 : ℝ) : EReal) = ⊤ := by
    unfold Ideal.div
    rw [if_neg (by norm_num), ← EReal.coe_inv, EReal.top_mul_coe_of_pos (by norm_num)]
  rw [hd, EReal.top_add_of_ne_bot eps_ne_bot]
  exact mul_zero _

/-! ## One query -/

section
variable (X : Fin 16896 → EReal) (V : Fin 128 → Fin 16896 → EReal)

/-- A key's weight, not yet divided by their sum. -/
def wt (k : Fin 16896) : EReal := Ideal.exp2 (X k - Finset.univ.sup X)

/-- The mean of the values, divided after the sum. -/
def after (d : Fin 128) : EReal := Ideal.div (∑ k, V d k * wt X k) (∑ k, wt X k)

/-- The mean of the values, each weight divided. -/
def before (d : Fin 128) : EReal := ∑ k, Ideal.div (wt X k) (∑ k, wt X k) * V d k

theorem wt_nonneg (k : Fin 16896) : 0 ≤ wt X k := exp2_nonneg _

theorem inv_ne_top (l : EReal) : l⁻¹ ≠ ⊤ := by
  induction l with
  | bot => simp
  | top => simp
  | coe r => rw [← EReal.coe_inv]; exact EReal.coe_ne_top _

theorem div_zero_zero : Ideal.div 0 0 = ⊥ := by
  unfold Ideal.div
  rw [if_pos rfl, if_neg (lt_irrefl _)]

/-- What a multiple of the bottom can be. -/
theorem bot_mul_cases (x : EReal) : ⊥ * x = 0 ∨ ⊥ * x = ⊤ ∨ ⊥ * x = ⊥ := by
  rcases lt_trichotomy x 0 with h | h | h
  · exact Or.inr (Or.inl (EReal.bot_mul_of_neg h))
  · exact Or.inl (by rw [h, mul_zero])
  · exact Or.inr (Or.inr (EReal.bot_mul_of_pos h))

theorem sum_cases {ι : Type} (S : Finset ι) (f : ι → EReal) (h : ∀ i, f i = 0 ∨ f i = ⊤ ∨ f i = ⊥) :
    ∑ i ∈ S, f i = 0 ∨ ∑ i ∈ S, f i = ⊤ ∨ ∑ i ∈ S, f i = ⊥ := by
  classical
  induction S using Finset.induction_on with
  | empty => exact Or.inl Finset.sum_empty
  | insert i S hi ih =>
    rw [Finset.sum_insert hi]
    rcases h i with e | e | e <;> rcases ih with e' | e' | e' <;> rw [e, e'] <;> simp

theorem norm_eq (d : Fin 128) : normAt (after X V) d = normAt (before X V) d := by
  by_cases hl : ∑ k, wt X k = 0
  · have hw : ∀ k, wt X k = 0 := fun k =>
      (Finset.sum_eq_zero_iff_of_nonneg (fun k _ => wt_nonneg X k)).1 hl k (Finset.mem_univ k)
    have ha : ∀ e, after X V e = ⊥ := fun e => by
      unfold after
      rw [hl, Finset.sum_eq_zero (fun k _ => by rw [hw k, mul_zero]), div_zero_zero]
    have hb : ∀ e, before X V e = ∑ k, ⊥ * V e k := fun e => by
      unfold before
      exact Finset.sum_congr rfl fun k _ => by rw [hl, hw k, div_zero_zero]
    rw [normAt_of_top _ d d (by rw [ha]; exact EReal.bot_mul_bot)]
    rcases sum_cases Finset.univ (fun k => ⊥ * V d k) (fun k => bot_mul_cases _) with e | e | e
    · unfold normAt
      rw [hb d, e, zero_mul]
    · exact (normAt_of_top _ d d (by rw [hb, e]; exact EReal.top_mul_top)).symm
    · exact (normAt_of_top _ d d (by rw [hb, e]; exact EReal.bot_mul_bot)).symm
  · have he : after X V = before X V := funext fun e => by
      unfold after before Ideal.div
      simp only [if_neg hl]
      rw [mul_comm, mul_sum _ _ (EReal.inv_nonneg_of_nonneg (Finset.sum_nonneg fun k _ => wt_nonneg X k)) (inv_ne_top _)]
      exact Finset.sum_congr rfl fun k _ => by rw [mul_comm (V e k), ← mul_assoc, mul_comm (wt X k)]
    rw [he]

end

end Cert.Attn
-- ==== Proof.OutAt.lean ====
/- The kernel's result read entry by entry, over the extended reals: the block a point writes is, at each query and channel,
   the normed and scaled mean of one head. -/
module

public import proofs.«01_k».proof.Proof.StepAt
public import proofs.«01_k».proof.Proof.Attn
public import proofs.«01_k».proof.Proof.Quiet

@[expose] public section

set_option synthInstance.maxSize 4096
set_option maxRecDepth 100000

noncomputable section

namespace Cert.KernelIdeal

open Idealize.ShloMosaic Idealize.ShloMosaic.TcCoe Idealize.SL.Sem
open VecWindow (window put)
open Facts₀ Facts

/-! ## What the result is, from the arguments -/

section
variable (A0 A1 : FVec Ideal S2x16896x2048 .bf16) (A2 : FVec Ideal S2x1024x16896 .bf16) (A3 : FVec Ideal S1056 .f32) (A4 : IVec S264 32)
  (A5 : FVec Ideal S8x1x128 .f32)

/-- The first tile that the queries of tile `T` see, in the pair of heads of head `h`. -/
def firstTile (b : Fin 2) (h : Fin 8) (T : ℕ) : ℕ :=
  (A4 (ix1 ⟨b.val * 132 + h.val / 2 * 33 + min T 32, by have := b.isLt; have := h.isLt; omega⟩)).toNat

/-- The number of tile `T` in head `h`. -/
def number (b : Fin 2) (h : Fin 8) (T : ℕ) : EReal :=
  A3 (ix1 ⟨b.val * 528 + min T 32 * 16 + h.val, by have := b.isLt; have := h.isLt; omega⟩)

/-- A score. -/
def dots (b : Fin 2) (h : Fin 8) (q k : Fin 16896) : EReal :=
  ∑ x : Fin 256, A0 (ix3 b q ⟨h.val * 256 + x.val, by have := h.isLt; have := x.isLt; omega⟩)
    * A1 (ix3 b k ⟨h.val * 256 + x.val, by have := h.isLt; have := x.isLt; omega⟩)

/-- A score, moved by the difference of its tiles' numbers, where the query sees the key. -/
def moved (b : Fin 2) (h : Fin 8) (q k : Fin 16896) : EReal :=
  if k.val ≤ q.val ∧ firstTile A4 b h (q.val / 512) * 512 ≤ k.val then
    dots A0 A1 b h q k + (if q.val / 512 = k.val / 512 then 0 else number A3 b h (q.val / 512) - number A3 b h (k.val / 512))
  else ⊥

/-- A head's values. -/
def vals (b : Fin 2) (h : Fin 8) (d : Fin 128) (k : Fin 16896) : EReal :=
  A2 (ix3 b ⟨h.val * 128 + d.val, by have := h.isLt; have := d.isLt; omega⟩ k)

/-- The head of a channel of the result. -/
def headOf (y : Fin 1024) : Fin 8 := ⟨y.val / 128, by have := y.isLt; omega⟩

/-- A channel's place in its head. -/
def chanOf (y : Fin 1024) : Fin 128 := ⟨y.val % 128, Nat.mod_lt _ (by norm_num)⟩

/-- An entry of the result. -/
def entry (b : Fin 2) (q : Fin 16896) (y : Fin 1024) : EReal :=
  Attn.normAt (Attn.after (moved A0 A1 A3 A4 b (headOf y) q) (vals A2 b (headOf y))) (chanOf y) * A5 (ix3 (headOf y) 0 (chanOf y))

end

/-! ## Windows at an index -/

theorem window_at {s : Shape} {α : Type} (X : s.Idx → α) (off sz : Fin s.rank → Nat) (inb : ∀ a, off a + sz a ≤ s.size a)
    (y : (a : Fin s.rank) → Fin (sz a)) (z : s.Idx) (h : ∀ a, (z a).val = off a + (y a).val) : window X off sz inb y = X z := by
  unfold window
  refine congrArg X (funext fun a => Fin.ext ?_)
  rw [Rect.emb_apply, h a]
  show off a + 1 * (y a).val = _
  omega

theorem keyAt_apply (XK : Vec Ideal S1x16896x512 .bf16) (h : Fin 2) (T : ℕ) (j : Fin 512) (e : Fin 256) :
    keyAt XK h T (ix3 0 j e) = XK (ix3 0 (Running.spot T j) ⟨256 * h.val + e.val, by have := h.isLt; have := e.isLt; omega⟩) :=
  window_at XK _ _ _ _ _ (by intro a; fin_cases a <;> rfl)

theorem qry_apply (XQ : Vec Ideal S1x512x512 .bf16) (h : Fin 2) (p : Fin 512) (e : Fin 256) :
    qry XQ h (ix3 0 p e) = XQ (ix3 0 p ⟨256 * h.val + e.val, by have := h.isLt; have := e.isLt; omega⟩) :=
  window_at XQ _ _ _ _ _ (by intro a; fin_cases a <;> first | rfl | exact (Nat.zero_add _).symm)

theorem valAt_apply (XV : Vec Ideal S1x256x16896 .bf16) (h : Fin 2) (T : ℕ) (d : Fin 128) (j : Fin 512) :
    valAt XV h T (ix3 0 d j) = XV (ix3 0 ⟨128 * h.val + d.val, by have := h.isLt; have := d.isLt; omega⟩ (Running.spot T j)) :=
  window_at XV _ _ _ _ _ (by intro a; fin_cases a <;> rfl)

theorem cAt_apply (XC : Vec Ideal S1056 .f32) (i : grid0.Coords) (h : Fin 2) (T : ℕ) :
    cAt XC i h T = XC (ix1 ⟨cIdx i h.val (min T 32), Nat.lt_of_succ_le (cIdx_lt i h T)⟩) :=
  window_at XC _ _ _ _ _ (by intro a; fin_cases a; rfl)

theorem scAt_apply (XK : Vec Ideal S1x16896x512 .bf16) (XQ : Vec Ideal S1x512x512 .bf16) (h : Fin 2) (T : ℕ) (j p : Fin 512) :
    scAt XK XQ h T (ix2 j p) = ∑ e : Fin 256, keyAt XK h T (ix3 0 j e) * qry XQ h (ix3 0 p e) := by
  unfold scAt scores
  pointwise

/-! ## The rows' ends -/

theorem outRows_apply (n : Vec Ideal S1x128x512 .f32) (l : Vec Ideal S1x1x512 .f32) (g : Vec Ideal S1x1x128 .f32) (p : Fin 512) (d : Fin 128) :
    outRows n l g (ix3 0 p d)
      = Attn.normAt (fun x => Ideal.div (n (ix3 0 x p)) (l (ix3 0 0 p))) d * g (ix3 0 0 d) := by
  unfold outRows Attn.normAt
  pointwise

theorem accRows_apply (a : Vec Ideal S1x144x512 .f32) (d : Fin 128) (p : Fin 512) :
    accRows a (ix3 0 d p) = a (ix3 0 ⟨d.val, by have := d.isLt; omega⟩ p) :=
  window_at a _ _ _ _ _ (by intro x; fin_cases x <;> exact (Nat.zero_add _).symm)

theorem accSum_apply (a : Vec Ideal S1x144x512 .f32) (p : Fin 512) : accSum a (ix3 0 0 p) = a (ix3 0 128 p) :=
  window_at a _ _ _ _ _ (by intro x; fin_cases x <;> first | rfl | exact (Nat.zero_add _).symm)

theorem gain_apply (XG : Vec Ideal S2x1x128 .f32) (o : Fin 3 → ℕ) (h : Fin 2) (inb : ∀ a, o a + S1x1x128.size a ≤ S2x1x128.size a)
    (ho : o = ![h.val, 0, 0]) (d : Fin 128) : window XG o S1x1x128.size inb (ix3 0 0 d) = XG (ix3 h 0 d) := by
  subst ho
  exact window_at XG _ _ _ _ _ (by intro x; fin_cases x <;> first | rfl | exact (Nat.zero_add _).symm)

theorem outBlock_apply (XG : Vec Ideal S2x1x128 .f32) (a : Fin 2 → Vec Ideal S1x144x512 .f32) (p : Fin 512) (h : Fin 2) (d : Fin 128) :
    outBlock XG (a 0) (a 1) (ix3 0 p ⟨h.val * 128 + d.val, by have := h.isLt; have := d.isLt; omega⟩)
      = Attn.normAt (fun x => Ideal.div (a h (ix3 0 ⟨x.val, by have := x.isLt; omega⟩ p)) (a h (ix3 0 128 p))) d * XG (ix3 h 0 d) := by
  have e0 : window (outBlock XG (a 0) (a 1)) ![0, 0, 0] S1x512x128.size (by intro x; fin_cases x <;> decide)
      = outRows (accRows (a 0)) (accSum (a 0)) (window XG ![0, 0, 0] S1x1x128.size inb_S2x1x128_S1x1x128_0_0_0) := by
    unfold outBlock
    rw [VecWindow.window_put_of_disjoint _ _ _ _ _ _ _ 2 (.inl (by decide))]
    exact VecWindow.window_put_same _ _ _ _ _
  have e1 : window (outBlock XG (a 0) (a 1)) ![0, 0, 128] S1x512x128.size (by intro x; fin_cases x <;> decide)
      = outRows (accRows (a 1)) (accSum (a 1)) (window XG ![1, 0, 0] S1x1x128.size inb_S2x1x128_S1x1x128_1_0_0) := by
    unfold outBlock
    exact VecWindow.window_put_same _ _ _ _ _
  have hr : ∀ h' : Fin 2, outRows (accRows (a h')) (accSum (a h')) (window XG ![h'.val, 0, 0] S1x1x128.size (by
        have := h'.isLt; intro x; fin_cases x <;> simp [Shape.size] <;> omega)) (ix3 0 p d)
      = Attn.normAt (fun x => Ideal.div (a h' (ix3 0 ⟨x.val, by have := x.isLt; omega⟩ p)) (a h' (ix3 0 128 p))) d * XG (ix3 h' 0 d) := fun h' => by
    rw [outRows_apply, gain_apply XG _ h' _ rfl]
    simp only [accRows_apply, accSum_apply]
  rw [← hr h]
  match h with
  | 0 =>
    refine Eq.trans ?_ (congrFun e0 (ix3 0 p d))
    exact (window_at _ _ _ _ _ _ (by intro x; fin_cases x <;> simp)).symm
  | 1 =>
    refine Eq.trans ?_ (congrFun e1 (ix3 0 p d))
    exact (window_at _ _ _ _ _ _ (by intro x; fin_cases x <;> simp)).symm

end Cert.KernelIdeal
-- ==== Proof.Whole.lean ====
/- The kernel's result is, at every entry, the normed and scaled mean: each point's block by the arguments, and the blocks
   cover the result. -/
module

public import proofs.«01_k».proof.Proof.OutAt

@[expose] public section

set_option synthInstance.maxSize 4096
set_option maxRecDepth 100000

noncomputable section

namespace Cert.KernelIdeal

open Idealize.ShloMosaic Idealize.ShloMosaic.TcCoe Idealize.SL.Sem
open VecWindow (window put)
open Facts₀ Facts

variable (m : (ℓ : Loc nD τ sig) → Buf (Elt Ideal) ℓ) (c : Dev nD) (t : Fin cfg0.N)

/-! ## The arguments -/

abbrev ar0 : FVec Ideal S2x16896x2048 .bf16 := m ((c.tc : Thread nD τ).loc main_arg0)
abbrev ar1 : FVec Ideal S2x16896x2048 .bf16 := m ((c.tc : Thread nD τ).loc main_arg1)
abbrev ar2 : FVec Ideal S2x1024x16896 .bf16 := m ((c.tc : Thread nD τ).loc main_arg2)
abbrev ar3 : FVec Ideal S1056 .f32 := m ((c.tc : Thread nD τ).loc main_arg3)
abbrev ar4 : IVec S264 32 := m ((c.tc : Thread nD τ).loc main_arg4)
abbrev ar5 : FVec Ideal S8x1x128 .f32 := m ((c.tc : Thread nD τ).loc main_arg5)

/-! ## A point's batch, heads and queries -/

/-- The batch of a point. -/
def batchOf : Fin 2 := ⟨t.val / 132, by have := points t; omega⟩

/-- A head of a point. -/
def headAt (h : Fin 2) : Fin 8 := ⟨t.val / 33 % 4 * 2 + h.val, by have := h.isLt; omega⟩

/-- A query of a point. -/
def queryAt (p : Fin 512) : Fin 16896 := ⟨t.val % 33 * 512 + p.val, by have := p.isLt; omega⟩

/-! ## The blocks at an index -/

theorem blk2_apply (p : Fin 512) (h : Fin 2) (e : Fin 256) :
    (Gen.iblk m c 2 t : Vec Ideal S1x512x512 .bf16) (ix3 0 p ⟨256 * h.val + e.val, by have := h.isLt; have := e.isLt; omega⟩)
      = ar0 m c (ix3 (batchOf t) (queryAt t p) ⟨(headAt t h).val * 256 + e.val, by have := (headAt t h).isLt; have := e.isLt; omega⟩) := by
  show Gen.V m c main_arg0 ((win0_2.rect t).emb _) = Gen.V m c main_arg0 _
  congr 1
  funext a
  apply Fin.ext
  rw [Pipeline.Window.rect_emb_val win0_2 t _ a]
  have := points t
  fin_cases a
  · show (BitVec.ofNat 32 (grid0.coords t 0).val).toNat * 1 + 0 = t.val / 132
    rw [ofNat_toNat (by rw [coord0]; omega), coord0]; omega
  · show (BitVec.ofNat 32 (grid0.coords t 2).val).toNat * 512 + p.val = t.val % 33 * 512 + p.val
    rw [ofNat_toNat (by rw [coord2]; omega), coord2]
  · show (BitVec.ofNat 32 (grid0.coords t 1).val).toNat * 512 + (256 * h.val + e.val) = (t.val / 33 % 4 * 2 + h.val) * 256 + e.val
    rw [ofNat_toNat (by rw [coord1]; omega), coord1]; omega

theorem blk4_apply (k : Fin 16896) (h : Fin 2) (e : Fin 256) :
    (Gen.iblk m c 4 t : Vec Ideal S1x16896x512 .bf16) (ix3 0 k ⟨256 * h.val + e.val, by have := h.isLt; have := e.isLt; omega⟩)
      = ar1 m c (ix3 (batchOf t) k ⟨(headAt t h).val * 256 + e.val, by have := (headAt t h).isLt; have := e.isLt; omega⟩) := by
  show Gen.V m c main_arg1 ((win0_4.rect t).emb _) = Gen.V m c main_arg1 _
  congr 1
  funext a
  apply Fin.ext
  rw [Pipeline.Window.rect_emb_val win0_4 t _ a]
  have := points t
  fin_cases a
  · show (BitVec.ofNat 32 (grid0.coords t 0).val).toNat * 1 + 0 = t.val / 132
    rw [ofNat_toNat (by rw [coord0]; omega), coord0]; omega
  · show 0 * 16896 + k.val = k.val
    omega
  · show (BitVec.ofNat 32 (grid0.coords t 1).val).toNat * 512 + (256 * h.val + e.val) = (t.val / 33 % 4 * 2 + h.val) * 256 + e.val
    rw [ofNat_toNat (by rw [coord1]; omega), coord1]; omega

theorem blk5_apply (h : Fin 2) (d : Fin 128) (k : Fin 16896) :
    (Gen.iblk m c 5 t : Vec Ideal S1x256x16896 .bf16) (ix3 0 ⟨128 * h.val + d.val, by have := h.isLt; have := d.isLt; omega⟩ k)
      = vals (ar2 m c) (batchOf t) (headAt t h) d k := by
  unfold vals
  show Gen.V m c main_arg2 ((win0_5.rect t).emb _) = Gen.V m c main_arg2 _
  congr 1
  funext a
  apply Fin.ext
  rw [Pipeline.Window.rect_emb_val win0_5 t _ a]
  have := points t
  fin_cases a
  · show (BitVec.ofNat 32 (grid0.coords t 0).val).toNat * 1 + 0 = t.val / 132
    rw [ofNat_toNat (by rw [coord0]; omega), coord0]; omega
  · show (BitVec.ofNat 32 (grid0.coords t 1).val).toNat * 256 + (128 * h.val + d.val) = (t.val / 33 % 4 * 2 + h.val) * 128 + d.val
    rw [ofNat_toNat (by rw [coord1]; omega), coord1]; omega
  · show 0 * 16896 + k.val = k.val
    omega

theorem blk6_apply (h : Fin 2) (d : Fin 128) :
    (Gen.iblk m c 6 t : Vec Ideal S2x1x128 .f32) (ix3 h 0 d) = ar5 m c (ix3 (headAt t h) 0 d) := by
  show Gen.V m c main_arg5 ((win0_6.rect t).emb _) = Gen.V m c main_arg5 _
  congr 1
  funext a
  apply Fin.ext
  rw [Pipeline.Window.rect_emb_val win0_6 t _ a]
  have := points t
  fin_cases a
  · show (BitVec.ofNat 32 (grid0.coords t 1).val).toNat * 2 + h.val = t.val / 33 % 4 * 2 + h.val
    rw [ofNat_toNat (by rw [coord1]; omega), coord1]
  · rfl
  · show 0 * 128 + d.val = d.val
    omega

theorem number_eq (h : Fin 2) (T : ℕ) :
    cAt (Gen.iblk m c 0 t) (grid0.coords t) h T = number (ar3 m c) (batchOf t) (headAt t h) T := by
  rw [cAt_apply, iblk0]
  unfold number
  refine congrArg (ar3 m c) (funext fun a => Fin.ext ?_)
  have := points t
  fin_cases a
  show (grid0.coords t 0).val * 528 + (grid0.coords t 1).val * 2 + h.val + 16 * min T 32
    = t.val / 132 * 528 + min T 32 * 16 + (t.val / 33 % 4 * 2 + h.val)
  rw [coord0, coord1]; omega

theorem firstOf_eq (h : Fin 2) : firstOf m c t = firstTile (ar4 m c) (batchOf t) (headAt t h) (t.val % 33) := by
  unfold firstOf firstAt firstTile
  refine congrArg BitVec.toNat (window_at _ _ _ _ _ _ ?_)
  have := points t
  have := h.isLt
  intro a
  fin_cases a
  show t.val / 132 * 132 + (t.val / 33 % 4 * 2 + h.val) / 2 * 33 + min (t.val % 33) 32
    = ((grid0.coords t 0).val * 4 + (grid0.coords t 1).val) * 33 + min (grid0.coords t 2).val 32 + 0
  rw [coord0, coord1, coord2]; omega

/-! ## A query's exponents and values, tile by tile -/

theorem scAt_eq (h : Fin 2) (T : ℕ) (j p : Fin 512) :
    scAt (Gen.iblk m c 4 t) (Gen.iblk m c 2 t) h T (ix2 j p)
      = dots (ar0 m c) (ar1 m c) (batchOf t) (headAt t h) (queryAt t p) (Running.spot T j) := by
  rw [scAt_apply]
  unfold dots
  refine Finset.sum_congr rfl fun e _ => ?_
  rw [keyAt_apply, qry_apply, blk4_apply, blk2_apply, mul_comm]

theorem tileX_eq (h : Fin 2) (T : ℕ) (hT : T < 33) (j p : Fin 512) :
    tileX (Gen.iblk m c 0 t) (Gen.iblk m c 2 t) (Gen.iblk m c 4 t) (grid0.coords t) (firstOf m c t) h p T j
      = moved (ar0 m c) (ar1 m c) (ar3 m c) (ar4 m c) (batchOf t) (headAt t h) (queryAt t p) (Running.spot T j) := by
  unfold tileX moved
  rw [scAt_eq, number_eq, number_eq, firstOf_eq m c t h, coord2]
  have hp := p.isLt
  have hj := j.isLt
  have hq : (queryAt t p).val = t.val % 33 * 512 + p.val := rfl
  have hk : (Running.spot T j).val = 512 * T + j.val := by
    show 512 * min T 32 + j.val = _
    omega
  have eq : (queryAt t p).val / 512 = t.val % 33 := by omega
  have ek : (Running.spot T j).val / 512 = T := by omega
  rw [eq, ek]
  generalize firstTile (ar4 m c) (batchOf t) (headAt t h) (t.val % 33) = f
  by_cases h1 : T < f
  · rw [if_pos h1, if_neg (by omega)]
  rw [if_neg h1]
  by_cases h2 : T < t.val % 33
  · rw [if_pos h2, if_pos (by omega), if_neg (by omega)]
  rw [if_neg h2]
  by_cases h3 : T = t.val % 33
  · rw [if_pos h3]
    by_cases h4 : j.val ≤ p.val
    · rw [if_pos h4, if_pos (by omega), if_pos h3.symm, add_zero]
    · rw [if_neg h4, if_neg (by omega)]
  · rw [if_neg h3, if_neg (by omega)]

theorem tileV_eq (h : Fin 2) (T : ℕ) (d : Fin 128) (j : Fin 512) :
    tileV (Gen.iblk m c 5 t) h ⟨d.val, by have := d.isLt; omega⟩ T j = vals (ar2 m c) (batchOf t) (headAt t h) d (Running.spot T j) := by
  unfold tileV withOnes
  rw [dif_pos d.isLt, valAt_apply]
  exact blk5_apply m c t h d _

theorem tileV_one (h : Fin 2) (T : ℕ) (j : Fin 512) : tileV (Gen.iblk m c 5 t) h 128 T j = 1 := by
  unfold tileV withOnes
  exact dif_neg (by norm_num)

/-! ## A point's block -/

theorem acc_eq (hm : FirstOk m) (h : Fin 2) (p : Fin 512) (r : Fin 144) (w : Fin 16896 → EReal)
    (hw : ∀ T, T < 33 → ∀ j, tileV (Gen.iblk m c 5 t) h r T j = w (Running.spot T j)) :
    (afterDiag (Gen.iblk m c 0 t) (Gen.iblk m c 2 t) (Gen.iblk m c 4 t) (Gen.iblk m c 5 t) (grid0.coords t) (firstOf m c t) h).a (ix3 0 r p)
      = ∑ k, w k * Attn.wt (moved (ar0 m c) (ar1 m c) (ar3 m c) (ar4 m c) (batchOf t) (headAt t h) (queryAt t p)) k := by
  rw [after_eq _ _ _ _ _ _ _ (firstOf_le m hm c t), Running.sum_tiles]
  unfold Running.total Attn.wt
  refine Finset.sum_congr rfl fun T hT => Finset.sum_congr rfl fun j _ => ?_
  have hT' := (Finset.mem_Ico.1 hT).2
  rw [hw T hT' j, tileX_eq m c t h T hT', Running.sup_tiles]
  congr 3
  unfold Running.top
  refine Finset.sup_congr rfl fun T hT => Finset.sup_congr rfl fun j _ => ?_
  exact tileX_eq m c t h T (Finset.mem_Ico.1 hT).2 j p

theorem outAt_apply (hm : FirstOk m) (p : Fin 512) (h : Fin 2) (d : Fin 128) :
    outAt m c t (ix3 0 p ⟨h.val * 128 + d.val, by have := h.isLt; have := d.isLt; omega⟩)
      = entry (ar0 m c) (ar1 m c) (ar2 m c) (ar3 m c) (ar4 m c) (ar5 m c) (batchOf t) (queryAt t p)
          ⟨(headAt t h).val * 128 + d.val, by have := (headAt t h).isLt; have := d.isLt; omega⟩ := by
  have hd := d.isLt
  have eh : headOf ⟨(headAt t h).val * 128 + d.val, by have := (headAt t h).isLt; omega⟩ = headAt t h := Fin.ext (by
    show ((headAt t h).val * 128 + d.val) / 128 = _
    omega)
  have ed : chanOf ⟨(headAt t h).val * 128 + d.val, by have := (headAt t h).isLt; omega⟩ = d := Fin.ext (by
    show ((headAt t h).val * 128 + d.val) % 128 = _
    omega)
  unfold entry outAt
  rw [eh, ed, ← blk6_apply m c t h d]
  refine (outBlock_apply (Gen.iblk m c 6 t)
    (fun h => (afterDiag (Gen.iblk m c 0 t) (Gen.iblk m c 2 t) (Gen.iblk m c 4 t) (Gen.iblk m c 5 t) (grid0.coords t) (firstOf m c t) h).a) p h d).trans ?_
  refine congrArg (· * _) (congrArg (fun o => Attn.normAt o d) (funext fun x => ?_))
  unfold Attn.after
  rw [acc_eq m c t hm h p ⟨x.val, _⟩ (vals (ar2 m c) (batchOf t) (headAt t h) x) (fun T _ j => tileV_eq m c t h T x j),
    acc_eq m c t hm h p 128 (fun _ => 1) (fun T _ j => tileV_one m c t h T j)]
  simp only [one_mul]

/-! ## The result -/

/-- The result, from the arguments. -/
def whole : FVec Ideal S2x16896x1024 .bf16 := fun x =>
  entry (ar0 m c) (ar1 m c) (ar2 m c) (ar3 m c) (ar4 m c) (ar5 m c) (x 0) (x 1) (x 2)

theorem emb7 (y : S1x512x256.Idx) : ((win0_7.rect t).emb y : S2x16896x1024.Idx)
    = ix3 (batchOf t) (queryAt t (y 1)) ⟨t.val / 33 % 4 * 256 + (y 2).val, by have : (y 2).val < 256 := (y 2).isLt; omega⟩ := by
  funext a
  apply Fin.ext
  rw [Pipeline.Window.rect_emb_val win0_7 t _ a]
  have := points t
  have h0 : (y 0).val < 1 := (y 0).isLt
  fin_cases a
  · show (BitVec.ofNat 32 (grid0.coords t 0).val).toNat * 1 + (y 0).val = t.val / 132
    rw [ofNat_toNat (by rw [coord0]; omega), coord0]; omega
  · show (BitVec.ofNat 32 (grid0.coords t 2).val).toNat * 512 + (y 1).val = t.val % 33 * 512 + (y 1).val
    rw [ofNat_toNat (by rw [coord2]; omega), coord2]
  · show (BitVec.ofNat 32 (grid0.coords t 1).val).toNat * 256 + (y 2).val = t.val / 33 % 4 * 256 + (y 2).val
    rw [ofNat_toNat (by rw [coord1]; omega), coord1]

theorem outAt_eq (hm : FirstOk m) (y : S1x512x256.Idx) : outAt m c t y = whole m c ((win0_7.rect t).emb y) := by
  have h0 : (y 0).val < 1 := (y 0).isLt
  have h2 : (y 2).val < 256 := (y 2).isLt
  have h := outAt_apply m c t hm (y 1) ⟨(y 2).val / 128, by omega⟩ ⟨(y 2).val % 128, by omega⟩
  have e : y = ix3 0 (y 1) ⟨(y 2).val / 128 * 128 + (y 2).val % 128, by omega⟩ := by
    funext a
    apply Fin.ext
    fin_cases a
    · show (y 0).val = 0
      omega
    · rfl
    · show (y 2).val = (y 2).val / 128 * 128 + (y 2).val % 128
      omega
  rw [emb7]
  refine (congrArg (outAt m c t) e).trans (h.trans ?_)
  unfold whole
  refine congrArg (entry _ _ _ _ _ _ (batchOf t) (queryAt t (y 1))) (Fin.ext ?_)
  show (t.val / 33 % 4 * 2 + (y 2).val / 128) * 128 + (y 2).val % 128 = t.val / 33 % 4 * 256 + (y 2).val
  omega

theorem result_eq (hm : FirstOk m) : result m c = whole m c := by
  refine (dats m 0 c).arrAt_eq_of_cover 7 (whole m c : Buf (Elt Ideal) ((c.tc : Thread nD τ).loc main_v0)) (fun t _ => ?_) (fun i => ?_)
  · funext y
    exact outAt_eq m c t hm y
  · have h0 : (i 0).val < 2 := (i 0).isLt
    have h1 : (i 1).val < 16896 := (i 1).isLt
    have h2 : (i 2).val < 1024 := (i 2).isLt
    have hN : cfg0.N = 264 := Gen.N_0
    let t : Fin cfg0.N := ⟨(i 0).val * 132 + (i 2).val / 256 * 33 + (i 1).val / 512, by rw [hN]; omega⟩
    let y : S1x512x256.Idx := ix3 0 ⟨(i 1).val % 512, Nat.mod_lt _ (by norm_num)⟩ ⟨(i 2).val % 256, Nat.mod_lt _ (by norm_num)⟩
    have ht : t.val = (i 0).val * 132 + (i 2).val / 256 * 33 + (i 1).val / 512 := rfl
    have e : (win0_7.rect t).emb y = i := by
      rw [emb7]
      funext a
      apply Fin.ext
      fin_cases a
      · show t.val / 132 = (i 0).val
        omega
      · show t.val % 33 * 512 + (i 1).val % 512 = (i 1).val
        omega
      · show t.val / 33 % 4 * 256 + (i 2).val % 256 = (i 2).val
        omega
    refine ⟨t, Gen.flush0_7 t, ?_⟩
    have h := ((cfg0.win 7).blk t).view.emb_mem_set y
    exact (show ((cfg0.win 7).blk t).view.emb y = i from e) ▸ h

end Cert.KernelIdeal
-- ==== Proof.RefAt.lean ====
/- The reference's result read entry by entry, over the extended reals: masked moved scores, their weights, the weighted
   means of the values, normed and scaled. -/
module

public import proofs.«01_k».proof.Proof.Gen.ReferenceIdeal.Run
public import proofs.«01_k».proof.Proof.OutAt
public import Idealize.ShloMosaic.Lib.Pointwise
public import Idealize.ShloMosaic.Lib.WordCmp

@[expose] public section

set_option synthInstance.maxSize 4096
set_option maxRecDepth 100000

noncomputable section

namespace Cert.ReferenceIdeal

open Cert.ReferenceIdeal.Gen Idealize.ShloMosaic Idealize.ShloMosaic.TcCoe

/-! ## The reference in stages -/

/-- Which keys a query sees. -/
def keep (A4 : IVec S264 32) : IVec S2x8x16896x16896 1 :=
  (andi (broadcastInDim S2x8x16896x16896 ![0, 1, 2, 3] bcast_S1x1x16896x16896_S2x8x16896x16896_0_1_2_3 (broadcastInDim S1x1x16896x16896 ![2, 3]
  bcast_S16896x16896_S1x1x16896x16896_2_3 (cmpi .sle (broadcastInDim S16896x16896 ![0, 1] bcast_S1x16896_S16896x16896_0_1 (broadcastInDim S1x16896 ![1]
  bcast_S16896_S1x16896_1 (iotaInDim S16896 32 0))) (broadcastInDim S16896x16896 ![0, 1] bcast_S16896x1_S16896x16896_0_1 (broadcastInDim S16896x1 ![0]
  bcast_S16896_S16896x1_0 (iotaInDim S16896 32 0)))))) (cmpi .sge (broadcastInDim S2x8x16896x16896 ![0, 1, 2, 3]
  bcast_S1x1x1x16896_S2x8x16896x16896_0_1_2_3 (broadcastInDim S1x1x1x16896 ![3] bcast_S16896_S1x1x1x16896_3 (iotaInDim S16896 32 0))) (broadcastInDim
  S2x8x16896x16896 ![0, 1, 2, 3] bcast_S2x8x16896x1_S2x8x16896x16896_0_1_2_3 (broadcastInDim S2x8x16896x1 ![0, 1, 2] bcast_S2x8x16896_S2x8x16896x1_0_1_2
  (shapeCast _ (broadcastInDim S2x4x2x16896 ![0, 1, 3] bcast_S2x4x16896_S2x4x2x16896_0_1_3 (muli (shapeCast _ (broadcastInDim S2x4x33x512 ![0, 1, 2]
  bcast_S2x4x33_S2x4x33x512_0_1_2 (shapeCast _ A4 shapeCasts_S264_S2x4x33)) shapeCasts_S2x4x33x512_S2x4x16896) (broadcastInDim S2x4x16896 ![]
  bcast_S_S2x4x16896 (constantI S_ 32 512#32)))) shapeCasts_S2x4x2x16896_S2x8x16896)))))

/-- The differences of the tiles' numbers, none within a tile. -/
def move (A3 : FVec Ideal S1056 .f32) : FVec Ideal S2x8x16896x16896 .f32 :=
  (select (broadcastInDim S2x8x16896x16896 ![0, 1, 2, 3] bcast_S1x1x16896x16896_S2x8x16896x16896_0_1_2_3 (broadcastInDim S1x1x16896x16896 ![2, 3]
  bcast_S16896x16896_S1x1x16896x16896_2_3 (cmpi .eq (broadcastInDim S16896x16896 ![0, 1] bcast_S16896x1_S16896x16896_0_1 (broadcastInDim S16896x1 ![0]
  bcast_S16896_S16896x1_0 (shapeCast _ (broadcastInDim S33x512 ![0] bcast_S33_S33x512_0 (iotaInDim S33 32 0)) shapeCasts_S33x512_S16896)))
  (broadcastInDim S16896x16896 ![0, 1] bcast_S1x16896_S16896x16896_0_1 (broadcastInDim S1x16896 ![1] bcast_S16896_S1x16896_1 (shapeCast _
  (broadcastInDim S33x512 ![0] bcast_S33_S33x512_0 (iotaInDim S33 32 0)) shapeCasts_S33x512_S16896)))))) (broadcastInDim S2x8x16896x16896 ![]
  bcast_S_S2x8x16896x16896 (id (constant S_ .f32 0x00000000#32))) (subf (broadcastInDim S2x8x16896x16896 ![0, 1, 2, 3]
  bcast_S2x8x16896x1_S2x8x16896x16896_0_1_2_3 (broadcastInDim S2x8x16896x1 ![0, 1, 2] bcast_S2x8x16896_S2x8x16896x1_0_1_2 (transpose S2x8x16896 [0, 2,
  1] (shapeCast _ (broadcastInDim S2x33x512x8 ![0, 1, 3] bcast_S2x33x8_S2x33x512x8_0_1_3 (extractStridedSlice S2x33x8 ![0, 0, 0] (shapeCast _ A3
  shapeCasts_S1056_S2x33x16) slices_S2x33x16_S2x33x8_0_0_0)) shapeCasts_S2x33x512x8_S2x16896x8) transposes_S2x16896x8_S2x8x16896_0_2_1)))
  (broadcastInDim S2x8x16896x16896 ![0, 1, 2, 3] bcast_S2x8x1x16896_S2x8x16896x16896_0_1_2_3 (broadcastInDim S2x8x1x16896 ![0, 1, 3]
  bcast_S2x8x16896_S2x8x1x16896_0_1_3 (transpose S2x8x16896 [0, 2, 1] (shapeCast _ (broadcastInDim S2x33x512x8 ![0, 1, 3]
  bcast_S2x33x8_S2x33x512x8_0_1_3 (extractStridedSlice S2x33x8 ![0, 0, 0] (shapeCast _ A3 shapeCasts_S1056_S2x33x16) slices_S2x33x16_S2x33x8_0_0_0))
  shapeCasts_S2x33x512x8_S2x16896x8) transposes_S2x16896x8_S2x8x16896_0_2_1)))))

/-- The scores. -/
def score (A0 A1 : FVec Ideal S2x16896x2048 .bf16) : FVec Ideal S2x8x16896x16896 .f32 :=
  (Host.dotGeneral dot_S2x16896x8x256_S2x16896x8x256_S2x8x16896x16896_3_3_1_1_02_02 none (shapeCast _ (extf .f32 A0 bitsLt_bf16_f32)
  shapeCasts_S2x16896x2048_S2x16896x8x256) (shapeCast _ (extf .f32 A1 bitsLt_bf16_f32) shapeCasts_S2x16896x2048_S2x16896x8x256))

/-- The scores, moved and masked. -/
def expo (A0 A1 : FVec Ideal S2x16896x2048 .bf16) (A3 : FVec Ideal S1056 .f32) (A4 : IVec S264 32) : FVec Ideal S2x8x16896x16896 .f32 :=
  (select (keep A4) (addf (score A0 A1) (move A3)) (broadcastInDim S2x8x16896x16896 ![] bcast_S_S2x8x16896x16896 (id (constant S_ .f32 0xFF800000#32))))

/-- The weights, not yet divided by their sum. -/
def weight (X : FVec Ideal S2x8x16896x16896 .f32) : FVec Ideal S2x8x16896x16896 .f32 :=
  (Host.exp (mulf (subf X (broadcastInDim S2x8x16896x16896 ![0, 1, 2, 3] bcast_S2x8x16896x1_S2x8x16896x16896_0_1_2_3 (broadcastInDim S2x8x16896x1 ![0,
  1, 2] bcast_S2x8x16896_S2x8x16896x1_0_1_2 (Host.reduce FloatOps.maximumf X (constant S_ .f32 0xFF800000#32) reducesTo_S2x8x16896x16896_S2x8x16896_d3
  h_S_)))) (broadcastInDim S2x8x16896x16896 ![] bcast_S_S2x8x16896x16896 (Host.log (constant S_ .f32 0x40000000#32)))))

/-- The weighted means of the values. -/
def mean (E : FVec Ideal S2x8x16896x16896 .f32) (A2 : FVec Ideal S2x1024x16896 .bf16) : FVec Ideal S2x8x16896x128 .f32 :=
  (Host.dotGeneral dot_S2x8x16896x16896_S2x8x128x16896_S2x8x16896x128_3_3_2_2_01_01 none (Host.divf E (broadcastInDim S2x8x16896x16896 ![0, 1, 2, 3]
  bcast_S2x8x16896x1_S2x8x16896x16896_0_1_2_3 (broadcastInDim S2x8x16896x1 ![0, 1, 2] bcast_S2x8x16896_S2x8x16896x1_0_1_2 (Host.reduceAdd E (constant S_
  .f32 0x00000000#32) reducesTo_S2x8x16896x16896_S2x8x16896_d3 h_S_)))) (shapeCast _ (extf .f32 A2 bitsLt_bf16_f32)
  shapeCasts_S2x1024x16896_S2x8x128x16896))

/-- The means, normed and scaled, in the result's layout. -/
def normed (O : FVec Ideal S2x8x16896x128 .f32) (A5 : FVec Ideal S8x1x128 .f32) : FVec Ideal S2x16896x1024 .bf16 :=
  truncf .bf16 (shapeCast _ (transpose S2x16896x8x128 [0, 2, 1, 3] (mulf (mulf O (broadcastInDim S2x8x16896x128 ![0, 1, 2, 3]
  bcast_S2x8x16896x1_S2x8x16896x128_0_1_2_3 (Host.rsqrt (addf (Host.divf (broadcastInDim S2x8x16896x1 ![0, 1, 2] bcast_S2x8x16896_S2x8x16896x1_0_1_2
  (Host.reduceAdd (mulf O O) (constant S_ .f32 0x00000000#32) reducesTo_S2x8x16896x128_S2x8x16896_d3 h_S_)) (broadcastInDim S2x8x16896x1 ![]
  bcast_S_S2x8x16896x1 (constant S_ .f32 0x43000000#32))) (broadcastInDim S2x8x16896x1 ![] bcast_S_S2x8x16896x1 (constant S_ .f32 0x358637BD#32))))))
  (broadcastInDim S2x8x16896x128 ![0, 1, 2, 3] bcast_S1x8x1x128_S2x8x16896x128_0_1_2_3 (broadcastInDim S1x8x1x128 ![1, 2, 3]
  bcast_S8x1x128_S1x8x1x128_1_2_3 A5))) transposes_S2x8x16896x128_S2x16896x8x128_0_2_1_3) shapeCasts_S2x16896x8x128_S2x16896x1024) bitsLt_bf16_f32

set_option maxHeartbeats 2000000 in
theorem res_eq (m : (ℓ : Loc nD τ sig) → Buf (Elt Ideal) ℓ) (c : Dev nD) :
    Value.res_main_v78 m c = normed (mean (weight (expo (m ((c.tc : Thread nD τ).loc main_arg0)) (m ((c.tc : Thread nD τ).loc main_arg1))
      (m ((c.tc : Thread nD τ).loc main_arg3)) (m ((c.tc : Thread nD τ).loc main_arg4)))) (m ((c.tc : Thread nD τ).loc main_arg2)))
      (m ((c.tc : Thread nD τ).loc main_arg5)) := by
  unfold normed mean weight expo score move keep
  rfl

/-! ## The stages at an index -/

variable (b : Fin 2) (h : Fin 8) (q k : Fin 16896) (d : Fin 128)

theorem keep_apply (A4 : IVec S264 32) (hA : ∀ x, (A4 x).toNat ≤ 32) :
    keep A4 (ix4 b h q k)
      = BitVec.ofBool (decide (k.val ≤ q.val ∧ KernelIdeal.firstTile A4 b h (q.val / 512) * 512 ≤ k.val)) := by
  have hq := q.isLt
  have hk := k.isLt
  have hb := b.isLt
  have hh := h.isLt
  unfold keep
  pointwise
  have e : A4 (ix1 ⟨b.val * 132 + h.val / 2 * 33 + q.val / 512, by omega⟩)
      = A4 (ix1 ⟨b.val * 132 + h.val / 2 * 33 + min (q.val / 512) 32, by omega⟩) := congrArg A4 (congrArg ix1 (Fin.ext (by
    show b.val * 132 + h.val / 2 * 33 + q.val / 512 = b.val * 132 + h.val / 2 * 33 + min (q.val / 512) 32
    omega)))
  rw [e]
  unfold KernelIdeal.firstTile
  have hw := hA (ix1 ⟨b.val * 132 + h.val / 2 * 33 + min (q.val / 512) 32, by omega⟩)
  generalize A4 (ix1 ⟨b.val * 132 + h.val / 2 * 33 + min (q.val / 512) 32, by omega⟩) = w at hw
  have hm : (IntOp.muli w 512#32).toNat = w.toNat * 512 := by
    show (w * 512#32).toNat = _
    rw [BitVec.toNat_mul]
    show w.toNat * 512 % 2 ^ 32 = _
    omega
  have hn : (BitVec.ofNat 32 k.val).toNat = k.val := by rw [BitVec.toNat_ofNat]; omega
  rw [WordCmp.cmpi_sle_ofNat (w := 32) (by omega) (by omega), WordCmp.cmpi_sge_of_lt (w := 32) (by rw [hn]; omega) (by rw [hm]; omega), hn, hm]
  by_cases h1 : k.val ≤ q.val <;> by_cases h2 : w.toNat * 512 ≤ k.val <;> simp [h1, h2] <;> rfl

theorem move_apply (A3 : FVec Ideal S1056 .f32) : move A3 (ix4 b h q k)
    = if q.val / 512 = k.val / 512 then 0
      else KernelIdeal.number A3 b h (q.val / 512) - KernelIdeal.number A3 b h (k.val / 512) := by
  have hq := q.isLt
  have hk := k.isLt
  have hb := b.isLt
  have hh := h.isLt
  have e : ∀ n : Fin 16896, A3 (ix1 ⟨b.val * 528 + n.val / 512 * 16 + h.val, by have := n.isLt; omega⟩) = KernelIdeal.number A3 b h (n.val / 512) := fun n =>
    congrArg A3 (congrArg ix1 (Fin.ext (by
      have := n.isLt
      show b.val * 528 + n.val / 512 * 16 + h.val = b.val * 528 + min (n.val / 512) 32 * 16 + h.val
      omega)))
  have hz : (id (constant (F := Ideal) S_ .f32 0x00000000#32) ix0 : EReal) = 0 := Ideal.ofBits_zero_f32
  unfold move
  pointwise
  rw [WordCmp.cmpi_eq_ofNat (w := 32) (by omega) (by omega), WordCmp.select_decide, e q, e k, hz]

theorem score_apply (A0 A1 : FVec Ideal S2x16896x2048 .bf16) : score A0 A1 (ix4 b h q k) = KernelIdeal.dots A0 A1 b h q k := by
  unfold score KernelIdeal.dots
  pointwise

theorem expo_apply (A0 A1 : FVec Ideal S2x16896x2048 .bf16) (A3 : FVec Ideal S1056 .f32) (A4 : IVec S264 32)
    (hA : ∀ x, (A4 x).toNat ≤ 32) : expo A0 A1 A3 A4 (ix4 b h q k) = KernelIdeal.moved A0 A1 A3 A4 b h q k := by
  have hz : (id (constant (F := Ideal) S_ .f32 0xFF800000#32) ix0 : EReal) = ⊥ := KernelIdeal.lowest
  unfold expo KernelIdeal.moved
  pointwise
  rw [keep_apply b h q k A4 hA, WordCmp.select_decide, score_apply, move_apply, hz]

theorem weight_apply (X : FVec Ideal S2x8x16896x16896 .f32) : weight X (ix4 b h q k) = Attn.wt (fun k => X (ix4 b h q k)) k := by
  unfold weight Attn.wt
  pointwise
  rw [Attn.exp_log_two, KernelIdeal.lowest]
  rfl

theorem mean_apply (X : FVec Ideal S2x8x16896x16896 .f32) (A2 : FVec Ideal S2x1024x16896 .bf16) :
    mean (weight X) A2 (ix4 b h q d) = Attn.before (fun k => X (ix4 b h q k)) (KernelIdeal.vals A2 b h) d := by
  unfold mean Attn.before KernelIdeal.vals
  pointwise
  simp only [weight_apply]

theorem normed_apply (O : FVec Ideal S2x8x16896x128 .f32) (A5 : FVec Ideal S8x1x128 .f32) (y : Fin 1024) :
    normed O A5 (ix3 b q y)
      = Attn.normAt (fun d => O (ix4 b (KernelIdeal.headOf y) q d)) (KernelIdeal.chanOf y)
        * A5 (ix3 (KernelIdeal.headOf y) 0 (KernelIdeal.chanOf y)) := by
  unfold normed Attn.normAt KernelIdeal.headOf KernelIdeal.chanOf
  pointwise

/-- The reference's result, entry by entry. -/
theorem res_apply (m : (ℓ : Loc nD τ sig) → Buf (Elt Ideal) ℓ) (c : Dev nD)
    (hA : ∀ x, ((m ((c.tc : Thread nD τ).loc main_arg4) : IVec S264 32) x).toNat ≤ 32) (y : Fin 1024) :
    (Value.res_main_v78 m c : FVec Ideal S2x16896x1024 .bf16) (ix3 b q y)
      = KernelIdeal.entry (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) b q y := by
  rw [res_eq, normed_apply]
  unfold KernelIdeal.entry
  rw [Attn.norm_eq]
  simp only [mean_apply]
  simp only [expo_apply b _ q _ _ _ _ _ hA]

end Cert.ReferenceIdeal
-- ==== Proof.Value.lean ====
/- The kernel's result is the reference's: both are the same entries of the same arguments. -/
module

public import proofs.«01_k».proof.Proof.Whole
public import proofs.«01_k».proof.Proof.RefAt

@[expose] public section

set_option maxRecDepth 100000

noncomputable section

namespace Cert.Proof

open Idealize.ShloMosaic Idealize.ShloMosaic.TcCoe Idealize.SL.Sem

/-- From equal arguments, the reference's result is the kernel's. -/
theorem res_eq_whole {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hm : Cert.KernelIdeal.FirstOk m) (c : Dev Cert.KernelIdeal.nD)
    (h0 : m' ((c.tc : Thread Cert.ReferenceIdeal.nD Cert.ReferenceIdeal.τ).loc Cert.ReferenceIdeal.main_arg0) = Cert.KernelIdeal.ar0 m c)
    (h1 : m' ((c.tc : Thread Cert.ReferenceIdeal.nD Cert.ReferenceIdeal.τ).loc Cert.ReferenceIdeal.main_arg1) = Cert.KernelIdeal.ar1 m c)
    (h2 : m' ((c.tc : Thread Cert.ReferenceIdeal.nD Cert.ReferenceIdeal.τ).loc Cert.ReferenceIdeal.main_arg2) = Cert.KernelIdeal.ar2 m c)
    (h3 : m' ((c.tc : Thread Cert.ReferenceIdeal.nD Cert.ReferenceIdeal.τ).loc Cert.ReferenceIdeal.main_arg3) = Cert.KernelIdeal.ar3 m c)
    (h4 : m' ((c.tc : Thread Cert.ReferenceIdeal.nD Cert.ReferenceIdeal.τ).loc Cert.ReferenceIdeal.main_arg4) = Cert.KernelIdeal.ar4 m c)
    (h5 : m' ((c.tc : Thread Cert.ReferenceIdeal.nD Cert.ReferenceIdeal.τ).loc Cert.ReferenceIdeal.main_arg5) = Cert.KernelIdeal.ar5 m c) :
    (Cert.ReferenceIdeal.Value.res_main_v78 m' c : FVec Ideal Cert.KernelIdeal.S2x16896x1024 .bf16) = Cert.KernelIdeal.whole m c := by
  funext x
  have e : x = ix3 (x 0) (x 1) (x 2) := by
    funext a
    fin_cases a <;> rfl
  refine (congrArg (Cert.ReferenceIdeal.Value.res_main_v78 m' c : FVec Ideal Cert.KernelIdeal.S2x16896x1024 .bf16) e).trans
    ((Cert.ReferenceIdeal.res_apply (x 0) (x 1) m' c (fun y => ?_) (x 2)).trans ?_)
  · rw [h4]
    exact (hm c y).trans (Nat.le_of_lt_succ (Nat.mod_lt _ (by norm_num)))
  · rw [h0, h1, h2, h3, h4, h5]
    rfl

theorem algebraic [Cert.Pre_tiles_in_range.Facts] : Cert.algebraic_KernelIdeal_ReferenceIdeal := fun m g m' g' hm hargs =>
  ⟨fun c => Cert.KernelIdeal.whole m c,
    (θ_run Cert.KernelIdeal.defs _ _).mono
      (fun _ h c => ⟨(h.1 c).1.trans (Cert.KernelIdeal.result_eq m c (firstOk hm)), (h.1 c).2⟩)
      (Cert.KernelIdeal.run_result m (firstOk hm) g),
    (θ_run Cert.ReferenceIdeal.defs _ _).mono
      (fun _ h c => ⟨(h c).1.trans (res_eq_whole (firstOk hm) c (hargs c).1 (hargs c).2.1 (hargs c).2.2.1 (hargs c).2.2.2.1
        (hargs c).2.2.2.2.1 (hargs c).2.2.2.2.2), (h c).2⟩)
      (Cert.ReferenceIdeal.Value.run (F := Ideal) m' g')⟩

end Cert.Proof
-- ==== Proof.Ffn.lean ====
/- The feed-forward kernel's copies: three pieces of the weights at a time, each into one of the two halves of its
   buffer, started one step before they are needed. -/
module

public import proofs.«01_k».proof.Proof.Gen.Kernel2Ideal.Skeleton
public import proofs.«01_k».proof.Proof.Gen.Kernel2Ideal.Frame
public import Idealize.ShloMosaic.Lib.Tactic
public import Idealize.ShloMosaic.Lib.VecWindow
public import Idealize.ShloMosaic.Lib.Pipeline.Kit
public import Idealize.ShloMosaic.Lib.Pipeline.Value

@[expose] public section

set_option synthInstance.maxSize 4096
set_option maxRecDepth 100000

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄G" => MT nD τ sig Unit (Elt F) ℕ (Pipeline.UD sig nD τ) ℕ

/-! ## One copy -/

/-- A copy under way: when it lands the destination holds what the source's part read, and the part comes back to its array. -/
def fly (c : Dev nD) {s : Shape} {e : EltTy} (src : Memref sig .tc .hbm s e) (dst : Memref sig .tc .vmem s e) (sem : DmaSem sig)
    (f : Buf (Elt F) (src.view.loc (c : Thread nD τ))) : sProp 𝕄G :=
  iprop(Transfers.Flight (countersEmb (U := Pipeline.UD sig nD τ)) (c : Thread nD τ) (.dma sem) () dst.view.dmaCredit
      iprop(ownsTc c dst fullShare (src.view.read (Elt F) f) ∗ (src.view.loc (c : Thread nD τ) ↦[src.view.set]{fullShare} f))
    ∗ (src.view.loc (c : Thread nD τ) ↦[Finset.univ \ src.view.set]{fullShare} f))

/-- A destination at rest. -/
def idle (c : Dev nD) {s : Shape} {e : EltTy} (dst : Memref sig .tc .vmem s e) (sem : DmaSem sig) : sProp 𝕄G :=
  iprop((∃ Y, ownsTc c dst fullShare Y) ∗ semVal ((c : Thread nD τ), SemLoc.dma sem) 0)

variable (c : Dev nD) (𝒱 : Variants) (bd : Option 𝒱.V)

theorem landed {s : Shape} {e : EltTy} (src : Memref sig .tc .hbm s e) (dst : Memref sig .tc .vmem s e)
    (f : Buf (Elt F) (src.view.loc (c : Thread nD τ))) (g : Buf (Elt F) (dst.view.loc (c : Thread nD τ))) :
    (iprop((dst.view.loc (c : Thread nD τ) ↦[dst.view.set]{fullShare} dst.view.write (Elt F) g (ReadAs.same.apply (src.view.read (Elt F) f)) Finset.univ)
      ∗ (src.view.loc (c : Thread nD τ) ↦[src.view.set]{fullShare} f)) : sProp 𝕄G)
      ⊢ iprop(ownsTc c dst fullShare (src.view.read (Elt F) f) ∗ (src.view.loc (c : Thread nD τ) ↦[src.view.set]{fullShare} f)) := by
  unfold ownsTc owns
  iintro ⟨HD, HS⟩
  isplitl [HD]
  · iexists _
    isplitr [HD]
    · ipureintro
      exact View.read_write_univ g (src.view.read (Elt F) f)
    · iexact HD
  · iexact HS

theorem copy_spec {s : Shape} {e : EltTy} (src : Memref sig .tc .hbm s e) (dst : Memref sig .tc .vmem s e) (sem : DmaSem sig)
    (h1 : src.view.WordExact) (h2 : dst.view.WordExact) (hpos : 0 < dst.view.dmaCredit) (f : Buf (Elt F) (src.view.loc (c : Thread nD τ))) :
    (iprop((src.view.loc (c : Thread nD τ) ↦{fullShare} f) ∗ idle c dst sem) : sProp 𝕄G)
      ⊢ wp frame (wpE (defs₀ (F := F)) 𝒱 (c : Thread nD τ) bd) Set.univ
        (Prog.lift (.enqueueDma src (.here dst) (.dma sem) h1 h2 ⟨Or.inl rfl, trivial⟩)) (fun _ => fly c src dst sem f) := by
  unfold idle ownsTc owns
  iintro ⟨HS, ⟨%Y, %g, %hg, HD⟩, HV⟩
  ihave HS' := (pointsTo_split_subset (Finset.subset_univ src.view.set)).1 $$ HS
  icases HS' with ⟨HS, HR⟩
  iapply (Transfers.wp_dmaLocal (countersEmb (U := Pipeline.UD sig nD τ)) 𝒱 (c : Thread nD τ) bd () dst.view.dmaCredit rfl hpos subset_rfl) $$ [HS HD HV]
  · isplitl [HS]; iexact HS
    isplitl [HD]; iexact HD
    iexact HV
  iintro HF
  sl_step
  unfold fly
  isplitl [HF]
  · iapply (Transfers.Flight_mono (countersEmb (U := Pipeline.UD sig nD τ)) (c : Thread nD τ) (landed c src dst f g)) $$ HF
  · iexact HR

theorem wait_spec {s : Shape} {e : EltTy} (src : Memref sig .tc .hbm s e) (dst : Memref sig .tc .vmem s e) (sem : DmaSem sig)
    (h1 : src.view.WordExact) (h2 : dst.view.WordExact) (f : Buf (Elt F) (src.view.loc (c : Thread nD τ))) :
    (iprop(fly c src dst sem f ∗ ∃ W, owes (c : Thread nD τ) 0 W) : sProp 𝕄G)
      ⊢ wp frame (wpE (defs₀ (F := F)) 𝒱 (c : Thread nD τ) bd) Set.univ
        (Prog.lift (.waitDma2 sem src dst h1 h2)) (fun _ => iprop((src.view.loc (c : Thread nD τ) ↦{fullShare} f)
          ∗ ownsTc c dst fullShare (src.view.read (Elt F) f) ∗ semVal ((c : Thread nD τ), SemLoc.dma sem) 0 ∗ ∃ W, owes (c : Thread nD τ) 0 W)) := by
  unfold fly
  iintro ⟨⟨HF, HR⟩, ⟨%W, HO⟩⟩
  iapply (Transfers.wp_waitLocal (countersEmb (U := Pipeline.UD sig nD τ)) 𝒱 (c : Thread nD τ) bd () rfl) $$ [HF HO]
  · isplitl [HF]; iexact HF
    iexact HO
  iintro ⟨⟨HD, HS⟩, HV, HO⟩
  sl_step
  isplitl [HS HR]
  · iapply (pointsTo_split_subset (Finset.subset_univ src.view.set)).2
    isplitl [HS]; iexact HS
    iexact HR
  isplitl [HD]; iexact HD
  isplitl [HV]; iexact HV
  iexists _; iexact HO

/-! ## The parts the copies go between -/

abbrev hnM : Memref sig .tc .vmem S1024x2048 .bf16 := Memref.whole cc0_scratch0
abbrev bgM : Memref sig .tc .vmem S2x2048x512 .bf16 := Memref.whole cc0_scratch1
abbrev buM : Memref sig .tc .vmem S2x2048x512 .bf16 := Memref.whole cc0_scratch2
abbrev bdM : Memref sig .tc .vmem S2x512x2048 .bf16 := Memref.whole cc0_scratch3
abbrev wgM : Memref sig .tc .hbm S2x2048x5632 .bf16 := Memref.whole main_arg2
abbrev wuM : Memref sig .tc .hbm S2x2048x5632 .bf16 := Memref.whole main_arg3
abbrev wdM : Memref sig .tc .hbm S2x5632x2048 .bf16 := Memref.whole main_arg4

abbrev InU (o : Fin 3 → Nat) : Prop := ∀ a, o a + S1x2048x512.size a ≤ S2x2048x512.size a
abbrev InD (o : Fin 3 → Nat) : Prop := ∀ a, o a + S1x512x2048.size a ≤ S2x512x2048.size a
abbrev InWU (o : Fin 3 → Nat) : Prop := ∀ a, o a + S1x2048x512.size a ≤ S2x2048x5632.size a
abbrev InWD (o : Fin 3 → Nat) : Prop := ∀ a, o a + S1x512x2048.size a ≤ S2x5632x2048.size a
abbrev InS (o : Fin 2 → Nat) : Prop := ∀ a, o a + S1x1.size a ≤ S3x2.size a

/-- One half of a buffer of columns; of a buffer of rows; a piece of columns; of rows; a counter. -/
abbrev halfU (B : Memref sig .tc .vmem S2x2048x512 .bf16) (o : Fin 3 → Nat) (h : InU o) : Memref sig .tc .vmem S2048x512 .bf16 :=
  (B.slice (Rect.unit (s := S2x2048x512) o S1x2048x512.size h) (fun _ => rfl)).squeeze S2048x512 squeezes_S1x2048x512_S2048x512
abbrev halfD (B : Memref sig .tc .vmem S2x512x2048 .bf16) (o : Fin 3 → Nat) (h : InD o) : Memref sig .tc .vmem S512x2048 .bf16 :=
  (B.slice (Rect.unit (s := S2x512x2048) o S1x512x2048.size h) (fun _ => rfl)).squeeze S512x2048 squeezes_S1x512x2048_S512x2048
abbrev pieceU (B : Memref sig .tc .hbm S2x2048x5632 .bf16) (o : Fin 3 → Nat) (h : InWU o) : Memref sig .tc .hbm S2048x512 .bf16 :=
  (B.slice (Rect.unit (s := S2x2048x5632) o S1x2048x512.size h) (fun _ => rfl)).squeeze S2048x512 squeezes_S1x2048x512_S2048x512
abbrev pieceD (B : Memref sig .tc .hbm S2x5632x2048 .bf16) (o : Fin 3 → Nat) (h : InWD o) : Memref sig .tc .hbm S512x2048 .bf16 :=
  (B.slice (Rect.unit (s := S2x5632x2048) o S1x512x2048.size h) (fun _ => rfl)).squeeze S512x2048 squeezes_S1x512x2048_S512x2048
abbrev semAt (o : Fin 2 → Nat) (h : InS o) : DmaSem sig :=
  ((cc0_scratch4.slice (Rect.unit (s := S3x2) o S1x1.size h)).squeeze S_ squeezes_S1x1_S_).sem

theorem loadU_spec (B : Memref sig .tc .vmem S2x2048x512 .bf16) (o : Fin 3 → Nat) (h : InU o) (X : Vec F S2048x512 .bf16) :
    (ownsTc c (halfU B o h) fullShare X : sProp 𝕄G)
      ⊢ wp frame (wpE (defs₀ (F := F)) 𝒱 (c : Thread nD τ) bd) Set.univ
        (Prog.lift (.load B (Rect.unit (s := S2x2048x512) o S1x2048x512.size h).toLoadRect (View.loadsAt_vmem h_S1x2048x512)))
        (fun v => iprop(⌜shapeCast S2048x512 (v : Vec F S1x2048x512 .bf16) shapeCasts_S1x2048x512_S2048x512 = X⌝ ∗ ownsTc c (halfU B o h) fullShare X)) := by
  unfold ownsTc owns
  iintro ⟨%f, %hf, H⟩
  subst hf
  have hs : (B.access (Rect.unit o S1x2048x512.size h)).set ⊆ (halfU B o h).view.set := (View.set_reshape _ _).ge
  sl_exec
  sl_step
  isplitr
  · ipureintro; rfl
  iexists f
  isplitr
  · ipureintro; rfl
  iexact H

theorem loadD_spec (B : Memref sig .tc .vmem S2x512x2048 .bf16) (o : Fin 3 → Nat) (h : InD o) (X : Vec F S512x2048 .bf16) :
    (ownsTc c (halfD B o h) fullShare X : sProp 𝕄G)
      ⊢ wp frame (wpE (defs₀ (F := F)) 𝒱 (c : Thread nD τ) bd) Set.univ
        (Prog.lift (.load B (Rect.unit (s := S2x512x2048) o S1x512x2048.size h).toLoadRect (View.loadsAt_vmem h_S1x512x2048)))
        (fun v => iprop(⌜shapeCast S512x2048 (v : Vec F S1x512x2048 .bf16) shapeCasts_S1x512x2048_S512x2048 = X⌝ ∗ ownsTc c (halfD B o h) fullShare X)) := by
  unfold ownsTc owns
  iintro ⟨%f, %hf, H⟩
  subst hf
  have hs : (B.access (Rect.unit o S1x512x2048.size h)).set ⊆ (halfD B o h).view.set := (View.set_reshape _ _).ge
  sl_exec
  sl_step
  isplitr
  · ipureintro; rfl
  iexists f
  isplitr
  · ipureintro; rfl
  iexact H

end Cert.Kernel2Ideal

end
-- ==== Proof.FfnWords.lean ====
/- Where each step of the feed-forward kernel copies from and to. -/
module

public import proofs.«01_k».proof.Proof.Ffn

@[expose] public section

set_option maxRecDepth 100000

namespace Cert.Kernel2Ideal

open Idealize.ShloMosaic

/-- The step's number and the half of each buffer it works in. -/
abbrev stepNo (i : grid0.Coords) (t : Fin k0_t1_loop.trips) : Nat := 11 * (i 0).val + t.val

theorem cond1_iff : ∀ i : grid0.Coords, k0_cond1 i = 1#1 ↔ (i 0).val = 0 := by decide +kernel
theorem cond2_iff : ∀ (i : grid0.Coords) (t : Fin k0_t1_loop.trips), k0_cond2 i t = 1#1 ↔ stepNo i t + 1 < 352 := by decide +kernel
theorem off1_eq : ∀ (i : grid0.Coords) (t : Fin k0_t1_loop.trips), k0_off1 i t = ![0, stepNo i t % 2] := by decide +kernel
theorem off4_eq : ∀ (i : grid0.Coords) (t : Fin k0_t1_loop.trips), k0_off4 i t = ![1, stepNo i t % 2] := by decide +kernel
theorem off5_eq : ∀ (i : grid0.Coords) (t : Fin k0_t1_loop.trips), k0_off5 i t = ![2, stepNo i t % 2] := by decide +kernel
theorem off2_eq : ∀ (i : grid0.Coords) (t : Fin k0_t1_loop.trips), k0_off2 i t = ![stepNo i t % 2, 0, 0] := by decide +kernel
theorem off6_eq : ∀ (i : grid0.Coords) (t : Fin k0_t1_loop.trips), k0_off6 i t = ![stepNo i t % 2, 0, 0] := by decide +kernel
theorem off15_eq : ∀ (i : grid0.Coords) (t : Fin k0_t1_loop.trips), k0_off15 i t = ![stepNo i t % 2, 0, 0] := by decide +kernel
theorem off16_eq : ∀ (i : grid0.Coords) (t : Fin k0_t1_loop.trips), k0_off16 i t = ![stepNo i t % 2, 0, 0] := by decide +kernel
theorem off8_eq : ∀ (i : grid0.Coords) (t : Fin k0_t1_loop.trips), k0_off8 i t = ![0, (stepNo i t + 1) % 2] := by decide +kernel
theorem off11_eq : ∀ (i : grid0.Coords) (t : Fin k0_t1_loop.trips), k0_off11 i t = ![1, (stepNo i t + 1) % 2] := by decide +kernel
theorem off12_eq : ∀ (i : grid0.Coords) (t : Fin k0_t1_loop.trips), k0_off12 i t = ![2, (stepNo i t + 1) % 2] := by decide +kernel
theorem off9_eq : ∀ (i : grid0.Coords) (t : Fin k0_t1_loop.trips), k0_off9 i t = ![(stepNo i t + 1) % 2, 0, 0] := by decide +kernel
theorem off13_eq : ∀ (i : grid0.Coords) (t : Fin k0_t1_loop.trips), k0_off13 i t = ![(stepNo i t + 1) % 2, 0, 0] := by decide +kernel
theorem off3_eq : ∀ t : Fin k0_t1_loop.trips, k0_off3 t = ![1, 0, 512 * (t.val % 11)] := by decide +kernel
theorem off7_eq : ∀ t : Fin k0_t1_loop.trips, k0_off7 t = ![1, 512 * (t.val % 11), 0] := by decide +kernel
theorem off10_eq : ∀ t : Fin k0_t1_loop.trips, k0_off10 t = ![1, 0, 512 * ((t.val + 1) % 11)] := by decide +kernel
theorem off14_eq : ∀ t : Fin k0_t1_loop.trips, k0_off14 t = ![1, 512 * ((t.val + 1) % 11), 0] := by decide +kernel

end Cert.Kernel2Ideal
end
-- ==== Proof.FfnRing.lean ====
/- Three copies at a time: started together, waited for together, and what a step makes of what they brought. -/
module

public import proofs.«01_k».proof.Proof.FfnWords

@[expose] public section

set_option synthInstance.maxSize 4096
set_option maxRecDepth 100000

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄G" => MT nD τ sig Unit (Elt F) ℕ (Pipeline.UD sig nD τ) ℕ

variable (m : (ℓ : Loc nD τ sig) → Buf (Elt F) ℓ)
variable (c : Dev nD) (𝒱 : Variants) (bd : Option 𝒱.V)

theorem bind_spec {α β : Type} {p : Prog (TpuEff nD τ sig (Elt F) Λ₀ .tc) α} {k : α → Prog (TpuEff nD τ sig (Elt F) Λ₀ .tc) β}
    {P : sProp 𝕄G} {R : α → sProp 𝕄G} {Q : β → sProp 𝕄G}
    (h : P ⊢ wp frame (wpE (defs₀ (F := F)) 𝒱 (c : Thread nD τ) bd) Set.univ p R) :
    P ⊢ iprop((∀ y, R y -∗ wp frame (wpE (defs₀ (F := F)) 𝒱 (c : Thread nD τ) bd) Set.univ (k y) Q)
      -∗ wp frame (wpE (defs₀ (F := F)) 𝒱 (c : Thread nD τ) bd) Set.univ (p >>= k) Q) := by
  rw [wp_bind]
  exact h.trans (wp_wand _ _ _)

theorem wand_spec {α : Type} {p : Prog (TpuEff nD τ sig (Elt F) Λ₀ .tc) α} {P : sProp 𝕄G} {R Q : α → sProp 𝕄G}
    (h : P ⊢ wp frame (wpE (defs₀ (F := F)) 𝒱 (c : Thread nD τ) bd) Set.univ p R) :
    P ⊢ iprop((∀ y, R y -∗ Q y) -∗ wp frame (wpE (defs₀ (F := F)) 𝒱 (c : Thread nD τ) bd) Set.univ p Q) :=
  h.trans (wp_wand _ _ _)

/-! ## The places a step's number gives -/

theorem lt2 (p : Nat) : p % 2 < 2 := Nat.mod_lt _ (by decide)
theorem lt11 (p : Nat) : p % 11 < 11 := Nat.mod_lt _ (by decide)

theorem inU {s : Nat} (h : s < 2) : InU ![s, 0, 0] := fun a => by
  match a with
  | 0 => show s + 1 ≤ 2; omega
  | 1 => show 0 + 2048 ≤ 2048; omega
  | 2 => show 0 + 512 ≤ 512; omega
theorem inD {s : Nat} (h : s < 2) : InD ![s, 0, 0] := fun a => by
  match a with
  | 0 => show s + 1 ≤ 2; omega
  | 1 => show 0 + 512 ≤ 512; omega
  | 2 => show 0 + 2048 ≤ 2048; omega
theorem inWU {f : Nat} (h : f < 11) : InWU ![1, 0, 512 * f] := fun a => by
  match a with
  | 0 => show 1 + 1 ≤ 2; omega
  | 1 => show 0 + 2048 ≤ 2048; omega
  | 2 => show 512 * f + 512 ≤ 5632; omega
theorem inWD {f : Nat} (h : f < 11) : InWD ![1, 512 * f, 0] := fun a => by
  match a with
  | 0 => show 1 + 1 ≤ 2; omega
  | 1 => show 512 * f + 512 ≤ 5632; omega
  | 2 => show 0 + 2048 ≤ 2048; omega
theorem inS {q s : Nat} (hq : q < 3) (h : s < 2) : InS ![q, s] := fun a => by
  match a with
  | 0 => show q + 1 ≤ 3; omega
  | 1 => show s + 1 ≤ 2; omega

/-- The pieces a step uses. -/
def gPiece (f : Nat) (h : f < 11) : Vec F S2048x512 .bf16 :=
  (pieceU wgM ![1, 0, 512 * f] (inWU h)).view.read (Elt F) (m ((c : Thread nD τ).loc main_arg2))
def uPiece (f : Nat) (h : f < 11) : Vec F S2048x512 .bf16 :=
  (pieceU wuM ![1, 0, 512 * f] (inWU h)).view.read (Elt F) (m ((c : Thread nD τ).loc main_arg3))
def dPiece (f : Nat) (h : f < 11) : Vec F S512x2048 .bf16 :=
  (pieceD wdM ![1, 512 * f, 0] (inWD h)).view.read (Elt F) (m ((c : Thread nD τ).loc main_arg4))

/-- The weights' arrays, whole. -/
def weightsHeld : sProp 𝕄G :=
  iprop((wgM.view.loc (c : Thread nD τ) ↦{fullShare} m ((c : Thread nD τ).loc main_arg2))
    ∗ (wuM.view.loc (c : Thread nD τ) ↦{fullShare} m ((c : Thread nD τ).loc main_arg3))
    ∗ (wdM.view.loc (c : Thread nD τ) ↦{fullShare} m ((c : Thread nD τ).loc main_arg4)))

/-- One half of each of the three buffers, at rest. -/
def restAt (s : Nat) (h : s < 2) : sProp 𝕄G :=
  iprop(idle c (halfU bgM ![s, 0, 0] (inU h)) (semAt ![0, s] (inS (by decide) h))
    ∗ idle c (halfU buM ![s, 0, 0] (inU h)) (semAt ![1, s] (inS (by decide) h))
    ∗ idle c (halfD bdM ![s, 0, 0] (inD h)) (semAt ![2, s] (inS (by decide) h)))

/-- The three copies into one half, under way. -/
def flyAt (s : Nat) (h : s < 2) (f : Nat) (hf : f < 11) : sProp 𝕄G :=
  iprop(fly c (pieceU wgM ![1, 0, 512 * f] (inWU hf)) (halfU bgM ![s, 0, 0] (inU h)) (semAt ![0, s] (inS (by decide) h)) (m ((c : Thread nD τ).loc main_arg2))
    ∗ fly c (pieceU wuM ![1, 0, 512 * f] (inWU hf)) (halfU buM ![s, 0, 0] (inU h)) (semAt ![1, s] (inS (by decide) h)) (m ((c : Thread nD τ).loc main_arg3))
    ∗ fly c (pieceD wdM ![1, 512 * f, 0] (inWD hf)) (halfD bdM ![s, 0, 0] (inD h)) (semAt ![2, s] (inS (by decide) h)) (m ((c : Thread nD τ).loc main_arg4)))

/-- The three halves holding what was copied. -/
def halves (s : Nat) (h : s < 2) (f : Nat) (hf : f < 11) : sProp 𝕄G :=
  iprop(ownsTc c (halfU bgM ![s, 0, 0] (inU h)) fullShare (gPiece m c f hf)
    ∗ ownsTc c (halfU buM ![s, 0, 0] (inU h)) fullShare (uPiece m c f hf)
    ∗ ownsTc c (halfD bdM ![s, 0, 0] (inD h)) fullShare (dPiece m c f hf))

def countersAt (s : Nat) (h : s < 2) : sProp 𝕄G :=
  iprop(semVal ((c : Thread nD τ), SemLoc.dma (semAt ![0, s] (inS (by decide) h))) 0
    ∗ semVal ((c : Thread nD τ), SemLoc.dma (semAt ![1, s] (inS (by decide) h))) 0
    ∗ semVal ((c : Thread nD τ), SemLoc.dma (semAt ![2, s] (inS (by decide) h))) 0)

theorem rest_of_halves (s : Nat) (h : s < 2) (f : Nat) (hf : f < 11) :
    (iprop(halves m c s h f hf ∗ countersAt c s h) : sProp 𝕄G) ⊢ restAt c s h := by
  unfold halves countersAt restAt idle
  iintro ⟨⟨H1, H2, H3⟩, C1, C2, C3⟩
  isplitl [H1 C1]
  · isplitl [H1]; iexists _; iexact H1; iexact C1
  isplitl [H2 C2]
  · isplitl [H2]; iexists _; iexact H2; iexact C2
  isplitl [H3]; iexists _; iexact H3; iexact C3

theorem credU (B : Memref sig .tc .vmem S2x2048x512 .bf16) (o : Fin 3 → Nat) (h : InU o) : 0 < (halfU B o h).view.dmaCredit := by
  exact View.dmaCredit_pos _ (by decide)
theorem credD (B : Memref sig .tc .vmem S2x512x2048 .bf16) (o : Fin 3 → Nat) (h : InD o) : 0 < (halfD B o h).view.dmaCredit := by
  exact View.dmaCredit_pos _ (by decide)

/-! ## Starting three copies, and waiting for them -/

/-- The copies of one piece each of the three weights into one half. -/
def start3 (a8 a11 a12 : Fin 2 → Nat) (h8 : InS a8) (h11 : InS a11) (h12 : InS a12) (a9 a10 a13 a14 : Fin 3 → Nat) (h9 : InU a9)
    (h10 : InWU a10) (h13 : InD a13) (h14 : InWD a14)
    (w9 : (Rect.unit (s := S2x2048x512) a9 S1x2048x512.size h9).WholeWords (EltTy.packing .bf16))
    (w10 : (Rect.unit (s := S2x2048x5632) a10 S1x2048x512.size h10).WholeWords (EltTy.packing .bf16))
    (w13 : (Rect.unit (s := S2x512x2048) a13 S1x512x2048.size h13).WholeWords (EltTy.packing .bf16))
    (w14 : (Rect.unit (s := S2x5632x2048) a14 S1x512x2048.size h14).WholeWords (EltTy.packing .bf16)) :
    Prog (TpuEff nD τ sig (Elt F) Λ₀ .tc) PUnit := do
  Prog.lift (.enqueueDma (pieceU wgM a10 h10) (.here (halfU bgM a9 h9)) (.dma (semAt a8 h8)) (((Memref.isWhole_whole _).wordExact_slice rfl _ w10).reshape _ _) (((Memref.isWhole_whole _).wordExact_slice rfl _ w9).reshape _ _) ⟨Or.inl rfl, trivial⟩)
  Prog.lift (.enqueueDma (pieceU wuM a10 h10) (.here (halfU buM a9 h9)) (.dma (semAt a11 h11)) (((Memref.isWhole_whole _).wordExact_slice rfl _ w10).reshape _ _) (((Memref.isWhole_whole _).wordExact_slice rfl _ w9).reshape _ _) ⟨Or.inl rfl, trivial⟩)
  Prog.lift (.enqueueDma (pieceD wdM a14 h14) (.here (halfD bdM a13 h13)) (.dma (semAt a12 h12)) (((Memref.isWhole_whole _).wordExact_slice rfl _ w14).reshape _ _) (((Memref.isWhole_whole _).wordExact_slice rfl _ w13).reshape _ _) ⟨Or.inl rfl, trivial⟩)
  pure ⟨⟩

theorem start3_spec (s : Nat) (h : s < 2) (f : Nat) (hf : f < 11) (a8 a11 a12 : Fin 2 → Nat) (h8 h11 h12) (a9 a10 a13 a14 : Fin 3 → Nat) (h9 h10 h13 h14 w9 w10 w13 w14)
    (e8 : a8 = ![0, s]) (e11 : a11 = ![1, s]) (e12 : a12 = ![2, s]) (e9 : a9 = ![s, 0, 0]) (e13 : a13 = ![s, 0, 0])
    (e10 : a10 = ![1, 0, 512 * f]) (e14 : a14 = ![1, 512 * f, 0]) :
    (iprop(weightsHeld m c ∗ restAt c s h) : sProp 𝕄G)
      ⊢ wp frame (wpE (defs₀ (F := F)) 𝒱 (c : Thread nD τ) bd) Set.univ
        (start3 (F := F) a8 a11 a12 h8 h11 h12 a9 a10 a13 a14 h9 h10 h13 h14 w9 w10 w13 w14) (fun _ => flyAt m c s h f hf) := by
  subst e8 e11 e12 e9 e13 e10 e14
  unfold weightsHeld restAt start3
  iintro ⟨⟨W1, W2, W3⟩, R1, R2, R3⟩
  iapply (bind_spec c 𝒱 bd (copy_spec c 𝒱 bd (pieceU wgM ![1, 0, 512 * f] h10) (halfU bgM ![s, 0, 0] h9) (semAt ![0, s] h8) _ _ (credU _ _ _) (m ((c : Thread nD τ).loc main_arg2)))) $$ [W1 R1]
  · isplitl [W1]; iexact W1; iexact R1
  iintro %_ F1
  iapply (bind_spec c 𝒱 bd (copy_spec c 𝒱 bd (pieceU wuM ![1, 0, 512 * f] h10) (halfU buM ![s, 0, 0] h9) (semAt ![1, s] h11) _ _ (credU _ _ _) (m ((c : Thread nD τ).loc main_arg3)))) $$ [W2 R2]
  · isplitl [W2]; iexact W2; iexact R2
  iintro %_ F2
  iapply (bind_spec c 𝒱 bd (copy_spec c 𝒱 bd (pieceD wdM ![1, 512 * f, 0] h14) (halfD bdM ![s, 0, 0] h13) (semAt ![2, s] h12) _ _ (credD _ _ _) (m ((c : Thread nD τ).loc main_arg4)))) $$ [W3 R3]
  · isplitl [W3]; iexact W3; iexact R3
  iintro %_ F3
  sl_step
  unfold flyAt
  isplitl [F1]; iexact F1
  isplitl [F2]; iexact F2
  iexact F3

/-- Waiting for the three. -/
def wait3 (a1 a4 a5 : Fin 2 → Nat) (h1 : InS a1) (h4 : InS a4) (h5 : InS a5) (a2 a3 a6 a7 : Fin 3 → Nat) (h2 : InU a2)
    (h3 : InWU a3) (h6 : InD a6) (h7 : InWD a7)
    (w2 : (Rect.unit (s := S2x2048x512) a2 S1x2048x512.size h2).WholeWords (EltTy.packing .bf16))
    (w3 : (Rect.unit (s := S2x2048x5632) a3 S1x2048x512.size h3).WholeWords (EltTy.packing .bf16))
    (w6 : (Rect.unit (s := S2x512x2048) a6 S1x512x2048.size h6).WholeWords (EltTy.packing .bf16))
    (w7 : (Rect.unit (s := S2x5632x2048) a7 S1x512x2048.size h7).WholeWords (EltTy.packing .bf16)) {α : Type} (x : α) :
    Prog (TpuEff nD τ sig (Elt F) Λ₀ .tc) α := do
  Prog.lift (.waitDma2 (semAt a1 h1) (pieceU wgM a3 h3) (halfU bgM a2 h2) (((Memref.isWhole_whole _).wordExact_slice rfl _ w3).reshape _ _) (((Memref.isWhole_whole _).wordExact_slice rfl _ w2).reshape _ _))
  Prog.lift (.waitDma2 (semAt a4 h4) (pieceU wuM a3 h3) (halfU buM a2 h2) (((Memref.isWhole_whole _).wordExact_slice rfl _ w3).reshape _ _) (((Memref.isWhole_whole _).wordExact_slice rfl _ w2).reshape _ _))
  Prog.lift (.waitDma2 (semAt a5 h5) (pieceD wdM a7 h7) (halfD bdM a6 h6) (((Memref.isWhole_whole _).wordExact_slice rfl _ w7).reshape _ _) (((Memref.isWhole_whole _).wordExact_slice rfl _ w6).reshape _ _))
  pure x

/-- What the core still owes: nothing. -/
def owesNone : sProp 𝕄G := iprop(∃ W, owes (c : Thread nD τ) 0 W)

theorem wait3_spec (s : Nat) (h : s < 2) (f : Nat) (hf : f < 11) (a1 a4 a5 : Fin 2 → Nat) (h1 h4 h5) (a2 a3 a6 a7 : Fin 3 → Nat) (h2 h3 h6 h7 w2 w3 w6 w7)
    (e1 : a1 = ![0, s]) (e4 : a4 = ![1, s]) (e5 : a5 = ![2, s]) (e2 : a2 = ![s, 0, 0]) (e6 : a6 = ![s, 0, 0])
    (e3 : a3 = ![1, 0, 512 * f]) (e7 : a7 = ![1, 512 * f, 0]) {α : Type} (x : α) :
    (iprop(flyAt m c s h f hf ∗ owesNone c) : sProp 𝕄G)
      ⊢ wp frame (wpE (defs₀ (F := F)) 𝒱 (c : Thread nD τ) bd) Set.univ
        (wait3 (F := F) a1 a4 a5 h1 h4 h5 a2 a3 a6 a7 h2 h3 h6 h7 w2 w3 w6 w7 x)
        (fun y => iprop(⌜y = x⌝ ∗ weightsHeld m c ∗ halves m c s h f hf ∗ countersAt c s h ∗ owesNone c)) := by
  subst e1 e4 e5 e2 e6 e3 e7
  unfold flyAt owesNone wait3
  iintro ⟨⟨F1, F2, F3⟩, HO⟩
  iapply (bind_spec c 𝒱 bd (wait_spec c 𝒱 bd (pieceU wgM ![1, 0, 512 * f] h3) (halfU bgM ![s, 0, 0] h2) (semAt ![0, s] h1) _ _ (m ((c : Thread nD τ).loc main_arg2)))) $$ [F1 HO]
  · isplitl [F1]; iexact F1; iexact HO
  iintro %_ ⟨W1, R1, C1, HO⟩
  iapply (bind_spec c 𝒱 bd (wait_spec c 𝒱 bd (pieceU wuM ![1, 0, 512 * f] h3) (halfU buM ![s, 0, 0] h2) (semAt ![1, s] h4) _ _ (m ((c : Thread nD τ).loc main_arg3)))) $$ [F2 HO]
  · isplitl [F2]; iexact F2; iexact HO
  iintro %_ ⟨W2, R2, C2, HO⟩
  iapply (bind_spec c 𝒱 bd (wait_spec c 𝒱 bd (pieceD wdM ![1, 512 * f, 0] h7) (halfD bdM ![s, 0, 0] h6) (semAt ![2, s] h5) _ _ (m ((c : Thread nD τ).loc main_arg4)))) $$ [F3 HO]
  · isplitl [F3]; iexact F3; iexact HO
  iintro %_ ⟨W3, R3, C3, HO⟩
  sl_step
  isplitr
  · ipureintro; rfl
  unfold weightsHeld halves countersAt gPiece uPiece dPiece
  isplitl [W1 W2 W3]
  · isplitl [W1]; iexact W1
    isplitl [W2]; iexact W2
    iexact W3
  isplitl [R1 R2 R3]
  · isplitl [R1]; iexact R1
    isplitl [R2]; iexact R2
    iexact R3
  isplitl [C1 C2 C3]
  · isplitl [C1]; iexact C1
    isplitl [C2]; iexact C2
    iexact C3
  iexact HO

/-! ## One step's arithmetic -/

/-- The rows so far and one piece's share. -/
def stepVal (hn : Vec F S1024x2048 .bf16) (G U : Vec F S2048x512 .bf16) (D : Vec F S512x2048 .bf16) (acc : Vec F S1024x2048 .f32) : Vec F S1024x2048 .f32 :=
  let g : FVec F S1024x512 .f32 := matmul dot_S1024x2048_S2048x512_S1024x512_1_0_0_1_n_n none hn G (constant S1024x512 .f32 0x00000000#32)
  let u : FVec F S1024x512 .f32 := matmul dot_S1024x2048_S2048x512_S1024x512_1_0_0_1_n_n none hn U (constant S1024x512 .f32 0x00000000#32)
  addf (shapeCast S1024x2048 acc shapeCasts_S1024x2048_S1024x2048)
    (matmul dot_S1024x512_S512x2048_S1024x2048_1_0_0_1_n_n none (truncf .bf16 (mulf (mulf g (logistic g)) u) bitsLt_bf16_f32) D (constant S1024x2048 .f32 0x00000000#32))

theorem pay3_eq (hn : Vec F S1024x2048 .bf16) (G U : Vec F S1x2048x512 .bf16) (D : Vec F S1x512x2048 .bf16) (acc : Vec F S1024x2048 .f32) :
    Gen.k0_pay3 hn G U acc D = stepVal hn (shapeCast S2048x512 G shapeCasts_S1x2048x512_S2048x512) (shapeCast S2048x512 U shapeCasts_S1x2048x512_S2048x512)
      (shapeCast S512x2048 D shapeCasts_S1x512x2048_S512x2048) acc := rfl

def accum (Y : Memref sig .tc .vmem S1024x2048 .f32) (o15 o16 : Fin 3 → Nat) (h15 : InU o15) (h16 : InD o16) :
    Prog (TpuEff nD τ sig (Elt F) Λ₀ .tc) PUnit := do
  let v78 : Vec F S1024x2048 .bf16 ← Prog.lift (.load hnM (Rect.unit (s := S1024x2048) ![0, 0] S1024x2048.size inb_S1024x2048_S1024x2048_0_0).toLoadRect (View.loadsAt_vmem h_S1024x2048))
  let v80 : Vec F S1x2048x512 .bf16 ← Prog.lift (.load bgM (Rect.unit (s := S2x2048x512) o15 S1x2048x512.size h15).toLoadRect (View.loadsAt_vmem h_S1x2048x512))
  let v84 : Vec F S1x2048x512 .bf16 ← Prog.lift (.load buM (Rect.unit (s := S2x2048x512) o15 S1x2048x512.size h15).toLoadRect (View.loadsAt_vmem h_S1x2048x512))
  let v91 : Vec F S1024x2048 .f32 ← Prog.lift (.load Y (Rect.unit (s := S1024x2048) ![0, 0] S1024x2048.size inb_S1024x2048_S1024x2048_0_0).toLoadRect (View.loadsAt_vmem h_S1024x2048))
  let v94 : Vec F S1x512x2048 .bf16 ← Prog.lift (.load bdM (Rect.unit (s := S2x512x2048) o16 S1x512x2048.size h16).toLoadRect (View.loadsAt_vmem h_S1x512x2048))
  let _v98 : Vec F S1024x2048 .f32 ← Prog.lift (.load Y (Rect.unit (s := S1024x2048) ![0, 0] S1024x2048.size inb_S1024x2048_S1024x2048_0_0).toLoadRect (View.loadsAt_vmem h_S1024x2048))
  Prog.lift (.store Y (Rect.unit (s := S1024x2048) ![0, 0] S1024x2048.size inb_S1024x2048_S1024x2048_0_0) (Gen.k0_pay3 v78 v80 v84 v91 v94) Finset.univ (View.stores_vmem_bits_univ h_S1024x2048 rfl) (.inl rfl))
  pure ⟨⟩

theorem loadFull_spec {e : EltTy} (Y : Memref sig .tc .vmem S1024x2048 e) (X : Vec F S1024x2048 e) :
    (ownsTc c Y fullShare X : sProp 𝕄G)
      ⊢ wp frame (wpE (defs₀ (F := F)) 𝒱 (c : Thread nD τ) bd) Set.univ
        (Prog.lift (.load Y (Rect.unit (s := S1024x2048) ![0, 0] S1024x2048.size inb_S1024x2048_S1024x2048_0_0).toLoadRect (View.loadsAt_vmem h_S1024x2048)))
        (fun v => iprop(⌜(v : Vec F S1024x2048 e) = X⌝ ∗ ownsTc c Y fullShare X)) := by
  unfold ownsTc owns
  iintro ⟨%f, %hf, H⟩
  subst hf
  sl_exec
  sl_step
  isplitr
  · ipureintro; exact View.readAt_full _ _ _
  iexists f
  isplitr
  · ipureintro; rfl
  iexact H

theorem loadRow_spec {e : EltTy} (Y : Memref sig .tc .vmem S1x2048 e) (X : Vec F S1x2048 e) :
    (ownsTc c Y fullShare X : sProp 𝕄G)
      ⊢ wp frame (wpE (defs₀ (F := F)) 𝒱 (c : Thread nD τ) bd) Set.univ
        (Prog.lift (.load Y (Rect.unit (s := S1x2048) ![0, 0] S1x2048.size inb_S1x2048_S1x2048_0_0).toLoadRect (View.loadsAt_vmem h_S1x2048)))
        (fun v => iprop(⌜(v : Vec F S1x2048 e) = X⌝ ∗ ownsTc c Y fullShare X)) := by
  unfold ownsTc owns
  iintro ⟨%f, %hf, H⟩
  subst hf
  sl_exec
  sl_step
  isplitr
  · ipureintro; exact View.readAt_full _ _ _
  iexists f
  isplitr
  · ipureintro; rfl
  iexact H

theorem storeFull_spec {e : EltTy} (Y : Memref sig .tc .vmem S1024x2048 e) (X : Vec F S1024x2048 e) (w : Vec F S1024x2048 e) (h1) (h2) :
    (ownsTc c Y fullShare X : sProp 𝕄G)
      ⊢ wp frame (wpE (defs₀ (F := F)) 𝒱 (c : Thread nD τ) bd) Set.univ
        (Prog.lift (.store Y (Rect.unit (s := S1024x2048) ![0, 0] S1024x2048.size inb_S1024x2048_S1024x2048_0_0) w Finset.univ h1 h2))
        (fun _ => ownsTc c Y fullShare w) := by
  unfold ownsTc owns
  iintro ⟨%f, %hf, H⟩
  subst hf
  sl_exec
  sl_step
  iexists _
  isplitr [H]
  · ipureintro
    exact View.read_writes_full _ f inb_S1024x2048_S1024x2048_0_0 _ []
  · iexact H

theorem accum_spec (Y : Memref sig .tc .vmem S1024x2048 .f32) (s : Nat) (h : s < 2) (f : Nat) (hf : f < 11) (o15 o16 : Fin 3 → Nat) (h15) (h16)
    (e15 : o15 = ![s, 0, 0]) (e16 : o16 = ![s, 0, 0]) (hn : Vec F S1024x2048 .bf16) (acc : Vec F S1024x2048 .f32) :
    (iprop(ownsTc c hnM fullShare hn ∗ ownsTc c Y fullShare acc ∗ halves m c s h f hf) : sProp 𝕄G)
      ⊢ wp frame (wpE (defs₀ (F := F)) 𝒱 (c : Thread nD τ) bd) Set.univ (accum (F := F) Y o15 o16 h15 h16)
        (fun _ => iprop(ownsTc c hnM fullShare hn ∗ ownsTc c Y fullShare (stepVal hn (gPiece m c f hf) (uPiece m c f hf) (dPiece m c f hf) acc) ∗ halves m c s h f hf)) := by
  subst e15 e16
  unfold halves accum
  iintro ⟨HN, HY, G, U, D⟩
  iapply (bind_spec c 𝒱 bd (loadFull_spec c 𝒱 bd hnM hn)) $$ HN
  iintro %v1 ⟨%e1, HN⟩
  iapply (bind_spec c 𝒱 bd (loadU_spec c 𝒱 bd bgM _ h15 (gPiece m c f hf))) $$ G
  iintro %v2 ⟨%e2, G⟩
  iapply (bind_spec c 𝒱 bd (loadU_spec c 𝒱 bd buM _ h15 (uPiece m c f hf))) $$ U
  iintro %v3 ⟨%e3, U⟩
  iapply (bind_spec c 𝒱 bd (loadFull_spec c 𝒱 bd Y acc)) $$ HY
  iintro %v4 ⟨%e4, HY⟩
  iapply (bind_spec c 𝒱 bd (loadD_spec c 𝒱 bd bdM _ h16 (dPiece m c f hf))) $$ D
  iintro %v5 ⟨%e5, D⟩
  iapply (bind_spec c 𝒱 bd (loadFull_spec c 𝒱 bd Y acc)) $$ HY
  iintro %v6 ⟨-, HY⟩
  iapply (bind_spec c 𝒱 bd (storeFull_spec c 𝒱 bd Y acc (Gen.k0_pay3 v1 v2 v3 v4 v5) _ _)) $$ HY
  iintro %_ HY
  sl_step
  rw [pay3_eq, e1, e2, e3, e4, e5]
  isplitl [HN]; iexact HN
  isplitl [HY]; iexact HY
  isplitl [G]; iexact G
  isplitl [U]; iexact U
  iexact D

end Cert.Kernel2Ideal

end
-- ==== Proof.FfnPoint.lean ====
/- One point of the launch: the rows' squares, the eleven steps over the pieces, the rows' scale. -/
module

public import proofs.«01_k».proof.Proof.FfnRing

@[expose] public section

set_option synthInstance.maxSize 4096
set_option maxRecDepth 100000

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄G" => MT nD τ sig Unit (Elt F) ℕ (Pipeline.UD sig nD τ) ℕ

variable (m : (ℓ : Loc nD τ sig) → Buf (Elt F) ℓ)
variable (c : Dev nD) (𝒱 : Variants) (bd : Option 𝒱.V)

/-- The semaphores' array. -/
abbrev semsM : DmaSems sig S3x2 := cc0_scratch4

/-- Before step `p` of the whole launch: its copies under way and the other half at rest; past the last step, all at rest. -/
def ring (p : Nat) : sProp 𝕄G :=
  if p < 352 then iprop(flyAt m c (p % 2) (lt2 p) (p % 11) (lt11 p) ∗ restAt c ((p + 1) % 2) (lt2 (p + 1)))
  else iprop(weightsHeld m c ∗ restAt c (p % 2) (lt2 p) ∗ restAt c ((p + 1) % 2) (lt2 (p + 1)))

/-- The rows after some steps. -/
def accAt (hn : Vec F S1024x2048 .bf16) (x : Vec F S1024x2048 .f32) : Nat → Vec F S1024x2048 .f32
  | 0 => x
  | n + 1 => stepVal hn (gPiece m c (n % 11) (lt11 n)) (uPiece m c (n % 11) (lt11 n)) (dPiece m c (n % 11) (lt11 n)) (accAt hn x n)

theorem step_lt (i : grid0.Coords) (t : Fin k0_t1_loop.trips) : stepNo i t < 352 := by
  have h1 : (i 0).val < 32 := (i 0).isLt
  have h2 : t.val < 11 := t.isLt
  unfold stepNo
  omega

theorem step_mod (i : grid0.Coords) (t : Fin k0_t1_loop.trips) : stepNo i t % 11 = t.val % 11 := by
  unfold stepNo
  omega
theorem step_mod' (i : grid0.Coords) (t : Fin k0_t1_loop.trips) : (stepNo i t + 1) % 11 = (t.val + 1) % 11 := by
  unfold stepNo
  omega

theorem restAt_congr {s s' : Nat} (e : s = s') (h : s < 2) (h' : s' < 2) : (restAt c s h : sProp 𝕄G) = restAt c s' h' := by
  subst e; rfl

theorem stepVal_congr (hn : Vec F S1024x2048 .bf16) (acc : Vec F S1024x2048 .f32) {a b : Nat} (e : a = b) (ha : a < 11) (hb : b < 11) :
    stepVal hn (gPiece m c a ha) (uPiece m c a ha) (dPiece m c a ha) acc = stepVal hn (gPiece m c b hb) (uPiece m c b hb) (dPiece m c b hb) acc := by
  subst e; rfl

section
variable (X : Memref sig .tc .vmem S1024x2048 .f32) (hX : X.IsWhole) (P : Memref sig .tc .vmem S1x2048 .f32) (hP : P.IsWhole)
  (L : Memref sig .tc .vmem S1x2048 .f32) (hL : L.IsWhole) (Y : Memref sig .tc .vmem S1024x2048 .f32) (hY : Y.IsWhole)

/-- One trip as its three parts: the wait, the next copies where there is a next step, the arithmetic. -/
theorem trip_eq (i : grid0.Coords) (a0 : BitVec 32) (t : Fin k0_t1_loop.trips) (u : Unit) :
    Gen.k0_t1_body (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM a0 t u
    = (wait3 (F := F) (k0_off1 i t) (k0_off4 i t) (k0_off5 i t) (k0_off1_inb i t) (k0_off4_inb i t) (k0_off5_inb i t)
        (k0_off2 i t) (k0_off3 t) (k0_off6 i t) (k0_off7 t) (k0_off2_inb i t) (k0_off3_inb t) (k0_off6_inb i t) (k0_off7_inb t)
        (k0_off2_wordsbf16 i t) (k0_off3_wordsbf16 t) (k0_off6_wordsbf16 i t) (k0_off7_wordsbf16 t) PUnit.unit
      >>= fun _ => if h2 : k0_cond2 i t = 1#1 then
          (start3 (F := F) (k0_off8 i t) (k0_off11 i t) (k0_off12 i t) (k0_off8_inb i t h2) (k0_off11_inb i t h2) (k0_off12_inb i t h2)
            (k0_off9 i t) (k0_off10 t) (k0_off13 i t) (k0_off14 t) (k0_off9_inb i t h2) (k0_off10_inb i t h2) (k0_off13_inb i t h2) (k0_off14_inb i t h2)
            (k0_off9_wordsbf16 i t h2) (k0_off10_wordsbf16 i t h2) (k0_off13_wordsbf16 i t h2) (k0_off14_wordsbf16 i t h2)
            >>= fun _ => accum (F := F) Y (k0_off15 i t) (k0_off16 i t) (k0_off15_inb i t) (k0_off16_inb i t))
        else accum (F := F) Y (k0_off15 i t) (k0_off16 i t) (k0_off15_inb i t) (k0_off16_inb i t)) := rfl

theorem trip_spec (i : grid0.Coords) (a0 : BitVec 32) (t : Fin k0_t1_loop.trips) (u : Unit) (hn : Vec F S1024x2048 .bf16) (x : Vec F S1024x2048 .f32) :
    (iprop(ownsTc c hnM fullShare hn ∗ ownsTc c Y fullShare (accAt m c hn x t.val) ∗ ring m c (stepNo i t) ∗ owesNone c) : sProp 𝕄G)
      ⊢ wp frame (wpE (defs₀ (F := F)) 𝒱 (c : Thread nD τ) bd) Set.univ
        (Gen.k0_t1_body (F := F) i X hX P hP wgM (Memref.isWhole_whole _) wuM (Memref.isWhole_whole _) wdM (Memref.isWhole_whole _) L hL Y hY hnM (Memref.isWhole_whole _)
          bgM (Memref.isWhole_whole _) buM (Memref.isWhole_whole _) bdM (Memref.isWhole_whole _) semsM a0 t u)
        (fun _ => iprop(ownsTc c hnM fullShare hn ∗ ownsTc c Y fullShare (accAt m c hn x (t.val + 1)) ∗ ring m c (stepNo i t + 1) ∗ owesNone c)) := by
  rw [trip_eq]
  have hlt := step_lt i t
  have hsm := step_mod i t
  have hA : accAt m c hn x (t.val + 1) = stepVal hn (gPiece m c (stepNo i t % 11) (lt11 _)) (uPiece m c (stepNo i t % 11) (lt11 _)) (dPiece m c (stepNo i t % 11) (lt11 _)) (accAt m c hn x t.val) := by
    exact stepVal_congr m c hn _ hsm.symm _ _
  rw [hA, show (ring m c (stepNo i t) : sProp 𝕄G) = _ from if_pos hlt]
  iintro ⟨HN, HY, ⟨HF, HR⟩, HO⟩
  iapply (bind_spec c 𝒱 bd (wait3_spec m c 𝒱 bd (stepNo i t % 2) (lt2 _) (stepNo i t % 11) (lt11 _) (k0_off1 i t) (k0_off4 i t) (k0_off5 i t) (k0_off1_inb i t) (k0_off4_inb i t) (k0_off5_inb i t)
        (k0_off2 i t) (k0_off3 t) (k0_off6 i t) (k0_off7 t) (k0_off2_inb i t) (k0_off3_inb t) (k0_off6_inb i t) (k0_off7_inb t)
        (k0_off2_wordsbf16 i t) (k0_off3_wordsbf16 t) (k0_off6_wordsbf16 i t) (k0_off7_wordsbf16 t)
        (off1_eq i t) (off4_eq i t) (off5_eq i t) (off2_eq i t) (off6_eq i t) ((off3_eq t).trans (by rw [hsm])) ((off7_eq t).trans (by rw [hsm])) PUnit.unit)) $$ [HF HO]
  · isplitl [HF]; iexact HF; iexact HO
  iintro %y ⟨-, HW, HH, HC, HO⟩
  by_cases h2 : k0_cond2 i t = 1#1
  · have hsm' := step_mod' i t
    have hn2 : stepNo i t + 1 < 352 := (cond2_iff i t).1 h2
    rw [dif_pos h2, show (ring m c (stepNo i t + 1) : sProp 𝕄G) = _ from if_pos hn2,
      restAt_congr c (show (stepNo i t + 1 + 1) % 2 = stepNo i t % 2 by omega) _ (lt2 _)]
    iapply (bind_spec c 𝒱 bd (start3_spec m c 𝒱 bd ((stepNo i t + 1) % 2) (lt2 _) ((stepNo i t + 1) % 11) (lt11 _)
      (k0_off8 i t) (k0_off11 i t) (k0_off12 i t) (k0_off8_inb i t h2) (k0_off11_inb i t h2) (k0_off12_inb i t h2)
            (k0_off9 i t) (k0_off10 t) (k0_off13 i t) (k0_off14 t) (k0_off9_inb i t h2) (k0_off10_inb i t h2) (k0_off13_inb i t h2) (k0_off14_inb i t h2)
            (k0_off9_wordsbf16 i t h2) (k0_off10_wordsbf16 i t h2) (k0_off13_wordsbf16 i t h2) (k0_off14_wordsbf16 i t h2)
            (off8_eq i t) (off11_eq i t) (off12_eq i t) (off9_eq i t) (off13_eq i t) ((off10_eq t).trans (by rw [hsm'])) ((off14_eq t).trans (by rw [hsm'])))) $$ [HW HR]
    · isplitl [HW]; iexact HW; iexact HR
    iintro %_ HF
    iapply (wand_spec c 𝒱 bd (accum_spec m c 𝒱 bd Y (stepNo i t % 2) (lt2 _) (stepNo i t % 11) (lt11 _) (k0_off15 i t) (k0_off16 i t) (k0_off15_inb i t) (k0_off16_inb i t)
      (off15_eq i t) (off16_eq i t) hn (accAt m c hn x t.val))) $$ [HN HY HH]
    · isplitl [HN]; iexact HN
      isplitl [HY]; iexact HY
      iexact HH
    iintro %_ ⟨HN, HY, HH⟩
    isplitl [HN]; iexact HN
    isplitl [HY]; iexact HY
    isplitr [HO]
    · isplitl [HF]; iexact HF
      iapply (rest_of_halves m c _ _ _ _)
      isplitl [HH]; iexact HH
      iexact HC
    iexact HO
  · have hn2 : ¬ stepNo i t + 1 < 352 := fun h => h2 ((cond2_iff i t).2 h)
    rw [dif_neg h2, show (ring m c (stepNo i t + 1) : sProp 𝕄G) = _ from if_neg hn2,
      restAt_congr c (show (stepNo i t + 1 + 1) % 2 = stepNo i t % 2 by omega) _ (lt2 _)]
    iapply (wand_spec c 𝒱 bd (accum_spec m c 𝒱 bd Y (stepNo i t % 2) (lt2 _) (stepNo i t % 11) (lt11 _) (k0_off15 i t) (k0_off16 i t) (k0_off15_inb i t) (k0_off16_inb i t)
      (off15_eq i t) (off16_eq i t) hn (accAt m c hn x t.val))) $$ [HN HY HH]
    · isplitl [HN]; iexact HN
      isplitl [HY]; iexact HY
      iexact HH
    iintro %_ ⟨HN, HY, HH⟩
    isplitl [HN]; iexact HN
    isplitl [HY]; iexact HY
    isplitr [HO]
    · isplitl [HW]; iexact HW
      isplitl [HR]; iexact HR
      iapply (rest_of_halves m c _ _ _ _)
      isplitl [HH]; iexact HH
      iexact HC
    iexact HO

/-- The rows' squares and the steps, after the first copies are under way. -/
def steps (i : grid0.Coords) : Prog (TpuEff nD τ sig (Elt F) Λ₀ .tc) (Σ' (_ : FVec F S1024x2048 .f32), FVec F S1024x1 .f32) := do
  let v3 : Vec F S1024x2048 .f32 ← Prog.lift (.load X (Rect.unit (s := S1024x2048) ![0, 0] S1024x2048.size inb_S1024x2048_S1024x2048_0_0).toLoadRect (View.loadsAt_vmem h_S1024x2048))
  let v14 : Vec F S1x2048 .f32 ← Prog.lift (.load P (Rect.unit (s := S1x2048) ![0, 0] S1x2048.size inb_S1x2048_S1x2048_0_0).toLoadRect (View.loadsAt_vmem h_S1x2048))
  let _v18 : Vec F S1024x2048 .bf16 ← Prog.lift (.load hnM (Rect.unit (s := S1024x2048) ![0, 0] S1024x2048.size inb_S1024x2048_S1024x2048_0_0).toLoadRect (View.loadsAt_vmem h_S1024x2048))
  Prog.lift (.store hnM (Rect.unit (s := S1024x2048) ![0, 0] S1024x2048.size inb_S1024x2048_S1024x2048_0_0) (Gen.k0_pay2 v3 v14) Finset.univ (View.stores_vmem h_S1024x2048 ((Memref.isWhole_whole _).storeExact_slice rfl _ packedbf16_S1024x2048_S1024x2048_0_0) (fun _ => rfl)) (.inl rfl))
  let _v21 : Vec F S1024x2048 .f32 ← Prog.lift (.load Y (Rect.unit (s := S1024x2048) ![0, 0] S1024x2048.size inb_S1024x2048_S1024x2048_0_0).toLoadRect (View.loadsAt_vmem h_S1024x2048))
  Prog.lift (.store Y (Rect.unit (s := S1024x2048) ![0, 0] S1024x2048.size inb_S1024x2048_S1024x2048_0_0) v3 Finset.univ (View.stores_vmem_bits_univ h_S1024x2048 rfl) (.inl rfl))
  Scf.Loop.for k0_t1_loop k0_t1_ok ⟨⟩ (Gen.k0_t1_body (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM (BitVec.ofNat 32 (i 0).val))
  let v23 : Vec F S1024x2048 .f32 ← Prog.lift (.load Y (Rect.unit (s := S1024x2048) ![0, 0] S1024x2048.size inb_S1024x2048_S1024x2048_0_0).toLoadRect (View.loadsAt_vmem h_S1024x2048))
  pure ⟨Gen.k0_pay4 v23, Gen.k0_pay5 v23⟩

theorem part2_eq (i : grid0.Coords) :
    k0_part2 (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM
    = if h1 : k0_cond1 i = 1#1 then
        (start3 (F := F) ![0, 0] ![1, 0] ![2, 0] inb_S3x2_S1x1_0_0 inb_S3x2_S1x1_1_0 inb_S3x2_S1x1_2_0 ![0, 0, 0] ![1, 0, 0] ![0, 0, 0] ![1, 0, 0]
          inb_S2x2048x512_S1x2048x512_0_0_0 inb_S2x2048x5632_S1x2048x512_1_0_0 inb_S2x512x2048_S1x512x2048_0_0_0 inb_S2x5632x2048_S1x512x2048_1_0_0
          wordsbf16_S2x2048x512_S1x2048x512_0_0_0 wordsbf16_S2x2048x5632_S1x2048x512_1_0_0 wordsbf16_S2x512x2048_S1x512x2048_0_0_0 wordsbf16_S2x5632x2048_S1x512x2048_1_0_0
          >>= fun _ => steps X hX P hP L hL Y hY i)
      else steps X hX P hP L hL Y hY i := by
  rw [Gen.k0_part2_eq_skeleton]
  rfl

/-- The rows after the eleven steps. -/
def accOf (x : Vec F S1024x2048 .f32) (g : Vec F S1x2048 .f32) : Vec F S1024x2048 .f32 := accAt m c (Gen.k0_pay2 x g) x 11

theorem steps_spec (i : grid0.Coords) (x : Vec F S1024x2048 .f32) (g : Vec F S1x2048 .f32) (hn0 : Vec F S1024x2048 .bf16) (y0 : Vec F S1024x2048 .f32) :
    (iprop(ownsTc c X fullShare x ∗ ownsTc c P fullShare g ∗ ownsTc c hnM fullShare hn0 ∗ ownsTc c Y fullShare y0 ∗ ring m c (11 * (i 0).val) ∗ owesNone c) : sProp 𝕄G)
      ⊢ wp frame (wpE (defs₀ (F := F)) 𝒱 (c : Thread nD τ) bd) Set.univ (steps (F := F) X hX P hP L hL Y hY i)
        (fun y => iprop(⌜y = ⟨Gen.k0_pay4 (accOf m c x g), Gen.k0_pay5 (accOf m c x g)⟩⌝ ∗ ownsTc c X fullShare x ∗ ownsTc c P fullShare g
          ∗ ownsTc c hnM fullShare (Gen.k0_pay2 x g) ∗ ownsTc c Y fullShare (accOf m c x g) ∗ ring m c (11 * ((i 0).val + 1)) ∗ owesNone c)) := by
  unfold steps accOf
  iintro ⟨HX, HP, HN, HY, HR, HO⟩
  iapply (bind_spec c 𝒱 bd (loadFull_spec c 𝒱 bd X x)) $$ HX
  iintro %v1 ⟨%e1, HX⟩
  subst e1
  iapply (bind_spec c 𝒱 bd (loadRow_spec c 𝒱 bd P g)) $$ HP
  iintro %v2 ⟨%e2, HP⟩
  subst e2
  iapply (bind_spec c 𝒱 bd (loadFull_spec c 𝒱 bd hnM hn0)) $$ HN
  iintro %v3 ⟨-, HN⟩
  iapply (bind_spec c 𝒱 bd (storeFull_spec c 𝒱 bd hnM hn0 (Gen.k0_pay2 v1 v2) _ _)) $$ HN
  iintro %_ HN
  iapply (bind_spec c 𝒱 bd (loadFull_spec c 𝒱 bd Y y0)) $$ HY
  iintro %v4 ⟨-, HY⟩
  iapply (bind_spec c 𝒱 bd (storeFull_spec c 𝒱 bd Y y0 v1 _ _)) $$ HY
  iintro %_ HY
  iapply (Scf.wp_for_bind frame (wpE (defs₀ (F := F)) 𝒱 (c : Thread nD τ) bd) Set.univ k0_t1_loop.lb k0_t1_loop.ub k0_t1_loop.st _ _
    (Gen.k0_t1_body (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM (BitVec.ofNat 32 (i 0).val))
    (fun k _ => iprop(ownsTc c hnM fullShare (Gen.k0_pay2 v1 v2) ∗ ownsTc c Y fullShare (accAt m c (Gen.k0_pay2 v1 v2) v1 k) ∗ ring m c (11 * (i 0).val + k) ∗ owesNone c))
    (fun t u => trip_spec m c 𝒱 bd X hX P hP L hL Y hY i _ t u (Gen.k0_pay2 v1 v2) v1)) $$ [HN HY HR HO]
  · isplitl [HN]; iexact HN
    isplitl [HY]; iexact HY
    isplitl [HR]; iexact HR
    iexact HO
  iintro %u ⟨HN, HY, HR, HO⟩
  rw [show Scf.trips k0_t1_loop.lb k0_t1_loop.ub k0_t1_loop.st = 11 from rfl]
  iapply (bind_spec c 𝒱 bd (loadFull_spec c 𝒱 bd Y (accAt m c (Gen.k0_pay2 v1 v2) v1 11))) $$ HY
  iintro %v5 ⟨%e5, HY⟩
  subst e5
  sl_step
  isplitr
  · ipureintro; rfl
  isplitl [HX]; iexact HX
  isplitl [HP]; iexact HP
  isplitl [HN]; iexact HN
  isplitl [HY]; iexact HY
  isplitl [HR]; iexact HR
  iexact HO

/-- Everything at rest, before the first point. -/
def quiet : sProp 𝕄G := iprop(weightsHeld m c ∗ restAt c 0 (by decide) ∗ restAt c 1 (by decide))

/-- The copies before point `n`. -/
def copies (n : Nat) : sProp 𝕄G := if n = 0 then quiet m c else ring m c (11 * n)

/-- What a point writes. -/
def outOf (x : Vec F S1024x2048 .f32) (g : Vec F S1x2048 .f32) (l : Vec F S1x2048 .f32) : Vec F S1024x2048 .f32 :=
  Gen.k0_pay1 (Gen.k0_pay4 (accOf m c x g)) (Gen.k0_pay5 (accOf m c x g)) l

theorem part2_spec (i : grid0.Coords) (x : Vec F S1024x2048 .f32) (g : Vec F S1x2048 .f32) (hn0 : Vec F S1024x2048 .bf16) (y0 : Vec F S1024x2048 .f32) :
    (iprop(ownsTc c X fullShare x ∗ ownsTc c P fullShare g ∗ ownsTc c hnM fullShare hn0 ∗ ownsTc c Y fullShare y0 ∗ copies m c (i 0).val ∗ owesNone c) : sProp 𝕄G)
      ⊢ wp frame (wpE (defs₀ (F := F)) 𝒱 (c : Thread nD τ) bd) Set.univ
        (k0_part2 (F := F) i X hX P hP wgM (Memref.isWhole_whole _) wuM (Memref.isWhole_whole _) wdM (Memref.isWhole_whole _) L hL Y hY hnM (Memref.isWhole_whole _)
          bgM (Memref.isWhole_whole _) buM (Memref.isWhole_whole _) bdM (Memref.isWhole_whole _) semsM)
        (fun y => iprop(⌜y = ⟨Gen.k0_pay4 (accOf m c x g), Gen.k0_pay5 (accOf m c x g)⟩⌝ ∗ ownsTc c X fullShare x ∗ ownsTc c P fullShare g
          ∗ ownsTc c hnM fullShare (Gen.k0_pay2 x g) ∗ ownsTc c Y fullShare (accOf m c x g) ∗ ring m c (11 * ((i 0).val + 1)) ∗ owesNone c)) := by
  rw [part2_eq]
  unfold copies
  by_cases h1 : k0_cond1 i = 1#1
  · have h0 : (i 0).val = 0 := (cond1_iff i).1 h1
    rw [dif_pos h1, if_pos h0]
    unfold quiet
    iintro ⟨HX, HP, HN, HY, ⟨HW, HR0, HR1⟩, HO⟩
    iapply (bind_spec c 𝒱 bd (start3_spec m c 𝒱 bd 0 (by decide) 0 (by decide) ![0, 0] ![1, 0] ![2, 0] inb_S3x2_S1x1_0_0 inb_S3x2_S1x1_1_0 inb_S3x2_S1x1_2_0 ![0, 0, 0] ![1, 0, 0] ![0, 0, 0] ![1, 0, 0]
          inb_S2x2048x512_S1x2048x512_0_0_0 inb_S2x2048x5632_S1x2048x512_1_0_0 inb_S2x512x2048_S1x512x2048_0_0_0 inb_S2x5632x2048_S1x512x2048_1_0_0
          wordsbf16_S2x2048x512_S1x2048x512_0_0_0 wordsbf16_S2x2048x5632_S1x2048x512_1_0_0 wordsbf16_S2x512x2048_S1x512x2048_0_0_0 wordsbf16_S2x5632x2048_S1x512x2048_1_0_0
          rfl rfl rfl rfl rfl rfl rfl)) $$ [HW HR0]
    · isplitl [HW]; iexact HW; iexact HR0
    iintro %_ HF
    iapply (steps_spec m c 𝒱 bd X hX P hP L hL Y hY i x g hn0 y0)
    isplitl [HX]; iexact HX
    isplitl [HP]; iexact HP
    isplitl [HN]; iexact HN
    isplitl [HY]; iexact HY
    isplitr [HO]
    · rw [h0, show (ring m c (11 * 0) : sProp 𝕄G) = _ from if_pos (by decide)]
      isplitl [HF]; iexact HF
      iexact HR1
    iexact HO
  · have h0 : ¬ (i 0).val = 0 := fun h => h1 ((cond1_iff i).2 h)
    rw [dif_neg h1, if_neg h0]
    exact steps_spec m c 𝒱 bd X hX P hP L hL Y hY i x g hn0 y0

/-- One point: the block read, the block written, the copies moved on by eleven. -/
theorem ffn_spec (i : grid0.Coords) (x : Vec F S1024x2048 .f32) (g l : Vec F S1x2048 .f32) (hn0 : Vec F S1024x2048 .bf16) (y0 : Vec F S1024x2048 .f32) :
    (iprop(ownsTc c X fullShare x ∗ ownsTc c P fullShare g ∗ ownsTc c L fullShare l ∗ ownsTc c hnM fullShare hn0 ∗ ownsTc c Y fullShare y0 ∗ copies m c (i 0).val ∗ owesNone c) : sProp 𝕄G)
      ⊢ wp frame (wpE (defs₀ (F := F)) 𝒱 (c : Thread nD τ) bd) Set.univ
        (cc0_ffn (F := F) i X hX P hP wgM (Memref.isWhole_whole _) wuM (Memref.isWhole_whole _) wdM (Memref.isWhole_whole _) L hL Y hY hnM (Memref.isWhole_whole _)
          bgM (Memref.isWhole_whole _) buM (Memref.isWhole_whole _) bdM (Memref.isWhole_whole _) semsM)
        (fun _ => iprop(ownsTc c X fullShare x ∗ ownsTc c P fullShare g ∗ ownsTc c L fullShare l ∗ ownsTc c hnM fullShare (Gen.k0_pay2 x g)
          ∗ ownsTc c Y fullShare (outOf m c x g l) ∗ copies m c ((i 0).val + 1) ∗ owesNone c)) := by
  rw [Gen.cc0_ffn_eq_skeleton]
  unfold Gen.cc0_ffn_skel
  iintro ⟨HX, HP, HL, HN, HY, HC, HO⟩
  iapply (bind_spec c 𝒱 bd (part2_spec m c 𝒱 bd X hX P hP L hL Y hY i x g hn0 y0)) $$ [HX HP HN HY HC HO]
  · isplitl [HX]; iexact HX
    isplitl [HP]; iexact HP
    isplitl [HN]; iexact HN
    isplitl [HY]; iexact HY
    isplitl [HC]; iexact HC
    iexact HO
  iintro %y ⟨%ey, HX, HP, HN, HY, HR, HO⟩
  subst ey
  iapply (bind_spec c 𝒱 bd (loadRow_spec c 𝒱 bd L l)) $$ HL
  iintro %v2 ⟨%e2, HL⟩
  subst e2
  iapply (bind_spec c 𝒱 bd (loadFull_spec c 𝒱 bd Y (accOf m c x g))) $$ HY
  iintro %v3 ⟨-, HY⟩
  iapply (bind_spec c 𝒱 bd (storeFull_spec c 𝒱 bd Y (accOf m c x g) (outOf m c x g v2) _ _)) $$ HY
  iintro %_ HY
  sl_step
  isplitl [HX]; iexact HX
  isplitl [HP]; iexact HP
  isplitl [HL]; iexact HL
  isplitl [HN]; iexact HN
  isplitl [HY]; iexact HY
  isplitl [HR]
  · unfold copies
    rw [if_neg (Nat.succ_ne_zero _)]
    iexact HR
  iexact HO

end

end Cert.Kernel2Ideal

end
-- ==== Proof.FfnFrame.lean ====
/- The launch: what it keeps from point to point, one point's obligation, the run. -/
module

public import proofs.«01_k».proof.Proof.FfnPoint
public import proofs.«01_k».proof.Proof.Gen.Kernel2Ideal.Frame
public import proofs.«01_k».proof.Proof.Gen.Kernel2Ideal.Launch
public import proofs.«01_k».proof.Proof.Gen.Kernel2Ideal.Points

@[expose] public section

set_option synthInstance.maxSize 4096
set_option maxRecDepth 100000

noncomputable section

namespace Cert.Kernel2Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Facts₀ Facts

variable {F : FTy → Type} [FloatOps F]

local notation "𝕄G" => MT nD τ sig Unit (Elt F) ℕ (Pipeline.UD sig nD τ) ℕ

variable (m : (ℓ : Loc nD τ sig) → Buf (Elt F) ℓ)

/-- No labels are called. -/
abbrev 𝒱₀ : Variants := Variants.none

/-- The normalized rows' buffer, the register, the copies, before point `n`. -/
def phi (c : Dev nD) (n : Nat) : sProp 𝕄G :=
  iprop((∃ X, ownsTc c hnM fullShare X) ∗ (∃ r, prngReg c r) ∗ copies m c n)

/-- The block a point writes. -/
def outAt (c : Dev nD) (t : Fin cfg0.N) : Vec F S1024x2048 .f32 :=
  outOf m c (Gen.iblk m c 0 t) (Gen.iblk m c 1 t) (Gen.iblk m c 2 t)

def aft (c : Dev nD) : (w : Fin cfg0.W) → Fin cfg0.N → (cfg0.win w).block.Idx → Elt F (cfg0.win w).elt
  | 0 => fun t => Gen.iblk m c 0 t
  | 1 => fun t => Gen.iblk m c 1 t
  | 2 => fun t => Gen.iblk m c 2 t
  | 3 => fun t => outAt m c t
  | ⟨_ + 4, h⟩ => absurd h (Nat.not_lt.2 (Nat.le_add_left _ _))

/-- The launch's proof data. -/
def dats : (p : Fin 1) → (c : Dev nD) → Dat τ (Elt F) Unit ℕ (Pipeline.UD sig nD τ) ℕ (cfgs p) c
  | 0 => fun c =>
    { A := fun w => Gen.V m c (Pipeline.arrRef spec0 w)
      after := aft m c
      Φ := fun t => phi m c t.val
      q := fun _ => fullShare
      owed := fun _ => 0 }
  | ⟨_ + 1, h⟩ => absurd h (Nat.not_lt.2 (Nat.le_add_left _ _))

/-! ## One point -/

theorem before0 (c : Dev nD) (t : Fin cfg0.N) (d) : (dats m 0 c).before 0 t d = Gen.iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = Gen.iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = Gen.iblk m c 2 t :=
  ((dats m 0 c).before_in_eq_fetched 2 rfl (fun _ => rfl) (fun _ _ _ => rfl) (fun _ => rfl) t d).trans rfl

def bodyPre (c : Dev nD) (t : Fin cfg0.N) : sProp 𝕄G :=
  iprop(phi m c t.val ∗ (dats m 0 c).owesAt () t.castSucc
    ∗ (∃ d, ownsTc c (Gen.st0_0 t) fullShare ((dats m 0 c).before 0 t d))
    ∗ (∃ d, ownsTc c (Gen.st0_1 t) fullShare ((dats m 0 c).before 1 t d))
    ∗ (∃ d, ownsTc c (Gen.st0_2 t) fullShare ((dats m 0 c).before 2 t d))
    ∗ (∃ d, ownsTc c (Gen.st0_3 t) fullShare ((dats m 0 c).before 3 t d)))

def bodyPost (c : Dev nD) (t : Fin cfg0.N) : sProp 𝕄G :=
  iprop(phi m c (t.val + 1) ∗ (dats m 0 c).owesAt () t.succ
    ∗ ownsTc c (Gen.st0_0 t) fullShare (Gen.iblk m c 0 t) ∗ ownsTc c (Gen.st0_1 t) fullShare (Gen.iblk m c 1 t)
    ∗ ownsTc c (Gen.st0_2 t) fullShare (Gen.iblk m c 2 t) ∗ ownsTc c (Gen.st0_3 t) fullShare (outAt m c t))

theorem coord (t : Fin cfg0.N) : ((grid0.coords t) 0).val = t.val := by
  revert t
  exact (by decide : ∀ t : Fin grid0.N, ((grid0.coords t) 0).val = t.val)

theorem sound_body (c : Dev nD) (t : Fin cfg0.N) :
    (bodyPre m c t : sProp 𝕄G) ⊢ wp frame (wpE (defs₀ (F := F)) 𝒱₀ (c : Thread nD τ) none) Set.univ (Gen.bodyAt0 t) (fun _ => bodyPost m c t) := by
  unfold bodyPre phi
  simp only [before0 m c t, before1 m c t, before2 m c t]
  iintro ⟨⟨⟨%hn, HN⟩, HR, HC⟩, ⟨%W, -, HO⟩, ⟨%_d0, H0⟩, ⟨%_d1, H1⟩, ⟨%_d2, H2⟩, ⟨%d3, H3⟩⟩
  iapply (wand_spec c 𝒱₀ none (ffn_spec m c 𝒱₀ none (Gen.st0_0 t) (hstage0_0 ((cfg0.slots t 0).cast nbuf0_0))
    (Gen.st0_1 t) (hstage0_1 ((cfg0.slots t 1).cast nbuf0_1)) (Gen.st0_2 t) (hstage0_2 ((cfg0.slots t 2).cast nbuf0_2))
    (Gen.st0_3 t) (hstage0_3 ((cfg0.slots t 3).cast nbuf0_3)) (grid0.coords t)
    (Gen.iblk m c 0 t) (Gen.iblk m c 1 t) (Gen.iblk m c 2 t) hn ((dats m 0 c).before 3 t d3))) $$ [HN HC HO H0 H1 H2 H3]
  · rw [coord]
    isplitl [H0]; iexact H0
    isplitl [H1]; iexact H1
    isplitl [H2]; iexact H2
    isplitl [HN]; iexact HN
    isplitl [H3]; iexact H3
    isplitl [HC]; iexact HC
    unfold owesNone
    iexists W
    iexact HO
  rw [coord]
  unfold owesNone
  iintro %u ⟨H0, H1, H2, HN, H3, HC, ⟨%W', HO⟩⟩
  unfold bodyPost phi
  isplitl [HN HR HC]
  · isplitl [HN]; iexists _; iexact HN
    isplitl [HR]; iexact HR
    iexact HC
  isplitl [HO]
  · iexists W'
    isplitr
    · ipureintro; exact fun _ _ => Or.inl (Set.mem_univ _)
    iexact HO
  isplitl [H0]; iexact H0
  isplitl [H1]; iexact H1
  isplitl [H2]; iexact H2
  iexact H3

theorem body_obligation (c : Dev nD) : BodyObligation (dats m 0 c) (defs₀ (F := F)) 𝒱₀ () Set.univ := fun t => by
  rw [Gen.bigSep_W0, Gen.bigSep_W0]
  exact sound_body m c t

/-! ## The buffers and the semaphores at the launch's ends -/

theorem some_whole (c : Dev nD) (b : Ref sig .tc) :
    (iprop(∃ X, ownsTc c (Memref.whole b) fullShare X) : sProp 𝕄G)
      = iprop(∃ f : Buf (Elt F) ((c : Thread nD τ).loc b), ((c : Thread nD τ).loc b) ↦{fullShare} f) := by
  unfold ownsTc
  simp only [owns_whole]

theorem owns_of {s : Shape} {e : EltTy} (c : Dev nD) (M : Memref sig .tc .vmem s e) :
    (iprop(∃ X, ownsTc c M fullShare X) : sProp 𝕄G)
      ⊣⊢ iprop(∃ f : Buf (Elt F) (M.view.loc (c : Thread nD τ)), M.view.loc (c : Thread nD τ) ↦[M.view.set]{fullShare} f) := by
  unfold ownsTc owns
  refine ⟨?_, ?_⟩
  · iintro ⟨%X, %f, -, H⟩
    iexists f
    iexact H
  · iintro ⟨%f, H⟩
    iexists _, f
    isplitr
    · ipureintro; rfl
    iexact H

/-- A buffer held in two parts, together, and apart. -/
theorem parts (c : Dev nD) (b : Ref sig .tc) (I J : Finset (Idx ((c : Thread nD τ).loc b))) (hd : Disjoint I J) (hu : I ∪ J = Finset.univ) :
    (iprop(∃ f : Buf (Elt F) ((c : Thread nD τ).loc b), ((c : Thread nD τ).loc b) ↦{fullShare} f) : sProp 𝕄G)
      ⊣⊢ iprop((∃ f : Buf (Elt F) ((c : Thread nD τ).loc b), ((c : Thread nD τ).loc b) ↦[I]{fullShare} f)
        ∗ ∃ f : Buf (Elt F) ((c : Thread nD τ).loc b), ((c : Thread nD τ).loc b) ↦[J]{fullShare} f) := by
  refine ⟨?_, ?_⟩
  · iintro ⟨%f, H⟩
    rw [← hu]
    ihave H2 := (pointsTo_union hd).1 $$ H
    icases H2 with ⟨H0, H1⟩
    isplitl [H0]
    · iexists f; iexact H0
    iexists f; iexact H1
  · iintro ⟨⟨%f, H0⟩, ⟨%g, H1⟩⟩
    ihave H2 := (pointsTo_join hd) $$ [H0 H1]
    · isplitl [H0]; iexact H0; iexact H1
    rw [hu]
    iexists _
    iexact H2

theorem apart_of {s : Shape} (a0 : Fin s.rank) (o o' : Fin s.rank → Nat) (z : Fin s.rank → Nat) (h h') (hz : z a0 = 1) (e0 : o a0 = 0) (e1 : o' a0 = 1) :
    Disjoint (Rect.unit (s := s) o z h).set (Rect.unit (s := s) o' z h').set := by
  refine Finset.disjoint_left.2 fun j h0 h1 => ?_
  have p0 := (Rect.mem_set_unit.1 h0) a0
  have p1 := (Rect.mem_set_unit.1 h1) a0
  omega

theorem cover_of {s : Shape} (a0 : Fin s.rank) (o o' : Fin s.rank → Nat) (z : Fin s.rank → Nat) (h h') (hs : s.size a0 = 2) (hz : z a0 = 1) (e0 : o a0 = 0) (e1 : o' a0 = 1)
    (hr : ∀ a, a ≠ a0 → o a = 0 ∧ o' a = 0 ∧ z a = s.size a) :
    (Rect.unit (s := s) o z h).set ∪ (Rect.unit (s := s) o' z h').set = Finset.univ := by
  refine Finset.eq_univ_iff_forall.2 fun j => ?_
  rw [Finset.mem_union, Rect.mem_set_unit, Rect.mem_set_unit]
  have hj : (j a0).val < 2 := lt_of_lt_of_eq (j a0).isLt hs
  by_cases h0 : (j a0).val = 0
  · left
    intro a
    by_cases ha : a = a0
    · subst ha; omega
    · have := hr a ha; have := (j a).isLt; omega
  · right
    intro a
    by_cases ha : a = a0
    · subst ha; omega
    · have := hr a ha; have := (j a).isLt; omega

theorem halves1 (c : Dev nD) :
    (iprop(∃ f : Buf (Elt F) ((c : Thread nD τ).loc cc0_scratch1), ((c : Thread nD τ).loc cc0_scratch1) ↦{fullShare} f) : sProp 𝕄G)
      ⊣⊢ iprop((∃ X, ownsTc c (halfU bgM ![0, 0, 0] (inU Nat.zero_lt_two)) fullShare X) ∗ ∃ X, ownsTc c (halfU bgM ![1, 0, 0] (inU Nat.one_lt_two)) fullShare X) := by
  have e0 : @Eq (Finset S2x2048x512.Idx) (halfU bgM ![0, 0, 0] (inU Nat.zero_lt_two)).view.set (Rect.unit (s := S2x2048x512) ![0, 0, 0] S1x2048x512.size (inU Nat.zero_lt_two)).set :=
    (View.set_reshape _ _).trans (View.set_slice_whole cc0_scratch1 (Rect.unit (s := S2x2048x512) ![0, 0, 0] S1x2048x512.size (inU Nat.zero_lt_two)))
  have e1 : @Eq (Finset S2x2048x512.Idx) (halfU bgM ![1, 0, 0] (inU Nat.one_lt_two)).view.set (Rect.unit (s := S2x2048x512) ![1, 0, 0] S1x2048x512.size (inU Nat.one_lt_two)).set :=
    (View.set_reshape _ _).trans (View.set_slice_whole cc0_scratch1 (Rect.unit (s := S2x2048x512) ![1, 0, 0] S1x2048x512.size (inU Nat.one_lt_two)))
  refine (parts c cc0_scratch1 (halfU bgM ![0, 0, 0] (inU Nat.zero_lt_two)).view.set (halfU bgM ![1, 0, 0] (inU Nat.one_lt_two)).view.set ?_ ?_).trans ?_
  · exact (congrArg₂ (fun a b : Finset S2x2048x512.Idx => Disjoint a b) e0 e1).mpr (apart_of (s := S2x2048x512) 0 _ _ _ _ _ rfl rfl rfl)
  · exact (congrArg₂ (fun a b : Finset S2x2048x512.Idx => a ∪ b) e0 e1).trans (cover_of (s := S2x2048x512) 0 _ _ _ _ _ rfl rfl rfl rfl (by decide))
  · exact ⟨BI.sep_mono (owns_of c (halfU bgM ![0, 0, 0] (inU Nat.zero_lt_two))).2 (owns_of c (halfU bgM ![1, 0, 0] (inU Nat.one_lt_two))).2, BI.sep_mono (owns_of c (halfU bgM ![0, 0, 0] (inU Nat.zero_lt_two))).1 (owns_of c (halfU bgM ![1, 0, 0] (inU Nat.one_lt_two))).1⟩

theorem halves2 (c : Dev nD) :
    (iprop(∃ f : Buf (Elt F) ((c : Thread nD τ).loc cc0_scratch2), ((c : Thread nD τ).loc cc0_scratch2) ↦{fullShare} f) : sProp 𝕄G)
      ⊣⊢ iprop((∃ X, ownsTc c (halfU buM ![0, 0, 0] (inU Nat.zero_lt_two)) fullShare X) ∗ ∃ X, ownsTc c (halfU buM ![1, 0, 0] (inU Nat.one_lt_two)) fullShare X) := by
  have e0 : @Eq (Finset S2x2048x512.Idx) (halfU buM ![0, 0, 0] (inU Nat.zero_lt_two)).view.set (Rect.unit (s := S2x2048x512) ![0, 0, 0] S1x2048x512.size (inU Nat.zero_lt_two)).set :=
    (View.set_reshape _ _).trans (View.set_slice_whole cc0_scratch2 (Rect.unit (s := S2x2048x512) ![0, 0, 0] S1x2048x512.size (inU Nat.zero_lt_two)))
  have e1 : @Eq (Finset S2x2048x512.Idx) (halfU buM ![1, 0, 0] (inU Nat.one_lt_two)).view.set (Rect.unit (s := S2x2048x512) ![1, 0, 0] S1x2048x512.size (inU Nat.one_lt_two)).set :=
    (View.set_reshape _ _).trans (View.set_slice_whole cc0_scratch2 (Rect.unit (s := S2x2048x512) ![1, 0, 0] S1x2048x512.size (inU Nat.one_lt_two)))
  refine (parts c cc0_scratch2 (halfU buM ![0, 0, 0] (inU Nat.zero_lt_two)).view.set (halfU buM ![1, 0, 0] (inU Nat.one_lt_two)).view.set ?_ ?_).trans ?_
  · exact (congrArg₂ (fun a b : Finset S2x2048x512.Idx => Disjoint a b) e0 e1).mpr (apart_of (s := S2x2048x512) 0 _ _ _ _ _ rfl rfl rfl)
  · exact (congrArg₂ (fun a b : Finset S2x2048x512.Idx => a ∪ b) e0 e1).trans (cover_of (s := S2x2048x512) 0 _ _ _ _ _ rfl rfl rfl rfl (by decide))
  · exact ⟨BI.sep_mono (owns_of c (halfU buM ![0, 0, 0] (inU Nat.zero_lt_two))).2 (owns_of c (halfU buM ![1, 0, 0] (inU Nat.one_lt_two))).2, BI.sep_mono (owns_of c (halfU buM ![0, 0, 0] (inU Nat.zero_lt_two))).1 (owns_of c (halfU buM ![1, 0, 0] (inU Nat.one_lt_two))).1⟩

theorem halves3 (c : Dev nD) :
    (iprop(∃ f : Buf (Elt F) ((c : Thread nD τ).loc cc0_scratch3), ((c : Thread nD τ).loc cc0_scratch3) ↦{fullShare} f) : sProp 𝕄G)
      ⊣⊢ iprop((∃ X, ownsTc c (halfD bdM ![0, 0, 0] (inD Nat.zero_lt_two)) fullShare X) ∗ ∃ X, ownsTc c (halfD bdM ![1, 0, 0] (inD Nat.one_lt_two)) fullShare X) := by
  have e0 : @Eq (Finset S2x512x2048.Idx) (halfD bdM ![0, 0, 0] (inD Nat.zero_lt_two)).view.set (Rect.unit (s := S2x512x2048) ![0, 0, 0] S1x512x2048.size (inD Nat.zero_lt_two)).set :=
    (View.set_reshape _ _).trans (View.set_slice_whole cc0_scratch3 (Rect.unit (s := S2x512x2048) ![0, 0, 0] S1x512x2048.size (inD Nat.zero_lt_two)))
  have e1 : @Eq (Finset S2x512x2048.Idx) (halfD bdM ![1, 0, 0] (inD Nat.one_lt_two)).view.set (Rect.unit (s := S2x512x2048) ![1, 0, 0] S1x512x2048.size (inD Nat.one_lt_two)).set :=
    (View.set_reshape _ _).trans (View.set_slice_whole cc0_scratch3 (Rect.unit (s := S2x512x2048) ![1, 0, 0] S1x512x2048.size (inD Nat.one_lt_two)))
  refine (parts c cc0_scratch3 (halfD bdM ![0, 0, 0] (inD Nat.zero_lt_two)).view.set (halfD bdM ![1, 0, 0] (inD Nat.one_lt_two)).view.set ?_ ?_).trans ?_
  · exact (congrArg₂ (fun a b : Finset S2x512x2048.Idx => Disjoint a b) e0 e1).mpr (apart_of (s := S2x512x2048) 0 _ _ _ _ _ rfl rfl rfl)
  · exact (congrArg₂ (fun a b : Finset S2x512x2048.Idx => a ∪ b) e0 e1).trans (cover_of (s := S2x512x2048) 0 _ _ _ _ _ rfl rfl rfl rfl (by decide))
  · exact ⟨BI.sep_mono (owns_of c (halfD bdM ![0, 0, 0] (inD Nat.zero_lt_two))).2 (owns_of c (halfD bdM ![1, 0, 0] (inD Nat.one_lt_two))).2, BI.sep_mono (owns_of c (halfD bdM ![0, 0, 0] (inD Nat.zero_lt_two))).1 (owns_of c (halfD bdM ![1, 0, 0] (inD Nat.one_lt_two))).1⟩

/-- The launch's own semaphores. -/
def own6 : Fin 6 → SemLoc sig
  | 0 => .dma (semAt ![0, 0] (inS (by decide) (by decide)))
  | 1 => .dma (semAt ![1, 0] (inS (by decide) (by decide)))
  | 2 => .dma (semAt ![2, 0] (inS (by decide) (by decide)))
  | 3 => .dma (semAt ![0, 1] (inS (by decide) (by decide)))
  | 4 => .dma (semAt ![1, 1] (inS (by decide) (by decide)))
  | 5 => .dma (semAt ![2, 1] (inS (by decide) (by decide)))

theorem own6_facts : Pipeline.OwnSemFacts spec0 own6 := by decide

/-- The arrays the body reads by its own copies. -/
abbrev readByCopy : Finset (Ref sig .tc) := {main_arg2, main_arg3, main_arg4}

theorem held_launch (c : Dev nD) :
    (Pipeline.ΦD own6 spec0 readByCopy (Gen.V m) c : sProp 𝕄G)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f))
        ∗ (∃ r, prngReg c r)
        ∗ (semVal ((c : Thread nD τ), own6 0) 0 ∗ semVal ((c : Thread nD τ), own6 1) 0 ∗ semVal ((c : Thread nD τ), own6 2) 0
          ∗ semVal ((c : Thread nD τ), own6 3) 0 ∗ semVal ((c : Thread nD τ), own6 4) 0 ∗ semVal ((c : Thread nD τ), own6 5) 0)
        ∗ weightsHeld m c) := by
  rw [Pipeline.ΦD_eq, Gen.scopedRest0_eq]
  unfold Pipeline.ownSems0
  rw [bigSep_univ_eq_bigSepL [(0 : Fin 6), 1, 2, 3, 4, 5] (by decide) (by decide),
    bigSep_eq_bigSepL_of_eq [main_arg2, main_arg3, main_arg4] (by decide) (by decide)]
  rfl

theorem phi_zero (c : Dev nD) : (Pipeline.ΦD own6 spec0 readByCopy (Gen.V m) c : sProp 𝕄G) ⊢ phi m c 0 := by
  rw [held_launch]
  unfold phi copies
  rw [if_pos rfl]
  unfold quiet restAt idle
  iintro ⟨⟨H0, H1, H2, H3⟩, HR, ⟨S0, S1, S2, S3, S4, S5⟩, HW⟩
  ihave H1' := (halves1 c).1 $$ H1
  icases H1' with ⟨A0, A1⟩
  ihave H2' := (halves2 c).1 $$ H2
  icases H2' with ⟨B0, B1⟩
  ihave H3' := (halves3 c).1 $$ H3
  icases H3' with ⟨C0, C1⟩
  isplitl [H0]
  · iapply (Entails.of_eq (some_whole c cc0_scratch0).symm)
    iexact H0
  isplitl [HR]; iexact HR
  isplitl [HW]; iexact HW
  isplitl [A0 B0 C0 S0 S1 S2]
  · isplitl [A0 S0]
    · isplitl [A0]; iexact A0; iexact S0
    isplitl [B0 S1]
    · isplitl [B0]; iexact B0; iexact S1
    isplitl [C0]; iexact C0; iexact S2
  isplitl [A1 S3]
  · isplitl [A1]; iexact A1; iexact S3
  isplitl [B1 S4]
  · isplitl [B1]; iexact B1; iexact S4
  isplitl [C1]; iexact C1; iexact S5

theorem phi_last (c : Dev nD) : (phi m c cfg0.N : sProp 𝕄G) ⊢ Pipeline.ΦD own6 spec0 readByCopy (Gen.V m) c := by
  rw [held_launch]
  unfold phi
  have hc : (copies m c cfg0.N : sProp 𝕄G) = quiet m c := by
    rw [show cfg0.N = 32 from Gen.N_0]
    unfold copies ring
    rw [if_neg (by decide), if_neg (by decide)]
    rfl
  rw [hc]
  unfold quiet restAt idle
  iintro ⟨H0, HR, HW, ⟨⟨A0, S0⟩, ⟨B0, S1⟩, ⟨C0, S2⟩⟩, ⟨⟨A1, S3⟩, ⟨B1, S4⟩, ⟨C1, S5⟩⟩⟩
  isplitl [H0 A0 A1 B0 B1 C0 C1]
  · isplitl [H0]
    · iapply (Entails.of_eq (some_whole c cc0_scratch0))
      iexact H0
    isplitl [A0 A1]
    · iapply (halves1 c).2
      isplitl [A0]; iexact A0; iexact A1
    isplitl [B0 B1]
    · iapply (halves2 c).2
      isplitl [B0]; iexact B0; iexact B1
    iapply (halves3 c).2
    isplitl [C0]; iexact C0; iexact C1
  isplitl [HR]; iexact HR
  isplitr [HW]
  · isplitl [S0]; iexact S0
    isplitl [S1]; iexact S1
    isplitl [S2]; iexact S2
    isplitl [S3]; iexact S3
    isplitl [S4]; iexact S4
    iexact S5
  iexact HW

/-! ## The launch -/

/-- Every run ends, every semaphore at rest, with every array as the points' blocks make it. -/
theorem launch_run (ρ : Dev nD → PrngReg) :
    θ_run defs (onTc (τ := τ) (main (F := F))) (s₀ m ρ)
      (fun r => Pipeline.FramePost cfgs (dats m) 0 (Gen.V m) r ∧ r.2.sem = (fun _ => 0)) :=
  Pipeline.θ_run_frame_dma cfgs (dats m) 0 Gen.launch0 own6 defs₀ 𝒱₀ own6_facts readByCopy (by decide) m ρ main
    (fun c => (body_obligation m c).loose) (fun _ _ => ite_self _) (fun _ _ => rfl) (Gen.V m)
    (Pipeline.hmain_region cfgs 0 defs₀ 𝒱₀ m main fun c => (Gen.main_chain c).trans rfl) (fun _ _ => rfl)
    (fun c => phi_zero m c) (fun c => phi_last m c) _ (fun _ h => h)

end Cert.Kernel2Ideal

end
-- ==== Proof.FfnQuiet.lean ====
/- The second call ends with its arguments unchanged and every semaphore at rest, for the floats of the machine and for the
   extended reals. -/
module

public import proofs.«01_k».proof.Proof.FfnFrame
public import proofs.«01_k».proof.Defs
public import proofs.«01_k».proof.Proof.Gen.Kernel2
public import proofs.«01_k».proof.Proof.Gen.Reference2Ideal.Run
public import Idealize.ShloMosaic.Lib.Quiescent

@[expose] public section

set_option maxRecDepth 100000

noncomputable section

namespace Cert.Kernel2Ideal

open Idealize.ShloMosaic Idealize.ShloMosaic.TcCoe Idealize.SL.Sem

section
variable {F : FTy → Type} [FloatOps F]
variable (m : (ℓ : Loc nD τ sig) → Buf (Elt F) ℓ)

/-- The arguments end as they began. -/
def Unchanged (r : MemSt nD τ sig (Elt F)) (c : Dev nD) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)

/-- What the launch leaves in the result: the points' blocks. -/
def result (c : Dev nD) : Buf (Elt F) ((c.tc : Thread nD τ).loc main_v0) := (dats m 0 c).arrAt 3 cfg0.N

theorem run_result (ρ : Dev nD → PrngReg) :
    θ_run defs (onTc (τ := τ) (main (F := F))) ⟨m, fun _ => 0, ρ⟩
      (fun r => (∀ c : Dev nD, r.2.mem ((c.tc : Thread nD τ).loc main_v0) = result m c ∧ Unchanged m r.2 c)
        ∧ r.2.sem = fun _ => 0) :=
  (θ_run defs _ _).mono (fun _ h => ⟨fun c => ⟨(h.1 c).1 3,
      ((h.1 c).1 0).trans (((dats m 0 c).arrAt_in 0 rfl _).trans (Gen.V_main_arg0 m c)),
      ((h.1 c).1 1).trans (((dats m 0 c).arrAt_in 1 rfl _).trans (Gen.V_main_arg1 m c)),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      ((h.1 c).1 2).trans (((dats m 0 c).arrAt_in 2 rfl _).trans (Gen.V_main_arg5 m c))⟩, h.2⟩) (launch_run m ρ)

end

end Cert.Kernel2Ideal

namespace Cert.Proof

open Idealize.ShloMosaic Idealize.ShloMosaic.TcCoe Idealize.SL.Sem

theorem quiescent_Kernel2Ideal : Cert.quiescent_Kernel2Ideal := fun m ρ _ =>
  (θ_run Cert.Kernel2Ideal.defs _ _).mono (fun _ h => ⟨fun c => (h.1 c).2, h.2⟩)
    (Cert.Kernel2Ideal.run_result m ρ)

section
open Cert.Kernel2Ideal

theorem run_machine2 (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, Unchanged m r.2 c) ∧ r.2.sem = fun _ => 0) :=
  (θ_run defs _ _).mono (fun _ (h : (∀ c : Dev nD, _ ∧ Unchanged m _ c) ∧ _) => ⟨fun c => (h.1 c).2, h.2⟩) (run_result (F := Bits) m ρ)

end

section
variable {F : FTy → Type} [FloatOps F]

set_option maxHeartbeats 4000000 in
/-- The machine's body is the same body. -/
theorem ffn_eq : @Cert.Kernel2.cc0_ffn F _ _ = @Cert.Kernel2Ideal.cc0_ffn F _ _ := rfl

theorem bodies2_eq : @Cert.Kernel2.defs₀ F _ _ = @Cert.Kernel2Ideal.defs₀ F _ _ := by
  unfold Cert.Kernel2.defs₀ Cert.Kernel2Ideal.defs₀
  rw [ffn_eq]
  refine congrArg _ (funext fun l => funext fun x => ?_)
  match l, x with
  | 0, (t, s) => rfl
  | ⟨n + 1, h⟩, _ => exact absurd h (Nat.not_lt.2 (Nat.le_add_left _ _))

theorem defs2_eq : @Cert.Kernel2.defs F _ _ = @Cert.Kernel2Ideal.defs F _ _ := by
  unfold Cert.Kernel2.defs Cert.Kernel2Ideal.defs
  rw [bodies2_eq]
  rfl

end

theorem quiescent_Kernel2 : Cert.quiescent_Kernel2 := fun m ρ _ => by
  rw [defs2_eq]
  exact run_machine2 m ρ

theorem quiescent_Reference2Ideal : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves2 : Cert.preserves_Kernel2_Kernel2Ideal := trivial

end Cert.Proof
end
-- ==== Proof.Gated.lean ====
/- The feed-forward of one row, over the extended reals: what both programs of the second call and of the third compute, as plain functions. -/
module

public import Idealize.ShloMosaic.Lib.Pointwise

@[expose] public section

noncomputable section

namespace Cert.Gated

open Idealize.ShloMosaic

/-- A row over its root mean square, scaled. -/
def nrm (x g : Fin 2048 → EReal) (j : Fin 2048) : EReal :=
  x j * Ideal.rsqrt (Ideal.div (∑ i, x i * x i) (Ideal.ofBits .f32 0x45000000#32) + Ideal.ofBits .f32 0x358637BD#32) * g j

/-- A row times a column. -/
def col (n : Fin 2048 → EReal) (W : Fin 2048 → Fin 5632 → EReal) (k : Fin 5632) : EReal := ∑ i, n i * W i k

/-- The gated hidden row. -/
def act (n : Fin 2048 → EReal) (G U : Fin 2048 → Fin 5632 → EReal) (k : Fin 5632) : EReal :=
  col n G k * Ideal.logistic (col n G k) * col n U k

/-- The row plus its feed-forward. -/
def row (x g : Fin 2048 → EReal) (G U : Fin 2048 → Fin 5632 → EReal) (D : Fin 5632 → Fin 2048 → EReal) (j : Fin 2048) : EReal :=
  x j + ∑ k, act (nrm x g) G U k * D k j

/-- The result's row. -/
def out (x g : Fin 2048 → EReal) (G U : Fin 2048 → Fin 5632 → EReal) (D : Fin 5632 → Fin 2048 → EReal) (l : Fin 2048 → EReal) :
    Fin 2048 → EReal := nrm (row x g G U D) l

/-- A column's place, from its piece and its place there. -/
def place (f : ℕ) (b : Fin 512) : Fin 5632 := ⟨512 * (f % 11) + b.val, by have := b.isLt; omega⟩

theorem sum_pieces (h : Fin 5632 → EReal) : ∑ f ∈ Finset.range 11, ∑ b, h (place f b) = ∑ k, h k := by
  rw [Finset.sum_range, ← Fintype.sum_prod_type', ← Equiv.sum_comp (finProdFinEquiv : Fin 11 × Fin 512 ≃ Fin 5632)]
  refine Finset.sum_congr rfl fun p _ => congrArg h (Fin.ext ?_)
  have := p.1.isLt
  show 512 * (p.1.val % 11) + p.2.val = p.2.val + 512 * p.1.val
  omega

end Cert.Gated
-- ==== Proof.FfnAt.lean ====
/- The second call's result read entry by entry, over the extended reals: the block a point writes is its rows' feed-forward. -/
module

public import proofs.«01_k».proof.Proof.FfnQuiet
public import proofs.«01_k».proof.Proof.Gated
public import Idealize.ShloMosaic.Lib.Pointwise

@[expose] public section

set_option synthInstance.maxSize 4096
set_option maxRecDepth 100000

noncomputable section

namespace Cert.Kernel2Ideal

open Idealize.ShloMosaic Idealize.ShloMosaic.TcCoe Idealize.SL.Sem
open Facts₀ Facts

variable (m : (ℓ : Loc nD τ sig) → Buf (Elt Ideal) ℓ) (c : Dev nD)

/-! ## The arguments -/

abbrev ar0 : FVec Ideal S33792x2048 .f32 := m ((c.tc : Thread nD τ).loc main_arg0)
abbrev ar1 : FVec Ideal S1x2048 .f32 := m ((c.tc : Thread nD τ).loc main_arg1)
abbrev ar2 : FVec Ideal S2x2048x5632 .bf16 := m ((c.tc : Thread nD τ).loc main_arg2)
abbrev ar3 : FVec Ideal S2x2048x5632 .bf16 := m ((c.tc : Thread nD τ).loc main_arg3)
abbrev ar4 : FVec Ideal S2x5632x2048 .bf16 := m ((c.tc : Thread nD τ).loc main_arg4)
abbrev ar5 : FVec Ideal S1x2048 .f32 := m ((c.tc : Thread nD τ).loc main_arg5)

/-- The second layer's matrix into the hidden row. -/
def wide (A : FVec Ideal S2x2048x5632 .bf16) (i : Fin 2048) (k : Fin 5632) : EReal := A (ix3 1 i k)

/-- The second layer's matrix out of the hidden row. -/
def tall (A : FVec Ideal S2x5632x2048 .bf16) (k : Fin 5632) (j : Fin 2048) : EReal := A (ix3 1 k j)

/-! ## The pieces at an index -/

theorem gPiece_apply (f : ℕ) (h : f < 11) (a : Fin 2048) (b : Fin 512) :
    gPiece m c f h (ix2 a b) = ar2 m c (ix3 1 a ⟨512 * f + b.val, by have := b.isLt; omega⟩) := by
  have e : gPiece m c f h = shapeCast S2048x512
      (fun y : S1x2048x512.Idx => ar2 m c ((Rect.unit (s := S2x2048x5632) ![1, 0, 512 * f] S1x2048x512.size (inWU h)).emb y))
      shapeCasts_S1x2048x512_S2048x512 := rfl
  rw [e]
  pointwise
  refine congrArg (ar2 m c) (funext fun x => Fin.ext ?_)
  rw [Rect.emb_apply]
  fin_cases x <;> simp

theorem uPiece_apply (f : ℕ) (h : f < 11) (a : Fin 2048) (b : Fin 512) :
    uPiece m c f h (ix2 a b) = ar3 m c (ix3 1 a ⟨512 * f + b.val, by have := b.isLt; omega⟩) := by
  have e : uPiece m c f h = shapeCast S2048x512
      (fun y : S1x2048x512.Idx => ar3 m c ((Rect.unit (s := S2x2048x5632) ![1, 0, 512 * f] S1x2048x512.size (inWU h)).emb y))
      shapeCasts_S1x2048x512_S2048x512 := rfl
  rw [e]
  pointwise
  refine congrArg (ar3 m c) (funext fun x => Fin.ext ?_)
  rw [Rect.emb_apply]
  fin_cases x <;> simp

theorem dPiece_apply (f : ℕ) (h : f < 11) (a : Fin 512) (b : Fin 2048) :
    dPiece m c f h (ix2 a b) = ar4 m c (ix3 1 ⟨512 * f + a.val, by have := a.isLt; omega⟩ b) := by
  have e : dPiece m c f h = shapeCast S512x2048
      (fun y : S1x512x2048.Idx => ar4 m c ((Rect.unit (s := S2x5632x2048) ![1, 512 * f, 0] S1x512x2048.size (inWD h)).emb y))
      shapeCasts_S1x512x2048_S512x2048 := rfl
  rw [e]
  pointwise
  refine congrArg (ar4 m c) (funext fun x => Fin.ext ?_)
  rw [Rect.emb_apply]
  fin_cases x <;> simp

/-! ## The steps at an index -/

theorem normed_apply (x : Vec Ideal S1024x2048 .f32) (g : Vec Ideal S1x2048 .f32) (r : Fin 1024) (j : Fin 2048) :
    Gen.k0_pay2 x g (ix2 r j) = Gated.nrm (fun i => x (ix2 r i)) (fun i => g (ix2 0 i)) j := by
  unfold Gen.k0_pay2 Gated.nrm
  pointwise

theorem stepVal_apply (hn : Vec Ideal S1024x2048 .bf16) (G U : Vec Ideal S2048x512 .bf16) (D : Vec Ideal S512x2048 .bf16)
    (acc : Vec Ideal S1024x2048 .f32) (r : Fin 1024) (j : Fin 2048) :
    stepVal hn G U D acc (ix2 r j) = acc (ix2 r j) + ∑ b : Fin 512,
      (∑ i : Fin 2048, hn (ix2 r i) * G (ix2 i b)) * Ideal.logistic (∑ i : Fin 2048, hn (ix2 r i) * G (ix2 i b))
        * (∑ i : Fin 2048, hn (ix2 r i) * U (ix2 i b)) * D (ix2 b j) := by
  unfold stepVal
  pointwise

theorem final_apply (a : Vec Ideal S1024x2048 .f32) (l : Vec Ideal S1x2048 .f32) (r : Fin 1024) (j : Fin 2048) :
    Gen.k0_pay1 (Gen.k0_pay4 a) (Gen.k0_pay5 a) l (ix2 r j) = Gated.nrm (fun i => a (ix2 r i)) (fun i => l (ix2 0 i)) j := by
  unfold Gen.k0_pay1 Gen.k0_pay5 Gen.k0_pay4 Gated.nrm
  pointwise

theorem accAt_apply (hn : Vec Ideal S1024x2048 .bf16) (x : Vec Ideal S1024x2048 .f32) (r : Fin 1024) (j : Fin 2048) (n : ℕ) :
    accAt m c hn x n (ix2 r j) = x (ix2 r j) + ∑ f ∈ Finset.range n, ∑ b : Fin 512,
      Gated.act (fun i => hn (ix2 r i)) (wide (ar2 m c)) (wide (ar3 m c)) (Gated.place f b) * tall (ar4 m c) (Gated.place f b) j := by
  induction n with
  | zero => simp [accAt]
  | succ n ih =>
    show stepVal hn (gPiece m c (n % 11) (lt11 n)) (uPiece m c (n % 11) (lt11 n)) (dPiece m c (n % 11) (lt11 n)) (accAt m c hn x n) (ix2 r j) = _
    rw [stepVal_apply, ih, Finset.sum_range_succ, add_assoc]
    simp only [gPiece_apply, uPiece_apply, dPiece_apply]
    rfl

theorem accOf_apply (x : Vec Ideal S1024x2048 .f32) (g : Vec Ideal S1x2048 .f32) (r : Fin 1024) (j : Fin 2048) :
    accOf m c x g (ix2 r j)
      = Gated.row (fun i => x (ix2 r i)) (fun i => g (ix2 0 i)) (wide (ar2 m c)) (wide (ar3 m c)) (tall (ar4 m c)) j := by
  unfold accOf Gated.row
  rw [accAt_apply]
  simp only [normed_apply]
  rw [Gated.sum_pieces (fun k => Gated.act _ _ _ k * tall (ar4 m c) k j)]

theorem outOf_apply (x : Vec Ideal S1024x2048 .f32) (g l : Vec Ideal S1x2048 .f32) (r : Fin 1024) (j : Fin 2048) :
    outOf m c x g l (ix2 r j)
      = Gated.out (fun i => x (ix2 r i)) (fun i => g (ix2 0 i)) (wide (ar2 m c)) (wide (ar3 m c)) (tall (ar4 m c)) (fun i => l (ix2 0 i)) j := by
  unfold outOf Gated.out
  rw [final_apply]
  simp only [accOf_apply]

/-! ## The blocks at an index -/

variable (t : Fin cfg0.N)

theorem points : t.val < 32 := lt_of_lt_of_eq t.isLt Gen.N_0

/-- A row of a point's block. -/
def rowAt (r : Fin 1024) : Fin 32768 := ⟨t.val * 1024 + r.val, by have := points t; have := r.isLt; omega⟩

theorem word (n : ℕ) (h : n < 32) : (BitVec.ofNat 32 n).toNat = n := by rw [BitVec.toNat_ofNat]; omega

theorem blk0_apply (r : Fin 1024) (i : Fin 2048) :
    (Gen.iblk m c 0 t : Vec Ideal S1024x2048 .f32) (ix2 r i)
      = ar0 m c (ix2 ⟨(rowAt t r).val, by have := (rowAt t r).isLt; omega⟩ i) := by
  show Gen.V m c main_arg0 ((win0_0.rect t).emb _) = Gen.V m c main_arg0 _
  congr 1
  funext a
  apply Fin.ext
  rw [Pipeline.Window.rect_emb_val win0_0 t _ a]
  have := points t
  fin_cases a
  · show (BitVec.ofNat 32 (grid0.coords t 0).val).toNat * 1024 + r.val = t.val * 1024 + r.val
    rw [word _ (by rw [coord]; omega), coord]
  · show 0 * 2048 + i.val = i.val
    omega

theorem blk1_apply (i : Fin 2048) : (Gen.iblk m c 1 t : Vec Ideal S1x2048 .f32) (ix2 0 i) = ar1 m c (ix2 0 i) := by
  show Gen.V m c main_arg1 ((win0_1.rect t).emb _) = Gen.V m c main_arg1 _
  congr 1
  funext a
  apply Fin.ext
  rw [Pipeline.Window.rect_emb_val win0_1 t _ a]
  fin_cases a
  · rfl
  · show 0 * 2048 + i.val = i.val
    omega

theorem blk2_apply (i : Fin 2048) : (Gen.iblk m c 2 t : Vec Ideal S1x2048 .f32) (ix2 0 i) = ar5 m c (ix2 0 i) := by
  show Gen.V m c main_arg5 ((win0_2.rect t).emb _) = Gen.V m c main_arg5 _
  congr 1
  funext a
  apply Fin.ext
  rw [Pipeline.Window.rect_emb_val win0_2 t _ a]
  fin_cases a
  · rfl
  · show 0 * 2048 + i.val = i.val
    omega

/-! ## The whole result -/

/-- An entry of the result. -/
def entry (A0 : FVec Ideal S33792x2048 .f32) (A1 : FVec Ideal S1x2048 .f32) (A2 A3 : FVec Ideal S2x2048x5632 .bf16)
    (A4 : FVec Ideal S2x5632x2048 .bf16) (A5 : FVec Ideal S1x2048 .f32) (q : Fin 32768) (j : Fin 2048) : EReal :=
  Gated.out (fun i => A0 (ix2 ⟨q.val, by have := q.isLt; omega⟩ i)) (fun i => A1 (ix2 0 i)) (wide A2) (wide A3) (tall A4) (fun i => A5 (ix2 0 i)) j

/-- The result, entry by entry. -/
def whole : FVec Ideal S32768x2048 .f32 := fun y =>
  entry (ar0 m c) (ar1 m c) (ar2 m c) (ar3 m c) (ar4 m c) (ar5 m c) (y 0) (y 1)

theorem emb3 (y : S1024x2048.Idx) : ((win0_3.rect t).emb y : S32768x2048.Idx) = ix2 (rowAt t (y 0)) (y 1) := by
  funext a
  apply Fin.ext
  rw [Pipeline.Window.rect_emb_val win0_3 t _ a]
  have := points t
  fin_cases a
  · show (BitVec.ofNat 32 (grid0.coords t 0).val).toNat * 1024 + (y 0).val = t.val * 1024 + (y 0).val
    rw [word _ (by rw [coord]; omega), coord]
  · show 0 * 2048 + (y 1).val = (y 1).val
    omega

theorem outAt_apply (r : Fin 1024) (j : Fin 2048) :
    outAt m c t (ix2 r j) = entry (ar0 m c) (ar1 m c) (ar2 m c) (ar3 m c) (ar4 m c) (ar5 m c) (rowAt t r) j := by
  refine (outOf_apply m c _ _ _ r j).trans ?_
  simp only [blk0_apply, blk1_apply, blk2_apply]
  rfl

theorem outAt_eq (y : S1024x2048.Idx) : outAt m c t y = whole m c ((win0_3.rect t).emb y) := by
  have e : y = ix2 (y 0) (y 1) := by
    funext a
    fin_cases a <;> rfl
  rw [emb3]
  exact (congrArg (outAt m c t) e).trans (outAt_apply m c t (y 0) (y 1))

theorem result_eq : result m c = whole m c := by
  refine (dats m 0 c).arrAt_eq_of_cover 3 (whole m c : Buf (Elt Ideal) ((c.tc : Thread nD τ).loc main_v0)) (fun t _ => ?_) (fun i => ?_)
  · funext y
    exact outAt_eq m c t y
  · have h0 : (i 0).val < 32768 := (i 0).isLt
    have h1 : (i 1).val < 2048 := (i 1).isLt
    have hN : cfg0.N = 32 := Gen.N_0
    let t : Fin cfg0.N := ⟨(i 0).val / 1024, by rw [hN]; omega⟩
    let y : S1024x2048.Idx := ix2 ⟨(i 0).val % 1024, Nat.mod_lt _ (by norm_num)⟩ (i 1)
    have ht : t.val = (i 0).val / 1024 := rfl
    have e : (win0_3.rect t).emb y = i := by
      rw [emb3]
      funext a
      apply Fin.ext
      fin_cases a
      · show t.val * 1024 + (i 0).val % 1024 = (i 0).val
        omega
      · rfl
    refine ⟨t, Gen.flush0_3 t, ?_⟩
    have h := ((cfg0.win 3).blk t).view.emb_mem_set y
    exact (show ((cfg0.win 3).blk t).view.emb y = i from e) ▸ h

end Cert.Kernel2Ideal
-- ==== Proof.FfnRefAt.lean ====
/- The second reference's result read entry by entry, over the extended reals: the rows' feed-forward. -/
module

public import proofs.«01_k».proof.Proof.Gen.Reference2Ideal.Run
public import proofs.«01_k».proof.Proof.FfnAt

@[expose] public section

set_option synthInstance.maxSize 4096
set_option maxRecDepth 100000

noncomputable section

namespace Cert.Reference2Ideal

open Cert.Reference2Ideal.Gen Idealize.ShloMosaic Idealize.ShloMosaic.TcCoe

/-! ## The reference in stages -/

/-- The rows the call takes. -/
def rows (A0 : FVec Ideal S33792x2048 .f32) : FVec Ideal S32768x2048 .f32 :=
  extractStridedSlice S32768x2048 ![0, 0] A0 slices_S33792x2048_S32768x2048_0_0

/-- Rows over their root mean squares, scaled. -/
def normed (X : FVec Ideal S32768x2048 .f32) (A : FVec Ideal S1x2048 .f32) : FVec Ideal S32768x2048 .f32 :=
  mulf (mulf X (broadcastInDim S32768x2048 ![0, 1] bcast_S32768x1_S32768x2048_0_1 (Host.rsqrt (addf (Host.divf (broadcastInDim S32768x1 ![0]
    bcast_S32768_S32768x1_0 (Host.reduceAdd (mulf X X) (constant S_ .f32 0x00000000#32) reducesTo_S32768x2048_S32768_d1 h_S_)) (broadcastInDim S32768x1 ![]
    bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 A)

/-- Rows times the second layer's matrix into the hidden rows. -/
def cols (N : FVec Ideal S32768x2048 .f32) (A : FVec Ideal S2x2048x5632 .bf16) : FVec Ideal S32768x5632 .f32 :=
  Host.dotGeneral dot_S32768x2048_S2048x5632_S32768x5632_1_0_0_1_n_n none N (extf .f32 (shapeCast _ (extractStridedSlice S1x2048x5632 ![1, 0, 0] A
    slices_S2x2048x5632_S1x2048x5632_1_0_0) shapeCasts_S1x2048x5632_S2048x5632) bitsLt_bf16_f32)

/-- The gated hidden rows. -/
def gated (G U : FVec Ideal S32768x5632 .f32) : FVec Ideal S32768x5632 .f32 :=
  mulf (mulf G (Host.divf (broadcastInDim S32768x5632 ![] bcast_S_S32768x5632 (constant S_ .f32 0x3F800000#32)) (addf (broadcastInDim S32768x5632 ![]
    bcast_S_S32768x5632 (constant S_ .f32 0x3F800000#32)) (Host.exp (Host.negf G))))) U

/-- Rows plus what the hidden rows give. -/
def joined (X : FVec Ideal S32768x2048 .f32) (H : FVec Ideal S32768x5632 .f32) (A : FVec Ideal S2x5632x2048 .bf16) : FVec Ideal S32768x2048 .f32 :=
  addf X (Host.dotGeneral dot_S32768x5632_S5632x2048_S32768x2048_1_0_0_1_n_n none H (extf .f32 (shapeCast _ (extractStridedSlice S1x5632x2048 ![1, 0, 0] A
    slices_S2x5632x2048_S1x5632x2048_1_0_0) shapeCasts_S1x5632x2048_S5632x2048) bitsLt_bf16_f32))

/-- The result by the stages. -/
def staged (A0 : FVec Ideal S33792x2048 .f32) (A1 : FVec Ideal S1x2048 .f32) (A2 A3 : FVec Ideal S2x2048x5632 .bf16)
    (A4 : FVec Ideal S2x5632x2048 .bf16) (A5 : FVec Ideal S1x2048 .f32) : FVec Ideal S32768x2048 .f32 :=
  normed (joined (rows A0) (gated (cols (normed (rows A0) A1) A2) (cols (normed (rows A0) A1) A3)) A4) A5

set_option maxHeartbeats 2000000 in
theorem res_eq (m : (ℓ : Loc nD τ sig) → Buf (Elt Ideal) ℓ) (c : Dev nD) :
    Value.res_main_v39 m c = staged (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold staged joined gated cols normed rows
  rfl

/-! ## The stages at an index -/

variable (q : Fin 32768) (j : Fin 2048) (k : Fin 5632)

theorem rows_apply (A0 : FVec Ideal S33792x2048 .f32) : rows A0 (ix2 q j) = A0 (ix2 ⟨q.val, by have := q.isLt; omega⟩ j) := by
  unfold rows
  pointwise

theorem normed_apply (X : FVec Ideal S32768x2048 .f32) (A : FVec Ideal S1x2048 .f32) :
    normed X A (ix2 q j) = Gated.nrm (fun i => X (ix2 q i)) (fun i => A (ix2 0 i)) j := by
  unfold normed Gated.nrm
  pointwise

theorem cols_apply (N : FVec Ideal S32768x2048 .f32) (A : FVec Ideal S2x2048x5632 .bf16) :
    cols N A (ix2 q k) = Gated.col (fun i => N (ix2 q i)) (Kernel2Ideal.wide A) k := by
  unfold cols Gated.col Kernel2Ideal.wide
  pointwise

theorem gated_apply (G U : FVec Ideal S32768x5632 .f32) :
    gated G U (ix2 q k) = G (ix2 q k) * Ideal.logistic (G (ix2 q k)) * U (ix2 q k) := by
  unfold gated Ideal.logistic
  pointwise

theorem joined_apply (X : FVec Ideal S32768x2048 .f32) (H : FVec Ideal S32768x5632 .f32) (A : FVec Ideal S2x5632x2048 .bf16) :
    joined X H A (ix2 q j) = X (ix2 q j) + ∑ k, H (ix2 q k) * Kernel2Ideal.tall A k j := by
  unfold joined Kernel2Ideal.tall
  pointwise

theorem staged_apply (A0 : FVec Ideal S33792x2048 .f32) (A1 : FVec Ideal S1x2048 .f32) (A2 A3 : FVec Ideal S2x2048x5632 .bf16)
    (A4 : FVec Ideal S2x5632x2048 .bf16) (A5 : FVec Ideal S1x2048 .f32) :
    staged A0 A1 A2 A3 A4 A5 (ix2 q j) = Kernel2Ideal.entry A0 A1 A2 A3 A4 A5 q j := by
  unfold staged Kernel2Ideal.entry Gated.out Gated.row Gated.act
  simp only [normed_apply, joined_apply, gated_apply, cols_apply, rows_apply]

end Cert.Reference2Ideal

namespace Cert.Proof

open Idealize.ShloMosaic Idealize.ShloMosaic.TcCoe Idealize.SL.Sem

/-- From equal arguments, the second reference's result is the second call's. -/
theorem res2_eq_whole {m : (ℓ : Loc Cert.Kernel2Ideal.nD Cert.Kernel2Ideal.τ Cert.Kernel2Ideal.sig) → Buf (Elt Ideal) ℓ}
    {m' : (ℓ : Loc Cert.Reference2Ideal.nD Cert.Reference2Ideal.τ Cert.Reference2Ideal.sig) → Buf (Elt Ideal) ℓ} (c : Dev Cert.Kernel2Ideal.nD)
    (h0 : m' ((c.tc : Thread Cert.Reference2Ideal.nD Cert.Reference2Ideal.τ).loc Cert.Reference2Ideal.main_arg0) = Cert.Kernel2Ideal.ar0 m c)
    (h1 : m' ((c.tc : Thread Cert.Reference2Ideal.nD Cert.Reference2Ideal.τ).loc Cert.Reference2Ideal.main_arg1) = Cert.Kernel2Ideal.ar1 m c)
    (h2 : m' ((c.tc : Thread Cert.Reference2Ideal.nD Cert.Reference2Ideal.τ).loc Cert.Reference2Ideal.main_arg2) = Cert.Kernel2Ideal.ar2 m c)
    (h3 : m' ((c.tc : Thread Cert.Reference2Ideal.nD Cert.Reference2Ideal.τ).loc Cert.Reference2Ideal.main_arg3) = Cert.Kernel2Ideal.ar3 m c)
    (h4 : m' ((c.tc : Thread Cert.Reference2Ideal.nD Cert.Reference2Ideal.τ).loc Cert.Reference2Ideal.main_arg4) = Cert.Kernel2Ideal.ar4 m c)
    (h5 : m' ((c.tc : Thread Cert.Reference2Ideal.nD Cert.Reference2Ideal.τ).loc Cert.Reference2Ideal.main_arg5) = Cert.Kernel2Ideal.ar5 m c) :
    (Cert.Reference2Ideal.Value.res_main_v39 m' c : FVec Ideal Cert.Kernel2Ideal.S32768x2048 .f32) = Cert.Kernel2Ideal.whole m c := by
  rw [Cert.Reference2Ideal.res_eq, h0, h1, h2, h3, h4, h5]
  funext x
  have e : x = ix2 (x 0) (x 1) := by
    funext a
    fin_cases a <;> rfl
  exact (congrArg (Cert.Reference2Ideal.staged _ _ _ _ _ _) e).trans (Cert.Reference2Ideal.staged_apply (x 0) (x 1) _ _ _ _ _ _)

theorem algebraic2 : Cert.algebraic_Kernel2Ideal_Reference2Ideal := fun m g m' g' _ hargs =>
  ⟨fun c => Cert.Kernel2Ideal.whole m c,
    (θ_run Cert.Kernel2Ideal.defs _ _).mono
      (fun _ h c => ⟨(h.1 c).1.trans (Cert.Kernel2Ideal.result_eq m c), (h.1 c).2⟩)
      (Cert.Kernel2Ideal.run_result m g),
    (θ_run Cert.Reference2Ideal.defs _ _).mono
      (fun _ h c => ⟨(h c).1.trans (res2_eq_whole c (hargs c).1 (hargs c).2.1 (hargs c).2.2.1 (hargs c).2.2.2.1
        (hargs c).2.2.2.2.1 (hargs c).2.2.2.2.2), (h c).2⟩)
      (Cert.Reference2Ideal.Value.run (F := Ideal) m' g')⟩

end Cert.Proof
-- ==== Proof.Base.lean ====
/- The feed-forward kernel's copies: three pieces of the weights at a time, each into one of the two halves of its
   buffer, started one step before they are needed. -/
module

public import proofs.«01_k».proof.Proof.Gen.Kernel3Ideal.Skeleton
public import proofs.«01_k».proof.Proof.Gen.Kernel3Ideal.Frame
public import Idealize.ShloMosaic.Lib.Tactic
public import Idealize.ShloMosaic.Lib.VecWindow
public import Idealize.ShloMosaic.Lib.Pipeline.Kit
public import Idealize.ShloMosaic.Lib.Pipeline.Value

@[expose] public section

set_option synthInstance.maxSize 4096
set_option maxRecDepth 100000

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄G" => MT nD τ sig Unit (Elt F) ℕ (Pipeline.UD sig nD τ) ℕ

/-! ## One copy -/

/-- A copy under way: when it lands the destination holds what the source's part read, and the part comes back to its array. -/
def fly (c : Dev nD) {s : Shape} {e : EltTy} (src : Memref sig .tc .hbm s e) (dst : Memref sig .tc .vmem s e) (sem : DmaSem sig)
    (f : Buf (Elt F) (src.view.loc (c : Thread nD τ))) : sProp 𝕄G :=
  iprop(Transfers.Flight (countersEmb (U := Pipeline.UD sig nD τ)) (c : Thread nD τ) (.dma sem) () dst.view.dmaCredit
      iprop(ownsTc c dst fullShare (src.view.read (Elt F) f) ∗ (src.view.loc (c : Thread nD τ) ↦[src.view.set]{fullShare} f))
    ∗ (src.view.loc (c : Thread nD τ) ↦[Finset.univ \ src.view.set]{fullShare} f))

/-- A destination at rest. -/
def idle (c : Dev nD) {s : Shape} {e : EltTy} (dst : Memref sig .tc .vmem s e) (sem : DmaSem sig) : sProp 𝕄G :=
  iprop((∃ Y, ownsTc c dst fullShare Y) ∗ semVal ((c : Thread nD τ), SemLoc.dma sem) 0)

variable (c : Dev nD) (𝒱 : Variants) (bd : Option 𝒱.V)

theorem landed {s : Shape} {e : EltTy} (src : Memref sig .tc .hbm s e) (dst : Memref sig .tc .vmem s e)
    (f : Buf (Elt F) (src.view.loc (c : Thread nD τ))) (g : Buf (Elt F) (dst.view.loc (c : Thread nD τ))) :
    (iprop((dst.view.loc (c : Thread nD τ) ↦[dst.view.set]{fullShare} dst.view.write (Elt F) g (ReadAs.same.apply (src.view.read (Elt F) f)) Finset.univ)
      ∗ (src.view.loc (c : Thread nD τ) ↦[src.view.set]{fullShare} f)) : sProp 𝕄G)
      ⊢ iprop(ownsTc c dst fullShare (src.view.read (Elt F) f) ∗ (src.view.loc (c : Thread nD τ) ↦[src.view.set]{fullShare} f)) := by
  unfold ownsTc owns
  iintro ⟨HD, HS⟩
  isplitl [HD]
  · iexists _
    isplitr [HD]
    · ipureintro
      exact View.read_write_univ g (src.view.read (Elt F) f)
    · iexact HD
  · iexact HS

theorem copy_spec {s : Shape} {e : EltTy} (src : Memref sig .tc .hbm s e) (dst : Memref sig .tc .vmem s e) (sem : DmaSem sig)
    (h1 : src.view.WordExact) (h2 : dst.view.WordExact) (hpos : 0 < dst.view.dmaCredit) (f : Buf (Elt F) (src.view.loc (c : Thread nD τ))) :
    (iprop((src.view.loc (c : Thread nD τ) ↦{fullShare} f) ∗ idle c dst sem) : sProp 𝕄G)
      ⊢ wp frame (wpE (defs₀ (F := F)) 𝒱 (c : Thread nD τ) bd) Set.univ
        (Prog.lift (.enqueueDma src (.here dst) (.dma sem) h1 h2 ⟨Or.inl rfl, trivial⟩)) (fun _ => fly c src dst sem f) := by
  unfold idle ownsTc owns
  iintro ⟨HS, ⟨%Y, %g, %hg, HD⟩, HV⟩
  ihave HS' := (pointsTo_split_subset (Finset.subset_univ src.view.set)).1 $$ HS
  icases HS' with ⟨HS, HR⟩
  iapply (Transfers.wp_dmaLocal (countersEmb (U := Pipeline.UD sig nD τ)) 𝒱 (c : Thread nD τ) bd () dst.view.dmaCredit rfl hpos subset_rfl) $$ [HS HD HV]
  · isplitl [HS]; iexact HS
    isplitl [HD]; iexact HD
    iexact HV
  iintro HF
  sl_step
  unfold fly
  isplitl [HF]
  · iapply (Transfers.Flight_mono (countersEmb (U := Pipeline.UD sig nD τ)) (c : Thread nD τ) (landed c src dst f g)) $$ HF
  · iexact HR

theorem wait_spec {s : Shape} {e : EltTy} (src : Memref sig .tc .hbm s e) (dst : Memref sig .tc .vmem s e) (sem : DmaSem sig)
    (h1 : src.view.WordExact) (h2 : dst.view.WordExact) (f : Buf (Elt F) (src.view.loc (c : Thread nD τ))) :
    (iprop(fly c src dst sem f ∗ ∃ W, owes (c : Thread nD τ) 0 W) : sProp 𝕄G)
      ⊢ wp frame (wpE (defs₀ (F := F)) 𝒱 (c : Thread nD τ) bd) Set.univ
        (Prog.lift (.waitDma2 sem src dst h1 h2)) (fun _ => iprop((src.view.loc (c : Thread nD τ) ↦{fullShare} f)
          ∗ ownsTc c dst fullShare (src.view.read (Elt F) f) ∗ semVal ((c : Thread nD τ), SemLoc.dma sem) 0 ∗ ∃ W, owes (c : Thread nD τ) 0 W)) := by
  unfold fly
  iintro ⟨⟨HF, HR⟩, ⟨%W, HO⟩⟩
  iapply (Transfers.wp_waitLocal (countersEmb (U := Pipeline.UD sig nD τ)) 𝒱 (c : Thread nD τ) bd () rfl) $$ [HF HO]
  · isplitl [HF]; iexact HF
    iexact HO
  iintro ⟨⟨HD, HS⟩, HV, HO⟩
  sl_step
  isplitl [HS HR]
  · iapply (pointsTo_split_subset (Finset.subset_univ src.view.set)).2
    isplitl [HS]; iexact HS
    iexact HR
  isplitl [HD]; iexact HD
  isplitl [HV]; iexact HV
  iexists _; iexact HO

/-! ## The parts the copies go between -/

abbrev hnM : Memref sig .tc .vmem S1024x2048 .bf16 := Memref.whole cc0_scratch0
abbrev bgM : Memref sig .tc .vmem S2x2048x512 .bf16 := Memref.whole cc0_scratch1
abbrev buM : Memref sig .tc .vmem S2x2048x512 .bf16 := Memref.whole cc0_scratch2
abbrev bdM : Memref sig .tc .vmem S2x512x2048 .bf16 := Memref.whole cc0_scratch3
abbrev wgM : Memref sig .tc .hbm S2x2048x5632 .bf16 := Memref.whole main_arg2
abbrev wuM : Memref sig .tc .hbm S2x2048x5632 .bf16 := Memref.whole main_arg3
abbrev wdM : Memref sig .tc .hbm S2x5632x2048 .bf16 := Memref.whole main_arg4

abbrev InU (o : Fin 3 → Nat) : Prop := ∀ a, o a + S1x2048x512.size a ≤ S2x2048x512.size a
abbrev InD (o : Fin 3 → Nat) : Prop := ∀ a, o a + S1x512x2048.size a ≤ S2x512x2048.size a
abbrev InWU (o : Fin 3 → Nat) : Prop := ∀ a, o a + S1x2048x512.size a ≤ S2x2048x5632.size a
abbrev InWD (o : Fin 3 → Nat) : Prop := ∀ a, o a + S1x512x2048.size a ≤ S2x5632x2048.size a
abbrev InS (o : Fin 2 → Nat) : Prop := ∀ a, o a + S1x1.size a ≤ S3x2.size a

/-- One half of a buffer of columns; of a buffer of rows; a piece of columns; of rows; a counter. -/
abbrev halfU (B : Memref sig .tc .vmem S2x2048x512 .bf16) (o : Fin 3 → Nat) (h : InU o) : Memref sig .tc .vmem S2048x512 .bf16 :=
  (B.slice (Rect.unit (s := S2x2048x512) o S1x2048x512.size h) (fun _ => rfl)).squeeze S2048x512 squeezes_S1x2048x512_S2048x512
abbrev halfD (B : Memref sig .tc .vmem S2x512x2048 .bf16) (o : Fin 3 → Nat) (h : InD o) : Memref sig .tc .vmem S512x2048 .bf16 :=
  (B.slice (Rect.unit (s := S2x512x2048) o S1x512x2048.size h) (fun _ => rfl)).squeeze S512x2048 squeezes_S1x512x2048_S512x2048
abbrev pieceU (B : Memref sig .tc .hbm S2x2048x5632 .bf16) (o : Fin 3 → Nat) (h : InWU o) : Memref sig .tc .hbm S2048x512 .bf16 :=
  (B.slice (Rect.unit (s := S2x2048x5632) o S1x2048x512.size h) (fun _ => rfl)).squeeze S2048x512 squeezes_S1x2048x512_S2048x512
abbrev pieceD (B : Memref sig .tc .hbm S2x5632x2048 .bf16) (o : Fin 3 → Nat) (h : InWD o) : Memref sig .tc .hbm S512x2048 .bf16 :=
  (B.slice (Rect.unit (s := S2x5632x2048) o S1x512x2048.size h) (fun _ => rfl)).squeeze S512x2048 squeezes_S1x512x2048_S512x2048
abbrev semAt (o : Fin 2 → Nat) (h : InS o) : DmaSem sig :=
  ((cc0_scratch4.slice (Rect.unit (s := S3x2) o S1x1.size h)).squeeze S_ squeezes_S1x1_S_).sem

theorem loadU_spec (B : Memref sig .tc .vmem S2x2048x512 .bf16) (o : Fin 3 → Nat) (h : InU o) (X : Vec F S2048x512 .bf16) :
    (ownsTc c (halfU B o h) fullShare X : sProp 𝕄G)
      ⊢ wp frame (wpE (defs₀ (F := F)) 𝒱 (c : Thread nD τ) bd) Set.univ
        (Prog.lift (.load B (Rect.unit (s := S2x2048x512) o S1x2048x512.size h).toLoadRect (View.loadsAt_vmem h_S1x2048x512)))
        (fun v => iprop(⌜shapeCast S2048x512 (v : Vec F S1x2048x512 .bf16) shapeCasts_S1x2048x512_S2048x512 = X⌝ ∗ ownsTc c (halfU B o h) fullShare X)) := by
  unfold ownsTc owns
  iintro ⟨%f, %hf, H⟩
  subst hf
  have hs : (B.access (Rect.unit o S1x2048x512.size h)).set ⊆ (halfU B o h).view.set := (View.set_reshape _ _).ge
  sl_exec
  sl_step
  isplitr
  · ipureintro; rfl
  iexists f
  isplitr
  · ipureintro; rfl
  iexact H

theorem loadD_spec (B : Memref sig .tc .vmem S2x512x2048 .bf16) (o : Fin 3 → Nat) (h : InD o) (X : Vec F S512x2048 .bf16) :
    (ownsTc c (halfD B o h) fullShare X : sProp 𝕄G)
      ⊢ wp frame (wpE (defs₀ (F := F)) 𝒱 (c : Thread nD τ) bd) Set.univ
        (Prog.lift (.load B (Rect.unit (s := S2x512x2048) o S1x512x2048.size h).toLoadRect (View.loadsAt_vmem h_S1x512x2048)))
        (fun v => iprop(⌜shapeCast S512x2048 (v : Vec F S1x512x2048 .bf16) shapeCasts_S1x512x2048_S512x2048 = X⌝ ∗ ownsTc c (halfD B o h) fullShare X)) := by
  unfold ownsTc owns
  iintro ⟨%f, %hf, H⟩
  subst hf
  have hs : (B.access (Rect.unit o S1x512x2048.size h)).set ⊆ (halfD B o h).view.set := (View.set_reshape _ _).ge
  sl_exec
  sl_step
  isplitr
  · ipureintro; rfl
  iexists f
  isplitr
  · ipureintro; rfl
  iexact H

end Cert.Kernel3Ideal

end
-- ==== Proof.BaseWords.lean ====
/- Where each step of the feed-forward kernel copies from and to. -/
module

public import proofs.«01_k».proof.Proof.Base

@[expose] public section

set_option maxRecDepth 100000

namespace Cert.Kernel3Ideal

open Idealize.ShloMosaic

/-- The step's number and the half of each buffer it works in. -/
abbrev stepNo (i : grid0.Coords) (t : Fin k0_t1_loop.trips) : Nat := 11 * (i 0).val + t.val

theorem cond1_iff : ∀ i : grid0.Coords, k0_cond1 i = 1#1 ↔ (i 0).val = 0 := by decide +kernel
theorem cond2_iff : ∀ (i : grid0.Coords) (t : Fin k0_t1_loop.trips), k0_cond2 i t = 1#1 ↔ stepNo i t + 1 < 363 := by decide +kernel
theorem off1_eq : ∀ (i : grid0.Coords) (t : Fin k0_t1_loop.trips), k0_off1 i t = ![0, stepNo i t % 2] := by decide +kernel
theorem off4_eq : ∀ (i : grid0.Coords) (t : Fin k0_t1_loop.trips), k0_off4 i t = ![1, stepNo i t % 2] := by decide +kernel
theorem off5_eq : ∀ (i : grid0.Coords) (t : Fin k0_t1_loop.trips), k0_off5 i t = ![2, stepNo i t % 2] := by decide +kernel
theorem off2_eq : ∀ (i : grid0.Coords) (t : Fin k0_t1_loop.trips), k0_off2 i t = ![stepNo i t % 2, 0, 0] := by decide +kernel
theorem off6_eq : ∀ (i : grid0.Coords) (t : Fin k0_t1_loop.trips), k0_off6 i t = ![stepNo i t % 2, 0, 0] := by decide +kernel
theorem off15_eq : ∀ (i : grid0.Coords) (t : Fin k0_t1_loop.trips), k0_off15 i t = ![stepNo i t % 2, 0, 0] := by decide +kernel
theorem off16_eq : ∀ (i : grid0.Coords) (t : Fin k0_t1_loop.trips), k0_off16 i t = ![stepNo i t % 2, 0, 0] := by decide +kernel
theorem off8_eq : ∀ (i : grid0.Coords) (t : Fin k0_t1_loop.trips), k0_off8 i t = ![0, (stepNo i t + 1) % 2] := by decide +kernel
theorem off11_eq : ∀ (i : grid0.Coords) (t : Fin k0_t1_loop.trips), k0_off11 i t = ![1, (stepNo i t + 1) % 2] := by decide +kernel
theorem off12_eq : ∀ (i : grid0.Coords) (t : Fin k0_t1_loop.trips), k0_off12 i t = ![2, (stepNo i t + 1) % 2] := by decide +kernel
theorem off9_eq : ∀ (i : grid0.Coords) (t : Fin k0_t1_loop.trips), k0_off9 i t = ![(stepNo i t + 1) % 2, 0, 0] := by decide +kernel
theorem off13_eq : ∀ (i : grid0.Coords) (t : Fin k0_t1_loop.trips), k0_off13 i t = ![(stepNo i t + 1) % 2, 0, 0] := by decide +kernel
theorem off3_eq : ∀ t : Fin k0_t1_loop.trips, k0_off3 t = ![0, 0, 512 * (t.val % 11)] := by decide +kernel
theorem off7_eq : ∀ t : Fin k0_t1_loop.trips, k0_off7 t = ![0, 512 * (t.val % 11), 0] := by decide +kernel
theorem off10_eq : ∀ t : Fin k0_t1_loop.trips, k0_off10 t = ![0, 0, 512 * ((t.val + 1) % 11)] := by decide +kernel
theorem off14_eq : ∀ t : Fin k0_t1_loop.trips, k0_off14 t = ![0, 512 * ((t.val + 1) % 11), 0] := by decide +kernel

end Cert.Kernel3Ideal
end
-- ==== Proof.BaseRing.lean ====
/- Three copies at a time: started together, waited for together, and what a step makes of what they brought. -/
module

public import proofs.«01_k».proof.Proof.BaseWords

@[expose] public section

set_option synthInstance.maxSize 4096
set_option maxRecDepth 100000

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄G" => MT nD τ sig Unit (Elt F) ℕ (Pipeline.UD sig nD τ) ℕ

variable (m : (ℓ : Loc nD τ sig) → Buf (Elt F) ℓ)
variable (c : Dev nD) (𝒱 : Variants) (bd : Option 𝒱.V)

theorem bind_spec {α β : Type} {p : Prog (TpuEff nD τ sig (Elt F) Λ₀ .tc) α} {k : α → Prog (TpuEff nD τ sig (Elt F) Λ₀ .tc) β}
    {P : sProp 𝕄G} {R : α → sProp 𝕄G} {Q : β → sProp 𝕄G}
    (h : P ⊢ wp frame (wpE (defs₀ (F := F)) 𝒱 (c : Thread nD τ) bd) Set.univ p R) :
    P ⊢ iprop((∀ y, R y -∗ wp frame (wpE (defs₀ (F := F)) 𝒱 (c : Thread nD τ) bd) Set.univ (k y) Q)
      -∗ wp frame (wpE (defs₀ (F := F)) 𝒱 (c : Thread nD τ) bd) Set.univ (p >>= k) Q) := by
  rw [wp_bind]
  exact h.trans (wp_wand _ _ _)

theorem wand_spec {α : Type} {p : Prog (TpuEff nD τ sig (Elt F) Λ₀ .tc) α} {P : sProp 𝕄G} {R Q : α → sProp 𝕄G}
    (h : P ⊢ wp frame (wpE (defs₀ (F := F)) 𝒱 (c : Thread nD τ) bd) Set.univ p R) :
    P ⊢ iprop((∀ y, R y -∗ Q y) -∗ wp frame (wpE (defs₀ (F := F)) 𝒱 (c : Thread nD τ) bd) Set.univ p Q) :=
  h.trans (wp_wand _ _ _)

/-! ## The places a step's number gives -/

theorem lt2 (p : Nat) : p % 2 < 2 := Nat.mod_lt _ (by decide)
theorem lt11 (p : Nat) : p % 11 < 11 := Nat.mod_lt _ (by decide)

theorem inU {s : Nat} (h : s < 2) : InU ![s, 0, 0] := fun a => by
  match a with
  | 0 => show s + 1 ≤ 2; omega
  | 1 => show 0 + 2048 ≤ 2048; omega
  | 2 => show 0 + 512 ≤ 512; omega
theorem inD {s : Nat} (h : s < 2) : InD ![s, 0, 0] := fun a => by
  match a with
  | 0 => show s + 1 ≤ 2; omega
  | 1 => show 0 + 512 ≤ 512; omega
  | 2 => show 0 + 2048 ≤ 2048; omega
theorem inWU {f : Nat} (h : f < 11) : InWU ![0, 0, 512 * f] := fun a => by
  match a with
  | 0 => show 0 + 1 ≤ 2; omega
  | 1 => show 0 + 2048 ≤ 2048; omega
  | 2 => show 512 * f + 512 ≤ 5632; omega
theorem inWD {f : Nat} (h : f < 11) : InWD ![0, 512 * f, 0] := fun a => by
  match a with
  | 0 => show 0 + 1 ≤ 2; omega
  | 1 => show 512 * f + 512 ≤ 5632; omega
  | 2 => show 0 + 2048 ≤ 2048; omega
theorem inS {q s : Nat} (hq : q < 3) (h : s < 2) : InS ![q, s] := fun a => by
  match a with
  | 0 => show q + 1 ≤ 3; omega
  | 1 => show s + 1 ≤ 2; omega

/-- The pieces a step uses. -/
def gPiece (f : Nat) (h : f < 11) : Vec F S2048x512 .bf16 :=
  (pieceU wgM ![0, 0, 512 * f] (inWU h)).view.read (Elt F) (m ((c : Thread nD τ).loc main_arg2))
def uPiece (f : Nat) (h : f < 11) : Vec F S2048x512 .bf16 :=
  (pieceU wuM ![0, 0, 512 * f] (inWU h)).view.read (Elt F) (m ((c : Thread nD τ).loc main_arg3))
def dPiece (f : Nat) (h : f < 11) : Vec F S512x2048 .bf16 :=
  (pieceD wdM ![0, 512 * f, 0] (inWD h)).view.read (Elt F) (m ((c : Thread nD τ).loc main_arg4))

/-- The weights' arrays, whole. -/
def weightsHeld : sProp 𝕄G :=
  iprop((wgM.view.loc (c : Thread nD τ) ↦{fullShare} m ((c : Thread nD τ).loc main_arg2))
    ∗ (wuM.view.loc (c : Thread nD τ) ↦{fullShare} m ((c : Thread nD τ).loc main_arg3))
    ∗ (wdM.view.loc (c : Thread nD τ) ↦{fullShare} m ((c : Thread nD τ).loc main_arg4)))

/-- One half of each of the three buffers, at rest. -/
def restAt (s : Nat) (h : s < 2) : sProp 𝕄G :=
  iprop(idle c (halfU bgM ![s, 0, 0] (inU h)) (semAt ![0, s] (inS (by decide) h))
    ∗ idle c (halfU buM ![s, 0, 0] (inU h)) (semAt ![1, s] (inS (by decide) h))
    ∗ idle c (halfD bdM ![s, 0, 0] (inD h)) (semAt ![2, s] (inS (by decide) h)))

/-- The three copies into one half, under way. -/
def flyAt (s : Nat) (h : s < 2) (f : Nat) (hf : f < 11) : sProp 𝕄G :=
  iprop(fly c (pieceU wgM ![0, 0, 512 * f] (inWU hf)) (halfU bgM ![s, 0, 0] (inU h)) (semAt ![0, s] (inS (by decide) h)) (m ((c : Thread nD τ).loc main_arg2))
    ∗ fly c (pieceU wuM ![0, 0, 512 * f] (inWU hf)) (halfU buM ![s, 0, 0] (inU h)) (semAt ![1, s] (inS (by decide) h)) (m ((c : Thread nD τ).loc main_arg3))
    ∗ fly c (pieceD wdM ![0, 512 * f, 0] (inWD hf)) (halfD bdM ![s, 0, 0] (inD h)) (semAt ![2, s] (inS (by decide) h)) (m ((c : Thread nD τ).loc main_arg4)))

/-- The three halves holding what was copied. -/
def halves (s : Nat) (h : s < 2) (f : Nat) (hf : f < 11) : sProp 𝕄G :=
  iprop(ownsTc c (halfU bgM ![s, 0, 0] (inU h)) fullShare (gPiece m c f hf)
    ∗ ownsTc c (halfU buM ![s, 0, 0] (inU h)) fullShare (uPiece m c f hf)
    ∗ ownsTc c (halfD bdM ![s, 0, 0] (inD h)) fullShare (dPiece m c f hf))

def countersAt (s : Nat) (h : s < 2) : sProp 𝕄G :=
  iprop(semVal ((c : Thread nD τ), SemLoc.dma (semAt ![0, s] (inS (by decide) h))) 0
    ∗ semVal ((c : Thread nD τ), SemLoc.dma (semAt ![1, s] (inS (by decide) h))) 0
    ∗ semVal ((c : Thread nD τ), SemLoc.dma (semAt ![2, s] (inS (by decide) h))) 0)

theorem rest_of_halves (s : Nat) (h : s < 2) (f : Nat) (hf : f < 11) :
    (iprop(halves m c s h f hf ∗ countersAt c s h) : sProp 𝕄G) ⊢ restAt c s h := by
  unfold halves countersAt restAt idle
  iintro ⟨⟨H1, H2, H3⟩, C1, C2, C3⟩
  isplitl [H1 C1]
  · isplitl [H1]; iexists _; iexact H1; iexact C1
  isplitl [H2 C2]
  · isplitl [H2]; iexists _; iexact H2; iexact C2
  isplitl [H3]; iexists _; iexact H3; iexact C3

theorem credU (B : Memref sig .tc .vmem S2x2048x512 .bf16) (o : Fin 3 → Nat) (h : InU o) : 0 < (halfU B o h).view.dmaCredit := by
  exact View.dmaCredit_pos _ (by decide)
theorem credD (B : Memref sig .tc .vmem S2x512x2048 .bf16) (o : Fin 3 → Nat) (h : InD o) : 0 < (halfD B o h).view.dmaCredit := by
  exact View.dmaCredit_pos _ (by decide)

/-! ## Starting three copies, and waiting for them -/

/-- The copies of one piece each of the three weights into one half. -/
def start3 (a8 a11 a12 : Fin 2 → Nat) (h8 : InS a8) (h11 : InS a11) (h12 : InS a12) (a9 a10 a13 a14 : Fin 3 → Nat) (h9 : InU a9)
    (h10 : InWU a10) (h13 : InD a13) (h14 : InWD a14)
    (w9 : (Rect.unit (s := S2x2048x512) a9 S1x2048x512.size h9).WholeWords (EltTy.packing .bf16))
    (w10 : (Rect.unit (s := S2x2048x5632) a10 S1x2048x512.size h10).WholeWords (EltTy.packing .bf16))
    (w13 : (Rect.unit (s := S2x512x2048) a13 S1x512x2048.size h13).WholeWords (EltTy.packing .bf16))
    (w14 : (Rect.unit (s := S2x5632x2048) a14 S1x512x2048.size h14).WholeWords (EltTy.packing .bf16)) :
    Prog (TpuEff nD τ sig (Elt F) Λ₀ .tc) PUnit := do
  Prog.lift (.enqueueDma (pieceU wgM a10 h10) (.here (halfU bgM a9 h9)) (.dma (semAt a8 h8)) (((Memref.isWhole_whole _).wordExact_slice rfl _ w10).reshape _ _) (((Memref.isWhole_whole _).wordExact_slice rfl _ w9).reshape _ _) ⟨Or.inl rfl, trivial⟩)
  Prog.lift (.enqueueDma (pieceU wuM a10 h10) (.here (halfU buM a9 h9)) (.dma (semAt a11 h11)) (((Memref.isWhole_whole _).wordExact_slice rfl _ w10).reshape _ _) (((Memref.isWhole_whole _).wordExact_slice rfl _ w9).reshape _ _) ⟨Or.inl rfl, trivial⟩)
  Prog.lift (.enqueueDma (pieceD wdM a14 h14) (.here (halfD bdM a13 h13)) (.dma (semAt a12 h12)) (((Memref.isWhole_whole _).wordExact_slice rfl _ w14).reshape _ _) (((Memref.isWhole_whole _).wordExact_slice rfl _ w13).reshape _ _) ⟨Or.inl rfl, trivial⟩)
  pure ⟨⟩

theorem start3_spec (s : Nat) (h : s < 2) (f : Nat) (hf : f < 11) (a8 a11 a12 : Fin 2 → Nat) (h8 h11 h12) (a9 a10 a13 a14 : Fin 3 → Nat) (h9 h10 h13 h14 w9 w10 w13 w14)
    (e8 : a8 = ![0, s]) (e11 : a11 = ![1, s]) (e12 : a12 = ![2, s]) (e9 : a9 = ![s, 0, 0]) (e13 : a13 = ![s, 0, 0])
    (e10 : a10 = ![0, 0, 512 * f]) (e14 : a14 = ![0, 512 * f, 0]) :
    (iprop(weightsHeld m c ∗ restAt c s h) : sProp 𝕄G)
      ⊢ wp frame (wpE (defs₀ (F := F)) 𝒱 (c : Thread nD τ) bd) Set.univ
        (start3 (F := F) a8 a11 a12 h8 h11 h12 a9 a10 a13 a14 h9 h10 h13 h14 w9 w10 w13 w14) (fun _ => flyAt m c s h f hf) := by
  subst e8 e11 e12 e9 e13 e10 e14
  unfold weightsHeld restAt start3
  iintro ⟨⟨W1, W2, W3⟩, R1, R2, R3⟩
  iapply (bind_spec c 𝒱 bd (copy_spec c 𝒱 bd (pieceU wgM ![0, 0, 512 * f] h10) (halfU bgM ![s, 0, 0] h9) (semAt ![0, s] h8) _ _ (credU _ _ _) (m ((c : Thread nD τ).loc main_arg2)))) $$ [W1 R1]
  · isplitl [W1]; iexact W1; iexact R1
  iintro %_ F1
  iapply (bind_spec c 𝒱 bd (copy_spec c 𝒱 bd (pieceU wuM ![0, 0, 512 * f] h10) (halfU buM ![s, 0, 0] h9) (semAt ![1, s] h11) _ _ (credU _ _ _) (m ((c : Thread nD τ).loc main_arg3)))) $$ [W2 R2]
  · isplitl [W2]; iexact W2; iexact R2
  iintro %_ F2
  iapply (bind_spec c 𝒱 bd (copy_spec c 𝒱 bd (pieceD wdM ![0, 512 * f, 0] h14) (halfD bdM ![s, 0, 0] h13) (semAt ![2, s] h12) _ _ (credD _ _ _) (m ((c : Thread nD τ).loc main_arg4)))) $$ [W3 R3]
  · isplitl [W3]; iexact W3; iexact R3
  iintro %_ F3
  sl_step
  unfold flyAt
  isplitl [F1]; iexact F1
  isplitl [F2]; iexact F2
  iexact F3

/-- Waiting for the three. -/
def wait3 (a1 a4 a5 : Fin 2 → Nat) (h1 : InS a1) (h4 : InS a4) (h5 : InS a5) (a2 a3 a6 a7 : Fin 3 → Nat) (h2 : InU a2)
    (h3 : InWU a3) (h6 : InD a6) (h7 : InWD a7)
    (w2 : (Rect.unit (s := S2x2048x512) a2 S1x2048x512.size h2).WholeWords (EltTy.packing .bf16))
    (w3 : (Rect.unit (s := S2x2048x5632) a3 S1x2048x512.size h3).WholeWords (EltTy.packing .bf16))
    (w6 : (Rect.unit (s := S2x512x2048) a6 S1x512x2048.size h6).WholeWords (EltTy.packing .bf16))
    (w7 : (Rect.unit (s := S2x5632x2048) a7 S1x512x2048.size h7).WholeWords (EltTy.packing .bf16)) {α : Type} (x : α) :
    Prog (TpuEff nD τ sig (Elt F) Λ₀ .tc) α := do
  Prog.lift (.waitDma2 (semAt a1 h1) (pieceU wgM a3 h3) (halfU bgM a2 h2) (((Memref.isWhole_whole _).wordExact_slice rfl _ w3).reshape _ _) (((Memref.isWhole_whole _).wordExact_slice rfl _ w2).reshape _ _))
  Prog.lift (.waitDma2 (semAt a4 h4) (pieceU wuM a3 h3) (halfU buM a2 h2) (((Memref.isWhole_whole _).wordExact_slice rfl _ w3).reshape _ _) (((Memref.isWhole_whole _).wordExact_slice rfl _ w2).reshape _ _))
  Prog.lift (.waitDma2 (semAt a5 h5) (pieceD wdM a7 h7) (halfD bdM a6 h6) (((Memref.isWhole_whole _).wordExact_slice rfl _ w7).reshape _ _) (((Memref.isWhole_whole _).wordExact_slice rfl _ w6).reshape _ _))
  pure x

/-- What the core still owes: nothing. -/
def owesNone : sProp 𝕄G := iprop(∃ W, owes (c : Thread nD τ) 0 W)

theorem wait3_spec (s : Nat) (h : s < 2) (f : Nat) (hf : f < 11) (a1 a4 a5 : Fin 2 → Nat) (h1 h4 h5) (a2 a3 a6 a7 : Fin 3 → Nat) (h2 h3 h6 h7 w2 w3 w6 w7)
    (e1 : a1 = ![0, s]) (e4 : a4 = ![1, s]) (e5 : a5 = ![2, s]) (e2 : a2 = ![s, 0, 0]) (e6 : a6 = ![s, 0, 0])
    (e3 : a3 = ![0, 0, 512 * f]) (e7 : a7 = ![0, 512 * f, 0]) {α : Type} (x : α) :
    (iprop(flyAt m c s h f hf ∗ owesNone c) : sProp 𝕄G)
      ⊢ wp frame (wpE (defs₀ (F := F)) 𝒱 (c : Thread nD τ) bd) Set.univ
        (wait3 (F := F) a1 a4 a5 h1 h4 h5 a2 a3 a6 a7 h2 h3 h6 h7 w2 w3 w6 w7 x)
        (fun y => iprop(⌜y = x⌝ ∗ weightsHeld m c ∗ halves m c s h f hf ∗ countersAt c s h ∗ owesNone c)) := by
  subst e1 e4 e5 e2 e6 e3 e7
  unfold flyAt owesNone wait3
  iintro ⟨⟨F1, F2, F3⟩, HO⟩
  iapply (bind_spec c 𝒱 bd (wait_spec c 𝒱 bd (pieceU wgM ![0, 0, 512 * f] h3) (halfU bgM ![s, 0, 0] h2) (semAt ![0, s] h1) _ _ (m ((c : Thread nD τ).loc main_arg2)))) $$ [F1 HO]
  · isplitl [F1]; iexact F1; iexact HO
  iintro %_ ⟨W1, R1, C1, HO⟩
  iapply (bind_spec c 𝒱 bd (wait_spec c 𝒱 bd (pieceU wuM ![0, 0, 512 * f] h3) (halfU buM ![s, 0, 0] h2) (semAt ![1, s] h4) _ _ (m ((c : Thread nD τ).loc main_arg3)))) $$ [F2 HO]
  · isplitl [F2]; iexact F2; iexact HO
  iintro %_ ⟨W2, R2, C2, HO⟩
  iapply (bind_spec c 𝒱 bd (wait_spec c 𝒱 bd (pieceD wdM ![0, 512 * f, 0] h7) (halfD bdM ![s, 0, 0] h6) (semAt ![2, s] h5) _ _ (m ((c : Thread nD τ).loc main_arg4)))) $$ [F3 HO]
  · isplitl [F3]; iexact F3; iexact HO
  iintro %_ ⟨W3, R3, C3, HO⟩
  sl_step
  isplitr
  · ipureintro; rfl
  unfold weightsHeld halves countersAt gPiece uPiece dPiece
  isplitl [W1 W2 W3]
  · isplitl [W1]; iexact W1
    isplitl [W2]; iexact W2
    iexact W3
  isplitl [R1 R2 R3]
  · isplitl [R1]; iexact R1
    isplitl [R2]; iexact R2
    iexact R3
  isplitl [C1 C2 C3]
  · isplitl [C1]; iexact C1
    isplitl [C2]; iexact C2
    iexact C3
  iexact HO

/-! ## One step's arithmetic -/

/-- The rows so far and one piece's share. -/
def stepVal (hn : Vec F S1024x2048 .bf16) (G U : Vec F S2048x512 .bf16) (D : Vec F S512x2048 .bf16) (acc : Vec F S1024x2048 .f32) : Vec F S1024x2048 .f32 :=
  let g : FVec F S1024x512 .f32 := matmul dot_S1024x2048_S2048x512_S1024x512_1_0_0_1_n_n none hn G (constant S1024x512 .f32 0x00000000#32)
  let u : FVec F S1024x512 .f32 := matmul dot_S1024x2048_S2048x512_S1024x512_1_0_0_1_n_n none hn U (constant S1024x512 .f32 0x00000000#32)
  addf (shapeCast S1024x2048 acc shapeCasts_S1024x2048_S1024x2048)
    (matmul dot_S1024x512_S512x2048_S1024x2048_1_0_0_1_n_n none (truncf .bf16 (mulf (mulf g (logistic g)) u) bitsLt_bf16_f32) D (constant S1024x2048 .f32 0x00000000#32))

theorem pay3_eq (hn : Vec F S1024x2048 .bf16) (G U : Vec F S1x2048x512 .bf16) (D : Vec F S1x512x2048 .bf16) (acc : Vec F S1024x2048 .f32) :
    Gen.k0_pay2 hn G U acc D = stepVal hn (shapeCast S2048x512 G shapeCasts_S1x2048x512_S2048x512) (shapeCast S2048x512 U shapeCasts_S1x2048x512_S2048x512)
      (shapeCast S512x2048 D shapeCasts_S1x512x2048_S512x2048) acc := rfl

def accum (Y : Memref sig .tc .vmem S1024x2048 .f32) (o15 o16 : Fin 3 → Nat) (h15 : InU o15) (h16 : InD o16) :
    Prog (TpuEff nD τ sig (Elt F) Λ₀ .tc) PUnit := do
  let v78 : Vec F S1024x2048 .bf16 ← Prog.lift (.load hnM (Rect.unit (s := S1024x2048) ![0, 0] S1024x2048.size inb_S1024x2048_S1024x2048_0_0).toLoadRect (View.loadsAt_vmem h_S1024x2048))
  let v80 : Vec F S1x2048x512 .bf16 ← Prog.lift (.load bgM (Rect.unit (s := S2x2048x512) o15 S1x2048x512.size h15).toLoadRect (View.loadsAt_vmem h_S1x2048x512))
  let v84 : Vec F S1x2048x512 .bf16 ← Prog.lift (.load buM (Rect.unit (s := S2x2048x512) o15 S1x2048x512.size h15).toLoadRect (View.loadsAt_vmem h_S1x2048x512))
  let v91 : Vec F S1024x2048 .f32 ← Prog.lift (.load Y (Rect.unit (s := S1024x2048) ![0, 0] S1024x2048.size inb_S1024x2048_S1024x2048_0_0).toLoadRect (View.loadsAt_vmem h_S1024x2048))
  let v94 : Vec F S1x512x2048 .bf16 ← Prog.lift (.load bdM (Rect.unit (s := S2x512x2048) o16 S1x512x2048.size h16).toLoadRect (View.loadsAt_vmem h_S1x512x2048))
  let _v98 : Vec F S1024x2048 .f32 ← Prog.lift (.load Y (Rect.unit (s := S1024x2048) ![0, 0] S1024x2048.size inb_S1024x2048_S1024x2048_0_0).toLoadRect (View.loadsAt_vmem h_S1024x2048))
  Prog.lift (.store Y (Rect.unit (s := S1024x2048) ![0, 0] S1024x2048.size inb_S1024x2048_S1024x2048_0_0) (Gen.k0_pay2 v78 v80 v84 v91 v94) Finset.univ (View.stores_vmem_bits_univ h_S1024x2048 rfl) (.inl rfl))
  pure ⟨⟩

theorem loadFull_spec {e : EltTy} (Y : Memref sig .tc .vmem S1024x2048 e) (X : Vec F S1024x2048 e) :
    (ownsTc c Y fullShare X : sProp 𝕄G)
      ⊢ wp frame (wpE (defs₀ (F := F)) 𝒱 (c : Thread nD τ) bd) Set.univ
        (Prog.lift (.load Y (Rect.unit (s := S1024x2048) ![0, 0] S1024x2048.size inb_S1024x2048_S1024x2048_0_0).toLoadRect (View.loadsAt_vmem h_S1024x2048)))
        (fun v => iprop(⌜(v : Vec F S1024x2048 e) = X⌝ ∗ ownsTc c Y fullShare X)) := by
  unfold ownsTc owns
  iintro ⟨%f, %hf, H⟩
  subst hf
  sl_exec
  sl_step
  isplitr
  · ipureintro; exact View.readAt_full _ _ _
  iexists f
  isplitr
  · ipureintro; rfl
  iexact H

theorem loadRow_spec {e : EltTy} (Y : Memref sig .tc .vmem S1x2048 e) (X : Vec F S1x2048 e) :
    (ownsTc c Y fullShare X : sProp 𝕄G)
      ⊢ wp frame (wpE (defs₀ (F := F)) 𝒱 (c : Thread nD τ) bd) Set.univ
        (Prog.lift (.load Y (Rect.unit (s := S1x2048) ![0, 0] S1x2048.size inb_S1x2048_S1x2048_0_0).toLoadRect (View.loadsAt_vmem h_S1x2048)))
        (fun v => iprop(⌜(v : Vec F S1x2048 e) = X⌝ ∗ ownsTc c Y fullShare X)) := by
  unfold ownsTc owns
  iintro ⟨%f, %hf, H⟩
  subst hf
  sl_exec
  sl_step
  isplitr
  · ipureintro; exact View.readAt_full _ _ _
  iexists f
  isplitr
  · ipureintro; rfl
  iexact H

theorem storeFull_spec {e : EltTy} (Y : Memref sig .tc .vmem S1024x2048 e) (X : Vec F S1024x2048 e) (w : Vec F S1024x2048 e) (h1) (h2) :
    (ownsTc c Y fullShare X : sProp 𝕄G)
      ⊢ wp frame (wpE (defs₀ (F := F)) 𝒱 (c : Thread nD τ) bd) Set.univ
        (Prog.lift (.store Y (Rect.unit (s := S1024x2048) ![0, 0] S1024x2048.size inb_S1024x2048_S1024x2048_0_0) w Finset.univ h1 h2))
        (fun _ => ownsTc c Y fullShare w) := by
  unfold ownsTc owns
  iintro ⟨%f, %hf, H⟩
  subst hf
  sl_exec
  sl_step
  iexists _
  isplitr [H]
  · ipureintro
    exact View.read_writes_full _ f inb_S1024x2048_S1024x2048_0_0 _ []
  · iexact H

theorem accum_spec (Y : Memref sig .tc .vmem S1024x2048 .f32) (s : Nat) (h : s < 2) (f : Nat) (hf : f < 11) (o15 o16 : Fin 3 → Nat) (h15) (h16)
    (e15 : o15 = ![s, 0, 0]) (e16 : o16 = ![s, 0, 0]) (hn : Vec F S1024x2048 .bf16) (acc : Vec F S1024x2048 .f32) :
    (iprop(ownsTc c hnM fullShare hn ∗ ownsTc c Y fullShare acc ∗ halves m c s h f hf) : sProp 𝕄G)
      ⊢ wp frame (wpE (defs₀ (F := F)) 𝒱 (c : Thread nD τ) bd) Set.univ (accum (F := F) Y o15 o16 h15 h16)
        (fun _ => iprop(ownsTc c hnM fullShare hn ∗ ownsTc c Y fullShare (stepVal hn (gPiece m c f hf) (uPiece m c f hf) (dPiece m c f hf) acc) ∗ halves m c s h f hf)) := by
  subst e15 e16
  unfold halves accum
  iintro ⟨HN, HY, G, U, D⟩
  iapply (bind_spec c 𝒱 bd (loadFull_spec c 𝒱 bd hnM hn)) $$ HN
  iintro %v1 ⟨%e1, HN⟩
  iapply (bind_spec c 𝒱 bd (loadU_spec c 𝒱 bd bgM _ h15 (gPiece m c f hf))) $$ G
  iintro %v2 ⟨%e2, G⟩
  iapply (bind_spec c 𝒱 bd (loadU_spec c 𝒱 bd buM _ h15 (uPiece m c f hf))) $$ U
  iintro %v3 ⟨%e3, U⟩
  iapply (bind_spec c 𝒱 bd (loadFull_spec c 𝒱 bd Y acc)) $$ HY
  iintro %v4 ⟨%e4, HY⟩
  iapply (bind_spec c 𝒱 bd (loadD_spec c 𝒱 bd bdM _ h16 (dPiece m c f hf))) $$ D
  iintro %v5 ⟨%e5, D⟩
  iapply (bind_spec c 𝒱 bd (loadFull_spec c 𝒱 bd Y acc)) $$ HY
  iintro %v6 ⟨-, HY⟩
  iapply (bind_spec c 𝒱 bd (storeFull_spec c 𝒱 bd Y acc (Gen.k0_pay2 v1 v2 v3 v4 v5) _ _)) $$ HY
  iintro %_ HY
  sl_step
  rw [pay3_eq, e1, e2, e3, e4, e5]
  isplitl [HN]; iexact HN
  isplitl [HY]; iexact HY
  isplitl [G]; iexact G
  isplitl [U]; iexact U
  iexact D

end Cert.Kernel3Ideal

end
-- ==== Proof.BasePoint.lean ====
/- One point of the launch: the rows' norm and the eleven steps over the pieces. -/
module

public import proofs.«01_k».proof.Proof.BaseRing

@[expose] public section

set_option synthInstance.maxSize 4096
set_option maxRecDepth 100000

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄G" => MT nD τ sig Unit (Elt F) ℕ (Pipeline.UD sig nD τ) ℕ

variable (m : (ℓ : Loc nD τ sig) → Buf (Elt F) ℓ)
variable (c : Dev nD) (𝒱 : Variants) (bd : Option 𝒱.V)

/-- The semaphores' array. -/
abbrev semsM : DmaSems sig S3x2 := cc0_scratch4

/-- Before step `p` of the whole launch: its copies under way and the other half at rest; past the last step, all at rest. -/
def ring (p : Nat) : sProp 𝕄G :=
  if p < 363 then iprop(flyAt m c (p % 2) (lt2 p) (p % 11) (lt11 p) ∗ restAt c ((p + 1) % 2) (lt2 (p + 1)))
  else iprop(weightsHeld m c ∗ restAt c (p % 2) (lt2 p) ∗ restAt c ((p + 1) % 2) (lt2 (p + 1)))

/-- The rows after some steps. -/
def accAt (hn : Vec F S1024x2048 .bf16) (x : Vec F S1024x2048 .f32) : Nat → Vec F S1024x2048 .f32
  | 0 => x
  | n + 1 => stepVal hn (gPiece m c (n % 11) (lt11 n)) (uPiece m c (n % 11) (lt11 n)) (dPiece m c (n % 11) (lt11 n)) (accAt hn x n)

theorem step_lt (i : grid0.Coords) (t : Fin k0_t1_loop.trips) : stepNo i t < 363 := by
  have h1 : (i 0).val < 33 := (i 0).isLt
  have h2 : t.val < 11 := t.isLt
  unfold stepNo
  omega

theorem step_mod (i : grid0.Coords) (t : Fin k0_t1_loop.trips) : stepNo i t % 11 = t.val % 11 := by
  unfold stepNo
  omega
theorem step_mod' (i : grid0.Coords) (t : Fin k0_t1_loop.trips) : (stepNo i t + 1) % 11 = (t.val + 1) % 11 := by
  unfold stepNo
  omega

theorem restAt_congr {s s' : Nat} (e : s = s') (h : s < 2) (h' : s' < 2) : (restAt c s h : sProp 𝕄G) = restAt c s' h' := by
  subst e; rfl

theorem stepVal_congr (hn : Vec F S1024x2048 .bf16) (acc : Vec F S1024x2048 .f32) {a b : Nat} (e : a = b) (ha : a < 11) (hb : b < 11) :
    stepVal hn (gPiece m c a ha) (uPiece m c a ha) (dPiece m c a ha) acc = stepVal hn (gPiece m c b hb) (uPiece m c b hb) (dPiece m c b hb) acc := by
  subst e; rfl

section
variable (X : Memref sig .tc .vmem S1024x2048 .f32) (hX : X.IsWhole) (P : Memref sig .tc .vmem S1x2048 .f32) (hP : P.IsWhole)
  (L : Memref sig .tc .vmem S1x2048 .f32) (hL : L.IsWhole) (Y : Memref sig .tc .vmem S1024x2048 .f32) (hY : Y.IsWhole)

/-- One trip as its three parts: the wait, the next copies where there is a next step, the arithmetic. -/
theorem trip_eq (i : grid0.Coords) (a0 : BitVec 32) (t : Fin k0_t1_loop.trips) (u : Unit) :
    Gen.k0_t1_body (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM a0 t u
    = (wait3 (F := F) (k0_off1 i t) (k0_off4 i t) (k0_off5 i t) (k0_off1_inb i t) (k0_off4_inb i t) (k0_off5_inb i t)
        (k0_off2 i t) (k0_off3 t) (k0_off6 i t) (k0_off7 t) (k0_off2_inb i t) (k0_off3_inb t) (k0_off6_inb i t) (k0_off7_inb t)
        (k0_off2_wordsbf16 i t) (k0_off3_wordsbf16 t) (k0_off6_wordsbf16 i t) (k0_off7_wordsbf16 t) PUnit.unit
      >>= fun _ => if h2 : k0_cond2 i t = 1#1 then
          (start3 (F := F) (k0_off8 i t) (k0_off11 i t) (k0_off12 i t) (k0_off8_inb i t h2) (k0_off11_inb i t h2) (k0_off12_inb i t h2)
            (k0_off9 i t) (k0_off10 t) (k0_off13 i t) (k0_off14 t) (k0_off9_inb i t h2) (k0_off10_inb i t h2) (k0_off13_inb i t h2) (k0_off14_inb i t h2)
            (k0_off9_wordsbf16 i t h2) (k0_off10_wordsbf16 i t h2) (k0_off13_wordsbf16 i t h2) (k0_off14_wordsbf16 i t h2)
            >>= fun _ => accum (F := F) Y (k0_off15 i t) (k0_off16 i t) (k0_off15_inb i t) (k0_off16_inb i t))
        else accum (F := F) Y (k0_off15 i t) (k0_off16 i t) (k0_off15_inb i t) (k0_off16_inb i t)) := rfl

theorem trip_spec (i : grid0.Coords) (a0 : BitVec 32) (t : Fin k0_t1_loop.trips) (u : Unit) (hn : Vec F S1024x2048 .bf16) (x : Vec F S1024x2048 .f32) :
    (iprop(ownsTc c hnM fullShare hn ∗ ownsTc c Y fullShare (accAt m c hn x t.val) ∗ ring m c (stepNo i t) ∗ owesNone c) : sProp 𝕄G)
      ⊢ wp frame (wpE (defs₀ (F := F)) 𝒱 (c : Thread nD τ) bd) Set.univ
        (Gen.k0_t1_body (F := F) i X hX P hP wgM (Memref.isWhole_whole _) wuM (Memref.isWhole_whole _) wdM (Memref.isWhole_whole _) L hL Y hY hnM (Memref.isWhole_whole _)
          bgM (Memref.isWhole_whole _) buM (Memref.isWhole_whole _) bdM (Memref.isWhole_whole _) semsM a0 t u)
        (fun _ => iprop(ownsTc c hnM fullShare hn ∗ ownsTc c Y fullShare (accAt m c hn x (t.val + 1)) ∗ ring m c (stepNo i t + 1) ∗ owesNone c)) := by
  rw [trip_eq]
  have hlt := step_lt i t
  have hsm := step_mod i t
  have hA : accAt m c hn x (t.val + 1) = stepVal hn (gPiece m c (stepNo i t % 11) (lt11 _)) (uPiece m c (stepNo i t % 11) (lt11 _)) (dPiece m c (stepNo i t % 11) (lt11 _)) (accAt m c hn x t.val) := by
    exact stepVal_congr m c hn _ hsm.symm _ _
  rw [hA, show (ring m c (stepNo i t) : sProp 𝕄G) = _ from if_pos hlt]
  iintro ⟨HN, HY, ⟨HF, HR⟩, HO⟩
  iapply (bind_spec c 𝒱 bd (wait3_spec m c 𝒱 bd (stepNo i t % 2) (lt2 _) (stepNo i t % 11) (lt11 _) (k0_off1 i t) (k0_off4 i t) (k0_off5 i t) (k0_off1_inb i t) (k0_off4_inb i t) (k0_off5_inb i t)
        (k0_off2 i t) (k0_off3 t) (k0_off6 i t) (k0_off7 t) (k0_off2_inb i t) (k0_off3_inb t) (k0_off6_inb i t) (k0_off7_inb t)
        (k0_off2_wordsbf16 i t) (k0_off3_wordsbf16 t) (k0_off6_wordsbf16 i t) (k0_off7_wordsbf16 t)
        (off1_eq i t) (off4_eq i t) (off5_eq i t) (off2_eq i t) (off6_eq i t) ((off3_eq t).trans (by rw [hsm])) ((off7_eq t).trans (by rw [hsm])) PUnit.unit)) $$ [HF HO]
  · isplitl [HF]; iexact HF; iexact HO
  iintro %y ⟨-, HW, HH, HC, HO⟩
  by_cases h2 : k0_cond2 i t = 1#1
  · have hsm' := step_mod' i t
    have hn2 : stepNo i t + 1 < 363 := (cond2_iff i t).1 h2
    rw [dif_pos h2, show (ring m c (stepNo i t + 1) : sProp 𝕄G) = _ from if_pos hn2,
      restAt_congr c (show (stepNo i t + 1 + 1) % 2 = stepNo i t % 2 by omega) _ (lt2 _)]
    iapply (bind_spec c 𝒱 bd (start3_spec m c 𝒱 bd ((stepNo i t + 1) % 2) (lt2 _) ((stepNo i t + 1) % 11) (lt11 _)
      (k0_off8 i t) (k0_off11 i t) (k0_off12 i t) (k0_off8_inb i t h2) (k0_off11_inb i t h2) (k0_off12_inb i t h2)
            (k0_off9 i t) (k0_off10 t) (k0_off13 i t) (k0_off14 t) (k0_off9_inb i t h2) (k0_off10_inb i t h2) (k0_off13_inb i t h2) (k0_off14_inb i t h2)
            (k0_off9_wordsbf16 i t h2) (k0_off10_wordsbf16 i t h2) (k0_off13_wordsbf16 i t h2) (k0_off14_wordsbf16 i t h2)
            (off8_eq i t) (off11_eq i t) (off12_eq i t) (off9_eq i t) (off13_eq i t) ((off10_eq t).trans (by rw [hsm'])) ((off14_eq t).trans (by rw [hsm'])))) $$ [HW HR]
    · isplitl [HW]; iexact HW; iexact HR
    iintro %_ HF
    iapply (wand_spec c 𝒱 bd (accum_spec m c 𝒱 bd Y (stepNo i t % 2) (lt2 _) (stepNo i t % 11) (lt11 _) (k0_off15 i t) (k0_off16 i t) (k0_off15_inb i t) (k0_off16_inb i t)
      (off15_eq i t) (off16_eq i t) hn (accAt m c hn x t.val))) $$ [HN HY HH]
    · isplitl [HN]; iexact HN
      isplitl [HY]; iexact HY
      iexact HH
    iintro %_ ⟨HN, HY, HH⟩
    isplitl [HN]; iexact HN
    isplitl [HY]; iexact HY
    isplitr [HO]
    · isplitl [HF]; iexact HF
      iapply (rest_of_halves m c _ _ _ _)
      isplitl [HH]; iexact HH
      iexact HC
    iexact HO
  · have hn2 : ¬ stepNo i t + 1 < 363 := fun h => h2 ((cond2_iff i t).2 h)
    rw [dif_neg h2, show (ring m c (stepNo i t + 1) : sProp 𝕄G) = _ from if_neg hn2,
      restAt_congr c (show (stepNo i t + 1 + 1) % 2 = stepNo i t % 2 by omega) _ (lt2 _)]
    iapply (wand_spec c 𝒱 bd (accum_spec m c 𝒱 bd Y (stepNo i t % 2) (lt2 _) (stepNo i t % 11) (lt11 _) (k0_off15 i t) (k0_off16 i t) (k0_off15_inb i t) (k0_off16_inb i t)
      (off15_eq i t) (off16_eq i t) hn (accAt m c hn x t.val))) $$ [HN HY HH]
    · isplitl [HN]; iexact HN
      isplitl [HY]; iexact HY
      iexact HH
    iintro %_ ⟨HN, HY, HH⟩
    isplitl [HN]; iexact HN
    isplitl [HY]; iexact HY
    isplitr [HO]
    · isplitl [HW]; iexact HW
      isplitl [HR]; iexact HR
      iapply (rest_of_halves m c _ _ _ _)
      isplitl [HH]; iexact HH
      iexact HC
    iexact HO

/-- The rows' norm and the steps, after the first copies are under way. -/
def steps (i : grid0.Coords) : Prog (TpuEff nD τ sig (Elt F) Λ₀ .tc) PUnit := do
  let v3 : Vec F S1024x2048 .f32 ← Prog.lift (.load X (Rect.unit (s := S1024x2048) ![0, 0] S1024x2048.size inb_S1024x2048_S1024x2048_0_0).toLoadRect (View.loadsAt_vmem h_S1024x2048))
  let v14 : Vec F S1x2048 .f32 ← Prog.lift (.load P (Rect.unit (s := S1x2048) ![0, 0] S1x2048.size inb_S1x2048_S1x2048_0_0).toLoadRect (View.loadsAt_vmem h_S1x2048))
  let _v18 : Vec F S1024x2048 .bf16 ← Prog.lift (.load hnM (Rect.unit (s := S1024x2048) ![0, 0] S1024x2048.size inb_S1024x2048_S1024x2048_0_0).toLoadRect (View.loadsAt_vmem h_S1024x2048))
  Prog.lift (.store hnM (Rect.unit (s := S1024x2048) ![0, 0] S1024x2048.size inb_S1024x2048_S1024x2048_0_0) (Gen.k0_pay1 v3 v14) Finset.univ (View.stores_vmem h_S1024x2048 ((Memref.isWhole_whole _).storeExact_slice rfl _ packedbf16_S1024x2048_S1024x2048_0_0) (fun _ => rfl)) (.inl rfl))
  let _v21 : Vec F S1024x2048 .f32 ← Prog.lift (.load Y (Rect.unit (s := S1024x2048) ![0, 0] S1024x2048.size inb_S1024x2048_S1024x2048_0_0).toLoadRect (View.loadsAt_vmem h_S1024x2048))
  Prog.lift (.store Y (Rect.unit (s := S1024x2048) ![0, 0] S1024x2048.size inb_S1024x2048_S1024x2048_0_0) v3 Finset.univ (View.stores_vmem_bits_univ h_S1024x2048 rfl) (.inl rfl))
  Scf.Loop.for k0_t1_loop k0_t1_ok ⟨⟩ (Gen.k0_t1_body (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM (BitVec.ofNat 32 (i 0).val))
  pure ⟨⟩

theorem body_eq (i : grid0.Coords) :
    cc0_ffn (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM
    = if h1 : k0_cond1 i = 1#1 then
        (start3 (F := F) ![0, 0] ![1, 0] ![2, 0] inb_S3x2_S1x1_0_0 inb_S3x2_S1x1_1_0 inb_S3x2_S1x1_2_0 ![0, 0, 0] ![0, 0, 0] ![0, 0, 0] ![0, 0, 0]
          inb_S2x2048x512_S1x2048x512_0_0_0 inb_S2x2048x5632_S1x2048x512_0_0_0 inb_S2x512x2048_S1x512x2048_0_0_0 inb_S2x5632x2048_S1x512x2048_0_0_0
          wordsbf16_S2x2048x512_S1x2048x512_0_0_0 wordsbf16_S2x2048x5632_S1x2048x512_0_0_0 wordsbf16_S2x512x2048_S1x512x2048_0_0_0 wordsbf16_S2x5632x2048_S1x512x2048_0_0_0
          >>= fun _ => steps X hX P hP L hL Y hY i)
      else steps X hX P hP L hL Y hY i := by
  rw [Gen.cc0_ffn_eq_skeleton]
  rfl

/-- The rows after the eleven steps. -/
def accOf (x : Vec F S1024x2048 .f32) (g : Vec F S1x2048 .f32) : Vec F S1024x2048 .f32 := accAt m c (Gen.k0_pay1 x g) x 11

theorem steps_spec (i : grid0.Coords) (x : Vec F S1024x2048 .f32) (g : Vec F S1x2048 .f32) (hn0 : Vec F S1024x2048 .bf16) (y0 : Vec F S1024x2048 .f32) :
    (iprop(ownsTc c X fullShare x ∗ ownsTc c P fullShare g ∗ ownsTc c hnM fullShare hn0 ∗ ownsTc c Y fullShare y0 ∗ ring m c (11 * (i 0).val) ∗ owesNone c) : sProp 𝕄G)
      ⊢ wp frame (wpE (defs₀ (F := F)) 𝒱 (c : Thread nD τ) bd) Set.univ (steps (F := F) X hX P hP L hL Y hY i)
        (fun _ => iprop(ownsTc c X fullShare x ∗ ownsTc c P fullShare g
          ∗ ownsTc c hnM fullShare (Gen.k0_pay1 x g) ∗ ownsTc c Y fullShare (accOf m c x g) ∗ ring m c (11 * ((i 0).val + 1)) ∗ owesNone c)) := by
  unfold steps accOf
  iintro ⟨HX, HP, HN, HY, HR, HO⟩
  iapply (bind_spec c 𝒱 bd (loadFull_spec c 𝒱 bd X x)) $$ HX
  iintro %v1 ⟨%e1, HX⟩
  subst e1
  iapply (bind_spec c 𝒱 bd (loadRow_spec c 𝒱 bd P g)) $$ HP
  iintro %v2 ⟨%e2, HP⟩
  subst e2
  iapply (bind_spec c 𝒱 bd (loadFull_spec c 𝒱 bd hnM hn0)) $$ HN
  iintro %v3 ⟨-, HN⟩
  iapply (bind_spec c 𝒱 bd (storeFull_spec c 𝒱 bd hnM hn0 (Gen.k0_pay1 v1 v2) _ _)) $$ HN
  iintro %_ HN
  iapply (bind_spec c 𝒱 bd (loadFull_spec c 𝒱 bd Y y0)) $$ HY
  iintro %v4 ⟨-, HY⟩
  iapply (bind_spec c 𝒱 bd (storeFull_spec c 𝒱 bd Y y0 v1 _ _)) $$ HY
  iintro %_ HY
  iapply (Scf.wp_for_bind frame (wpE (defs₀ (F := F)) 𝒱 (c : Thread nD τ) bd) Set.univ k0_t1_loop.lb k0_t1_loop.ub k0_t1_loop.st _ _
    (Gen.k0_t1_body (F := F) i X hX P hP wgM (Memref.isWhole_whole _) wuM (Memref.isWhole_whole _) wdM (Memref.isWhole_whole _) L hL Y hY hnM (Memref.isWhole_whole _)
      bgM (Memref.isWhole_whole _) buM (Memref.isWhole_whole _) bdM (Memref.isWhole_whole _) semsM (BitVec.ofNat 32 (i 0).val))
    (fun k _ => iprop(ownsTc c hnM fullShare (Gen.k0_pay1 v1 v2) ∗ ownsTc c Y fullShare (accAt m c (Gen.k0_pay1 v1 v2) v1 k) ∗ ring m c (11 * (i 0).val + k) ∗ owesNone c))
    (fun t u => trip_spec m c 𝒱 bd X hX P hP L hL Y hY i _ t u (Gen.k0_pay1 v1 v2) v1)) $$ [HN HY HR HO]
  · isplitl [HN]; iexact HN
    isplitl [HY]; iexact HY
    isplitl [HR]; iexact HR
    iexact HO
  iintro %u ⟨HN, HY, HR, HO⟩
  rw [show Scf.trips k0_t1_loop.lb k0_t1_loop.ub k0_t1_loop.st = 11 from rfl]
  sl_step
  isplitl [HX]; iexact HX
  isplitl [HP]; iexact HP
  isplitl [HN]; iexact HN
  isplitl [HY]; iexact HY
  isplitl [HR]; iexact HR
  iexact HO

/-- Everything at rest, before the first point. -/
def quiet : sProp 𝕄G := iprop(weightsHeld m c ∗ restAt c 0 (by decide) ∗ restAt c 1 (by decide))

/-- The copies before point `n`. -/
def copies (n : Nat) : sProp 𝕄G := if n = 0 then quiet m c else ring m c (11 * n)

theorem body_spec (i : grid0.Coords) (x : Vec F S1024x2048 .f32) (g : Vec F S1x2048 .f32) (hn0 : Vec F S1024x2048 .bf16) (y0 : Vec F S1024x2048 .f32) :
    (iprop(ownsTc c X fullShare x ∗ ownsTc c P fullShare g ∗ ownsTc c hnM fullShare hn0 ∗ ownsTc c Y fullShare y0 ∗ copies m c (i 0).val ∗ owesNone c) : sProp 𝕄G)
      ⊢ wp frame (wpE (defs₀ (F := F)) 𝒱 (c : Thread nD τ) bd) Set.univ
        (cc0_ffn (F := F) i X hX P hP wgM (Memref.isWhole_whole _) wuM (Memref.isWhole_whole _) wdM (Memref.isWhole_whole _) L hL Y hY hnM (Memref.isWhole_whole _)
          bgM (Memref.isWhole_whole _) buM (Memref.isWhole_whole _) bdM (Memref.isWhole_whole _) semsM)
        (fun _ => iprop(ownsTc c X fullShare x ∗ ownsTc c P fullShare g
          ∗ ownsTc c hnM fullShare (Gen.k0_pay1 x g) ∗ ownsTc c Y fullShare (accOf m c x g) ∗ ring m c (11 * ((i 0).val + 1)) ∗ owesNone c)) := by
  rw [body_eq]
  unfold copies
  by_cases h1 : k0_cond1 i = 1#1
  · have h0 : (i 0).val = 0 := (cond1_iff i).1 h1
    rw [dif_pos h1, if_pos h0]
    unfold quiet
    iintro ⟨HX, HP, HN, HY, ⟨HW, HR0, HR1⟩, HO⟩
    iapply (bind_spec c 𝒱 bd (start3_spec m c 𝒱 bd 0 (by decide) 0 (by decide) ![0, 0] ![1, 0] ![2, 0] inb_S3x2_S1x1_0_0 inb_S3x2_S1x1_1_0 inb_S3x2_S1x1_2_0 ![0, 0, 0] ![0, 0, 0] ![0, 0, 0] ![0, 0, 0]
          inb_S2x2048x512_S1x2048x512_0_0_0 inb_S2x2048x5632_S1x2048x512_0_0_0 inb_S2x512x2048_S1x512x2048_0_0_0 inb_S2x5632x2048_S1x512x2048_0_0_0
          wordsbf16_S2x2048x512_S1x2048x512_0_0_0 wordsbf16_S2x2048x5632_S1x2048x512_0_0_0 wordsbf16_S2x512x2048_S1x512x2048_0_0_0 wordsbf16_S2x5632x2048_S1x512x2048_0_0_0
          rfl rfl rfl rfl rfl rfl rfl)) $$ [HW HR0]
    · isplitl [HW]; iexact HW; iexact HR0
    iintro %_ HF
    iapply (steps_spec m c 𝒱 bd X hX P hP L hL Y hY i x g hn0 y0)
    isplitl [HX]; iexact HX
    isplitl [HP]; iexact HP
    isplitl [HN]; iexact HN
    isplitl [HY]; iexact HY
    isplitr [HO]
    · rw [h0, show (ring m c (11 * 0) : sProp 𝕄G) = _ from if_pos (by decide)]
      isplitl [HF]; iexact HF
      iexact HR1
    iexact HO
  · have h0 : ¬ (i 0).val = 0 := fun h => h1 ((cond1_iff i).2 h)
    rw [dif_neg h1, if_neg h0]
    exact steps_spec m c 𝒱 bd X hX P hP L hL Y hY i x g hn0 y0

/-- One point: the block read, the block written, the copies moved on by eleven. -/
theorem ffn_spec (i : grid0.Coords) (x : Vec F S1024x2048 .f32) (g l : Vec F S1x2048 .f32) (hn0 : Vec F S1024x2048 .bf16) (y0 : Vec F S1024x2048 .f32) :
    (iprop(ownsTc c X fullShare x ∗ ownsTc c P fullShare g ∗ ownsTc c L fullShare l ∗ ownsTc c hnM fullShare hn0 ∗ ownsTc c Y fullShare y0 ∗ copies m c (i 0).val ∗ owesNone c) : sProp 𝕄G)
      ⊢ wp frame (wpE (defs₀ (F := F)) 𝒱 (c : Thread nD τ) bd) Set.univ
        (cc0_ffn (F := F) i X hX P hP wgM (Memref.isWhole_whole _) wuM (Memref.isWhole_whole _) wdM (Memref.isWhole_whole _) L hL Y hY hnM (Memref.isWhole_whole _)
          bgM (Memref.isWhole_whole _) buM (Memref.isWhole_whole _) bdM (Memref.isWhole_whole _) semsM)
        (fun _ => iprop(ownsTc c X fullShare x ∗ ownsTc c P fullShare g ∗ ownsTc c L fullShare l ∗ ownsTc c hnM fullShare (Gen.k0_pay1 x g)
          ∗ ownsTc c Y fullShare (accOf m c x g) ∗ copies m c ((i 0).val + 1) ∗ owesNone c)) := by
  iintro ⟨HX, HP, HL, HN, HY, HC, HO⟩
  iapply (wand_spec c 𝒱 bd (body_spec m c 𝒱 bd X hX P hP L hL Y hY i x g hn0 y0)) $$ [HX HP HN HY HC HO]
  · isplitl [HX]; iexact HX
    isplitl [HP]; iexact HP
    isplitl [HN]; iexact HN
    isplitl [HY]; iexact HY
    isplitl [HC]; iexact HC
    iexact HO
  iintro %_ ⟨HX, HP, HN, HY, HR, HO⟩
  isplitl [HX]; iexact HX
  isplitl [HP]; iexact HP
  isplitl [HL]; iexact HL
  isplitl [HN]; iexact HN
  isplitl [HY]; iexact HY
  isplitl [HR]
  · unfold copies
    rw [if_neg (Nat.succ_ne_zero _)]
    iexact HR
  iexact HO

end

end Cert.Kernel3Ideal

end
-- ==== Proof.BaseFrame.lean ====
/- The launch: what it keeps from point to point, one point's obligation, the run. -/
module

public import proofs.«01_k».proof.Proof.BasePoint
public import proofs.«01_k».proof.Proof.Gen.Kernel3Ideal.Frame
public import proofs.«01_k».proof.Proof.Gen.Kernel3Ideal.Launch
public import proofs.«01_k».proof.Proof.Gen.Kernel3Ideal.Points

@[expose] public section

set_option synthInstance.maxSize 4096
set_option maxRecDepth 100000

noncomputable section

namespace Cert.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Facts₀ Facts

variable {F : FTy → Type} [FloatOps F]

local notation "𝕄G" => MT nD τ sig Unit (Elt F) ℕ (Pipeline.UD sig nD τ) ℕ

variable (m : (ℓ : Loc nD τ sig) → Buf (Elt F) ℓ)

/-- No labels are called. -/
abbrev 𝒱₀ : Variants := Variants.none

/-- The normalized rows' buffer, the register, the copies, before point `n`. -/
def phi (c : Dev nD) (n : Nat) : sProp 𝕄G :=
  iprop((∃ X, ownsTc c hnM fullShare X) ∗ (∃ r, prngReg c r) ∗ copies m c n)

/-- The block a point writes. -/
def outAt (c : Dev nD) (t : Fin cfg0.N) : Vec F S1024x2048 .f32 :=
  accOf m c (Gen.iblk m c 0 t) (Gen.iblk m c 1 t)

def aft (c : Dev nD) : (w : Fin cfg0.W) → Fin cfg0.N → (cfg0.win w).block.Idx → Elt F (cfg0.win w).elt
  | 0 => fun t => Gen.iblk m c 0 t
  | 1 => fun t => Gen.iblk m c 1 t
  | 2 => fun t => Gen.iblk m c 2 t
  | 3 => fun t => outAt m c t
  | ⟨_ + 4, h⟩ => absurd h (Nat.not_lt.2 (Nat.le_add_left _ _))

/-- The launch's proof data. -/
def dats : (p : Fin 1) → (c : Dev nD) → Dat τ (Elt F) Unit ℕ (Pipeline.UD sig nD τ) ℕ (cfgs p) c
  | 0 => fun c =>
    { A := fun w => Gen.V m c (Pipeline.arrRef spec0 w)
      after := aft m c
      Φ := fun t => phi m c t.val
      q := fun _ => fullShare
      owed := fun _ => 0 }
  | ⟨_ + 1, h⟩ => absurd h (Nat.not_lt.2 (Nat.le_add_left _ _))

/-! ## One point -/

theorem before0 (c : Dev nD) (t : Fin cfg0.N) (d) : (dats m 0 c).before 0 t d = Gen.iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = Gen.iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = Gen.iblk m c 2 t :=
  ((dats m 0 c).before_in_eq_fetched 2 rfl (fun _ => rfl) (fun _ _ _ => rfl) (fun _ => rfl) t d).trans rfl

def bodyPre (c : Dev nD) (t : Fin cfg0.N) : sProp 𝕄G :=
  iprop(phi m c t.val ∗ (dats m 0 c).owesAt () t.castSucc
    ∗ (∃ d, ownsTc c (Gen.st0_0 t) fullShare ((dats m 0 c).before 0 t d))
    ∗ (∃ d, ownsTc c (Gen.st0_1 t) fullShare ((dats m 0 c).before 1 t d))
    ∗ (∃ d, ownsTc c (Gen.st0_2 t) fullShare ((dats m 0 c).before 2 t d))
    ∗ (∃ d, ownsTc c (Gen.st0_3 t) fullShare ((dats m 0 c).before 3 t d)))

def bodyPost (c : Dev nD) (t : Fin cfg0.N) : sProp 𝕄G :=
  iprop(phi m c (t.val + 1) ∗ (dats m 0 c).owesAt () t.succ
    ∗ ownsTc c (Gen.st0_0 t) fullShare (Gen.iblk m c 0 t) ∗ ownsTc c (Gen.st0_1 t) fullShare (Gen.iblk m c 1 t)
    ∗ ownsTc c (Gen.st0_2 t) fullShare (Gen.iblk m c 2 t) ∗ ownsTc c (Gen.st0_3 t) fullShare (outAt m c t))

theorem coord (t : Fin cfg0.N) : ((grid0.coords t) 0).val = t.val := by
  revert t
  exact (by decide : ∀ t : Fin grid0.N, ((grid0.coords t) 0).val = t.val)

theorem sound_body (c : Dev nD) (t : Fin cfg0.N) :
    (bodyPre m c t : sProp 𝕄G) ⊢ wp frame (wpE (defs₀ (F := F)) 𝒱₀ (c : Thread nD τ) none) Set.univ (Gen.bodyAt0 t) (fun _ => bodyPost m c t) := by
  unfold bodyPre phi
  simp only [before0 m c t, before1 m c t, before2 m c t]
  iintro ⟨⟨⟨%hn, HN⟩, HR, HC⟩, ⟨%W, -, HO⟩, ⟨%_d0, H0⟩, ⟨%_d1, H1⟩, ⟨%_d2, H2⟩, ⟨%d3, H3⟩⟩
  iapply (wand_spec c 𝒱₀ none (ffn_spec m c 𝒱₀ none (Gen.st0_0 t) (hstage0_0 ((cfg0.slots t 0).cast nbuf0_0))
    (Gen.st0_1 t) (hstage0_1 ((cfg0.slots t 1).cast nbuf0_1)) (Gen.st0_2 t) (hstage0_2 ((cfg0.slots t 2).cast nbuf0_2))
    (Gen.st0_3 t) (hstage0_3 ((cfg0.slots t 3).cast nbuf0_3)) (grid0.coords t)
    (Gen.iblk m c 0 t) (Gen.iblk m c 1 t) (Gen.iblk m c 2 t) hn ((dats m 0 c).before 3 t d3))) $$ [HN HC HO H0 H1 H2 H3]
  · rw [coord]
    isplitl [H0]; iexact H0
    isplitl [H1]; iexact H1
    isplitl [H2]; iexact H2
    isplitl [HN]; iexact HN
    isplitl [H3]; iexact H3
    isplitl [HC]; iexact HC
    unfold owesNone
    iexists W
    iexact HO
  rw [coord]
  unfold owesNone
  iintro %u ⟨H0, H1, H2, HN, H3, HC, ⟨%W', HO⟩⟩
  unfold bodyPost phi
  isplitl [HN HR HC]
  · isplitl [HN]; iexists _; iexact HN
    isplitl [HR]; iexact HR
    iexact HC
  isplitl [HO]
  · iexists W'
    isplitr
    · ipureintro; exact fun _ _ => Or.inl (Set.mem_univ _)
    iexact HO
  isplitl [H0]; iexact H0
  isplitl [H1]; iexact H1
  isplitl [H2]; iexact H2
  iexact H3

theorem body_obligation (c : Dev nD) : BodyObligation (dats m 0 c) (defs₀ (F := F)) 𝒱₀ () Set.univ := fun t => by
  rw [Gen.bigSep_W0, Gen.bigSep_W0]
  exact sound_body m c t

/-! ## The buffers and the semaphores at the launch's ends -/

theorem some_whole (c : Dev nD) (b : Ref sig .tc) :
    (iprop(∃ X, ownsTc c (Memref.whole b) fullShare X) : sProp 𝕄G)
      = iprop(∃ f : Buf (Elt F) ((c : Thread nD τ).loc b), ((c : Thread nD τ).loc b) ↦{fullShare} f) := by
  unfold ownsTc
  simp only [owns_whole]

theorem owns_of {s : Shape} {e : EltTy} (c : Dev nD) (M : Memref sig .tc .vmem s e) :
    (iprop(∃ X, ownsTc c M fullShare X) : sProp 𝕄G)
      ⊣⊢ iprop(∃ f : Buf (Elt F) (M.view.loc (c : Thread nD τ)), M.view.loc (c : Thread nD τ) ↦[M.view.set]{fullShare} f) := by
  unfold ownsTc owns
  refine ⟨?_, ?_⟩
  · iintro ⟨%X, %f, -, H⟩
    iexists f
    iexact H
  · iintro ⟨%f, H⟩
    iexists _, f
    isplitr
    · ipureintro; rfl
    iexact H

/-- A buffer held in two parts, together, and apart. -/
theorem parts (c : Dev nD) (b : Ref sig .tc) (I J : Finset (Idx ((c : Thread nD τ).loc b))) (hd : Disjoint I J) (hu : I ∪ J = Finset.univ) :
    (iprop(∃ f : Buf (Elt F) ((c : Thread nD τ).loc b), ((c : Thread nD τ).loc b) ↦{fullShare} f) : sProp 𝕄G)
      ⊣⊢ iprop((∃ f : Buf (Elt F) ((c : Thread nD τ).loc b), ((c : Thread nD τ).loc b) ↦[I]{fullShare} f)
        ∗ ∃ f : Buf (Elt F) ((c : Thread nD τ).loc b), ((c : Thread nD τ).loc b) ↦[J]{fullShare} f) := by
  refine ⟨?_, ?_⟩
  · iintro ⟨%f, H⟩
    rw [← hu]
    ihave H2 := (pointsTo_union hd).1 $$ H
    icases H2 with ⟨H0, H1⟩
    isplitl [H0]
    · iexists f; iexact H0
    iexists f; iexact H1
  · iintro ⟨⟨%f, H0⟩, ⟨%g, H1⟩⟩
    ihave H2 := (pointsTo_join hd) $$ [H0 H1]
    · isplitl [H0]; iexact H0; iexact H1
    rw [hu]
    iexists _
    iexact H2

theorem apart_of {s : Shape} (a0 : Fin s.rank) (o o' : Fin s.rank → Nat) (z : Fin s.rank → Nat) (h h') (hz : z a0 = 1) (e0 : o a0 = 0) (e1 : o' a0 = 1) :
    Disjoint (Rect.unit (s := s) o z h).set (Rect.unit (s := s) o' z h').set := by
  refine Finset.disjoint_left.2 fun j h0 h1 => ?_
  have p0 := (Rect.mem_set_unit.1 h0) a0
  have p1 := (Rect.mem_set_unit.1 h1) a0
  omega

theorem cover_of {s : Shape} (a0 : Fin s.rank) (o o' : Fin s.rank → Nat) (z : Fin s.rank → Nat) (h h') (hs : s.size a0 = 2) (hz : z a0 = 1) (e0 : o a0 = 0) (e1 : o' a0 = 1)
    (hr : ∀ a, a ≠ a0 → o a = 0 ∧ o' a = 0 ∧ z a = s.size a) :
    (Rect.unit (s := s) o z h).set ∪ (Rect.unit (s := s) o' z h').set = Finset.univ := by
  refine Finset.eq_univ_iff_forall.2 fun j => ?_
  rw [Finset.mem_union, Rect.mem_set_unit, Rect.mem_set_unit]
  have hj : (j a0).val < 2 := lt_of_lt_of_eq (j a0).isLt hs
  by_cases h0 : (j a0).val = 0
  · left
    intro a
    by_cases ha : a = a0
    · subst ha; omega
    · have := hr a ha; have := (j a).isLt; omega
  · right
    intro a
    by_cases ha : a = a0
    · subst ha; omega
    · have := hr a ha; have := (j a).isLt; omega

theorem halves1 (c : Dev nD) :
    (iprop(∃ f : Buf (Elt F) ((c : Thread nD τ).loc cc0_scratch1), ((c : Thread nD τ).loc cc0_scratch1) ↦{fullShare} f) : sProp 𝕄G)
      ⊣⊢ iprop((∃ X, ownsTc c (halfU bgM ![0, 0, 0] (inU Nat.zero_lt_two)) fullShare X) ∗ ∃ X, ownsTc c (halfU bgM ![1, 0, 0] (inU Nat.one_lt_two)) fullShare X) := by
  have e0 : @Eq (Finset S2x2048x512.Idx) (halfU bgM ![0, 0, 0] (inU Nat.zero_lt_two)).view.set (Rect.unit (s := S2x2048x512) ![0, 0, 0] S1x2048x512.size (inU Nat.zero_lt_two)).set :=
    (View.set_reshape _ _).trans (View.set_slice_whole cc0_scratch1 (Rect.unit (s := S2x2048x512) ![0, 0, 0] S1x2048x512.size (inU Nat.zero_lt_two)))
  have e1 : @Eq (Finset S2x2048x512.Idx) (halfU bgM ![1, 0, 0] (inU Nat.one_lt_two)).view.set (Rect.unit (s := S2x2048x512) ![1, 0, 0] S1x2048x512.size (inU Nat.one_lt_two)).set :=
    (View.set_reshape _ _).trans (View.set_slice_whole cc0_scratch1 (Rect.unit (s := S2x2048x512) ![1, 0, 0] S1x2048x512.size (inU Nat.one_lt_two)))
  refine (parts c cc0_scratch1 (halfU bgM ![0, 0, 0] (inU Nat.zero_lt_two)).view.set (halfU bgM ![1, 0, 0] (inU Nat.one_lt_two)).view.set ?_ ?_).trans ?_
  · exact (congrArg₂ (fun a b : Finset S2x2048x512.Idx => Disjoint a b) e0 e1).mpr (apart_of (s := S2x2048x512) 0 _ _ _ _ _ rfl rfl rfl)
  · exact (congrArg₂ (fun a b : Finset S2x2048x512.Idx => a ∪ b) e0 e1).trans (cover_of (s := S2x2048x512) 0 _ _ _ _ _ rfl rfl rfl rfl (by decide))
  · exact ⟨BI.sep_mono (owns_of c (halfU bgM ![0, 0, 0] (inU Nat.zero_lt_two))).2 (owns_of c (halfU bgM ![1, 0, 0] (inU Nat.one_lt_two))).2, BI.sep_mono (owns_of c (halfU bgM ![0, 0, 0] (inU Nat.zero_lt_two))).1 (owns_of c (halfU bgM ![1, 0, 0] (inU Nat.one_lt_two))).1⟩

theorem halves2 (c : Dev nD) :
    (iprop(∃ f : Buf (Elt F) ((c : Thread nD τ).loc cc0_scratch2), ((c : Thread nD τ).loc cc0_scratch2) ↦{fullShare} f) : sProp 𝕄G)
      ⊣⊢ iprop((∃ X, ownsTc c (halfU buM ![0, 0, 0] (inU Nat.zero_lt_two)) fullShare X) ∗ ∃ X, ownsTc c (halfU buM ![1, 0, 0] (inU Nat.one_lt_two)) fullShare X) := by
  have e0 : @Eq (Finset S2x2048x512.Idx) (halfU buM ![0, 0, 0] (inU Nat.zero_lt_two)).view.set (Rect.unit (s := S2x2048x512) ![0, 0, 0] S1x2048x512.size (inU Nat.zero_lt_two)).set :=
    (View.set_reshape _ _).trans (View.set_slice_whole cc0_scratch2 (Rect.unit (s := S2x2048x512) ![0, 0, 0] S1x2048x512.size (inU Nat.zero_lt_two)))
  have e1 : @Eq (Finset S2x2048x512.Idx) (halfU buM ![1, 0, 0] (inU Nat.one_lt_two)).view.set (Rect.unit (s := S2x2048x512) ![1, 0, 0] S1x2048x512.size (inU Nat.one_lt_two)).set :=
    (View.set_reshape _ _).trans (View.set_slice_whole cc0_scratch2 (Rect.unit (s := S2x2048x512) ![1, 0, 0] S1x2048x512.size (inU Nat.one_lt_two)))
  refine (parts c cc0_scratch2 (halfU buM ![0, 0, 0] (inU Nat.zero_lt_two)).view.set (halfU buM ![1, 0, 0] (inU Nat.one_lt_two)).view.set ?_ ?_).trans ?_
  · exact (congrArg₂ (fun a b : Finset S2x2048x512.Idx => Disjoint a b) e0 e1).mpr (apart_of (s := S2x2048x512) 0 _ _ _ _ _ rfl rfl rfl)
  · exact (congrArg₂ (fun a b : Finset S2x2048x512.Idx => a ∪ b) e0 e1).trans (cover_of (s := S2x2048x512) 0 _ _ _ _ _ rfl rfl rfl rfl (by decide))
  · exact ⟨BI.sep_mono (owns_of c (halfU buM ![0, 0, 0] (inU Nat.zero_lt_two))).2 (owns_of c (halfU buM ![1, 0, 0] (inU Nat.one_lt_two))).2, BI.sep_mono (owns_of c (halfU buM ![0, 0, 0] (inU Nat.zero_lt_two))).1 (owns_of c (halfU buM ![1, 0, 0] (inU Nat.one_lt_two))).1⟩

theorem halves3 (c : Dev nD) :
    (iprop(∃ f : Buf (Elt F) ((c : Thread nD τ).loc cc0_scratch3), ((c : Thread nD τ).loc cc0_scratch3) ↦{fullShare} f) : sProp 𝕄G)
      ⊣⊢ iprop((∃ X, ownsTc c (halfD bdM ![0, 0, 0] (inD Nat.zero_lt_two)) fullShare X) ∗ ∃ X, ownsTc c (halfD bdM ![1, 0, 0] (inD Nat.one_lt_two)) fullShare X) := by
  have e0 : @Eq (Finset S2x512x2048.Idx) (halfD bdM ![0, 0, 0] (inD Nat.zero_lt_two)).view.set (Rect.unit (s := S2x512x2048) ![0, 0, 0] S1x512x2048.size (inD Nat.zero_lt_two)).set :=
    (View.set_reshape _ _).trans (View.set_slice_whole cc0_scratch3 (Rect.unit (s := S2x512x2048) ![0, 0, 0] S1x512x2048.size (inD Nat.zero_lt_two)))
  have e1 : @Eq (Finset S2x512x2048.Idx) (halfD bdM ![1, 0, 0] (inD Nat.one_lt_two)).view.set (Rect.unit (s := S2x512x2048) ![1, 0, 0] S1x512x2048.size (inD Nat.one_lt_two)).set :=
    (View.set_reshape _ _).trans (View.set_slice_whole cc0_scratch3 (Rect.unit (s := S2x512x2048) ![1, 0, 0] S1x512x2048.size (inD Nat.one_lt_two)))
  refine (parts c cc0_scratch3 (halfD bdM ![0, 0, 0] (inD Nat.zero_lt_two)).view.set (halfD bdM ![1, 0, 0] (inD Nat.one_lt_two)).view.set ?_ ?_).trans ?_
  · exact (congrArg₂ (fun a b : Finset S2x512x2048.Idx => Disjoint a b) e0 e1).mpr (apart_of (s := S2x512x2048) 0 _ _ _ _ _ rfl rfl rfl)
  · exact (congrArg₂ (fun a b : Finset S2x512x2048.Idx => a ∪ b) e0 e1).trans (cover_of (s := S2x512x2048) 0 _ _ _ _ _ rfl rfl rfl rfl (by decide))
  · exact ⟨BI.sep_mono (owns_of c (halfD bdM ![0, 0, 0] (inD Nat.zero_lt_two))).2 (owns_of c (halfD bdM ![1, 0, 0] (inD Nat.one_lt_two))).2, BI.sep_mono (owns_of c (halfD bdM ![0, 0, 0] (inD Nat.zero_lt_two))).1 (owns_of c (halfD bdM ![1, 0, 0] (inD Nat.one_lt_two))).1⟩

/-- The launch's own semaphores. -/
def own6 : Fin 6 → SemLoc sig
  | 0 => .dma (semAt ![0, 0] (inS (by decide) (by decide)))
  | 1 => .dma (semAt ![1, 0] (inS (by decide) (by decide)))
  | 2 => .dma (semAt ![2, 0] (inS (by decide) (by decide)))
  | 3 => .dma (semAt ![0, 1] (inS (by decide) (by decide)))
  | 4 => .dma (semAt ![1, 1] (inS (by decide) (by decide)))
  | 5 => .dma (semAt ![2, 1] (inS (by decide) (by decide)))

theorem own6_facts : Pipeline.OwnSemFacts spec0 own6 := by decide

/-- The arrays the body reads by its own copies. -/
abbrev readByCopy : Finset (Ref sig .tc) := {main_arg2, main_arg3, main_arg4}

theorem held_launch (c : Dev nD) :
    (Pipeline.ΦD own6 spec0 readByCopy (Gen.V m) c : sProp 𝕄G)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f))
        ∗ (∃ r, prngReg c r)
        ∗ (semVal ((c : Thread nD τ), own6 0) 0 ∗ semVal ((c : Thread nD τ), own6 1) 0 ∗ semVal ((c : Thread nD τ), own6 2) 0
          ∗ semVal ((c : Thread nD τ), own6 3) 0 ∗ semVal ((c : Thread nD τ), own6 4) 0 ∗ semVal ((c : Thread nD τ), own6 5) 0)
        ∗ weightsHeld m c) := by
  rw [Pipeline.ΦD_eq, Gen.scopedRest0_eq]
  unfold Pipeline.ownSems0
  rw [bigSep_univ_eq_bigSepL [(0 : Fin 6), 1, 2, 3, 4, 5] (by decide) (by decide),
    bigSep_eq_bigSepL_of_eq [main_arg2, main_arg3, main_arg4] (by decide) (by decide)]
  rfl

theorem phi_zero (c : Dev nD) : (Pipeline.ΦD own6 spec0 readByCopy (Gen.V m) c : sProp 𝕄G) ⊢ phi m c 0 := by
  rw [held_launch]
  unfold phi copies
  rw [if_pos rfl]
  unfold quiet restAt idle
  iintro ⟨⟨H0, H1, H2, H3⟩, HR, ⟨S0, S1, S2, S3, S4, S5⟩, HW⟩
  ihave H1' := (halves1 c).1 $$ H1
  icases H1' with ⟨A0, A1⟩
  ihave H2' := (halves2 c).1 $$ H2
  icases H2' with ⟨B0, B1⟩
  ihave H3' := (halves3 c).1 $$ H3
  icases H3' with ⟨C0, C1⟩
  isplitl [H0]
  · iapply (Entails.of_eq (some_whole c cc0_scratch0).symm)
    iexact H0
  isplitl [HR]; iexact HR
  isplitl [HW]; iexact HW
  isplitl [A0 B0 C0 S0 S1 S2]
  · isplitl [A0 S0]
    · isplitl [A0]; iexact A0; iexact S0
    isplitl [B0 S1]
    · isplitl [B0]; iexact B0; iexact S1
    isplitl [C0]; iexact C0; iexact S2
  isplitl [A1 S3]
  · isplitl [A1]; iexact A1; iexact S3
  isplitl [B1 S4]
  · isplitl [B1]; iexact B1; iexact S4
  isplitl [C1]; iexact C1; iexact S5

theorem phi_last (c : Dev nD) : (phi m c cfg0.N : sProp 𝕄G) ⊢ Pipeline.ΦD own6 spec0 readByCopy (Gen.V m) c := by
  rw [held_launch]
  unfold phi
  have hc : (copies m c cfg0.N : sProp 𝕄G) = iprop(weightsHeld m c ∗ restAt c 1 (by decide) ∗ restAt c 0 (by decide)) := by
    rw [show cfg0.N = 33 from Gen.N_0]
    unfold copies ring
    rw [if_neg (by decide), if_neg (by decide)]
  rw [hc]
  unfold restAt idle
  iintro ⟨H0, HR, HW, ⟨⟨A1, S3⟩, ⟨B1, S4⟩, ⟨C1, S5⟩⟩, ⟨⟨A0, S0⟩, ⟨B0, S1⟩, ⟨C0, S2⟩⟩⟩
  isplitl [H0 A0 A1 B0 B1 C0 C1]
  · isplitl [H0]
    · iapply (Entails.of_eq (some_whole c cc0_scratch0))
      iexact H0
    isplitl [A0 A1]
    · iapply (halves1 c).2
      isplitl [A0]; iexact A0; iexact A1
    isplitl [B0 B1]
    · iapply (halves2 c).2
      isplitl [B0]; iexact B0; iexact B1
    iapply (halves3 c).2
    isplitl [C0]; iexact C0; iexact C1
  isplitl [HR]; iexact HR
  isplitr [HW]
  · isplitl [S0]; iexact S0
    isplitl [S1]; iexact S1
    isplitl [S2]; iexact S2
    isplitl [S3]; iexact S3
    isplitl [S4]; iexact S4
    iexact S5
  iexact HW

/-! ## The launch -/

/-- Every run ends, every semaphore at rest, with every array as the points' blocks make it. -/
theorem launch_run (ρ : Dev nD → PrngReg) :
    θ_run defs (onTc (τ := τ) (main (F := F))) (s₀ m ρ)
      (fun r => Pipeline.FramePost cfgs (dats m) 0 (Gen.V m) r ∧ r.2.sem = (fun _ => 0)) :=
  Pipeline.θ_run_frame_dma cfgs (dats m) 0 Gen.launch0 own6 defs₀ 𝒱₀ own6_facts readByCopy (by decide) m ρ main
    (fun c => (body_obligation m c).loose) (fun _ _ => ite_self _) (fun _ _ => rfl) (Gen.V m)
    (Pipeline.hmain_region cfgs 0 defs₀ 𝒱₀ m main fun c => (Gen.main_chain c).trans rfl) (fun _ _ => rfl)
    (fun c => phi_zero m c) (fun c => phi_last m c) _ (fun _ h => h)

end Cert.Kernel3Ideal

end
-- ==== Proof.BaseQuiet.lean ====
/- The third call ends with its arguments unchanged and every semaphore at rest, for the floats of the machine and for the
   extended reals. -/
module

public import proofs.«01_k».proof.Proof.BaseFrame
public import proofs.«01_k».proof.Defs
public import proofs.«01_k».proof.Proof.Gen.Kernel3
public import proofs.«01_k».proof.Proof.Gen.Reference3Ideal.Run
public import Idealize.ShloMosaic.Lib.Quiescent

@[expose] public section

set_option maxRecDepth 100000

noncomputable section

namespace Cert.Kernel3Ideal

open Idealize.ShloMosaic Idealize.ShloMosaic.TcCoe Idealize.SL.Sem

section
variable {F : FTy → Type} [FloatOps F]
variable (m : (ℓ : Loc nD τ sig) → Buf (Elt F) ℓ)

/-- The arguments end as they began. -/
def Unchanged (r : MemSt nD τ sig (Elt F)) (c : Dev nD) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)

/-- What the launch leaves in the result: the points' blocks. -/
def result (c : Dev nD) : Buf (Elt F) ((c.tc : Thread nD τ).loc main_v0) := (dats m 0 c).arrAt 3 cfg0.N

theorem run_result (ρ : Dev nD → PrngReg) :
    θ_run defs (onTc (τ := τ) (main (F := F))) ⟨m, fun _ => 0, ρ⟩
      (fun r => (∀ c : Dev nD, r.2.mem ((c.tc : Thread nD τ).loc main_v0) = result m c ∧ Unchanged m r.2 c)
        ∧ r.2.sem = fun _ => 0) :=
  (θ_run defs _ _).mono (fun _ h => ⟨fun c => ⟨(h.1 c).1 3,
      ((h.1 c).1 0).trans (((dats m 0 c).arrAt_in 0 rfl _).trans (Gen.V_main_arg0 m c)),
      ((h.1 c).1 1).trans (((dats m 0 c).arrAt_in 1 rfl _).trans (Gen.V_main_arg1 m c)),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      ((h.1 c).1 2).trans (((dats m 0 c).arrAt_in 2 rfl _).trans (Gen.V_main_arg5 m c))⟩, h.2⟩) (launch_run m ρ)

end

end Cert.Kernel3Ideal

namespace Cert.Proof

open Idealize.ShloMosaic Idealize.ShloMosaic.TcCoe Idealize.SL.Sem

theorem quiescent_Kernel3Ideal : Cert.quiescent_Kernel3Ideal := fun m ρ _ =>
  (θ_run Cert.Kernel3Ideal.defs _ _).mono (fun _ h => ⟨fun c => (h.1 c).2, h.2⟩)
    (Cert.Kernel3Ideal.run_result m ρ)

section
open Cert.Kernel3Ideal

theorem run_machine3 (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, Unchanged m r.2 c) ∧ r.2.sem = fun _ => 0) :=
  (θ_run defs _ _).mono (fun _ (h : (∀ c : Dev nD, _ ∧ Unchanged m _ c) ∧ _) => ⟨fun c => (h.1 c).2, h.2⟩) (run_result (F := Bits) m ρ)

end

section
variable {F : FTy → Type} [FloatOps F]

set_option maxHeartbeats 4000000 in
/-- The machine's body is the same body. -/
theorem base_eq : @Cert.Kernel3.cc0_ffn F _ _ = @Cert.Kernel3Ideal.cc0_ffn F _ _ := rfl

theorem bodies3_eq : @Cert.Kernel3.defs₀ F _ _ = @Cert.Kernel3Ideal.defs₀ F _ _ := by
  unfold Cert.Kernel3.defs₀ Cert.Kernel3Ideal.defs₀
  rw [base_eq]
  refine congrArg _ (funext fun l => funext fun x => ?_)
  match l, x with
  | 0, (t, s) => rfl
  | ⟨n + 1, h⟩, _ => exact absurd h (Nat.not_lt.2 (Nat.le_add_left _ _))

theorem defs3_eq : @Cert.Kernel3.defs F _ _ = @Cert.Kernel3Ideal.defs F _ _ := by
  unfold Cert.Kernel3.defs Cert.Kernel3Ideal.defs
  rw [bodies3_eq]
  rfl

end

theorem quiescent_Kernel3 : Cert.quiescent_Kernel3 := fun m ρ _ => by
  rw [defs3_eq]
  exact run_machine3 m ρ

theorem quiescent_Reference3Ideal : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves3 : Cert.preserves_Kernel3_Kernel3Ideal := trivial

end Cert.Proof
end
-- ==== Proof.BaseAt.lean ====
/- The third call's result read entry by entry, over the extended reals: the block a point writes is its rows' feed-forward. -/
module

public import proofs.«01_k».proof.Proof.BaseQuiet
public import proofs.«01_k».proof.Proof.Gated
public import Idealize.ShloMosaic.Lib.Pointwise

@[expose] public section

set_option synthInstance.maxSize 4096
set_option maxRecDepth 100000

noncomputable section

namespace Cert.Kernel3Ideal

open Idealize.ShloMosaic Idealize.ShloMosaic.TcCoe Idealize.SL.Sem
open Facts₀ Facts

variable (m : (ℓ : Loc nD τ sig) → Buf (Elt Ideal) ℓ) (c : Dev nD)

/-! ## The arguments -/

abbrev ar0 : FVec Ideal S33792x2048 .f32 := m ((c.tc : Thread nD τ).loc main_arg0)
abbrev ar1 : FVec Ideal S1x2048 .f32 := m ((c.tc : Thread nD τ).loc main_arg1)
abbrev ar2 : FVec Ideal S2x2048x5632 .bf16 := m ((c.tc : Thread nD τ).loc main_arg2)
abbrev ar3 : FVec Ideal S2x2048x5632 .bf16 := m ((c.tc : Thread nD τ).loc main_arg3)
abbrev ar4 : FVec Ideal S2x5632x2048 .bf16 := m ((c.tc : Thread nD τ).loc main_arg4)
abbrev ar5 : FVec Ideal S1x2048 .f32 := m ((c.tc : Thread nD τ).loc main_arg5)

/-- The first layer's matrix into the hidden row. -/
def wide (A : FVec Ideal S2x2048x5632 .bf16) (i : Fin 2048) (k : Fin 5632) : EReal := A (ix3 0 i k)

/-- The first layer's matrix out of the hidden row. -/
def tall (A : FVec Ideal S2x5632x2048 .bf16) (k : Fin 5632) (j : Fin 2048) : EReal := A (ix3 0 k j)

/-! ## The pieces at an index -/

theorem gPiece_apply (f : ℕ) (h : f < 11) (a : Fin 2048) (b : Fin 512) :
    gPiece m c f h (ix2 a b) = ar2 m c (ix3 0 a ⟨512 * f + b.val, by have := b.isLt; omega⟩) := by
  have e : gPiece m c f h = shapeCast S2048x512
      (fun y : S1x2048x512.Idx => ar2 m c ((Rect.unit (s := S2x2048x5632) ![0, 0, 512 * f] S1x2048x512.size (inWU h)).emb y))
      shapeCasts_S1x2048x512_S2048x512 := rfl
  rw [e]
  pointwise
  refine congrArg (ar2 m c) (funext fun x => Fin.ext ?_)
  rw [Rect.emb_apply]
  fin_cases x <;> simp

theorem uPiece_apply (f : ℕ) (h : f < 11) (a : Fin 2048) (b : Fin 512) :
    uPiece m c f h (ix2 a b) = ar3 m c (ix3 0 a ⟨512 * f + b.val, by have := b.isLt; omega⟩) := by
  have e : uPiece m c f h = shapeCast S2048x512
      (fun y : S1x2048x512.Idx => ar3 m c ((Rect.unit (s := S2x2048x5632) ![0, 0, 512 * f] S1x2048x512.size (inWU h)).emb y))
      shapeCasts_S1x2048x512_S2048x512 := rfl
  rw [e]
  pointwise
  refine congrArg (ar3 m c) (funext fun x => Fin.ext ?_)
  rw [Rect.emb_apply]
  fin_cases x <;> simp

theorem dPiece_apply (f : ℕ) (h : f < 11) (a : Fin 512) (b : Fin 2048) :
    dPiece m c f h (ix2 a b) = ar4 m c (ix3 0 ⟨512 * f + a.val, by have := a.isLt; omega⟩ b) := by
  have e : dPiece m c f h = shapeCast S512x2048
      (fun y : S1x512x2048.Idx => ar4 m c ((Rect.unit (s := S2x5632x2048) ![0, 512 * f, 0] S1x512x2048.size (inWD h)).emb y))
      shapeCasts_S1x512x2048_S512x2048 := rfl
  rw [e]
  pointwise
  refine congrArg (ar4 m c) (funext fun x => Fin.ext ?_)
  rw [Rect.emb_apply]
  fin_cases x <;> simp

/-! ## The steps at an index -/

theorem normed_apply (x : Vec Ideal S1024x2048 .f32) (g : Vec Ideal S1x2048 .f32) (r : Fin 1024) (j : Fin 2048) :
    Gen.k0_pay1 x g (ix2 r j) = Gated.nrm (fun i => x (ix2 r i)) (fun i => g (ix2 0 i)) j := by
  unfold Gen.k0_pay1 Gated.nrm
  pointwise

theorem stepVal_apply (hn : Vec Ideal S1024x2048 .bf16) (G U : Vec Ideal S2048x512 .bf16) (D : Vec Ideal S512x2048 .bf16)
    (acc : Vec Ideal S1024x2048 .f32) (r : Fin 1024) (j : Fin 2048) :
    stepVal hn G U D acc (ix2 r j) = acc (ix2 r j) + ∑ b : Fin 512,
      (∑ i : Fin 2048, hn (ix2 r i) * G (ix2 i b)) * Ideal.logistic (∑ i : Fin 2048, hn (ix2 r i) * G (ix2 i b))
        * (∑ i : Fin 2048, hn (ix2 r i) * U (ix2 i b)) * D (ix2 b j) := by
  unfold stepVal
  pointwise

theorem accAt_apply (hn : Vec Ideal S1024x2048 .bf16) (x : Vec Ideal S1024x2048 .f32) (r : Fin 1024) (j : Fin 2048) (n : ℕ) :
    accAt m c hn x n (ix2 r j) = x (ix2 r j) + ∑ f ∈ Finset.range n, ∑ b : Fin 512,
      Gated.act (fun i => hn (ix2 r i)) (wide (ar2 m c)) (wide (ar3 m c)) (Gated.place f b) * tall (ar4 m c) (Gated.place f b) j := by
  induction n with
  | zero => simp [accAt]
  | succ n ih =>
    show stepVal hn (gPiece m c (n % 11) (lt11 n)) (uPiece m c (n % 11) (lt11 n)) (dPiece m c (n % 11) (lt11 n)) (accAt m c hn x n) (ix2 r j) = _
    rw [stepVal_apply, ih, Finset.sum_range_succ, add_assoc]
    simp only [gPiece_apply, uPiece_apply, dPiece_apply]
    rfl

theorem accOf_apply (x : Vec Ideal S1024x2048 .f32) (g : Vec Ideal S1x2048 .f32) (r : Fin 1024) (j : Fin 2048) :
    accOf m c x g (ix2 r j)
      = Gated.row (fun i => x (ix2 r i)) (fun i => g (ix2 0 i)) (wide (ar2 m c)) (wide (ar3 m c)) (tall (ar4 m c)) j := by
  unfold accOf Gated.row
  rw [accAt_apply]
  simp only [normed_apply]
  rw [Gated.sum_pieces (fun k => Gated.act _ _ _ k * tall (ar4 m c) k j)]

/-! ## The blocks at an index -/

variable (t : Fin cfg0.N)

theorem points : t.val < 33 := lt_of_lt_of_eq t.isLt Gen.N_0

/-- A row of a point's block. -/
def rowAt (r : Fin 1024) : Fin 33792 := ⟨t.val * 1024 + r.val, by have := points t; have := r.isLt; omega⟩

theorem word (n : ℕ) (h : n < 33) : (BitVec.ofNat 32 n).toNat = n := by rw [BitVec.toNat_ofNat]; omega

theorem blk0_apply (r : Fin 1024) (i : Fin 2048) :
    (Gen.iblk m c 0 t : Vec Ideal S1024x2048 .f32) (ix2 r i)
      = ar0 m c (ix2 (rowAt t r) i) := by
  show Gen.V m c main_arg0 ((win0_0.rect t).emb _) = Gen.V m c main_arg0 _
  congr 1
  funext a
  apply Fin.ext
  rw [Pipeline.Window.rect_emb_val win0_0 t _ a]
  have := points t
  fin_cases a
  · show (BitVec.ofNat 32 (grid0.coords t 0).val).toNat * 1024 + r.val = t.val * 1024 + r.val
    rw [word _ (by rw [coord]; omega), coord]
  · show 0 * 2048 + i.val = i.val
    omega

theorem blk1_apply (i : Fin 2048) : (Gen.iblk m c 1 t : Vec Ideal S1x2048 .f32) (ix2 0 i) = ar1 m c (ix2 0 i) := by
  show Gen.V m c main_arg1 ((win0_1.rect t).emb _) = Gen.V m c main_arg1 _
  congr 1
  funext a
  apply Fin.ext
  rw [Pipeline.Window.rect_emb_val win0_1 t _ a]
  fin_cases a
  · rfl
  · show 0 * 2048 + i.val = i.val
    omega

/-! ## The whole result -/

/-- An entry of the result. -/
def entry (A0 : FVec Ideal S33792x2048 .f32) (A1 : FVec Ideal S1x2048 .f32) (A2 A3 : FVec Ideal S2x2048x5632 .bf16)
    (A4 : FVec Ideal S2x5632x2048 .bf16) (q : Fin 33792) (j : Fin 2048) : EReal :=
  Gated.row (fun i => A0 (ix2 q i)) (fun i => A1 (ix2 0 i)) (wide A2) (wide A3) (tall A4) j

/-- The result, entry by entry. -/
def whole : FVec Ideal S33792x2048 .f32 := fun y =>
  entry (ar0 m c) (ar1 m c) (ar2 m c) (ar3 m c) (ar4 m c) (y 0) (y 1)

theorem emb3 (y : S1024x2048.Idx) : ((win0_3.rect t).emb y : S33792x2048.Idx) = ix2 (rowAt t (y 0)) (y 1) := by
  funext a
  apply Fin.ext
  rw [Pipeline.Window.rect_emb_val win0_3 t _ a]
  have := points t
  fin_cases a
  · show (BitVec.ofNat 32 (grid0.coords t 0).val).toNat * 1024 + (y 0).val = t.val * 1024 + (y 0).val
    rw [word _ (by rw [coord]; omega), coord]
  · show 0 * 2048 + (y 1).val = (y 1).val
    omega

theorem outAt_apply (r : Fin 1024) (j : Fin 2048) :
    outAt m c t (ix2 r j) = entry (ar0 m c) (ar1 m c) (ar2 m c) (ar3 m c) (ar4 m c) (rowAt t r) j := by
  refine (accOf_apply m c _ _ r j).trans ?_
  simp only [blk0_apply, blk1_apply]
  rfl

theorem outAt_eq (y : S1024x2048.Idx) : outAt m c t y = whole m c ((win0_3.rect t).emb y) := by
  have e : y = ix2 (y 0) (y 1) := by
    funext a
    fin_cases a <;> rfl
  rw [emb3]
  exact (congrArg (outAt m c t) e).trans (outAt_apply m c t (y 0) (y 1))

theorem result_eq : result m c = whole m c := by
  refine (dats m 0 c).arrAt_eq_of_cover 3 (whole m c : Buf (Elt Ideal) ((c.tc : Thread nD τ).loc main_v0)) (fun t _ => ?_) (fun i => ?_)
  · funext y
    exact outAt_eq m c t y
  · have h0 : (i 0).val < 33792 := (i 0).isLt
    have h1 : (i 1).val < 2048 := (i 1).isLt
    have hN : cfg0.N = 33 := Gen.N_0
    let t : Fin cfg0.N := ⟨(i 0).val / 1024, by rw [hN]; omega⟩
    let y : S1024x2048.Idx := ix2 ⟨(i 0).val % 1024, Nat.mod_lt _ (by norm_num)⟩ (i 1)
    have ht : t.val = (i 0).val / 1024 := rfl
    have e : (win0_3.rect t).emb y = i := by
      rw [emb3]
      funext a
      apply Fin.ext
      fin_cases a
      · show t.val * 1024 + (i 0).val % 1024 = (i 0).val
        omega
      · rfl
    refine ⟨t, Gen.flush0_3 t, ?_⟩
    have h := ((cfg0.win 3).blk t).view.emb_mem_set y
    exact (show ((cfg0.win 3).blk t).view.emb y = i from e) ▸ h

end Cert.Kernel3Ideal
-- ==== Proof.BaseRefAt.lean ====
/- The third reference's result read entry by entry, over the extended reals: the rows' feed-forward. -/
module

public import proofs.«01_k».proof.Proof.Gen.Reference3Ideal.Run
public import proofs.«01_k».proof.Proof.BaseAt

@[expose] public section

set_option synthInstance.maxSize 4096
set_option maxRecDepth 100000

noncomputable section

namespace Cert.Reference3Ideal

open Cert.Reference3Ideal.Gen Idealize.ShloMosaic Idealize.ShloMosaic.TcCoe

/-! ## The reference in stages -/

/-- Rows over their root mean squares, scaled. -/
def normed (X : FVec Ideal S33792x2048 .f32) (A : FVec Ideal S1x2048 .f32) : FVec Ideal S33792x2048 .f32 :=
  mulf (mulf X (broadcastInDim S33792x2048 ![0, 1] bcast_S33792x1_S33792x2048_0_1 (Host.rsqrt (addf (Host.divf (broadcastInDim S33792x1 ![0]
    bcast_S33792_S33792x1_0 (Host.reduceAdd (mulf X X) (constant S_ .f32 0x00000000#32) reducesTo_S33792x2048_S33792_d1 h_S_)) (broadcastInDim S33792x1 ![]
    bcast_S_S33792x1 (constant S_ .f32 0x45000000#32))) (broadcastInDim S33792x1 ![] bcast_S_S33792x1 (constant S_ .f32 0x358637BD#32))))))
    (broadcastInDim S33792x2048 ![0, 1] bcast_S1x2048_S33792x2048_0_1 A)

/-- Rows times the first layer's matrix into the hidden rows. -/
def cols (N : FVec Ideal S33792x2048 .f32) (A : FVec Ideal S2x2048x5632 .bf16) : FVec Ideal S33792x5632 .f32 :=
  Host.dotGeneral dot_S33792x2048_S2048x5632_S33792x5632_1_0_0_1_n_n none N (extf .f32 (shapeCast _ (extractStridedSlice S1x2048x5632 ![0, 0, 0] A
    slices_S2x2048x5632_S1x2048x5632_0_0_0) shapeCasts_S1x2048x5632_S2048x5632) bitsLt_bf16_f32)

/-- The gated hidden rows. -/
def gated (G U : FVec Ideal S33792x5632 .f32) : FVec Ideal S33792x5632 .f32 :=
  mulf (mulf G (Host.divf (broadcastInDim S33792x5632 ![] bcast_S_S33792x5632 (constant S_ .f32 0x3F800000#32)) (addf (broadcastInDim S33792x5632 ![]
    bcast_S_S33792x5632 (constant S_ .f32 0x3F800000#32)) (Host.exp (Host.negf G))))) U

/-- Rows plus what the hidden rows give. -/
def joined (X : FVec Ideal S33792x2048 .f32) (H : FVec Ideal S33792x5632 .f32) (A : FVec Ideal S2x5632x2048 .bf16) : FVec Ideal S33792x2048 .f32 :=
  addf X (Host.dotGeneral dot_S33792x5632_S5632x2048_S33792x2048_1_0_0_1_n_n none H (extf .f32 (shapeCast _ (extractStridedSlice S1x5632x2048 ![0, 0, 0] A
    slices_S2x5632x2048_S1x5632x2048_0_0_0) shapeCasts_S1x5632x2048_S5632x2048) bitsLt_bf16_f32))

/-- The result by the stages. -/
def staged (A0 : FVec Ideal S33792x2048 .f32) (A1 : FVec Ideal S1x2048 .f32) (A2 A3 : FVec Ideal S2x2048x5632 .bf16)
    (A4 : FVec Ideal S2x5632x2048 .bf16) : FVec Ideal S33792x2048 .f32 :=
  joined A0 (gated (cols (normed A0 A1) A2) (cols (normed A0 A1) A3)) A4

/-! ## The stages at an index -/

variable (q : Fin 33792) (j : Fin 2048) (k : Fin 5632)

theorem normed_apply (X : FVec Ideal S33792x2048 .f32) (A : FVec Ideal S1x2048 .f32) :
    normed X A (ix2 q j) = Gated.nrm (fun i => X (ix2 q i)) (fun i => A (ix2 0 i)) j := by
  unfold normed Gated.nrm
  pointwise

theorem cols_apply (N : FVec Ideal S33792x2048 .f32) (A : FVec Ideal S2x2048x5632 .bf16) :
    cols N A (ix2 q k) = Gated.col (fun i => N (ix2 q i)) (Kernel3Ideal.wide A) k := by
  unfold cols Gated.col Kernel3Ideal.wide
  pointwise

theorem gated_apply (G U : FVec Ideal S33792x5632 .f32) :
    gated G U (ix2 q k) = G (ix2 q k) * Ideal.logistic (G (ix2 q k)) * U (ix2 q k) := by
  unfold gated Ideal.logistic
  pointwise

theorem joined_apply (X : FVec Ideal S33792x2048 .f32) (H : FVec Ideal S33792x5632 .f32) (A : FVec Ideal S2x5632x2048 .bf16) :
    joined X H A (ix2 q j) = X (ix2 q j) + ∑ k, H (ix2 q k) * Kernel3Ideal.tall A k j := by
  unfold joined Kernel3Ideal.tall
  pointwise

theorem staged_apply (A0 : FVec Ideal S33792x2048 .f32) (A1 : FVec Ideal S1x2048 .f32) (A2 A3 : FVec Ideal S2x2048x5632 .bf16)
    (A4 : FVec Ideal S2x5632x2048 .bf16) :
    staged A0 A1 A2 A3 A4 (ix2 q j) = Kernel3Ideal.entry A0 A1 A2 A3 A4 q j := by
  unfold staged Kernel3Ideal.entry Gated.row Gated.act
  simp only [normed_apply, joined_apply, gated_apply, cols_apply]

end Cert.Reference3Ideal

namespace Cert.Proof

open Idealize.ShloMosaic Idealize.ShloMosaic.TcCoe Idealize.SL.Sem

/-- From equal arguments, the third reference's result is the third call's. -/
theorem res3_eq_whole {m : (ℓ : Loc Cert.Kernel3Ideal.nD Cert.Kernel3Ideal.τ Cert.Kernel3Ideal.sig) → Buf (Elt Ideal) ℓ}
    {m' : (ℓ : Loc Cert.Reference3Ideal.nD Cert.Reference3Ideal.τ Cert.Reference3Ideal.sig) → Buf (Elt Ideal) ℓ} (c : Dev Cert.Kernel3Ideal.nD)
    (h0 : m' ((c.tc : Thread Cert.Reference3Ideal.nD Cert.Reference3Ideal.τ).loc Cert.Reference3Ideal.main_arg0) = Cert.Kernel3Ideal.ar0 m c)
    (h1 : m' ((c.tc : Thread Cert.Reference3Ideal.nD Cert.Reference3Ideal.τ).loc Cert.Reference3Ideal.main_arg1) = Cert.Kernel3Ideal.ar1 m c)
    (h2 : m' ((c.tc : Thread Cert.Reference3Ideal.nD Cert.Reference3Ideal.τ).loc Cert.Reference3Ideal.main_arg2) = Cert.Kernel3Ideal.ar2 m c)
    (h3 : m' ((c.tc : Thread Cert.Reference3Ideal.nD Cert.Reference3Ideal.τ).loc Cert.Reference3Ideal.main_arg3) = Cert.Kernel3Ideal.ar3 m c)
    (h4 : m' ((c.tc : Thread Cert.Reference3Ideal.nD Cert.Reference3Ideal.τ).loc Cert.Reference3Ideal.main_arg4) = Cert.Kernel3Ideal.ar4 m c) :
    (Cert.Reference3Ideal.staged (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4)) : FVec Ideal Cert.Kernel3Ideal.S33792x2048 .f32) = Cert.Kernel3Ideal.whole m c := by
  rw [h0, h1, h2, h3, h4]
  funext x
  have e : x = ix2 (x 0) (x 1) := by
    funext a
    fin_cases a <;> rfl
  exact (congrArg (Cert.Reference3Ideal.staged _ _ _ _ _) e).trans (Cert.Reference3Ideal.staged_apply (x 0) (x 1) _ _ _ _ _)

set_option maxHeartbeats 2000000 in
theorem algebraic3 : Cert.algebraic_Kernel3Ideal_Reference3Ideal := fun m g m' g' _ hargs =>
  ⟨fun c => Cert.Kernel3Ideal.whole m c,
    (θ_run Cert.Kernel3Ideal.defs _ _).mono
      (fun _ h c => ⟨(h.1 c).1.trans (Cert.Kernel3Ideal.result_eq m c), (h.1 c).2⟩)
      (Cert.Kernel3Ideal.run_result m g),
    (θ_run Cert.Reference3Ideal.defs _ _).mono
      (fun _ h c => ⟨(h c).1.trans (res3_eq_whole c (hargs c).1 (hargs c).2.1 (hargs c).2.2.1 (hargs c).2.2.2.1
        (hargs c).2.2.2.2.1), (h c).2⟩)
      (Cert.Reference3Ideal.Value.run (F := Ideal) m' g')⟩

end Cert.Proof
-- ==== Proof.Proj.lean ====
/- A row of the queries and of the values, over the extended reals: what both programs of the fourth call compute, as plain functions. -/
module

public import proofs.«01_k».proof.Proof.Gated
public import proofs.«01_k».proof.Proof.Gen.Kernel4Ideal.Value

@[expose] public section

set_option maxRecDepth 100000

noncomputable section

namespace Cert.Gated

open Idealize.ShloMosaic

/-- The column of the projection a head's lane comes from. -/
def lane (l : Fin 2048) : Fin 1024 := ⟨128 * (l.val / 256) + l.val % 128, by have := l.isLt; omega⟩

/-- A row's entry by a matrix. -/
def proj (n : Fin 2048 → EReal) (W : Fin 2048 → Fin 1024 → EReal) (k : Fin 1024) : EReal := ∑ i, n i * W i k

/-- A row of the queries: each head's projection, scaled, and then three ones and zeros. -/
def query (n : Fin 2048 → EReal) (W : Fin 2048 → Fin 1024 → EReal) (l : Fin 2048) : EReal :=
  if l.val % 256 < 128 then proj n W (lane l) * Ideal.ofBits .f32 0x3E0293EE#32 else if l.val % 256 < 131 then 1 else 0

end Cert.Gated

namespace Cert.Kernel4Ideal

open Cert.Kernel4Ideal.Gen Idealize.ShloMosaic Idealize.ShloMosaic.TcCoe

/-! ## The stored pieces at an index -/

/-- The queries' columns of the matrix. -/
def colsQ (w : Vec Ideal S1x2048x2048 .bf16) (i : Fin 2048) (k : Fin 1024) : EReal := w (ix3 0 i ⟨k.val, by have := k.isLt; omega⟩)

theorem k0_pay5_apply (x : Vec Ideal S512x2048 .f32) (g : Vec Ideal S1x2048 .f32) (a : Fin 512) (j : Fin 2048) :
    k0_pay5 x g (ix2 a j) = Gated.nrm (fun i => x (ix2 a i)) (fun i => g (ix2 0 i)) j := by
  unfold k0_pay5 Gated.nrm
  pointwise

theorem k0_pay10_apply (n : FVec Ideal S512x2048 .bf16) (w : Vec Ideal S1040x2048 .bf16) (k : Fin 1024) (a : Fin 512) :
    k0_pay10 n w (ix3 0 k a) = ∑ i, w (ix2 ⟨k.val, by have := k.isLt; omega⟩ i) * n (ix2 a i) := by
  unfold k0_pay10 k0_pay9 k0_pay6
  pointwise

theorem k0_pay68_apply (n : FVec Ideal S512x2048 .bf16) (w : Vec Ideal S1x2048x1024 .bf16) (a : Fin 512) (k : Fin 1024) :
    k0_pay68 (k0_pay6 n) w (ix2 a k) = ∑ i, n (ix2 a i) * w (ix3 0 i k) := by
  unfold k0_pay68 k0_pay6
  pointwise

theorem slt_three (b : Fin 128) : (IntOp.cmpi .slt (BitVec.ofNat 32 b.val) 3#32 = 1#1) ↔ b.val < 3 := by
  revert b
  decide

theorem k0_pay27_apply (a : Fin 512) (b : Fin 128) : (k0_pay27 : FVec Ideal S512x128 .bf16) (ix2 a b) = if b.val < 3 then (1 : EReal) else 0 := by
  unfold k0_pay27
  pointwise
  by_cases h : b.val < 3
  · rw [if_pos h]
    exact if_pos ((slt_three b).mpr h)
  · rw [if_neg h]
    exact if_neg fun hc => h ((slt_three b).mp hc)

theorem query_head (n : Fin 2048 → EReal) (W : Fin 2048 → Fin 1024 → EReal) (h b : ℕ) (hb : b < 128) (k : Fin 1024) (hk : k.val = 128 * h + b)
    (l : Fin 2048) (hl : l.val = 256 * h + b) :
    Gated.query n W l = Gated.proj n W k * Ideal.ofBits .f32 0x3E0293EE#32 := by
  have e : Gated.lane l = k := Fin.ext (by show 128 * (l.val / 256) + l.val % 128 = k.val; omega)
  unfold Gated.query
  rw [if_pos (by omega), e]

theorem query_ones (n : Fin 2048 → EReal) (W : Fin 2048 → Fin 1024 → EReal) (h b : ℕ) (hb : b < 128) (l : Fin 2048) (hl : l.val = 256 * h + 128 + b) :
    Gated.query n W l = if b < 3 then (1 : EReal) else 0 := by
  unfold Gated.query
  rw [if_neg (by omega)]
  by_cases h3 : b < 3
  · rw [if_pos h3, if_pos (by omega)]
  · rw [if_neg h3, if_neg (by omega)]

/-- A whole block of the queries' rows. -/
def queries (n : FVec Ideal S512x2048 .bf16) (w : Vec Ideal S1x2048x2048 .bf16) : FVec Ideal S1x512x2048 .bf16 :=
  fun y => Gated.query (fun i => n (ix2 (y 1) i)) (colsQ w) (y 2)

theorem idx_piece (x : S1x512x128.Idx) : x = ix3 (0 : Fin 1) (x 1) (x 2) := by
  funext a
  fin_cases a
  · exact Fin.ext (by have := (x 0).isLt; change (x 0).val < 1 at this; show (x 0).val = 0; omega)
  · rfl
  · rfl

/-- A piece of the queries' columns at a row and a lane of the head it starts. -/
theorem query_piece (n : FVec Ideal S512x2048 .bf16) (w : Vec Ideal S1x2048x2048 .bf16) (h o : ℕ) (ho : o = 256 * h) (hh : h < 8)
    (hi : ∀ a, (![0, 0, o] : Fin 3 → ℕ) a + (![1, 512, 128] : Fin 3 → ℕ) a ≤ S1x512x2048.size a)
    (P : FVec Ideal S1x512x128 .bf16)
    (hP : ∀ (a : Fin 512) (b : Fin 128), P (ix3 0 a b) = k0_pay68 (k0_pay6 n) (View.ld w (Rect.unit ![0, 0, 0] ![1, 2048, 1024] inb_S1x2048x2048_S1x2048x1024_0_0_0))
      (ix2 a ⟨128 * h + b.val, by have := b.isLt; omega⟩) * Ideal.ofBits .f32 0x3E0293EE#32)
    (x : S1x512x128.Idx) :
    P x = queries n w ((Rect.unit (s := S1x512x2048) ![0, 0, o] ![1, 512, 128] hi).emb x) := by
  have hx : (x 2).val < 128 := (x 2).isLt
  have e1 : (Rect.unit (s := S1x512x2048) ![0, 0, o] ![1, 512, 128] hi).emb x 1 = x 1 :=
    Fin.ext (by rw [Rect.emb_apply, Rect.off_unit, Rect.stride_unit, Nat.one_mul]; exact Nat.zero_add _)
  have e2 : ((Rect.unit (s := S1x512x2048) ![0, 0, o] ![1, 512, 128] hi).emb x 2).val = 256 * h + (x 2).val := by
    rw [Rect.emb_apply, Rect.off_unit, Rect.stride_unit, Nat.one_mul]
    exact congrArg (· + _) ho
  refine (congrArg P (idx_piece x)).trans ((hP _ _).trans ?_)
  unfold queries
  refine Eq.trans ?_ (query_head _ _ h (x 2).val hx ⟨128 * h + (x 2).val, by omega⟩ rfl _ e2).symm
  refine congrArg (· * _) ((k0_pay68_apply n _ (x 1) ⟨128 * h + (x 2).val, by omega⟩).trans ?_)
  unfold Gated.proj
  refine (Finset.sum_congr rfl fun i _ => congrArg₂ (· * ·) (congrArg (fun a => n (ix2 a i)) e1.symm) (congrArg w ?_))
  funext a
  fin_cases a
  · rfl
  · exact Fin.ext ((Rect.emb_apply (r := Rect.unit (s := S1x2048x2048) ![0, 0, 0] ![1, 2048, 1024] inb_S1x2048x2048_S1x2048x1024_0_0_0) _ 1).trans (by rw [Rect.off_unit, Rect.stride_unit, Nat.one_mul]; exact Nat.zero_add _))
  · exact Fin.ext ((Rect.emb_apply (r := Rect.unit (s := S1x2048x2048) ![0, 0, 0] ![1, 2048, 1024] inb_S1x2048x2048_S1x2048x1024_0_0_0) _ 2).trans (by rw [Rect.off_unit, Rect.stride_unit, Nat.one_mul]; exact Nat.zero_add _))

/-- A piece of ones and zeros at a row and a lane past the head it follows. -/
theorem ones_piece (n : FVec Ideal S512x2048 .bf16) (w : Vec Ideal S1x2048x2048 .bf16) (h o : ℕ) (ho : o = 256 * h + 128)
    (hi : ∀ a, (![0, 0, o] : Fin 3 → ℕ) a + (![1, 512, 128] : Fin 3 → ℕ) a ≤ S1x512x2048.size a)
    (P : FVec Ideal S1x512x128 .bf16) (hP : ∀ (a : Fin 512) (b : Fin 128), P (ix3 0 a b) = (k0_pay27 : FVec Ideal S512x128 .bf16) (ix2 a b))
    (x : S1x512x128.Idx) :
    P x = queries n w ((Rect.unit (s := S1x512x2048) ![0, 0, o] ![1, 512, 128] hi).emb x) := by
  have hx : (x 2).val < 128 := (x 2).isLt
  have e2 : ((Rect.unit (s := S1x512x2048) ![0, 0, o] ![1, 512, 128] hi).emb x 2).val = 256 * h + 128 + (x 2).val := by
    rw [Rect.emb_apply, Rect.off_unit, Rect.stride_unit, Nat.one_mul]
    exact congrArg (· + _) ho
  exact (congrArg P (idx_piece x)).trans ((hP _ _).trans ((k0_pay27_apply _ _).trans (query_ones _ _ h (x 2).val hx _ e2).symm))

theorem k0_pay78_apply (v : FVec Ideal S512x1024 .f32) (a : Fin 512) (b : Fin 128) :
    k0_pay78 v (ix3 0 a b) = v (ix2 a ⟨128 * 2 + b.val, by have := b.isLt; omega⟩) * Ideal.ofBits .f32 0x3E0293EE#32 := by
  unfold k0_pay78 k0_pay77
  pointwise

theorem k0_pay83_apply (v : FVec Ideal S512x1024 .f32) (a : Fin 512) (b : Fin 128) :
    k0_pay83 v (ix3 0 a b) = v (ix2 a ⟨128 * 3 + b.val, by have := b.isLt; omega⟩) * Ideal.ofBits .f32 0x3E0293EE#32 := by
  unfold k0_pay83 k0_pay82
  pointwise

theorem k0_pay91_apply (v : FVec Ideal S512x1024 .f32) (a : Fin 512) (b : Fin 128) :
    k0_pay91 v (ix3 0 a b) = v (ix2 a ⟨128 * 5 + b.val, by have := b.isLt; omega⟩) * Ideal.ofBits .f32 0x3E0293EE#32 := by
  unfold k0_pay91 k0_pay90
  pointwise

theorem k0_pay96_apply (v : FVec Ideal S512x1024 .f32) (a : Fin 512) (b : Fin 128) :
    k0_pay96 v (ix3 0 a b) = v (ix2 a ⟨128 * 6 + b.val, by have := b.isLt; omega⟩) * Ideal.ofBits .f32 0x3E0293EE#32 := by
  unfold k0_pay96 k0_pay95
  pointwise

theorem k0_pay100_apply (v : FVec Ideal S512x1024 .f32) (a : Fin 512) (b : Fin 128) :
    k0_pay100 v (ix3 0 a b) = v (ix2 a ⟨128 * 7 + b.val, by have := b.isLt; omega⟩) * Ideal.ofBits .f32 0x3E0293EE#32 := by
  unfold k0_pay100 k0_pay99
  pointwise

theorem k0_pay70_apply (v : FVec Ideal S512x2048 .bf16) (w : Vec Ideal S1x2048x1024 .bf16) (a : Fin 512) (b : Fin 128) :
    k0_pay70 v w (ix3 0 a b) = k0_pay68 v w (ix2 a ⟨128 * 0 + b.val, by have := b.isLt; omega⟩) * Ideal.ofBits .f32 0x3E0293EE#32 := by
  unfold k0_pay70 k0_pay69
  generalize k0_pay68 v w = z
  pointwise

theorem k0_pay74_apply (v : FVec Ideal S512x2048 .bf16) (w : Vec Ideal S1x2048x1024 .bf16) (a : Fin 512) (b : Fin 128) :
    k0_pay74 (k0_pay73 v w) (ix3 0 a b) = k0_pay68 v w (ix2 a ⟨128 * 1 + b.val, by have := b.isLt; omega⟩) * Ideal.ofBits .f32 0x3E0293EE#32 := by
  unfold k0_pay74 k0_pay73
  generalize k0_pay68 v w = z
  pointwise

theorem k0_pay87_apply (v : FVec Ideal S512x1024 .f32) (a : Fin 512) (b : Fin 128) :
    k0_pay87 (k0_pay86 v) (ix3 0 a b) = v (ix2 a ⟨128 * 4 + b.val, by have := b.isLt; omega⟩) * Ideal.ofBits .f32 0x3E0293EE#32 := by
  unfold k0_pay87 k0_pay86
  pointwise

theorem k0_pay1_apply (v : FVec Ideal S512x128 .bf16) (a : Fin 512) (b : Fin 128) : k0_pay1 v (ix3 0 a b) = v (ix2 a b) := by
  unfold k0_pay1
  pointwise

theorem k0_pay71_apply (v : FVec Ideal S512x128 .bf16) (a : Fin 512) (b : Fin 128) : k0_pay71 v (ix3 0 a b) = v (ix2 a b) := by
  unfold k0_pay71
  pointwise

theorem k0_pay75_apply (v : FVec Ideal S512x128 .bf16) (a : Fin 512) (b : Fin 128) : k0_pay75 v (ix3 0 a b) = v (ix2 a b) := by
  unfold k0_pay75
  pointwise

theorem k0_pay79_apply (v : FVec Ideal S512x128 .bf16) (a : Fin 512) (b : Fin 128) : k0_pay79 v (ix3 0 a b) = v (ix2 a b) := by
  unfold k0_pay79
  pointwise

theorem k0_pay84_apply (v : FVec Ideal S512x128 .bf16) (a : Fin 512) (b : Fin 128) : k0_pay84 v (ix3 0 a b) = v (ix2 a b) := by
  unfold k0_pay84
  pointwise

theorem k0_pay88_apply (v : FVec Ideal S512x128 .bf16) (a : Fin 512) (b : Fin 128) : k0_pay88 v (ix3 0 a b) = v (ix2 a b) := by
  unfold k0_pay88
  pointwise

theorem k0_pay92_apply (v : FVec Ideal S512x128 .bf16) (a : Fin 512) (b : Fin 128) : k0_pay92 v (ix3 0 a b) = v (ix2 a b) := by
  unfold k0_pay92
  pointwise

theorem k0_pay97_apply (v : FVec Ideal S512x128 .bf16) (a : Fin 512) (b : Fin 128) : k0_pay97 v (ix3 0 a b) = v (ix2 a b) := by
  unfold k0_pay97
  pointwise

end Cert.Kernel4Ideal
-- ==== Proof.ProjOut.lean ====
/- What each point of the fourth call leaves in its three result blocks: the rows' projections of the blocks it read. -/
module

public import proofs.«01_k».proof.Proof.Proj

@[expose] public section

set_option maxRecDepth 100000
set_option maxHeartbeats 1000000

noncomputable section

namespace Cert.Kernel4Ideal

open Cert.Kernel4Ideal.Gen Idealize.ShloMosaic Idealize.ShloMosaic.TcCoe Idealize.ShloMosaic.Tactic

theorem off_zero2 : (![0, 0] : Fin 2 → Nat) = fun _ => 0 := funext fun a => by fin_cases a <;> rfl
theorem off_zero3 : (![0, 0, 0] : Fin 3 → Nat) = fun _ => 0 := funext fun a => by fin_cases a <;> rfl

/-- The rows' norms over a block: the payload of either store. -/
theorem k0_pay4_eq (x : Vec Ideal S512x2048 .f32) (g : Vec Ideal S1x2048 .f32) : k0_pay4 x g = k0_pay5 x g := rfl

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048x2048 .bf16) (harg5 : arg5.IsWhole) (arg6 : Memref sig .tc .vmem S1x2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x1024x512 .bf16) (harg11 : arg11.IsWhole) (arg12 : Memref sig .tc .vmem S1x1x4x16x128 .f32) (harg12 : arg12.IsWhole) (arg13 : Memref sig .tc .vmem S512x2048 .bf16) (harg13 : arg13.IsWhole) (arg14 : Memref sig .tc .vmem S16x128 .f32) (harg14 : arg14.IsWhole) (arg15 : Memref sig .tc .vmem S1040x2048 .bf16) (harg15 : arg15.IsWhole)
variable (x0 x1 : Vec Ideal S512x2048 .f32) (x2 : Vec Ideal S1x2048 .f32) (x3 : Vec Ideal S1x2048x2048 .bf16) (x4 : Vec Ideal S1x2048x1024 .bf16) (x5 : Vec Ideal S16x2048 .bf16) (x6 : Vec Ideal S16x1 .f32) (xs0 : Vec Ideal S16x128 .f32) (xs1 : Vec Ideal S1040x2048 .bf16)

theorem outA_11 (hc0 : cond0_0 i) (hc1 : ¬cond0_1 i) (hc2 : cond0_2 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 = k0_pay5 x1 x2 := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6)]
  unfold kernelRun0_A
  dsimp only
  sl_unfold_words
  rw [View.canon_unit_zero off_zero2]
  simp only [View.readAt_eq_ld, harg2.read_unread, harg3.read_unread, harg4.read_unread, harg5.read_unread, harg6.read_unread, harg7.read_unread, harg15.read_unread, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2]
  rfl

theorem outA_7 (hc0 : cond0_0 i) (hc1 : ¬cond0_1 i) (hc2 : cond0_2 i) : out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 = queries (k0_pay5 x1 x2) x3 := by
  funext y
  unfold out0_A_7
  refine View.read_writes_apply_of_pieces _ _ (queries (k0_pay5 x1 x2) x3) _ ?_ y (cover0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2, k0_pay4_eq]
  simp only [List.forall_mem_cons]
  refine ⟨ones_piece _ x3 7 1920 rfl _ _ fun a b => k0_pay1_apply _ a b, query_piece _ x3 7 1792 rfl (by omega) _ _ fun a b => k0_pay100_apply _ a b,
    ones_piece _ x3 6 1664 rfl _ _ fun a b => k0_pay97_apply _ a b, query_piece _ x3 6 1536 rfl (by omega) _ _ fun a b => k0_pay96_apply _ a b,
    ones_piece _ x3 5 1408 rfl _ _ fun a b => k0_pay92_apply _ a b, query_piece _ x3 5 1280 rfl (by omega) _ _ fun a b => k0_pay91_apply _ a b,
    ones_piece _ x3 4 1152 rfl _ _ fun a b => k0_pay88_apply _ a b, query_piece _ x3 4 1024 rfl (by omega) _ _ fun a b => k0_pay87_apply _ a b,
    ones_piece _ x3 3 896 rfl _ _ fun a b => k0_pay84_apply _ a b, query_piece _ x3 3 768 rfl (by omega) _ _ fun a b => k0_pay83_apply _ a b,
    ones_piece _ x3 2 640 rfl _ _ fun a b => k0_pay79_apply _ a b, query_piece _ x3 2 512 rfl (by omega) _ _ fun a b => k0_pay78_apply _ a b,
    ones_piece _ x3 1 384 rfl _ _ fun a b => k0_pay75_apply _ a b, query_piece _ x3 1 256 rfl (by omega) _ _ fun a b => k0_pay74_apply _ _ a b,
    ones_piece _ x3 0 128 rfl _ _ fun a b => k0_pay71_apply _ a b, query_piece _ x3 0 0 rfl (by omega) _ _ fun a b => k0_pay70_apply _ _ a b,
    fun p hp => absurd hp List.not_mem_nil⟩

theorem outB_11 (hc0 : ¬cond0_0 i) (hc1 : cond0_1 i) (hc2 : ¬cond0_2 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 = k0_pay5 x0 x2 := by
  unfold out0_B_11
  rw [View.read_writes_eq_canon _ _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1)]
  unfold kernelRun0_B
  dsimp only
  sl_unfold_words
  rw [View.canon_unit_zero off_zero2]
  simp only [View.readAt_eq_ld, harg2.read_unread, harg3.read_unread, harg4.read_unread, harg5.read_unread, harg6.read_unread, harg7.read_unread, harg15.read_unread, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2]

theorem outB_9 (hc0 : ¬cond0_0 i) (hc1 : cond0_1 i) (hc2 : ¬cond0_2 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 = k0_pay10 (k0_pay5 x0 x2) xs1 := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1)]
  unfold kernelRun0_B
  dsimp only
  sl_unfold_words
  rw [View.canon_unit_zero off_zero3]
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2]

theorem outB_7 (hc0 : ¬cond0_0 i) (hc1 : cond0_1 i) (hc2 : ¬cond0_2 i) : out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 = queries (k0_pay5 x0 x2) x3 := by
  funext y
  unfold out0_B_7
  refine View.read_writes_apply_of_pieces _ _ (queries (k0_pay5 x0 x2) x3) _ ?_ y (cover0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 y)
  unfold kernelRun0_B
  dsimp only
  sl_unfold_words
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2]
  simp only [List.forall_mem_cons]
  refine ⟨ones_piece _ x3 7 1920 rfl _ _ fun a b => k0_pay1_apply _ a b, query_piece _ x3 7 1792 rfl (by omega) _ _ fun a b => k0_pay100_apply _ a b,
    ones_piece _ x3 6 1664 rfl _ _ fun a b => k0_pay97_apply _ a b, query_piece _ x3 6 1536 rfl (by omega) _ _ fun a b => k0_pay96_apply _ a b,
    ones_piece _ x3 5 1408 rfl _ _ fun a b => k0_pay92_apply _ a b, query_piece _ x3 5 1280 rfl (by omega) _ _ fun a b => k0_pay91_apply _ a b,
    ones_piece _ x3 4 1152 rfl _ _ fun a b => k0_pay88_apply _ a b, query_piece _ x3 4 1024 rfl (by omega) _ _ fun a b => k0_pay87_apply _ a b,
    ones_piece _ x3 3 896 rfl _ _ fun a b => k0_pay84_apply _ a b, query_piece _ x3 3 768 rfl (by omega) _ _ fun a b => k0_pay83_apply _ a b,
    ones_piece _ x3 2 640 rfl _ _ fun a b => k0_pay79_apply _ a b, query_piece _ x3 2 512 rfl (by omega) _ _ fun a b => k0_pay78_apply _ a b,
    ones_piece _ x3 1 384 rfl _ _ fun a b => k0_pay75_apply _ a b, query_piece _ x3 1 256 rfl (by omega) _ _ fun a b => k0_pay74_apply _ _ a b,
    ones_piece _ x3 0 128 rfl _ _ fun a b => k0_pay71_apply _ a b, query_piece _ x3 0 0 rfl (by omega) _ _ fun a b => k0_pay70_apply _ _ a b,
    fun p hp => absurd hp List.not_mem_nil⟩

theorem outC_11 (hc0 : cond0_0 i) (hc1 : ¬cond0_1 i) (hc2 : ¬cond0_2 i) : out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1 = k0_pay5 x1 x2 := by
  unfold out0_C_11
  rw [View.read_writes_eq_canon _ _ _ (cover0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1)]
  unfold kernelRun0_C
  dsimp only
  sl_unfold_words
  rw [View.canon_unit_zero off_zero2]
  simp only [View.readAt_eq_ld, harg2.read_unread, harg3.read_unread, harg4.read_unread, harg5.read_unread, harg6.read_unread, harg7.read_unread, harg15.read_unread, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2]
  rfl

theorem outC_9 (hc0 : cond0_0 i) (hc1 : ¬cond0_1 i) (hc2 : ¬cond0_2 i) : out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1 = k0_pay10 (k0_pay5 x1 x2) xs1 := by
  unfold out0_C_9
  rw [View.read_writes_eq_canon _ _ _ (cover0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1)]
  unfold kernelRun0_C
  dsimp only
  sl_unfold_words
  rw [View.canon_unit_zero off_zero3]
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2]
  rfl

theorem outC_7 (hc0 : cond0_0 i) (hc1 : ¬cond0_1 i) (hc2 : ¬cond0_2 i) : out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1 = queries (k0_pay5 x1 x2) x3 := by
  funext y
  unfold out0_C_7
  refine View.read_writes_apply_of_pieces _ _ (queries (k0_pay5 x1 x2) x3) _ ?_ y (cover0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1 y)
  unfold kernelRun0_C
  dsimp only
  sl_unfold_words
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2, k0_pay4_eq]
  simp only [List.forall_mem_cons]
  refine ⟨ones_piece _ x3 7 1920 rfl _ _ fun a b => k0_pay1_apply _ a b, query_piece _ x3 7 1792 rfl (by omega) _ _ fun a b => k0_pay100_apply _ a b,
    ones_piece _ x3 6 1664 rfl _ _ fun a b => k0_pay97_apply _ a b, query_piece _ x3 6 1536 rfl (by omega) _ _ fun a b => k0_pay96_apply _ a b,
    ones_piece _ x3 5 1408 rfl _ _ fun a b => k0_pay92_apply _ a b, query_piece _ x3 5 1280 rfl (by omega) _ _ fun a b => k0_pay91_apply _ a b,
    ones_piece _ x3 4 1152 rfl _ _ fun a b => k0_pay88_apply _ a b, query_piece _ x3 4 1024 rfl (by omega) _ _ fun a b => k0_pay87_apply _ a b,
    ones_piece _ x3 3 896 rfl _ _ fun a b => k0_pay84_apply _ a b, query_piece _ x3 3 768 rfl (by omega) _ _ fun a b => k0_pay83_apply _ a b,
    ones_piece _ x3 2 640 rfl _ _ fun a b => k0_pay79_apply _ a b, query_piece _ x3 2 512 rfl (by omega) _ _ fun a b => k0_pay78_apply _ a b,
    ones_piece _ x3 1 384 rfl _ _ fun a b => k0_pay75_apply _ a b, query_piece _ x3 1 256 rfl (by omega) _ _ fun a b => k0_pay74_apply _ _ a b,
    ones_piece _ x3 0 128 rfl _ _ fun a b => k0_pay71_apply _ a b, query_piece _ x3 0 0 rfl (by omega) _ _ fun a b => k0_pay70_apply _ _ a b,
    fun p hp => absurd hp List.not_mem_nil⟩

end Cert.Kernel4Ideal
-- ==== Proof.ProjTable.lean ====
/- The values' matrix the fourth call keeps: turned at the first point, and the same at every later one. -/
module

public import proofs.«01_k».proof.Proof.ProjOut

@[expose] public section

set_option maxRecDepth 100000
set_option maxHeartbeats 1000000

noncomputable section

namespace Cert.Kernel4Ideal

open Cert.Kernel4Ideal.Gen Idealize.ShloMosaic Idealize.ShloMosaic.TcCoe Idealize.ShloMosaic.Tactic

/-- The values' columns turned, and the forgets' rows under them. -/
def valueRows (x4 : Vec Ideal S1x2048x1024 .bf16) (x5 : Vec Ideal S16x2048 .bf16) : Vec Ideal S1040x2048 .bf16 :=
  fun y => if h : (y 0).val < 1024 then x4 (ix3 0 (y 1) ⟨(y 0).val, h⟩)
    else x5 (ix2 ⟨(y 0).val - 1024, by have := (y 0).isLt; change (y 0).val < 1040 at this; omega⟩ (y 1))

theorem k0_pay7_apply (x4 : Vec Ideal S1x2048x1024 .bf16) (k : Fin 1024) (i : Fin 2048) : k0_pay7 x4 (ix2 k i) = x4 (ix3 0 i k) := by
  unfold k0_pay7
  pointwise

theorem k0_pay8_apply (x5 : Vec Ideal S16x2048 .bf16) (k : Fin 16) (i : Fin 2048) : k0_pay8 x5 (ix2 k i) = x5 (ix2 k i) := by
  unfold k0_pay8
  pointwise

theorem top_piece (x4 : Vec Ideal S1x2048x1024 .bf16) (x5 : Vec Ideal S16x2048 .bf16)
    (hi : ∀ a, (![0, 0] : Fin 2 → ℕ) a + (![1024, 2048] : Fin 2 → ℕ) a ≤ S1040x2048.size a) (x : S1024x2048.Idx) :
    k0_pay7 x4 x = valueRows x4 x5 ((Rect.unit (s := S1040x2048) ![0, 0] ![1024, 2048] hi).emb x) := by
  have hx : (x 0).val < 1024 := (x 0).isLt
  have e0 : ((Rect.unit (s := S1040x2048) ![0, 0] ![1024, 2048] hi).emb x 0).val = (x 0).val := by
    rw [Rect.emb_apply, Rect.off_unit, Rect.stride_unit, Nat.one_mul]; exact Nat.zero_add _
  have e1 : (Rect.unit (s := S1040x2048) ![0, 0] ![1024, 2048] hi).emb x 1 = x 1 :=
    Fin.ext (by rw [Rect.emb_apply, Rect.off_unit, Rect.stride_unit, Nat.one_mul]; exact Nat.zero_add _)
  have ex : x = ix2 (x 0) (x 1) := by funext a; fin_cases a <;> rfl
  refine (congrArg (k0_pay7 x4) ex).trans ((k0_pay7_apply x4 (x 0) (x 1)).trans ?_)
  refine Eq.symm ((dif_pos (show ((Rect.unit (s := S1040x2048) ![0, 0] ![1024, 2048] hi).emb x 0).val < 1024 by omega)).trans ?_)
  refine congrArg x4 ?_
  funext a
  fin_cases a
  · rfl
  · exact e1
  · exact Fin.ext e0

theorem low_piece (x4 : Vec Ideal S1x2048x1024 .bf16) (x5 : Vec Ideal S16x2048 .bf16)
    (hi : ∀ a, (![1024, 0] : Fin 2 → ℕ) a + (![16, 2048] : Fin 2 → ℕ) a ≤ S1040x2048.size a) (x : S16x2048.Idx) :
    k0_pay8 x5 x = valueRows x4 x5 ((Rect.unit (s := S1040x2048) ![1024, 0] ![16, 2048] hi).emb x) := by
  have e0 : ((Rect.unit (s := S1040x2048) ![1024, 0] ![16, 2048] hi).emb x 0).val = 1024 + (x 0).val := by
    rw [Rect.emb_apply, Rect.off_unit, Rect.stride_unit, Nat.one_mul]; rfl
  have e1 : (Rect.unit (s := S1040x2048) ![1024, 0] ![16, 2048] hi).emb x 1 = x 1 :=
    Fin.ext (by rw [Rect.emb_apply, Rect.off_unit, Rect.stride_unit, Nat.one_mul]; exact Nat.zero_add _)
  have ex : x = ix2 (x 0) (x 1) := by funext a; fin_cases a <;> rfl
  refine (congrArg (k0_pay8 x5) ex).trans ((k0_pay8_apply x5 (x 0) (x 1)).trans ?_)
  refine Eq.symm ((dif_neg (show ¬((Rect.unit (s := S1040x2048) ![1024, 0] ![16, 2048] hi).emb x 0).val < 1024 by omega)).trans ?_)
  refine congrArg x5 ?_
  funext a
  fin_cases a
  · exact Fin.ext (by show ((Rect.unit (s := S1040x2048) ![1024, 0] ![16, 2048] hi).emb x 0).val - 1024 = (x 0).val; omega)
  · exact e1

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048x2048 .bf16) (harg5 : arg5.IsWhole) (arg6 : Memref sig .tc .vmem S1x2048x1024 .bf16) (harg6 : arg6.IsWhole) (arg7 : Memref sig .tc .vmem S16x2048 .bf16) (harg7 : arg7.IsWhole) (arg8 : Memref sig .tc .vmem S16x1 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x1024x512 .bf16) (harg11 : arg11.IsWhole) (arg12 : Memref sig .tc .vmem S1x1x4x16x128 .f32) (harg12 : arg12.IsWhole) (arg13 : Memref sig .tc .vmem S512x2048 .bf16) (harg13 : arg13.IsWhole) (arg14 : Memref sig .tc .vmem S16x128 .f32) (harg14 : arg14.IsWhole) (arg15 : Memref sig .tc .vmem S1040x2048 .bf16) (harg15 : arg15.IsWhole)
variable (x0 x1 : Vec Ideal S512x2048 .f32) (x2 : Vec Ideal S1x2048 .f32) (x3 : Vec Ideal S1x2048x2048 .bf16) (x4 : Vec Ideal S1x2048x1024 .bf16) (x5 : Vec Ideal S16x2048 .bf16) (x6 : Vec Ideal S16x1 .f32) (xs0 : Vec Ideal S16x128 .f32) (xs1 : Vec Ideal S1040x2048 .bf16)

theorem outA_9 (hc0 : cond0_0 i) (hc1 : ¬cond0_1 i) (hc2 : cond0_2 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 = k0_pay10 (k0_pay5 x1 x2) (sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6) := by
  unfold out0_A_9 sout0_A_1
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6)]
  unfold kernelRun0_A
  dsimp only
  sl_unfold_words
  rw [View.canon_unit_zero off_zero3]
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2, k0_pay4_eq]
  refine congrArg (k0_pay10 (k0_pay5 x1 x2)) ?_
  rw [View.readCov_eq_canon', View.read_writes_junk_eq_canon]
  exact View.ld_unit_zero (S := S1040x2048) off_zero2 _ (View.canon _)

theorem soutB (hc0 : ¬cond0_0 i) (hc1 : cond0_1 i) (hc2 : ¬cond0_2 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 = xs1 := rfl

theorem soutC (hc0 : cond0_0 i) (hc1 : ¬cond0_1 i) (hc2 : ¬cond0_2 i) : sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs1 = xs1 := rfl

theorem soutA (hc0 : cond0_0 i) (hc1 : ¬cond0_1 i) (hc2 : cond0_2 i) (y : S1040x2048.Idx) : sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 y = valueRows x4 x5 y := by
  unfold sout0_A_1
  refine View.read_writes_apply_of_pieces _ _ (valueRows x4 x5) _ ?_ y (scover0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg15.read_unread, View.readCov_unit_zero (S := S512x2048) _ off_zero2, View.ld_unit_zero (S := S512x2048) off_zero2, View.ld_unit_zero (S := S1x2048) off_zero2, View.ld_unit_zero (S := S1040x2048) off_zero2, View.ld_unit_zero (S := S1x2048x1024) off_zero3, View.ld_unit_zero (S := S16x2048) off_zero2, k0_pay4_eq]
  simp only [List.forall_mem_cons]
  exact ⟨low_piece x4 x5 _, top_piece x4 x5 _, fun p hp => absurd hp List.not_mem_nil⟩

end Cert.Kernel4Ideal
-- ==== Proof.ProjKept.lean ====
/- The values' matrix at every point of the fourth call: what the first point left. -/
module

public import proofs.«01_k».proof.Proof.ProjTable

@[expose] public section

set_option maxRecDepth 100000
set_option maxHeartbeats 1000000

noncomputable section

namespace Cert.Kernel4Ideal

open Cert.Kernel4Ideal.Gen Idealize.ShloMosaic Idealize.ShloMosaic.TcCoe Idealize.ShloMosaic.Tactic

variable (m : (ℓ : Loc nD τ sig) → Buf (Elt Ideal) ℓ) (c : Dev nD)

theorem table_A (t : Fin cfg0.N) (h0 : t.val % 33 = 0) (h1 : ¬1 ≤ t.val % 33) (h2 : t.val % 66 = 0) :
    (outsAt0 m c t.val t.isLt).2.2.2.2.2.2 = valueRows (X0_4 m c t) (iblk m c 5 t) := by
  simp only [outsAt0_A m c t h0 h1 h2]
  funext y
  apply soutA

theorem table_B (t : Fin cfg0.N) (h0 : ¬t.val % 33 = 0) (h1 : 1 ≤ t.val % 33) (h2 : ¬t.val % 66 = 0) :
    (outsAt0 m c t.val t.isLt).2.2.2.2.2.2 = (outsAt0 m c (t.val - 1) (Nat.lt_of_le_of_lt (Nat.sub_le _ _) t.isLt)).2.2.2.2.2.2 := by
  rw [outsAt0_B m c t h0 h1 h2]
  rfl

theorem table_C (t : Fin cfg0.N) (h0 : t.val % 33 = 0) (h1 : ¬1 ≤ t.val % 33) (h2 : ¬t.val % 66 = 0) :
    (outsAt0 m c t.val t.isLt).2.2.2.2.2.2 = (outsAt0 m c (t.val - 1) (Nat.lt_of_le_of_lt (Nat.sub_le _ _) t.isLt)).2.2.2.2.2.2 := by
  rw [outsAt0_C m c t h0 h1 h2]
  rfl

theorem pos_N : 0 < cfg0.N := lt_of_lt_of_eq (by decide : 0 < 66) N_0.symm

/-- What every point leaves in the kept matrix. -/
theorem table (n : ℕ) : ∀ hn : n < cfg0.N, (outsAt0 m c n hn).2.2.2.2.2.2 = valueRows (X0_4 m c ⟨0, pos_N⟩) (iblk m c 5 ⟨0, pos_N⟩) := by
  induction n with
  | zero => exact fun hn => table_A m c ⟨0, pos_N⟩ rfl (show ¬1 ≤ 0 % 33 by decide) rfl
  | succ n ih =>
    intro hn
    have hN : n + 1 < 66 := lt_of_lt_of_eq hn (show cfg0.N = 66 from N_0)
    refine Eq.trans ?_ (ih (Nat.lt_of_succ_lt hn))
    by_cases h0 : (n + 1) % 33 = 0
    · exact table_C m c ⟨n + 1, hn⟩ h0 (show ¬1 ≤ (n + 1) % 33 by omega) (show ¬(n + 1) % 66 = 0 by omega)
    · exact table_B m c ⟨n + 1, hn⟩ h0 (show 1 ≤ (n + 1) % 33 by omega) (show ¬(n + 1) % 66 = 0 by omega)

end Cert.Kernel4Ideal
-- ==== Proof.ProjRefAt.lean ====
/- The fourth reference's results read entry by entry, over the extended reals: the rows' projections. -/
module

public import proofs.«01_k».proof.Proof.Gen.Reference4Ideal.Run
public import proofs.«01_k».proof.Proof.Proj

@[expose] public section

set_option synthInstance.maxSize 4096
set_option maxRecDepth 100000

noncomputable section

namespace Cert.Reference4Ideal

open Cert.Reference4Ideal.Gen Idealize.ShloMosaic Idealize.ShloMosaic.TcCoe

/-! ## The reference in stages -/

/-- The rows of the two streams. -/
def both (A0 : FVec Ideal S32768x2048 .f32) (A1 : FVec Ideal S1024x2048 .f32) : FVec Ideal S33792x2048 .f32 :=
  concatenate S33792x2048 0 [⟨S32768x2048, A0⟩, ⟨S1024x2048, A1⟩] concatenates_S32768x2048_S1024x2048_S33792x2048_d0

/-- Rows over their root mean squares, scaled. -/
def normed (X : FVec Ideal S33792x2048 .f32) (A : FVec Ideal S1x2048 .f32) : FVec Ideal S33792x2048 .f32 :=
  mulf (mulf X (broadcastInDim S33792x2048 ![0, 1] bcast_S33792x1_S33792x2048_0_1 (Host.rsqrt (addf (Host.divf (broadcastInDim S33792x1 ![0]
    bcast_S33792_S33792x1_0 (Host.reduceAdd (mulf X X) (constant S_ .f32 0x00000000#32) reducesTo_S33792x2048_S33792_d1 h_S_)) (broadcastInDim S33792x1 ![]
    bcast_S_S33792x1 (constant S_ .f32 0x45000000#32))) (broadcastInDim S33792x1 ![] bcast_S_S33792x1 (constant S_ .f32 0x358637BD#32))))))
    (broadcastInDim S33792x2048 ![0, 1] bcast_S1x2048_S33792x2048_0_1 A)

/-- Rows in the order of the sequences. -/
def inOrder (N : FVec Ideal S33792x2048 .f32) : FVec Ideal S2x16896x2048 .f32 :=
  concatenate S2x16896x2048 1 [⟨S2x512x2048, (shapeCast _ (extractStridedSlice S1024x2048 ![32768, 0] N slices_S33792x2048_S1024x2048_32768_0)
    shapeCasts_S1024x2048_S2x512x2048)⟩, ⟨S2x16384x2048, (shapeCast _ (extractStridedSlice S32768x2048 ![0, 0] N
    slices_S33792x2048_S32768x2048_0_0) shapeCasts_S32768x2048_S2x16384x2048)⟩] concatenates_S2x512x2048_S2x16384x2048_S2x16896x2048_d1

/-- The first layer's matrix. -/
def mat (A : FVec Ideal S2x2048x6152 .bf16) : FVec Ideal S2048x6152 .f32 :=
  extf .f32 (shapeCast _ (extractStridedSlice S1x2048x6152 ![0, 0, 0] A slices_S2x2048x6152_S1x2048x6152_0_0_0) shapeCasts_S1x2048x6152_S2048x6152) bitsLt_bf16_f32

/-- The queries, scaled. -/
def scaled (S : FVec Ideal S2x16896x2048 .f32) (M : FVec Ideal S2048x6152 .f32) : FVec Ideal S2x16896x1024 .f32 :=
  mulf (Host.dotGeneral dot_S2x16896x2048_S2048x1024_S2x16896x1024_2_0_01_1_n_n none S (extractStridedSlice S2048x1024 ![0, 0] M
    slices_S2048x6152_S2048x1024_0_0)) (broadcastInDim S2x16896x1024 ![] bcast_S_S2x16896x1024 (constant S_ .f32 0x3E0293EE#32))

/-- The ones after each head. -/
def marks : FVec Ideal S2x16896x8x128 .f32 :=
  broadcastInDim S2x16896x8x128 ![3] bcast_S128_S2x16896x8x128_3 (uitofp .f32 (cmpi .slt (iotaInDim S128 32 0) (broadcastInDim S128 ![] bcast_S_S128 (constantI S_ 32 3#32))))

/-- The queries with the ones. -/
def wideQ (Q : FVec Ideal S2x16896x1024 .f32) : FVec Ideal S2x16896x2048 .bf16 :=
  truncf .bf16 (shapeCast _ (concatenate S2x16896x8x256 3 [⟨S2x16896x8x128, (shapeCast _ Q shapeCasts_S2x16896x1024_S2x16896x8x128)⟩, ⟨S2x16896x8x128, marks⟩]
    concatenates_S2x16896x8x128_S2x16896x8x128_S2x16896x8x256_d3) shapeCasts_S2x16896x8x256_S2x16896x2048) bitsLt_bf16_f32

/-- The values, turned. -/
def turned (S : FVec Ideal S2x16896x2048 .f32) (M : FVec Ideal S2048x6152 .f32) : FVec Ideal S2x1024x16896 .bf16 :=
  truncf .bf16 (transpose S2x1024x16896 [0, 2, 1] (Host.dotGeneral dot_S2x16896x2048_S2048x1024_S2x16896x1024_2_0_01_1_n_n none S
    (extractStridedSlice S2048x1024 ![0, 2048] M slices_S2048x6152_S2048x1024_0_2048)) transposes_S2x16896x1024_S2x1024x16896_0_2_1) bitsLt_bf16_f32

/-- The three results by the stages. -/
def qOf (A0 : FVec Ideal S32768x2048 .f32) (A1 : FVec Ideal S1024x2048 .f32) (A2 : FVec Ideal S1x2048 .f32) (A3 : FVec Ideal S2x2048x6152 .bf16) :
    FVec Ideal S2x16896x2048 .bf16 := wideQ (scaled (inOrder (normed (both A0 A1) A2)) (mat A3))

def vOf (A0 : FVec Ideal S32768x2048 .f32) (A1 : FVec Ideal S1024x2048 .f32) (A2 : FVec Ideal S1x2048 .f32) (A3 : FVec Ideal S2x2048x6152 .bf16) :
    FVec Ideal S2x1024x16896 .bf16 := turned (inOrder (normed (both A0 A1) A2)) (mat A3)

def nOf (A0 : FVec Ideal S32768x2048 .f32) (A1 : FVec Ideal S1024x2048 .f32) (A2 : FVec Ideal S1x2048 .f32) :
    FVec Ideal S33792x2048 .bf16 := truncf .bf16 (normed (both A0 A1) A2) bitsLt_bf16_f32

/-! ## The stages at an index -/

/-- A sequence's row among the rows of the two streams. -/
def rowAt (b : Fin 2) (s : Fin 16896) : Fin 33792 :=
  if h : s.val < 512 then ⟨32768 + (512 * b.val + s.val), by have := b.isLt; omega⟩ else ⟨16384 * b.val + (s.val - 512), by have := b.isLt; have := s.isLt; omega⟩

variable (q : Fin 33792) (j : Fin 2048) (b : Fin 2) (s : Fin 16896) (k : Fin 1024)

theorem normed_apply (X : FVec Ideal S33792x2048 .f32) (A : FVec Ideal S1x2048 .f32) :
    normed X A (ix2 q j) = Gated.nrm (fun i => X (ix2 q i)) (fun i => A (ix2 0 i)) j := by
  unfold normed Gated.nrm
  pointwise

theorem inOrder_apply (N : FVec Ideal S33792x2048 .f32) : inOrder N (ix3 b s j) = N (ix2 (rowAt b s) j) := by
  have h : inOrder N (ix3 b s j) = if h : s.val < 512 then N (ix2 ⟨32768 + (b.val * 512 + s.val), by have := b.isLt; omega⟩ j)
      else N (ix2 ⟨b.val * 16384 + (s.val - 512), by have := b.isLt; have := s.isLt; omega⟩ j) := by
    unfold inOrder
    pointwise
  rw [h]
  unfold rowAt
  by_cases hs : s.val < 512
  · rw [dif_pos hs, dif_pos hs]
    exact congrArg (fun a => N (ix2 a j)) (Fin.ext (by show 32768 + (b.val * 512 + s.val) = 32768 + (512 * b.val + s.val); omega))
  · rw [dif_neg hs, dif_neg hs]
    exact congrArg (fun a => N (ix2 a j)) (Fin.ext (by show b.val * 16384 + (s.val - 512) = 16384 * b.val + (s.val - 512); omega))

theorem scaled_apply (S : FVec Ideal S2x16896x2048 .f32) (M : FVec Ideal S2048x6152 .f32) :
    scaled S M (ix3 b s k) = (∑ i, S (ix3 b s i) * M (ix2 i ⟨k.val, by have := k.isLt; omega⟩)) * Ideal.ofBits .f32 0x3E0293EE#32 := by
  unfold scaled
  pointwise

theorem mat_apply (A : FVec Ideal S2x2048x6152 .bf16) (i : Fin 2048) (k : Fin 6152) : mat A (ix2 i k) = A (ix3 0 i k) := by
  unfold mat
  pointwise

theorem turned_apply (S : FVec Ideal S2x16896x2048 .f32) (M : FVec Ideal S2048x6152 .f32) :
    turned S M (ix3 b k s) = ∑ i, S (ix3 b s i) * M (ix2 i ⟨2048 + k.val, by have := k.isLt; omega⟩) := by
  unfold turned
  pointwise

theorem marks_apply (h : Fin 8) (l : Fin 128) : marks (ix4 b s h l) = if l.val < 3 then (1 : EReal) else 0 := by
  have e : marks (ix4 b s h l) = FloatOps.uitofp (F := Ideal) .f32 (IntOp.cmpi .slt (BitVec.ofNat 32 l.val) 3#32) := by
    unfold marks
    pointwise
  rw [e]
  by_cases h3 : l.val < 3
  · rw [if_pos h3, (Kernel4Ideal.slt_three l).mpr h3]
    show (((1#1 : BitVec 1).toNat : ℝ) : EReal) = 1
    norm_num
  · rw [if_neg h3]
    have e0 : IntOp.cmpi .slt (BitVec.ofNat 32 l.val) 3#32 = 0#1 := by
      have hne : ¬IntOp.cmpi .slt (BitVec.ofNat 32 l.val) 3#32 = 1#1 := fun hc => h3 ((Kernel4Ideal.slt_three l).mp hc)
      revert hne
      generalize IntOp.cmpi .slt (BitVec.ofNat 32 l.val) 3#32 = z
      revert z
      decide
    rw [e0]
    show (((0#1 : BitVec 1).toNat : ℝ) : EReal) = 0
    norm_num

theorem merge_apply (X : FVec Ideal S2x16896x8x256 .f32) : shapeCast S2x16896x2048 X shapeCasts_S2x16896x8x256_S2x16896x2048 (ix3 b s j) =
    X (ix4 b s ⟨j.val / 256, by have := j.isLt; omega⟩ ⟨j.val % 256, by omega⟩) := by
  pointwise

theorem split_apply (Q : FVec Ideal S2x16896x1024 .f32) (h : Fin 8) (l : Fin 128) : shapeCast S2x16896x8x128 Q shapeCasts_S2x16896x1024_S2x16896x8x128 (ix4 b s h l) =
    Q (ix3 b s ⟨h.val * 128 + l.val, by have := h.isLt; have := l.isLt; omega⟩) := by
  pointwise

theorem cat_apply (X Y : FVec Ideal S2x16896x8x128 .f32) (h : Fin 8) (l : Fin 256) : concatenate S2x16896x8x256 3 [⟨S2x16896x8x128, X⟩, ⟨S2x16896x8x128, Y⟩]
    concatenates_S2x16896x8x128_S2x16896x8x128_S2x16896x8x256_d3 (ix4 b s h l) =
    if h' : l.val < 128 then X (ix4 b s h ⟨l.val, h'⟩) else Y (ix4 b s h ⟨l.val - 128, by have := l.isLt; omega⟩) := by
  pointwise

/-- Rounding an array is reading it, over the extended reals. -/
theorem trunc_apply {r : Shape} (X : FVec Ideal r .f32) (x : r.Idx) : (truncf .bf16 X bitsLt_bf16_f32 : FVec Ideal r .bf16) x = X x := rfl

/-! ## The results at an index -/

variable (A0 : FVec Ideal S32768x2048 .f32) (A1 : FVec Ideal S1024x2048 .f32) (A2 : FVec Ideal S1x2048 .f32) (A3 : FVec Ideal S2x2048x6152 .bf16)

/-- A row of the two streams. -/
def rowOf : Fin 2048 → EReal := fun i => if h : q.val < 32768 then A0 (ix2 ⟨q.val, h⟩ i) else A1 (ix2 ⟨q.val - 32768, by have := q.isLt; omega⟩ i)

theorem both_apply : both A0 A1 (ix2 q j) = rowOf q A0 A1 j := by
  unfold both rowOf
  pointwise

/-- A row of the two streams over its root mean square, scaled. -/
def normRow : Fin 2048 → EReal := Gated.nrm (rowOf q A0 A1) (fun i => A2 (ix2 0 i))

theorem normed_both : normed (both A0 A1) A2 (ix2 q j) = normRow q A0 A1 A2 j :=
  (normed_apply q j _ _).trans (congrArg (fun r => Gated.nrm r (fun i => A2 (ix2 0 i)) j) (funext fun i => both_apply q i A0 A1))

theorem nOf_apply : nOf A0 A1 A2 (ix2 q j) = normRow q A0 A1 A2 j :=
  (trunc_apply _ _).trans (normed_both q j A0 A1 A2)

theorem vOf_apply : vOf A0 A1 A2 A3 (ix3 b k s) =
    Gated.proj (normRow (rowAt b s) A0 A1 A2) (fun i k => A3 (ix3 0 i ⟨2048 + k.val, by have := k.isLt; omega⟩)) k := by
  refine (turned_apply b s k _ _).trans (Finset.sum_congr rfl fun i _ => ?_)
  exact congrArg₂ (· * ·) ((inOrder_apply i b s _).trans (normed_both _ i A0 A1 A2)) (mat_apply A3 i _)

end Cert.Reference4Ideal
-- ==== Proof.ProjWhole.lean ====
/- The fourth call's result arrays as whole arrays: the rows' projections of the argument arrays. -/
module

public import proofs.«01_k».proof.Proof.ProjKept
public import Idealize.ShloMosaic.Lib.Pipeline.ValueKit.Geometry
public import proofs.«01_k».proof.Proof.ProjRefAt

@[expose] public section

set_option maxRecDepth 100000
set_option maxHeartbeats 1000000

noncomputable section

namespace Cert.Kernel4Ideal

open Cert.Kernel4Ideal.Gen Idealize.ShloMosaic Idealize.ShloMosaic.TcCoe Idealize.ShloMosaic.Tactic
open Cert.Reference4Ideal (rowOf normRow rowAt)

/-! ## Where the blocks lie -/

theorem at0 : ∀ t : Fin cfg0.N, ¬t.val % 33 = 0 → win0_0.index t (0 : Fin 2) = 32 * (t.val / 33) + (t.val % 33 - 1) ∧ win0_0.index t (1 : Fin 2) = 0 :=
  (by decide +kernel : ∀ t : Fin grid0.N, _)
theorem at1 : ∀ t : Fin cfg0.N, win0_1.index t (0 : Fin 2) = t.val / 33 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 3) = 0 ∧ win0_3.index t (1 : Fin 3) = 0 ∧ win0_3.index t (2 : Fin 3) = 0 :=
  (by decide +kernel : ∀ t : Fin grid0.N, _)
theorem at4 : ∀ t : Fin cfg0.N, win0_4.index t (0 : Fin 3) = 0 ∧ win0_4.index t (1 : Fin 3) = 0 ∧ win0_4.index t (2 : Fin 3) = 2 :=
  (by decide +kernel : ∀ t : Fin grid0.N, _)
theorem at7 : ∀ t : Fin cfg0.N, win0_7.index t (0 : Fin 3) = t.val / 33 ∧ win0_7.index t (1 : Fin 3) = t.val % 33 ∧ win0_7.index t (2 : Fin 3) = 0 :=
  (by decide +kernel : ∀ t : Fin grid0.N, _)
theorem at9 : ∀ t : Fin cfg0.N, win0_9.index t (0 : Fin 3) = t.val / 33 ∧ win0_9.index t (1 : Fin 3) = 0 ∧ win0_9.index t (2 : Fin 3) = t.val % 33 :=
  (by decide +kernel : ∀ t : Fin grid0.N, _)
theorem at11 : ∀ t : Fin cfg0.N, win0_11.index t (0 : Fin 2) = (if t.val % 33 = 0 then 64 + t.val / 33 else 32 * (t.val / 33) + (t.val % 33 - 1)) ∧
    win0_11.index t (1 : Fin 2) = 0 :=
  (by decide +kernel : ∀ t : Fin grid0.N, _)

theorem lt66 (t : Fin cfg0.N) : t.val < 66 := lt_of_lt_of_eq t.isLt (show cfg0.N = 66 from N_0)

/-- The row of the two streams a point's row is. -/
def rowPt (t : Fin cfg0.N) (a : Fin 512) : Fin 33792 :=
  ⟨(if t.val % 33 = 0 then 64 + t.val / 33 else 32 * (t.val / 33) + (t.val % 33 - 1)) * 512 + a.val, by
    have := lt66 t; have := a.isLt; split <;> omega⟩

variable (m : (ℓ : Loc nD τ sig) → Buf (Elt Ideal) ℓ) (c : Dev nD) (t : Fin cfg0.N)

/-- The block of rows a point reads. -/
def src : Vec Ideal S512x2048 .f32 := if t.val % 33 = 0 then iblk m c 1 t else iblk m c 0 t

theorem src_apply (a : Fin 512) (i : Fin 2048) : src m c t (ix2 a i) = rowOf (rowPt t a) (V m c main_arg0) (V m c main_arg1) i := by
  have ht := lt66 t
  have ha := a.isLt
  unfold src rowOf
  by_cases h0 : t.val % 33 = 0
  · obtain ⟨e0, e1⟩ := at1 t
    have hv : (rowPt t a).val = (64 + t.val / 33) * 512 + a.val := congrArg (· * 512 + a.val) (if_pos h0)
    rw [if_pos h0, dif_neg (by omega)]
    show V m c main_arg1 (((cfg0.win 1).blk t).view.emb (ix2 a i)) = _
    refine congrArg (V m c main_arg1) (funext fun x => Fin.ext ?_)
    match x with
    | ⟨0, _⟩ => show win0_1.index t (0 : Fin 2) * 512 + 1 * a.val = (rowPt t a).val - 32768; omega
    | ⟨1, _⟩ => show win0_1.index t (1 : Fin 2) * 2048 + 1 * i.val = i.val; omega
  · obtain ⟨e0, e1⟩ := at0 t h0
    have hv : (rowPt t a).val = (32 * (t.val / 33) + (t.val % 33 - 1)) * 512 + a.val := congrArg (· * 512 + a.val) (if_neg h0)
    rw [if_neg h0, dif_pos (by omega)]
    show V m c main_arg0 (((cfg0.win 0).blk t).view.emb (ix2 a i)) = _
    refine congrArg (V m c main_arg0) (funext fun x => Fin.ext ?_)
    match x with
    | ⟨0, _⟩ => show win0_0.index t (0 : Fin 2) * 512 + 1 * a.val = (rowPt t a).val; omega
    | ⟨1, _⟩ => show win0_0.index t (1 : Fin 2) * 2048 + 1 * i.val = i.val; omega

theorem gain_apply (i : Fin 2048) : iblk m c 2 t (ix2 0 i) = V m c main_arg2 (ix2 0 i) := by
  obtain ⟨e0, e1⟩ := at2 t
  show V m c main_arg2 (((cfg0.win 2).blk t).view.emb (ix2 0 i)) = _
  refine congrArg (V m c main_arg2) (funext fun x => Fin.ext ?_)
  match x with
  | ⟨0, _⟩ => show win0_2.index t (0 : Fin 2) * 1 + 1 * 0 = 0; omega
  | ⟨1, _⟩ => show win0_2.index t (1 : Fin 2) * 2048 + 1 * i.val = i.val; omega

theorem mq_apply (i : Fin 2048) (k : Fin 2048) : X0_3 m c t (ix3 0 i k) = V m c main_arg3 (ix3 0 i ⟨k.val, by have := k.isLt; omega⟩) := by
  obtain ⟨e0, e1, e2⟩ := at3 t
  unfold X0_3 Pipeline.Window.fill
  rw [dif_pos (moved0_3 t _)]
  refine congrArg (V m c main_arg3) (funext fun x => Fin.ext ?_)
  match x with
  | ⟨0, _⟩ => show win0_3.index t (0 : Fin 3) * 1 + 1 * 0 = 0; omega
  | ⟨1, _⟩ => show win0_3.index t (1 : Fin 3) * 2048 + 1 * i.val = i.val; omega
  | ⟨2, _⟩ => show win0_3.index t (2 : Fin 3) * 2048 + 1 * k.val = k.val; omega

theorem mv_apply (i : Fin 2048) (k : Fin 1024) : X0_4 m c t (ix3 0 i k) = V m c main_arg3 (ix3 0 i ⟨2048 + k.val, by have := k.isLt; omega⟩) := by
  obtain ⟨e0, e1, e2⟩ := at4 t
  unfold X0_4 Pipeline.Window.fill
  rw [dif_pos (moved0_4 t _)]
  refine congrArg (V m c main_arg3) (funext fun x => Fin.ext ?_)
  match x with
  | ⟨0, _⟩ => show win0_4.index t (0 : Fin 3) * 1 + 1 * 0 = 0; omega
  | ⟨1, _⟩ => show win0_4.index t (1 : Fin 3) * 2048 + 1 * i.val = i.val; omega
  | ⟨2, _⟩ => show win0_4.index t (2 : Fin 3) * 1024 + 1 * k.val = 2048 + k.val; omega

/-- A point's row over its root mean square, scaled. -/
theorem norm_apply (a : Fin 512) (i : Fin 2048) :
    k0_pay5 (src m c t) (iblk m c 2 t) (ix2 a i) = normRow (rowPt t a) (V m c main_arg0) (V m c main_arg1) (V m c main_arg2) i :=
  (k0_pay5_apply _ _ a i).trans (congrArg₂ (fun r g => Gated.nrm r g i) (funext fun j => src_apply m c t a j) (funext fun j => gain_apply m c t j))

/-! ## What a point writes back, of the blocks it reads -/

theorem flushed11_src : (dats m 0 c).flushed 11 t = (cfg0.win 11).cut (grid0.coords t) (k0_pay5 (src m c t) (iblk m c 2 t)) := by
  have ht := lt66 t
  unfold src
  by_cases h0 : t.val % 33 = 0
  · rw [if_pos h0]
    by_cases h2 : t.val % 66 = 0
    · exact (Value.flushed11_A m c t h0 (by omega) h2).trans (congrArg _ (outA_11 ..))
    · exact (Value.flushed11_C m c t h0 (by omega) h2).trans (congrArg _ (outC_11 ..))
  · rw [if_neg h0]
    exact (Value.flushed11_B m c t h0 (by omega) (by omega)).trans (congrArg _ (outB_11 ..))

theorem flushed7_src : (dats m 0 c).flushed 7 t = (cfg0.win 7).cut (grid0.coords t) (queries (k0_pay5 (src m c t) (iblk m c 2 t)) (X0_3 m c t)) := by
  have ht := lt66 t
  unfold src
  by_cases h0 : t.val % 33 = 0
  · rw [if_pos h0]
    by_cases h2 : t.val % 66 = 0
    · exact (Value.flushed7_A m c t h0 (by omega) h2).trans (congrArg _ (outA_7 ..))
    · exact (Value.flushed7_C m c t h0 (by omega) h2).trans (congrArg _ (outC_7 ..))
  · rw [if_neg h0]
    exact (Value.flushed7_B m c t h0 (by omega) (by omega)).trans (congrArg _ (outB_7 ..))

/-- The values' matrix as kept. -/
def kept : Vec Ideal S1040x2048 .bf16 :=
  valueRows (X0_4 m c ⟨0, pos_N⟩) (iblk m c 5 ⟨0, pos_N⟩)

theorem flushed9_src : (dats m 0 c).flushed 9 t = (cfg0.win 9).cut (grid0.coords t) (k0_pay10 (k0_pay5 (src m c t) (iblk m c 2 t)) (kept m c)) := by
  have ht := lt66 t
  unfold src kept
  by_cases h0 : t.val % 33 = 0
  · rw [if_pos h0]
    by_cases h2 : t.val % 66 = 0
    · obtain rfl : t = ⟨0, pos_N⟩ := Fin.ext (by show t.val = 0; omega)
      exact (Value.flushed9_A m c _ h0 (show ¬1 ≤ 0 % 33 by decide) h2).trans (congrArg _ ((outA_9 ..).trans (congrArg _ (funext fun y => soutA ..))))
    · exact (Value.flushed9_C m c t h0 (by omega) h2).trans (congrArg _ ((outC_9 ..).trans (congrArg _ (table m c _ _))))
  · rw [if_neg h0]
    exact (Value.flushed9_B m c t h0 (by omega) (by omega)).trans (congrArg _ ((outB_9 ..).trans (congrArg _ (table m c _ _))))

/-! ## The whole arrays -/

def wholeN : FVec Ideal S33792x2048 .bf16 := fun x => normRow (x 0) (V m c main_arg0) (V m c main_arg1) (V m c main_arg2) (x 1)

def wholeQ : FVec Ideal S2x16896x2048 .bf16 := fun x =>
  Gated.query (normRow (rowAt (x 0) (x 1)) (V m c main_arg0) (V m c main_arg1) (V m c main_arg2))
    (fun i k => V m c main_arg3 (ix3 0 i ⟨k.val, by have := k.isLt; omega⟩)) (x 2)

def wholeV : FVec Ideal S2x1024x16896 .bf16 := fun x =>
  Gated.proj (normRow (rowAt (x 0) (x 2)) (V m c main_arg0) (V m c main_arg1) (V m c main_arg2))
    (fun i k => V m c main_arg3 (ix3 0 i ⟨2048 + k.val, by have := k.isLt; omega⟩)) (x 1)

theorem rowAt_pt (b : Fin 2) (s : Fin 16896) (a : Fin 512) (hb : b.val = t.val / 33) (hs : s.val = t.val % 33 * 512 + a.val) : rowAt b s = rowPt t a := by
  have ht := lt66 t
  have ha := a.isLt
  apply Fin.ext
  unfold rowAt
  by_cases h0 : t.val % 33 = 0
  · have hv : (rowPt t a).val = (64 + t.val / 33) * 512 + a.val := congrArg (· * 512 + a.val) (if_pos h0)
    rw [dif_pos (by omega)]
    show 32768 + (512 * b.val + s.val) = _
    omega
  · have hv : (rowPt t a).val = (32 * (t.val / 33) + (t.val % 33 - 1)) * 512 + a.val := congrArg (· * 512 + a.val) (if_neg h0)
    rw [dif_neg (by omega)]
    show 16384 * b.val + (s.val - 512) = _
    omega

theorem flushed11_eq : (dats m 0 c).flushed 11 t = ((cfg0.win 11).blk t).view.read (Elt Ideal) (wholeN m c) := by
  refine (flushed11_src m c t).trans (funext fun (j : S512x2048.Idx) => ?_)
  obtain ⟨e0, e1⟩ := at11 t
  have h0 : ((cfg0.win 11).blk t).view.emb j 0 = rowPt t (j 0) := Fin.ext (by
    show win0_11.index t (0 : Fin 2) * 512 + 1 * (j 0).val = (rowPt t (j 0)).val
    rw [e0, Nat.one_mul]; rfl)
  have h1 : ((cfg0.win 11).blk t).view.emb j 1 = j 1 := Fin.ext (by
    show win0_11.index t (1 : Fin 2) * 2048 + 1 * (j 1).val = (j 1).val; omega)
  have ej : j = ix2 (j 0) (j 1) := by funext a; fin_cases a <;> rfl
  show k0_pay5 (src m c t) (iblk m c 2 t) j = wholeN m c (((cfg0.win 11).blk t).view.emb j)
  refine (congrArg (k0_pay5 (src m c t) (iblk m c 2 t)) ej).trans ((norm_apply m c t (j 0) (j 1)).trans ?_)
  exact congrArg₂ (fun q i => normRow q (V m c main_arg0) (V m c main_arg1) (V m c main_arg2) i) h0.symm h1.symm

theorem flushed7_eq : (dats m 0 c).flushed 7 t = ((cfg0.win 7).blk t).view.read (Elt Ideal) (wholeQ m c) := by
  refine (flushed7_src m c t).trans (funext fun (j : S1x512x2048.Idx) => ?_)
  obtain ⟨e0, e1, e2⟩ := at7 t
  have hj : (j 0).val < 1 := (j 0).isLt
  have h0 : (((cfg0.win 7).blk t).view.emb j 0).val = t.val / 33 := by
    show win0_7.index t (0 : Fin 3) * 1 + 1 * (j 0).val = _; omega
  have h1 : (((cfg0.win 7).blk t).view.emb j 1).val = t.val % 33 * 512 + (j 1).val := by
    show win0_7.index t (1 : Fin 3) * 512 + 1 * (j 1).val = _; omega
  have h2 : ((cfg0.win 7).blk t).view.emb j 2 = j 2 := Fin.ext (by
    show win0_7.index t (2 : Fin 3) * 2048 + 1 * (j 2).val = (j 2).val; omega)
  show queries (k0_pay5 (src m c t) (iblk m c 2 t)) (X0_3 m c t) j = wholeQ m c (((cfg0.win 7).blk t).view.emb j)
  refine Eq.trans (b := Gated.query (normRow (rowPt t (j 1)) (V m c main_arg0) (V m c main_arg1) (V m c main_arg2))
    (fun i k => V m c main_arg3 (ix3 0 i ⟨k.val, by have := k.isLt; omega⟩)) (j 2)) ?_ ?_
  · exact congrArg₂ (fun r W => Gated.query r W (j 2)) (funext fun i => norm_apply m c t (j 1) i) (funext fun i => funext fun k => mq_apply m c t i _)
  · exact congrArg₂ (fun q l => Gated.query (normRow q (V m c main_arg0) (V m c main_arg1) (V m c main_arg2))
      (fun i k => V m c main_arg3 (ix3 0 i ⟨k.val, by have := k.isLt; omega⟩)) l) (rowAt_pt t _ _ (j 1) h0 h1).symm h2.symm

theorem kept_apply (k : Fin 1024) (i : Fin 2048) :
    kept m c (ix2 ⟨k.val, by have := k.isLt; omega⟩ i) = V m c main_arg3 (ix3 0 i ⟨2048 + k.val, by have := k.isLt; omega⟩) :=
  (dif_pos (show k.val < 1024 from k.isLt)).trans (mv_apply m c _ i k)

theorem flushed9_eq : (dats m 0 c).flushed 9 t = ((cfg0.win 9).blk t).view.read (Elt Ideal) (wholeV m c) := by
  refine (flushed9_src m c t).trans (funext fun (j : S1x1024x512.Idx) => ?_)
  obtain ⟨e0, e1, e2⟩ := at9 t
  have hj : (j 0).val < 1 := (j 0).isLt
  have h0 : (((cfg0.win 9).blk t).view.emb j 0).val = t.val / 33 := by
    show win0_9.index t (0 : Fin 3) * 1 + 1 * (j 0).val = _; omega
  have h1 : ((cfg0.win 9).blk t).view.emb j 1 = j 1 := Fin.ext (by
    show win0_9.index t (1 : Fin 3) * 1024 + 1 * (j 1).val = (j 1).val; omega)
  have h2 : (((cfg0.win 9).blk t).view.emb j 2).val = t.val % 33 * 512 + (j 2).val := by
    show win0_9.index t (2 : Fin 3) * 512 + 1 * (j 2).val = _; omega
  have ej : j = ix3 (0 : Fin 1) (j 1) (j 2) := by
    funext a
    fin_cases a
    · exact Fin.ext (by show (j 0).val = 0; omega)
    · rfl
    · rfl
  show k0_pay10 (k0_pay5 (src m c t) (iblk m c 2 t)) (kept m c) j = wholeV m c (((cfg0.win 9).blk t).view.emb j)
  refine (congrArg (k0_pay10 (k0_pay5 (src m c t) (iblk m c 2 t)) (kept m c)) ej).trans ((k0_pay10_apply _ _ (j 1) (j 2)).trans ?_)
  refine Eq.trans (b := Gated.proj (normRow (rowPt t (j 2)) (V m c main_arg0) (V m c main_arg1) (V m c main_arg2))
    (fun i k => V m c main_arg3 (ix3 0 i ⟨2048 + k.val, by have := k.isLt; omega⟩)) (j 1)) ?_ ?_
  · exact Finset.sum_congr rfl fun i _ => (mul_comm _ _).trans (congrArg₂ (· * ·) (norm_apply m c t (j 2) i) (kept_apply m c (j 1) i))
  · exact congrArg₂ (fun q k => Gated.proj (normRow q (V m c main_arg0) (V m c main_arg1) (V m c main_arg2))
      (fun i k => V m c main_arg3 (ix3 0 i ⟨2048 + k.val, by have := k.isLt; omega⟩)) k) (rowAt_pt t _ _ (j 2) h0 h2).symm h1.symm

theorem result11 : (dats m 0 c).arrAt 11 cfg0.N = wholeN m c :=
  (dats m 0 c).arrAt_eq_of_cover 11 (wholeN m c) (fun t _ => flushed11_eq m c t)
    ((by decide +kernel : (cfg0.win 11).Covers).cover (cfg0.win 11) (Memref.isWhole_whole _))

theorem result7 : (dats m 0 c).arrAt 7 cfg0.N = wholeQ m c :=
  (dats m 0 c).arrAt_eq_of_cover 7 (wholeQ m c) (fun t _ => flushed7_eq m c t)
    ((by decide +kernel : (cfg0.win 7).Covers).cover (cfg0.win 7) (Memref.isWhole_whole _))

theorem result9 : (dats m 0 c).arrAt 9 cfg0.N = wholeV m c :=
  (dats m 0 c).arrAt_eq_of_cover 9 (wholeV m c) (fun t _ => flushed9_eq m c t)
    ((by decide +kernel : (cfg0.win 9).Covers).cover (cfg0.win 9) (Memref.isWhole_whole _))

end Cert.Kernel4Ideal
-- ==== Proof.ProjRefQ.lean ====
/- The fourth reference's queries at an index: each head's projection and the ones after it. -/
module

public import proofs.«01_k».proof.Proof.ProjRefAt

@[expose] public section

set_option synthInstance.maxSize 4096
set_option maxRecDepth 100000

noncomputable section

namespace Cert.Reference4Ideal

open Cert.Reference4Ideal.Gen Idealize.ShloMosaic Idealize.ShloMosaic.TcCoe

variable (q : Fin 33792) (j : Fin 2048) (b : Fin 2) (s : Fin 16896) (k : Fin 1024)

/-- The two halves of each head's lanes, one after the other. -/
theorem wide_at (X Y : FVec Ideal S2x16896x8x128 .f32) (Z : FVec Ideal S2x16896x8x256 .f32)
    (hZ : ∀ (h : Fin 8) (l : Fin 256), Z (ix4 b s h l) = if h' : l.val < 128 then X (ix4 b s h ⟨l.val, h'⟩) else Y (ix4 b s h ⟨l.val - 128, by have := l.isLt; omega⟩))
    (Q : EReal) (hX : ∀ (h : Fin 8) (l : Fin 128), 128 * h.val + l.val = (Gated.lane j).val → X (ix4 b s h l) = Q)
    (hY : ∀ (h : Fin 8) (l : Fin 128), Y (ix4 b s h l) = if l.val < 3 then (1 : EReal) else 0) :
    Z (ix4 b s ⟨j.val / 256, by have := j.isLt; omega⟩ ⟨j.val % 256, by omega⟩) =
      if j.val % 256 < 128 then Q else if j.val % 256 < 131 then (1 : EReal) else 0 := by
  rw [hZ]
  by_cases h : j.val % 256 < 128
  · rw [dif_pos h, if_pos h]
    refine hX _ _ ?_
    show 128 * (j.val / 256) + j.val % 256 = 128 * (j.val / 256) + j.val % 128
    omega
  · rw [dif_neg h, if_neg h, hY]
    by_cases h3 : j.val % 256 < 131
    · rw [if_pos h3, if_pos (show j.val % 256 - 128 < 3 by omega)]
    · rw [if_neg h3, if_neg (show ¬j.val % 256 - 128 < 3 by omega)]

theorem wideQ_apply (Q : FVec Ideal S2x16896x1024 .f32) : wideQ Q (ix3 b s j) =
    if j.val % 256 < 128 then Q (ix3 b s (Gated.lane j)) else if j.val % 256 < 131 then (1 : EReal) else 0 :=
  (trunc_apply _ _).trans ((merge_apply j b s _).trans (wide_at j b s _ _ _ (fun h l => cat_apply b s _ _ h l) _
    (fun h l e => (split_apply b s Q h l).trans (congrArg (fun a => Q (ix3 b s a)) (Fin.ext ((congrArg (· + l.val) (Nat.mul_comm _ _)).trans e))))
    (fun h l => marks_apply b s h l)))

variable (A0 : FVec Ideal S32768x2048 .f32) (A1 : FVec Ideal S1024x2048 .f32) (A2 : FVec Ideal S1x2048 .f32) (A3 : FVec Ideal S2x2048x6152 .bf16)

theorem qOf_apply : qOf A0 A1 A2 A3 (ix3 b s j) =
    Gated.query (normRow (rowAt b s) A0 A1 A2) (fun i k => A3 (ix3 0 i ⟨k.val, by have := k.isLt; omega⟩)) j := by
  refine (wideQ_apply j b s _).trans ?_
  unfold Gated.query Gated.proj
  refine congrArg (fun z => if j.val % 256 < 128 then z else if j.val % 256 < 131 then (1 : EReal) else 0) ?_
  refine (scaled_apply b s _ _ _).trans (congrArg (· * Ideal.ofBits .f32 0x3E0293EE#32) (Finset.sum_congr rfl fun i _ => ?_))
  exact congrArg₂ (· * ·) ((inOrder_apply i b s _).trans (normed_both _ i A0 A1 A2)) (mat_apply A3 i _)

end Cert.Reference4Ideal
-- ==== Proof.ProjEnd.lean ====
/- The fourth call's claims: its runs end with its arguments kept, and its projections are the reference's. -/
module

public import proofs.«01_k».proof.Defs
public import proofs.«01_k».proof.Proof.ProjWhole
public import proofs.«01_k».proof.Proof.ProjRefQ
public import proofs.«01_k».proof.Proof.Gen.Kernel4
public import proofs.«01_k».proof.Proof.Gen.Kernel4.Frame
public import proofs.«01_k».proof.Proof.Gen.Kernel4Ideal
public import proofs.«01_k».proof.Proof.Gen.Reference4Ideal

@[expose] public section

set_option maxRecDepth 100000

noncomputable section

namespace Cert.Proof

open Idealize.ShloMosaic Idealize.ShloMosaic.TcCoe Idealize.SL.Sem

theorem quiescent_Kernel4 : Cert.quiescent_Kernel4 := fun m ρ _ => Cert.Kernel4.Gen.frame m ρ

theorem quiescent_Kernel4Ideal : Cert.quiescent_Kernel4Ideal := fun m ρ _ => Cert.Kernel4Ideal.Gen.frame m ρ

theorem quiescent_Reference4Ideal : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem preserves4 : Cert.preserves_Kernel4_Kernel4Ideal := trivial

section
variable {m : (ℓ : Loc Cert.Kernel4Ideal.nD Cert.Kernel4Ideal.τ Cert.Kernel4Ideal.sig) → Buf (Elt Ideal) ℓ} (c : Dev Cert.Kernel4Ideal.nD)
  {A0 : FVec Ideal Cert.Reference4Ideal.S32768x2048 .f32} {A1 : FVec Ideal Cert.Reference4Ideal.S1024x2048 .f32}
  {A2 : FVec Ideal Cert.Reference4Ideal.S1x2048 .f32} {A3 : FVec Ideal Cert.Reference4Ideal.S2x2048x6152 .bf16}
  (h0 : A0 = m ((c.tc : Thread Cert.Kernel4Ideal.nD Cert.Kernel4Ideal.τ).loc Cert.Kernel4Ideal.main_arg0))
  (h1 : A1 = m ((c.tc : Thread Cert.Kernel4Ideal.nD Cert.Kernel4Ideal.τ).loc Cert.Kernel4Ideal.main_arg1))
  (h2 : A2 = m ((c.tc : Thread Cert.Kernel4Ideal.nD Cert.Kernel4Ideal.τ).loc Cert.Kernel4Ideal.main_arg2))
  (h3 : A3 = m ((c.tc : Thread Cert.Kernel4Ideal.nD Cert.Kernel4Ideal.τ).loc Cert.Kernel4Ideal.main_arg3))

include h0 h1 h2 in
/-- From equal arguments, the reference's normed rows are the call's. -/
theorem n_eq_whole : (Cert.Reference4Ideal.nOf A0 A1 A2 : FVec Ideal Cert.Kernel4Ideal.S33792x2048 .bf16) = Cert.Kernel4Ideal.wholeN m c := by
  subst h0 h1 h2
  funext x
  have e : x = ix2 (x 0) (x 1) := by
    funext a
    fin_cases a <;> rfl
  exact (congrArg (Cert.Reference4Ideal.nOf _ _ _) e).trans (Cert.Reference4Ideal.nOf_apply (x 0) (x 1) _ _ _)

include h0 h1 h2 h3 in
/-- From equal arguments, the reference's queries are the call's. -/
theorem q_eq_whole : (Cert.Reference4Ideal.qOf A0 A1 A2 A3 : FVec Ideal Cert.Kernel4Ideal.S2x16896x2048 .bf16) = Cert.Kernel4Ideal.wholeQ m c := by
  subst h0 h1 h2 h3
  funext x
  have e : x = ix3 (x 0) (x 1) (x 2) := by
    funext a
    fin_cases a <;> rfl
  exact (congrArg (Cert.Reference4Ideal.qOf _ _ _ _) e).trans (Cert.Reference4Ideal.qOf_apply (x 2) (x 0) (x 1) _ _ _ _)

include h0 h1 h2 h3 in
/-- From equal arguments, the reference's values are the call's. -/
theorem v_eq_whole : (Cert.Reference4Ideal.vOf A0 A1 A2 A3 : FVec Ideal Cert.Kernel4Ideal.S2x1024x16896 .bf16) = Cert.Kernel4Ideal.wholeV m c := by
  subst h0 h1 h2 h3
  funext x
  have e : x = ix3 (x 0) (x 1) (x 2) := by
    funext a
    fin_cases a <;> rfl
  exact (congrArg (Cert.Reference4Ideal.vOf _ _ _ _) e).trans (Cert.Reference4Ideal.vOf_apply (x 0) (x 2) (x 1) _ _ _ _)

end

set_option maxHeartbeats 4000000 in
theorem algebraic4 : Cert.algebraic_Kernel4Ideal_Reference4Ideal := fun m g m' g' _ hargs =>
  ⟨fun c => Cert.Kernel4Ideal.wholeQ m c, fun c => Cert.Kernel4Ideal.wholeV m c, fun c => Cert.Kernel4Ideal.wholeN m c,
    (θ_run Cert.Kernel4Ideal.defs _ _).mono
      (fun _ h c => ⟨(h c).1.trans (Cert.Kernel4Ideal.result7 m c), (h c).2.2.1.trans (Cert.Kernel4Ideal.result9 m c),
        (h c).2.2.2.2.1.trans (Cert.Kernel4Ideal.result11 m c), (h c).2.2.2.2.2⟩)
      (Cert.Kernel4Ideal.Value.run_blocks m g),
    (θ_run Cert.Reference4Ideal.defs _ _).mono
      (fun _ h c => ⟨(h c).1.trans (q_eq_whole c (hargs c).1 (hargs c).2.1 (hargs c).2.2.1 (hargs c).2.2.2.1),
        (h c).2.1.trans (v_eq_whole c (hargs c).1 (hargs c).2.1 (hargs c).2.2.1 (hargs c).2.2.2.1),
        (h c).2.2.1.trans (n_eq_whole c (hargs c).1 (hargs c).2.1 (hargs c).2.2.1), (h c).2.2.2⟩)
      (Cert.Reference4Ideal.Value.run (F := Ideal) m' g')⟩

end Cert.Proof

end
-- ==== Proof.lean ====
/- The claims, assembled from Proof/Quiet.lean and Proof/Value.lean for the attention, and Proof/FfnQuiet.lean,
   Proof/FfnRefAt.lean, Proof/BaseQuiet.lean and Proof/BaseRefAt.lean for the feed-forwards, and Proof/ProjEnd.lean for the projections, behind the side conditions' witnesses. -/
module

public import proofs.«01_k».proof.Defs
public import proofs.«01_k».proof.Proof.Quiet
public import proofs.«01_k».proof.Proof.Value
public import proofs.«01_k».proof.Proof.FfnQuiet
public import proofs.«01_k».proof.Proof.FfnRefAt
public import proofs.«01_k».proof.Proof.BaseQuiet
public import proofs.«01_k».proof.Proof.BaseRefAt
public import proofs.«01_k».proof.Proof.ProjEnd
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Kernel4Ideal.Launch
public import proofs.«01_k».proof.Proof.Gen.Kernel4Ideal.Points

@[expose] public section

noncomputable section

namespace Cert.Proof

theorem claim : Cert.Claim :=
  letI := Cert.Pre_tiles_in_range.witness
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_tiles_in_range.witness,
    quiescent_Kernel, quiescent_KernelIdeal, quiescent_ReferenceIdeal,
    quiescent_Kernel2, quiescent_Kernel2Ideal, quiescent_Reference2Ideal,
    quiescent_Kernel3, quiescent_Kernel3Ideal, quiescent_Reference3Ideal,
    quiescent_Kernel4, quiescent_Kernel4Ideal, quiescent_Reference4Ideal,
    preserves, algebraic, preserves2, algebraic2, preserves3, algebraic3, preserves4, algebraic4⟩

end Cert.Proof

end
